-- ==== Defs.lean ====
def Pre_CumBwd (m : (ℓ : Loc Cert.CumBwd.nD Cert.CumBwd.τ Cert.CumBwd.sig) → Buf (Elt Bits) ℓ) : Prop :=
  True

def Pre_CumBwdIdeal (m : (ℓ : Loc Cert.CumBwdIdeal.nD Cert.CumBwdIdeal.τ Cert.CumBwdIdeal.sig) → Buf (Elt Ideal) ℓ) : Prop :=
  True

def Pre_CumBwdRefIdeal (m : (ℓ : Loc Cert.CumBwdRefIdeal.nD Cert.CumBwdRefIdeal.τ Cert.CumBwdRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_fox [hPre_finite_fox : Cert.Pre_finite_fox.Facts] (m : (ℓ : Loc Cert.FoxIdeal.nD Cert.FoxIdeal.τ Cert.FoxIdeal.sig) → Buf (Elt Ideal) ℓ) : Prop :=
  ∀ c : Dev Cert.FoxIdeal.nD,
    (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).1 = (fun _ => 1#1)
    ∧ (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.1 = (fun _ => 1#1)
    ∧ (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.1 = (fun _ => 1#1)
    ∧ (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2.1 = (fun _ => 1#1)
    ∧ (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_fox [hPre_finite_fox : Cert.Pre_finite_fox.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).1 = (fun _ => 1#1)
    ∧ (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.1 = (fun _ => 1#1)
    ∧ (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.1 = (fun _ => 1#1)
    ∧ (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2.1 = (fun _ => 1#1)
    ∧ (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2.2 = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).2.1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).2.2.1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).2.2.2.1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).2.2.2.2.1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))).2.2.2.2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.2.1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.2.2.1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.2.2.2.1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))).2.2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6))).1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6))).2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6))).2.2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6))).2.2.2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6))).2.2.2.2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6))).2.2.2.2.2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6))).2.2.2.2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6))).1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6))).2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6))).2.2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6))).2.2.2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6))).2.2.2.2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6))).2.2.2.2.2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5)) (m ((c.tc : Thread Cert.GateRefIdeal.nD Cert.GateRefIdeal.τ).loc Cert.GateRefIdeal.main_arg6))).2.2.2.2.2.2 = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_finite_in [hPre_finite_in : Cert.Pre_finite_in.Facts] (m : (ℓ : Loc Cert.InIdeal.nD Cert.InIdeal.τ Cert.InIdeal.sig) → Buf (Elt Ideal) ℓ) : Prop :=
  ∀ c : Dev Cert.InIdeal.nD,
    (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).2.1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).2.2.1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).2.2.2.1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).2.2.2.2.1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).2.2.2.2.2 = (fun _ => 1#1)

def Pre_InRefIdeal (m : (ℓ : Loc Cert.InRefIdeal.nD Cert.InRefIdeal.τ Cert.InRefIdeal.sig) → Buf (Elt Ideal) ℓ) : Prop :=
  True

def Pre_InRefIdeal_finite_in [hPre_finite_in : Cert.Pre_finite_in.Facts] (m : (ℓ : Loc Cert.InRefIdeal.nD Cert.InRefIdeal.τ Cert.InRefIdeal.sig) → Buf (Elt Ideal) ℓ) : Prop :=
  ∀ c : Dev Cert.InRefIdeal.nD,
    (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.2.1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.2.2.1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.2.2.2.1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.2.2.2.2 = (fun _ => 1#1)

def quiescent_CumBwd [hCumBwd : Cert.CumBwd.Facts] : Prop :=
  ∀ (m : (ℓ : Loc Cert.CumBwd.nD Cert.CumBwd.τ Cert.CumBwd.sig) → Buf (Elt Bits) ℓ) (g : Dev Cert.CumBwd.nD → PrngReg), Pre_CumBwd m →
    θ_run (Cert.CumBwd.defs (F := Bits)) (onTc (τ := Cert.CumBwd.τ) (Cert.CumBwd.main (F := Bits))) ⟨m, fun _ => 0, g⟩ (fun r => (∀ c : Dev Cert.CumBwd.nD,
      r.2.mem ((c.tc : Thread Cert.CumBwd.nD Cert.CumBwd.τ).loc Cert.CumBwd.main_arg0) = m ((c.tc : Thread Cert.CumBwd.nD Cert.CumBwd.τ).loc Cert.CumBwd.main_arg0)
      ∧ r.2.mem ((c.tc : Thread Cert.CumBwd.nD Cert.CumBwd.τ).loc Cert.CumBwd.main_arg1) = m ((c.tc : Thread Cert.CumBwd.nD Cert.CumBwd.τ).loc Cert.CumBwd.main_arg1)
      ∧ r.2.mem ((c.tc : Thread Cert.CumBwd.nD Cert.CumBwd.τ).loc Cert.CumBwd.main_arg2) = m ((c.tc : Thread Cert.CumBwd.nD Cert.CumBwd.τ).loc Cert.CumBwd.main_arg2))
      ∧ r.2.sem = fun _ => 0)

def quiescent_CumBwdIdeal [hCumBwdIdeal : Cert.CumBwdIdeal.Facts] : Prop :=
  ∀ (m : (ℓ : Loc Cert.CumBwdIdeal.nD Cert.CumBwdIdeal.τ Cert.CumBwdIdeal.sig) → Buf (Elt Ideal) ℓ) (g : Dev Cert.CumBwdIdeal.nD → PrngReg), Pre_CumBwdIdeal m →
    θ_run (Cert.CumBwdIdeal.defs (F := Ideal)) (onTc (τ := Cert.CumBwdIdeal.τ) (Cert.CumBwdIdeal.main (F := Ideal))) ⟨m, fun _ => 0, g⟩ (fun r => (∀ c : Dev Cert.CumBwdIdeal.nD,
      r.2.mem ((c.tc : Thread Cert.CumBwdIdeal.nD Cert.CumBwdIdeal.τ).loc Cert.CumBwdIdeal.main_arg0) = m ((c.tc : Thread Cert.CumBwdIdeal.nD Cert.CumBwdIdeal.τ).loc Cert.CumBwdIdeal.main_arg0)
      ∧ r.2.mem ((c.tc : Thread Cert.CumBwdIdeal.nD Cert.CumBwdIdeal.τ).loc Cert.CumBwdIdeal.main_arg1) = m ((c.tc : Thread Cert.CumBwdIdeal.nD Cert.CumBwdIdeal.τ).loc Cert.CumBwdIdeal.main_arg1)
      ∧ r.2.mem ((c.tc : Thread Cert.CumBwdIdeal.nD Cert.CumBwdIdeal.τ).loc Cert.CumBwdIdeal.main_arg2) = m ((c.tc : Thread Cert.CumBwdIdeal.nD Cert.CumBwdIdeal.τ).loc Cert.CumBwdIdeal.main_arg2))
      ∧ r.2.sem = fun _ => 0)

def quiescent_CumBwdRefIdeal [hCumBwdRefIdeal : Cert.CumBwdRefIdeal.Facts] : Prop :=
  ∀ (m : (ℓ : Loc Cert.CumBwdRefIdeal.nD Cert.CumBwdRefIdeal.τ Cert.CumBwdRefIdeal.sig) → Buf (Elt Ideal) ℓ) (g : Dev Cert.CumBwdRefIdeal.nD → PrngReg), Pre_CumBwdRefIdeal m →
    θ_run (Cert.CumBwdRefIdeal.defs (F := Ideal)) (onTc (τ := Cert.CumBwdRefIdeal.τ) (Cert.CumBwdRefIdeal.main (F := Ideal))) ⟨m, fun _ => 0, g⟩ (fun r => (∀ c : Dev Cert.CumBwdRefIdeal.nD,
      r.2.mem ((c.tc : Thread Cert.CumBwdRefIdeal.nD Cert.CumBwdRefIdeal.τ).loc Cert.CumBwdRefIdeal.main_arg0) = m ((c.tc : Thread Cert.CumBwdRefIdeal.nD Cert.CumBwdRefIdeal.τ).loc Cert.CumBwdRefIdeal.main_arg0)
      ∧ r.2.mem ((c.tc : Thread Cert.CumBwdRefIdeal.nD Cert.CumBwdRefIdeal.τ).loc Cert.CumBwdRefIdeal.main_arg1) = m ((c.tc : Thread Cert.CumBwdRefIdeal.nD Cert.CumBwdRefIdeal.τ).loc Cert.CumBwdRefIdeal.main_arg1)
      ∧ r.2.mem ((c.tc : Thread Cert.CumBwdRefIdeal.nD Cert.CumBwdRefIdeal.τ).loc Cert.CumBwdRefIdeal.main_arg2) = m ((c.tc : Thread Cert.CumBwdRefIdeal.nD Cert.CumBwdRefIdeal.τ).loc Cert.CumBwdRefIdeal.main_arg2))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_finite_fox [hFoxIdeal : Cert.FoxIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_fox m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_finite_fox [hFoxRefIdeal : Cert.FoxRefIdeal.Facts] [hPre_finite_fox : Cert.Pre_finite_fox.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_fox m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InIdeal_pre_finite_in [hInIdeal : Cert.InIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg), Pre_InIdeal_finite_in m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_InRefIdeal_pre_finite_in [hInRefIdeal : Cert.InRefIdeal.Facts] [hPre_finite_in : Cert.Pre_finite_in.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_finite_in m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def preserves_CumBwd_CumBwdIdeal : Prop :=
  True

def algebraic_CumBwdIdeal_CumBwdRefIdeal [hCumBwdIdeal : Cert.CumBwdIdeal.Facts] [hCumBwdRefIdeal : Cert.CumBwdRefIdeal.Facts] : Prop :=
  ∀ (m : (ℓ : Loc Cert.CumBwdIdeal.nD Cert.CumBwdIdeal.τ Cert.CumBwdIdeal.sig) → Buf (Elt Ideal) ℓ) (g : Dev Cert.CumBwdIdeal.nD → PrngReg)
    (m' : (ℓ : Loc Cert.CumBwdRefIdeal.nD Cert.CumBwdRefIdeal.τ Cert.CumBwdRefIdeal.sig) → Buf (Elt Ideal) ℓ) (g' : Dev Cert.CumBwdRefIdeal.nD → PrngReg), Pre_CumBwdIdeal m →
    (∀ c : Dev Cert.CumBwdIdeal.nD,
      m' ((c.tc : Thread Cert.CumBwdRefIdeal.nD Cert.CumBwdRefIdeal.τ).loc Cert.CumBwdRefIdeal.main_arg0) = m ((c.tc : Thread Cert.CumBwdIdeal.nD Cert.CumBwdIdeal.τ).loc Cert.CumBwdIdeal.main_arg0)
      ∧ m' ((c.tc : Thread Cert.CumBwdRefIdeal.nD Cert.CumBwdRefIdeal.τ).loc Cert.CumBwdRefIdeal.main_arg1) = m ((c.tc : Thread Cert.CumBwdIdeal.nD Cert.CumBwdIdeal.τ).loc Cert.CumBwdIdeal.main_arg1)
      ∧ m' ((c.tc : Thread Cert.CumBwdRefIdeal.nD Cert.CumBwdRefIdeal.τ).loc Cert.CumBwdRefIdeal.main_arg2) = m ((c.tc : Thread Cert.CumBwdIdeal.nD Cert.CumBwdIdeal.τ).loc Cert.CumBwdIdeal.main_arg2)) →
    ∃ (v0 : (c : Dev Cert.CumBwdIdeal.nD) → Buf (Elt Ideal) ((c.tc : Thread Cert.CumBwdIdeal.nD Cert.CumBwdIdeal.τ).loc Cert.CumBwdIdeal.main_v9)) (v1 : (c : Dev Cert.CumBwdIdeal.nD) → Buf (Elt Ideal) ((c.tc : Thread Cert.CumBwdIdeal.nD Cert.CumBwdIdeal.τ).loc Cert.CumBwdIdeal.main_v13)),
      θ_run (Cert.CumBwdIdeal.defs (F := Ideal)) (onTc (τ := Cert.CumBwdIdeal.τ) (Cert.CumBwdIdeal.main (F := Ideal))) ⟨m, fun _ => 0, g⟩ (fun r => ∀ c : Dev Cert.CumBwdIdeal.nD,
          r.2.mem ((c.tc : Thread Cert.CumBwdIdeal.nD Cert.CumBwdIdeal.τ).loc Cert.CumBwdIdeal.main_v9) = v0 c
          ∧ r.2.mem ((c.tc : Thread Cert.CumBwdIdeal.nD Cert.CumBwdIdeal.τ).loc Cert.CumBwdIdeal.main_v13) = v1 c
          ∧ r.2.mem ((c.tc : Thread Cert.CumBwdIdeal.nD Cert.CumBwdIdeal.τ).loc Cert.CumBwdIdeal.main_arg0) = m ((c.tc : Thread Cert.CumBwdIdeal.nD Cert.CumBwdIdeal.τ).loc Cert.CumBwdIdeal.main_arg0)
          ∧ r.2.mem ((c.tc : Thread Cert.CumBwdIdeal.nD Cert.CumBwdIdeal.τ).loc Cert.CumBwdIdeal.main_arg1) = m ((c.tc : Thread Cert.CumBwdIdeal.nD Cert.CumBwdIdeal.τ).loc Cert.CumBwdIdeal.main_arg1)
          ∧ r.2.mem ((c.tc : Thread Cert.CumBwdIdeal.nD Cert.CumBwdIdeal.τ).loc Cert.CumBwdIdeal.main_arg2) = m ((c.tc : Thread Cert.CumBwdIdeal.nD Cert.CumBwdIdeal.τ).loc Cert.CumBwdIdeal.main_arg2))
      ∧ θ_run (Cert.CumBwdRefIdeal.defs (F := Ideal)) (onTc (τ := Cert.CumBwdRefIdeal.τ) (Cert.CumBwdRefIdeal.main (F := Ideal))) ⟨m', fun _ => 0, g'⟩ (fun r => ∀ c : Dev Cert.CumBwdRefIdeal.nD,
          r.2.mem ((c.tc : Thread Cert.CumBwdRefIdeal.nD Cert.CumBwdRefIdeal.τ).loc Cert.CumBwdRefIdeal.main_v6) = v0 c
          ∧ r.2.mem ((c.tc : Thread Cert.CumBwdRefIdeal.nD Cert.CumBwdRefIdeal.τ).loc Cert.CumBwdRefIdeal.main_v9) = v1 c
          ∧ r.2.mem ((c.tc : Thread Cert.CumBwdRefIdeal.nD Cert.CumBwdRefIdeal.τ).loc Cert.CumBwdRefIdeal.main_arg0) = m' ((c.tc : Thread Cert.CumBwdRefIdeal.nD Cert.CumBwdRefIdeal.τ).loc Cert.CumBwdRefIdeal.main_arg0)
          ∧ r.2.mem ((c.tc : Thread Cert.CumBwdRefIdeal.nD Cert.CumBwdRefIdeal.τ).loc Cert.CumBwdRefIdeal.main_arg1) = m' ((c.tc : Thread Cert.CumBwdRefIdeal.nD Cert.CumBwdRefIdeal.τ).loc Cert.CumBwdRefIdeal.main_arg1)
          ∧ r.2.mem ((c.tc : Thread Cert.CumBwdRefIdeal.nD Cert.CumBwdRefIdeal.τ).loc Cert.CumBwdRefIdeal.main_arg2) = m' ((c.tc : Thread Cert.CumBwdRefIdeal.nD Cert.CumBwdRefIdeal.τ).loc Cert.CumBwdRefIdeal.main_arg2))

def preserves_Fox_FoxIdeal : Prop :=
  IdealRules.named_const.Statement Cert.FoxIdeal.κ "ln2" .f32 0x3F317218#32 ((Real.log 2 : ℝ) : EReal)

def algebraic_FoxIdeal_FoxRefIdeal_pre_finite_fox [hFoxIdeal : Cert.FoxIdeal.Facts] [hFoxRefIdeal : Cert.FoxRefIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_fox m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v59)) (v1 : (c : Dev Cert.FoxIdeal.nD) → Buf (Elt Ideal) ((c.tc : Thread Cert.FoxIdeal.nD Cert.FoxIdeal.τ).loc Cert.FoxIdeal.main_v60)) (v2 : (c : Dev Cert.FoxIdeal.nD) → Buf (Elt Ideal) ((c.tc : Thread Cert.FoxIdeal.nD Cert.FoxIdeal.τ).loc Cert.FoxIdeal.main_v61)) (v3 : (c : Dev Cert.FoxIdeal.nD) → Buf (Elt Ideal) ((c.tc : Thread Cert.FoxIdeal.nD Cert.FoxIdeal.τ).loc Cert.FoxIdeal.main_v62)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v59) = v0 c
          ∧ r.2.mem ((c.tc : Thread Cert.FoxIdeal.nD Cert.FoxIdeal.τ).loc Cert.FoxIdeal.main_v60) = v1 c
          ∧ r.2.mem ((c.tc : Thread Cert.FoxIdeal.nD Cert.FoxIdeal.τ).loc Cert.FoxIdeal.main_v61) = v2 c
          ∧ r.2.mem ((c.tc : Thread Cert.FoxIdeal.nD Cert.FoxIdeal.τ).loc Cert.FoxIdeal.main_v62) = v3 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v88) = v0 c
          ∧ r.2.mem ((c.tc : Thread Cert.FoxRefIdeal.nD Cert.FoxRefIdeal.τ).loc Cert.FoxRefIdeal.main_v87) = v1 c
          ∧ r.2.mem ((c.tc : Thread Cert.FoxRefIdeal.nD Cert.FoxRefIdeal.τ).loc Cert.FoxRefIdeal.main_v86) = v2 c
          ∧ r.2.mem ((c.tc : Thread Cert.FoxRefIdeal.nD Cert.FoxRefIdeal.τ).loc Cert.FoxRefIdeal.main_v79) = v3 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_Mla_MlaIdeal : Prop :=
  IdealRules.named_const.Statement Cert.MlaIdeal.κ "ln2" .f32 0x3F317218#32 ((Real.log 2 : ℝ) : EReal)

def algebraic_MlaIdeal_MlaRefIdeal_pre_finite_mla [hMlaIdeal : Cert.MlaIdeal.Facts] [hMlaRefIdeal : Cert.MlaRefIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)) →
    ∃ (v0 : (c : Dev Cert.MlaIdeal.nD) → Buf (Elt Ideal) ((c.tc : Thread Cert.MlaIdeal.nD Cert.MlaIdeal.τ).loc Cert.MlaIdeal.main_v103)) (v1 : (c : Dev Cert.MlaIdeal.nD) → Buf (Elt Ideal) ((c.tc : Thread Cert.MlaIdeal.nD Cert.MlaIdeal.τ).loc Cert.MlaIdeal.main_v104)) (v2 : (c : Dev Cert.MlaIdeal.nD) → Buf (Elt Ideal) ((c.tc : Thread Cert.MlaIdeal.nD Cert.MlaIdeal.τ).loc Cert.MlaIdeal.main_v106)) (v3 : (c : Dev Cert.MlaIdeal.nD) → Buf (Elt Ideal) ((c.tc : Thread Cert.MlaIdeal.nD Cert.MlaIdeal.τ).loc Cert.MlaIdeal.main_v107)) (v4 : (c : Dev Cert.MlaIdeal.nD) → Buf (Elt Ideal) ((c.tc : Thread Cert.MlaIdeal.nD Cert.MlaIdeal.τ).loc Cert.MlaIdeal.main_v109)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v103) = v0 c
          ∧ r.2.mem ((c.tc : Thread Cert.MlaIdeal.nD Cert.MlaIdeal.τ).loc Cert.MlaIdeal.main_v104) = v1 c
          ∧ r.2.mem ((c.tc : Thread Cert.MlaIdeal.nD Cert.MlaIdeal.τ).loc Cert.MlaIdeal.main_v106) = v2 c
          ∧ r.2.mem ((c.tc : Thread Cert.MlaIdeal.nD Cert.MlaIdeal.τ).loc Cert.MlaIdeal.main_v107) = v3 c
          ∧ r.2.mem ((c.tc : Thread Cert.MlaIdeal.nD Cert.MlaIdeal.τ).loc Cert.MlaIdeal.main_v109) = v4 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v69) = v0 c
          ∧ r.2.mem ((c.tc : Thread Cert.MlaRefIdeal.nD Cert.MlaRefIdeal.τ).loc Cert.MlaRefIdeal.main_v64) = v1 c
          ∧ r.2.mem ((c.tc : Thread Cert.MlaRefIdeal.nD Cert.MlaRefIdeal.τ).loc Cert.MlaRefIdeal.main_v67) = v2 c
          ∧ r.2.mem ((c.tc : Thread Cert.MlaRefIdeal.nD Cert.MlaRefIdeal.τ).loc Cert.MlaRefIdeal.main_v65) = v3 c
          ∧ r.2.mem ((c.tc : Thread Cert.MlaRefIdeal.nD Cert.MlaRefIdeal.τ).loc Cert.MlaRefIdeal.main_v47) = v4 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v4) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v22) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v36) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)) →
    ∃ (v0 : (c : Dev Cert.GateIdeal.nD) → Buf (Elt Ideal) ((c.tc : Thread Cert.GateIdeal.nD Cert.GateIdeal.τ).loc Cert.GateIdeal.main_v12)) (v1 : (c : Dev Cert.GateIdeal.nD) → Buf (Elt Ideal) ((c.tc : Thread Cert.GateIdeal.nD Cert.GateIdeal.τ).loc Cert.GateIdeal.main_v13)) (v2 : (c : Dev Cert.GateIdeal.nD) → Buf (Elt Ideal) ((c.tc : Thread Cert.GateIdeal.nD Cert.GateIdeal.τ).loc Cert.GateIdeal.main_v14)) (v3 : (c : Dev Cert.GateIdeal.nD) → Buf (Elt Ideal) ((c.tc : Thread Cert.GateIdeal.nD Cert.GateIdeal.τ).loc Cert.GateIdeal.main_v15)) (v4 : (c : Dev Cert.GateIdeal.nD) → Buf (Elt Ideal) ((c.tc : Thread Cert.GateIdeal.nD Cert.GateIdeal.τ).loc Cert.GateIdeal.main_v16)) (v5 : (c : Dev Cert.GateIdeal.nD) → Buf (Elt Ideal) ((c.tc : Thread Cert.GateIdeal.nD Cert.GateIdeal.τ).loc Cert.GateIdeal.main_v11_7)) (v6 : (c : Dev Cert.GateIdeal.nD) → Buf (Elt Ideal) ((c.tc : Thread Cert.GateIdeal.nD Cert.GateIdeal.τ).loc Cert.GateIdeal.main_v17)) (v7 : (c : Dev Cert.GateIdeal.nD) → Buf (Elt Ideal) ((c.tc : Thread Cert.GateIdeal.nD Cert.GateIdeal.τ).loc Cert.GateIdeal.main_v18)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v12) = v0 c
          ∧ r.2.mem ((c.tc : Thread Cert.GateIdeal.nD Cert.GateIdeal.τ).loc Cert.GateIdeal.main_v13) = v1 c
          ∧ r.2.mem ((c.tc : Thread Cert.GateIdeal.nD Cert.GateIdeal.τ).loc Cert.GateIdeal.main_v14) = v2 c
          ∧ r.2.mem ((c.tc : Thread Cert.GateIdeal.nD Cert.GateIdeal.τ).loc Cert.GateIdeal.main_v15) = v3 c
          ∧ r.2.mem ((c.tc : Thread Cert.GateIdeal.nD Cert.GateIdeal.τ).loc Cert.GateIdeal.main_v16) = v4 c
          ∧ r.2.mem ((c.tc : Thread Cert.GateIdeal.nD Cert.GateIdeal.τ).loc Cert.GateIdeal.main_v11_7) = v5 c
          ∧ r.2.mem ((c.tc : Thread Cert.GateIdeal.nD Cert.GateIdeal.τ).loc Cert.GateIdeal.main_v17) = v6 c
          ∧ r.2.mem ((c.tc : Thread Cert.GateIdeal.nD Cert.GateIdeal.τ).loc Cert.GateIdeal.main_v18) = v7 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v24) = v0 c
          ∧ r.2.mem ((c.tc : Thread Cert.GateRefIdeal.nD Cert.GateRefIdeal.τ).loc Cert.GateRefIdeal.main_v21) = v1 c
          ∧ r.2.mem ((c.tc : Thread Cert.GateRefIdeal.nD Cert.GateRefIdeal.τ).loc Cert.GateRefIdeal.main_v25) = v2 c
          ∧ r.2.mem ((c.tc : Thread Cert.GateRefIdeal.nD Cert.GateRefIdeal.τ).loc Cert.GateRefIdeal.main_v22) = v3 c
          ∧ r.2.mem ((c.tc : Thread Cert.GateRefIdeal.nD Cert.GateRefIdeal.τ).loc Cert.GateRefIdeal.main_v14) = v4 c
          ∧ r.2.mem ((c.tc : Thread Cert.GateRefIdeal.nD Cert.GateRefIdeal.τ).loc Cert.GateRefIdeal.main_v16) = v5 c
          ∧ r.2.mem ((c.tc : Thread Cert.GateRefIdeal.nD Cert.GateRefIdeal.τ).loc Cert.GateRefIdeal.main_v28) = v6 c
          ∧ r.2.mem ((c.tc : Thread Cert.GateRefIdeal.nD Cert.GateRefIdeal.τ).loc Cert.GateRefIdeal.main_v31) = v7 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6))

def preserves_In_InIdeal : Prop :=
  True

def algebraic_InIdeal_InRefIdeal_pre_finite_in [hInIdeal : Cert.InIdeal.Facts] [hInRefIdeal : Cert.InRefIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_finite_in m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)) →
    ∃ (v0 : (c : Dev Cert.InIdeal.nD) → Buf (Elt Ideal) ((c.tc : Thread Cert.InIdeal.nD Cert.InIdeal.τ).loc Cert.InIdeal.main_v54_0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v54_0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v47) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5))

def Claim : Prop :=
  ∃ (hCumBwd : Cert.CumBwd.Facts) (hCumBwdIdeal : Cert.CumBwdIdeal.Facts) (hCumBwdRefIdeal : Cert.CumBwdRefIdeal.Facts) (hFox : Cert.Fox.Facts) (hFoxIdeal : Cert.FoxIdeal.Facts) (hFoxRefIdeal : Cert.FoxRefIdeal.Facts) (hMla : Cert.Mla.Facts) (hMlaIdeal : Cert.MlaIdeal.Facts) (hMlaRefIdeal : Cert.MlaRefIdeal.Facts) (hLoss : Cert.Loss.Facts) (hLossIdeal : Cert.LossIdeal.Facts) (hLossRefIdeal : Cert.LossRefIdeal.Facts) (hGate : Cert.Gate.Facts) (hGateIdeal : Cert.GateIdeal.Facts) (hGateRefIdeal : Cert.GateRefIdeal.Facts) (hIn : Cert.In.Facts) (hInIdeal : Cert.InIdeal.Facts) (hInRefIdeal : Cert.InRefIdeal.Facts) (hPre_finite_fox : Cert.Pre_finite_fox.Facts) (hPre_finite_mla : Cert.Pre_finite_mla.Facts) (hPre_finite_loss : Cert.Pre_finite_loss.Facts) (hPre_finite_gate : Cert.Pre_finite_gate.Facts) (hPre_finite_in : Cert.Pre_finite_in.Facts),
    quiescent_CumBwd (hCumBwd := hCumBwd)
    ∧ quiescent_CumBwdIdeal (hCumBwdIdeal := hCumBwdIdeal)
    ∧ quiescent_CumBwdRefIdeal (hCumBwdRefIdeal := hCumBwdRefIdeal)
    ∧ quiescent_Fox (hFox := hFox)
    ∧ quiescent_FoxIdeal (hFoxIdeal := hFoxIdeal)
    ∧ quiescent_FoxIdeal_pre_finite_fox (hFoxIdeal := hFoxIdeal) (hPre_finite_fox := hPre_finite_fox)
    ∧ quiescent_FoxRefIdeal (hFoxRefIdeal := hFoxRefIdeal)
    ∧ quiescent_FoxRefIdeal_pre_finite_fox (hFoxRefIdeal := hFoxRefIdeal) (hPre_finite_fox := hPre_finite_fox)
    ∧ quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_In (hIn := hIn)
    ∧ quiescent_InIdeal (hInIdeal := hInIdeal)
    ∧ quiescent_InIdeal_pre_finite_in (hInIdeal := hInIdeal) (hPre_finite_in := hPre_finite_in)
    ∧ quiescent_InRefIdeal (hInRefIdeal := hInRefIdeal)
    ∧ quiescent_InRefIdeal_pre_finite_in (hInRefIdeal := hInRefIdeal) (hPre_finite_in := hPre_finite_in)
    ∧ preserves_CumBwd_CumBwdIdeal
    ∧ algebraic_CumBwdIdeal_CumBwdRefIdeal (hCumBwdIdeal := hCumBwdIdeal) (hCumBwdRefIdeal := hCumBwdRefIdeal)
    ∧ preserves_Fox_FoxIdeal
    ∧ algebraic_FoxIdeal_FoxRefIdeal_pre_finite_fox (hFoxIdeal := hFoxIdeal) (hFoxRefIdeal := hFoxRefIdeal) (hPre_finite_fox := hPre_finite_fox)
    ∧ preserves_Mla_MlaIdeal
    ∧ algebraic_MlaIdeal_MlaRefIdeal_pre_finite_mla (hMlaIdeal := hMlaIdeal) (hMlaRefIdeal := hMlaRefIdeal) (hPre_finite_mla := hPre_finite_mla)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_In_InIdeal
    ∧ algebraic_InIdeal_InRefIdeal_pre_finite_in (hInIdeal := hInIdeal) (hInRefIdeal := hInRefIdeal) (hPre_finite_in := hPre_finite_in)
-- ==== Pre_finite_fox.lean ====
abbrev S4096x512 : Shape := ⟨2, ![4096, 512]⟩
abbrev S4096x8 : Shape := ⟨2, ![4096, 8]⟩
abbrev S_ : Shape := ⟨0, ![]⟩

class Facts : Prop where
  bcast_S_S4096x512 : S_.BroadcastsInDim S4096x512 (![] : Fin 0 → Fin S4096x512.rank)
  bcast_S_S4096x8 : S_.BroadcastsInDim S4096x8 (![] : Fin 0 → Fin S4096x8.rank)

variable [Facts]

def fn {F : FTy → Type} [FloatOps F] (main_arg0 : FVec F S4096x512 .f32) (main_arg1 : FVec F S4096x512 .f32) (main_arg2 : FVec F S4096x512 .f32) (main_arg3 : FVec F S4096x8 .f32) (main_arg4 : FVec F S4096x512 .f32) : IVec S4096x512 1 × IVec S4096x512 1 × IVec S4096x512 1 × IVec S4096x8 1 × IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x8 .f32 := Host.absf main_arg3
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  (main_v2, main_v5, main_v8, main_v11, main_v14)
-- ==== Pre_finite_gate.lean ====
abbrev S4096x512 : Shape := ⟨2, ![4096, 512]⟩
abbrev S1024 : Shape := ⟨1, ![1024]⟩
abbrev S1024x1024 : Shape := ⟨2, ![1024, 1024]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  bcast_S_S1024 : S_.BroadcastsInDim S1024 (![] : Fin 0 → Fin S1024.rank)
  bcast_S_S1024x1024 : S_.BroadcastsInDim S1024x1024 (![] : Fin 0 → Fin S1024x1024.rank)
  bcast_S_S4096x1024 : S_.BroadcastsInDim S4096x1024 (![] : Fin 0 → Fin S4096x1024.rank)

variable [Facts]

def fn_part1 {F : FTy → Type} [FloatOps F] (main_arg6 : FVec F S4096x1024 .f32) (main_v2 : IVec S4096x512 1) (main_v5 : IVec S4096x512 1) (main_v8 : IVec S4096x512 1) (main_v11 : IVec S4096x512 1) (main_v14 : IVec S1024 1) (main_v17 : IVec S1024x1024 1) : IVec S4096x512 1 × IVec S4096x512 1 × IVec S4096x512 1 × IVec S4096x512 1 × IVec S1024 1 × IVec S1024x1024 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x512 .f32) (main_arg1 : FVec F S4096x512 .f32) (main_arg2 : FVec F S4096x512 .f32) (main_arg3 : FVec F S4096x512 .f32) (main_arg4 : FVec F S1024 .f32) (main_arg5 : FVec F S1024x1024 .f32) (main_arg6 : FVec F S4096x1024 .f32) : IVec S4096x512 1 × IVec S4096x512 1 × IVec S4096x512 1 × IVec S4096x512 1 × IVec S1024 1 × IVec S1024x1024 1 × IVec S4096x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_v2 main_v5 main_v8 main_v11 main_v14 main_v17
-- ==== Pre_finite_in.lean ====
abbrev S4096x1024 : Shape := ⟨2, ![4096, 1024]⟩
abbrev S1024 : Shape := ⟨1, ![1024]⟩
abbrev S3072 : Shape := ⟨1, ![3072]⟩
abbrev S1024x2984 : Shape := ⟨2, ![1024, 2984]⟩
abbrev S4096x2984 : Shape := ⟨2, ![4096, 2984]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S3072 : S_.BroadcastsInDim S3072 (![] : Fin 0 → Fin S3072.rank)
  bcast_S_S1024x2984 : S_.BroadcastsInDim S1024x2984 (![] : Fin 0 → Fin S1024x2984.rank)
  bcast_S_S4096x2984 : S_.BroadcastsInDim S4096x2984 (![] : Fin 0 → Fin S4096x2984.rank)

variable [Facts]

def fn {F : FTy → Type} [FloatOps F] (main_arg0 : FVec F S4096x1024 .f32) (main_arg1 : FVec F S1024 .f32) (main_arg2 : FVec F S3072 .f32) (main_arg3 : FVec F S1024x2984 .f32) (main_arg4 : FVec F S4096x2984 .f32) (main_arg5 : FVec F S4096x1024 .f32) : IVec S4096x1024 1 × IVec S1024 1 × IVec S3072 1 × IVec S1024x2984 1 × IVec S4096x2984 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S3072 .f32 := Host.absf main_arg2
  let main_cst_1 : FVec F S_ .f32 := constant S_ .f32 0x7F800000#32
  let main_v7 : FVec F S3072 .f32 := broadcastInDim S3072 ![] bcast_S_S3072 main_cst_1
  let main_v8 : IVec S3072 1 := cmpf .olt main_v6 main_v7
  let main_v9 : FVec F S1024x2984 .f32 := Host.absf main_arg3
  let main_cst_2 : FVec F S_ .f32 := constant S_ .f32 0x7F800000#32
  let main_v10 : FVec F S1024x2984 .f32 := broadcastInDim S1024x2984 ![] bcast_S_S1024x2984 main_cst_2
  let main_v11 : IVec S1024x2984 1 := cmpf .olt main_v9 main_v10
  let main_v12 : FVec F S4096x2984 .f32 := Host.absf main_arg4
  let main_cst_3 : FVec F S_ .f32 := constant S_ .f32 0x7F800000#32
  let main_v13 : FVec F S4096x2984 .f32 := broadcastInDim S4096x2984 ![] bcast_S_S4096x2984 main_cst_3
  let main_v14 : IVec S4096x2984 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite_loss.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024 .f32) (main_arg2 : FVec F S4096x1024 .f32) : IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite_mla.lean ====
abbrev S4096x8x64 : Shape := ⟨3, ![4096, 8, 64]⟩
abbrev S4096x8x32 : Shape := ⟨3, ![4096, 8, 32]⟩
abbrev S4096x32 : Shape := ⟨2, ![4096, 32]⟩
abbrev S_ : Shape := ⟨0, ![]⟩

class Facts : Prop where
  bcast_S_S4096x8x64 : S_.BroadcastsInDim S4096x8x64 (![] : Fin 0 → Fin S4096x8x64.rank)
  bcast_S_S4096x8x32 : S_.BroadcastsInDim S4096x8x32 (![] : Fin 0 → Fin S4096x8x32.rank)
  bcast_S_S4096x32 : S_.BroadcastsInDim S4096x32 (![] : Fin 0 → Fin S4096x32.rank)

variable [Facts]

def fn {F : FTy → Type} [FloatOps F] (main_arg0 : FVec F S4096x8x64 .f32) (main_arg1 : FVec F S4096x8x32 .f32) (main_arg2 : FVec F S4096x8x64 .f32) (main_arg3 : FVec F S4096x32 .f32) (main_arg4 : FVec F S4096x8x64 .f32) (main_arg5 : FVec F S4096x8x64 .f32) : IVec S4096x8x64 1 × IVec S4096x8x32 1 × IVec S4096x8x64 1 × IVec S4096x32 1 × IVec S4096x8x64 1 × IVec S4096x8x64 1 :=
  let main_v0 : FVec F S4096x8x64 .f32 := Host.absf main_arg0
  let main_cst : FVec F S_ .f32 := constant S_ .f32 0x7F800000#32
  let main_v1 : FVec F S4096x8x64 .f32 := broadcastInDim S4096x8x64 ![] bcast_S_S4096x8x64 main_cst
  let main_v2 : IVec S4096x8x64 1 := cmpf .olt main_v0 main_v1
  let main_v3 : FVec F S4096x8x32 .f32 := Host.absf main_arg1
  let main_cst_0 : FVec F S_ .f32 := constant S_ .f32 0x7F800000#32
  let main_v4 : FVec F S4096x8x32 .f32 := broadcastInDim S4096x8x32 ![] bcast_S_S4096x8x32 main_cst_0
  let main_v5 : IVec S4096x8x32 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_v12 : FVec F S4096x8x64 .f32 := Host.absf main_arg4
  let main_cst_3 : FVec F S_ .f32 := constant S_ .f32 0x7F800000#32
  let main_v13 : FVec F S4096x8x64 .f32 := broadcastInDim S4096x8x64 ![] bcast_S_S4096x8x64 main_cst_3
  let main_v14 : IVec S4096x8x64 1 := cmpf .olt main_v12 main_v13
  let main_v15 : FVec F S4096x8x64 .f32 := Host.absf main_arg5
  let main_cst_4 : FVec F S_ .f32 := constant S_ .f32 0x7F800000#32
  let main_v16 : FVec F S4096x8x64 .f32 := broadcastInDim S4096x8x64 ![] bcast_S_S4096x8x64 main_cst_4
  let main_v17 : IVec S4096x8x64 1 := cmpf .olt main_v15 main_v16
  (main_v2, main_v5, main_v8, main_v11, main_v14, main_v17)
-- ==== CumBwd.lean ====
abbrev S4096x8 : Shape := ⟨2, ![4096, 8]⟩
abbrev S8 : Shape := ⟨1, ![8]⟩
abbrev S8x4096 : Shape := ⟨2, ![8, 4096]⟩
abbrev S256x128 : Shape := ⟨2, ![256, 128]⟩
abbrev S8x32 : Shape := ⟨2, ![8, 32]⟩
abbrev S256 : Shape := ⟨1, ![256]⟩
abbrev S256x1 : Shape := ⟨2, ![256, 1]⟩
abbrev S128x128 : Shape := ⟨2, ![128, 128]⟩
abbrev S256x256 : Shape := ⟨2, ![256, 256]⟩
abbrev S_ : Shape := ⟨0, ![]⟩

abbrev nBuf : Space → Nat
  | .hbm => 19
  | .vmem => 5
  | .smem => 0
  | _ => 0

abbrev bufTy : (tb : Table) → Fin (tcTables nBuf tb) → BufTy
  | .hbm, ⟨0, _⟩ => ⟨S4096x8, .f32⟩
  | .hbm, ⟨1, _⟩ => ⟨S8, .f32⟩
  | .hbm, ⟨2, _⟩ => ⟨S4096x8, .f32⟩
  | .hbm, ⟨3, _⟩ => ⟨S8x4096, .f32⟩
  | .hbm, ⟨4, _⟩ => ⟨S256x128, .f32⟩
  | .hbm, ⟨5, _⟩ => ⟨S8x32, .f32⟩
  | .hbm, ⟨6, _⟩ => ⟨S256, .f32⟩
  | .hbm, ⟨7, _⟩ => ⟨S256x1, .f32⟩
  | .hbm, ⟨8, _⟩ => ⟨S8x4096, .f32⟩
  | .hbm, ⟨9, _⟩ => ⟨S256x128, .f32⟩
  | .hbm, ⟨10, _⟩ => ⟨S256x128, .f32⟩
  | .hbm, ⟨11, _⟩ => ⟨S256x128, .f32⟩
  | .hbm, ⟨12, _⟩ => ⟨S8x4096, .f32⟩
  | .hbm, ⟨13, _⟩ => ⟨S4096x8, .f32⟩
  | .hbm, ⟨14, _⟩ => ⟨S256x1, .f32⟩
  | .hbm, ⟨15, _⟩ => ⟨S256, .f32⟩
  | .hbm, ⟨16, _⟩ => ⟨S8x32, .f32⟩
  | .hbm, ⟨17, _⟩ => ⟨S_, .f32⟩
  | .hbm, ⟨18, _⟩ => ⟨S8, .f32⟩
  | .local _ .vmem, ⟨0, _⟩ => ⟨S256x128, .f32⟩
  | .local _ .vmem, ⟨1, _⟩ => ⟨S256x128, .f32⟩
  | .local _ .vmem, ⟨2, _⟩ => ⟨S256x1, .f32⟩
  | .local _ .vmem, ⟨3, _⟩ => ⟨S256x128, .f32⟩
  | .local _ .vmem, ⟨4, _⟩ => ⟨S256x128, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== CumBwdRefIdeal.lean ====
abbrev S4096x8 : Shape := ⟨2, ![4096, 8]⟩
abbrev S8 : Shape := ⟨1, ![8]⟩
abbrev S1x8 : Shape := ⟨2, ![1, 8]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S8, .f32⟩
  | .hbm, ⟨2, _⟩ => ⟨S4096x8, .f32⟩
  | .hbm, ⟨3, _⟩ => ⟨S1x8, .f32⟩
  | .hbm, ⟨4, _⟩ => ⟨S4096x8, .f32⟩
  | .hbm, ⟨5, _⟩ => ⟨S4096x8, .f32⟩
  | .hbm, ⟨6, _⟩ => ⟨S4096x8, .f32⟩
  | .hbm, ⟨7, _⟩ => ⟨S_, .f32⟩
  | .hbm, ⟨8, _⟩ => ⟨S4096x8, .f32⟩
  | .hbm, ⟨9, _⟩ => ⟨S4096x8, .f32⟩
  | .hbm, ⟨10, _⟩ => ⟨S4096x8, .f32⟩
  | .hbm, ⟨11, _⟩ => ⟨S4096x8, .f32⟩
  | .hbm, ⟨12, _⟩ => ⟨S4096x8, .i1⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S_, .f32⟩
  | .hbm, ⟨22, _⟩ => ⟨S4096x8, .f32⟩
  | .hbm, ⟨23, _⟩ => ⟨S4096x8, .i1⟩
  | .hbm, ⟨24, _⟩ => ⟨S_, .f32⟩
  | .hbm, ⟨25, _⟩ => ⟨S4096x8, .f32⟩
  | .hbm, ⟨26, _⟩ => ⟨S4096x8, .f32⟩
  | .hbm, ⟨27, _⟩ => ⟨S_, .f32⟩
  | .hbm, ⟨28, _⟩ => ⟨S4096x8, .f32⟩
  | .hbm, ⟨29, _⟩ => ⟨S4096x8, .i1⟩
  | .hbm, ⟨30, _⟩ => ⟨S_, .f32⟩
  | .hbm, ⟨31, _⟩ => ⟨S4096x8, .f32⟩
  | .hbm, ⟨32, _⟩ => ⟨S4096x8, .f32⟩
  | .hbm, ⟨33, _⟩ => ⟨S4096x8, .f32⟩
  | .hbm, ⟨34, _⟩ => ⟨S4096x8, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x8, .f32⟩
  | .hbm, ⟨43, _⟩ => ⟨S4096x8, .i1⟩
  | .hbm, ⟨44, _⟩ => ⟨S_, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S4096x8, .f32⟩
  | .hbm, ⟨50, _⟩ => ⟨S_, .f32⟩
  | .hbm, ⟨51, _⟩ => ⟨S4096x8, .f32⟩
  | .hbm, ⟨52, _⟩ => ⟨S4096x8, .f32⟩
  | .hbm, ⟨53, _⟩ => ⟨S4096x8, .f32⟩
  | .hbm, ⟨54, _⟩ => ⟨S_, .f32⟩
  | .hbm, ⟨55, _⟩ => ⟨S_, .f32⟩
  | .hbm, ⟨56, _⟩ => ⟨S4096x8, .f32⟩
  | .hbm, ⟨57, _⟩ => ⟨S_, .f32⟩
  | .hbm, ⟨58, _⟩ => ⟨S_, .f32⟩
  | .hbm, ⟨59, _⟩ => ⟨S4096x8, .f32⟩
  | .hbm, ⟨60, _⟩ => ⟨S4096x8, .f32⟩
  | .hbm, ⟨61, _⟩ => ⟨S4096x8, .f32⟩
  | .hbm, ⟨62, _⟩ => ⟨S4096x8, .f32⟩
  | .hbm, ⟨63, _⟩ => ⟨S_, .f32⟩
  | .hbm, ⟨64, _⟩ => ⟨S8, .f32⟩
  | .hbm, ⟨65, _⟩ => ⟨S1x8, .f32⟩
  | .hbm, ⟨66, _⟩ => ⟨S_, .f32⟩
  | .hbm, ⟨67, _⟩ => ⟨S8, .f32⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v4 : Ref sig .tc := ⟨.hbm, 56, rfl⟩
abbrev main_call2_call0_cst : Ref sig .tc := ⟨.hbm, 57, rfl⟩
abbrev main_call2_call0_v0 : Ref sig .tc := ⟨.hbm, 58, rfl⟩
abbrev main_v5 : Ref sig .tc := ⟨.hbm, 59, rfl⟩
abbrev main_call3_v0 : Ref sig .tc := ⟨.hbm, 60, rfl⟩
abbrev main_call3_v1 : Ref sig .tc := ⟨.hbm, 61, rfl⟩
abbrev main_v6 : Ref sig .tc := ⟨.hbm, 62, rfl⟩
abbrev main_cst : Ref sig .tc := ⟨.hbm, 63, rfl⟩
abbrev main_v7 : Ref sig .tc := ⟨.hbm, 64, rfl⟩
abbrev main_v8 : Ref sig .tc := ⟨.hbm, 65, rfl⟩
abbrev main_cst_0 : Ref sig .tc := ⟨.hbm, 66, rfl⟩
abbrev main_v9 : Ref sig .tc := ⟨.hbm, 67, rfl⟩

abbrev nD : Nat := 1
abbrev τ : Topo := Topo.v7x

variable {F : FTy → Type} [FloatOps F]
-- ==== Fox.lean ====
abbrev S4096x512 : Shape := ⟨2, ![4096, 512]⟩
abbrev S4096x8 : Shape := ⟨2, ![4096, 8]⟩
abbrev S_ : Shape := ⟨0, ![]⟩
abbrev S4096x1536 : Shape := ⟨2, ![4096, 1536]⟩
abbrev S8x4096 : Shape := ⟨2, ![8, 4096]⟩
abbrev S4096x8x64 : Shape := ⟨3, ![4096, 8, 64]⟩
abbrev S4096 : Shape := ⟨1, ![4096]⟩
abbrev S8x4096x4096 : Shape := ⟨3, ![8, 4096, 4096]⟩
abbrev S8x1x4096 : Shape := ⟨3, ![8, 1, 4096]⟩
abbrev S1x4096 : Shape := ⟨2, ![1, 4096]⟩
abbrev S4096x1 : Shape := ⟨2, ![4096, 1]⟩
abbrev S4096x4096 : Shape := ⟨2, ![4096, 4096]⟩
abbrev S8x4096x1 : Shape := ⟨3, ![8, 4096, 1]⟩
abbrev S8x64x4096 : Shape := ⟨3, ![8, 64, 4096]⟩
abbrev S4096x112 : Shape := ⟨2, ![4096, 112]⟩
abbrev S4096x128 : Shape := ⟨2, ![4096, 128]⟩
abbrev S2x1x4096 : Shape := ⟨3, ![2, 1, 4096]⟩
abbrev S1x128x4096 : Shape := ⟨3, ![1, 128, 4096]⟩
abbrev S128x4096 : Shape := ⟨2, ![128, 4096]⟩
abbrev S1x1024x128 : Shape := ⟨3, ![1, 1024, 128]⟩
abbrev S2x1024x1 : Shape := ⟨3, ![2, 1024, 1]⟩
abbrev S1024x128 : Shape := ⟨2, ![1024, 128]⟩
abbrev S128x1024 : Shape := ⟨2, ![128, 1024]⟩
abbrev S1x128x1024 : Shape := ⟨3, ![1, 128, 1024]⟩
abbrev S1024 : Shape := ⟨1, ![1024]⟩
abbrev S1024x1 : Shape := ⟨2, ![1024, 1]⟩
abbrev S1024x1024 : Shape := ⟨2, ![1024, 1024]⟩
abbrev S1x1x1024 : Shape := ⟨3, ![1, 1, 1024]⟩
abbrev S1x1024 : Shape := ⟨2, ![1, 1024]⟩
abbrev S64x1024 : Shape := ⟨2, ![64, 1024]⟩
abbrev S1x64x1024 : Shape := ⟨3, ![1, 64, 1024]⟩
abbrev S1x1024x1 : Shape := ⟨3, ![1, 1024, 1]⟩
abbrev S512x128 : Shape := ⟨2, ![512, 128]⟩
abbrev S512x512 : Shape := ⟨2, ![512, 512]⟩
abbrev S512x1 : Shape := ⟨2, ![512, 1]⟩
abbrev S1x1x512 : Shape := ⟨3, ![1, 1, 512]⟩
abbrev S1x512 : Shape := ⟨2, ![1, 512]⟩
abbrev S64x512 : Shape := ⟨2, ![64, 512]⟩
abbrev S1x64x512 : Shape := ⟨3, ![1, 64, 512]⟩
abbrev S1x512x128 : Shape := ⟨3, ![1, 512, 128]⟩
abbrev S1x512x1 : Shape := ⟨3, ![1, 512, 1]⟩
abbrev S512 : Shape := ⟨1, ![512]⟩
abbrev S512x1024 : Shape := ⟨2, ![512, 1024]⟩

abbrev nBuf : Space → Nat
  | .hbm => 84
  | .vmem => 26
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S4096x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x512, .f32⟩
  | .hbm, ⟨12, _⟩ => ⟨S4096x512, .f32⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S4096x1536, .bf16⟩
  | .hbm, ⟨17, _⟩ => ⟨S8x4096, .f32⟩
  | .hbm, ⟨18, _⟩ => ⟨S8x4096, .f32⟩
  | .hbm, ⟨19, _⟩ => ⟨S8x4096, .f32⟩
  | .hbm, ⟨20, _⟩ => ⟨S4096x8x64, .f32⟩
  | .hbm, ⟨21, _⟩ => ⟨S4096x8x64, .f32⟩
  | .hbm, ⟨22, _⟩ => ⟨S4096x8x64, .f32⟩
  | .hbm, ⟨23, _⟩ => ⟨S4096x8x64, .f32⟩
  | .hbm, ⟨24, _⟩ => ⟨S4096, .i32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S8x4096, .f32⟩
  | .hbm, ⟨30, _⟩ => ⟨S8x1x4096, .f32⟩
  | .hbm, ⟨31, _⟩ => ⟨S8x4096x4096, .f32⟩
  | .hbm, ⟨32, _⟩ => ⟨S8x4096x4096, .f32⟩
  | .hbm, ⟨33, _⟩ => ⟨S1x4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S_, .f32⟩
  | .hbm, ⟨39, _⟩ => ⟨S_, .f32⟩
  | .hbm, ⟨40, _⟩ => ⟨S8x4096x4096, .i1⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S8x4096x1, .f32⟩
  | .hbm, ⟨56, _⟩ => ⟨S8x4096, .f32⟩
  | .hbm, ⟨57, _⟩ => ⟨S8x4096x4096, .f32⟩
  | .hbm, ⟨58, _⟩ => ⟨S8x4096x4096, .f32⟩
  | .hbm, ⟨59, _⟩ => ⟨S8x64x4096, .f32⟩
  | .hbm, ⟨60, _⟩ => ⟨S4096x8x64, .f32⟩
  | .hbm, ⟨61, _⟩ => ⟨S4096x8x64, .f32⟩
  | .hbm, ⟨62, _⟩ => ⟨S_, .f32⟩
  | .hbm, ⟨63, _⟩ => ⟨S4096x8, .f32⟩
  | .hbm, ⟨64, _⟩ => ⟨S4096x8, .f32⟩
  | .hbm, ⟨65, _⟩ => ⟨S4096x8, .f32⟩
  | .hbm, ⟨66, _⟩ => ⟨S_, .f32⟩
  | .hbm, ⟨67, _⟩ => ⟨S4096x112, .f32⟩
  | .hbm, ⟨68, _⟩ => ⟨S4096x128, .f32⟩
  | .hbm, ⟨69, _⟩ => ⟨S4096x512, .bf16⟩
  | .hbm, ⟨70, _⟩ => ⟨S8x1x4096, .f32⟩
  | .hbm, ⟨71, _⟩ => ⟨S4096x512, .bf16⟩
  | .hbm, ⟨72, _⟩ => ⟨S4096x512, .bf16⟩
  | .hbm, ⟨73, _⟩ => ⟨S4096x512, .bf16⟩
  | .hbm, ⟨74, _⟩ => ⟨S4096x128, .f32⟩
  | .hbm, ⟨75, _⟩ => ⟨S8x1x4096, .f32⟩
  | .hbm, ⟨76, _⟩ => ⟨S4096x8, .f32⟩
  | .hbm, ⟨77, _⟩ => ⟨S8x4096, .f32⟩
  | .hbm, ⟨78, _⟩ => ⟨S8x4096, .f32⟩
  | .hbm, ⟨79, _⟩ => ⟨S8x4096, .f32⟩
  | .hbm, ⟨80, _⟩ => ⟨S4096x512, .f32⟩
  | .hbm, ⟨81, _⟩ => ⟨S4096x512, .f32⟩
  | .hbm, ⟨82, _⟩ => ⟨S4096x512, .f32⟩
  | .hbm, ⟨83, _⟩ => ⟨S4096x8, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S2x1x4096, .f32⟩
  | .local _ .vmem, ⟨10, _⟩ => ⟨S2x1x4096, .f32⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .f32⟩
  | .local _ .vmem, ⟨18, _⟩ => ⟨S2x1x4096, .f32⟩
  | .local _ .vmem, ⟨19, _⟩ => ⟨S2x1x4096, .f32⟩
  | .local _ .vmem, ⟨20, _⟩ => ⟨S1x128x4096, .bf16⟩
  | .local _ .vmem, ⟨21, _⟩ => ⟨S128x4096, .bf16⟩
  | .local _ .vmem, ⟨22, _⟩ => ⟨S1x128x4096, .f32⟩
  | .local _ .vmem, ⟨23, _⟩ => ⟨S128x4096, .f32⟩
  | .local _ .vmem, ⟨24, _⟩ => ⟨S1x1024x128, .f32⟩
  | .local _ .vmem, ⟨25, _⟩ => ⟨S2x1024x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54_0 : Ref sig .tc := ⟨.hbm, 71, rfl⟩
abbrev main_v54_1 : Ref sig .tc := ⟨.hbm, 72, rfl⟩
abbrev main_v54_2 : Ref sig .tc := ⟨.hbm, 73, rfl⟩
abbrev main_v54_3 : Ref sig .tc := ⟨.hbm, 74, rfl⟩
abbrev main_v54_4 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_43 : BitVec 32 := 0#32
  let c4_i32 : BitVec 32 := 4#32
  let v61 : BitVec 32 := Scalar.addi c0_i32_43 c4_i32
  let c1_i32 : BitVec 32 := 1#32
  ⟨c0_i32_43, v61, c1_i32⟩
def k0_mult1 (k0_t1 : Fin k0_t1_loop.trips) : BitVec 32 :=
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  v106
def k0_off1 (k0_t1 : Fin k0_t1_loop.trips) : Fin 2 → Nat :=
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v108 : Index := Scalar.indexCast v107
  let c0_85 : Index := 0#32
  ![v108.toNat, 0]
@[reducible] def k0_t2_loop (k0_t1 : Fin k0_t1_loop.trips) : Scf.Loop 32 :=
  let c0_i32_123 : BitVec 32 := 0#32
  let c0_i32_43 : BitVec 32 := 0#32
  let c1_i32 : BitVec 32 := 1#32
  let arg18 : BitVec 32 := Scf.iv c0_i32_43 c1_i32 k0_t1
  let v192 : BitVec 32 := Scalar.subi arg18 c0_i32_123
  let c1_i32_124 : BitVec 32 := 1#32
  let v194 : BitVec 32 := Scalar.divsi v192 c1_i32_124
  let v195 : BitVec 32 := Scalar.muli v194 c1_i32_124
  let v196 : BitVec 32 := Scalar.addi c0_i32_123 v195
  let c1_i32_125 : BitVec 32 := 1#32
  ⟨c0_i32_123, v196, c1_i32_125⟩
def k0_mult2 (k0_t1 : Fin k0_t1_loop.trips) (k0_t2 : Fin (k0_t2_loop k0_t1).trips) : BitVec 32 :=
  let c0_i32_123 : BitVec 32 := 0#32
  let c1_i32_125 : BitVec 32 := 1#32
  let arg19 : BitVec 32 := Scf.iv c0_i32_123 c1_i32_125 k0_t2
  let c1024_i32_305 : BitVec 32 := 1024#32
  let v574 : BitVec 32 := Scalar.muli arg19 c1024_i32_305
  v574
def k0_off2 (k0_t1 : Fin k0_t1_loop.trips) (k0_t2 : Fin (k0_t2_loop k0_t1).trips) : Fin 2 → Nat :=
  let c0_i32_123 : BitVec 32 := 0#32
  let c1_i32_125 : BitVec 32 := 1#32
  let arg19 : BitVec 32 := Scf.iv c0_i32_123 c1_i32_125 k0_t2
  let c1024_i32_305 : BitVec 32 := 1024#32
  let v574 : BitVec 32 := Scalar.muli arg19 c1024_i32_305
  let v575 : BitVec 32 := v574
  let v576 : Index := Scalar.indexCast v575
  let c0_306 : Index := 0#32
  ![v576.toNat, 0]
def k0_mult3 (k0_t1 : Fin k0_t1_loop.trips) : BitVec 32 :=
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let c0_i32_314 : BitVec 32 := 0#32
  let v598 : BitVec 32 := Scalar.addi v107 c0_i32_314
  v598
def k0_off3 (k0_t1 : Fin k0_t1_loop.trips) (k0_t2 : Fin (k0_t2_loop k0_t1).trips) : Fin 3 → Nat :=
  let c0_317 : Index := 0#32
  let c0_318 : Index := 0#32
  let c0_i32_123 : BitVec 32 := 0#32
  let c1_i32_125 : BitVec 32 := 1#32
  let arg19 : BitVec 32 := Scf.iv c0_i32_123 c1_i32_125 k0_t2
  let c1024_i32_305 : BitVec 32 := 1024#32
  let v574 : BitVec 32 := Scalar.muli arg19 c1024_i32_305
  let v575 : BitVec 32 := v574
  let v606 : Index := Scalar.indexCast v575
  ![0, 0, v606.toNat]
def k0_off4 (k0_t1 : Fin k0_t1_loop.trips) (k0_t2 : Fin (k0_t2_loop k0_t1).trips) : Fin 3 → Nat :=
  let c1_319 : Index := 1#32
  let c0_320 : Index := 0#32
  let c0_i32_123 : BitVec 32 := 0#32
  let c1_i32_125 : BitVec 32 := 1#32
  let arg19 : BitVec 32 := Scf.iv c0_i32_123 c1_i32_125 k0_t2
  let c1024_i32_305 : BitVec 32 := 1024#32
  let v574 : BitVec 32 := Scalar.muli arg19 c1024_i32_305
  let v575 : BitVec 32 := v574
  let v611 : Index := Scalar.indexCast v575
  ![1, 0, v611.toNat]
def k0_off5 (k0_t1 : Fin k0_t1_loop.trips) (k0_t2 : Fin (k0_t2_loop k0_t1).trips) : Fin 2 → Nat :=
  let c0_323 : Index := 0#32
  let c0_i32_123 : BitVec 32 := 0#32
  let c1_i32_125 : BitVec 32 := 1#32
  let arg19 : BitVec 32 := Scf.iv c0_i32_123 c1_i32_125 k0_t2
  let c1024_i32_305 : BitVec 32 := 1024#32
  let v574 : BitVec 32 := Scalar.muli arg19 c1024_i32_305
  let v575 : BitVec 32 := v574
  let v627 : Index := Scalar.indexCast v575
  ![0, v627.toNat]
def k0_off6 (k0_t1 : Fin k0_t1_loop.trips) : Fin 2 → Nat :=
  let c0_324 : Index := 0#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let c0_i32_314 : BitVec 32 := 0#32
  let v598 : BitVec 32 := Scalar.addi v107 c0_i32_314
  let v599 : BitVec 32 := v598
  let v629 : Index := Scalar.indexCast v599
  ![0, v629.toNat]
def k0_off7 (k0_t1 : Fin k0_t1_loop.trips) (k0_t2 : Fin (k0_t2_loop k0_t1).trips) : Fin 3 → Nat :=
  let c0_327 : Index := 0#32
  let c0_328 : Index := 0#32
  let c0_i32_123 : BitVec 32 := 0#32
  let c1_i32_125 : BitVec 32 := 1#32
  let arg19 : BitVec 32 := Scf.iv c0_i32_123 c1_i32_125 k0_t2
  let c1024_i32_305 : BitVec 32 := 1024#32
  let v574 : BitVec 32 := Scalar.muli arg19 c1024_i32_305
  let v575 : BitVec 32 := v574
  let v638 : Index := Scalar.indexCast v575
  ![0, 0, v638.toNat]
def k0_off8 (k0_t1 : Fin k0_t1_loop.trips) : Fin 3 → Nat :=
  let c0_329 : Index := 0#32
  let c0_330 : Index := 0#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let c0_i32_314 : BitVec 32 := 0#32
  let v598 : BitVec 32 := Scalar.addi v107 c0_i32_314
  let v599 : BitVec 32 := v598
  let v641 : Index := Scalar.indexCast v599
  ![0, 0, v641.toNat]
def k0_off9 (k0_t1 : Fin k0_t1_loop.trips) (k0_t2 : Fin (k0_t2_loop k0_t1).trips) : Fin 2 → Nat :=
  let c64_354 : Index := 64#32
  let c0_i32_123 : BitVec 32 := 0#32
  let c1_i32_125 : BitVec 32 := 1#32
  let arg19 : BitVec 32 := Scf.iv c0_i32_123 c1_i32_125 k0_t2
  let c1024_i32_305 : BitVec 32 := 1024#32
  let v574 : BitVec 32 := Scalar.muli arg19 c1024_i32_305
  let v575 : BitVec 32 := v574
  let v678 : Index := Scalar.indexCast v575
  ![64, v678.toNat]
def k0_off10 (k0_t1 : Fin k0_t1_loop.trips) : Fin 2 → Nat :=
  let c64_355 : Index := 64#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let c0_i32_314 : BitVec 32 := 0#32
  let v598 : BitVec 32 := Scalar.addi v107 c0_i32_314
  let v599 : BitVec 32 := v598
  let v680 : Index := Scalar.indexCast v599
  ![64, v680.toNat]
def k0_off11 (k0_t1 : Fin k0_t1_loop.trips) (k0_t2 : Fin (k0_t2_loop k0_t1).trips) : Fin 3 → Nat :=
  let c0_358 : Index := 0#32
  let c64_359 : Index := 64#32
  let c0_i32_123 : BitVec 32 := 0#32
  let c1_i32_125 : BitVec 32 := 1#32
  let arg19 : BitVec 32 := Scf.iv c0_i32_123 c1_i32_125 k0_t2
  let c1024_i32_305 : BitVec 32 := 1024#32
  let v574 : BitVec 32 := Scalar.muli arg19 c1024_i32_305
  let v575 : BitVec 32 := v574
  let v689 : Index := Scalar.indexCast v575
  ![0, 64, v689.toNat]
def k0_off12 (k0_t1 : Fin k0_t1_loop.trips) : Fin 3 → Nat :=
  let c0_360 : Index := 0#32
  let c64_361 : Index := 64#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let c0_i32_314 : BitVec 32 := 0#32
  let v598 : BitVec 32 := Scalar.addi v107 c0_i32_314
  let v599 : BitVec 32 := v598
  let v692 : Index := Scalar.indexCast v599
  ![0, 64, v692.toNat]
@[reducible] def k0_t3_loop (k0_t1 : Fin k0_t1_loop.trips) : Scf.Loop 32 :=
  let c0_i32_123 : BitVec 32 := 0#32
  let c0_i32_43 : BitVec 32 := 0#32
  let c1_i32 : BitVec 32 := 1#32
  let arg18 : BitVec 32 := Scf.iv c0_i32_43 c1_i32 k0_t1
  let v192 : BitVec 32 := Scalar.subi arg18 c0_i32_123
  let c1_i32_124 : BitVec 32 := 1#32
  let v194 : BitVec 32 := Scalar.divsi v192 c1_i32_124
  let v195 : BitVec 32 := Scalar.muli v194 c1_i32_124
  let v196 : BitVec 32 := Scalar.addi c0_i32_123 v195
  let v193 : BitVec 32 := Scalar.addi c0_i32_123 v192
  let c1_i32_126 : BitVec 32 := 1#32
  ⟨v196, v193, c1_i32_126⟩
def k0_mult4 (k0_t1 : Fin k0_t1_loop.trips) (k0_t3 : Fin (k0_t3_loop k0_t1).trips) : BitVec 32 :=
  let c0_i32_123 : BitVec 32 := 0#32
  let c0_i32_43 : BitVec 32 := 0#32
  let c1_i32 : BitVec 32 := 1#32
  let arg18 : BitVec 32 := Scf.iv c0_i32_43 c1_i32 k0_t1
  let v192 : BitVec 32 := Scalar.subi arg18 c0_i32_123
  let c1_i32_124 : BitVec 32 := 1#32
  let v194 : BitVec 32 := Scalar.divsi v192 c1_i32_124
  let v195 : BitVec 32 := Scalar.muli v194 c1_i32_124
  let v196 : BitVec 32 := Scalar.addi c0_i32_123 v195
  let c1_i32_126 : BitVec 32 := 1#32
  let arg19 : BitVec 32 := Scf.iv v196 c1_i32_126 k0_t3
  let c1024_i32_305 : BitVec 32 := 1024#32
  let v574 : BitVec 32 := Scalar.muli arg19 c1024_i32_305
  v574
def k0_off13 (k0_t1 : Fin k0_t1_loop.trips) (k0_t3 : Fin (k0_t3_loop k0_t1).trips) : Fin 2 → Nat :=
  let c0_i32_123 : BitVec 32 := 0#32
  let c0_i32_43 : BitVec 32 := 0#32
  let c1_i32 : BitVec 32 := 1#32
  let arg18 : BitVec 32 := Scf.iv c0_i32_43 c1_i32 k0_t1
  let v192 : BitVec 32 := Scalar.subi arg18 c0_i32_123
  let c1_i32_124 : BitVec 32 := 1#32
  let v194 : BitVec 32 := Scalar.divsi v192 c1_i32_124
  let v195 : BitVec 32 := Scalar.muli v194 c1_i32_124
  let v196 : BitVec 32 := Scalar.addi c0_i32_123 v195
  let c1_i32_126 : BitVec 32 := 1#32
  let arg19 : BitVec 32 := Scf.iv v196 c1_i32_126 k0_t3
  let c1024_i32_305 : BitVec 32 := 1024#32
  let v574 : BitVec 32 := Scalar.muli arg19 c1024_i32_305
  let v575 : BitVec 32 := v574
  let v576 : Index := Scalar.indexCast v575
  let c0_306 : Index := 0#32
  ![v576.toNat, 0]
def k0_mult5 (k0_t1 : Fin k0_t1_loop.trips) : BitVec 32 :=
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let c0_i32_314 : BitVec 32 := 0#32
  let v598 : BitVec 32 := Scalar.addi v107 c0_i32_314
  v598
def k0_off14 (k0_t1 : Fin k0_t1_loop.trips) (k0_t3 : Fin (k0_t3_loop k0_t1).trips) : Fin 3 → Nat :=
  let c0_317 : Index := 0#32
  let c0_318 : Index := 0#32
  let c0_i32_123 : BitVec 32 := 0#32
  let c0_i32_43 : BitVec 32 := 0#32
  let c1_i32 : BitVec 32 := 1#32
  let arg18 : BitVec 32 := Scf.iv c0_i32_43 c1_i32 k0_t1
  let v192 : BitVec 32 := Scalar.subi arg18 c0_i32_123
  let c1_i32_124 : BitVec 32 := 1#32
  let v194 : BitVec 32 := Scalar.divsi v192 c1_i32_124
  let v195 : BitVec 32 := Scalar.muli v194 c1_i32_124
  let v196 : BitVec 32 := Scalar.addi c0_i32_123 v195
  let c1_i32_126 : BitVec 32 := 1#32
  let arg19 : BitVec 32 := Scf.iv v196 c1_i32_126 k0_t3
  let c1024_i32_305 : BitVec 32 := 1024#32
  let v574 : BitVec 32 := Scalar.muli arg19 c1024_i32_305
  let v575 : BitVec 32 := v574
  let v606 : Index := Scalar.indexCast v575
  ![0, 0, v606.toNat]
def k0_off15 (k0_t1 : Fin k0_t1_loop.trips) (k0_t3 : Fin (k0_t3_loop k0_t1).trips) : Fin 3 → Nat :=
  let c1_319 : Index := 1#32
  let c0_320 : Index := 0#32
  let c0_i32_123 : BitVec 32 := 0#32
  let c0_i32_43 : BitVec 32 := 0#32
  let c1_i32 : BitVec 32 := 1#32
  let arg18 : BitVec 32 := Scf.iv c0_i32_43 c1_i32 k0_t1
  let v192 : BitVec 32 := Scalar.subi arg18 c0_i32_123
  let c1_i32_124 : BitVec 32 := 1#32
  let v194 : BitVec 32 := Scalar.divsi v192 c1_i32_124
  let v195 : BitVec 32 := Scalar.muli v194 c1_i32_124
  let v196 : BitVec 32 := Scalar.addi c0_i32_123 v195
  let c1_i32_126 : BitVec 32 := 1#32
  let arg19 : BitVec 32 := Scf.iv v196 c1_i32_126 k0_t3
  let c1024_i32_305 : BitVec 32 := 1024#32
  let v574 : BitVec 32 := Scalar.muli arg19 c1024_i32_305
  let v575 : BitVec 32 := v574
  let v611 : Index := Scalar.indexCast v575
  ![1, 0, v611.toNat]
def k0_off16 (k0_t1 : Fin k0_t1_loop.trips) (k0_t3 : Fin (k0_t3_loop k0_t1).trips) : Fin 2 → Nat :=
  let c0_323 : Index := 0#32
  let c0_i32_123 : BitVec 32 := 0#32
  let c0_i32_43 : BitVec 32 := 0#32
  let c1_i32 : BitVec 32 := 1#32
  let arg18 : BitVec 32 := Scf.iv c0_i32_43 c1_i32 k0_t1
  let v192 : BitVec 32 := Scalar.subi arg18 c0_i32_123
  let c1_i32_124 : BitVec 32 := 1#32
  let v194 : BitVec 32 := Scalar.divsi v192 c1_i32_124
  let v195 : BitVec 32 := Scalar.muli v194 c1_i32_124
  let v196 : BitVec 32 := Scalar.addi c0_i32_123 v195
  let c1_i32_126 : BitVec 32 := 1#32
  let arg19 : BitVec 32 := Scf.iv v196 c1_i32_126 k0_t3
  let c1024_i32_305 : BitVec 32 := 1024#32
  let v574 : BitVec 32 := Scalar.muli arg19 c1024_i32_305
  let v575 : BitVec 32 := v574
  let v627 : Index := Scalar.indexCast v575
  ![0, v627.toNat]
def k0_off17 (k0_t1 : Fin k0_t1_loop.trips) : Fin 2 → Nat :=
  let c0_324 : Index := 0#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let c0_i32_314 : BitVec 32 := 0#32
  let v598 : BitVec 32 := Scalar.addi v107 c0_i32_314
  let v599 : BitVec 32 := v598
  let v629 : Index := Scalar.indexCast v599
  ![0, v629.toNat]
def k0_off18 (k0_t1 : Fin k0_t1_loop.trips) (k0_t3 : Fin (k0_t3_loop k0_t1).trips) : Fin 3 → Nat :=
  let c0_327 : Index := 0#32
  let c0_328 : Index := 0#32
  let c0_i32_123 : BitVec 32 := 0#32
  let c0_i32_43 : BitVec 32 := 0#32
  let c1_i32 : BitVec 32 := 1#32
  let arg18 : BitVec 32 := Scf.iv c0_i32_43 c1_i32 k0_t1
  let v192 : BitVec 32 := Scalar.subi arg18 c0_i32_123
  let c1_i32_124 : BitVec 32 := 1#32
  let v194 : BitVec 32 := Scalar.divsi v192 c1_i32_124
  let v195 : BitVec 32 := Scalar.muli v194 c1_i32_124
  let v196 : BitVec 32 := Scalar.addi c0_i32_123 v195
  let c1_i32_126 : BitVec 32 := 1#32
  let arg19 : BitVec 32 := Scf.iv v196 c1_i32_126 k0_t3
  let c1024_i32_305 : BitVec 32 := 1024#32
  let v574 : BitVec 32 := Scalar.muli arg19 c1024_i32_305
  let v575 : BitVec 32 := v574
  let v638 : Index := Scalar.indexCast v575
  ![0, 0, v638.toNat]
def k0_off19 (k0_t1 : Fin k0_t1_loop.trips) : Fin 3 → Nat :=
  let c0_329 : Index := 0#32
  let c0_330 : Index := 0#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let c0_i32_314 : BitVec 32 := 0#32
  let v598 : BitVec 32 := Scalar.addi v107 c0_i32_314
  let v599 : BitVec 32 := v598
  let v641 : Index := Scalar.indexCast v599
  ![0, 0, v641.toNat]
def k0_off20 (k0_t1 : Fin k0_t1_loop.trips) (k0_t3 : Fin (k0_t3_loop k0_t1).trips) : Fin 2 → Nat :=
  let c64_354 : Index := 64#32
  let c0_i32_123 : BitVec 32 := 0#32
  let c0_i32_43 : BitVec 32 := 0#32
  let c1_i32 : BitVec 32 := 1#32
  let arg18 : BitVec 32 := Scf.iv c0_i32_43 c1_i32 k0_t1
  let v192 : BitVec 32 := Scalar.subi arg18 c0_i32_123
  let c1_i32_124 : BitVec 32 := 1#32
  let v194 : BitVec 32 := Scalar.divsi v192 c1_i32_124
  let v195 : BitVec 32 := Scalar.muli v194 c1_i32_124
  let v196 : BitVec 32 := Scalar.addi c0_i32_123 v195
  let c1_i32_126 : BitVec 32 := 1#32
  let arg19 : BitVec 32 := Scf.iv v196 c1_i32_126 k0_t3
  let c1024_i32_305 : BitVec 32 := 1024#32
  let v574 : BitVec 32 := Scalar.muli arg19 c1024_i32_305
  let v575 : BitVec 32 := v574
  let v678 : Index := Scalar.indexCast v575
  ![64, v678.toNat]
def k0_off21 (k0_t1 : Fin k0_t1_loop.trips) : Fin 2 → Nat :=
  let c64_355 : Index := 64#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let c0_i32_314 : BitVec 32 := 0#32
  let v598 : BitVec 32 := Scalar.addi v107 c0_i32_314
  let v599 : BitVec 32 := v598
  let v680 : Index := Scalar.indexCast v599
  ![64, v680.toNat]
def k0_off22 (k0_t1 : Fin k0_t1_loop.trips) (k0_t3 : Fin (k0_t3_loop k0_t1).trips) : Fin 3 → Nat :=
  let c0_358 : Index := 0#32
  let c64_359 : Index := 64#32
  let c0_i32_123 : BitVec 32 := 0#32
  let c0_i32_43 : BitVec 32 := 0#32
  let c1_i32 : BitVec 32 := 1#32
  let arg18 : BitVec 32 := Scf.iv c0_i32_43 c1_i32 k0_t1
  let v192 : BitVec 32 := Scalar.subi arg18 c0_i32_123
  let c1_i32_124 : BitVec 32 := 1#32
  let v194 : BitVec 32 := Scalar.divsi v192 c1_i32_124
  let v195 : BitVec 32 := Scalar.muli v194 c1_i32_124
  let v196 : BitVec 32 := Scalar.addi c0_i32_123 v195
  let c1_i32_126 : BitVec 32 := 1#32
  let arg19 : BitVec 32 := Scf.iv v196 c1_i32_126 k0_t3
  let c1024_i32_305 : BitVec 32 := 1024#32
  let v574 : BitVec 32 := Scalar.muli arg19 c1024_i32_305
  let v575 : BitVec 32 := v574
  let v689 : Index := Scalar.indexCast v575
  ![0, 64, v689.toNat]
def k0_off23 (k0_t1 : Fin k0_t1_loop.trips) : Fin 3 → Nat :=
  let c0_360 : Index := 0#32
  let c64_361 : Index := 64#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let c0_i32_314 : BitVec 32 := 0#32
  let v598 : BitVec 32 := Scalar.addi v107 c0_i32_314
  let v599 : BitVec 32 := v598
  let v692 : Index := Scalar.indexCast v599
  ![0, 64, v692.toNat]
def k0_off24 (k0_t1 : Fin k0_t1_loop.trips) : Fin 2 → Nat :=
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v197 : Index := Scalar.indexCast v107
  let c0_127 : Index := 0#32
  ![v197.toNat, 0]
def k0_mult6 (k0_t1 : Fin k0_t1_loop.trips) : BitVec 32 :=
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let c0_i32_135 : BitVec 32 := 0#32
  let v219 : BitVec 32 := Scalar.addi v107 c0_i32_135
  v219
def k0_off25 (k0_t1 : Fin k0_t1_loop.trips) : Fin 3 → Nat :=
  let c0_138 : Index := 0#32
  let c0_139 : Index := 0#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v231 : Index := Scalar.indexCast v107
  ![0, 0, v231.toNat]
def k0_off26 (k0_t1 : Fin k0_t1_loop.trips) : Fin 3 → Nat :=
  let c1 : Index := 1#32
  let c0_140 : Index := 0#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v236 : Index := Scalar.indexCast v107
  ![1, 0, v236.toNat]
def k0_off27 (k0_t1 : Fin k0_t1_loop.trips) : Fin 2 → Nat :=
  let c0_147 : Index := 0#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v270 : Index := Scalar.indexCast v107
  ![0, v270.toNat]
def k0_off28 (k0_t1 : Fin k0_t1_loop.trips) (c0_i32_135 : BitVec 32) : Fin 2 → Nat :=
  let c0_148 : Index := 0#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v219 : BitVec 32 := Scalar.addi v107 c0_i32_135
  let v220 : BitVec 32 := v219
  let v272 : Index := Scalar.indexCast v220
  ![0, v272.toNat]
def k0_off29 (k0_t1 : Fin k0_t1_loop.trips) : Fin 3 → Nat :=
  let c0_151 : Index := 0#32
  let c0_152 : Index := 0#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v281 : Index := Scalar.indexCast v107
  ![0, 0, v281.toNat]
def k0_off30 (k0_t1 : Fin k0_t1_loop.trips) (c0_i32_135 : BitVec 32) : Fin 3 → Nat :=
  let c0_153 : Index := 0#32
  let c0_154 : Index := 0#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v219 : BitVec 32 := Scalar.addi v107 c0_i32_135
  let v220 : BitVec 32 := v219
  let v284 : Index := Scalar.indexCast v220
  ![0, 0, v284.toNat]
def k0_off31 (k0_t1 : Fin k0_t1_loop.trips) : Fin 2 → Nat :=
  let c64 : Index := 64#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v321 : Index := Scalar.indexCast v107
  ![64, v321.toNat]
def k0_off32 (k0_t1 : Fin k0_t1_loop.trips) (c0_i32_135 : BitVec 32) : Fin 2 → Nat :=
  let c64_178 : Index := 64#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v219 : BitVec 32 := Scalar.addi v107 c0_i32_135
  let v220 : BitVec 32 := v219
  let v323 : Index := Scalar.indexCast v220
  ![64, v323.toNat]
def k0_off33 (k0_t1 : Fin k0_t1_loop.trips) : Fin 3 → Nat :=
  let c0_181 : Index := 0#32
  let c64_182 : Index := 64#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v332 : Index := Scalar.indexCast v107
  ![0, 64, v332.toNat]
def k0_off34 (k0_t1 : Fin k0_t1_loop.trips) (c0_i32_135 : BitVec 32) : Fin 3 → Nat :=
  let c0_183 : Index := 0#32
  let c64_184 : Index := 64#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v219 : BitVec 32 := Scalar.addi v107 c0_i32_135
  let v220 : BitVec 32 := v219
  let v335 : Index := Scalar.indexCast v220
  ![0, 64, v335.toNat]
def k0_mult7 (k0_t1 : Fin k0_t1_loop.trips) : BitVec 32 :=
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let c512_i32 : BitVec 32 := 512#32
  let v393 : BitVec 32 := Scalar.addi v107 c512_i32
  v393
def k0_off35 (k0_t1 : Fin k0_t1_loop.trips) : Fin 3 → Nat :=
  let c0_218 : Index := 0#32
  let c0_219 : Index := 0#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v405 : Index := Scalar.indexCast v107
  ![0, 0, v405.toNat]
def k0_off36 (k0_t1 : Fin k0_t1_loop.trips) : Fin 3 → Nat :=
  let c1_220 : Index := 1#32
  let c0_221 : Index := 0#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v410 : Index := Scalar.indexCast v107
  ![1, 0, v410.toNat]
def k0_off37 (k0_t1 : Fin k0_t1_loop.trips) : Fin 2 → Nat :=
  let c0_228 : Index := 0#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v444 : Index := Scalar.indexCast v107
  ![0, v444.toNat]
def k0_off38 (k0_t1 : Fin k0_t1_loop.trips) : Fin 3 → Nat :=
  let c0_232 : Index := 0#32
  let c0_233 : Index := 0#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v455 : Index := Scalar.indexCast v107
  ![0, 0, v455.toNat]
def k0_off39 (k0_t1 : Fin k0_t1_loop.trips) : Fin 2 → Nat :=
  let c64_258 : Index := 64#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v495 : Index := Scalar.indexCast v107
  ![64, v495.toNat]
def k0_off40 (k0_t1 : Fin k0_t1_loop.trips) : Fin 3 → Nat :=
  let c0_262 : Index := 0#32
  let c64_263 : Index := 64#32
  let c0_i32_43 : BitVec 32 := 0#32
  let c1_i32 : BitVec 32 := 1#32
  let arg18 : BitVec 32 := Scf.iv c0_i32_43 c1_i32 k0_t1
  let c1024_i32 : BitVec 32 := 1024#32
  let v106 : BitVec 32 := Scalar.muli arg18 c1024_i32
  let v107 : BitVec 32 := v106
  let v506 : Index := Scalar.indexCast v107
  ![0, 64, v506.toNat]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x1x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FoxIdeal.lean ====
variable {F : FTy → Type} [FloatOps F] [Named F]
def κ : String → Option EReal := fun
  | "ln2" => some ((Real.log 2 : ℝ) : EReal)
  | _ => none
-- ==== FoxRefIdeal.lean ====
abbrev S4096x512 : Shape := ⟨2, ![4096, 512]⟩
abbrev S4096x8 : Shape := ⟨2, ![4096, 8]⟩
abbrev S4096x8x64 : Shape := ⟨3, ![4096, 8, 64]⟩
abbrev S4096 : Shape := ⟨1, ![4096]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S8x4096x64 : Shape := ⟨3, ![8, 4096, 64]⟩

abbrev nBuf : Space → Nat
  | .hbm => 120
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8, .f32⟩
  | .hbm, ⟨4, _⟩ => ⟨S4096x512, .f32⟩
  | .hbm, ⟨5, _⟩ => ⟨S4096x8x64, .f32⟩
  | .hbm, ⟨6, _⟩ => ⟨S4096x8x64, .f32⟩
  | .hbm, ⟨7, _⟩ => ⟨S4096x8x64, .f32⟩
  | .hbm, ⟨8, _⟩ => ⟨S4096, .i32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S8x4096, .f32⟩
  | .hbm, ⟨14, _⟩ => ⟨S8x4096x1, .f32⟩
  | .hbm, ⟨15, _⟩ => ⟨S8x4096x4096, .f32⟩
  | .hbm, ⟨16, _⟩ => ⟨S8x4096x4096, .f32⟩
  | .hbm, ⟨17, _⟩ => ⟨S8x4096, .f32⟩
  | .hbm, ⟨18, _⟩ => ⟨S8x1x4096, .f32⟩
  | .hbm, ⟨19, _⟩ => ⟨S8x4096x4096, .f32⟩
  | .hbm, ⟨20, _⟩ => ⟨S8x4096x4096, .f32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .i1⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S8x4096, .i1⟩
  | .hbm, ⟨47, _⟩ => ⟨S_, .f32⟩
  | .hbm, ⟨48, _⟩ => ⟨S8x4096, .f32⟩
  | .hbm, ⟨49, _⟩ => ⟨S8x4096, .i1⟩
  | .hbm, ⟨50, _⟩ => ⟨S_, .f32⟩
  | .hbm, ⟨51, _⟩ => ⟨S8x4096, .f32⟩
  | .hbm, ⟨52, _⟩ => ⟨S_, .f32⟩
  | .hbm, ⟨53, _⟩ => ⟨S8x4096, .f32⟩
  | .hbm, ⟨54, _⟩ => ⟨S_, .f32⟩
  | .hbm, ⟨55, _⟩ => ⟨S8x4096, .f32⟩
  | .hbm, ⟨56, _⟩ => ⟨S8x4096, .f32⟩
  | .hbm, ⟨57, _⟩ => ⟨S8x4096, .f32⟩
  | .hbm, ⟨58, _⟩ => ⟨S8x4096x1, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S_, .f32⟩
  | .hbm, ⟨63, _⟩ => ⟨S8x4096, .f32⟩
  | .hbm, ⟨64, _⟩ => ⟨S8x4096x1, .f32⟩
  | .hbm, ⟨65, _⟩ => ⟨S8x4096x4096, .f32⟩
  | .hbm, ⟨66, _⟩ => ⟨S8x4096x4096, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x64x4096, .f32⟩
  | .hbm, ⟨72, _⟩ => ⟨S4096x8x64, .f32⟩
  | .hbm, ⟨73, _⟩ => ⟨S4096x512, .f32⟩
  | .hbm, ⟨74, _⟩ => ⟨S4096x8x64, .f32⟩
  | .hbm, ⟨75, _⟩ => ⟨S8x64x4096, .f32⟩
  | .hbm, ⟨76, _⟩ => ⟨S8x4096x4096, .f32⟩
  | .hbm, ⟨77, _⟩ => ⟨S8x64x4096, .f32⟩
  | .hbm, ⟨78, _⟩ => ⟨S4096x8x64, .f32⟩
  | .hbm, ⟨79, _⟩ => ⟨S8x4096x4096, .f32⟩
  | .hbm, ⟨80, _⟩ => ⟨S8x4096x4096, .f32⟩
  | .hbm, ⟨81, _⟩ => ⟨S8x4096x4096, .f32⟩
  | .hbm, ⟨82, _⟩ => ⟨S_, .f32⟩
  | .hbm, ⟨83, _⟩ => ⟨S8x4096, .f32⟩
  | .hbm, ⟨84, _⟩ => ⟨S8x4096x1, .f32⟩
  | .hbm, ⟨85, _⟩ => ⟨S8x4096x1, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096, .f32⟩
  | .hbm, ⟨90, _⟩ => ⟨S8x4096x4096, .f32⟩
  | .hbm, ⟨91, _⟩ => ⟨S8x4096x4096, .f32⟩
  | .hbm, ⟨92, _⟩ => ⟨S8x4096x4096, .f32⟩
  | .hbm, ⟨93, _⟩ => ⟨S_, .f32⟩
  | .hbm, ⟨94, _⟩ => ⟨S8x4096x4096, .f32⟩
  | .hbm, ⟨95, _⟩ => ⟨S8x4096x4096, .f32⟩
  | .hbm, ⟨96, _⟩ => ⟨S8x4096x4096, .f32⟩
  | .hbm, ⟨97, _⟩ => ⟨S_, .f32⟩
  | .hbm, ⟨98, _⟩ => ⟨S8x4096, .f32⟩
  | .hbm, ⟨99, _⟩ => ⟨S8x1x4096, .f32⟩
  | .hbm, ⟨100, _⟩ => ⟨S_, .f32⟩
  | .hbm, ⟨101, _⟩ => ⟨S8x4096, .f32⟩
  | .hbm, ⟨102, _⟩ => ⟨S4096x8, .f32⟩
  | .hbm, ⟨103, _⟩ => ⟨S_, .f32⟩
  | .hbm, ⟨104, _⟩ => ⟨S8x4096, .f32⟩
  | .hbm, ⟨105, _⟩ => ⟨S8x4096x1, .f32⟩
  | .hbm, ⟨106, _⟩ => ⟨S_, .f32⟩
  | .hbm, ⟨107, _⟩ => ⟨S8x4096, .f32⟩
  | .hbm, ⟨108, _⟩ => ⟨S4096x8, .f32⟩
  | .hbm, ⟨109, _⟩ => ⟨S4096x8, .f32⟩
  | .hbm, ⟨110, _⟩ => ⟨S_, .f32⟩
  | .hbm, ⟨111, _⟩ => ⟨S8x4096x4096, .f32⟩
  | .hbm, ⟨112, _⟩ => ⟨S8x4096x4096, .f32⟩
  | .hbm, ⟨113, _⟩ => ⟨S8x4096x64, .f32⟩
  | .hbm, ⟨114, _⟩ => ⟨S4096x8x64, .f32⟩
  | .hbm, ⟨115, _⟩ => ⟨S8x4096x64, .f32⟩
  | .hbm, ⟨116, _⟩ => ⟨S4096x8x64, .f32⟩
  | .hbm, ⟨117, _⟩ => ⟨S4096x512, .f32⟩
  | .hbm, ⟨118, _⟩ => ⟨S4096x512, .f32⟩
  | .hbm, ⟨119, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call1_cst : Ref sig .tc := ⟨.hbm, 93, rfl⟩
abbrev main_call1_v0 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩

abbrev nD : Nat := 1
abbrev τ : Topo := Topo.v7x

variable {F : FTy → Type} [FloatOps F]
-- ==== Mla.lean ====
abbrev S4096x8x64 : Shape := ⟨3, ![4096, 8, 64]⟩
abbrev S4096x8x32 : Shape := ⟨3, ![4096, 8, 32]⟩
abbrev S4096x32 : Shape := ⟨2, ![4096, 32]⟩
abbrev S4096x8x96 : Shape := ⟨3, ![4096, 8, 96]⟩
abbrev S4096x768 : Shape := ⟨2, ![4096, 768]⟩
abbrev S4096x4x2x96 : Shape := ⟨4, ![4096, 4, 2, 96]⟩
abbrev S_ : Shape := ⟨0, ![]⟩
abbrev S4096x4x32 : Shape := ⟨3, ![4096, 4, 32]⟩
abbrev S4096x4x1x32 : Shape := ⟨4, ![4096, 4, 1, 32]⟩
abbrev S4096x4x128 : Shape := ⟨3, ![4096, 4, 128]⟩
abbrev S4096x4x2x64 : Shape := ⟨4, ![4096, 4, 2, 64]⟩
abbrev S4096x512 : Shape := ⟨2, ![4096, 512]⟩
abbrev S4096x1024 : Shape := ⟨2, ![4096, 1024]⟩
abbrev S4096x8x128 : Shape := ⟨3, ![4096, 8, 128]⟩
abbrev S4096x128 : Shape := ⟨2, ![4096, 128]⟩
abbrev S4096x64 : Shape := ⟨2, ![4096, 64]⟩
abbrev S4096 : Shape := ⟨1, ![4096]⟩
abbrev S8x4096x4096 : Shape := ⟨3, ![8, 4096, 4096]⟩
abbrev S4096x4096x8 : Shape := ⟨3, ![4096, 4096, 8]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S4096x8 : Shape := ⟨2, ![4096, 8]⟩
abbrev S4096x112 : Shape := ⟨2, ![4096, 112]⟩
abbrev S4x4096x128 : Shape := ⟨3, ![4, 4096, 128]⟩
abbrev S1x4096x128 : Shape := ⟨3, ![1, 4096, 128]⟩
abbrev S2x128x4096 : Shape := ⟨3, ![2, 128, 4096]⟩
abbrev S128x4096 : Shape := ⟨2, ![128, 4096]⟩
abbrev S2x1024x128 : Shape := ⟨3, ![2, 1024, 128]⟩
abbrev S2x1024x1 : Shape := ⟨3, ![2, 1024, 1]⟩
abbrev S1024x128 : Shape := ⟨2, ![1024, 128]⟩
abbrev S128x1024 : Shape := ⟨2, ![128, 1024]⟩
abbrev S1x128x1024 : Shape := ⟨3, ![1, 128, 1024]⟩
abbrev S1024 : Shape := ⟨1, ![1024]⟩
abbrev S1024x1 : Shape := ⟨2, ![1024, 1]⟩
abbrev S1024x1024 : Shape := ⟨2, ![1024, 1024]⟩
abbrev S64x1024 : Shape := ⟨2, ![64, 1024]⟩
abbrev S1x1024x128 : Shape := ⟨3, ![1, 1024, 128]⟩
abbrev S512x128 : Shape := ⟨2, ![512, 128]⟩
abbrev S512x512 : Shape := ⟨2, ![512, 512]⟩
abbrev S512x1 : Shape := ⟨2, ![512, 1]⟩
abbrev S64x512 : Shape := ⟨2, ![64, 512]⟩
abbrev S1x128x512 : Shape := ⟨3, ![1, 128, 512]⟩
abbrev S128x512 : Shape := ⟨2, ![128, 512]⟩
abbrev S1x512x128 : Shape := ⟨3, ![1, 512, 128]⟩
abbrev S512x1024 : Shape := ⟨2, ![512, 1024]⟩
abbrev S4096x4x2x32 : Shape := ⟨4, ![4096, 4, 2, 32]⟩

abbrev nBuf : Space → Nat
  | .hbm => 156
  | .vmem => 28
  | .smem => 0
  | _ => 0

abbrev hbmTy0_0 (i : Nat) : BufTy := match i % 128 with
  | 0 => ⟨S4096x8x64, .f32⟩
  | 1 => ⟨S4096x8x32, .f32⟩
  | 2 => ⟨S4096x8x64, .f32⟩
  | 3 => ⟨S4096x32, .f32⟩
  | 4 => ⟨S4096x8x64, .f32⟩
  | 5 => ⟨S4096x8x64, .f32⟩
  | 6 => ⟨S4096x8x96, .f32⟩
  | 7 => ⟨S4096x768, .f32⟩
  | 8 => ⟨S4096x4x2x96, .f32⟩
  | 9 => ⟨S_, .f32⟩
  | 10 => ⟨S4096x4x32, .f32⟩
  | 11 => ⟨S4096x4x1x32, .f32⟩
  | 12 => ⟨S4096x4x32, .f32⟩
  | 13 => ⟨S4096x4x1x32, .f32⟩
  | 14 => ⟨S4096x4x32, .f32⟩
  | 15 => ⟨S4096x4x128, .f32⟩
  | 16 => ⟨S4096x4x2x64, .f32⟩
  | 17 => ⟨S4096x512, .f32⟩
  | 18 => ⟨S4096x512, .f32⟩
  | 19 => ⟨S4096x1024, .f32⟩
  | 20 => ⟨S4096x8x128, .f32⟩
  | 21 => ⟨S4096x1024, .f32⟩
  | 22 => ⟨S4096x8x128, .f32⟩
  | 23 => ⟨S4096x8x64, .f32⟩
  | 24 => ⟨S4096x512, .f32⟩
  | 25 => ⟨S4096x8x64, .f32⟩
  | 26 => ⟨S4096x512, .f32⟩
  | 27 => ⟨S4096x1024, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S4096x512, .f32⟩
  | 35 => ⟨S4096x512, .f32⟩
  | 36 => ⟨S4096x512, .f32⟩
  | 37 => ⟨S4096x512, .bf16⟩
  | 38 => ⟨S4096x512, .f32⟩
  | 39 => ⟨S4096x512, .f32⟩
  | 40 => ⟨S4096x512, .f32⟩
  | 41 => ⟨S4096x512, .bf16⟩
  | 42 => ⟨S4096x512, .f32⟩
  | 43 => ⟨S4096x512, .bf16⟩
  | 44 => ⟨S4096x512, .f32⟩
  | 45 => ⟨S4096x512, .bf16⟩
  | 46 => ⟨S_, .i32⟩
  | 47 => ⟨S_, .f32⟩
  | 48 => ⟨S4096x128, .f32⟩
  | 49 => ⟨S4096x64, .f32⟩
  | 50 => ⟨S4096x64, .f32⟩
  | 51 => ⟨S4096x128, .f32⟩
  | 52 => ⟨S4096x128, .f32⟩
  | 53 => ⟨S4096x128, .bf16⟩
  | 54 => ⟨S4096, .i32⟩
  | 55 => ⟨S_, .i32⟩
  | 56 => ⟨S_, .i32⟩
  | 57 => ⟨S4096, .i32⟩
  | 58 => ⟨S4096, .i32⟩
  | 59 => ⟨S4096, .i32⟩
  | 60 => ⟨S_, .i32⟩
  | 61 => ⟨S4096, .i32⟩
  | 62 => ⟨S4096, .i1⟩
  | 63 => ⟨S4096, .i32⟩
  | 64 => ⟨S4096, .i32⟩
  | 65 => ⟨S_, .i32⟩
  | 66 => ⟨S4096, .i32⟩
  | 67 => ⟨S4096, .i1⟩
  | 68 => ⟨S4096, .i1⟩
  | 69 => ⟨S_, .i32⟩
  | 70 => ⟨S4096, .i32⟩
  | 71 => ⟨S4096, .i32⟩
  | 72 => ⟨S4096, .i32⟩
  | 73 => ⟨S8x4096x4096, .f32⟩
  | 74 => ⟨S4096x4096x8, .f32⟩
  | 75 => ⟨S8x4096x4096, .f32⟩
  | 76 => ⟨S8x4096x4096, .f32⟩
  | 77 => ⟨S1x4096, .i32⟩
  | 78 => ⟨S4096x1, .i32⟩
  | 79 => ⟨S4096x4096, .i32⟩
  | 80 => ⟨S4096x4096, .i32⟩
  | 81 => ⟨S4096x4096, .i1⟩
  | 82 => ⟨S_, .f32⟩
  | 83 => ⟨S8x4096x4096, .f32⟩
  | 84 => ⟨S8x4096x4096, .f32⟩
  | 85 => ⟨S_, .f32⟩
  | 86 => ⟨S_, .f32⟩
  | 87 => ⟨S8x4096x4096, .i1⟩
  | 88 => ⟨S8x4096x4096, .f32⟩
  | 89 => ⟨S8x4096x4096, .f32⟩
  | 90 => ⟨S_, .f32⟩
  | 91 => ⟨S8x4096, .f32⟩
  | 92 => ⟨S8x4096x1, .f32⟩
  | 93 => ⟨S8x4096x4096, .f32⟩
  | 94 => ⟨S8x4096x4096, .f32⟩
  | 95 => ⟨S8x4096x4096, .f32⟩
  | 96 => ⟨S_, .f32⟩
  | 97 => ⟨S8x4096, .f32⟩
  | 98 => ⟨S8x4096x1, .f32⟩
  | 99 => ⟨S8x4096x1, .f32⟩
  | 100 => ⟨S8x4096x1, .f32⟩
  | 101 => ⟨S8x4096x1, .f32⟩
  | 102 => ⟨S8x4096x1, .f32⟩
  | 103 => ⟨S8x4096, .f32⟩
  | 104 => ⟨S8x4096x4096, .f32⟩
  | 105 => ⟨S8x4096x4096, .f32⟩
  | 106 => ⟨S8x64x4096, .f32⟩
  | 107 => ⟨S4096x8x64, .f32⟩
  | 108 => ⟨S4096x8x64, .f32⟩
  | 109 => ⟨S_, .f32⟩
  | 110 => ⟨S4096x8, .f32⟩
  | 111 => ⟨S4096x8, .f32⟩
  | 112 => ⟨S4096x8, .f32⟩
  | 113 => ⟨S_, .f32⟩
  | 114 => ⟨S4096x112, .f32⟩
  | 115 => ⟨S4096x128, .f32⟩
  | 116 => ⟨S4096x512, .f32⟩
  | 117 => ⟨S4096x512, .bf16⟩
  | 118 => ⟨S4096x512, .bf16⟩
  | 119 => ⟨S4096x512, .bf16⟩
  | 120 => ⟨S4096x512, .bf16⟩
  | 121 => ⟨S4096x512, .f32⟩
  | 122 => ⟨S4x4096x128, .f32⟩
  | 123 => ⟨S1x4096x128, .f32⟩
  | 124 => ⟨S4096x128, .f32⟩
  | 125 => ⟨S1x4096x128, .f32⟩
  | 126 => ⟨S4096x128, .f32⟩
  | 127 => ⟨S4096x128, .f32⟩
  | _ => ⟨S4096x8x64, .f32⟩

abbrev hbmTy0_1 (i : Nat) : BufTy := match i % 128 with
  | 0 => ⟨S1x4096x128, .f32⟩
  | 1 => ⟨S4096x128, .f32⟩
  | 2 => ⟨S4096x128, .f32⟩
  | 3 => ⟨S1x4096x128, .f32⟩
  | 4 => ⟨S4096x128, .f32⟩
  | 5 => ⟨S4096x128, .f32⟩
  | 6 => ⟨S4096x512, .f32⟩
  | 7 => ⟨S4096x1024, .f32⟩
  | 8 => ⟨S4096x512, .f32⟩
  | 9 => ⟨S4096x4x2x64, .f32⟩
  | 10 => ⟨S4096x512, .f32⟩
  | 11 => ⟨S4096x4x2x64, .f32⟩
  | 12 => ⟨S4096x4x2x32, .f32⟩
  | 13 => ⟨S4096x4x2x32, .f32⟩
  | 14 => ⟨S4096x4x2x96, .f32⟩
  | 15 => ⟨S4096x768, .f32⟩
  | 16 => ⟨S4096x8x96, .f32⟩
  | 17 => ⟨S4096x64, .f32⟩
  | 18 => ⟨S4096x64, .f32⟩
  | 19 => ⟨S4096x128, .f32⟩
  | 20 => ⟨S4096x128, .f32⟩
  | 21 => ⟨S4096x8x64, .f32⟩
  | 22 => ⟨S4096x8x32, .f32⟩
  | 23 => ⟨S4096x512, .f32⟩
  | 24 => ⟨S4096x8x64, .f32⟩
  | 25 => ⟨S4096x32, .f32⟩
  | 26 => ⟨S4096x512, .f32⟩
  | 27 => ⟨S4096x8x64, .f32⟩
  | _ => ⟨S4096x8x64, .f32⟩

abbrev hbmTy (i : Nat) : BufTy := match i / 128 with
  | 0 => hbmTy0_0 i
  | 1 => hbmTy0_1 i
  | _ => ⟨S4096x8x64, .f32⟩

abbrev bufTy : (tb : Table) → Fin (tcTables nBuf tb) → BufTy
  | .hbm, ⟨i, _⟩ => hbmTy i
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .f32⟩
  | .local _ .vmem, ⟨19, _⟩ => ⟨S4096x128, .f32⟩
  | .local _ .vmem, ⟨20, _⟩ => ⟨S1x4096x128, .f32⟩
  | .local _ .vmem, ⟨21, _⟩ => ⟨S1x4096x128, .f32⟩
  | .local _ .vmem, ⟨22, _⟩ => ⟨S2x128x4096, .bf16⟩
  | .local _ .vmem, ⟨23, _⟩ => ⟨S128x4096, .bf16⟩
  | .local _ .vmem, ⟨24, _⟩ => ⟨S2x128x4096, .f32⟩
  | .local _ .vmem, ⟨25, _⟩ => ⟨S128x4096, .f32⟩
  | .local _ .vmem, ⟨26, _⟩ => ⟨S2x1024x128, .f32⟩
  | .local _ .vmem, ⟨27, _⟩ => ⟨S2x1024x1, .f32⟩
  | _, _ => ⟨S4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c : Ref sig .tc := ⟨.hbm, 46, rfl⟩
abbrev main_call0_v0 : Ref sig .tc := ⟨.hbm, 47, rfl⟩
abbrev main_v36 : Ref sig .tc := ⟨.hbm, 48, rfl⟩
abbrev main_call1_v0 : Ref sig .tc := ⟨.hbm, 49, rfl⟩
abbrev main_call1_v1 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_3 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_c : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_c_0 : Ref sig .tc := ⟨.hbm, 69, rfl⟩
abbrev main_call2_v12 : Ref sig .tc := ⟨.hbm, 70, rfl⟩
abbrev main_call2_v13 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_4 : Ref sig .tc := ⟨.hbm, 82, rfl⟩
abbrev main_v51 : Ref sig .tc := ⟨.hbm, 83, rfl⟩
abbrev main_v52 : Ref sig .tc := ⟨.hbm, 84, rfl⟩
abbrev main_cst_5 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v53 : Ref sig .tc := ⟨.hbm, 89, rfl⟩
abbrev main_cst_6 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_7 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_8 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_9 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78_0 : Ref sig .tc := ⟨.hbm, 118, rfl⟩
abbrev main_v78_1 : Ref sig .tc := ⟨.hbm, 119, rfl⟩
abbrev main_v78_2 : Ref sig .tc := ⟨.hbm, 120, rfl⟩
abbrev main_v78_3 : Ref sig .tc := ⟨.hbm, 121, rfl⟩
abbrev main_v78_4 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_call4_v0 : Ref sig .tc := ⟨.hbm, 145, rfl⟩
abbrev main_call4_v1 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_86 : BitVec 32 := 0#32
  let c4_i32 : BitVec 32 := 4#32
  let v152 : BitVec 32 := Scalar.addi c0_i32_86 c4_i32
  let c1_i32 : BitVec 32 := 1#32
  ⟨c0_i32_86, v152, c1_i32⟩
def k0_mult1 (k0_t1 : Fin k0_t1_loop.trips) : BitVec 32 :=
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  v249
def k0_off1 (k0_t1 : Fin k0_t1_loop.trips) : Fin 2 → Nat :=
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let v251 : Index := Scalar.indexCast v250
  let c0_160 : Index := 0#32
  ![v251.toNat, 0]
@[reducible] def k0_t2_loop (k0_t1 : Fin k0_t1_loop.trips) : Scf.Loop 32 :=
  let c0_i32_195 : BitVec 32 := 0#32
  let c0_i32_86 : BitVec 32 := 0#32
  let c1_i32 : BitVec 32 := 1#32
  let arg19 : BitVec 32 := Scf.iv c0_i32_86 c1_i32 k0_t1
  let v332 : BitVec 32 := Scalar.subi arg19 c0_i32_195
  let c1_i32_196 : BitVec 32 := 1#32
  let v334 : BitVec 32 := Scalar.divsi v332 c1_i32_196
  let v335 : BitVec 32 := Scalar.muli v334 c1_i32_196
  let v336 : BitVec 32 := Scalar.addi c0_i32_195 v335
  let c1_i32_197 : BitVec 32 := 1#32
  ⟨c0_i32_195, v336, c1_i32_197⟩
def k0_mult2 (k0_t1 : Fin k0_t1_loop.trips) (k0_t2 : Fin (k0_t2_loop k0_t1).trips) : BitVec 32 :=
  let c0_i32_195 : BitVec 32 := 0#32
  let c1_i32_197 : BitVec 32 := 1#32
  let arg20 : BitVec 32 := Scf.iv c0_i32_195 c1_i32_197 k0_t2
  let c1024_i32_373 : BitVec 32 := 1024#32
  let v800 : BitVec 32 := Scalar.muli arg20 c1024_i32_373
  v800
def k0_off2 (k0_t1 : Fin k0_t1_loop.trips) (k0_t2 : Fin (k0_t2_loop k0_t1).trips) : Fin 2 → Nat :=
  let c0_i32_195 : BitVec 32 := 0#32
  let c1_i32_197 : BitVec 32 := 1#32
  let arg20 : BitVec 32 := Scf.iv c0_i32_195 c1_i32_197 k0_t2
  let c1024_i32_373 : BitVec 32 := 1024#32
  let v800 : BitVec 32 := Scalar.muli arg20 c1024_i32_373
  let v801 : BitVec 32 := v800
  let v802 : Index := Scalar.indexCast v801
  let c0_374 : Index := 0#32
  ![v802.toNat, 0]
def k0_mult3 (k0_t1 : Fin k0_t1_loop.trips) : BitVec 32 :=
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let c0_i32_381 : BitVec 32 := 0#32
  let v825 : BitVec 32 := Scalar.addi v250 c0_i32_381
  v825
def k0_off3 (k0_t1 : Fin k0_t1_loop.trips) (k0_t2 : Fin (k0_t2_loop k0_t1).trips) : Fin 2 → Nat :=
  let c0_386 : Index := 0#32
  let c0_i32_195 : BitVec 32 := 0#32
  let c1_i32_197 : BitVec 32 := 1#32
  let arg20 : BitVec 32 := Scf.iv c0_i32_195 c1_i32_197 k0_t2
  let c1024_i32_373 : BitVec 32 := 1024#32
  let v800 : BitVec 32 := Scalar.muli arg20 c1024_i32_373
  let v801 : BitVec 32 := v800
  let v844 : Index := Scalar.indexCast v801
  ![0, v844.toNat]
def k0_off4 (k0_t1 : Fin k0_t1_loop.trips) : Fin 2 → Nat :=
  let c0_387 : Index := 0#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let c0_i32_381 : BitVec 32 := 0#32
  let v825 : BitVec 32 := Scalar.addi v250 c0_i32_381
  let v826 : BitVec 32 := v825
  let v846 : Index := Scalar.indexCast v826
  ![0, v846.toNat]
def k0_off5 (k0_t1 : Fin k0_t1_loop.trips) (k0_t2 : Fin (k0_t2_loop k0_t1).trips) : Fin 3 → Nat :=
  let c0_390 : Index := 0#32
  let c0_391 : Index := 0#32
  let c0_i32_195 : BitVec 32 := 0#32
  let c1_i32_197 : BitVec 32 := 1#32
  let arg20 : BitVec 32 := Scf.iv c0_i32_195 c1_i32_197 k0_t2
  let c1024_i32_373 : BitVec 32 := 1024#32
  let v800 : BitVec 32 := Scalar.muli arg20 c1024_i32_373
  let v801 : BitVec 32 := v800
  let v855 : Index := Scalar.indexCast v801
  ![0, 0, v855.toNat]
def k0_off6 (k0_t1 : Fin k0_t1_loop.trips) : Fin 3 → Nat :=
  let c0_392 : Index := 0#32
  let c0_393 : Index := 0#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let c0_i32_381 : BitVec 32 := 0#32
  let v825 : BitVec 32 := Scalar.addi v250 c0_i32_381
  let v826 : BitVec 32 := v825
  let v858 : Index := Scalar.indexCast v826
  ![0, 0, v858.toNat]
def k0_off7 (k0_t1 : Fin k0_t1_loop.trips) (k0_t2 : Fin (k0_t2_loop k0_t1).trips) : Fin 2 → Nat :=
  let c64_404 : Index := 64#32
  let c0_i32_195 : BitVec 32 := 0#32
  let c1_i32_197 : BitVec 32 := 1#32
  let arg20 : BitVec 32 := Scf.iv c0_i32_195 c1_i32_197 k0_t2
  let c1024_i32_373 : BitVec 32 := 1024#32
  let v800 : BitVec 32 := Scalar.muli arg20 c1024_i32_373
  let v801 : BitVec 32 := v800
  let v875 : Index := Scalar.indexCast v801
  ![64, v875.toNat]
def k0_off8 (k0_t1 : Fin k0_t1_loop.trips) : Fin 2 → Nat :=
  let c64_405 : Index := 64#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let c0_i32_381 : BitVec 32 := 0#32
  let v825 : BitVec 32 := Scalar.addi v250 c0_i32_381
  let v826 : BitVec 32 := v825
  let v877 : Index := Scalar.indexCast v826
  ![64, v877.toNat]
def k0_off9 (k0_t1 : Fin k0_t1_loop.trips) (k0_t2 : Fin (k0_t2_loop k0_t1).trips) : Fin 3 → Nat :=
  let c1_408 : Index := 1#32
  let c0_409 : Index := 0#32
  let c0_i32_195 : BitVec 32 := 0#32
  let c1_i32_197 : BitVec 32 := 1#32
  let arg20 : BitVec 32 := Scf.iv c0_i32_195 c1_i32_197 k0_t2
  let c1024_i32_373 : BitVec 32 := 1024#32
  let v800 : BitVec 32 := Scalar.muli arg20 c1024_i32_373
  let v801 : BitVec 32 := v800
  let v886 : Index := Scalar.indexCast v801
  ![1, 0, v886.toNat]
def k0_off10 (k0_t1 : Fin k0_t1_loop.trips) : Fin 3 → Nat :=
  let c1_410 : Index := 1#32
  let c0_411 : Index := 0#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let c0_i32_381 : BitVec 32 := 0#32
  let v825 : BitVec 32 := Scalar.addi v250 c0_i32_381
  let v826 : BitVec 32 := v825
  let v889 : Index := Scalar.indexCast v826
  ![1, 0, v889.toNat]
@[reducible] def k0_t3_loop (k0_t1 : Fin k0_t1_loop.trips) : Scf.Loop 32 :=
  let c0_i32_195 : BitVec 32 := 0#32
  let c0_i32_86 : BitVec 32 := 0#32
  let c1_i32 : BitVec 32 := 1#32
  let arg19 : BitVec 32 := Scf.iv c0_i32_86 c1_i32 k0_t1
  let v332 : BitVec 32 := Scalar.subi arg19 c0_i32_195
  let c1_i32_196 : BitVec 32 := 1#32
  let v334 : BitVec 32 := Scalar.divsi v332 c1_i32_196
  let v335 : BitVec 32 := Scalar.muli v334 c1_i32_196
  let v336 : BitVec 32 := Scalar.addi c0_i32_195 v335
  let v333 : BitVec 32 := Scalar.addi c0_i32_195 v332
  let c1_i32_198 : BitVec 32 := 1#32
  ⟨v336, v333, c1_i32_198⟩
def k0_mult4 (k0_t1 : Fin k0_t1_loop.trips) (k0_t3 : Fin (k0_t3_loop k0_t1).trips) : BitVec 32 :=
  let c0_i32_195 : BitVec 32 := 0#32
  let c0_i32_86 : BitVec 32 := 0#32
  let c1_i32 : BitVec 32 := 1#32
  let arg19 : BitVec 32 := Scf.iv c0_i32_86 c1_i32 k0_t1
  let v332 : BitVec 32 := Scalar.subi arg19 c0_i32_195
  let c1_i32_196 : BitVec 32 := 1#32
  let v334 : BitVec 32 := Scalar.divsi v332 c1_i32_196
  let v335 : BitVec 32 := Scalar.muli v334 c1_i32_196
  let v336 : BitVec 32 := Scalar.addi c0_i32_195 v335
  let c1_i32_198 : BitVec 32 := 1#32
  let arg20 : BitVec 32 := Scf.iv v336 c1_i32_198 k0_t3
  let c1024_i32_373 : BitVec 32 := 1024#32
  let v800 : BitVec 32 := Scalar.muli arg20 c1024_i32_373
  v800
def k0_off11 (k0_t1 : Fin k0_t1_loop.trips) (k0_t3 : Fin (k0_t3_loop k0_t1).trips) : Fin 2 → Nat :=
  let c0_i32_195 : BitVec 32 := 0#32
  let c0_i32_86 : BitVec 32 := 0#32
  let c1_i32 : BitVec 32 := 1#32
  let arg19 : BitVec 32 := Scf.iv c0_i32_86 c1_i32 k0_t1
  let v332 : BitVec 32 := Scalar.subi arg19 c0_i32_195
  let c1_i32_196 : BitVec 32 := 1#32
  let v334 : BitVec 32 := Scalar.divsi v332 c1_i32_196
  let v335 : BitVec 32 := Scalar.muli v334 c1_i32_196
  let v336 : BitVec 32 := Scalar.addi c0_i32_195 v335
  let c1_i32_198 : BitVec 32 := 1#32
  let arg20 : BitVec 32 := Scf.iv v336 c1_i32_198 k0_t3
  let c1024_i32_373 : BitVec 32 := 1024#32
  let v800 : BitVec 32 := Scalar.muli arg20 c1024_i32_373
  let v801 : BitVec 32 := v800
  let v802 : Index := Scalar.indexCast v801
  let c0_374 : Index := 0#32
  ![v802.toNat, 0]
def k0_mult5 (k0_t1 : Fin k0_t1_loop.trips) : BitVec 32 :=
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let c0_i32_381 : BitVec 32 := 0#32
  let v825 : BitVec 32 := Scalar.addi v250 c0_i32_381
  v825
def k0_off12 (k0_t1 : Fin k0_t1_loop.trips) (k0_t3 : Fin (k0_t3_loop k0_t1).trips) : Fin 2 → Nat :=
  let c0_386 : Index := 0#32
  let c0_i32_195 : BitVec 32 := 0#32
  let c0_i32_86 : BitVec 32 := 0#32
  let c1_i32 : BitVec 32 := 1#32
  let arg19 : BitVec 32 := Scf.iv c0_i32_86 c1_i32 k0_t1
  let v332 : BitVec 32 := Scalar.subi arg19 c0_i32_195
  let c1_i32_196 : BitVec 32 := 1#32
  let v334 : BitVec 32 := Scalar.divsi v332 c1_i32_196
  let v335 : BitVec 32 := Scalar.muli v334 c1_i32_196
  let v336 : BitVec 32 := Scalar.addi c0_i32_195 v335
  let c1_i32_198 : BitVec 32 := 1#32
  let arg20 : BitVec 32 := Scf.iv v336 c1_i32_198 k0_t3
  let c1024_i32_373 : BitVec 32 := 1024#32
  let v800 : BitVec 32 := Scalar.muli arg20 c1024_i32_373
  let v801 : BitVec 32 := v800
  let v844 : Index := Scalar.indexCast v801
  ![0, v844.toNat]
def k0_off13 (k0_t1 : Fin k0_t1_loop.trips) : Fin 2 → Nat :=
  let c0_387 : Index := 0#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let c0_i32_381 : BitVec 32 := 0#32
  let v825 : BitVec 32 := Scalar.addi v250 c0_i32_381
  let v826 : BitVec 32 := v825
  let v846 : Index := Scalar.indexCast v826
  ![0, v846.toNat]
def k0_off14 (k0_t1 : Fin k0_t1_loop.trips) (k0_t3 : Fin (k0_t3_loop k0_t1).trips) : Fin 3 → Nat :=
  let c0_390 : Index := 0#32
  let c0_391 : Index := 0#32
  let c0_i32_195 : BitVec 32 := 0#32
  let c0_i32_86 : BitVec 32 := 0#32
  let c1_i32 : BitVec 32 := 1#32
  let arg19 : BitVec 32 := Scf.iv c0_i32_86 c1_i32 k0_t1
  let v332 : BitVec 32 := Scalar.subi arg19 c0_i32_195
  let c1_i32_196 : BitVec 32 := 1#32
  let v334 : BitVec 32 := Scalar.divsi v332 c1_i32_196
  let v335 : BitVec 32 := Scalar.muli v334 c1_i32_196
  let v336 : BitVec 32 := Scalar.addi c0_i32_195 v335
  let c1_i32_198 : BitVec 32 := 1#32
  let arg20 : BitVec 32 := Scf.iv v336 c1_i32_198 k0_t3
  let c1024_i32_373 : BitVec 32 := 1024#32
  let v800 : BitVec 32 := Scalar.muli arg20 c1024_i32_373
  let v801 : BitVec 32 := v800
  let v855 : Index := Scalar.indexCast v801
  ![0, 0, v855.toNat]
def k0_off15 (k0_t1 : Fin k0_t1_loop.trips) : Fin 3 → Nat :=
  let c0_392 : Index := 0#32
  let c0_393 : Index := 0#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let c0_i32_381 : BitVec 32 := 0#32
  let v825 : BitVec 32 := Scalar.addi v250 c0_i32_381
  let v826 : BitVec 32 := v825
  let v858 : Index := Scalar.indexCast v826
  ![0, 0, v858.toNat]
def k0_off16 (k0_t1 : Fin k0_t1_loop.trips) (k0_t3 : Fin (k0_t3_loop k0_t1).trips) : Fin 2 → Nat :=
  let c64_404 : Index := 64#32
  let c0_i32_195 : BitVec 32 := 0#32
  let c0_i32_86 : BitVec 32 := 0#32
  let c1_i32 : BitVec 32 := 1#32
  let arg19 : BitVec 32 := Scf.iv c0_i32_86 c1_i32 k0_t1
  let v332 : BitVec 32 := Scalar.subi arg19 c0_i32_195
  let c1_i32_196 : BitVec 32 := 1#32
  let v334 : BitVec 32 := Scalar.divsi v332 c1_i32_196
  let v335 : BitVec 32 := Scalar.muli v334 c1_i32_196
  let v336 : BitVec 32 := Scalar.addi c0_i32_195 v335
  let c1_i32_198 : BitVec 32 := 1#32
  let arg20 : BitVec 32 := Scf.iv v336 c1_i32_198 k0_t3
  let c1024_i32_373 : BitVec 32 := 1024#32
  let v800 : BitVec 32 := Scalar.muli arg20 c1024_i32_373
  let v801 : BitVec 32 := v800
  let v875 : Index := Scalar.indexCast v801
  ![64, v875.toNat]
def k0_off17 (k0_t1 : Fin k0_t1_loop.trips) : Fin 2 → Nat :=
  let c64_405 : Index := 64#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let c0_i32_381 : BitVec 32 := 0#32
  let v825 : BitVec 32 := Scalar.addi v250 c0_i32_381
  let v826 : BitVec 32 := v825
  let v877 : Index := Scalar.indexCast v826
  ![64, v877.toNat]
def k0_off18 (k0_t1 : Fin k0_t1_loop.trips) (k0_t3 : Fin (k0_t3_loop k0_t1).trips) : Fin 3 → Nat :=
  let c1_408 : Index := 1#32
  let c0_409 : Index := 0#32
  let c0_i32_195 : BitVec 32 := 0#32
  let c0_i32_86 : BitVec 32 := 0#32
  let c1_i32 : BitVec 32 := 1#32
  let arg19 : BitVec 32 := Scf.iv c0_i32_86 c1_i32 k0_t1
  let v332 : BitVec 32 := Scalar.subi arg19 c0_i32_195
  let c1_i32_196 : BitVec 32 := 1#32
  let v334 : BitVec 32 := Scalar.divsi v332 c1_i32_196
  let v335 : BitVec 32 := Scalar.muli v334 c1_i32_196
  let v336 : BitVec 32 := Scalar.addi c0_i32_195 v335
  let c1_i32_198 : BitVec 32 := 1#32
  let arg20 : BitVec 32 := Scf.iv v336 c1_i32_198 k0_t3
  let c1024_i32_373 : BitVec 32 := 1024#32
  let v800 : BitVec 32 := Scalar.muli arg20 c1024_i32_373
  let v801 : BitVec 32 := v800
  let v886 : Index := Scalar.indexCast v801
  ![1, 0, v886.toNat]
def k0_off19 (k0_t1 : Fin k0_t1_loop.trips) : Fin 3 → Nat :=
  let c1_410 : Index := 1#32
  let c0_411 : Index := 0#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let c0_i32_381 : BitVec 32 := 0#32
  let v825 : BitVec 32 := Scalar.addi v250 c0_i32_381
  let v826 : BitVec 32 := v825
  let v889 : Index := Scalar.indexCast v826
  ![1, 0, v889.toNat]
def k0_off20 (k0_t1 : Fin k0_t1_loop.trips) : Fin 2 → Nat :=
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let v337 : Index := Scalar.indexCast v250
  let c0_199 : Index := 0#32
  ![v337.toNat, 0]
def k0_mult6 (k0_t1 : Fin k0_t1_loop.trips) : BitVec 32 :=
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let c0_i32_206 : BitVec 32 := 0#32
  let v360 : BitVec 32 := Scalar.addi v250 c0_i32_206
  v360
def k0_off21 (k0_t1 : Fin k0_t1_loop.trips) : Fin 2 → Nat :=
  let c0_243 : Index := 0#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let v497 : Index := Scalar.indexCast v250
  ![0, v497.toNat]
def k0_off22 (k0_t1 : Fin k0_t1_loop.trips) (c0_i32_206 : BitVec 32) : Fin 2 → Nat :=
  let c0_244 : Index := 0#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let v360 : BitVec 32 := Scalar.addi v250 c0_i32_206
  let v361 : BitVec 32 := v360
  let v499 : Index := Scalar.indexCast v361
  ![0, v499.toNat]
def k0_off23 (k0_t1 : Fin k0_t1_loop.trips) : Fin 3 → Nat :=
  let c0_247 : Index := 0#32
  let c0_248 : Index := 0#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let v508 : Index := Scalar.indexCast v250
  ![0, 0, v508.toNat]
def k0_off24 (k0_t1 : Fin k0_t1_loop.trips) (c0_i32_206 : BitVec 32) : Fin 3 → Nat :=
  let c0_249 : Index := 0#32
  let c0_250 : Index := 0#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let v360 : BitVec 32 := Scalar.addi v250 c0_i32_206
  let v361 : BitVec 32 := v360
  let v511 : Index := Scalar.indexCast v361
  ![0, 0, v511.toNat]
def k0_off25 (k0_t1 : Fin k0_t1_loop.trips) : Fin 2 → Nat :=
  let c64 : Index := 64#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let v528 : Index := Scalar.indexCast v250
  ![64, v528.toNat]
def k0_off26 (k0_t1 : Fin k0_t1_loop.trips) (c0_i32_206 : BitVec 32) : Fin 2 → Nat :=
  let c64_261 : Index := 64#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let v360 : BitVec 32 := Scalar.addi v250 c0_i32_206
  let v361 : BitVec 32 := v360
  let v530 : Index := Scalar.indexCast v361
  ![64, v530.toNat]
def k0_off27 (k0_t1 : Fin k0_t1_loop.trips) : Fin 3 → Nat :=
  let c1_264 : Index := 1#32
  let c0_265 : Index := 0#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let v539 : Index := Scalar.indexCast v250
  ![1, 0, v539.toNat]
def k0_off28 (k0_t1 : Fin k0_t1_loop.trips) (c0_i32_206 : BitVec 32) : Fin 3 → Nat :=
  let c1_266 : Index := 1#32
  let c0_267 : Index := 0#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let v360 : BitVec 32 := Scalar.addi v250 c0_i32_206
  let v361 : BitVec 32 := v360
  let v542 : Index := Scalar.indexCast v361
  ![1, 0, v542.toNat]
def k0_mult7 (k0_t1 : Fin k0_t1_loop.trips) : BitVec 32 :=
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let c512_i32 : BitVec 32 := 512#32
  let v581 : BitVec 32 := Scalar.addi v250 c512_i32
  v581
def k0_off29 (k0_t1 : Fin k0_t1_loop.trips) : Fin 2 → Nat :=
  let c0_321 : Index := 0#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let v718 : Index := Scalar.indexCast v250
  ![0, v718.toNat]
def k0_off30 (k0_t1 : Fin k0_t1_loop.trips) : Fin 3 → Nat :=
  let c0_325 : Index := 0#32
  let c0_326 : Index := 0#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let v729 : Index := Scalar.indexCast v250
  ![0, 0, v729.toNat]
def k0_off31 (k0_t1 : Fin k0_t1_loop.trips) : Fin 2 → Nat :=
  let c64_338 : Index := 64#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let v749 : Index := Scalar.indexCast v250
  ![64, v749.toNat]
def k0_off32 (k0_t1 : Fin k0_t1_loop.trips) : Fin 3 → Nat :=
  let c1_342 : Index := 1#32
  let c0_343 : Index := 0#32
  let c0_i32_86 : BitVec 32 := 0#32
  let c1_i32 : BitVec 32 := 1#32
  let arg19 : BitVec 32 := Scf.iv c0_i32_86 c1_i32 k0_t1
  let c1024_i32 : BitVec 32 := 1024#32
  let v249 : BitVec 32 := Scalar.muli arg19 c1024_i32
  let v250 : BitVec 32 := v249
  let v760 : Index := Scalar.indexCast v250
  ![1, 0, v760.toNat]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MlaIdeal.lean ====
variable {F : FTy → Type} [FloatOps F] [Named F]
def κ : String → Option EReal := fun
  | "ln2" => some ((Real.log 2 : ℝ) : EReal)
  | _ => none
-- ==== MlaRefIdeal.lean ====
abbrev S4096x8x64 : Shape := ⟨3, ![4096, 8, 64]⟩
abbrev S4096x8x32 : Shape := ⟨3, ![4096, 8, 32]⟩
abbrev S4096x32 : Shape := ⟨2, ![4096, 32]⟩
abbrev S4096 : Shape := ⟨1, ![4096]⟩
abbrev S_ : Shape := ⟨0, ![]⟩
abbrev S8x4096x4096 : Shape := ⟨3, ![8, 4096, 4096]⟩
abbrev S4096x4096x8 : Shape := ⟨3, ![4096, 4096, 8]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x64 : Shape := ⟨3, ![8, 4096, 64]⟩

abbrev nBuf : Space → Nat
  | .hbm => 115
  | .vmem => 0
  | .smem => 0
  | _ => 0

abbrev bufTy : (tb : Table) → Fin (tcTables nBuf tb) → BufTy
  | .hbm, ⟨0, _⟩ => ⟨S4096x8x64, .f32⟩
  | .hbm, ⟨1, _⟩ => ⟨S4096x8x32, .f32⟩
  | .hbm, ⟨2, _⟩ => ⟨S4096x8x64, .f32⟩
  | .hbm, ⟨3, _⟩ => ⟨S4096x32, .f32⟩
  | .hbm, ⟨4, _⟩ => ⟨S4096x8x64, .f32⟩
  | .hbm, ⟨5, _⟩ => ⟨S4096x8x64, .f32⟩
  | .hbm, ⟨6, _⟩ => ⟨S4096, .i32⟩
  | .hbm, ⟨7, _⟩ => ⟨S_, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4096, .i32⟩
  | .hbm, ⟨25, _⟩ => ⟨S8x4096x4096, .f32⟩
  | .hbm, ⟨26, _⟩ => ⟨S4096x4096x8, .f32⟩
  | .hbm, ⟨27, _⟩ => ⟨S8x4096x4096, .f32⟩
  | .hbm, ⟨28, _⟩ => ⟨S8x4096x4096, .f32⟩
  | .hbm, ⟨29, _⟩ => ⟨S1x4096, .i32⟩
  | .hbm, ⟨30, _⟩ => ⟨S4096x1, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S_, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S_, .f32⟩
  | .hbm, ⟨39, _⟩ => ⟨S8x4096x4096, .i1⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .i1⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S_, .f32⟩
  | .hbm, ⟨53, _⟩ => ⟨S8x4096, .f32⟩
  | .hbm, ⟨54, _⟩ => ⟨S8x4096, .f32⟩
  | .hbm, ⟨55, _⟩ => ⟨S_, .f32⟩
  | .hbm, ⟨56, _⟩ => ⟨S8x4096, .f32⟩
  | .hbm, ⟨57, _⟩ => ⟨S8x4096, .i1⟩
  | .hbm, ⟨58, _⟩ => ⟨S_, .f32⟩
  | .hbm, ⟨59, _⟩ => ⟨S8x4096, .f32⟩
  | .hbm, ⟨60, _⟩ => ⟨S8x4096, .i1⟩
  | .hbm, ⟨61, _⟩ => ⟨S_, .f32⟩
  | .hbm, ⟨62, _⟩ => ⟨S8x4096, .f32⟩
  | .hbm, ⟨63, _⟩ => ⟨S_, .f32⟩
  | .hbm, ⟨64, _⟩ => ⟨S8x4096, .f32⟩
  | .hbm, ⟨65, _⟩ => ⟨S_, .f32⟩
  | .hbm, ⟨66, _⟩ => ⟨S8x4096, .f32⟩
  | .hbm, ⟨67, _⟩ => ⟨S8x4096, .f32⟩
  | .hbm, ⟨68, _⟩ => ⟨S8x4096, .f32⟩
  | .hbm, ⟨69, _⟩ => ⟨S8x4096x1, .f32⟩
  | .hbm, ⟨70, _⟩ => ⟨S8x4096x4096, .f32⟩
  | .hbm, ⟨71, _⟩ => ⟨S8x4096x4096, .f32⟩
  | .hbm, ⟨72, _⟩ => ⟨S8x4096x4096, .f32⟩
  | .hbm, ⟨73, _⟩ => ⟨S_, .f32⟩
  | .hbm, ⟨74, _⟩ => ⟨S8x4096, .f32⟩
  | .hbm, ⟨75, _⟩ => ⟨S8x4096x1, .f32⟩
  | .hbm, ⟨76, _⟩ => ⟨S8x4096x4096, .f32⟩
  | .hbm, ⟨77, _⟩ => ⟨S8x4096x4096, .f32⟩
  | .hbm, ⟨78, _⟩ => ⟨S8x4096x1, .f32⟩
  | .hbm, ⟨79, _⟩ => ⟨S_, .f32⟩
  | .hbm, ⟨80, _⟩ => ⟨S8x4096x1, .f32⟩
  | .hbm, ⟨81, _⟩ => ⟨S8x4096x1, .f32⟩
  | .hbm, ⟨82, _⟩ => ⟨S8x64x4096, .f32⟩
  | .hbm, ⟨83, _⟩ => ⟨S4096x8x64, .f32⟩
  | .hbm, ⟨84, _⟩ => ⟨S8x64x4096, .f32⟩
  | .hbm, ⟨85, _⟩ => ⟨S8x4096x4096, .f32⟩
  | .hbm, ⟨86, _⟩ => ⟨S8x64x4096, .f32⟩
  | .hbm, ⟨87, _⟩ => ⟨S4096x8x64, .f32⟩
  | .hbm, ⟨88, _⟩ => ⟨S8x4096x4096, .f32⟩
  | .hbm, ⟨89, _⟩ => ⟨S8x4096x4096, .f32⟩
  | .hbm, ⟨90, _⟩ => ⟨S8x4096x4096, .f32⟩
  | .hbm, ⟨91, _⟩ => ⟨S_, .f32⟩
  | .hbm, ⟨92, _⟩ => ⟨S8x4096, .f32⟩
  | .hbm, ⟨93, _⟩ => ⟨S8x4096x1, .f32⟩
  | .hbm, ⟨94, _⟩ => ⟨S8x4096x1, .f32⟩
  | .hbm, ⟨95, _⟩ => ⟨S8x4096x4096, .f32⟩
  | .hbm, ⟨96, _⟩ => ⟨S8x4096x4096, .f32⟩
  | .hbm, ⟨97, _⟩ => ⟨S_, .f32⟩
  | .hbm, ⟨98, _⟩ => ⟨S8x4096, .f32⟩
  | .hbm, ⟨99, _⟩ => ⟨S8x4096x4096, .f32⟩
  | .hbm, ⟨100, _⟩ => ⟨S8x4096x4096, .f32⟩
  | .hbm, ⟨101, _⟩ => ⟨S8x4096x4096, .f32⟩
  | .hbm, ⟨102, _⟩ => ⟨S_, .f32⟩
  | .hbm, ⟨103, _⟩ => ⟨S8x4096x4096, .f32⟩
  | .hbm, ⟨104, _⟩ => ⟨S8x4096x4096, .f32⟩
  | .hbm, ⟨105, _⟩ => ⟨S_, .f32⟩
  | .hbm, ⟨106, _⟩ => ⟨S8x4096x4096, .f32⟩
  | .hbm, ⟨107, _⟩ => ⟨S8x4096x4096, .f32⟩
  | .hbm, ⟨108, _⟩ => ⟨S4096x4096x8, .f32⟩
  | .hbm, ⟨109, _⟩ => ⟨S4096x8x32, .f32⟩
  | .hbm, ⟨110, _⟩ => ⟨S4096x32, .f32⟩
  | .hbm, ⟨111, _⟩ => ⟨S8x4096x64, .f32⟩
  | .hbm, ⟨112, _⟩ => ⟨S4096x8x64, .f32⟩
  | .hbm, ⟨113, _⟩ => ⟨S8x4096x64, .f32⟩
  | .hbm, ⟨114, _⟩ => ⟨S4096x8x64, .f32⟩
  | _, _ => ⟨S4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_call1_v0 : Ref sig .tc := ⟨.hbm, 38, rfl⟩
abbrev main_v13_1 : Ref sig .tc := ⟨.hbm, 39, rfl⟩
abbrev main_call1_v2 : Ref sig .tc := ⟨.hbm, 40, rfl⟩
abbrev main_v13_0 : Ref sig .tc := ⟨.hbm, 41, rfl⟩
abbrev main_call1_cst : Ref sig .tc := ⟨.hbm, 42, rfl⟩
abbrev main_v13_2 : Ref sig .tc := ⟨.hbm, 43, rfl⟩
abbrev main_cst_1 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_cst_7 : Ref sig .tc := ⟨.hbm, 63, rfl⟩
abbrev main_v27 : Ref sig .tc := ⟨.hbm, 64, rfl⟩
abbrev main_cst_8 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_9 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_10 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_11 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_12 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_call2_cst : Ref sig .tc := ⟨.hbm, 102, rfl⟩
abbrev main_call2_v0 : Ref sig .tc := ⟨.hbm, 103, rfl⟩
abbrev main_v60 : Ref sig .tc := ⟨.hbm, 104, rfl⟩
abbrev main_cst_13 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩

abbrev nD : Nat := 1
abbrev τ : Topo := Topo.v7x

variable {F : FTy → Type} [FloatOps F]
-- ==== Loss.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x128, .f32⟩
  | .hbm, ⟨5, _⟩ => ⟨S4096x1024, .f32⟩
  | .hbm, ⟨6, _⟩ => ⟨S1x1024, .f32⟩
  | .hbm, ⟨7, _⟩ => ⟨S1x1, .f32⟩
  | .hbm, ⟨8, _⟩ => ⟨S_, .f32⟩
  | .hbm, ⟨9, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_cst_8 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_11 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Gate.lean ====
abbrev S4096x512 : Shape := ⟨2, ![4096, 512]⟩
abbrev S1024 : Shape := ⟨1, ![1024]⟩
abbrev S1024x1024 : Shape := ⟨2, ![1024, 1024]⟩
abbrev S4096x1024 : Shape := ⟨2, ![4096, 1024]⟩
abbrev S_ : Shape := ⟨0, ![]⟩
abbrev S1x1024 : Shape := ⟨2, ![1, 1024]⟩
abbrev S4096x128 : Shape := ⟨2, ![4096, 128]⟩
abbrev S512x1024 : Shape := ⟨2, ![512, 1024]⟩
abbrev S512x512 : Shape := ⟨2, ![512, 512]⟩
abbrev S512x128 : Shape := ⟨2, ![512, 128]⟩
abbrev S4096x8 : Shape := ⟨2, ![4096, 8]⟩

abbrev nBuf : Space → Nat
  | .hbm => 49
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S1024, .f32⟩
  | .hbm, ⟨5, _⟩ => ⟨S1024x1024, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x1024, .f32⟩
  | .hbm, ⟨28, _⟩ => ⟨S4096x1024, .bf16⟩
  | .hbm, ⟨29, _⟩ => ⟨S4096x1024, .f32⟩
  | .hbm, ⟨30, _⟩ => ⟨S4096x1024, .bf16⟩
  | .hbm, ⟨31, _⟩ => ⟨S1x1024, .f32⟩
  | .hbm, ⟨32, _⟩ => ⟨S1024x1024, .bf16⟩
  | .hbm, ⟨33, _⟩ => ⟨S4096x1024, .f32⟩
  | .hbm, ⟨34, _⟩ => ⟨S4096x512, .bf16⟩
  | .hbm, ⟨35, _⟩ => ⟨S4096x512, .bf16⟩
  | .hbm, ⟨36, _⟩ => ⟨S4096x512, .bf16⟩
  | .hbm, ⟨37, _⟩ => ⟨S4096x512, .bf16⟩
  | .hbm, ⟨38, _⟩ => ⟨S4096x128, .f32⟩
  | .hbm, ⟨39, _⟩ => ⟨S4096x128, .f32⟩
  | .hbm, ⟨40, _⟩ => ⟨S1x1024, .f32⟩
  | .hbm, ⟨41, _⟩ => ⟨S1024x1024, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S1024, .f32⟩
  | .hbm, ⟨47, _⟩ => ⟨S4096x8, .f32⟩
  | .hbm, ⟨48, _⟩ => ⟨S4096x8, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1024x1024, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S1x1024, .f32⟩
  | .local _ .vmem, ⟨27, _⟩ => ⟨S1024x1024, .f32⟩
  | .local _ .vmem, ⟨28, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11_0 : Ref sig .tc := ⟨.hbm, 34, rfl⟩
abbrev main_v11_1 : Ref sig .tc := ⟨.hbm, 35, rfl⟩
abbrev main_v11_2 : Ref sig .tc := ⟨.hbm, 36, rfl⟩
abbrev main_v11_3 : Ref sig .tc := ⟨.hbm, 37, rfl⟩
abbrev main_v11_4 : Ref sig .tc := ⟨.hbm, 38, rfl⟩
abbrev main_v11_5 : Ref sig .tc := ⟨.hbm, 39, rfl⟩
abbrev main_v11_6 : Ref sig .tc := ⟨.hbm, 40, rfl⟩
abbrev main_v11_7 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v27 : BitVec 1 := Scalar.cmpi .eq arg0 c7_i32
  let v28 : BitVec 32 := Scalar.extui v27
  let c0_i32_17 : BitVec 32 := 0#32
  let v29 : BitVec 1 := Scalar.cmpi .ne v28 c0_i32_17
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== GateRefIdeal.lean ====
abbrev S4096x512 : Shape := ⟨2, ![4096, 512]⟩
abbrev S1024 : Shape := ⟨1, ![1024]⟩
abbrev S1024x1024 : Shape := ⟨2, ![1024, 1024]⟩
abbrev S4096x1024 : Shape := ⟨2, ![4096, 1024]⟩
abbrev S_ : Shape := ⟨0, ![]⟩
abbrev S1x1024 : Shape := ⟨2, ![1, 1024]⟩
abbrev S4096x8x64 : Shape := ⟨3, ![4096, 8, 64]⟩
abbrev S4096x8 : Shape := ⟨2, ![4096, 8]⟩

abbrev nBuf : Space → Nat
  | .hbm => 73
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S1024, .f32⟩
  | .hbm, ⟨5, _⟩ => ⟨S1024x1024, .f32⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S1024x1024, .f32⟩
  | .hbm, ⟨49, _⟩ => ⟨S1024x1024, .f32⟩
  | .hbm, ⟨50, _⟩ => ⟨S4096x1024, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S4096x8x64, .f32⟩
  | .hbm, ⟨67, _⟩ => ⟨S_, .f32⟩
  | .hbm, ⟨68, _⟩ => ⟨S4096x8, .f32⟩
  | .hbm, ⟨69, _⟩ => ⟨S4096x512, .f32⟩
  | .hbm, ⟨70, _⟩ => ⟨S4096x8x64, .f32⟩
  | .hbm, ⟨71, _⟩ => ⟨S_, .f32⟩
  | .hbm, ⟨72, _⟩ => ⟨S4096x8, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v0_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v0_1 : Ref sig .tc := ⟨.hbm, 18, rfl⟩
abbrev main_v0_0 : Ref sig .tc := ⟨.hbm, 19, rfl⟩
abbrev main_v1 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_v2_2 : Ref sig .tc := ⟨.hbm, 28, rfl⟩
abbrev main_call1_cst_1 : Ref sig .tc := ⟨.hbm, 29, rfl⟩
abbrev main_call1_v6 : Ref sig .tc := ⟨.hbm, 30, rfl⟩
abbrev main_call1_v7 : Ref sig .tc := ⟨.hbm, 31, rfl⟩
abbrev main_v2_1 : Ref sig .tc := ⟨.hbm, 32, rfl⟩
abbrev main_v2_0 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst : Ref sig .tc := ⟨.hbm, 43, rfl⟩
abbrev main_v12 : Ref sig .tc := ⟨.hbm, 44, rfl⟩
abbrev main_v13 : Ref sig .tc := ⟨.hbm, 45, rfl⟩
abbrev main_cst_0 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_1 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_2 : Ref sig .tc := ⟨.hbm, 71, rfl⟩
abbrev main_v31 : Ref sig .tc := ⟨.hbm, 72, rfl⟩

abbrev nD : Nat := 1
abbrev τ : Topo := Topo.v7x

variable {F : FTy → Type} [FloatOps F]
-- ==== In.lean ====
abbrev S4096x1024 : Shape := ⟨2, ![4096, 1024]⟩
abbrev S1024 : Shape := ⟨1, ![1024]⟩
abbrev S3072 : Shape := ⟨1, ![3072]⟩
abbrev S1024x2984 : Shape := ⟨2, ![1024, 2984]⟩
abbrev S4096x2984 : Shape := ⟨2, ![4096, 2984]⟩
abbrev S3x1024 : Shape := ⟨2, ![3, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x88 : Shape := ⟨2, ![4096, 88]⟩
abbrev S4096x1536 : Shape := ⟨2, ![4096, 1536]⟩
abbrev S4096x512 : Shape := ⟨2, ![4096, 512]⟩
abbrev S4096x256 : Shape := ⟨2, ![4096, 256]⟩
abbrev S4096x128 : Shape := ⟨2, ![4096, 128]⟩
abbrev S4096x32 : Shape := ⟨2, ![4096, 32]⟩
abbrev S4096x8 : Shape := ⟨2, ![4096, 8]⟩
abbrev S4096x3072 : Shape := ⟨2, ![4096, 3072]⟩
abbrev S1024x88 : Shape := ⟨2, ![1024, 88]⟩
abbrev S1024x1536 : Shape := ⟨2, ![1024, 1536]⟩
abbrev S1024x512 : Shape := ⟨2, ![1024, 512]⟩
abbrev S1024x256 : Shape := ⟨2, ![1024, 256]⟩
abbrev S1024x128 : Shape := ⟨2, ![1024, 128]⟩
abbrev S1024x32 : Shape := ⟨2, ![1024, 32]⟩
abbrev S1024x8 : Shape := ⟨2, ![1024, 8]⟩
abbrev S1024x3072 : Shape := ⟨2, ![1024, 3072]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 69
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S3072, .f32⟩
  | .hbm, ⟨3, _⟩ => ⟨S1024x2984, .f32⟩
  | .hbm, ⟨4, _⟩ => ⟨S4096x2984, .f32⟩
  | .hbm, ⟨5, _⟩ => ⟨S4096x1024, .f32⟩
  | .hbm, ⟨6, _⟩ => ⟨S3x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | .hbm, ⟨37, _⟩ => ⟨S_, .f32⟩
  | .hbm, ⟨38, _⟩ => ⟨S4096x88, .f32⟩
  | .hbm, ⟨39, _⟩ => ⟨S4096x1536, .f32⟩
  | .hbm, ⟨40, _⟩ => ⟨S4096x512, .f32⟩
  | .hbm, ⟨41, _⟩ => ⟨S4096x512, .f32⟩
  | .hbm, ⟨42, _⟩ => ⟨S4096x256, .f32⟩
  | .hbm, ⟨43, _⟩ => ⟨S4096x128, .f32⟩
  | .hbm, ⟨44, _⟩ => ⟨S4096x32, .f32⟩
  | .hbm, ⟨45, _⟩ => ⟨S4096x8, .f32⟩
  | .hbm, ⟨46, _⟩ => ⟨S4096x3072, .f32⟩
  | .hbm, ⟨47, _⟩ => ⟨S4096x3072, .bf16⟩
  | .hbm, ⟨48, _⟩ => ⟨S4096x512, .bf16⟩
  | .hbm, ⟨49, _⟩ => ⟨S4096x512, .bf16⟩
  | .hbm, ⟨50, _⟩ => ⟨S4096x512, .bf16⟩
  | .hbm, ⟨51, _⟩ => ⟨S4096x512, .bf16⟩
  | .hbm, ⟨52, _⟩ => ⟨S4096x512, .bf16⟩
  | .hbm, ⟨53, _⟩ => ⟨S4096x512, .bf16⟩
  | .hbm, ⟨54, _⟩ => ⟨S_, .f32⟩
  | .hbm, ⟨55, _⟩ => ⟨S1024x88, .f32⟩
  | .hbm, ⟨56, _⟩ => ⟨S1024x1536, .f32⟩
  | .hbm, ⟨57, _⟩ => ⟨S1024x512, .f32⟩
  | .hbm, ⟨58, _⟩ => ⟨S1024x512, .f32⟩
  | .hbm, ⟨59, _⟩ => ⟨S1024x256, .f32⟩
  | .hbm, ⟨60, _⟩ => ⟨S1024x128, .f32⟩
  | .hbm, ⟨61, _⟩ => ⟨S1024x32, .f32⟩
  | .hbm, ⟨62, _⟩ => ⟨S1024x8, .f32⟩
  | .hbm, ⟨63, _⟩ => ⟨S1024x3072, .f32⟩
  | .hbm, ⟨64, _⟩ => ⟨S1024x3072, .bf16⟩
  | .hbm, ⟨65, _⟩ => ⟨S1x1024, .f32⟩
  | .hbm, ⟨66, _⟩ => ⟨S4096x1024, .f32⟩
  | .hbm, ⟨67, _⟩ => ⟨S3x1024, .f32⟩
  | .hbm, ⟨68, _⟩ => ⟨S1024x3072, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1024x3072, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S3x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S3x1024, .f32⟩
  | .local _ .vmem, ⟨24, _⟩ => ⟨S1024x3072, .f32⟩
  | .local _ .vmem, ⟨25, _⟩ => ⟨S1024x3072, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54_0 : Ref sig .tc := ⟨.hbm, 66, rfl⟩
abbrev main_v54_1 : Ref sig .tc := ⟨.hbm, 67, rfl⟩
abbrev main_v54_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v90 : BitVec 1 := Scalar.cmpi .eq arg0 c7_i32
  let v91 : BitVec 32 := Scalar.extui v90
  let c0_i32_69 : BitVec 32 := 0#32
  let v92 : BitVec 1 := Scalar.cmpi .ne v91 c0_i32_69
  v92

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== InRefIdeal.lean ====
abbrev S4096x1024 : Shape := ⟨2, ![4096, 1024]⟩
abbrev S1024 : Shape := ⟨1, ![1024]⟩
abbrev S3072 : Shape := ⟨1, ![3072]⟩
abbrev S1024x2984 : Shape := ⟨2, ![1024, 2984]⟩
abbrev S4096x2984 : Shape := ⟨2, ![4096, 2984]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S3072, .f32⟩
  | .hbm, ⟨3, _⟩ => ⟨S1024x2984, .f32⟩
  | .hbm, ⟨4, _⟩ => ⟨S4096x2984, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x2984, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Proof.Cum.Arrays.lean ====
module

public import proofs.«01_k».proof.Defs
public import proofs.«01_k».proof.Proof.Gen.CumBwdIdeal.Frame
public import Idealize.ShloMosaic.Lib.Claim
public import Idealize.ShloMosaic.Lib.Pipeline.ValueKit
public import Idealize.ShloMosaic.Lib.Pointwise

/-! The two results of the cumulative gate's backward call, read off the arrays of the region: the host
    lines before it (transposes and reshapes of the arguments) and after it (the way back, and the sum
    over the chunks of a head). -/

@[expose] public section
set_option maxRecDepth 16384
noncomputable section
namespace Cert.Proof.Cum
open Idealize.ShloMosaic Idealize.ShloMosaic.TcCoe Idealize.SL.Sem
open Cert.CumBwdIdeal Cert.CumBwdIdeal.Gen

variable (m : (ℓ : Loc nD τ sig) → Buf (Elt Ideal) ℓ)

/-- The gradient's way back from the rows of the region. -/
theorem tail_v9 (c : Dev nD) : Pipeline.afterTail₀ cfgs (dats m) 0 (V0 m) [hostOps1] c main_v9
    = transpose S4096x8 [1, 0] (shapeCast S8x4096 ((dats m 0 c).arrAt 3 (cfgs 0).N : FVec Ideal S256x128 .f32) shapeCasts_S256x128_S8x4096) transposes_S8x4096_S4096x8_1_0 := by
  have h := Pipeline.withArrays_arr (Val := Elt Ideal) spec0 launch0.win.arr_inj c (V0 m c) (fun w => (dats m 0 c).arrAt w (cfgs 0).N) 3
  unfold Pipeline.afterTail₀
  rw [List.flatten_cons, List.flatten_nil, List.append_nil]
  generalize Pipeline.withArrays _ c (V0 m c) _ = W at h ⊢
  after_results
  exact congrArg (fun z : FVec Ideal S256x128 .f32 => transpose S4096x8 [1, 0] (shapeCast S8x4096 z shapeCasts_S256x128_S8x4096) transposes_S8x4096_S4096x8_1_0) h

/-- The bias gradient: the first lane of each row, summed over the chunks of a head. -/
theorem tail_v13 (c : Dev nD) : Pipeline.afterTail₀ cfgs (dats m) 0 (V0 m) [hostOps1] c main_v13
    = (Host.reduceAdd (shapeCast S8x32 (shapeCast S256 (extractStridedSlice S256x1 ![0, 0] ((dats m 0 c).arrAt 4 (cfgs 0).N : FVec Ideal S256x128 .f32) slices_S256x128_S256x1_0_0) shapeCasts_S256x1_S256) shapeCasts_S256_S8x32)
        (constant S_ .f32 0x00000000#32) reducesTo_S8x32_S8_d1 h_S_ : FVec Ideal S8 .f32) := by
  have h := Pipeline.withArrays_arr (Val := Elt Ideal) spec0 launch0.win.arr_inj c (V0 m c) (fun w => (dats m 0 c).arrAt w (cfgs 0).N) 4
  unfold Pipeline.afterTail₀
  rw [List.flatten_cons, List.flatten_nil, List.append_nil]
  generalize Pipeline.withArrays _ c (V0 m c) _ = W at h ⊢
  after_results
  exact congrArg (fun z : FVec Ideal S256x128 .f32 => Host.reduceAdd (shapeCast S8x32 (shapeCast S256 (extractStridedSlice S256x1 ![0, 0] z slices_S256x128_S256x1_0_0) shapeCasts_S256x1_S256) shapeCasts_S256_S8x32)
        (constant S_ .f32 0x00000000#32) reducesTo_S8x32_S8_d1 h_S_) h

/-- The rows of the incoming gradient, of the gate's argument and of its bias, as the region finds them. -/
theorem entry_v6 (c : Dev nD) : V m c main_v6 = (shapeCast S256x128 (transpose S8x4096 [1, 0] (m (c.tc.loc main_arg2) : FVec Ideal S4096x8 .f32) transposes_S4096x8_S8x4096_1_0) shapeCasts_S8x4096_S256x128 : FVec Ideal S256x128 .f32) := by
  entry_read
  rw [List.flatten_cons, List.flatten_nil, List.append_nil]
  after_results
  rfl
theorem entry_v1 (c : Dev nD) : V m c main_v1 = (shapeCast S256x128 (transpose S8x4096 [1, 0] (m (c.tc.loc main_arg0) : FVec Ideal S4096x8 .f32) transposes_S4096x8_S8x4096_1_0) shapeCasts_S8x4096_S256x128 : FVec Ideal S256x128 .f32) := by
  entry_read
  rw [List.flatten_cons, List.flatten_nil, List.append_nil]
  after_results
  rfl
theorem entry_v4 (c : Dev nD) : V m c main_v4 = (broadcastInDim S256x1 ![0] bcast_S256_S256x1_0 (shapeCast S256 (broadcastInDim S8x32 ![0] bcast_S8_S8x32_0 (m (c.tc.loc main_arg1) : FVec Ideal S8 .f32)) shapeCasts_S8x32_S256) : FVec Ideal S256x1 .f32) := by
  entry_read
  rw [List.flatten_cons, List.flatten_nil, List.append_nil]
  after_results
  rfl

/-- The grid has one point; each window's block there is block zero. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The one block of each window is its whole array. -/
theorem blk_0 (c : Dev nD) (t : Fin cfg0.N) : (iblk m c 0 t : FVec Ideal S256x128 .f32) = V m c main_v6 := by
  blk_ext! [iblk, idx t]
theorem blk_1 (c : Dev nD) (t : Fin cfg0.N) : (iblk m c 1 t : FVec Ideal S256x128 .f32) = V m c main_v1 := by
  blk_ext! [iblk, idx t]
theorem blk_2 (c : Dev nD) (t : Fin cfg0.N) : (iblk m c 2 t : FVec Ideal S256x1 .f32) = V m c main_v4 := by
  blk_ext! [iblk, idx t]

/-- The rows of the gradient, and their sums along the lanes. -/
theorem arr_3 (c : Dev nD) : ((dats m 0 c).arrAt 3 (cfgs 0).N : FVec Ideal S256x128 .f32) = out0_3 (F := Ideal) (V m c main_v6) (V m c main_v1) (V m c main_v4) := by
  refine Pipeline.Dat.arrAt_eq_of_covers (dat := dats m 0 c) 3 (out0_3 (F := Ideal) (V m c main_v6) (V m c main_v1) (V m c main_v4)) (hcov := by decide +kernel) ?_
  intro t _ y
  rw [after0_3, blk_0, blk_1, blk_2]
  blk_ext! [idx t]
theorem arr_4 (c : Dev nD) : ((dats m 0 c).arrAt 4 (cfgs 0).N : FVec Ideal S256x128 .f32) = out0_4 (F := Ideal) (V m c main_v6) (V m c main_v1) (V m c main_v4) := by
  refine Pipeline.Dat.arrAt_eq_of_covers (dat := dats m 0 c) 4 (out0_4 (F := Ideal) (V m c main_v6) (V m c main_v1) (V m c main_v4)) (hcov := by decide +kernel) ?_
  intro t _ y
  rw [after0_4, blk_0, blk_1, blk_2]
  blk_ext! [idx t]
end Cert.Proof.Cum
end
-- ==== Proof.Cum.Block.lean ====
module

public import proofs.«01_k».proof.Defs
public import proofs.«01_k».proof.Proof.Gen.CumBwdIdeal.Frame
public import Idealize.ShloMosaic.Lib.Claim
public import Idealize.ShloMosaic.Lib.Pipeline.ValueKit
public import Idealize.ShloMosaic.Lib.Pointwise

/-! What the cumulative gate's backward block computes: row `32 h + k` and lane `l` of the arrays stand for
    head `h` and position `128 k + l`. -/

@[expose] public section
set_option maxRecDepth 16384
noncomputable section
namespace Cert.Proof.Cum
open Idealize.ShloMosaic Idealize.ShloMosaic.TcCoe Idealize.SL.Sem
open Cert.CumBwdIdeal Cert.CumBwdIdeal.Gen

/-- The lane mask as a number. -/
theorem lane_mask : ∀ x j : Fin 128, BitVec.setWidth 32 (IntOp.cmpi CmpIPredicate.sge (BitVec.ofNat 32 ↑x) (BitVec.ofNat 32 ↑j))
    = if j ≤ x then 1#32 else 0#32 := by
  intro x j
  simp (disch := word_cmp_side) only [hlo_ix]
  by_cases h : j ≤ x
  · rw [if_pos h, decide_eq_true (by omega)]; rfl
  · rw [if_neg h, decide_eq_false (by omega)]; rfl

/-- The head of a row, as the block computes it with a rounding division. -/
theorem head_of : ∀ n : Fin 256, Scalar.select
      (IntOp.andi
        (IntOp.cmpi CmpIPredicate.ne
          (IntOp.subi (BitVec.setWidth 32 (IntOp.cmpi CmpIPredicate.sgt (BitVec.ofNat 32 ↑n) 0#32))
            (BitVec.setWidth 32 (IntOp.cmpi CmpIPredicate.slt (BitVec.ofNat 32 ↑n) 0#32)))
          (Scalar.subi (Scalar.extui (Scalar.cmpi CmpIPredicate.sgt 32#32 0#32))
            (Scalar.extui (Scalar.cmpi CmpIPredicate.slt 32#32 0#32))))
        (IntOp.cmpi CmpIPredicate.ne (IntOp.remsi ArithUnit.vector (BitVec.ofNat 32 ↑n) 32#32) 0#32))
      (IntOp.subi (IntOp.divsi ArithUnit.vector (BitVec.ofNat 32 ↑n) 32#32) 1#32)
      (IntOp.divsi ArithUnit.vector (BitVec.ofNat 32 ↑n) 32#32) = BitVec.ofNat 32 (n.val / 32) := by decide +kernel

/-- The row mask as a number: a later row of the same head. -/
theorem row_mask : ∀ i x : Fin 256, BitVec.setWidth 32 (IntOp.andi
      (IntOp.cmpi CmpIPredicate.eq (BitVec.ofNat 32 (i.val / 32)) (BitVec.ofNat 32 (x.val / 32)))
      (IntOp.cmpi CmpIPredicate.sgt (BitVec.ofNat 32 ↑x) (BitVec.ofNat 32 ↑i)))
    = if i.val / 32 = x.val / 32 ∧ i < x then 1#32 else 0#32 := by
  intro i x
  simp (disch := word_cmp_side) only [hlo_ix]
  by_cases h : i.val / 32 = x.val / 32
  · by_cases h' : i < x
    · rw [if_pos ⟨h, h'⟩, decide_eq_true h, decide_eq_true (by omega)]; rfl
    · rw [if_neg (fun e => h' e.2), decide_eq_true h, decide_eq_false (by omega)]; rfl
  · rw [if_neg (fun e => h e.1), decide_eq_false h]
    by_cases h' : i < x
    · rw [decide_eq_true (by omega)]; rfl
    · rw [decide_eq_false (by omega)]; rfl

/-- A mask word as a number. -/
theorem word_ite (p : Prop) [Decidable p] : (FloatOps.sitofp (F := Ideal) FTy.f32 (if p then 1#32 else 0#32) : EReal) = if p then 1 else 0 := by
  split
  · show (((1#32 : BitVec 32).toInt : ℝ) : EReal) = 1
    rw [show (1#32 : BitVec 32).toInt = 1 from rfl, Int.cast_one, EReal.coe_one]
  · show (((0#32 : BitVec 32).toInt : ℝ) : EReal) = 0
    rw [show (0#32 : BitVec 32).toInt = 0 from rfl, Int.cast_zero, EReal.coe_zero]

/-- The gate's part of the gradient at one entry. -/
def dlf (x0 : FVec Ideal S256x128 .f32) (i : Fin 256) (j : Fin 128) : EReal :=
  (∑ x : Fin 128, if j ≤ x then x0 (ix2 i x) else 0)
    + ∑ x : Fin 256, if i.val / 32 = x.val / 32 ∧ i < x then ∑ y : Fin 128, x0 (ix2 x y) else 0

theorem pay_3 (x0 x1 : FVec Ideal S256x128 .f32) (x2 : FVec Ideal S256x1 .f32) (i : Fin 256) (j : Fin 128) :
    k0_pay1 (F := Ideal) (k0_pay11 (F := Ideal) x0 x1 x2) (k0_pay7 (F := Ideal) x0 x1 x2) (k0_pay8 (F := Ideal) x0 x1 x2) (k0_pay9 (F := Ideal) x0 x1 x2) (k0_pay10 (F := Ideal) x0 x1 x2)
            (k0_pay12 (F := Ideal) x0 x1 x2) (32#32) (k0_pay13 (F := Ideal) x0 x1 x2) (k0_pay14 (F := Ideal) x0 x1 x2) x1 x2 (ix2 i j)
      = dlf x0 i j * Ideal.logistic (0 - (x1 (ix2 i j) + x2 (ix2 i 0))) := by
  pointwise [k0_pay1, k0_pay3, k0_pay4, k0_pay5, k0_pay6, k0_pay7, k0_pay8, k0_pay9, k0_pay10, k0_pay11, k0_pay12, k0_pay13, k0_pay14]
  refine congrArg (· * _) (congrArg₂ (· + ·) (Finset.sum_congr rfl fun x _ => ?_) (Finset.sum_congr rfl fun x _ => ?_))
  · rw [lane_mask, word_ite, mul_ite, mul_one, mul_zero]
  · rw [head_of, head_of, row_mask, word_ite, ite_mul, one_mul, zero_mul]

theorem out_3 (x0 x1 : FVec Ideal S256x128 .f32) (x2 : FVec Ideal S256x1 .f32) (i : Fin 256) (j : Fin 128) :
    out0_3 (F := Ideal) x0 x1 x2 (ix2 i j) = dlf x0 i j * Ideal.logistic (0 - (x1 (ix2 i j) + x2 (ix2 i 0))) := by
  unfold out0_3
  frame_out
  exact pay_3 x0 x1 x2 i j

theorem out_4 (x0 x1 : FVec Ideal S256x128 .f32) (x2 : FVec Ideal S256x1 .f32) (i : Fin 256) (j : Fin 128) :
    out0_4 (F := Ideal) x0 x1 x2 (ix2 i j) = ∑ l : Fin 128, dlf x0 i l * Ideal.logistic (0 - (x1 (ix2 i l) + x2 (ix2 i 0))) := by
  unfold out0_4
  frame_out
  pointwise [k0_pay2]
  exact Finset.sum_congr rfl fun l _ => pay_3 x0 x1 x2 i l
end Cert.Proof.Cum
end
-- ==== Proof.Cum.Sums.lean ====
module

public import Idealize.ShloMosaic.Lib.Pointwise
public import Idealize.ShloMosaic.Lib.Routing.OpsOne
public import Idealize.ShloMosaic.PureOps.Ideal.Laws

/-! The reverse running sum: as a window sum of the host, and cut into chunks of lanes. -/

@[expose] public section
set_option maxRecDepth 16384
noncomputable section
namespace Cert.Proof.Cum
open Idealize.ShloMosaic Idealize.ShloMosaic.Routing

/-- Adding up a list from a start. -/
theorem foldl_add_start {α : Type} (f : α → EReal) (l : List α) (a : EReal) : l.foldl (fun r n => r + f n) a = a + (l.map f).sum := by
  induction l generalizing a with
  | nil => simp
  | cons x l ih => rw [List.foldl_cons, ih, List.map_cons, List.sum_cons, add_assoc]

/-- A reverse `cumsum(axis=0)`, as it prints: a window of the whole height and one column, padded high by one less. -/
theorem revcumsum_rows {R Rm1 C : Nat} (hR : Rm1 + 1 = R) (x : (shape2 R C).Idx → EReal) (init : shape0.Idx → EReal) (hinit : init ix0 = 0)
    (h : (shape2 R C).ReduceWindows (![R, 1] : Fin 2 → Nat) ![1, 1] ![0, 0] ![Rm1, 0] (shape2 R C)) (hu : 0 < shape0.numel) (j : Fin R) (c : Fin C) :
    Host.reduceWindow (· + ·) ![R, 1] ![1, 1] ![0, 0] ![Rm1, 0] x init h hu (ix2 j c) = ∑ i : Fin R, if j ≤ i then x (ix2 i c) else 0 := by
  subst hR
  have hv : init (Shape.Idx.first hu) = 0 := (congrArg init (funext fun a => a.elim0)).trans hinit
  have hj := j.isLt
  have hc := c.isLt
  unfold Host.reduceWindow
  dsimp only
  rw [foldl_add_start, hv, zero_add]
  refine (congrArg List.sum (List.map_congr_left (g := fun n => (fun n : Nat => if hin : j.val + n < Rm1 + 1 then x (ix2 ⟨j.val + n, hin⟩ c) else 0) n.val) fun n _ => ?_)).trans ?_
  · have hw0 : ((shape2 (Rm1 + 1) 1).rowMajor.symm n 0).val = n.val := by rw [symm_col]; rfl
    have hw1 : ((shape2 (Rm1 + 1) 1).rowMajor.symm n 1).val = 0 := by rw [symm_col]; rfl
    dsimp only
    split
    · next hin =>
      have h0 := (hin 0).2
      change j.val * 1 + ((shape2 (Rm1 + 1) 1).rowMajor.symm n 0).val - 0 < Rm1 + 1 at h0
      rw [hw0] at h0
      rw [dif_pos (by omega)]
      refine congrArg x (funext fun a => Fin.ext ?_)
      match a with
      | ⟨0, _⟩ =>
        show j.val * 1 + ((shape2 (Rm1 + 1) 1).rowMajor.symm n 0).val - 0 = j.val + n.val
        rw [hw0]; omega
      | ⟨1, _⟩ =>
        show c.val * 1 + ((shape2 (Rm1 + 1) 1).rowMajor.symm n 1).val - 0 = c.val
        rw [hw1]; omega
    · next hin =>
      rw [dif_neg fun hlt => hin fun a => by
        match a with
        | ⟨0, _⟩ =>
          show 0 ≤ _ ∧ j.val * 1 + ((shape2 (Rm1 + 1) 1).rowMajor.symm n 0).val - 0 < Rm1 + 1
          rw [hw0]
          omega
        | ⟨1, _⟩ =>
          show 0 ≤ _ ∧ c.val * 1 + ((shape2 (Rm1 + 1) 1).rowMajor.symm n 1).val - 0 < C
          rw [hw1]
          omega]
  · refine (congrArg List.sum (map_finRange_val (shape2 (Rm1 + 1) 1).numel (fun n : Nat => if hin : j.val + n < Rm1 + 1 then x (ix2 ⟨j.val + n, hin⟩ c) else 0))).trans ?_
    refine (congrArg (fun M => ((List.range M).map fun n : Nat => if hin : j.val + n < Rm1 + 1 then x (ix2 ⟨j.val + n, hin⟩ c) else 0).sum) (numel_col (Rm1 + 1))).trans ?_
    have hl : ((List.range (Rm1 + 1)).map fun n : Nat => if hin : j.val + n < Rm1 + 1 then x (ix2 ⟨j.val + n, hin⟩ c) else 0).sum
        = ∑ n ∈ Finset.range (Rm1 + 1), if hin : j.val + n < Rm1 + 1 then x (ix2 ⟨j.val + n, hin⟩ c) else 0 := rfl
    rw [hl]
    have e : ∀ i : Fin (Rm1 + 1), (if j ≤ i then x (ix2 i c) else 0) = (fun n : Nat => if j.val ≤ n then (if hn : n < Rm1 + 1 then x (ix2 ⟨n, hn⟩ c) else 0) else 0) i.val := fun i => by
      dsimp only
      rw [dif_pos i.isLt]
      rfl
    rw [Finset.sum_congr rfl fun i _ => e i, Fin.sum_univ_eq_sum_range (fun n : Nat => if j.val ≤ n then (if hn : n < Rm1 + 1 then x (ix2 ⟨n, hn⟩ c) else 0) else 0) (Rm1 + 1),
      ← Finset.sum_filter]
    have hf : (Finset.range (Rm1 + 1)).filter (fun n => j.val ≤ n) = Finset.Ico j.val (Rm1 + 1) := by
      ext n; rw [Finset.mem_filter, Finset.mem_range, Finset.mem_Ico]; omega
    rw [hf, Finset.sum_Ico_eq_sum_range]
    symm
    refine Finset.sum_subset (Finset.range_mono (by omega)) fun n _ hn => dif_neg fun hlt => hn ?_
    rw [Finset.mem_range]; omega

/-- The reverse running sum of a head's entries, from the sums inside a chunk of lanes and over later chunks. -/
theorem chunked (D : Fin 8 → Fin 4096 → EReal) (h : Fin 8) (s : Fin 4096) :
    ((∑ x : Fin 128, if s.val % 128 ≤ x.val then D h ⟨s.val / 128 * 128 + x.val, by omega⟩ else 0)
      + ∑ x : Fin 256, if h.val = x.val / 32 ∧ h.val * 32 + s.val / 128 < x.val then ∑ y : Fin 128, D ⟨x.val / 32, by omega⟩ ⟨x.val % 32 * 128 + y.val, by omega⟩ else 0)
    = ∑ t : Fin 4096, if s ≤ t then D h t else 0 := by
  have e1 := Fin.sum_univ_tiles 32 128 rfl (fun t : Fin 4096 => if s ≤ t then D h t else 0)
  have e2 := Fin.sum_univ_tiles 8 32 rfl (fun x : Fin 256 => if h.val = x.val / 32 ∧ h.val * 32 + s.val / 128 < x.val then ∑ y : Fin 128, D ⟨x.val / 32, by omega⟩ ⟨x.val % 32 * 128 + y.val, by omega⟩ else 0)
  rw [e2, Finset.sum_eq_single h, e1]
  · have hs : (∑ x : Fin 128, if s.val % 128 ≤ x.val then D h ⟨s.val / 128 * 128 + x.val, by omega⟩ else 0)
        = ∑ k : Fin 32, if k.val = s.val / 128 then ∑ x : Fin 128, (if s.val % 128 ≤ x.val then D h ⟨k.val * 128 + x.val, by omega⟩ else 0) else 0 := by
      rw [Finset.sum_eq_single (⟨s.val / 128, by omega⟩ : Fin 32)]
      · exact (if_pos rfl).symm
      · exact fun k _ hk => if_neg fun e => hk (Fin.ext e)
      · exact fun hk => absurd (Finset.mem_univ _) hk
    rw [hs, ← Finset.sum_add_distrib]
    refine Finset.sum_congr rfl fun k _ => ?_
    have hD : ∀ y : Fin 128, D ⟨(h.val * 32 + k.val) / 32, by omega⟩ ⟨(h.val * 32 + k.val) % 32 * 128 + y.val, by omega⟩ = D h ⟨k.val * 128 + y.val, by omega⟩ := fun y =>
      congrArg₂ D (Fin.ext (by dsimp only; omega)) (Fin.ext (by dsimp only; omega))
    rcases Nat.lt_trichotomy k.val (s.val / 128) with hk | hk | hk
    · rw [if_neg (by omega), if_neg (by dsimp only; omega), add_zero]
      exact (Finset.sum_eq_zero fun y _ => if_neg fun e => by have : s.val ≤ k.val * 128 + y.val := e; omega).symm
    · rw [if_pos hk, if_neg (by dsimp only; omega), add_zero]
      refine Finset.sum_congr rfl fun y _ => if_congr ?_ rfl rfl
      exact ⟨fun e => show s.val ≤ k.val * 128 + y.val by omega, fun e => by have : s.val ≤ k.val * 128 + y.val := e; omega⟩
    · rw [if_neg (by omega), if_pos (by dsimp only; omega), zero_add]
      refine Finset.sum_congr rfl fun y _ => (hD y).trans (if_pos ?_).symm
      show s.val ≤ k.val * 128 + y.val
      omega
  · intro b _ hb
    refine Finset.sum_eq_zero fun k _ => if_neg fun e => hb (Fin.ext ?_)
    have := e.1
    dsimp only at this
    omega
  · intro hb; exact absurd (Finset.mem_univ h) hb
end Cert.Proof.Cum
end
-- ==== Proof.Cum.Ref.lean ====
module

public import proofs.«01_k».proof.Defs
public import proofs.«01_k».proof.Proof.Gen.CumBwdRefIdeal.Read
public import proofs.«01_k».proof.Proof.Cum.Sums

/-! What the reference of the cumulative gate's gradient computes. -/

@[expose] public section
set_option maxRecDepth 16384
noncomputable section
namespace Cert.Proof.Cum
open Idealize.ShloMosaic Idealize.ShloMosaic.TcCoe Idealize.SL.Sem
open Cert.CumBwdRefIdeal Cert.CumBwdRefIdeal.Gen Cert.CumBwdRefIdeal.Read

/-- The infinite word. -/
theorem ofBits_inf : Ideal.ofBits FTy.f32 0x7F800000#32 = ⊤ := by
  simp [Ideal.ofBits, Ideal.ieee]

/-- The derivative of the reference's softplus, as it writes it: the exponential of the argument less the softplus. -/
def dsp (z : EReal) : EReal :=
  Ideal.exp ((if z = ⊤ then 0 else z) - if max z 0 + Ideal.log1p (Ideal.exp (-FloatOps.absf (F := Ideal) (φ := .f32) z)) = ⊤ then 0
    else max z 0 + Ideal.log1p (Ideal.exp (-FloatOps.absf (F := Ideal) (φ := .f32) z)))

/-- The softplus of a real, in the form that never overflows, is the logarithm of `1 + exp`. -/
theorem exp_sub_softplus (r : ℝ) : Real.exp (r - (max r 0 + Real.log (1 + Real.exp (-|r|)))) = (1 + Real.exp (-r))⁻¹ := by
  have hp : 0 < 1 + Real.exp (-|r|) := by positivity
  rw [Real.exp_sub, Real.exp_add, Real.exp_log hp]
  rcases le_total 0 r with h | h
  · rw [max_eq_left h, abs_of_nonneg h]
    field_simp
  · rw [max_eq_right h, abs_of_nonpos h, neg_neg, Real.exp_zero, one_mul, Real.exp_neg]
    field_simp
    ring

/-- It is the logistic function, at the infinities too. -/
theorem dsp_eq (z : EReal) : dsp z = Ideal.logistic z := by
  unfold dsp
  induction z using EReal.rec with
  | bot => simp [Ideal.log1p]
  | top =>
    have h : FloatOps.absf (F := Ideal) (φ := .f32) (⊤ : EReal) = ⊤ := show max (⊤ : EReal) (-⊤) = ⊤ by simp
    have h1 : Ideal.log (1 + 0) = (0 : EReal) := by
      rw [add_zero, ← EReal.coe_one, Ideal.log_coe, if_neg (by norm_num), Real.log_one, EReal.coe_zero]
    have h2 : Ideal.exp 0 = 1 := by rw [← EReal.coe_zero, Ideal.exp_coe, Real.exp_zero, EReal.coe_one]
    rw [h, Ideal.log1p, EReal.neg_top, Ideal.exp_bot, h1]
    simp [h2]
  | coe r =>
    have h : FloatOps.absf (F := Ideal) (φ := .f32) (r : EReal) = ((|r| : ℝ) : EReal) := by
      show max (r : EReal) (-r) = _
      exact (EReal.coe_strictMono.monotone.map_max (a := r) (b := -r)).symm
    have hp : ¬ (1 + Real.exp (-|r|)) ≤ 0 := not_le.mpr (by positivity)
    have h1 : max (r : EReal) 0 + Ideal.log1p (Ideal.exp (-((|r| : ℝ) : EReal))) = ((max r 0 + Real.log (1 + Real.exp (-|r|)) : ℝ) : EReal) := by
      rw [Ideal.log1p, ← EReal.coe_neg, Ideal.exp_coe, ← EReal.coe_one, ← EReal.coe_add, Ideal.log_coe, if_neg hp, EReal.coe_add, EReal.coe_strictMono.monotone.map_max, EReal.coe_zero]
    rw [h, h1, if_neg (EReal.coe_ne_top _), if_neg (EReal.coe_ne_top _), ← EReal.coe_sub, Ideal.exp_coe, Ideal.logistic_coe, exp_sub_softplus]

theorem ref_v6 (ff : FVec Ideal S4096x8 .f32) (b : FVec Ideal S8 .f32) (dc : FVec Ideal S4096x8 .f32) (s : Fin 4096) (h : Fin 8) :
    val_main_v6 (F := Ideal) ff b dc (ix2 s h) = val_main_v5 (F := Ideal) dc (ix2 s h) * Ideal.logistic (-(ff (ix2 s h) + b (ix1 h))) := by
  pointwise [val_main_v6, val_main_call3_v1, val_main_call3_v0, val_main_v3_1, val_main_call0_v0, val_main_call0_call0_cst, val_main_call0_call0_cst_0, val_main_call0_call0_cst_1, val_main_call0_call0_cst_2, val_main_call0_call0_cst_3, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_v13, val_main_call0_call0_v14, val_main_call0_call0_v15, val_main_call0_call0_v16, val_main_call0_call0_v17, val_main_call0_call0_v18, val_main_call0_call0_v19, val_main_call0_call0_v20, val_main_call0_call0_v21, val_main_call0_v1_0, val_main_v0, val_main_v1, val_main_v2]
  rw [ofBits_inf, if_neg (not_not.mpr rfl), ← dsp_eq, EReal.neg_mul, neg_neg, dsp]

/-- The gradient that reaches the gate: everything that comes after. -/
theorem ref_v5 (dc : FVec Ideal S4096x8 .f32) (s : Fin 4096) (h : Fin 8) :
    val_main_v5 (F := Ideal) dc (ix2 s h) = ∑ t : Fin 4096, if s ≤ t then dc (ix2 t h) else 0 := by
  have hz : val_main_call2_call0_v0 (F := Ideal) ix0 = 0 := by
    pointwise [val_main_call2_call0_v0, val_main_call2_call0_cst]
  unfold val_main_v5
  rw [Host.reduceWindowAdd, Ideal.hostReduceWindowAdd_def]
  unfold Ideal.hostReduceWindowAdd
  exact revcumsum_rows (R := 4096) (Rm1 := 4095) (C := 8) (by norm_num) dc _ ((congrArg (val_main_call2_call0_v0 (F := Ideal)) (funext fun a => a.elim0)).trans hz) reduceWindows_S4096x8_S4096x8_w4096s1p0_4095_w1s1p0_0 (by decide) s h

/-- The bias gradient: the sum over the rows. -/
theorem ref_v9 (ff : FVec Ideal S4096x8 .f32) (b : FVec Ideal S8 .f32) (dc : FVec Ideal S4096x8 .f32) (h : Fin 8) :
    val_main_v9 (F := Ideal) ff b dc (ix1 h) = ∑ s : Fin 4096, val_main_v6 (F := Ideal) ff b dc (ix2 s h) := by
  pointwise [val_main_v9, val_main_v8, val_main_v7, val_main_cst, val_main_cst_0]
  exact Fin.sum_univ_one _
end Cert.Proof.Cum
end
-- ==== Proof.Cum.Claim.lean ====
module

public import proofs.«01_k».proof.Proof.Cum.Arrays
public import proofs.«01_k».proof.Proof.Cum.Block
public import proofs.«01_k».proof.Proof.Cum.Ref

/-! The cumulative gate's gradient: the kernel's two results are the reference's. -/

@[expose] public section
set_option maxRecDepth 16384
noncomputable section
namespace Cert.Proof.Cum
open Idealize.ShloMosaic Idealize.ShloMosaic.TcCoe Idealize.SL.Sem

section kernel
open Cert.CumBwdIdeal Cert.CumBwdIdeal.Gen

/-- The arguments as the region's rows. -/
def rowsOf (x : FVec Ideal S4096x8 .f32) : FVec Ideal S256x128 .f32 :=
  shapeCast S256x128 (transpose S8x4096 [1, 0] x transposes_S4096x8_S8x4096_1_0) shapeCasts_S8x4096_S256x128
def biasOf (b : FVec Ideal S8 .f32) : FVec Ideal S256x1 .f32 :=
  broadcastInDim S256x1 ![0] bcast_S256_S256x1_0 (shapeCast S256 (broadcastInDim S8x32 ![0] bcast_S8_S8x32_0 b) shapeCasts_S8x32_S256)

theorem rowsOf_at (x : FVec Ideal S4096x8 .f32) (i : Fin 256) (j : Fin 128) :
    rowsOf x (ix2 i j) = x (ix2 ⟨i.val % 32 * 128 + j.val, by omega⟩ ⟨i.val / 32, by omega⟩) := by
  pointwise [rowsOf]
theorem biasOf_at (b : FVec Ideal S8 .f32) (i : Fin 256) : biasOf b (ix2 i 0) = b (ix1 ⟨i.val / 32, by omega⟩) := by
  pointwise [biasOf]

/-- One entry of the block's gradient, in the arguments' coordinates. -/
theorem entry (ff : FVec Ideal S4096x8 .f32) (b : FVec Ideal S8 .f32) (dc : FVec Ideal S4096x8 .f32) (s : Fin 4096) (h : Fin 8) (i : Fin 256) (j : Fin 128)
    (hi : i.val = h.val * 32 + s.val / 128) (hj : j.val = s.val % 128) :
    dlf (rowsOf dc) i j * Ideal.logistic (0 - (rowsOf ff (ix2 i j) + biasOf b (ix2 i 0)))
      = Cert.CumBwdRefIdeal.Read.val_main_v6 (F := Ideal) ff b dc (ix2 s h) := by
  have e1 : (⟨i.val % 32 * 128 + j.val, by omega⟩ : Fin 4096) = s := Fin.ext (by dsimp only; omega)
  have e2 : (⟨i.val / 32, by omega⟩ : Fin 8) = h := Fin.ext (by dsimp only; omega)
  rw [ref_v6, ref_v5, rowsOf_at ff, biasOf_at, e1, e2, zero_sub, ← chunked (fun h t => dc (ix2 t h)) h s]
  unfold dlf
  simp only [rowsOf_at]
  refine congrArg (· * _) (congrArg₂ (· + ·) (Finset.sum_congr rfl fun x _ => ?_) (Finset.sum_congr rfl fun x _ => ?_))
  · refine if_congr ?_ (congrArg dc ((ix2_inj ..).2 ⟨Fin.ext (by dsimp only; omega), e2⟩)) rfl
    exact ⟨fun e => by have : j.val ≤ x.val := e; omega, fun e => show j.val ≤ x.val by omega⟩
  · refine if_congr ?_ rfl rfl
    exact ⟨fun e => ⟨by have := e.1; omega, by have : i.val < x.val := e.2; omega⟩, fun e => ⟨by have := e.1; omega, show i.val < x.val by have := e.2; omega⟩⟩

theorem dff_eq (ff : FVec Ideal S4096x8 .f32) (b : FVec Ideal S8 .f32) (dc : FVec Ideal S4096x8 .f32) :
    transpose S4096x8 [1, 0] (shapeCast S8x4096 (out0_3 (F := Ideal) (rowsOf dc) (rowsOf ff) (biasOf b) : FVec Ideal S256x128 .f32) shapeCasts_S256x128_S8x4096) transposes_S8x4096_S4096x8_1_0
      = Cert.CumBwdRefIdeal.Read.val_main_v6 (F := Ideal) ff b dc := by
  funext y
  idx_vars y
  generalize hx : (out0_3 (F := Ideal) (rowsOf dc) (rowsOf ff) (biasOf b) : FVec Ideal S256x128 .f32) = X
  pointwise
  rw [← hx, out_3]
  exact entry ff b dc y0 y1 _ _ (by dsimp only) (by dsimp only)

theorem db_eq (ff : FVec Ideal S4096x8 .f32) (b : FVec Ideal S8 .f32) (dc : FVec Ideal S4096x8 .f32) :
    (Host.reduceAdd (shapeCast S8x32 (shapeCast S256 (extractStridedSlice S256x1 ![0, 0] (out0_4 (F := Ideal) (rowsOf dc) (rowsOf ff) (biasOf b) : FVec Ideal S256x128 .f32) slices_S256x128_S256x1_0_0) shapeCasts_S256x1_S256) shapeCasts_S256_S8x32)
        (constant S_ .f32 0x00000000#32) reducesTo_S8x32_S8_d1 h_S_ : FVec Ideal S8 .f32)
      = Cert.CumBwdRefIdeal.Read.val_main_v9 (F := Ideal) ff b dc := by
  funext y
  idx_vars y
  generalize hx : (out0_4 (F := Ideal) (rowsOf dc) (rowsOf ff) (biasOf b) : FVec Ideal S256x128 .f32) = X
  rw [ref_v9]
  pointwise
  rw [Fin.sum_univ_tiles 32 128 rfl (fun s : Fin 4096 => Cert.CumBwdRefIdeal.Read.val_main_v6 (F := Ideal) ff b dc (ix2 s y0))]
  refine Finset.sum_congr rfl fun k _ => ?_
  rw [← hx, out_4]
  exact Finset.sum_congr rfl fun l _ => entry ff b dc ⟨k.val * 128 + l.val, by omega⟩ y0 _ l (by dsimp only; omega) (by dsimp only; omega)
end kernel

theorem out9 (m : (ℓ : Loc Cert.CumBwdIdeal.nD Cert.CumBwdIdeal.τ Cert.CumBwdIdeal.sig) → Buf (Elt Ideal) ℓ) (c : Dev Cert.CumBwdIdeal.nD) :
    Pipeline.afterTail₀ Cert.CumBwdIdeal.cfgs (Cert.CumBwdIdeal.Gen.dats m) 0 (Cert.CumBwdIdeal.Gen.V0 m) [Cert.CumBwdIdeal.Gen.hostOps1] c Cert.CumBwdIdeal.main_v9
      = Cert.CumBwdRefIdeal.Read.val_main_v6 (F := Ideal) (m (c.tc.loc Cert.CumBwdIdeal.main_arg0)) (m (c.tc.loc Cert.CumBwdIdeal.main_arg1)) (m (c.tc.loc Cert.CumBwdIdeal.main_arg2)) := by
  rw [tail_v9, arr_3, entry_v6, entry_v1, entry_v4]
  exact dff_eq _ _ _

theorem out13 (m : (ℓ : Loc Cert.CumBwdIdeal.nD Cert.CumBwdIdeal.τ Cert.CumBwdIdeal.sig) → Buf (Elt Ideal) ℓ) (c : Dev Cert.CumBwdIdeal.nD) :
    Pipeline.afterTail₀ Cert.CumBwdIdeal.cfgs (Cert.CumBwdIdeal.Gen.dats m) 0 (Cert.CumBwdIdeal.Gen.V0 m) [Cert.CumBwdIdeal.Gen.hostOps1] c Cert.CumBwdIdeal.main_v13
      = Cert.CumBwdRefIdeal.Read.val_main_v9 (F := Ideal) (m (c.tc.loc Cert.CumBwdIdeal.main_arg0)) (m (c.tc.loc Cert.CumBwdIdeal.main_arg1)) (m (c.tc.loc Cert.CumBwdIdeal.main_arg2)) := by
  rw [tail_v13, arr_4, entry_v6, entry_v1, entry_v4]
  exact db_eq _ _ _

/-- The reference's frame: its run at the arguments; it declares no semaphore. -/
theorem frame_ref : Cert.quiescent_CumBwdRefIdeal := fun m ρ _ =>
  (θ_run _ _ _).mono (fun r h => ⟨fun c => (h c).2.2, Idealize.ShloMosaic.sem_eq_zero_of_no_sems (by decide) r.2⟩) (Cert.CumBwdRefIdeal.Value.run (F := Ideal) m ρ)

theorem alg : Cert.algebraic_CumBwdIdeal_CumBwdRefIdeal := by
  intro m g m' g' _ hagree
  refine ⟨fun c => Cert.CumBwdRefIdeal.Read.val_main_v6 (F := Ideal) (m (c.tc.loc Cert.CumBwdIdeal.main_arg0)) (m (c.tc.loc Cert.CumBwdIdeal.main_arg1)) (m (c.tc.loc Cert.CumBwdIdeal.main_arg2)),
    fun c => Cert.CumBwdRefIdeal.Read.val_main_v9 (F := Ideal) (m (c.tc.loc Cert.CumBwdIdeal.main_arg0)) (m (c.tc.loc Cert.CumBwdIdeal.main_arg1)) (m (c.tc.loc Cert.CumBwdIdeal.main_arg2)), ?_, ?_⟩
  · refine (θ_run _ _ _).mono (fun r h c => ?_) (θ_run_and (Cert.CumBwdIdeal.Gen.unchanged m g) (Cert.CumBwdIdeal.Gen.run_main m g))
    exact ⟨((h.2 c).2 Cert.CumBwdIdeal.main_v9 (Pipeline.mem_restRefs_of Cert.CumBwdIdeal.main_v9 (by decide) (by decide))).trans (out9 m c),
      ((h.2 c).2 Cert.CumBwdIdeal.main_v13 (Pipeline.mem_restRefs_of Cert.CumBwdIdeal.main_v13 (by decide) (by decide))).trans (out13 m c), h.1 c⟩
  · refine (θ_run _ _ _).mono (fun r h c => ?_) (Cert.CumBwdRefIdeal.Value.run m' g')
    obtain ⟨h6, h9, hargs⟩ := h c
    obtain ⟨a0, a1, a2⟩ := hagree c
    refine ⟨h6.trans ?_, h9.trans ?_, hargs⟩
    · rw [Cert.CumBwdRefIdeal.Read.val_main_v6_eq, a0, a1, a2]
    · rw [Cert.CumBwdRefIdeal.Read.val_main_v9_eq, a0, a1, a2]
end Cert.Proof.Cum
end
-- ==== Proof.Fox.Trip.lean ====
/-
  One trip of the outer loop of the forgetting attention's backward kernel: query tile `k` against every key tile before it, then its
  own key tile in two masked halves.  The trip is run once, at any float values; the pieces that it writes into
  each buffer are functions of the contents that it finds.
-/
module

public import proofs.«01_k».proof.Proof.Gen.FoxIdeal.Loops
public import proofs.«01_k».proof.Proof.Gen.FoxIdeal.Frame
public import Idealize.ShloMosaic.Lib.LoopRemainder

@[expose] public section

set_option maxRecDepth 16384
set_option maxHeartbeats 4000000

noncomputable section

namespace Cert.FoxIdeal.Hand

open Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What one trip holds: the buffers that it only reads, at their contents, and the buffers that it writes. -/
abbrev Trip (c : Dev nD) (arg1 : Memref sig .tc .vmem S4096x128 .bf16) (arg2 : Memref sig .tc .vmem S4096x128 .bf16) (arg3 : Memref sig .tc .vmem S4096x128 .bf16) (arg4 : Memref sig .tc .vmem S4096x128 .bf16) (arg5 : Memref sig .tc .vmem S4096x128 .f32) (arg6 : Memref sig .tc .vmem S2x1x4096 .f32) (arg12 : Memref sig .tc .vmem S1x128x4096 .bf16) (arg13 : Memref sig .tc .vmem S128x4096 .bf16) (arg7 : Memref sig .tc .vmem S4096x128 .bf16) (arg10 : Memref sig .tc .vmem S4096x128 .f32) (arg11 : Memref sig .tc .vmem S2x1x4096 .f32) (arg14 : Memref sig .tc .vmem S1x128x4096 .f32) (arg15 : Memref sig .tc .vmem S128x4096 .f32)
    (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (X_arg13 : BufTy.Contents (Elt F) arg13.view.ty)
    (f_arg7 : BufTy.Contents (Elt F) arg7.view.ty) (f_arg10 : BufTy.Contents (Elt F) arg10.view.ty) (f_arg11 : BufTy.Contents (Elt F) arg11.view.ty) (f_arg14 : BufTy.Contents (Elt F) arg14.view.ty) (f_arg15 : BufTy.Contents (Elt F) arg15.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg12.view.loc (c : Thread nD τ) ↦[arg12.view.set]{fullShare} X_arg12) ∗ (arg13.view.loc (c : Thread nD τ) ↦[arg13.view.set]{fullShare} X_arg13) ∗ (arg7.view.loc (c : Thread nD τ) ↦[arg7.view.set]{fullShare} f_arg7) ∗ (arg10.view.loc (c : Thread nD τ) ↦[arg10.view.set]{fullShare} f_arg10) ∗ (arg11.view.loc (c : Thread nD τ) ↦[arg11.view.set]{fullShare} f_arg11) ∗ (arg14.view.loc (c : Thread nD τ) ↦[arg14.view.set]{fullShare} f_arg14) ∗ (arg15.view.loc (c : Thread nD τ) ↦[arg15.view.set]{fullShare} f_arg15))

/-- The inner loop's invariant, at the words that its region does not read. -/
@[instance_reducible, sl_loop] def inner (𝒱 : Variants) (c : Dev nD) (bd : Option 𝒱.V) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .f32) (harg5 : arg5.IsWhole) (arg6 : Memref sig .tc .vmem S2x1x4096 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S2x1x4096 .f32) (harg11 : arg11.IsWhole) (arg12 : Memref sig .tc .vmem S1x128x4096 .bf16) (harg12 : arg12.IsWhole) (arg13 : Memref sig .tc .vmem S128x4096 .bf16) (harg13 : arg13.IsWhole) (arg14 : Memref sig .tc .vmem S1x128x4096 .f32) (harg14 : arg14.IsWhole) (arg15 : Memref sig .tc .vmem S128x4096 .f32) (harg15 : arg15.IsWhole) (arg16 : Memref sig .tc .vmem S1x1024x128 .f32) (harg16 : arg16.IsWhole) (arg17 : Memref sig .tc .vmem S2x1024x1 .f32) (harg17 : arg17.IsWhole) (k0_t1 : Fin k0_t1_loop.trips) (v107 : BitVec 32) (v125 : FVec F S1024x128 .bf16) (v133 : FVec F S1024x128 .bf16) (v141 : FVec F S1024x128 .bf16) (v149 : FVec F S1024x128 .bf16) (v157 : FVec F S1024x1 .f32) (v165 : FVec F S1024x1 .f32) (v174 : FVec F S1024x1 .f32) (v183 : FVec F S1024x1 .f32) (X_arg2 : BufTy.Contents (Elt F) arg2.view.ty) (X_arg3 : BufTy.Contents (Elt F) arg3.view.ty) (X_arg6 : BufTy.Contents (Elt F) arg6.view.ty) (X_arg12 : BufTy.Contents (Elt F) arg12.view.ty) (X_arg13 : BufTy.Contents (Elt F) arg13.view.ty) (G_arg11 : BufTy.Contents (Elt F) arg11.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) :=
  loopInv_k0_t2 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 0#32 v107 v125 v133 v141 v149 v157 v165 v174 v183 (constant S1x1024x128 .f32 0#32) X_arg2 X_arg3 X_arg6 X_arg12 X_arg13 G_arg11 G_arg14 G_arg15 G_arg16 G_arg17

variable (𝒱 : Variants) (c : Dev nD) (bd : Option 𝒱.V) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S2x1x4096 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .f32) (harg10 : arg10.IsWhole)
  (arg11 : Memref sig .tc .vmem S2x1x4096 .f32) (harg11 : arg11.IsWhole)
  (arg12 : Memref sig .tc .vmem S1x128x4096 .bf16) (harg12 : arg12.IsWhole)
  (arg13 : Memref sig .tc .vmem S128x4096 .bf16) (harg13 : arg13.IsWhole)
  (arg14 : Memref sig .tc .vmem S1x128x4096 .f32) (harg14 : arg14.IsWhole)
  (arg15 : Memref sig .tc .vmem S128x4096 .f32) (harg15 : arg15.IsWhole)
  (arg16 : Memref sig .tc .vmem S1x1024x128 .f32) (harg16 : arg16.IsWhole)
  (arg17 : Memref sig .tc .vmem S2x1024x1 .f32) (harg17 : arg17.IsWhole)
  (arg0 v59 : BitVec 32)

/-- One trip of the outer loop: the pieces that it writes, with the statement that it writes them. -/
@[irreducible] def trip (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (X_arg13 : BufTy.Contents (Elt F) arg13.view.ty)
    (k : Fin k0_t1_loop.trips) :
    Σ' (L_arg7 : BufTy.Contents (Elt F) arg7.view.ty → BufTy.Contents (Elt F) arg10.view.ty → BufTy.Contents (Elt F) arg11.view.ty → BufTy.Contents (Elt F) arg14.view.ty → BufTy.Contents (Elt F) arg15.view.ty → List (View.Piece (Elt F) S4096x128 .bf16)) (L_arg10 : BufTy.Contents (Elt F) arg7.view.ty → BufTy.Contents (Elt F) arg10.view.ty → BufTy.Contents (Elt F) arg11.view.ty → BufTy.Contents (Elt F) arg14.view.ty → BufTy.Contents (Elt F) arg15.view.ty → List (View.Piece (Elt F) S4096x128 .f32)) (L_arg11 : BufTy.Contents (Elt F) arg7.view.ty → BufTy.Contents (Elt F) arg10.view.ty → BufTy.Contents (Elt F) arg11.view.ty → BufTy.Contents (Elt F) arg14.view.ty → BufTy.Contents (Elt F) arg15.view.ty → List (View.Piece (Elt F) S2x1x4096 .f32)) (L_arg14 : BufTy.Contents (Elt F) arg7.view.ty → BufTy.Contents (Elt F) arg10.view.ty → BufTy.Contents (Elt F) arg11.view.ty → BufTy.Contents (Elt F) arg14.view.ty → BufTy.Contents (Elt F) arg15.view.ty → List (View.Piece (Elt F) S1x128x4096 .f32)),
      { L_arg15 : BufTy.Contents (Elt F) arg7.view.ty → BufTy.Contents (Elt F) arg10.view.ty → BufTy.Contents (Elt F) arg11.view.ty → BufTy.Contents (Elt F) arg14.view.ty → BufTy.Contents (Elt F) arg15.view.ty → List (View.Piece (Elt F) S128x4096 .f32) // ∀ (E : Set ℕ) (f_arg7 : BufTy.Contents (Elt F) arg7.view.ty) (f_arg10 : BufTy.Contents (Elt F) arg10.view.ty) (f_arg11 : BufTy.Contents (Elt F) arg11.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty),
      iprop(Trip (F := F) c arg1 arg2 arg3 arg4 arg5 arg6 arg12 arg13 arg7 arg10 arg11 arg14 arg15 X_arg1 X_arg2 X_arg3 X_arg4 X_arg5 X_arg6 X_arg12 X_arg13 f_arg7 f_arg10 f_arg11 f_arg14 f_arg15 ∗ (arg16.view.loc (c : Thread nD τ) ↦[arg16.view.set]{fullShare} f_arg16) ∗ (arg17.view.loc (c : Thread nD τ) ↦[arg17.view.set]{fullShare} f_arg17))
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 k PUnit.unit)
          (fun _ => iprop(Trip (F := F) c arg1 arg2 arg3 arg4 arg5 arg6 arg12 arg13 arg7 arg10 arg11 arg14 arg15 X_arg1 X_arg2 X_arg3 X_arg4 X_arg5 X_arg6 X_arg12 X_arg13 (arg7.view.writes (Elt F) f_arg7 (L_arg7 f_arg7 f_arg10 f_arg11 f_arg14 f_arg15)) (arg10.view.writes (Elt F) f_arg10 (L_arg10 f_arg7 f_arg10 f_arg11 f_arg14 f_arg15)) (arg11.view.writes (Elt F) f_arg11 (L_arg11 f_arg7 f_arg10 f_arg11 f_arg14 f_arg15)) (arg14.view.writes (Elt F) f_arg14 (L_arg14 f_arg7 f_arg10 f_arg11 f_arg14 f_arg15)) (arg15.view.writes (Elt F) f_arg15 (L_arg15 f_arg7 f_arg10 f_arg11 f_arg14 f_arg15)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)))) } := by
  refine ⟨?_, ?_, ?_, ?_, ?_, fun E f_arg7 f_arg10 f_arg11 f_arg14 f_arg15 f_arg16 f_arg17 => ?run⟩
  case run =>
    unfold k0_t1_body
    iintro ⟨⟨HR_arg1, HR_arg2, HR_arg3, HR_arg4, HR_arg5, HR_arg6, HR_arg12, HR_arg13, HW_arg7, HW_arg10, HW_arg11, HW_arg14, HW_arg15⟩, HW_arg16, HW_arg17⟩
    sl_exec
    sl_step
    sl_close

end Cert.FoxIdeal.Hand

end
-- ==== Proof.Fox.Loop.lean ====
/-
  The outer loop of the forgetting attention's backward kernel, by its trips: before trip `k` each buffer that the loop writes holds the
  pieces of the trips before it over what the loop found there.
-/
module

public import proofs.«01_k».proof.Proof.Fox.Trip

@[expose] public section

set_option maxRecDepth 16384
set_option maxHeartbeats 4000000

noncomputable section

namespace Cert.FoxIdeal.Hand

open Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (𝒱 : Variants) (c : Dev nD) (bd : Option 𝒱.V) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S2x1x4096 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .f32) (harg10 : arg10.IsWhole)
  (arg11 : Memref sig .tc .vmem S2x1x4096 .f32) (harg11 : arg11.IsWhole)
  (arg12 : Memref sig .tc .vmem S1x128x4096 .bf16) (harg12 : arg12.IsWhole)
  (arg13 : Memref sig .tc .vmem S128x4096 .bf16) (harg13 : arg13.IsWhole)
  (arg14 : Memref sig .tc .vmem S1x128x4096 .f32) (harg14 : arg14.IsWhole)
  (arg15 : Memref sig .tc .vmem S128x4096 .f32) (harg15 : arg15.IsWhole)
  (arg16 : Memref sig .tc .vmem S1x1024x128 .f32) (harg16 : arg16.IsWhole)
  (arg17 : Memref sig .tc .vmem S2x1024x1 .f32) (harg17 : arg17.IsWhole)
  (arg0 v59 : BitVec 32)
  (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg12 : BufTy.Contents (Elt F) arg12.view.ty) (X_arg13 : BufTy.Contents (Elt F) arg13.view.ty)
  (G_arg7 : BufTy.Contents (Elt F) arg7.view.ty) (G_arg10 : BufTy.Contents (Elt F) arg10.view.ty) (G_arg11 : BufTy.Contents (Elt F) arg11.view.ty) (G_arg14 : BufTy.Contents (Elt F) arg14.view.ty) (G_arg15 : BufTy.Contents (Elt F) arg15.view.ty)

/-- The pieces of the trips, one list for each buffer written. -/
abbrev Pcs (F : FTy → Type) : Type := List (View.Piece (Elt F) S4096x128 .bf16) × List (View.Piece (Elt F) S4096x128 .f32) × List (View.Piece (Elt F) S2x1x4096 .f32) × List (View.Piece (Elt F) S1x128x4096 .f32) × List (View.Piece (Elt F) S128x4096 .f32)

/-- Trip `k`'s pieces in front of those of the trips before it. -/
@[irreducible] def pbStep (k : ℕ) (prev : Pcs F) : Pcs F :=
  if h : k < k0_t1_loop.trips then
    ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 ⟨k, h⟩).1 (arg7.view.writes (Elt F) G_arg7 prev.1) (arg10.view.writes (Elt F) G_arg10 prev.2.1) (arg11.view.writes (Elt F) G_arg11 prev.2.2.1) (arg14.view.writes (Elt F) G_arg14 prev.2.2.2.1) (arg15.view.writes (Elt F) G_arg15 prev.2.2.2.2) ++ prev.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 ⟨k, h⟩).2.1 (arg7.view.writes (Elt F) G_arg7 prev.1) (arg10.view.writes (Elt F) G_arg10 prev.2.1) (arg11.view.writes (Elt F) G_arg11 prev.2.2.1) (arg14.view.writes (Elt F) G_arg14 prev.2.2.2.1) (arg15.view.writes (Elt F) G_arg15 prev.2.2.2.2) ++ prev.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 ⟨k, h⟩).2.2.1 (arg7.view.writes (Elt F) G_arg7 prev.1) (arg10.view.writes (Elt F) G_arg10 prev.2.1) (arg11.view.writes (Elt F) G_arg11 prev.2.2.1) (arg14.view.writes (Elt F) G_arg14 prev.2.2.2.1) (arg15.view.writes (Elt F) G_arg15 prev.2.2.2.2) ++ prev.2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 ⟨k, h⟩).2.2.2.1 (arg7.view.writes (Elt F) G_arg7 prev.1) (arg10.view.writes (Elt F) G_arg10 prev.2.1) (arg11.view.writes (Elt F) G_arg11 prev.2.2.1) (arg14.view.writes (Elt F) G_arg14 prev.2.2.2.1) (arg15.view.writes (Elt F) G_arg15 prev.2.2.2.2) ++ prev.2.2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 ⟨k, h⟩).2.2.2.2.1 (arg7.view.writes (Elt F) G_arg7 prev.1) (arg10.view.writes (Elt F) G_arg10 prev.2.1) (arg11.view.writes (Elt F) G_arg11 prev.2.2.1) (arg14.view.writes (Elt F) G_arg14 prev.2.2.2.1) (arg15.view.writes (Elt F) G_arg15 prev.2.2.2.2) ++ prev.2.2.2.2)
  else prev

/-- The pieces of the trips before `k`, the last trip's first. -/
def pb : ℕ → Pcs F
  | 0 => ([], [], [], [], [])
  | k + 1 => pbStep 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k (pb k)

theorem pb_succ (k : Fin k0_t1_loop.trips) :
    pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 (k.val + 1)
      = ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 k).1 (arg7.view.writes (Elt F) G_arg7 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).1) (arg10.view.writes (Elt F) G_arg10 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.1) (arg11.view.writes (Elt F) G_arg11 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.1) (arg14.view.writes (Elt F) G_arg14 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.2.1) (arg15.view.writes (Elt F) G_arg15 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.2.2) ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 k).2.1 (arg7.view.writes (Elt F) G_arg7 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).1) (arg10.view.writes (Elt F) G_arg10 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.1) (arg11.view.writes (Elt F) G_arg11 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.1) (arg14.view.writes (Elt F) G_arg14 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.2.1) (arg15.view.writes (Elt F) G_arg15 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.2.2) ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 k).2.2.1 (arg7.view.writes (Elt F) G_arg7 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).1) (arg10.view.writes (Elt F) G_arg10 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.1) (arg11.view.writes (Elt F) G_arg11 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.1) (arg14.view.writes (Elt F) G_arg14 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.2.1) (arg15.view.writes (Elt F) G_arg15 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.2.2) ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 k).2.2.2.1 (arg7.view.writes (Elt F) G_arg7 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).1) (arg10.view.writes (Elt F) G_arg10 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.1) (arg11.view.writes (Elt F) G_arg11 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.1) (arg14.view.writes (Elt F) G_arg14 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.2.1) (arg15.view.writes (Elt F) G_arg15 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.2.2) ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 k).2.2.2.2.1 (arg7.view.writes (Elt F) G_arg7 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).1) (arg10.view.writes (Elt F) G_arg10 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.1) (arg11.view.writes (Elt F) G_arg11 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.1) (arg14.view.writes (Elt F) G_arg14 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.2.1) (arg15.view.writes (Elt F) G_arg15 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.2.2) ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k.val).2.2.2.2) := by
  rw [pb.eq_2]; unfold pbStep; exact dif_pos k.isLt

/-- The loop's invariant before trip `k`. -/
abbrev inv (k : ℕ) (_u : PUnit) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg12.view.loc (c : Thread nD τ) ↦[arg12.view.set]{fullShare} X_arg12) ∗ (arg13.view.loc (c : Thread nD τ) ↦[arg13.view.set]{fullShare} X_arg13) ∗ (∃ f, (arg7.view.loc (c : Thread nD τ) ↦[arg7.view.set]{fullShare} f) ∗ ⌜f = arg7.view.writes (Elt F) G_arg7 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k).1⌝) ∗ (∃ f, (arg10.view.loc (c : Thread nD τ) ↦[arg10.view.set]{fullShare} f) ∗ ⌜f = arg10.view.writes (Elt F) G_arg10 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k).2.1⌝) ∗ (∃ f, (arg11.view.loc (c : Thread nD τ) ↦[arg11.view.set]{fullShare} f) ∗ ⌜f = arg11.view.writes (Elt F) G_arg11 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k).2.2.1⌝) ∗ (∃ f, (arg14.view.loc (c : Thread nD τ) ↦[arg14.view.set]{fullShare} f) ∗ ⌜f = arg14.view.writes (Elt F) G_arg14 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k).2.2.2.1⌝) ∗ (∃ f, (arg15.view.loc (c : Thread nD τ) ↦[arg15.view.set]{fullShare} f) ∗ ⌜f = arg15.view.writes (Elt F) G_arg15 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v59 X_arg1 X_arg2 X_arg3 X_arg4 X_arg5 X_arg6 X_arg12 X_arg13 G_arg7 G_arg10 G_arg11 G_arg14 G_arg15 k).2.2.2.2⌝) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)))

/-- The outer loop by its invariant. -/
@[instance_reducible, sl_loop] def outer (E : Set ℕ) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 0#32 where
  inv := inv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 0#32 X_arg1 X_arg2 X_arg3 X_arg4 X_arg5 X_arg6 X_arg12 X_arg13 G_arg7 G_arg10 G_arg11 G_arg14 G_arg15
  step k acc := by
    iintro ⟨HR_arg1, HR_arg2, HR_arg3, HR_arg4, HR_arg5, HR_arg6, HR_arg12, HR_arg13, ⟨%f_arg7, HW_arg7, %h_arg7⟩, ⟨%f_arg10, HW_arg10, %h_arg10⟩, ⟨%f_arg11, HW_arg11, %h_arg11⟩, ⟨%f_arg14, HW_arg14, %h_arg14⟩, ⟨%f_arg15, HW_arg15, %h_arg15⟩, ⟨%f_arg16, HW_arg16⟩, ⟨%f_arg17, HW_arg17⟩⟩
    iapply (wp_wand_r Idealize.ShloMosaic.frame (wpE (defs₀ (F := F)) 𝒱 (c : Thread nD τ) bd) E)
    isplitl [HR_arg1 HR_arg2 HR_arg3 HR_arg4 HR_arg5 HR_arg6 HR_arg12 HR_arg13 HW_arg7 HW_arg10 HW_arg11 HW_arg14 HW_arg15 HW_arg16 HW_arg17]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 0#32 X_arg1 X_arg2 X_arg3 X_arg4 X_arg5 X_arg6 X_arg12 X_arg13 k).2.2.2.2.2 E f_arg7 f_arg10 f_arg11 f_arg14 f_arg15 f_arg16 f_arg17)
      isplitl [HR_arg1 HR_arg2 HR_arg3 HR_arg4 HR_arg5 HR_arg6 HR_arg12 HR_arg13 HW_arg7 HW_arg10 HW_arg11 HW_arg14 HW_arg15]
      · unfold Trip
        isplitl [HR_arg1]; · iexact HR_arg1
        isplitl [HR_arg2]; · iexact HR_arg2
        isplitl [HR_arg3]; · iexact HR_arg3
        isplitl [HR_arg4]; · iexact HR_arg4
        isplitl [HR_arg5]; · iexact HR_arg5
        isplitl [HR_arg6]; · iexact HR_arg6
        isplitl [HR_arg12]; · iexact HR_arg12
        isplitl [HR_arg13]; · iexact HR_arg13
        isplitl [HW_arg7]; · iexact HW_arg7
        isplitl [HW_arg10]; · iexact HW_arg10
        isplitl [HW_arg11]; · iexact HW_arg11
        isplitl [HW_arg14]; · iexact HW_arg14
        iexact HW_arg15
      isplitl [HW_arg16]; · iexact HW_arg16
      iexact HW_arg17
    · iintro %_ ⟨⟨HR_arg1, HR_arg2, HR_arg3, HR_arg4, HR_arg5, HR_arg6, HR_arg12, HR_arg13, HW_arg7, HW_arg10, HW_arg11, HW_arg14, HW_arg15⟩, HW_arg16, HW_arg17⟩
      isplitl [HR_arg1]; · iexact HR_arg1
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg12]; · iexact HR_arg12
      isplitl [HR_arg13]; · iexact HR_arg13
      isplitl [HW_arg7]
      · iexists _; isplitl [HW_arg7]; · iexact HW_arg7
        ipureintro; rw [pb_succ, h_arg7, h_arg10, h_arg11, h_arg14, h_arg15, ← View.writes_append]
      isplitl [HW_arg10]
      · iexists _; isplitl [HW_arg10]; · iexact HW_arg10
        ipureintro; rw [pb_succ, h_arg7, h_arg10, h_arg11, h_arg14, h_arg15, ← View.writes_append]
      isplitl [HW_arg11]
      · iexists _; isplitl [HW_arg11]; · iexact HW_arg11
        ipureintro; rw [pb_succ, h_arg7, h_arg10, h_arg11, h_arg14, h_arg15, ← View.writes_append]
      isplitl [HW_arg14]
      · iexists _; isplitl [HW_arg14]; · iexact HW_arg14
        ipureintro; rw [pb_succ, h_arg7, h_arg10, h_arg11, h_arg14, h_arg15, ← View.writes_append]
      isplitl [HW_arg15]
      · iexists _; isplitl [HW_arg15]; · iexact HW_arg15
        ipureintro; rw [pb_succ, h_arg7, h_arg10, h_arg11, h_arg14, h_arg15, ← View.writes_append]
      isplitl [HW_arg16]; · iexact HW_arg16
      iexact HW_arg17

end Cert.FoxIdeal.Hand

end
-- ==== Proof.Fox.Body.lean ====
/-
  The body of the forgetting attention's backward kernel at one grid point, run once at any float values.
-/
module

public import proofs.«01_k».proof.Proof.Fox.Loop

@[expose] public section

set_option maxRecDepth 16384
set_option maxHeartbeats 4000000

noncomputable section

namespace Cert.FoxIdeal.Hand

open Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The body's statement: from the inputs at their contents and the results' and scratch buffers at any, it leaves the
    results' buffers at what `R_…` makes of what they held. -/
def BodySpec (𝒱 : Variants) (c : Dev nD) (bd : Option 𝒱.V) (i : grid0.Coords)
    (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .f32) (harg5 : arg5.IsWhole) (arg6 : Memref sig .tc .vmem S2x1x4096 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S2x1x4096 .f32) (harg11 : arg11.IsWhole) (arg12 : Memref sig .tc .vmem S1x128x4096 .bf16) (harg12 : arg12.IsWhole) (arg13 : Memref sig .tc .vmem S128x4096 .bf16) (harg13 : arg13.IsWhole) (arg14 : Memref sig .tc .vmem S1x128x4096 .f32) (harg14 : arg14.IsWhole) (arg15 : Memref sig .tc .vmem S128x4096 .f32) (harg15 : arg15.IsWhole) (arg16 : Memref sig .tc .vmem S1x1024x128 .f32) (harg16 : arg16.IsWhole) (arg17 : Memref sig .tc .vmem S2x1024x1 .f32) (harg17 : arg17.IsWhole)
    (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty)
    (R_arg7 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg7.view.ty)
    (R_arg8 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg8.view.ty)
    (R_arg9 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg9.view.ty)
    (R_arg10 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg10.view.ty)
    (R_arg11 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg11.view.ty) : Prop :=
  ∀ (E : Set ℕ) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty),
    (iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17)) : sProp 𝕄G)
    ⊢ wp frame (wpE (defs₀ (F := F)) 𝒱 (c : Thread nD τ) bd) E (cc0_fox_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
      (fun _ => iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} (R_arg7 f_arg7 f_arg8 f_arg9 f_arg10 f_arg11)) ∗ (arg8.view.loc (c : Thread nD τ) ↦[arg8.view.set]{fullShare} (R_arg8 f_arg7 f_arg8 f_arg9 f_arg10 f_arg11)) ∗ (arg9.view.loc (c : Thread nD τ) ↦[arg9.view.set]{fullShare} (R_arg9 f_arg7 f_arg8 f_arg9 f_arg10 f_arg11)) ∗ (arg10.view.loc (c : Thread nD τ) ↦[arg10.view.set]{fullShare} (R_arg10 f_arg7 f_arg8 f_arg9 f_arg10 f_arg11)) ∗ (arg11.view.loc (c : Thread nD τ) ↦[arg11.view.set]{fullShare} (R_arg11 f_arg7 f_arg8 f_arg9 f_arg10 f_arg11)) ∗ (∃ f : BufTy.Contents (Elt F) arg12.view.ty, (arg12.view.loc (c : Thread nD τ) ↦[arg12.view.set]{fullShare} f)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f))))

/-- The first point: the condition under which the body clears the buffer that the points share. -/
abbrev Starts (i : grid0.Coords) : Prop := (Scalar.cmpi .ne (Scalar.extui (Scalar.cmpi .eq (BitVec.ofNat 32 (i 0).val) 0#32)) 0#32) = 1#1

variable (𝒱 : Variants) (c : Dev nD) (bd : Option 𝒱.V) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S2x1x4096 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .f32) (harg10 : arg10.IsWhole)
  (arg11 : Memref sig .tc .vmem S2x1x4096 .f32) (harg11 : arg11.IsWhole)
  (arg12 : Memref sig .tc .vmem S1x128x4096 .bf16) (harg12 : arg12.IsWhole)
  (arg13 : Memref sig .tc .vmem S128x4096 .bf16) (harg13 : arg13.IsWhole)
  (arg14 : Memref sig .tc .vmem S1x128x4096 .f32) (harg14 : arg14.IsWhole)
  (arg15 : Memref sig .tc .vmem S128x4096 .f32) (harg15 : arg15.IsWhole)
  (arg16 : Memref sig .tc .vmem S1x1024x128 .f32) (harg16 : arg16.IsWhole)
  (arg17 : Memref sig .tc .vmem S2x1024x1 .f32) (harg17 : arg17.IsWhole)

/-- The body's run at a point that starts the buffer shared by the points: what it leaves in each result's buffer, as a function of what it finds there. -/
@[irreducible] def bodyA (hc : Starts i) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    Σ' (R_arg7 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg7.view.ty) (R_arg8 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg8.view.ty) (R_arg9 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg9.view.ty) (R_arg10 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg10.view.ty),
      { R_arg11 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg11.view.ty // BodySpec (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg1 X_arg2 X_arg3 X_arg4 X_arg5 X_arg6 R_arg7 R_arg8 R_arg9 R_arg10 R_arg11 } := by
  refine ⟨?_, ?_, ?_, ?_, ?_, ?run⟩
  case run =>
    intro E f_arg7 f_arg8 f_arg9 f_arg10 f_arg11 f_arg12 f_arg13 f_arg14 f_arg15 f_arg16 f_arg17
    simp only [cc0_fox_bwd_eq_skeleton]; unfold cc0_fox_bwd_skel
    simp only [k0_part21_eq_skeleton, k0_part22_eq_skeleton, k0_part23_eq_skeleton]
    iintro ⟨HR_arg1, HR_arg2, HR_arg3, HR_arg4, HR_arg5, HR_arg6, HW_arg7, HW_arg8, HW_arg9, HW_arg10, HW_arg11, HW_arg12, HW_arg13, HW_arg14, HW_arg15, HW_arg16, HW_arg17⟩
    sl_exec (disch := first | sl_exact hc)
    sl_step
    sl_close

/-- The body's run at a point that goes on with the buffer shared by the points: what it leaves in each result's buffer, as a function of what it finds there. -/
@[irreducible] def bodyB (hc : ¬ Starts i) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) :
    Σ' (R_arg7 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg7.view.ty) (R_arg8 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg8.view.ty) (R_arg9 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg9.view.ty) (R_arg10 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg10.view.ty),
      { R_arg11 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg11.view.ty // BodySpec (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg1 X_arg2 X_arg3 X_arg4 X_arg5 X_arg6 R_arg7 R_arg8 R_arg9 R_arg10 R_arg11 } := by
  refine ⟨?_, ?_, ?_, ?_, ?_, ?run⟩
  case run =>
    intro E f_arg7 f_arg8 f_arg9 f_arg10 f_arg11 f_arg12 f_arg13 f_arg14 f_arg15 f_arg16 f_arg17
    simp only [cc0_fox_bwd_eq_skeleton]; unfold cc0_fox_bwd_skel
    simp only [k0_part21_eq_skeleton, k0_part22_eq_skeleton, k0_part23_eq_skeleton]
    iintro ⟨HR_arg1, HR_arg2, HR_arg3, HR_arg4, HR_arg5, HR_arg6, HW_arg7, HW_arg8, HW_arg9, HW_arg10, HW_arg11, HW_arg12, HW_arg13, HW_arg14, HW_arg15, HW_arg16, HW_arg17⟩
    sl_exec (disch := first | sl_exact hc)
    sl_step
    sl_close

end Cert.FoxIdeal.Hand

end
-- ==== Proof.Fox.Step.lean ====
/-
  The forgetting attention's backward kernel: the body at one point over owned staging buffers, with what it needs of
  what it finds in the results' buffers and what it leaves there as predicates.
-/
module

public import proofs.«01_k».proof.Proof.Fox.Body
public import Idealize.ShloMosaic.Lib.Claim

@[expose] public section

set_option maxRecDepth 16384
set_option maxHeartbeats 4000000

noncomputable section

namespace Cert.FoxIdeal.Hand

open Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- Owned, at contents of which `P` holds. -/
abbrev Some' (c : Dev nD) {sh : Shape} {e : EltTy} (a : Memref sig .tc .vmem sh e) (P : (sh.Idx → Elt F e) → Prop) : sProp 𝕄G :=
  iprop(∃ d, ⌜P d⌝ ∗ owns (c : Thread nD τ) a fullShare d)

/-- The body over owned buffers. -/
theorem step (𝒱 : Variants) (c : Dev nD) (bd : Option 𝒱.V) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S2x1x4096 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .f32) (harg10 : arg10.IsWhole)
  (arg11 : Memref sig .tc .vmem S2x1x4096 .f32) (harg11 : arg11.IsWhole)
  (arg12 : Memref sig .tc .vmem S1x128x4096 .bf16) (harg12 : arg12.IsWhole)
  (arg13 : Memref sig .tc .vmem S128x4096 .bf16) (harg13 : arg13.IsWhole)
  (arg14 : Memref sig .tc .vmem S1x128x4096 .f32) (harg14 : arg14.IsWhole)
  (arg15 : Memref sig .tc .vmem S128x4096 .f32) (harg15 : arg15.IsWhole)
  (arg16 : Memref sig .tc .vmem S1x1024x128 .f32) (harg16 : arg16.IsWhole)
  (arg17 : Memref sig .tc .vmem S2x1024x1 .f32) (harg17 : arg17.IsWhole)
    (x0 : S4096x128.Idx → Elt F .bf16)
    (x1 : S4096x128.Idx → Elt F .bf16)
    (x2 : S4096x128.Idx → Elt F .bf16)
    (x3 : S4096x128.Idx → Elt F .bf16)
    (x4 : S4096x128.Idx → Elt F .f32)
    (x5 : S2x1x4096.Idx → Elt F .f32)
    {R_arg7 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg7.view.ty}
    {R_arg8 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg8.view.ty}
    {R_arg9 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg9.view.ty}
    {R_arg10 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg10.view.ty}
    {R_arg11 : BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg11.view.ty}
    (P_arg7 Q_arg7 : (S4096x128.Idx → Elt F .bf16) → Prop)
    (P_arg8 Q_arg8 : (S4096x128.Idx → Elt F .bf16) → Prop)
    (P_arg9 Q_arg9 : (S4096x128.Idx → Elt F .bf16) → Prop)
    (P_arg10 Q_arg10 : (S4096x128.Idx → Elt F .f32) → Prop)
    (P_arg11 Q_arg11 : (S2x1x4096.Idx → Elt F .f32) → Prop)
    (hs : BodySpec (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread x0) (harg2.unread x1) (harg3.unread x2) (harg4.unread x3) (harg5.unread x4) (harg6.unread x5) R_arg7 R_arg8 R_arg9 R_arg10 R_arg11)
    (hQ : ∀ f_arg7 f_arg8 f_arg9 f_arg10 f_arg11, P_arg7 (arg7.view.read (Elt F) f_arg7) → P_arg8 (arg8.view.read (Elt F) f_arg8) → P_arg9 (arg9.view.read (Elt F) f_arg9) → P_arg10 (arg10.view.read (Elt F) f_arg10) → P_arg11 (arg11.view.read (Elt F) f_arg11) →
      Q_arg7 (arg7.view.read (Elt F) (R_arg7 f_arg7 f_arg8 f_arg9 f_arg10 f_arg11)) ∧ Q_arg8 (arg8.view.read (Elt F) (R_arg8 f_arg7 f_arg8 f_arg9 f_arg10 f_arg11)) ∧ Q_arg9 (arg9.view.read (Elt F) (R_arg9 f_arg7 f_arg8 f_arg9 f_arg10 f_arg11)) ∧ Q_arg10 (arg10.view.read (Elt F) (R_arg10 f_arg7 f_arg8 f_arg9 f_arg10 f_arg11)) ∧ Q_arg11 (arg11.view.read (Elt F) (R_arg11 f_arg7 f_arg8 f_arg9 f_arg10 f_arg11)))
    (E : Set ℕ) :
    (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ Some' c arg7 P_arg7 ∗ Some' c arg8 P_arg8 ∗ Some' c arg9 P_arg9 ∗ Some' c arg10 P_arg10 ∗ Some' c arg11 P_arg11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) : sProp 𝕄G)
      ⊢ wp frame (wpE (defs₀ (F := F)) 𝒱 (c : Thread nD τ) bd) E (cc0_fox_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ Some' c arg7 Q_arg7 ∗ Some' c arg8 Q_arg8 ∗ Some' c arg9 Q_arg9 ∗ Some' c arg10 Q_arg10 ∗ Some' c arg11 Q_arg11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d))) := by
  unfold Some' owns
  iintro ⟨⟨%i0, %hi0, I0⟩, ⟨%i1, %hi1, I1⟩, ⟨%i2, %hi2, I2⟩, ⟨%i3, %hi3, I3⟩, ⟨%i4, %hi4, I4⟩, ⟨%i5, %hi5, I5⟩, ⟨%d0, %hp0, %o0, %ho0, O0⟩, ⟨%d1, %hp1, %o1, %ho1, O1⟩, ⟨%d2, %hp2, %o2, %ho2, O2⟩, ⟨%d3, %hp3, %o3, %ho3, O3⟩, ⟨%d4, %hp4, %o4, %ho4, O4⟩, ⟨%e0, %s0, -, S0⟩, ⟨%e1, %s1, -, S1⟩, ⟨%e2, %s2, -, S2⟩, ⟨%e3, %s3, -, S3⟩, ⟨%e4, %s4, -, S4⟩, ⟨%e5, %s5, -, S5⟩⟩
  obtain rfl := harg1.eq_unread hi0
  obtain rfl := harg2.eq_unread hi1
  obtain rfl := harg3.eq_unread hi2
  obtain rfl := harg4.eq_unread hi3
  obtain rfl := harg5.eq_unread hi4
  obtain rfl := harg6.eq_unread hi5
  subst ho0
  subst ho1
  subst ho2
  subst ho3
  subst ho4
  obtain ⟨hq0, hq1, hq2, hq3, hq4⟩ := hQ o0 o1 o2 o3 o4 hp0 hp1 hp2 hp3 hp4
  iapply ((hs E o0 o1 o2 o3 o4 s0 s1 s2 s3 s4 s5).trans (wp_mono _ _ _ fun _ => ?post))
  case post =>
    iintro ⟨I0, I1, I2, I3, I4, I5, O0, O1, O2, O3, O4, ⟨%s0', S0⟩, ⟨%s1', S1⟩, ⟨%s2', S2⟩, ⟨%s3', S3⟩, ⟨%s4', S4⟩, ⟨%s5', S5⟩⟩
    isplitl [I0]
    · iexists _; isplitr; · ipureintro; exact harg1.read_unread _
      iexact I0
    isplitl [I1]
    · iexists _; isplitr; · ipureintro; exact harg2.read_unread _
      iexact I1
    isplitl [I2]
    · iexists _; isplitr; · ipureintro; exact harg3.read_unread _
      iexact I2
    isplitl [I3]
    · iexists _; isplitr; · ipureintro; exact harg4.read_unread _
      iexact I3
    isplitl [I4]
    · iexists _; isplitr; · ipureintro; exact harg5.read_unread _
      iexact I4
    isplitl [I5]
    · iexists _; isplitr; · ipureintro; exact harg6.read_unread _
      iexact I5
    isplitl [O0]
    · iexists _; isplitr; · ipureintro; exact hq0
      iexists _; isplitr; · ipureintro; rfl
      iexact O0
    isplitl [O1]
    · iexists _; isplitr; · ipureintro; exact hq1
      iexists _; isplitr; · ipureintro; rfl
      iexact O1
    isplitl [O2]
    · iexists _; isplitr; · ipureintro; exact hq2
      iexists _; isplitr; · ipureintro; rfl
      iexact O2
    isplitl [O3]
    · iexists _; isplitr; · ipureintro; exact hq3
      iexists _; isplitr; · ipureintro; rfl
      iexact O3
    isplitl [O4]
    · iexists _; isplitr; · ipureintro; exact hq4
      iexists _; isplitr; · ipureintro; rfl
      iexact O4
    isplitl [S0]
    · iexists _, _; isplitr; swap; · iexact S0
      ipureintro; rfl
    isplitl [S1]
    · iexists _, _; isplitr; swap; · iexact S1
      ipureintro; rfl
    isplitl [S2]
    · iexists _, _; isplitr; swap; · iexact S2
      ipureintro; rfl
    isplitl [S3]
    · iexists _, _; isplitr; swap; · iexact S3
      ipureintro; rfl
    isplitl [S4]
    · iexists _, _; isplitr; swap; · iexact S4
      ipureintro; rfl
    iexists _, _; isplitr; swap; · iexact S5
    ipureintro; rfl
  isplitl [I0]; · iexact I0
  isplitl [I1]; · iexact I1
  isplitl [I2]; · iexact I2
  isplitl [I3]; · iexact I3
  isplitl [I4]; · iexact I4
  isplitl [I5]; · iexact I5
  isplitl [O0]; · iexact O0
  isplitl [O1]; · iexact O1
  isplitl [O2]; · iexact O2
  isplitl [O3]; · iexact O3
  isplitl [O4]; · iexact O4
  isplitl [S0]; · iexact S0
  isplitl [S1]; · iexact S1
  isplitl [S2]; · iexact S2
  isplitl [S3]; · iexact S3
  isplitl [S4]; · iexact S4
  iexact S5

end Cert.FoxIdeal.Hand

end
-- ==== Proof.Fox.Run.lean ====
/-
  The forgetting attention's backward kernel: the launch, with nothing named of what the results' buffers hold: every
  run ends, its arguments unchanged.
-/
module

public import proofs.«01_k».proof.Proof.Fox.Step
public import proofs.«01_k».proof.Proof.Gen.FoxIdeal.Frame

@[expose] public section

set_option maxRecDepth 16384

noncomputable section

namespace Cert.FoxIdeal.Hand

open Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- The results' windows, of whose contents this run says nothing. -/
def forgets0 : Fin 11 → Bool := fun w => w.val == 6 || w.val == 7 || w.val == 8 || w.val == 9 || w.val == 10

/-- The launch's data: each input's buffer at its block, the results' unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with, -/
def bodyPre (c : Dev nD) (t : Fin cfg0.N) : sProp 𝕄G :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d))

/-- and what it returns. -/
def bodyPost (c : Dev nD) (t : Fin cfg0.N) : sProp 𝕄G :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (∃ d, owns (c : Thread nD τ) (win0_6.stage (cfg0.slots t 6)) fullShare d)
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d))

/-- The scratch buffers out of the launch's invariant. -/
theorem ΦA_eq (c : Dev nD) :
    (Pipeline.ΦA spec0 c : sProp 𝕄G)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, ΦA_eq,
    after0_0, after0_1, after0_2, after0_3, after0_4, after0_5]
  by_cases h0 : Starts (grid0.coords t)
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    icases HΦ with ⟨⟨S0, S1, S2, S3, S4, S5⟩, HR⟩
    ihave K := (step Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (fun _ => True) (fun _ => True) (fun _ => True) (fun _ => True) (fun _ => True) (fun _ => True) (fun _ => True) (fun _ => True) (fun _ => True) (fun _ => True) (bodyA Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) h0 _ _ _ _ _ _).2.2.2.2.2 (by intros; exact ⟨trivial, trivial, trivial, trivial, trivial⟩) Set.univ) $$ [H0 H1 H2 H3 H4 H5 H6 H7 H8 H9 H10 S0 S1 S2 S3 S4 S5]
    · isplitl [H0]; · iexact H0
      isplitl [H1]; · iexact H1
      isplitl [H2]; · iexact H2
      isplitl [H3]; · iexact H3
      isplitl [H4]; · iexact H4
      isplitl [H5]; · iexact H5
      isplitl [H6]
      · iexists d6; isplitr; · ipureintro; trivial
        iexact H6
      isplitl [H7]
      · iexists d7; isplitr; · ipureintro; trivial
        iexact H7
      isplitl [H8]
      · iexists d8; isplitr; · ipureintro; trivial
        iexact H8
      isplitl [H9]
      · iexists d9; isplitr; · ipureintro; trivial
        iexact H9
      isplitl [H10]
      · iexists d10; isplitr; · ipureintro; trivial
        iexact H10
      isplitl [S0]; · iexact S0
      isplitl [S1]; · iexact S1
      isplitl [S2]; · iexact S2
      isplitl [S3]; · iexact S3
      isplitl [S4]; · iexact S4
      iexact S5
    iapply (wp_wand_r _ _)
    isplitl [K]; · iexact K
    iintro %_ ⟨H0, H1, H2, H3, H4, H5, ⟨%r6, -, H6⟩, ⟨%r7, -, H7⟩, ⟨%r8, -, H8⟩, ⟨%r9, -, H9⟩, ⟨%r10, -, H10⟩, S0, S1, S2, S3, S4, S5⟩
    isplitl [HR S0 S1 S2 S3 S4 S5]
    · isplitr [HR]
      · isplitl [S0]; · iexact S0
        isplitl [S1]; · iexact S1
        isplitl [S2]; · iexact S2
        isplitl [S3]; · iexact S3
        isplitl [S4]; · iexact S4
        iexact S5
      · iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iexists _; iexact H10
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    icases HΦ with ⟨⟨S0, S1, S2, S3, S4, S5⟩, HR⟩
    ihave K := (step Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (fun _ => True) (fun _ => True) (fun _ => True) (fun _ => True) (fun _ => True) (fun _ => True) (fun _ => True) (fun _ => True) (fun _ => True) (fun _ => True) (bodyB Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) h0 _ _ _ _ _ _).2.2.2.2.2 (by intros; exact ⟨trivial, trivial, trivial, trivial, trivial⟩) Set.univ) $$ [H0 H1 H2 H3 H4 H5 H6 H7 H8 H9 H10 S0 S1 S2 S3 S4 S5]
    · isplitl [H0]; · iexact H0
      isplitl [H1]; · iexact H1
      isplitl [H2]; · iexact H2
      isplitl [H3]; · iexact H3
      isplitl [H4]; · iexact H4
      isplitl [H5]; · iexact H5
      isplitl [H6]
      · iexists d6; isplitr; · ipureintro; trivial
        iexact H6
      isplitl [H7]
      · iexists d7; isplitr; · ipureintro; trivial
        iexact H7
      isplitl [H8]
      · iexists d8; isplitr; · ipureintro; trivial
        iexact H8
      isplitl [H9]
      · iexists d9; isplitr; · ipureintro; trivial
        iexact H9
      isplitl [H10]
      · iexists d10; isplitr; · ipureintro; trivial
        iexact H10
      isplitl [S0]; · iexact S0
      isplitl [S1]; · iexact S1
      isplitl [S2]; · iexact S2
      isplitl [S3]; · iexact S3
      isplitl [S4]; · iexact S4
      iexact S5
    iapply (wp_wand_r _ _)
    isplitl [K]; · iexact K
    iintro %_ ⟨H0, H1, H2, H3, H4, H5, ⟨%r6, -, H6⟩, ⟨%r7, -, H7⟩, ⟨%r8, -, H8⟩, ⟨%r9, -, H9⟩, ⟨%r10, -, H10⟩, S0, S1, S2, S3, S4, S5⟩
    isplitl [HR S0 S1 S2 S3 S4 S5]
    · isplitr [HR]
      · isplitl [S0]; · iexact S0
        isplitl [S1]; · iexact S1
        isplitl [S2]; · iexact S2
        isplitl [S3]; · iexact S3
        isplitl [S4]; · iexact S4
        iexact S5
      · iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iexists _; iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The buffers that the lines after the call write. -/
def T0 : Finset (Ref sig .tc) := {main_v55, main_v56, main_v57, main_v58, main_v59, main_v60, main_v61, main_v62}

theorem tail_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl
  all_goals
    intro b hb
    simp only [StableHlo.nullary_writes, StableHlo.unary_writes, StableHlo.binary_writes, StableHlo.ternary_writes,
      StableHlo.quaternary_writes, StableHlo.reshape_writes, Finset.mem_singleton] at hb
    cases Proc.devRef_injective (τ := τ) _ hb
    decide

set_option backward.isDefEq.respectTransparency.types false in
set_option maxHeartbeats 2000000 in
/-- The launch, with every counter at zero at its end. -/
theorem run_quiet : θ_run defs (onTc (τ := τ) (main (F := F))) (s₀ m ρ)
    (fun r => (Pipeline.RDat.FramePostR (cfgs 0) (fun c => (dats m 0 c).toRForget forgets0) T0 (V m)) r ∧ r.2.sem = fun _ => 0) :=
  Pipeline.θ_run_frame_around_T_forget_shared (Q' := _) cfgs (dats m) (0 : Fin 1) launch₀0 defs₀ Variants.none forgets0 T0 m ρ main
    (hbody := fun c => (body_obligation m c).loose) (hq := fun _ _ _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hΦ := fun _ _ => rfl)

/-- Every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c)⟩, h.2⟩) (run_quiet m ρ)

end Cert.FoxIdeal.Hand

end
-- ==== Proof.Fox.Frames.lean ====
/-
  The forgetting attention's backward call: its frames.
-/
module

public import proofs.«01_k».proof.Defs
public import proofs.«01_k».proof.Proof.Fox.Run
public import proofs.«01_k».proof.Proof.Gen.Fox
public import proofs.«01_k».proof.Proof.Gen.FoxRefIdeal.Run

@[expose] public section

set_option maxRecDepth 16384

noncomputable section

namespace Cert.Proof.Fox

open Idealize.ShloMosaic Idealize.ShloMosaic.TcCoe Idealize.SL.Sem

/-- At the machine's floats a named constant is its literal. -/
@[reducible] def literal : Named Bits where
  named _ _ {φ} b := FloatOps.ofBits φ b

/-- What the frame says of the idealised call's program at the machine's floats. -/
def FrameAtBits : Prop :=
  letI := literal
  ∀ (m : (ℓ : Loc Cert.FoxIdeal.nD Cert.FoxIdeal.τ Cert.FoxIdeal.sig) → Buf (Elt Bits) ℓ) (g : Dev Cert.FoxIdeal.nD → PrngReg),
    Cert.Pre_Fox m →
    θ_run (Cert.FoxIdeal.defs (F := Bits)) (onTc (τ := Cert.FoxIdeal.τ) (Cert.FoxIdeal.main (F := Bits))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

theorem frameAtBits : FrameAtBits := fun m g _ => @Cert.FoxIdeal.Hand.frame Bits _ literal m g

/-- The printed call is the idealised one's program at the machine's floats. -/
theorem same_program : FrameAtBits = Cert.quiescent_Fox (hFox := Cert.Fox.Gen.facts) := by sl_kernel_rfl

/-- The printed call's frame: the idealised one's run at the machine's floats. -/
theorem frame_kernel : Cert.quiescent_Fox (hFox := Cert.Fox.Gen.facts) := same_program ▸ frameAtBits

theorem frame_ideal : Cert.quiescent_FoxIdeal (hFoxIdeal := Cert.FoxIdeal.Gen.facts) := fun m ρ _ =>
  Cert.FoxIdeal.Hand.frame (F := Ideal) m ρ

theorem frame_ref : Cert.quiescent_FoxRefIdeal (hFoxRefIdeal := Cert.FoxRefIdeal.Gen.facts) := fun m ρ _ =>
  (θ_run _ _ _).mono (fun r h => ⟨fun c => (h c).2.2.2.2, Idealize.ShloMosaic.sem_eq_zero_of_no_sems (by decide) r.2⟩)
    (Cert.FoxRefIdeal.Value.run (F := Ideal) m ρ)

end Cert.Proof.Fox

end
-- ==== Proof.Fox.Weights.lean ====
module

public import proofs.«01_k».proof.Defs
public import proofs.«01_k».proof.Proof.Gen.FoxIdeal.Loops
public import Idealize.ShloMosaic.Lib.Claim
public import Idealize.ShloMosaic.Lib.Pipeline.ValueKit
public import Idealize.ShloMosaic.Lib.Pointwise
public import Idealize.ShloMosaic.Lib.WritesUnit
public import Idealize.ShloMosaic.Lib.WordCmp

/-! The forgetting attention's backward block in plain formulas: one pair of heads, positions and lanes as numbers. -/

@[expose] public section
set_option maxRecDepth 16384
noncomputable section
namespace Cert.Proof.Fox
open Idealize.ShloMosaic Idealize.ShloMosaic.TcCoe Idealize.SL.Sem

/-- What a pair of heads reads: queries, keys, values and cotangents by position and lane; the row's offset, the
    row's sum and the key's offset by head and position. -/
structure Ins where
  Q : ℕ → ℕ → EReal
  K : ℕ → ℕ → EReal
  V : ℕ → ℕ → EReal
  O : ℕ → ℕ → EReal
  A : ℕ → ℕ → EReal
  D : ℕ → ℕ → EReal
  C : ℕ → ℕ → EReal

namespace Ins
variable (M : Ins)

/-- A lane of head `h`, zero at the other head's lanes. -/
def hd (h l : ℕ) (x : EReal) : EReal := if l / 64 = h then x else 0

/-- The score of query `q` and key `k`. -/
def sc (h q k : ℕ) : EReal := (∑ l : Fin 128, hd h l (M.Q q l) * M.K k l) + M.A h q - M.C h k

/-- The cotangent of the weight of query `q` and key `k`, less the row's sum. -/
def dw (h q k : ℕ) : EReal := (∑ l : Fin 128, hd h l (M.O q l) * M.V k l) - M.D h q

/-- The weight. -/
def pr (h q k : ℕ) : EReal := if k ≤ q then Ideal.exp2 (M.sc h q k) else 0

/-- The score's cotangent. -/
def ds (h q k : ℕ) : EReal := M.pr h q k * M.dw h q k

theorem pr_le {h q k : ℕ} (hk : k ≤ q) : M.pr h q k = Ideal.exp2 (M.sc h q k) := if_pos hk
theorem pr_gt {h q k : ℕ} (hk : q < k) : M.pr h q k = 0 := if_neg (by omega)
theorem ds_le {h q k : ℕ} (hk : k ≤ q) : M.ds h q k = Ideal.exp2 (M.sc h q k) * M.dw h q k := by rw [ds, pr_le _ hk]
theorem ds_gt {h q k : ℕ} (hk : q < k) : M.ds h q k = 0 := by rw [ds, pr_gt _ hk, zero_mul]
end Ins

section Reads
variable {sig : RefSig} {κ : Kind} {sp : Space} {e : EltTy} {Val : EltTy → Type}

/-- A load of a rectangle of a rank-2 buffer, by the buffer's contents as a function of two numbers. -/
theorem rd2 {A B a b : ℕ} (v : View sig κ sp ⟨2, ![A, B]⟩ e) (f : v.ty.Contents Val) {off : Fin 2 → ℕ}
    {inb : ∀ x, off x + (![a, b] : Fin 2 → ℕ) x ≤ (![A, B] : Fin 2 → ℕ) x} {o0 o1 : ℕ} (h : off = ![o0, o1])
    {G : ℕ → ℕ → Val e} (hG : ∀ (x : Fin A) (y : Fin B), v.read Val f (ix2 x y) = G x y) (r : Fin a) (c : Fin b) :
    v.readAt Val (Rect.unit (s := ⟨2, ![A, B]⟩) off ![a, b] inb).toLoadRect f (ix2 r c) = G (o0 + r) (o1 + c) := by
  subst h
  have h0 := inb 0
  have h1 := inb 1
  simp at h0 h1
  refine Eq.trans ?_ (hG ⟨o0 + r, by omega⟩ ⟨o1 + c, by omega⟩)
  refine congrArg (v.read Val f) (funext fun x => Fin.ext ?_)
  fin_cases x
  · show o0 + 1 * (r : ℕ) = o0 + r; omega
  · show o1 + 1 * (c : ℕ) = o1 + c; omega

/-- The same for a rank-3 buffer. -/
theorem rd3 {A B C a b c : ℕ} (v : View sig κ sp ⟨3, ![A, B, C]⟩ e) (f : v.ty.Contents Val) {off : Fin 3 → ℕ}
    {inb : ∀ x, off x + (![a, b, c] : Fin 3 → ℕ) x ≤ (![A, B, C] : Fin 3 → ℕ) x} {o0 o1 o2 : ℕ} (h : off = ![o0, o1, o2])
    {G : ℕ → ℕ → ℕ → Val e} (hG : ∀ (x : Fin A) (y : Fin B) (z : Fin C), v.read Val f (ix3 x y z) = G x y z)
    (r : Fin a) (s : Fin b) (t : Fin c) :
    v.readAt Val (Rect.unit (s := ⟨3, ![A, B, C]⟩) off ![a, b, c] inb).toLoadRect f (ix3 r s t)
      = G (o0 + r) (o1 + s) (o2 + t) := by
  subst h
  have h0 := inb 0
  have h1 := inb 1
  have h2 := inb 2
  simp at h0 h1 h2
  refine Eq.trans ?_ (hG ⟨o0 + r, by omega⟩ ⟨o1 + s, by omega⟩ ⟨o2 + t, by omega⟩)
  refine congrArg (v.read Val f) (funext fun x => Fin.ext ?_)
  fin_cases x
  · show o0 + 1 * (r : ℕ) = o0 + r; omega
  · show o1 + 1 * (s : ℕ) = o1 + s; omega
  · show o2 + 1 * (t : ℕ) = o2 + t; omega

/-- A write that adds `H` over a rectangle of a rank-2 buffer. -/
theorem acc2 {A B a b : ℕ} (v : View sig κ sp ⟨2, ![A, B]⟩ e) (f : v.ty.Contents Val) {off : Fin 2 → ℕ}
    {inb : ∀ x, off x + (![a, b] : Fin 2 → ℕ) x ≤ (![A, B] : Fin 2 → ℕ) x} {o0 o1 : ℕ} (h : off = ![o0, o1])
    {w : (Rect.unit (s := ⟨2, ![A, B]⟩) off ![a, b] inb).shape.Idx → Val e} {L : List (View.Piece Val ⟨2, ![A, B]⟩ e)}
    {G H : ℕ → ℕ → Val e} (hG : ∀ (x : Fin A) (y : Fin B), v.read Val (v.writes Val f L) (ix2 x y) = G x y)
    (hin : ∀ (r : Fin a) (c : Fin b), w (ix2 r c) = H (o0 + r) (o1 + c))
    (hout : ∀ (x : Fin A) (y : Fin B), ¬(o0 ≤ x ∧ x < o0 + a ∧ o1 ≤ y ∧ y < o1 + b) → H x y = G x y) (x : Fin A) (y : Fin B) :
    v.read Val (v.writes Val f ((⟨Rect.unit (s := ⟨2, ![A, B]⟩) off ![a, b] inb, w⟩ : View.Piece Val ⟨2, ![A, B]⟩ e) :: L)) (ix2 x y)
      = H x y := by
  by_cases hx : o0 ≤ x ∧ (x : ℕ) < o0 + a ∧ o1 ≤ y ∧ (y : ℕ) < o1 + b
  · rw [View.read_writes_cons_unit_of_mem v f inb w L (ix2 x y) (ix2 ⟨x - o0, by omega⟩ ⟨y - o1, by omega⟩) h
      (by intro i; fin_cases i
          · show (x : ℕ) = o0 + (x - o0); omega
          · show (y : ℕ) = o1 + (y - o1); omega), hin]
    congr 1
    · show o0 + ((x : ℕ) - o0) = x; omega
    · show o1 + ((y : ℕ) - o1) = y; omega
  · rw [hout x y hx, ← hG x y]
    by_cases h0 : o0 ≤ x ∧ (x : ℕ) < o0 + a
    · exact View.read_writes_cons_unit_of_not_mem v f inb w L (ix2 x y) h 1
        (by show (y : ℕ) < o1 ∨ o1 + b ≤ y; omega)
    · exact View.read_writes_cons_unit_of_not_mem v f inb w L (ix2 x y) h 0
        (by show (x : ℕ) < o0 ∨ o0 + a ≤ x; omega)

/-- The same for a rank-3 buffer. -/
theorem acc3 {A B C a b c : ℕ} (v : View sig κ sp ⟨3, ![A, B, C]⟩ e) (f : v.ty.Contents Val) {off : Fin 3 → ℕ}
    {inb : ∀ x, off x + (![a, b, c] : Fin 3 → ℕ) x ≤ (![A, B, C] : Fin 3 → ℕ) x} {o0 o1 o2 : ℕ} (h : off = ![o0, o1, o2])
    {w : (Rect.unit (s := ⟨3, ![A, B, C]⟩) off ![a, b, c] inb).shape.Idx → Val e} {L : List (View.Piece Val ⟨3, ![A, B, C]⟩ e)}
    {G H : ℕ → ℕ → ℕ → Val e}
    (hG : ∀ (x : Fin A) (y : Fin B) (z : Fin C), v.read Val (v.writes Val f L) (ix3 x y z) = G x y z)
    (hin : ∀ (r : Fin a) (s : Fin b) (t : Fin c), w (ix3 r s t) = H (o0 + r) (o1 + s) (o2 + t))
    (hout : ∀ (x : Fin A) (y : Fin B) (z : Fin C), ¬(o0 ≤ x ∧ x < o0 + a ∧ o1 ≤ y ∧ y < o1 + b ∧ o2 ≤ z ∧ z < o2 + c) → H x y z = G x y z)
    (x : Fin A) (y : Fin B) (z : Fin C) :
    v.read Val (v.writes Val f ((⟨Rect.unit (s := ⟨3, ![A, B, C]⟩) off ![a, b, c] inb, w⟩ : View.Piece Val ⟨3, ![A, B, C]⟩ e) :: L))
      (ix3 x y z) = H x y z := by
  by_cases hx : o0 ≤ x ∧ (x : ℕ) < o0 + a ∧ o1 ≤ y ∧ (y : ℕ) < o1 + b ∧ o2 ≤ z ∧ (z : ℕ) < o2 + c
  · rw [View.read_writes_cons_unit_of_mem v f inb w L (ix3 x y z)
      (ix3 ⟨x - o0, by omega⟩ ⟨y - o1, by omega⟩ ⟨z - o2, by omega⟩) h
      (by intro i; fin_cases i
          · show (x : ℕ) = o0 + (x - o0); omega
          · show (y : ℕ) = o1 + (y - o1); omega
          · show (z : ℕ) = o2 + (z - o2); omega), hin]
    congr 1
    · show o0 + ((x : ℕ) - o0) = x; omega
    · show o1 + ((y : ℕ) - o1) = y; omega
    · show o2 + ((z : ℕ) - o2) = z; omega
  · rw [hout x y z hx, ← hG x y z]
    by_cases h0 : o0 ≤ x ∧ (x : ℕ) < o0 + a
    · by_cases h1 : o1 ≤ y ∧ (y : ℕ) < o1 + b
      · exact View.read_writes_cons_unit_of_not_mem v f inb w L (ix3 x y z) h 2
          (by show (z : ℕ) < o2 ∨ o2 + c ≤ z; omega)
      · exact View.read_writes_cons_unit_of_not_mem v f inb w L (ix3 x y z) h 1
          (by show (y : ℕ) < o1 ∨ o1 + b ≤ y; omega)
    · exact View.read_writes_cons_unit_of_not_mem v f inb w L (ix3 x y z) h 0
        (by show (x : ℕ) < o0 ∨ o0 + a ≤ x; omega)
end Reads

namespace Ins
variable (M : Ins)

/-- The value's gradient, transposed: the queries before a bound that depends on the head and the key. -/
def dvt (b : ℕ → ℕ → ℕ) (l k : ℕ) : EReal := ∑ q ∈ Finset.range (b (l / 64) k), M.O q l * M.pr (l / 64) q k
/-- The key's gradient, transposed. -/
def dkt (b : ℕ → ℕ → ℕ) (l k : ℕ) : EReal := ∑ q ∈ Finset.range (b (l / 64) k), M.Q q l * M.ds (l / 64) q k
/-- The key's offset's gradient. -/
def dck (b : ℕ → ℕ → ℕ) (h k : ℕ) : EReal := ∑ q ∈ Finset.range (b h k), -M.ds h q k
/-- The gradient of the query at row `r` of the tile that begins at `q0`: the keys before a bound that depends on head and row. -/
def dq (q0 : ℕ) (n : ℕ → ℕ → ℕ) (r l : ℕ) : EReal :=
  (∑ k ∈ Finset.range (n 0 r), M.ds 0 (q0 + r) k * hd 0 l (M.K k l)) + ∑ k ∈ Finset.range (n 1 r), M.ds 1 (q0 + r) k * hd 1 l (M.K k l)
/-- The gradient of the query's offset. -/
def dcq (q0 : ℕ) (n : ℕ → ℕ → ℕ) (h r : ℕ) : EReal := ∑ k ∈ Finset.range (n h r), M.ds h (q0 + r) k
end Ins

/-- A sum over a longer range: the terms in between are zero, then comes one tile. -/
theorem sum_tile (f : ℕ → EReal) {b q0 m : ℕ} (hb : b ≤ q0) (hz : ∀ q, b ≤ q → q < q0 → f q = 0) :
    ∑ q ∈ Finset.range (q0 + m), f q = (∑ q ∈ Finset.range b, f q) + ∑ x : Fin m, f (q0 + x) := by
  rw [Finset.sum_range_add, ← Fin.sum_univ_eq_sum_range (fun x => f (q0 + x)) m]
  congr 1
  symm
  refine Finset.sum_subset (Finset.range_mono hb) fun q hq hq' => ?_
  rw [Finset.mem_range] at hq hq'
  exact hz q (by omega) hq

/-- A bound moved at one head's tile of keys. -/
def upd (b : ℕ → ℕ → ℕ) (h k0 n e : ℕ) : ℕ → ℕ → ℕ := fun h' k => if h' = h ∧ k0 ≤ k ∧ k < k0 + n then e else b h' k

theorem upd_in (b : ℕ → ℕ → ℕ) {h k0 n e k : ℕ} (h0 : k0 ≤ k) (h1 : k < k0 + n) : upd b h k0 n e h k = e := if_pos ⟨rfl, h0, h1⟩
theorem upd_out (b : ℕ → ℕ → ℕ) {h k0 n e h' k : ℕ} (hn : ¬(h' = h ∧ k0 ≤ k ∧ k < k0 + n)) : upd b h k0 n e h' k = b h' k := if_neg hn

/-- The bound of a tile's keys is at or before the tile's first query, and the queries in between see none of the keys. -/
def Ready (b : ℕ → ℕ → ℕ) (h k0 n q0 : ℕ) : Prop :=
  ∀ k, k0 ≤ k → k < k0 + n → b h k ≤ q0 ∧ ∀ q, b h k ≤ q → q < q0 → q < k

section Adds
variable {sig : RefSig} {κ : Kind} {sp : Space} (M : Ins)
variable {off2 : Fin 2 → ℕ} {off3 : Fin 3 → ℕ} {h q0 m k0 n : ℕ} {b : ℕ → ℕ → ℕ}

/-- One tile added to the value's gradient. -/
theorem add_dvt (v : View sig κ sp ⟨2, ![128, 4096]⟩ .f32) (f : v.ty.Contents (Elt Ideal))
    {inb : ∀ x, off2 x + (![64, n] : Fin 2 → ℕ) x ≤ (![128, 4096] : Fin 2 → ℕ) x} (hoff : off2 = ![64 * h, k0])
    {w : (Rect.unit (s := ⟨2, ![128, 4096]⟩) off2 ![64, n] inb).shape.Idx → Elt Ideal .f32}
    {L : List (View.Piece (Elt Ideal) ⟨2, ![128, 4096]⟩ .f32)} (hr : Ready b h k0 n q0)
    (hG : ∀ (x : Fin 128) (y : Fin 4096), v.read (Elt Ideal) (v.writes (Elt Ideal) f L) (ix2 x y) = M.dvt b x y)
    (hw : ∀ (r : Fin 64) (c : Fin n), w (ix2 r c)
      = M.dvt b (64 * h + r) (k0 + c) + ∑ x : Fin m, M.O (q0 + x) (64 * h + r) * M.pr h (q0 + x) (k0 + c))
    (x : Fin 128) (y : Fin 4096) :
    v.read (Elt Ideal) (v.writes (Elt Ideal) f (⟨Rect.unit off2 ![64, n] inb, w⟩ :: L)) (ix2 x y)
      = M.dvt (upd b h k0 n (q0 + m)) x y := by
  refine acc2 v f hoff (H := M.dvt (upd b h k0 n (q0 + m))) hG (fun r c => ?_) (fun x y hn => ?_) x y
  · obtain ⟨h1, h2⟩ := hr (k0 + c) (by omega) (by omega)
    rw [hw r c, Ins.dvt, Ins.dvt, (by omega : (64 * h + (r : ℕ)) / 64 = h), upd_in b (by omega) (by omega)]
    exact (sum_tile _ h1 fun q hq hq' => by rw [M.pr_gt (h2 q hq hq'), mul_zero]).symm
  · rw [Ins.dvt, Ins.dvt, upd_out b (by omega)]

/-- One tile added to the key's gradient. -/
theorem add_dkt (v : View sig κ sp ⟨3, ![1, 128, 4096]⟩ .f32) (f : v.ty.Contents (Elt Ideal))
    {inb : ∀ x, off3 x + (![1, 64, n] : Fin 3 → ℕ) x ≤ (![1, 128, 4096] : Fin 3 → ℕ) x} (hoff : off3 = ![0, 64 * h, k0])
    {w : (Rect.unit (s := ⟨3, ![1, 128, 4096]⟩) off3 ![1, 64, n] inb).shape.Idx → Elt Ideal .f32}
    {L : List (View.Piece (Elt Ideal) ⟨3, ![1, 128, 4096]⟩ .f32)} (hr : Ready b h k0 n q0)
    (hG : ∀ (z : Fin 1) (x : Fin 128) (y : Fin 4096), v.read (Elt Ideal) (v.writes (Elt Ideal) f L) (ix3 z x y) = M.dkt b x y)
    (hw : ∀ (z : Fin 1) (r : Fin 64) (c : Fin n), w (ix3 z r c)
      = M.dkt b (64 * h + r) (k0 + c) + ∑ x : Fin m, M.Q (q0 + x) (64 * h + r) * M.ds h (q0 + x) (k0 + c))
    (z : Fin 1) (x : Fin 128) (y : Fin 4096) :
    v.read (Elt Ideal) (v.writes (Elt Ideal) f (⟨Rect.unit off3 ![1, 64, n] inb, w⟩ :: L)) (ix3 z x y)
      = M.dkt (upd b h k0 n (q0 + m)) x y := by
  refine acc3 v f hoff (G := fun _ => M.dkt b) (H := fun _ => M.dkt (upd b h k0 n (q0 + m))) hG (fun z r c => ?_)
    (fun z x y hn => ?_) z x y
  · obtain ⟨h1, h2⟩ := hr (k0 + c) (by omega) (by omega)
    rw [hw z r c, Ins.dkt, Ins.dkt, (by omega : (64 * h + (r : ℕ)) / 64 = h), upd_in b (by omega) (by omega)]
    exact (sum_tile _ h1 fun q hq hq' => by rw [M.ds_gt (h2 q hq hq'), mul_zero]).symm
  · show M.dkt _ _ _ = M.dkt _ _ _
    rw [Ins.dkt, Ins.dkt, upd_out b (by omega)]

/-- A sum of real numbers, taken among the extended ones. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The negative of a sum of real numbers. -/
theorem neg_sum_of_real {ι : Type} [Fintype ι] (f : ι → EReal) (hf : ∀ i, ∃ r : ℝ, f i = r) : 0 - ∑ i, f i = ∑ i, -f i := by
  choose g hg using hf
  have e : (∑ i, f i) = ((∑ i, g i : ℝ) : EReal) := by
    rw [coe_sum]; exact Finset.sum_congr rfl fun i _ => hg i
  have e' : (∑ i, -f i) = ((∑ i, -g i : ℝ) : EReal) := by
    rw [coe_sum]; exact Finset.sum_congr rfl fun i _ => by rw [hg i]; rfl
  rw [e, e', Finset.sum_neg_distrib, zero_sub]; rfl

/-- One tile added to the gradient of the key's offset. -/
theorem add_dck (hfin : ∀ h q k, ∃ r : ℝ, M.ds h q k = r)
    (v : View sig κ sp ⟨3, ![2, 1, 4096]⟩ .f32) (f : v.ty.Contents (Elt Ideal))
    {inb : ∀ x, off3 x + (![1, 1, n] : Fin 3 → ℕ) x ≤ (![2, 1, 4096] : Fin 3 → ℕ) x} (hoff : off3 = ![h, 0, k0])
    {w : (Rect.unit (s := ⟨3, ![2, 1, 4096]⟩) off3 ![1, 1, n] inb).shape.Idx → Elt Ideal .f32}
    {L : List (View.Piece (Elt Ideal) ⟨3, ![2, 1, 4096]⟩ .f32)} (hr : Ready b h k0 n q0)
    (hG : ∀ (x : Fin 2) (z : Fin 1) (y : Fin 4096), v.read (Elt Ideal) (v.writes (Elt Ideal) f L) (ix3 x z y) = M.dck b x y)
    (hw : ∀ (r : Fin 1) (z : Fin 1) (c : Fin n), w (ix3 r z c)
      = M.dck b h (k0 + c) + (0 - ∑ x : Fin m, M.ds h (q0 + x) (k0 + c)))
    (x : Fin 2) (z : Fin 1) (y : Fin 4096) :
    v.read (Elt Ideal) (v.writes (Elt Ideal) f (⟨Rect.unit off3 ![1, 1, n] inb, w⟩ :: L)) (ix3 x z y)
      = M.dck (upd b h k0 n (q0 + m)) x y := by
  refine acc3 v f hoff (G := fun h' _ => M.dck b h') (H := fun h' _ => M.dck (upd b h k0 n (q0 + m)) h') hG (fun r z c => ?_)
    (fun x z y hn => ?_) x z y
  · obtain ⟨h1, h2⟩ := hr (k0 + c) (by omega) (by omega)
    rw [hw r z c, (by omega : h + (r : ℕ) = h), Ins.dck, Ins.dck, upd_in b (by omega) (by omega),
      neg_sum_of_real _ fun x => hfin _ _ _]
    exact (sum_tile _ h1 fun q hq hq' => by rw [M.ds_gt (h2 q hq hq'), neg_zero]).symm
  · show M.dck _ _ _ = M.dck _ _ _
    rw [Ins.dck, Ins.dck, upd_out b (by omega)]

variable {r0 : ℕ}

/-- One tile added to the gradient of the queries of a tile of rows. -/
theorem add_dq (v : View sig κ sp ⟨3, ![1, 1024, 128]⟩ .f32) (f : v.ty.Contents (Elt Ideal)) (hh : h < 2)
    {inb : ∀ x, off3 x + (![1, m, 128] : Fin 3 → ℕ) x ≤ (![1, 1024, 128] : Fin 3 → ℕ) x} (hoff : off3 = ![0, r0, 0])
    {w : (Rect.unit (s := ⟨3, ![1, 1024, 128]⟩) off3 ![1, m, 128] inb).shape.Idx → Elt Ideal .f32}
    {L : List (View.Piece (Elt Ideal) ⟨3, ![1, 1024, 128]⟩ .f32)} (hr : ∀ r, r0 ≤ r → r < r0 + m → b h r = k0)
    (hG : ∀ (z : Fin 1) (x : Fin 1024) (y : Fin 128), v.read (Elt Ideal) (v.writes (Elt Ideal) f L) (ix3 z x y) = M.dq q0 b x y)
    (hw : ∀ (z : Fin 1) (r : Fin m) (l : Fin 128), w (ix3 z r l)
      = M.dq q0 b (r0 + r) l + ∑ x : Fin n, M.ds h (q0 + (r0 + r)) (k0 + x) * Ins.hd h l (M.K (k0 + x) l))
    (z : Fin 1) (x : Fin 1024) (y : Fin 128) :
    v.read (Elt Ideal) (v.writes (Elt Ideal) f (⟨Rect.unit off3 ![1, m, 128] inb, w⟩ :: L)) (ix3 z x y)
      = M.dq q0 (upd b h r0 m (k0 + n)) x y := by
  refine acc3 v f hoff (G := fun _ => M.dq q0 b) (H := fun _ => M.dq q0 (upd b h r0 m (k0 + n))) hG (fun z r c => ?_)
    (fun z x y hn => ?_) z x y
  · have h1 := hr (r0 + r) (by omega) (by omega)
    rw [hw z r c, Ins.dq, Ins.dq, Nat.zero_add]
    interval_cases h
    · rw [upd_in b (by omega) (by omega), upd_out b (by omega), h1, sum_tile _ le_rfl (by omega), add_right_comm]
    · rw [upd_in b (by omega) (by omega), upd_out b (by omega), h1, sum_tile (b := k0) _ le_rfl (by omega), add_assoc]
  · show M.dq _ _ _ _ = M.dq _ _ _ _
    rw [Ins.dq, Ins.dq, upd_out b (by omega), upd_out b (by omega)]

/-- One tile added to the gradient of the offsets of a tile of rows. -/
theorem add_dcq (v : View sig κ sp ⟨3, ![2, 1024, 1]⟩ .f32) (f : v.ty.Contents (Elt Ideal))
    {inb : ∀ x, off3 x + (![1, m, 1] : Fin 3 → ℕ) x ≤ (![2, 1024, 1] : Fin 3 → ℕ) x} (hoff : off3 = ![h, r0, 0])
    {w : (Rect.unit (s := ⟨3, ![2, 1024, 1]⟩) off3 ![1, m, 1] inb).shape.Idx → Elt Ideal .f32}
    {L : List (View.Piece (Elt Ideal) ⟨3, ![2, 1024, 1]⟩ .f32)} (hr : ∀ r, r0 ≤ r → r < r0 + m → b h r = k0)
    (hG : ∀ (x : Fin 2) (y : Fin 1024) (z : Fin 1), v.read (Elt Ideal) (v.writes (Elt Ideal) f L) (ix3 x y z) = M.dcq q0 b x y)
    (hw : ∀ (x : Fin 1) (r : Fin m) (z : Fin 1), w (ix3 x r z)
      = M.dcq q0 b h (r0 + r) + ∑ x : Fin n, M.ds h (q0 + (r0 + r)) (k0 + x))
    (x : Fin 2) (y : Fin 1024) (z : Fin 1) :
    v.read (Elt Ideal) (v.writes (Elt Ideal) f (⟨Rect.unit off3 ![1, m, 1] inb, w⟩ :: L)) (ix3 x y z)
      = M.dcq q0 (upd b h r0 m (k0 + n)) x y := by
  refine acc3 v f hoff (G := fun h' r _ => M.dcq q0 b h' r) (H := fun h' r _ => M.dcq q0 (upd b h r0 m (k0 + n)) h' r) hG
    (fun x r z => ?_) (fun x y z hn => ?_) x y z
  · have h1 := hr (r0 + r) (by omega) (by omega)
    rw [hw x r z, (by omega : h + (x : ℕ) = h), Ins.dcq, Ins.dcq, upd_in b (by omega) (by omega), h1]
    exact (sum_tile _ le_rfl (by omega)).symm
  · show M.dcq _ _ _ _ = M.dcq _ _ _ _
    rw [Ins.dcq, Ins.dcq, upd_out b (by omega)]
end Adds
end Cert.Proof.Fox
end

end
-- ==== Proof.Fox.Full.lean ====
module

public import proofs.«01_k».proof.Proof.Fox.Weights

/-! One whole tile of keys against one tile of queries: what the inner loop's trip adds to the gradients. -/

@[expose] public section
set_option maxRecDepth 16384
noncomputable section
namespace Cert.Proof.Fox
open Idealize.ShloMosaic Idealize.ShloMosaic.TcCoe Idealize.SL.Sem
open Cert.FoxIdeal Cert.FoxIdeal.Gen

/-- The operands of one tile of queries: each head's queries and cotangents, zero at the other head's lanes, with the
    rows' offsets and sums. -/
structure Tiles (M : Ins) (p : ℕ) (v125 v133 v141 v149 : FVec Ideal S1024x128 .bf16) (v157 v165 v174 v183 : FVec Ideal S1024x1 .f32) : Prop where
  q0 : ∀ (r : Fin 1024) (l : Fin 128), v125 (ix2 r l) = Ins.hd 0 l (M.Q (p + r) l)
  q1 : ∀ (r : Fin 1024) (l : Fin 128), v133 (ix2 r l) = Ins.hd 1 l (M.Q (p + r) l)
  o0 : ∀ (r : Fin 1024) (l : Fin 128), v141 (ix2 r l) = Ins.hd 0 l (M.O (p + r) l)
  o1 : ∀ (r : Fin 1024) (l : Fin 128), v149 (ix2 r l) = Ins.hd 1 l (M.O (p + r) l)
  a0 : ∀ (r : Fin 1024) (z : Fin 1), v157 (ix2 r z) = M.A 0 (p + r)
  a1 : ∀ (r : Fin 1024) (z : Fin 1), v165 (ix2 r z) = M.A 1 (p + r)
  d0 : ∀ (r : Fin 1024) (z : Fin 1), v174 (ix2 r z) = M.D 0 (p + r)
  d1 : ∀ (r : Fin 1024) (z : Fin 1), v183 (ix2 r z) = M.D 1 (p + r)

variable (arg2 arg3 : Memref sig .tc .vmem S4096x128 .bf16) (arg6 : Memref sig .tc .vmem S2x1x4096 .f32)
  (arg12 : Memref sig .tc .vmem S1x128x4096 .bf16) (arg13 : Memref sig .tc .vmem S128x4096 .bf16)
  (X_arg2 : BufTy.Contents (Elt Ideal) arg2.view.ty) (X_arg3 : BufTy.Contents (Elt Ideal) arg3.view.ty)
  (X_arg6 : BufTy.Contents (Elt Ideal) arg6.view.ty) (X_arg12 : BufTy.Contents (Elt Ideal) arg12.view.ty)
  (X_arg13 : BufTy.Contents (Elt Ideal) arg13.view.ty)

/-- The buffers that a trip reads. -/
structure Reads (M : Ins) : Prop where
  k : ∀ (x : Fin 4096) (y : Fin 128), arg2.view.read (Elt Ideal) X_arg2 (ix2 x y) = M.K x y
  v : ∀ (x : Fin 4096) (y : Fin 128), arg3.view.read (Elt Ideal) X_arg3 (ix2 x y) = M.V x y
  c : ∀ (x : Fin 2) (y : Fin 1) (z : Fin 4096), arg6.view.read (Elt Ideal) X_arg6 (ix3 x y z) = M.C x z
  q : ∀ (z : Fin 1) (x : Fin 128) (y : Fin 4096), arg12.view.read (Elt Ideal) X_arg12 (ix3 z x y) = M.Q y x
  o : ∀ (x : Fin 128) (y : Fin 4096), arg13.view.read (Elt Ideal) X_arg13 (ix2 x y) = M.O y x

variable (arg11 : Memref sig .tc .vmem S2x1x4096 .f32) (arg14 : Memref sig .tc .vmem S1x128x4096 .f32)
  (arg15 : Memref sig .tc .vmem S128x4096 .f32) (arg16 : Memref sig .tc .vmem S1x1024x128 .f32) (arg17 : Memref sig .tc .vmem S2x1024x1 .f32)

/-- The gradients so far: the keys' buffers hold the queries before the bounds `b`, -/
structure Cols (M : Ins) (b : ℕ → ℕ → ℕ) (f11 : BufTy.Contents (Elt Ideal) arg11.view.ty) (f14 : BufTy.Contents (Elt Ideal) arg14.view.ty)
    (f15 : BufTy.Contents (Elt Ideal) arg15.view.ty) : Prop where
  c : ∀ (x : Fin 2) (z : Fin 1) (y : Fin 4096), arg11.view.read (Elt Ideal) f11 (ix3 x z y) = M.dck b x y
  k : ∀ (z : Fin 1) (x : Fin 128) (y : Fin 4096), arg14.view.read (Elt Ideal) f14 (ix3 z x y) = M.dkt b x y
  v : ∀ (x : Fin 128) (y : Fin 4096), arg15.view.read (Elt Ideal) f15 (ix2 x y) = M.dvt b x y

/-- and the tile's buffers the keys before the bounds `n`. -/
structure Rows (M : Ins) (q0 : ℕ) (n : ℕ → ℕ → ℕ) (f16 : BufTy.Contents (Elt Ideal) arg16.view.ty)
    (f17 : BufTy.Contents (Elt Ideal) arg17.view.ty) : Prop where
  q : ∀ (z : Fin 1) (x : Fin 1024) (y : Fin 128), arg16.view.read (Elt Ideal) f16 (ix3 z x y) = M.dq q0 n x y
  c : ∀ (x : Fin 2) (y : Fin 1024) (z : Fin 1), arg17.view.read (Elt Ideal) f17 (ix3 x y z) = M.dcq q0 n x y

section Full
variable {arg2 arg3 arg6 arg12 arg13 X_arg2 X_arg3 X_arg6 X_arg12 X_arg13}
variable {M : Ins} {k0_t1 : Fin k0_t1_loop.trips} {v125 v133 v141 v149 : FVec Ideal S1024x128 .bf16} {v157 v165 v174 v183 : FVec Ideal S1024x1 .f32}
  (hT : Tiles M (1024 * k0_t1) v125 v133 v141 v149 v157 v165 v174 v183)
  (hR : Reads arg2 arg3 arg6 arg12 arg13 X_arg2 X_arg3 X_arg6 X_arg12 X_arg13 M)
  (k : Fin (k0_t2_loop k0_t1).trips)

theorem t2_lt : ∀ (k0_t1 : Fin k0_t1_loop.trips) (k : Fin (k0_t2_loop k0_t1).trips), (k : ℕ) < k0_t1 := by decide +kernel

/-- A lane below 64 is the first head's. -/
theorem lane_lt (l : Fin 128) (x : EReal) :
    Scalar.select (IntOp.andi (IntOp.cmpi CmpIPredicate.sge (BitVec.ofNat 32 ↑l) 0#32) (IntOp.cmpi CmpIPredicate.slt (BitVec.ofNat 32 ↑l) 64#32)) x 0
      = Ins.hd 0 l x := by
  simp (disch := word_cmp_side) only [hlo_ix]
  by_cases h : (l : ℕ) < 64
  · rw [Ins.hd, if_pos (by omega), if_pos (by omega)]
  · rw [Ins.hd, if_neg (by omega), if_neg (by omega)]

/-- A lane from 64 is the second head's. -/
theorem lane_ge (l : Fin 128) (x : EReal) :
    Scalar.select (IntOp.andi (IntOp.cmpi CmpIPredicate.sge (BitVec.ofNat 32 ↑l) 64#32) (IntOp.cmpi CmpIPredicate.slt (BitVec.ofNat 32 ↑l) 128#32)) x 0
      = Ins.hd 1 l x := by
  simp (disch := word_cmp_side) only [hlo_ix]
  by_cases h : (l : ℕ) < 64
  · rw [Ins.hd, if_neg (by omega), if_neg (by omega)]
  · rw [Ins.hd, if_pos (by omega), if_pos (by omega)]

include hT hR in
theorem full_pr0 (r c : Fin 1024) : trip_k0_t2.sl.v618 (F := Ideal) arg2 arg6 k0_t1 v125 v157 X_arg2 X_arg6 k (ix2 r c)
    = M.pr 0 (1024 * k0_t1 + r) (1024 * k + c) := by
  have hlt := t2_lt k0_t1 k
  rw [Ins.pr_le _ (by omega), Ins.sc]
  pointwise [trip_k0_t2.sl.v618, trip_k0_t2.sl.v610, trip_k0_t2.sl.v602, trip_k0_t2.sl.v600, trip_k0_t2.sl.v601, trip_k0_t2.sl.v609,
    trip_k0_t2.sl.v608, trip_k0_t2.sl.cst_315, trip_k0_t2.sl.v578, rd2 arg2.view X_arg2 (k0_off2_eq k0_t1 k) hR.k,
    rd3 arg6.view X_arg6 (G := fun x _ z => M.C x z) (k0_off3_eq k0_t1 k) hR.c, hT.q0, hT.a0]
  rfl

include hT hR in
theorem full_pr1 (r c : Fin 1024) : trip_k0_t2.sl.v619 (F := Ideal) arg2 arg6 k0_t1 v133 v165 X_arg2 X_arg6 k (ix2 r c)
    = M.pr 1 (1024 * k0_t1 + r) (1024 * k + c) := by
  have hlt := t2_lt k0_t1 k
  rw [Ins.pr_le _ (by omega), Ins.sc]
  pointwise [trip_k0_t2.sl.v619, trip_k0_t2.sl.v615, trip_k0_t2.sl.v605, trip_k0_t2.sl.v603, trip_k0_t2.sl.v604, trip_k0_t2.sl.v614,
    trip_k0_t2.sl.v613, trip_k0_t2.sl.cst_315, trip_k0_t2.sl.v578, rd2 arg2.view X_arg2 (k0_off2_eq k0_t1 k) hR.k,
    rd3 arg6.view X_arg6 (G := fun x _ z => M.C x z) (k0_off4_eq k0_t1 k) hR.c, hT.q1, hT.a1]
  rfl

include hT hR in
theorem full_ds0 (r c : Fin 1024) : trip_k0_t2.sl.v622 (F := Ideal) arg2 arg3 arg6 k0_t1 v125 v141 v157 v174 X_arg2 X_arg3 X_arg6 k (ix2 r c)
    = M.ds 0 (1024 * k0_t1 + r) (1024 * k + c) := by
  rw [Ins.ds, Ins.dw]
  pointwise [trip_k0_t2.sl.v622, full_pr0 hT hR k, trip_k0_t2.sl.v621, trip_k0_t2.sl.v616, trip_k0_t2.sl.v620, trip_k0_t2.sl.cst_315,
    trip_k0_t2.sl.v597, rd2 arg3.view X_arg3 (k0_off2_eq k0_t1 k) hR.v, hT.o0, hT.d0]

include hT hR in
theorem full_ds1 (r c : Fin 1024) : trip_k0_t2.sl.v625 (F := Ideal) arg2 arg3 arg6 k0_t1 v133 v149 v165 v183 X_arg2 X_arg3 X_arg6 k (ix2 r c)
    = M.ds 1 (1024 * k0_t1 + r) (1024 * k + c) := by
  rw [Ins.ds, Ins.dw]
  pointwise [trip_k0_t2.sl.v625, full_pr1 hT hR k, trip_k0_t2.sl.v624, trip_k0_t2.sl.v617, trip_k0_t2.sl.v623, trip_k0_t2.sl.cst_315,
    trip_k0_t2.sl.v597, rd2 arg3.view X_arg3 (k0_off2_eq k0_t1 k) hR.v, hT.o1, hT.d1]

include hR in
theorem full_k0 (c : Fin 1024) (l : Fin 128) : trip_k0_t2.sl.v586 (F := Ideal) arg2 k0_t1 X_arg2 k (ix2 c l) = Ins.hd 0 l (M.K (1024 * k + c) l) := by
  pointwise [trip_k0_t2.sl.v586, trip_k0_t2.sl.v584, trip_k0_t2.sl.v579, trip_k0_t2.sl.v580, trip_k0_t2.sl.v582, trip_k0_t2.sl.v585, trip_k0_t2.sl.cst_309,
    trip_k0_t2.sl.v578, rd2 arg2.view X_arg2 (k0_off2_eq k0_t1 k) hR.k]
  exact lane_lt l _

include hR in
theorem full_k1 (c : Fin 1024) (l : Fin 128) : trip_k0_t2.sl.v594 (F := Ideal) arg2 k0_t1 X_arg2 k (ix2 c l) = Ins.hd 1 l (M.K (1024 * k + c) l) := by
  pointwise [trip_k0_t2.sl.v594, trip_k0_t2.sl.v592, trip_k0_t2.sl.v579, trip_k0_t2.sl.v590, trip_k0_t2.sl.v582, trip_k0_t2.sl.v585, trip_k0_t2.sl.cst_309,
    trip_k0_t2.sl.v578, rd2 arg2.view X_arg2 (k0_off2_eq k0_t1 k) hR.k]
  exact lane_ge l _

include hT hR in
theorem full_dq0 (n : ℕ → ℕ → ℕ) (f16 : BufTy.Contents (Elt Ideal) arg16.view.ty)
    (hq : ∀ (z : Fin 1) (x : Fin 1024) (y : Fin 128), arg16.view.read (Elt Ideal) f16 (ix3 z x y) = M.dq (1024 * k0_t1) n x y)
    (z : Fin 1) (r : Fin 1024) (l : Fin 128) :
    trip_k0_t2.sl.v656 (F := Ideal) arg2 arg3 arg6 arg16 k0_t1 v125 v141 v157 v174 X_arg2 X_arg3 X_arg6 k f16 (ix3 z r l)
      = M.dq (1024 * k0_t1) n r l + ∑ x : Fin 1024, M.ds 0 (1024 * k0_t1 + r) (1024 * k + x) * Ins.hd 0 l (M.K (1024 * k + x) l) := by
  pointwise [trip_k0_t2.sl.v656, trip_k0_t2.sl.v653, trip_k0_t2.sl.v651, trip_k0_t2.sl.v652, trip_k0_t2.sl.v626, trip_k0_t2.sl.cst_337,
    full_k0 hR k, full_ds0 hT hR k, rd3 arg16.view f16 (off := ![0, 0, 0]) rfl (G := fun _ => M.dq (1024 * k0_t1) n) hq]

end Full

section Trip
variable {M : Ins} (hfin : ∀ h q k, ∃ r : ℝ, M.ds h q k = r)
variable (𝒱 : Variants) (c : Dev nD) (bd : Option 𝒱.V) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S2x1x4096 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .f32) (harg10 : arg10.IsWhole)
  (arg11 : Memref sig .tc .vmem S2x1x4096 .f32) (harg11 : arg11.IsWhole)
  (arg12 : Memref sig .tc .vmem S1x128x4096 .bf16) (harg12 : arg12.IsWhole)
  (arg13 : Memref sig .tc .vmem S128x4096 .bf16) (harg13 : arg13.IsWhole)
  (arg14 : Memref sig .tc .vmem S1x128x4096 .f32) (harg14 : arg14.IsWhole)
  (arg15 : Memref sig .tc .vmem S128x4096 .f32) (harg15 : arg15.IsWhole)
  (arg16 : Memref sig .tc .vmem S1x1024x128 .f32) (harg16 : arg16.IsWhole)
  (arg17 : Memref sig .tc .vmem S2x1024x1 .f32) (harg17 : arg17.IsWhole)
variable (k0_t1 : Fin k0_t1_loop.trips) (arg18 v107 : BitVec 32) (v125 v133 v141 v149 : FVec Ideal S1024x128 .bf16)
  (v157 v165 v174 v183 : FVec Ideal S1024x1 .f32) (v184 : FVec Ideal S1x1024x128 .f32)
  (X_arg2 : BufTy.Contents (Elt Ideal) arg2.view.ty) (X_arg3 : BufTy.Contents (Elt Ideal) arg3.view.ty)
  (X_arg6 : BufTy.Contents (Elt Ideal) arg6.view.ty) (X_arg12 : BufTy.Contents (Elt Ideal) arg12.view.ty)
  (X_arg13 : BufTy.Contents (Elt Ideal) arg13.view.ty)
  (hT : Tiles M (1024 * k0_t1) v125 v133 v141 v149 v157 v165 v174 v183)
  (hR : Reads arg2 arg3 arg6 arg12 arg13 X_arg2 X_arg3 X_arg6 X_arg12 X_arg13 M)

/-- The bounds after a tile of keys has met a tile of queries. -/
def both (b : ℕ → ℕ → ℕ) (k0 n e : ℕ) : ℕ → ℕ → ℕ := upd (upd b 0 k0 n e) 1 k0 n e

include hT hR hfin in
/-- One trip of the inner loop moves the bounds over its tile. -/
theorem full_cols (k : Fin (k0_t2_loop k0_t1).trips) (b : ℕ → ℕ → ℕ) (hb : ∀ h, Ready b h (1024 * k) 1024 (1024 * k0_t1))
    (f11 : BufTy.Contents (Elt Ideal) arg11.view.ty) (f14 : BufTy.Contents (Elt Ideal) arg14.view.ty) (f15 : BufTy.Contents (Elt Ideal) arg15.view.ty)
    (f16 : BufTy.Contents (Elt Ideal) arg16.view.ty) (f17 : BufTy.Contents (Elt Ideal) arg17.view.ty)
    (hC : Cols arg11 arg14 arg15 M b f11 f14 f15) :
    Cols arg11 arg14 arg15 M (both b (1024 * k) 1024 (1024 * k0_t1 + 1024))
      (arg11.view.writes (Elt Ideal) f11 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 k).1 f11 f14 f15 f16 f17))
      (arg14.view.writes (Elt Ideal) f14 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 k).2.1 f11 f14 f15 f16 f17))
      (arg15.view.writes (Elt Ideal) f15 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 k).2.2.1 f11 f14 f15 f16 f17)) := by
  have hb1 : Ready (upd b 0 (1024 * k) 1024 (1024 * k0_t1 + 1024)) 1 (1024 * k) 1024 (1024 * k0_t1) := by
    intro x h0 h1
    rw [upd_out b (by omega)]
    exact hb 1 x h0 h1
  unfold trip_k0_t2
  dsimp only
  refine ⟨?_, ?_, ?_⟩
  · refine add_dck M hfin arg11.view f11 (h := 1) (m := 1024) (k0_off4_eq k0_t1 k) hb1
      (add_dck M hfin arg11.view f11 (h := 0) (m := 1024) (k0_off3_eq k0_t1 k) (hb 0) hC.c fun r z c => ?_) fun r z c => ?_
    · pointwise [trip_k0_t2.sl.v676, trip_k0_t2.sl.v672, trip_k0_t2.sl.v667, trip_k0_t2.sl.v671, trip_k0_t2.sl.v670, trip_k0_t2.sl.v669, trip_k0_t2.sl.v668,
        trip_k0_t2.sl.cst_351, full_ds0 hT hR k, rd3 arg11.view f11 (k0_off3_eq k0_t1 k) (G := fun h _ => M.dck b h) hC.c]
    · pointwise [k0_pay68, trip_k0_t2.sl.v723, trip_k0_t2.sl.v718, trip_k0_t2.sl.v717, trip_k0_t2.sl.v722, trip_k0_t2.sl.v670, trip_k0_t2.sl.v720,
        trip_k0_t2.sl.v719, trip_k0_t2.sl.cst_351, full_ds1 hT hR k, rd3 arg11.view f11 (k0_off4_eq k0_t1 k) (G := fun h _ => M.dck b h) hC.c]
      rw [Ins.dck, Ins.dck, upd_out b (by omega)]
  · refine add_dkt M arg14.view f14 (h := 1) (m := 1024) (k0_off11_eq k0_t1 k) hb1
      (add_dkt M arg14.view f14 (h := 0) (m := 1024) (k0_off7_eq k0_t1 k) (hb 0) hC.k fun z r c => ?_) fun z r c => ?_
    · pointwise [trip_k0_t2.sl.v649, trip_k0_t2.sl.v645, trip_k0_t2.sl.v640, trip_k0_t2.sl.v644, trip_k0_t2.sl.v643, trip_k0_t2.sl.v626,
        trip_k0_t2.sl.cst_325, full_ds0 hT hR k, rd3 arg14.view f14 (k0_off7_eq k0_t1 k) (G := fun _ => M.dkt b) hC.k,
        rd3 arg12.view X_arg12 (k0_off8_eq k0_t1) (G := fun _ l q => M.Q q l) hR.q]
    · pointwise [trip_k0_t2.sl.v700, trip_k0_t2.sl.v696, trip_k0_t2.sl.v691, trip_k0_t2.sl.v690, trip_k0_t2.sl.v695, trip_k0_t2.sl.v694, trip_k0_t2.sl.v677,
        trip_k0_t2.sl.cst_325, full_ds1 hT hR k, rd3 arg14.view f14 (k0_off11_eq k0_t1 k) (G := fun _ => M.dkt b) hC.k,
        rd3 arg12.view X_arg12 (k0_off12_eq k0_t1) (G := fun _ l q => M.Q q l) hR.q]
      rw [Ins.dkt, Ins.dkt, upd_out b (by omega)]
  · refine add_dvt M arg15.view f15 (h := 1) (m := 1024) (k0_off9_eq k0_t1 k) hb1
      (add_dvt M arg15.view f15 (h := 0) (m := 1024) (k0_off5_eq k0_t1 k) (hb 0) hC.v fun r c => ?_) fun r c => ?_
    · pointwise [trip_k0_t2.sl.v637, trip_k0_t2.sl.v633, trip_k0_t2.sl.v632, trip_k0_t2.sl.v631,
        trip_k0_t2.sl.cst_325, full_pr0 hT hR k, rd2 arg15.view f15 (k0_off5_eq k0_t1 k) (G := M.dvt b) hC.v,
        rd2 arg13.view X_arg13 (k0_off6_eq k0_t1) (G := fun l q => M.O q l) hR.o]
    · pointwise [trip_k0_t2.sl.v688, trip_k0_t2.sl.v684, trip_k0_t2.sl.v679, trip_k0_t2.sl.v683, trip_k0_t2.sl.v682,
        trip_k0_t2.sl.cst_325, full_pr1 hT hR k, rd2 arg15.view f15 (k0_off9_eq k0_t1 k) (G := M.dvt b) hC.v,
        rd2 arg13.view X_arg13 (k0_off10_eq k0_t1) (G := fun l q => M.O q l) hR.o]
      rw [Ins.dvt, Ins.dvt, upd_out b (by omega)]

include hT hR in
/-- and the rows' gradients over its keys. -/
theorem full_rows (k : Fin (k0_t2_loop k0_t1).trips) (n : ℕ → ℕ → ℕ) (hn : ∀ h r, h < 2 → r < 1024 → n h r = 1024 * k)
    (f11 : BufTy.Contents (Elt Ideal) arg11.view.ty) (f14 : BufTy.Contents (Elt Ideal) arg14.view.ty) (f15 : BufTy.Contents (Elt Ideal) arg15.view.ty)
    (f16 : BufTy.Contents (Elt Ideal) arg16.view.ty) (f17 : BufTy.Contents (Elt Ideal) arg17.view.ty)
    (hC : Rows arg16 arg17 M (1024 * k0_t1) n f16 f17) :
    Rows arg16 arg17 M (1024 * k0_t1) (both n 0 1024 (1024 * k + 1024))
      (arg16.view.writes (Elt Ideal) f16 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 k).2.2.2.1 f11 f14 f15 f16 f17))
      (arg17.view.writes (Elt Ideal) f17 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 k).2.2.2.2.1 f11 f14 f15 f16 f17)) := by
  have hn1 : ∀ r, 0 ≤ r → r < 0 + 1024 → upd n 0 0 1024 (1024 * k + 1024) 1 r = 1024 * k := by
    intro r _ h1
    rw [upd_out n (by omega)]
    exact hn 1 r (by omega) (by omega)
  have hn0 : ∀ r, 0 ≤ r → r < 0 + 1024 → n 0 r = 1024 * k := fun r _ h1 => hn 0 r (by omega) (by omega)
  unfold trip_k0_t2
  dsimp only
  refine ⟨?_, ?_⟩
  · unfold trip_k0_t2.sl.HW_arg16_1
    refine add_dq M arg16.view f16 (h := 1) (r0 := 0) (n := 1024) (by omega) rfl hn1
      (add_dq M arg16.view f16 (h := 0) (r0 := 0) (n := 1024) (L := []) (by omega) rfl hn0 hC.q fun z r l => ?_) fun z r l => ?_
    · rw [full_dq0 arg16 hT hR k n f16 hC.q, Nat.zero_add]
    · have e : trip_k0_t2.sl.v701 (F := Ideal) arg2 arg3 arg6 arg16 k0_t1 v125 v141 v157 v174 X_arg2 X_arg3 X_arg6 k f16
          = trip_k0_t2.sl.v656 arg2 arg3 arg6 arg16 k0_t1 v125 v141 v157 v174 X_arg2 X_arg3 X_arg6 k f16 :=
        View.readCov_cons_toLoadRect _ _ _ _
      pointwise [trip_k0_t2.sl.v707, trip_k0_t2.sl.v704, trip_k0_t2.sl.v702, e, full_dq0 arg16 hT hR k n f16 hC.q, trip_k0_t2.sl.v703,
        trip_k0_t2.sl.v677, trip_k0_t2.sl.cst_337, full_k1 hR k, full_ds1 hT hR k]
      rw [Ins.dq, Ins.dq, upd_in n (by omega) (by omega), upd_out n (by omega), sum_tile (b := 1024 * (k : ℕ)) (q0 := 1024 * (k : ℕ)) _ le_rfl (by omega),
        hn 0 r (by omega) r.isLt]
      abel
  · refine add_dcq M arg17.view f17 (h := 1) (r0 := 0) (n := 1024) rfl hn1
      (add_dcq M arg17.view f17 (h := 0) (r0 := 0) (n := 1024) (L := []) rfl hn0 hC.c fun x r z => ?_) fun x r z => ?_
    · pointwise [trip_k0_t2.sl.v664, trip_k0_t2.sl.v661, trip_k0_t2.sl.v658, trip_k0_t2.sl.v660, trip_k0_t2.sl.v659, full_ds0 hT hR k,
        rd3 arg17.view f17 (off := ![0, 0, 0]) rfl (G := fun h r _ => M.dcq (1024 * k0_t1) n h r) hC.c]
    · pointwise [trip_k0_t2.sl.v715, trip_k0_t2.sl.v712, trip_k0_t2.sl.v709, trip_k0_t2.sl.v708, trip_k0_t2.sl.v711, trip_k0_t2.sl.v710, full_ds1 hT hR k,
        rd3 arg17.view f17 (off := ![1, 0, 0]) rfl (G := fun h r _ => M.dcq (1024 * k0_t1) n h r) hC.c]
      rw [Ins.dcq, Ins.dcq, upd_out n (by omega)]
end Trip
end Cert.Proof.Fox
end

end
-- ==== Proof.Fox.Inner.lean ====
module

public import proofs.«01_k».proof.Proof.Fox.Full

/-! The inner loop's trips together: the whole tiles of keys before the diagonal. -/

@[expose] public section
set_option maxRecDepth 16384
noncomputable section
namespace Cert.Proof.Fox
open Idealize.ShloMosaic Idealize.ShloMosaic.TcCoe Idealize.SL.Sem
open Cert.FoxIdeal Cert.FoxIdeal.Gen

/-- The keys' bounds before trip `j`: the tile's queries have met the keys before `1024 * j`. -/
def colsAt (t j : ℕ) : ℕ → ℕ → ℕ := fun h x => if h < 2 ∧ x < 1024 * j then 1024 * t + 1024 else 1024 * t
/-- and the rows'. -/
def rowsAt (j : ℕ) : ℕ → ℕ → ℕ := fun h r => if h < 2 ∧ r < 1024 then 1024 * j else 0

theorem colsAt_zero (t : ℕ) : colsAt t 0 = fun _ _ => 1024 * t := by funext h x; unfold colsAt; rw [if_neg (by omega)]
theorem rowsAt_zero : rowsAt 0 = fun _ _ => 0 := by funext h x; unfold rowsAt; split_ifs <;> rfl
theorem colsAt_succ (t j : ℕ) : both (colsAt t j) (1024 * j) 1024 (1024 * t + 1024) = colsAt t (j + 1) := by
  funext h x; unfold both upd colsAt; split_ifs <;> omega
theorem rowsAt_succ (j : ℕ) : both (rowsAt j) 0 1024 (1024 * j + 1024) = rowsAt (j + 1) := by
  funext h x; unfold both upd rowsAt; split_ifs <;> omega

section Trip
variable {M : Ins} (hfin : ∀ h q k, ∃ r : ℝ, M.ds h q k = r)
variable (𝒱 : Variants) (c : Dev nD) (bd : Option 𝒱.V) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S2x1x4096 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .f32) (harg10 : arg10.IsWhole)
  (arg11 : Memref sig .tc .vmem S2x1x4096 .f32) (harg11 : arg11.IsWhole)
  (arg12 : Memref sig .tc .vmem S1x128x4096 .bf16) (harg12 : arg12.IsWhole)
  (arg13 : Memref sig .tc .vmem S128x4096 .bf16) (harg13 : arg13.IsWhole)
  (arg14 : Memref sig .tc .vmem S1x128x4096 .f32) (harg14 : arg14.IsWhole)
  (arg15 : Memref sig .tc .vmem S128x4096 .f32) (harg15 : arg15.IsWhole)
  (arg16 : Memref sig .tc .vmem S1x1024x128 .f32) (harg16 : arg16.IsWhole)
  (arg17 : Memref sig .tc .vmem S2x1024x1 .f32) (harg17 : arg17.IsWhole)
variable (k0_t1 : Fin k0_t1_loop.trips) (arg18 v107 : BitVec 32) (v125 v133 v141 v149 : FVec Ideal S1024x128 .bf16)
  (v157 v165 v174 v183 : FVec Ideal S1024x1 .f32) (v184 : FVec Ideal S1x1024x128 .f32)
  (X_arg2 : BufTy.Contents (Elt Ideal) arg2.view.ty) (X_arg3 : BufTy.Contents (Elt Ideal) arg3.view.ty)
  (X_arg6 : BufTy.Contents (Elt Ideal) arg6.view.ty) (X_arg12 : BufTy.Contents (Elt Ideal) arg12.view.ty)
  (X_arg13 : BufTy.Contents (Elt Ideal) arg13.view.ty)
  (hT : Tiles M (1024 * k0_t1) v125 v133 v141 v149 v157 v165 v174 v183)
  (hR : Reads arg2 arg3 arg6 arg12 arg13 X_arg2 X_arg3 X_arg6 X_arg12 X_arg13 M)

include hT hR hfin in
theorem inner_cols (f11 : BufTy.Contents (Elt Ideal) arg11.view.ty) (f14 : BufTy.Contents (Elt Ideal) arg14.view.ty) (f15 : BufTy.Contents (Elt Ideal) arg15.view.ty)
    (f16 : BufTy.Contents (Elt Ideal) arg16.view.ty) (f17 : BufTy.Contents (Elt Ideal) arg17.view.ty)
    (hC : Cols arg11 arg14 arg15 M (colsAt k0_t1 0) f11 f14 f15) (hW : Rows arg16 arg17 M (1024 * k0_t1) (rowsAt 0) f16 f17) (j : ℕ)
    (hj : j ≤ (k0_t2_loop k0_t1).trips) :
    Cols arg11 arg14 arg15 M (colsAt k0_t1 j) (arg11.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 f11 f14 f15 f16 f17 j).1) (arg14.view.writes (Elt Ideal) f14 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 f11 f14 f15 f16 f17 j).2.1)
        (arg15.view.writes (Elt Ideal) f15 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 f11 f14 f15 f16 f17 j).2.2.1)
      ∧ Rows arg16 arg17 M (1024 * k0_t1) (rowsAt j) (arg16.view.writes (Elt Ideal) f16 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 f11 f14 f15 f16 f17 j).2.2.2.1)
        (arg17.view.writes (Elt Ideal) f17 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 f11 f14 f15 f16 f17 j).2.2.2.2) := by
  induction j with
  | zero => exact ⟨hC, hW⟩
  | succ j ih =>
    obtain ⟨h1, h2⟩ := ih (by omega)
    have hs := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 f11 f14 f15 f16 f17 ⟨j, by omega⟩
    rw [show j + 1 = (⟨j, by omega⟩ : Fin (k0_t2_loop k0_t1).trips).val + 1 from rfl, hs]
    unfold tripL_k0_t2
    dsimp only
    rw [View.writes_append, View.writes_append, View.writes_append, View.writes_append, View.writes_append]
    have e1 := full_cols hfin 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 hT hR ⟨j, by omega⟩ (colsAt k0_t1 j) (by
      intro h x (h0 : 1024 * j ≤ x) h1
      unfold colsAt
      rw [if_neg (by omega)]
      exact ⟨le_rfl, fun q a b => absurd a (by omega)⟩) _ _ _ (arg16.view.writes (Elt Ideal) f16 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 f11 f14 f15 f16 f17 j).2.2.2.1) (arg17.view.writes (Elt Ideal) f17 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 f11 f14 f15 f16 f17 j).2.2.2.2) h1
    have e2 := full_rows 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 hT hR ⟨j, by omega⟩ (rowsAt j) (by
      intro h r h0 h1
      unfold rowsAt
      rw [if_pos (by omega)]) (arg11.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 f11 f14 f15 f16 f17 j).1) (arg14.view.writes (Elt Ideal) f14 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 f11 f14 f15 f16 f17 j).2.1) (arg15.view.writes (Elt Ideal) f15 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t1 arg18 v107 v125 v133 v141 v149 v157 v165 v174 v183 v184 X_arg2 X_arg3 X_arg6 X_arg12 X_arg13 f11 f14 f15 f16 f17 j).2.2.1) _ _ h2
    rw [colsAt_succ] at e1
    rw [rowsAt_succ] at e2
    exact ⟨e1, e2⟩
end Trip
end Cert.Proof.Fox
end

end
-- ==== Proof.Fox.Half.lean ====
module

public import proofs.«01_k».proof.Proof.Fox.Inner
public import proofs.«01_k».proof.Proof.Fox.Trip

/-! The two half tiles on the diagonal: their weights and the gradients of their scores. -/

@[expose] public section
set_option maxRecDepth 16384
noncomputable section
namespace Cert.Proof.Fox
open Idealize.ShloMosaic Idealize.ShloMosaic.TcCoe Idealize.SL.Sem
open Cert.FoxIdeal Cert.FoxIdeal.Gen Cert.FoxIdeal.Hand

variable {arg1 arg2 arg3 arg4 : Memref sig .tc .vmem S4096x128 .bf16} {arg5 : Memref sig .tc .vmem S4096x128 .f32}
  {arg6 : Memref sig .tc .vmem S2x1x4096 .f32} {arg12 : Memref sig .tc .vmem S1x128x4096 .bf16} {arg13 : Memref sig .tc .vmem S128x4096 .bf16}
  {X_arg1 : BufTy.Contents (Elt Ideal) arg1.view.ty} {X_arg2 : BufTy.Contents (Elt Ideal) arg2.view.ty}
  {X_arg3 : BufTy.Contents (Elt Ideal) arg3.view.ty} {X_arg4 : BufTy.Contents (Elt Ideal) arg4.view.ty}
  {X_arg5 : BufTy.Contents (Elt Ideal) arg5.view.ty} {X_arg6 : BufTy.Contents (Elt Ideal) arg6.view.ty}
  {X_arg12 : BufTy.Contents (Elt Ideal) arg12.view.ty} {X_arg13 : BufTy.Contents (Elt Ideal) arg13.view.ty}
  {M : Ins} {j : Fin 4} {P : ℕ → ℕ → EReal} {k : Fin k0_t1_loop.trips}

/-- The buffers of the queries, the cotangents and the packed rows of the pair `j` of heads. -/
structure Query (arg1 arg4 : Memref sig .tc .vmem S4096x128 .bf16) (arg5 : Memref sig .tc .vmem S4096x128 .f32)
    (X_arg1 : BufTy.Contents (Elt Ideal) arg1.view.ty) (X_arg4 : BufTy.Contents (Elt Ideal) arg4.view.ty)
    (X_arg5 : BufTy.Contents (Elt Ideal) arg5.view.ty) (P : ℕ → ℕ → EReal) (j : Fin 4) (M : Ins) : Prop where
  q : ∀ (x : Fin 4096) (y : Fin 128), arg1.view.read (Elt Ideal) X_arg1 (ix2 x y) = M.Q x y
  o : ∀ (x : Fin 4096) (y : Fin 128), arg4.view.read (Elt Ideal) X_arg4 (ix2 x y) = M.O x y
  p : ∀ (x : Fin 4096) (y : Fin 128), arg5.view.read (Elt Ideal) X_arg5 (ix2 x y) = P x y
  a0 : ∀ x, P x (2 * j) = M.A 0 x
  a1 : ∀ x, P x (2 * j + 1) = M.A 1 x
  d0 : ∀ x, P x (8 + 2 * j) = M.D 0 x
  d1 : ∀ x, P x (8 + 2 * j + 1) = M.D 1 x

theorem sum_lane (g : ℕ → EReal) (n : ℕ) (hn : n < 128) : ∑ l : Fin 128, (if (l : ℕ) = n then g l else 0) = g n := by
  rw [Finset.sum_eq_single (⟨n, hn⟩ : Fin 128) (fun l _ hl => if_neg fun e => hl (Fin.ext e)) (fun h => absurd (Finset.mem_univ _) h)]
  exact if_pos rfl

theorem lane_a0 : ∀ j : Fin 4, (Scalar.addi (Scalar.muli (2#32) (BitVec.ofNat 32 ↑j)) 0#32).toNat = 2 * j := by decide
theorem lane_a1 : ∀ j : Fin 4, (Scalar.addi (Scalar.muli (2#32) (BitVec.ofNat 32 ↑j)) 1#32).toNat = 2 * j + 1 := by decide
theorem lane_d0 : ∀ j : Fin 4, (Scalar.addi (Scalar.addi (8#32) (Scalar.muli (2#32) (BitVec.ofNat 32 ↑j))) 0#32).toNat = 8 + 2 * j := by decide
theorem lane_d1 : ∀ j : Fin 4, (Scalar.addi (Scalar.addi (8#32) (Scalar.muli (2#32) (BitVec.ofNat 32 ↑j))) 1#32).toNat = 8 + 2 * j + 1 := by decide

variable (hQ : Query arg1 arg4 arg5 X_arg1 X_arg4 X_arg5 P j M)
  (hR : Reads arg2 arg3 arg6 arg12 arg13 X_arg2 X_arg3 X_arg6 X_arg12 X_arg13 M)

include hQ in
theorem tile_q0 (r : Fin 1024) (l : Fin 128) : trip.sl.v125 (F := Ideal) arg1 X_arg1 k (ix2 r l) = Ins.hd 0 l (M.Q (1024 * k + r) l) := by
  pointwise [trip.sl.v125, trip.sl.v123, trip.sl.v117, trip.sl.v119, trip.sl.v121, trip.sl.v124, trip.sl.cst_89, trip.sl.v110,
    rd2 arg1.view X_arg1 (k0_off1_eq k) hQ.q]
  exact lane_lt l _
include hQ in
theorem tile_q1 (r : Fin 1024) (l : Fin 128) : trip.sl.v133 (F := Ideal) arg1 X_arg1 k (ix2 r l) = Ins.hd 1 l (M.Q (1024 * k + r) l) := by
  pointwise [trip.sl.v133, trip.sl.v131, trip.sl.v117, trip.sl.v129, trip.sl.v121, trip.sl.v124, trip.sl.cst_89, trip.sl.v110,
    rd2 arg1.view X_arg1 (k0_off1_eq k) hQ.q]
  exact lane_ge l _
include hQ in
theorem tile_o0 (r : Fin 1024) (l : Fin 128) : trip.sl.v141 (F := Ideal) arg4 X_arg4 k (ix2 r l) = Ins.hd 0 l (M.O (1024 * k + r) l) := by
  pointwise [trip.sl.v141, trip.sl.v123, trip.sl.v117, trip.sl.v119, trip.sl.v121, trip.sl.v124, trip.sl.cst_89, trip.sl.v113,
    rd2 arg4.view X_arg4 (k0_off1_eq k) hQ.o]
  exact lane_lt l _
include hQ in
theorem tile_o1 (r : Fin 1024) (l : Fin 128) : trip.sl.v149 (F := Ideal) arg4 X_arg4 k (ix2 r l) = Ins.hd 1 l (M.O (1024 * k + r) l) := by
  pointwise [trip.sl.v149, trip.sl.v131, trip.sl.v117, trip.sl.v129, trip.sl.v121, trip.sl.v124, trip.sl.cst_89, trip.sl.v113,
    rd2 arg4.view X_arg4 (k0_off1_eq k) hQ.o]
  exact lane_ge l _

include hQ in
theorem tile_a0 (r : Fin 1024) (z : Fin 1) : trip.sl.v157 (F := Ideal) arg5 (BitVec.ofNat 32 ↑j) X_arg5 k (ix2 r z) = M.A 0 (1024 * k + r) := by
  rw [← hQ.a0, ← sum_lane (P (1024 * k + r)) (2 * j) (by omega)]
  pointwise [trip.sl.v157, trip.sl.v156, trip.sl.v155, trip.sl.v153, trip.sl.v152, trip.sl.v151, trip.sl.v150, trip.sl.v117, trip.sl.v154, trip.sl.cst_99, trip.sl.cst_100, trip.sl.v116, rd2 arg5.view X_arg5 (k0_off1_eq k) hQ.p]
  refine Finset.sum_congr rfl fun l _ => ?_
  simp (disch := word_cmp_side) only [hlo_ix]
  rw [lane_a0]

include hQ in
theorem tile_a1 (r : Fin 1024) (z : Fin 1) : trip.sl.v165 (F := Ideal) arg5 (BitVec.ofNat 32 ↑j) X_arg5 k (ix2 r z) = M.A 1 (1024 * k + r) := by
  rw [← hQ.a1, ← sum_lane (P (1024 * k + r)) (2 * j + 1) (by omega)]
  pointwise [trip.sl.v165, trip.sl.v164, trip.sl.v163, trip.sl.v161, trip.sl.v160, trip.sl.v159, trip.sl.v150, trip.sl.v117, trip.sl.v154, trip.sl.cst_99, trip.sl.cst_100, trip.sl.v116, rd2 arg5.view X_arg5 (k0_off1_eq k) hQ.p]
  refine Finset.sum_congr rfl fun l _ => ?_
  simp (disch := word_cmp_side) only [hlo_ix]
  rw [lane_a1]

include hQ in
theorem tile_d0 (r : Fin 1024) (z : Fin 1) : trip.sl.v174 (F := Ideal) arg5 (BitVec.ofNat 32 ↑j) X_arg5 k (ix2 r z) = M.D 0 (1024 * k + r) := by
  rw [← hQ.d0, ← sum_lane (P (1024 * k + r)) (8 + 2 * j) (by omega)]
  pointwise [trip.sl.v174, trip.sl.v173, trip.sl.v172, trip.sl.v170, trip.sl.v169, trip.sl.v168, trip.sl.v167, trip.sl.v150, trip.sl.v117, trip.sl.v154, trip.sl.cst_99, trip.sl.cst_100, trip.sl.v116, rd2 arg5.view X_arg5 (k0_off1_eq k) hQ.p]
  refine Finset.sum_congr rfl fun l _ => ?_
  simp (disch := word_cmp_side) only [hlo_ix]
  rw [lane_d0]

include hQ in
theorem tile_d1 (r : Fin 1024) (z : Fin 1) : trip.sl.v183 (F := Ideal) arg5 (BitVec.ofNat 32 ↑j) X_arg5 k (ix2 r z) = M.D 1 (1024 * k + r) := by
  rw [← hQ.d1, ← sum_lane (P (1024 * k + r)) (8 + 2 * j + 1) (by omega)]
  pointwise [trip.sl.v183, trip.sl.v182, trip.sl.v181, trip.sl.v179, trip.sl.v178, trip.sl.v177, trip.sl.v167, trip.sl.v150, trip.sl.v117, trip.sl.v154, trip.sl.cst_99, trip.sl.cst_100, trip.sl.v116, rd2 arg5.view X_arg5 (k0_off1_eq k) hQ.p]
  refine Finset.sum_congr rfl fun l _ => ?_
  simp (disch := word_cmp_side) only [hlo_ix]
  rw [lane_d1]

include hQ in
theorem tiles : Tiles M (1024 * k) (trip.sl.v125 (F := Ideal) arg1 X_arg1 k) (trip.sl.v133 arg1 X_arg1 k) (trip.sl.v141 arg4 X_arg4 k)
    (trip.sl.v149 arg4 X_arg4 k) (trip.sl.v157 arg5 (BitVec.ofNat 32 ↑j) X_arg5 k) (trip.sl.v165 arg5 (BitVec.ofNat 32 ↑j) X_arg5 k)
    (trip.sl.v174 arg5 (BitVec.ofNat 32 ↑j) X_arg5 k) (trip.sl.v183 arg5 (BitVec.ofNat 32 ↑j) X_arg5 k) :=
  ⟨tile_q0 hQ, tile_q1 hQ, tile_o0 hQ, tile_o1 hQ, tile_a0 hQ, tile_a1 hQ, tile_d0 hQ, tile_d1 hQ⟩

theorem diag1 (t : ℕ) (r c : Fin 512) (x : EReal) :
    Scalar.select (IntOp.cmpi CmpIPredicate.sle (BitVec.ofNat 32 ↑c) (IntOp.addi (BitVec.ofNat 32 ↑r) 0#32)) x 0 = if t + (c : ℕ) ≤ t + r then x else 0 := by
  rw [show IntOp.addi (BitVec.ofNat 32 ↑r) 0#32 = BitVec.ofNat 32 r from (BitVec.ofNat_add _ 0).symm]
  simp (disch := word_cmp_side) only [hlo_ix]
  by_cases h : (c : ℕ) ≤ r
  · rw [if_pos (by omega), if_pos (by omega)]
  · rw [if_neg (by omega), if_neg (by omega)]
theorem diag2 (t : ℕ) (r : Fin 512) (c : Fin 1024) (x : EReal) :
    Scalar.select (IntOp.cmpi CmpIPredicate.sle (BitVec.ofNat 32 ↑c) (IntOp.addi (BitVec.ofNat 32 ↑r) 512#32)) x 0 = if t + (c : ℕ) ≤ t + 512 + r then x else 0 := by
  rw [show IntOp.addi (BitVec.ofNat 32 ↑r) 512#32 = BitVec.ofNat 32 (r + 512) from (BitVec.ofNat_add _ 512).symm]
  simp (disch := word_cmp_side) only [hlo_ix]
  by_cases h : (c : ℕ) ≤ r + 512
  · rw [if_pos (by omega), if_pos (by omega)]
  · rw [if_neg (by omega), if_neg (by omega)]

include hQ hR in
theorem half1_pr0 (r : Fin 512) (c : Fin 512) : trip.sl.v253 (F := Ideal) arg1 arg2 arg5 arg6 (BitVec.ofNat 32 ↑j) X_arg1 X_arg2 X_arg5 X_arg6 k (ix2 r c) = M.pr 0 (1024 * k + r) (1024 * k + c) := by
  rw [Ins.pr, Ins.sc]
  pointwise [trip.sl.v253, trip.sl.v251, trip.sl.v248, trip.sl.v247, trip.sl.v249, trip.sl.v252, trip.sl.v245, trip.sl.v235, trip.sl.v225, trip.sl.v222, trip.sl.v221, trip.sl.v199, trip.sl.v224, trip.sl.v223, trip.sl.v234, trip.sl.v233, trip.sl.cst_136, trip.sl.cst_144, rd2 arg2.view X_arg2 (k0_off24_eq k) hR.k,
    rd3 arg6.view X_arg6 (G := fun x _ z => M.C x z) (k0_off25_eq k) hR.c, tile_q0 hQ, tile_a0 hQ]
  refine (diag1 (1024 * k) r c _).trans ?_
  rfl
include hQ hR in
theorem half1_ds0 (r : Fin 512) (c : Fin 512) : trip.sl.v264 (F := Ideal) arg1 arg2 arg3 arg4 arg5 arg6 (BitVec.ofNat 32 ↑j) X_arg1 X_arg2 X_arg3 X_arg4 X_arg5 X_arg6 k (ix2 r c) = M.ds 0 (1024 * k + r) (1024 * k + c) := by
  rw [Ins.ds, Ins.dw]
  pointwise [trip.sl.v264, half1_pr0 hQ hR, trip.sl.v263, trip.sl.v242, trip.sl.v241, trip.sl.v218, trip.sl.v262, trip.sl.v261, trip.sl.cst_136, trip.sl.cst_144, rd2 arg3.view X_arg3 (k0_off24_eq k) hR.v, tile_o0 hQ, tile_d0 hQ]
include hR in
theorem half1_k0 (c : Fin 512) (l : Fin 128) : trip.sl.v207 (F := Ideal) arg2 X_arg2 k (ix2 c l) = Ins.hd 0 l (M.K (1024 * k + c) l) := by
  pointwise [trip.sl.v207, trip.sl.v205, trip.sl.v200, trip.sl.v201, trip.sl.v203, trip.sl.v206, trip.sl.v199, trip.sl.cst_130, rd2 arg2.view X_arg2 (k0_off24_eq k) hR.k]
  exact lane_lt l _

include hQ hR in
theorem half1_pr1 (r : Fin 512) (c : Fin 512) : trip.sl.v260 (F := Ideal) arg1 arg2 arg5 arg6 (BitVec.ofNat 32 ↑j) X_arg1 X_arg2 X_arg5 X_arg6 k (ix2 r c) = M.pr 1 (1024 * k + r) (1024 * k + c) := by
  rw [Ins.pr, Ins.sc]
  pointwise [trip.sl.v260, trip.sl.v251, trip.sl.v248, trip.sl.v247, trip.sl.v249, trip.sl.v252, trip.sl.v246, trip.sl.v240, trip.sl.v230, trip.sl.v227, trip.sl.v226, trip.sl.v199, trip.sl.v229, trip.sl.v228, trip.sl.v239, trip.sl.v238, trip.sl.cst_136, trip.sl.cst_144, rd2 arg2.view X_arg2 (k0_off24_eq k) hR.k,
    rd3 arg6.view X_arg6 (G := fun x _ z => M.C x z) (k0_off26_eq k) hR.c, tile_q1 hQ, tile_a1 hQ]
  refine (diag1 (1024 * k) r c _).trans ?_
  rfl
include hQ hR in
theorem half1_ds1 (r : Fin 512) (c : Fin 512) : trip.sl.v268 (F := Ideal) arg1 arg2 arg3 arg4 arg5 arg6 (BitVec.ofNat 32 ↑j) X_arg1 X_arg2 X_arg3 X_arg4 X_arg5 X_arg6 k (ix2 r c) = M.ds 1 (1024 * k + r) (1024 * k + c) := by
  rw [Ins.ds, Ins.dw]
  pointwise [trip.sl.v268, half1_pr1 hQ hR, trip.sl.v267, trip.sl.v244, trip.sl.v243, trip.sl.v218, trip.sl.v266, trip.sl.v265, trip.sl.cst_136, trip.sl.cst_144, rd2 arg3.view X_arg3 (k0_off24_eq k) hR.v, tile_o1 hQ, tile_d1 hQ]
include hR in
theorem half1_k1 (c : Fin 512) (l : Fin 128) : trip.sl.v215 (F := Ideal) arg2 X_arg2 k (ix2 c l) = Ins.hd 1 l (M.K (1024 * k + c) l) := by
  pointwise [trip.sl.v215, trip.sl.v213, trip.sl.v200, trip.sl.v211, trip.sl.v203, trip.sl.v206, trip.sl.v199, trip.sl.cst_130, rd2 arg2.view X_arg2 (k0_off24_eq k) hR.k]
  exact lane_ge l _

include hQ hR in
theorem half2_pr0 (r : Fin 512) (c : Fin 1024) : trip.sl.v427 (F := Ideal) arg1 arg2 arg5 arg6 (BitVec.ofNat 32 ↑j) X_arg1 X_arg2 X_arg5 X_arg6 k (ix2 r c) = M.pr 0 (1024 * k + 512 + r) (1024 * k + c) := by
  rw [Ins.pr, Ins.sc]
  pointwise [trip.sl.v427, trip.sl.v425, trip.sl.v422, trip.sl.v421, trip.sl.v423, trip.sl.v426, trip.sl.v419, trip.sl.v409, trip.sl.v399, trip.sl.v396, trip.sl.v395, trip.sl.v373, trip.sl.v398, trip.sl.v397, trip.sl.v408, trip.sl.v407, trip.sl.cst_216, trip.sl.cst_144, rd2 arg2.view X_arg2 (k0_off1_eq k) hR.k,
    rd3 arg6.view X_arg6 (G := fun x _ z => M.C x z) (k0_off35_eq k) hR.c, tile_q0 hQ, tile_a0 hQ]
  refine (diag2 (1024 * k) r c _).trans ?_
  simp only [Nat.add_assoc]; rfl
include hQ hR in
theorem half2_ds0 (r : Fin 512) (c : Fin 1024) : trip.sl.v438 (F := Ideal) arg1 arg2 arg3 arg4 arg5 arg6 (BitVec.ofNat 32 ↑j) X_arg1 X_arg2 X_arg3 X_arg4 X_arg5 X_arg6 k (ix2 r c) = M.ds 0 (1024 * k + 512 + r) (1024 * k + c) := by
  rw [Ins.ds, Ins.dw]
  pointwise [trip.sl.v438, half2_pr0 hQ hR, trip.sl.v437, trip.sl.v416, trip.sl.v415, trip.sl.v392, trip.sl.v436, trip.sl.v435, trip.sl.cst_216, trip.sl.cst_144, rd2 arg3.view X_arg3 (k0_off1_eq k) hR.v, tile_o0 hQ, tile_d0 hQ]
  simp only [Nat.add_assoc]
include hR in
theorem half2_k0 (c : Fin 1024) (l : Fin 128) : trip.sl.v381 (F := Ideal) arg2 X_arg2 k (ix2 c l) = Ins.hd 0 l (M.K (1024 * k + c) l) := by
  pointwise [trip.sl.v381, trip.sl.v379, trip.sl.v374, trip.sl.v375, trip.sl.v377, trip.sl.v380, trip.sl.v373, trip.sl.cst_130, rd2 arg2.view X_arg2 (k0_off1_eq k) hR.k]
  exact lane_lt l _

include hQ hR in
theorem half2_pr1 (r : Fin 512) (c : Fin 1024) : trip.sl.v434 (F := Ideal) arg1 arg2 arg5 arg6 (BitVec.ofNat 32 ↑j) X_arg1 X_arg2 X_arg5 X_arg6 k (ix2 r c) = M.pr 1 (1024 * k + 512 + r) (1024 * k + c) := by
  rw [Ins.pr, Ins.sc]
  pointwise [trip.sl.v434, trip.sl.v425, trip.sl.v422, trip.sl.v421, trip.sl.v423, trip.sl.v426, trip.sl.v420, trip.sl.v414, trip.sl.v404, trip.sl.v401, trip.sl.v400, trip.sl.v373, trip.sl.v403, trip.sl.v402, trip.sl.v413, trip.sl.v412, trip.sl.cst_216, trip.sl.cst_144, rd2 arg2.view X_arg2 (k0_off1_eq k) hR.k,
    rd3 arg6.view X_arg6 (G := fun x _ z => M.C x z) (k0_off36_eq k) hR.c, tile_q1 hQ, tile_a1 hQ]
  refine (diag2 (1024 * k) r c _).trans ?_
  simp only [Nat.add_assoc]; rfl
include hQ hR in
theorem half2_ds1 (r : Fin 512) (c : Fin 1024) : trip.sl.v442 (F := Ideal) arg1 arg2 arg3 arg4 arg5 arg6 (BitVec.ofNat 32 ↑j) X_arg1 X_arg2 X_arg3 X_arg4 X_arg5 X_arg6 k (ix2 r c) = M.ds 1 (1024 * k + 512 + r) (1024 * k + c) := by
  rw [Ins.ds, Ins.dw]
  pointwise [trip.sl.v442, half2_pr1 hQ hR, trip.sl.v441, trip.sl.v418, trip.sl.v417, trip.sl.v392, trip.sl.v440, trip.sl.v439, trip.sl.cst_216, trip.sl.cst_144, rd2 arg3.view X_arg3 (k0_off1_eq k) hR.v, tile_o1 hQ, tile_d1 hQ]
  simp only [Nat.add_assoc]
include hR in
theorem half2_k1 (c : Fin 1024) (l : Fin 128) : trip.sl.v389 (F := Ideal) arg2 X_arg2 k (ix2 c l) = Ins.hd 1 l (M.K (1024 * k + c) l) := by
  pointwise [trip.sl.v389, trip.sl.v387, trip.sl.v374, trip.sl.v385, trip.sl.v377, trip.sl.v380, trip.sl.v373, trip.sl.cst_130, rd2 arg2.view X_arg2 (k0_off1_eq k) hR.k]
  exact lane_ge l _
end Cert.Proof.Fox
end

end
-- ==== Proof.Fox.Outer.lean ====
module

public import proofs.«01_k».proof.Proof.Fox.Half

/-! The two half tiles on the diagonal added to what the whole tiles left. -/

@[expose] public section
set_option maxRecDepth 16384
noncomputable section
namespace Cert.Proof.Fox
open Idealize.ShloMosaic Idealize.ShloMosaic.TcCoe Idealize.SL.Sem
open Cert.FoxIdeal Cert.FoxIdeal.Gen Cert.FoxIdeal.Hand

/-- The keys' bounds after each of the four halves: the first half's two heads, then the second's. -/
def c1 (k : ℕ) : ℕ → ℕ → ℕ := upd (colsAt k k) 0 (1024 * k) 512 (1024 * k + 512)
def c2 (k : ℕ) : ℕ → ℕ → ℕ := upd (c1 k) 1 (1024 * k) 512 (1024 * k + 512)
def c3 (k : ℕ) : ℕ → ℕ → ℕ := upd (c2 k) 0 (1024 * k) 1024 (1024 * k + 512 + 512)
def c4 (k : ℕ) : ℕ → ℕ → ℕ := upd (c3 k) 1 (1024 * k) 1024 (1024 * k + 512 + 512)
/-- and the rows'. -/
def r1 (k : ℕ) : ℕ → ℕ → ℕ := upd (rowsAt k) 0 0 512 (1024 * k + 512)
def r2 (k : ℕ) : ℕ → ℕ → ℕ := upd (r1 k) 1 0 512 (1024 * k + 512)
def r3 (k : ℕ) : ℕ → ℕ → ℕ := upd (r2 k) 0 512 512 (1024 * k + 1024)
def r4 (k : ℕ) : ℕ → ℕ → ℕ := upd (r3 k) 1 512 512 (1024 * k + 1024)

theorem ready0 (k : ℕ) : Ready (colsAt k k) 0 (1024 * k) 512 (1024 * k) := by
  intro x h0 h1; unfold colsAt; rw [if_neg (by omega)]; exact ⟨le_rfl, fun q a b => absurd a (by omega)⟩
theorem ready1 (k : ℕ) : Ready (c1 k) 1 (1024 * k) 512 (1024 * k) := by
  intro x h0 h1; unfold c1 upd colsAt; rw [if_neg (by omega), if_neg (by omega)]; exact ⟨le_rfl, fun q a b => absurd a (by omega)⟩
theorem ready2 (k : ℕ) : Ready (c2 k) 0 (1024 * k) 1024 (1024 * k + 512) := by
  intro x h0 h1
  by_cases hx : x < 1024 * k + 512
  · rw [show c2 k 0 x = 1024 * k + 512 by unfold c2 c1 upd; rw [if_neg (by omega), if_pos (by omega)]]
    exact ⟨le_rfl, fun q a b => absurd b (by omega)⟩
  · rw [show c2 k 0 x = 1024 * k by unfold c2 c1 upd colsAt; rw [if_neg (by omega), if_neg (by omega), if_neg (by omega)]]
    exact ⟨by omega, fun q a b => by omega⟩
theorem ready3 (k : ℕ) : Ready (c3 k) 1 (1024 * k) 1024 (1024 * k + 512) := by
  intro x h0 h1
  by_cases hx : x < 1024 * k + 512
  · rw [show c3 k 1 x = 1024 * k + 512 by unfold c3 c2 c1 upd; rw [if_neg (by omega), if_pos (by omega)]]
    exact ⟨le_rfl, fun q a b => absurd b (by omega)⟩
  · rw [show c3 k 1 x = 1024 * k by unfold c3 c2 c1 upd colsAt; rw [if_neg (by omega), if_neg (by omega), if_neg (by omega), if_neg (by omega)]]
    exact ⟨by omega, fun q a b => by omega⟩
theorem row0 (k r : ℕ) (_ : 0 ≤ r) (h : r < 0 + 512) : rowsAt k 0 r = 1024 * k := by unfold rowsAt; rw [if_pos (by omega)]
theorem row1 (k r : ℕ) (_ : 0 ≤ r) (h : r < 0 + 512) : r1 k 1 r = 1024 * k := by unfold r1 upd rowsAt; rw [if_neg (by omega), if_pos (by omega)]
theorem row2 (k r : ℕ) (h0 : 512 ≤ r) (h : r < 512 + 512) : r2 k 0 r = 1024 * k := by
  unfold r2 r1 upd rowsAt; rw [if_neg (by omega), if_neg (by omega), if_pos (by omega)]
theorem row3 (k r : ℕ) (h0 : 512 ≤ r) (h : r < 512 + 512) : r3 k 1 r = 1024 * k := by
  unfold r3 r2 r1 upd rowsAt; rw [if_neg (by omega), if_neg (by omega), if_neg (by omega), if_pos (by omega)]

theorem off28a (k : Fin k0_t1_loop.trips) : k0_off28 k 0#32 = ![0,  1024 * (k : ℕ)] := k0_off28_eq k 0
theorem off28b (k : Fin k0_t1_loop.trips) : k0_off28 k 512#32 = ![0,  1024 * (k : ℕ) + 512] := k0_off28_eq k 1
theorem off30a (k : Fin k0_t1_loop.trips) : k0_off30 k 0#32 = ![0, 0,  1024 * (k : ℕ)] := k0_off30_eq k 0
theorem off30b (k : Fin k0_t1_loop.trips) : k0_off30 k 512#32 = ![0, 0,  1024 * (k : ℕ) + 512] := k0_off30_eq k 1
theorem off32a (k : Fin k0_t1_loop.trips) : k0_off32 k 0#32 = ![64,  1024 * (k : ℕ)] := k0_off32_eq k 0
theorem off32b (k : Fin k0_t1_loop.trips) : k0_off32 k 512#32 = ![64,  1024 * (k : ℕ) + 512] := k0_off32_eq k 1
theorem off34a (k : Fin k0_t1_loop.trips) : k0_off34 k 0#32 = ![0, 64,  1024 * (k : ℕ)] := k0_off34_eq k 0
theorem off34b (k : Fin k0_t1_loop.trips) : k0_off34 k 512#32 = ![0, 64,  1024 * (k : ℕ) + 512] := k0_off34_eq k 1
theorem t2_trips : ∀ k : Fin k0_t1_loop.trips, (k0_t2_loop k).trips = k := by decide +kernel

/-- A load of a rank-3 buffer that the writes cover. -/
theorem rc3 {sig : RefSig} {κ : Kind} {sp : Space} {e : EltTy} {A B C a b c : ℕ} (v : View sig κ sp ⟨3, ![A, B, C]⟩ e)
    (L : List (View.Piece (Elt Ideal) ⟨3, ![A, B, C]⟩ e)) {off : Fin 3 → ℕ}
    {inb : ∀ x, off x + (![a, b, c] : Fin 3 → ℕ) x ≤ (![A, B, C] : Fin 3 → ℕ) x} {o0 o1 o2 : ℕ} (h : off = ![o0, o1, o2])
    {G : ℕ → ℕ → ℕ → Elt Ideal e} (hG : ∀ (x : Fin A) (y : Fin B) (z : Fin C), v.read (Elt Ideal) (v.writes (Elt Ideal) v.junk L) (ix3 x y z) = G x y z)
    (r : Fin a) (s : Fin b) (t : Fin c) :
    v.readCov L (Rect.unit (s := ⟨3, ![A, B, C]⟩) off ![a, b, c] inb).toLoadRect (ix3 r s t) = G (o0 + r) (o1 + s) (o2 + t) :=
  rd3 v (v.writes (Elt Ideal) v.junk L) h hG r s t

section Outer
variable {M : Ins} (hfin : ∀ h q k, ∃ r : ℝ, M.ds h q k = r)
variable (𝒱 : Variants) (c : Dev nD) (bd : Option 𝒱.V) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S2x1x4096 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .f32) (harg10 : arg10.IsWhole)
  (arg11 : Memref sig .tc .vmem S2x1x4096 .f32) (harg11 : arg11.IsWhole)
  (arg12 : Memref sig .tc .vmem S1x128x4096 .bf16) (harg12 : arg12.IsWhole)
  (arg13 : Memref sig .tc .vmem S128x4096 .bf16) (harg13 : arg13.IsWhole)
  (arg14 : Memref sig .tc .vmem S1x128x4096 .f32) (harg14 : arg14.IsWhole)
  (arg15 : Memref sig .tc .vmem S128x4096 .f32) (harg15 : arg15.IsWhole)
  (arg16 : Memref sig .tc .vmem S1x1024x128 .f32) (harg16 : arg16.IsWhole)
  (arg17 : Memref sig .tc .vmem S2x1024x1 .f32) (harg17 : arg17.IsWhole)

variable {X_arg1 : BufTy.Contents (Elt Ideal) arg1.view.ty} {X_arg2 : BufTy.Contents (Elt Ideal) arg2.view.ty}
  {X_arg3 : BufTy.Contents (Elt Ideal) arg3.view.ty} {X_arg4 : BufTy.Contents (Elt Ideal) arg4.view.ty}
  {X_arg5 : BufTy.Contents (Elt Ideal) arg5.view.ty} {X_arg6 : BufTy.Contents (Elt Ideal) arg6.view.ty}
  {X_arg12 : BufTy.Contents (Elt Ideal) arg12.view.ty} {X_arg13 : BufTy.Contents (Elt Ideal) arg13.view.ty}
  {j : Fin 4} {P : ℕ → ℕ → EReal} {k : Fin k0_t1_loop.trips}
  {f11 : BufTy.Contents (Elt Ideal) arg11.view.ty} {f14 : BufTy.Contents (Elt Ideal) arg14.view.ty} {f15 : BufTy.Contents (Elt Ideal) arg15.view.ty}
variable (hQ : Query arg1 arg4 arg5 X_arg1 X_arg4 X_arg5 P j M)
  (hR : Reads arg2 arg3 arg6 arg12 arg13 X_arg2 X_arg3 X_arg6 X_arg12 X_arg13 M)
  (hC : Cols arg11 arg14 arg15 M (fun _ _ => 1024 * k) f11 f14 f15)

theorem zero_rows : Rows arg16 arg17 M (1024 * k) (rowsAt 0) (arg16.view.writes (Elt Ideal) arg16.view.junk trip.sl.HW_arg16_1) (arg17.view.writes (Elt Ideal) arg17.view.junk trip.sl.HW_arg17_1) := by
  rw [rowsAt_zero]
  refine ⟨fun z x y => ?_, fun z x y => ?_⟩
  · unfold trip.sl.HW_arg16_1
    refine acc3 arg16.view _ (off := ![0, 0, 0]) (L := []) (o0 := 0) (o1 := 0) (o2 := 0) (G := fun x y z => arg16.view.read (Elt Ideal) arg16.view.junk (ix3 (Fin.ofNat 1 x) (Fin.ofNat 1024 y) (Fin.ofNat 128 z)))
      (H := fun _ => M.dq (1024 * k) fun _ _ => 0) rfl (fun x y z => ?_) (fun x y z => ?_) (fun x y z hn => absurd hn (by omega)) z x y
    · exact congrArg _ (by ext a; fin_cases a <;> exact (Nat.mod_eq_of_lt (Fin.isLt _)).symm)
    · pointwise [trip.sl.v187, trip.sl.v184, trip.sl.cst_99]
      simp [Ins.dq]
  · unfold trip.sl.HW_arg17_1
    refine acc3 arg17.view _ (off := ![0, 0, 0]) (L := []) (o0 := 0) (o1 := 0) (o2 := 0) (G := fun x y z => arg17.view.read (Elt Ideal) arg17.view.junk (ix3 (Fin.ofNat 2 x) (Fin.ofNat 1024 y) (Fin.ofNat 1 z)))
      (H := fun h r _ => M.dcq (1024 * k) (fun _ _ => 0) h r) rfl (fun x y z => ?_) (fun x y z => ?_) (fun x y z hn => absurd hn (by omega)) z x y
    · exact congrArg _ (by ext a; fin_cases a <;> exact (Nat.mod_eq_of_lt (Fin.isLt _)).symm)
    · pointwise [trip.sl.v191, trip.sl.v188, trip.sl.cst_99]
      simp [Ins.dcq]

include hfin hQ hR hC in
/-- What the whole tiles leave. -/
theorem inner_at : Cols arg11 arg14 arg15 M (colsAt k k) (arg11.view.writes (Elt Ideal) f11 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k (0#32) (trip.sl.v106 k) (trip.sl.v125 arg1 X_arg1 k) (trip.sl.v133 arg1 X_arg1 k) (trip.sl.v141 arg4 X_arg4 k) (trip.sl.v149 arg4 X_arg4 k) (trip.sl.v157 arg5 (BitVec.ofNat 32 ↑j) X_arg5 k) (trip.sl.v165 arg5 (BitVec.ofNat 32 ↑j) X_arg5 k) (trip.sl.v174 arg5 (BitVec.ofNat 32 ↑j) X_arg5 k) (trip.sl.v183 arg5 (BitVec.ofNat 32 ↑j) X_arg5 k) (constant S1x1024x128 .f32 0#32) X_arg2 X_arg3 X_arg6 X_arg12 X_arg13 f11 f14 f15 (arg16.view.writes (Elt Ideal) arg16.view.junk trip.sl.HW_arg16_1) (arg17.view.writes (Elt Ideal) arg17.view.junk trip.sl.HW_arg17_1) (k0_t2_loop k).trips).1) (arg14.view.writes (Elt Ideal) f14 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k (0#32) (trip.sl.v106 k) (trip.sl.v125 arg1 X_arg1 k) (trip.sl.v133 arg1 X_arg1 k) (trip.sl.v141 arg4 X_arg4 k) (trip.sl.v149 arg4 X_arg4 k) (trip.sl.v157 arg5 (BitVec.ofNat 32 ↑j) X_arg5 k) (trip.sl.v165 arg5 (BitVec.ofNat 32 ↑j) X_arg5 k) (trip.sl.v174 arg5 (BitVec.ofNat 32 ↑j) X_arg5 k) (trip.sl.v183 arg5 (BitVec.ofNat 32 ↑j) X_arg5 k) (constant S1x1024x128 .f32 0#32) X_arg2 X_arg3 X_arg6 X_arg12 X_arg13 f11 f14 f15 (arg16.view.writes (Elt Ideal) arg16.view.junk trip.sl.HW_arg16_1) (arg17.view.writes (Elt Ideal) arg17.view.junk trip.sl.HW_arg17_1) (k0_t2_loop k).trips).2.1)
      (arg15.view.writes (Elt Ideal) f15 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k (0#32) (trip.sl.v106 k) (trip.sl.v125 arg1 X_arg1 k) (trip.sl.v133 arg1 X_arg1 k) (trip.sl.v141 arg4 X_arg4 k) (trip.sl.v149 arg4 X_arg4 k) (trip.sl.v157 arg5 (BitVec.ofNat 32 ↑j) X_arg5 k) (trip.sl.v165 arg5 (BitVec.ofNat 32 ↑j) X_arg5 k) (trip.sl.v174 arg5 (BitVec.ofNat 32 ↑j) X_arg5 k) (trip.sl.v183 arg5 (BitVec.ofNat 32 ↑j) X_arg5 k) (constant S1x1024x128 .f32 0#32) X_arg2 X_arg3 X_arg6 X_arg12 X_arg13 f11 f14 f15 (arg16.view.writes (Elt Ideal) arg16.view.junk trip.sl.HW_arg16_1) (arg17.view.writes (Elt Ideal) arg17.view.junk trip.sl.HW_arg17_1) (k0_t2_loop k).trips).2.2.1)
    ∧ Rows arg16 arg17 M (1024 * k) (rowsAt k) (arg16.view.writes (Elt Ideal) arg16.view.junk ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k (0#32) (trip.sl.v106 k) (trip.sl.v125 arg1 X_arg1 k) (trip.sl.v133 arg1 X_arg1 k) (trip.sl.v141 arg4 X_arg4 k) (trip.sl.v149 arg4 X_arg4 k) (trip.sl.v157 arg5 (BitVec.ofNat 32 ↑j) X_arg5 k) (trip.sl.v165 arg5 (BitVec.ofNat 32 ↑j) X_arg5 k) (trip.sl.v174 arg5 (BitVec.ofNat 32 ↑j) X_arg5 k) (trip.sl.v183 arg5 (BitVec.ofNat 32 ↑j) X_arg5 k) (constant S1x1024x128 .f32 0#32) X_arg2 X_arg3 X_arg6 X_arg12 X_arg13 f11 f14 f15 (arg16.view.writes (Elt Ideal) arg16.view.junk trip.sl.HW_arg16_1) (arg17.view.writes (Elt Ideal) arg17.view.junk trip.sl.HW_arg17_1) (k0_t2_loop k).trips).2.2.2.1 ++ trip.sl.HW_arg16_1))
      (arg17.view.writes (Elt Ideal) arg17.view.junk ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k (0#32) (trip.sl.v106 k) (trip.sl.v125 arg1 X_arg1 k) (trip.sl.v133 arg1 X_arg1 k) (trip.sl.v141 arg4 X_arg4 k) (trip.sl.v149 arg4 X_arg4 k) (trip.sl.v157 arg5 (BitVec.ofNat 32 ↑j) X_arg5 k) (trip.sl.v165 arg5 (BitVec.ofNat 32 ↑j) X_arg5 k) (trip.sl.v174 arg5 (BitVec.ofNat 32 ↑j) X_arg5 k) (trip.sl.v183 arg5 (BitVec.ofNat 32 ↑j) X_arg5 k) (constant S1x1024x128 .f32 0#32) X_arg2 X_arg3 X_arg6 X_arg12 X_arg13 f11 f14 f15 (arg16.view.writes (Elt Ideal) arg16.view.junk trip.sl.HW_arg16_1) (arg17.view.writes (Elt Ideal) arg17.view.junk trip.sl.HW_arg17_1) (k0_t2_loop k).trips).2.2.2.2 ++ trip.sl.HW_arg17_1)) := by
  rw [View.writes_append, View.writes_append]
  have h := inner_cols hfin 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k (0#32) (trip.sl.v106 k) (trip.sl.v125 arg1 X_arg1 k) (trip.sl.v133 arg1 X_arg1 k) (trip.sl.v141 arg4 X_arg4 k) (trip.sl.v149 arg4 X_arg4 k) (trip.sl.v157 arg5 (BitVec.ofNat 32 ↑j) X_arg5 k) (trip.sl.v165 arg5 (BitVec.ofNat 32 ↑j) X_arg5 k) (trip.sl.v174 arg5 (BitVec.ofNat 32 ↑j) X_arg5 k) (trip.sl.v183 arg5 (BitVec.ofNat 32 ↑j) X_arg5 k) (constant S1x1024x128 .f32 0#32) X_arg2 X_arg3 X_arg6 X_arg12 X_arg13 (tiles hQ) hR f11 f14 f15 (arg16.view.writes (Elt Ideal) arg16.view.junk trip.sl.HW_arg16_1) (arg17.view.writes (Elt Ideal) arg17.view.junk trip.sl.HW_arg17_1)
    (by rw [colsAt_zero]; exact hC) (zero_rows arg16 arg17) (k0_t2_loop k).trips le_rfl
  rw [show colsAt k (k0_t2_loop k).trips = colsAt k k by rw [t2_trips], show rowsAt (k0_t2_loop k).trips = rowsAt k by rw [t2_trips]] at h
  exact h

include hfin hQ hR hC in
theorem cols1 : Cols arg11 arg14 arg15 M (c1 k) (arg11.view.writes (Elt Ideal) f11 (trip.sl.HW_arg11_1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15)) (arg14.view.writes (Elt Ideal) f14 (trip.sl.HW_arg14_1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15))
    (arg15.view.writes (Elt Ideal) f15 (trip.sl.HW_arg15_1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15)) := by
  have hI := (inner_at hfin 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hQ hR hC).1
  refine ⟨?_, ?_, ?_⟩
  · unfold trip.sl.HW_arg11_1
    refine add_dck M hfin arg11.view f11 (h := 0) (b := colsAt k k) (m := 512) (k0_off25_eq k) (ready0 k) hI.c fun r z w => ?_
    have ld : ∀ (r : Fin 1) (z : Fin 1) (w : Fin 512), trip.sl.v309 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15 (ix3 r z w) = M.dck (colsAt k k) (0 + r) (1024 * k + w) :=
      rd3 (Val := Elt Ideal) arg11.view _ (k0_off25_eq k) (G := fun h _ => M.dck (colsAt k k) h) hI.c
    pointwise [trip.sl.v319, trip.sl.v315, trip.sl.v310, trip.sl.v314, trip.sl.v313, trip.sl.v312, trip.sl.v311, trip.sl.cst_168, trip.sl.cst_144, half1_ds0 hQ hR, ld]
  · unfold trip.sl.HW_arg14_1
    refine add_dkt M arg14.view f14 (h := 0) (b := colsAt k k) (m := 512) (k0_off29_eq k) (ready0 k) hI.k fun z r w => ?_
    have ld : ∀ (r : Fin 1) (z : Fin 64) (w : Fin 512), trip.sl.v282 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15 (ix3 r z w) = M.dkt (colsAt k k) (0 + z) (1024 * k + w) :=
      rd3 (Val := Elt Ideal) arg14.view _ (k0_off29_eq k) (G := fun _ => M.dkt (colsAt k k)) hI.k
    pointwise [trip.sl.v292, trip.sl.v288, trip.sl.v283, trip.sl.v287, trip.sl.v286, trip.sl.v269, trip.sl.cst_149, half1_ds0 hQ hR, ld,
      rd3 arg12.view X_arg12 (off30a k) (G := fun _ l q => M.Q q l) hR.q]
  · unfold trip.sl.HW_arg15_1
    refine add_dvt M arg15.view f15 (h := 0) (b := colsAt k k) (m := 512) (k0_off27_eq k) (ready0 k) hI.v fun r w => ?_
    have ld : ∀ (r : Fin 64) (w : Fin 512), trip.sl.v271 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15 (ix2 r w) = M.dvt (colsAt k k) (0 + r) (1024 * k + w) :=
      rd2 (Val := Elt Ideal) arg15.view _ (k0_off27_eq k) (G := M.dvt (colsAt k k)) hI.v
    pointwise [trip.sl.v280, trip.sl.v276, trip.sl.v275, trip.sl.v274, trip.sl.cst_149, half1_pr0 hQ hR, ld,
      rd2 arg13.view X_arg13 (off28a k) (G := fun l q => M.O q l) hR.o]

include hfin hQ hR hC in
theorem cols2 : Cols arg11 arg14 arg15 M (c2 k) (arg11.view.writes (Elt Ideal) f11 (trip.sl.HW_arg11_2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15)) (arg14.view.writes (Elt Ideal) f14 (trip.sl.HW_arg14_2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15))
    (arg15.view.writes (Elt Ideal) f15 (trip.sl.HW_arg15_2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15)) := by
  have hI := cols1 hfin 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hQ hR hC
  refine ⟨?_, ?_, ?_⟩
  · unfold trip.sl.HW_arg11_2
    refine add_dck M hfin arg11.view f11 (h := 1) (b := c1 k) (m := 512) (k0_off26_eq k) (ready1 k) hI.c fun r z w => ?_
    pointwise [trip.sl.v370, trip.sl.v366, trip.sl.v361, trip.sl.v365, trip.sl.v313, trip.sl.v363, trip.sl.v362, trip.sl.cst_168, trip.sl.cst_144, half1_ds1 hQ hR, rd3 (Val := Elt Ideal) arg11.view _ (k0_off26_eq k) (G := fun h _ => M.dck (c1 k) h) hI.c]
  · unfold trip.sl.HW_arg14_2
    refine add_dkt M arg14.view f14 (h := 1) (b := c1 k) (m := 512) (k0_off33_eq k) (ready1 k) hI.k fun z r w => ?_
    pointwise [trip.sl.v343, trip.sl.v339, trip.sl.v334, trip.sl.v338, trip.sl.v337, trip.sl.v320, trip.sl.cst_149, half1_ds1 hQ hR, rd3 (Val := Elt Ideal) arg14.view _ (k0_off33_eq k) (G := fun _ => M.dkt (c1 k)) hI.k,
      rd3 arg12.view X_arg12 (off34a k) (G := fun _ l q => M.Q q l) hR.q]
  · unfold trip.sl.HW_arg15_2
    refine add_dvt M arg15.view f15 (h := 1) (b := c1 k) (m := 512) (k0_off31_eq k) (ready1 k) hI.v fun r w => ?_
    pointwise [trip.sl.v331, trip.sl.v327, trip.sl.v326, trip.sl.v325, trip.sl.cst_149, half1_pr1 hQ hR, rd2 (Val := Elt Ideal) arg15.view _ (k0_off31_eq k) (G := M.dvt (c1 k)) hI.v,
      rd2 arg13.view X_arg13 (off32a k) (G := fun l q => M.O q l) hR.o]

include hfin hQ hR hC in
theorem cols3 : Cols arg11 arg14 arg15 M (c3 k) (arg11.view.writes (Elt Ideal) f11 (trip.sl.HW_arg11_3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15)) (arg14.view.writes (Elt Ideal) f14 (trip.sl.HW_arg14_3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15))
    (arg15.view.writes (Elt Ideal) f15 (trip.sl.HW_arg15_3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15)) := by
  have hI := cols2 hfin 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hQ hR hC
  refine ⟨?_, ?_, ?_⟩
  · unfold trip.sl.HW_arg11_3
    refine add_dck M hfin arg11.view f11 (h := 0) (b := c2 k) (m := 512) (k0_off35_eq k) (ready2 k) hI.c fun r z w => ?_
    pointwise [trip.sl.v493, trip.sl.v489, trip.sl.v484, trip.sl.v488, trip.sl.v487, trip.sl.v486, trip.sl.v485, trip.sl.cst_254, trip.sl.cst_144, half2_ds0 hQ hR, rd3 (Val := Elt Ideal) arg11.view _ (k0_off35_eq k) (G := fun h _ => M.dck (c2 k) h) hI.c]
  · unfold trip.sl.HW_arg14_3
    refine add_dkt M arg14.view f14 (h := 0) (b := c2 k) (m := 512) (k0_off38_eq k) (ready2 k) hI.k fun z r w => ?_
    pointwise [trip.sl.v466, trip.sl.v462, trip.sl.v457, trip.sl.v461, trip.sl.v460, trip.sl.v443, trip.sl.cst_230, half2_ds0 hQ hR, rd3 (Val := Elt Ideal) arg14.view _ (k0_off38_eq k) (G := fun _ => M.dkt (c2 k)) hI.k,
      rd3 arg12.view X_arg12 (off30b k) (G := fun _ l q => M.Q q l) hR.q]
  · unfold trip.sl.HW_arg15_3
    refine add_dvt M arg15.view f15 (h := 0) (b := c2 k) (m := 512) (k0_off37_eq k) (ready2 k) hI.v fun r w => ?_
    pointwise [trip.sl.v454, trip.sl.v450, trip.sl.v449, trip.sl.v448, trip.sl.cst_230, half2_pr0 hQ hR, rd2 (Val := Elt Ideal) arg15.view _ (k0_off37_eq k) (G := M.dvt (c2 k)) hI.v,
      rd2 arg13.view X_arg13 (off28b k) (G := fun l q => M.O q l) hR.o]

include hfin hQ hR hC in
theorem cols4 : Cols arg11 arg14 arg15 M (c4 k) (arg11.view.writes (Elt Ideal) f11 (⟨Rect.unit (k0_off36 k) S1x1x1024.size (k0_off36_inb k), trip.sl.v544 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15⟩ :: (trip.sl.HW_arg11_3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15))) (arg14.view.writes (Elt Ideal) f14 (⟨Rect.unit (k0_off40 k) S1x64x1024.size (k0_off40_inb k), trip.sl.v517 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15⟩ :: (trip.sl.HW_arg14_3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15)))
    (arg15.view.writes (Elt Ideal) f15 (⟨Rect.unit (k0_off39 k) S64x1024.size (k0_off39_inb k), trip.sl.v505 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15⟩ :: (trip.sl.HW_arg15_3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15))) := by
  have hI := cols3 hfin 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hQ hR hC
  refine ⟨?_, ?_, ?_⟩
  · refine add_dck M hfin arg11.view f11 (h := 1) (b := c3 k) (m := 512) (k0_off36_eq k) (ready3 k) hI.c fun r z w => ?_
    pointwise [trip.sl.v544, trip.sl.v540, trip.sl.v535, trip.sl.v539, trip.sl.v487, trip.sl.v537, trip.sl.v536, trip.sl.cst_254, trip.sl.cst_144, half2_ds1 hQ hR, rd3 (Val := Elt Ideal) arg11.view _ (k0_off36_eq k) (G := fun h _ => M.dck (c3 k) h) hI.c]
  · refine add_dkt M arg14.view f14 (h := 1) (b := c3 k) (m := 512) (k0_off40_eq k) (ready3 k) hI.k fun z r w => ?_
    pointwise [trip.sl.v517, trip.sl.v513, trip.sl.v508, trip.sl.v512, trip.sl.v511, trip.sl.v494, trip.sl.cst_230, half2_ds1 hQ hR, rd3 (Val := Elt Ideal) arg14.view _ (k0_off40_eq k) (G := fun _ => M.dkt (c3 k)) hI.k,
      rd3 arg12.view X_arg12 (off34b k) (G := fun _ l q => M.Q q l) hR.q]
  · refine add_dvt M arg15.view f15 (h := 1) (b := c3 k) (m := 512) (k0_off39_eq k) (ready3 k) hI.v fun r w => ?_
    pointwise [trip.sl.v505, trip.sl.v501, trip.sl.r, trip.sl.v500, trip.sl.v499, trip.sl.cst_230, half2_pr1 hQ hR, rd2 (Val := Elt Ideal) arg15.view _ (k0_off39_eq k) (G := M.dvt (c3 k)) hI.v,
      rd2 arg13.view X_arg13 (off32b k) (G := fun l q => M.O q l) hR.o]

include hfin hQ hR hC in
theorem rows1 : Rows arg16 arg17 M (1024 * k) (r1 k) (arg16.view.writes (Elt Ideal) arg16.view.junk (trip.sl.HW_arg16_1_1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15)) (arg17.view.writes (Elt Ideal) arg17.view.junk (trip.sl.HW_arg17_1_1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15)) := by
  have hI := (inner_at hfin 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hQ hR hC).2
  refine ⟨?_, ?_⟩
  · unfold trip.sl.HW_arg16_1_1
    refine add_dq M arg16.view _ (h := 0) (b := rowsAt k) (r0 := 0) (m := 512) (n := 512) (by omega) rfl (row0 k) hI.q fun z r l => ?_
    have ld : ∀ (z : Fin 1) (r : Fin 512) (l : Fin 128), trip.sl.v293 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15 (ix3 z r l) = M.dq (1024 * k) (rowsAt k) (0 + r) (0 + l) :=
      rc3 arg16.view _ (off := ![0, 0, 0]) rfl (G := fun _ => M.dq (1024 * k) (rowsAt k)) hI.q
    pointwise [trip.sl.v299, trip.sl.v296, trip.sl.v294, trip.sl.v295, trip.sl.v269, trip.sl.cst_161, half1_ds0 hQ hR, half1_k0 hR, ld]
  · unfold trip.sl.HW_arg17_1_1
    refine add_dcq M arg17.view _ (h := 0) (b := rowsAt k) (r0 := 0) (m := 512) (n := 512) rfl (row0 k) hI.c fun x r z => ?_
    have ld : ∀ (x : Fin 1) (r : Fin 512) (z : Fin 1), trip.sl.v300 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15 (ix3 x r z) = M.dcq (1024 * k) (rowsAt k) (0 + x) (0 + r) :=
      rc3 arg17.view _ (off := ![0, 0, 0]) rfl (G := fun h r _ => M.dcq (1024 * k) (rowsAt k) h r) hI.c
    pointwise [trip.sl.v307, trip.sl.v304, trip.sl.v301, trip.sl.v303, trip.sl.v302, trip.sl.cst_168, half1_ds0 hQ hR, ld]

include hfin hQ hR hC in
theorem rows2 : Rows arg16 arg17 M (1024 * k) (r2 k) (arg16.view.writes (Elt Ideal) arg16.view.junk (trip.sl.HW_arg16_2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15)) (arg17.view.writes (Elt Ideal) arg17.view.junk (trip.sl.HW_arg17_2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15)) := by
  have hI := rows1 hfin 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hQ hR hC
  refine ⟨?_, ?_⟩
  · unfold trip.sl.HW_arg16_2
    refine add_dq M arg16.view _ (h := 1) (b := r1 k) (r0 := 0) (m := 512) (n := 512) (by omega) rfl (row1 k) hI.q fun z r l => ?_
    have ld : ∀ (z : Fin 1) (r : Fin 512) (l : Fin 128), trip.sl.v344 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15 (ix3 z r l) = M.dq (1024 * k) (r1 k) (0 + r) (0 + l) :=
      rc3 arg16.view _ (off := ![0, 0, 0]) rfl (G := fun _ => M.dq (1024 * k) (r1 k)) hI.q
    pointwise [trip.sl.v350, trip.sl.v347, trip.sl.v345, trip.sl.v346, trip.sl.v320, trip.sl.cst_161, half1_ds1 hQ hR, half1_k1 hR, ld]
  · unfold trip.sl.HW_arg17_2
    refine add_dcq M arg17.view _ (h := 1) (b := r1 k) (r0 := 0) (m := 512) (n := 512) rfl (row1 k) hI.c fun x r z => ?_
    have ld : ∀ (x : Fin 1) (r : Fin 512) (z : Fin 1), trip.sl.v351 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15 (ix3 x r z) = M.dcq (1024 * k) (r1 k) (1 + x) (0 + r) :=
      rc3 arg17.view _ (off := ![1, 0, 0]) rfl (G := fun h r _ => M.dcq (1024 * k) (r1 k) h r) hI.c
    pointwise [trip.sl.v358, trip.sl.v355, trip.sl.v352, trip.sl.v354, trip.sl.v353, trip.sl.cst_168, half1_ds1 hQ hR, ld]

include hfin hQ hR hC in
theorem rows3 : Rows arg16 arg17 M (1024 * k) (r3 k) (arg16.view.writes (Elt Ideal) arg16.view.junk (trip.sl.HW_arg16_3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15)) (arg17.view.writes (Elt Ideal) arg17.view.junk (trip.sl.HW_arg17_3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15)) := by
  have hI := rows2 hfin 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hQ hR hC
  refine ⟨?_, ?_⟩
  · unfold trip.sl.HW_arg16_3
    refine add_dq M arg16.view _ (h := 0) (b := r2 k) (r0 := 512) (m := 512) (n := 1024) (by omega) rfl (row2 k) hI.q fun z r l => ?_
    have ld : ∀ (z : Fin 1) (r : Fin 512) (l : Fin 128), trip.sl.v467 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15 (ix3 z r l) = M.dq (1024 * k) (r2 k) (512 + r) (0 + l) :=
      rc3 arg16.view _ (off := ![0, 512, 0]) rfl (G := fun _ => M.dq (1024 * k) (r2 k)) hI.q
    pointwise [trip.sl.v473, trip.sl.v470, trip.sl.v468, trip.sl.v469, trip.sl.v443, trip.sl.cst_161, half2_ds0 hQ hR, half2_k0 hR, ld]
    simp only [Nat.add_assoc]
  · unfold trip.sl.HW_arg17_3
    refine add_dcq M arg17.view _ (h := 0) (b := r2 k) (r0 := 512) (m := 512) (n := 1024) rfl (row2 k) hI.c fun x r z => ?_
    have ld : ∀ (x : Fin 1) (r : Fin 512) (z : Fin 1), trip.sl.v474 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15 (ix3 x r z) = M.dcq (1024 * k) (r2 k) (0 + x) (512 + r) :=
      rc3 arg17.view _ (off := ![0, 512, 0]) rfl (G := fun h r _ => M.dcq (1024 * k) (r2 k) h r) hI.c
    pointwise [trip.sl.v481, trip.sl.v478, trip.sl.v475, trip.sl.v477, trip.sl.v476, trip.sl.cst_168, half2_ds0 hQ hR, ld]
    simp only [Nat.add_assoc]

include hfin hQ hR hC in
theorem rows4 : Rows arg16 arg17 M (1024 * k) (r4 k) (arg16.view.writes (Elt Ideal) arg16.view.junk (trip.sl.HW_arg16_4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15)) (arg17.view.writes (Elt Ideal) arg17.view.junk (trip.sl.HW_arg17_4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15)) := by
  have hI := rows3 hfin 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hQ hR hC
  refine ⟨?_, ?_⟩
  · unfold trip.sl.HW_arg16_4
    refine add_dq M arg16.view _ (h := 1) (b := r3 k) (r0 := 512) (m := 512) (n := 1024) (by omega) rfl (row3 k) hI.q fun z r l => ?_
    have ld : ∀ (z : Fin 1) (r : Fin 512) (l : Fin 128), trip.sl.v518 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15 (ix3 z r l) = M.dq (1024 * k) (r3 k) (512 + r) (0 + l) :=
      rc3 arg16.view _ (off := ![0, 512, 0]) rfl (G := fun _ => M.dq (1024 * k) (r3 k)) hI.q
    pointwise [trip.sl.v524, trip.sl.v521, trip.sl.v519, trip.sl.v520, trip.sl.v494, trip.sl.cst_161, half2_ds1 hQ hR, half2_k1 hR, ld]
    simp only [Nat.add_assoc]
  · unfold trip.sl.HW_arg17_4
    refine add_dcq M arg17.view _ (h := 1) (b := r3 k) (r0 := 512) (m := 512) (n := 1024) rfl (row3 k) hI.c fun x r z => ?_
    have ld : ∀ (x : Fin 1) (r : Fin 512) (z : Fin 1), trip.sl.v525 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15 (ix3 x r z) = M.dcq (1024 * k) (r3 k) (1 + x) (512 + r) :=
      rc3 arg17.view _ (off := ![1, 512, 0]) rfl (G := fun h r _ => M.dcq (1024 * k) (r3 k) h r) hI.c
    pointwise [trip.sl.v532, trip.sl.v529, trip.sl.v526, trip.sl.v528, trip.sl.v527, trip.sl.cst_168, half2_ds1 hQ hR, ld]
    simp only [Nat.add_assoc]
end Outer
end Cert.Proof.Fox
end

end
-- ==== Proof.Fox.Pairs.lean ====
module

public import proofs.«01_k».proof.Proof.Fox.Outer
public import proofs.«01_k».proof.Proof.Fox.Loop

/-! The outer loop's trips together: every tile of queries. -/

@[expose] public section
set_option maxRecDepth 16384
noncomputable section
namespace Cert.Proof.Fox
open Idealize.ShloMosaic Idealize.ShloMosaic.TcCoe Idealize.SL.Sem
open Cert.FoxIdeal Cert.FoxIdeal.Gen Cert.FoxIdeal.Hand

namespace Ins
variable (M : Ins)
/-- The query's gradient (before its scale) over all keys, and that of the query's offset. -/
def dqA (x y : ℕ) : EReal := (∑ k ∈ Finset.range 4096, M.ds 0 x k * hd 0 y (M.K k y)) + ∑ k ∈ Finset.range 4096, M.ds 1 x k * hd 1 y (M.K k y)
def dcqA (h x : ℕ) : EReal := ∑ k ∈ Finset.range 4096, M.ds h x k
/-- The packed rows' lanes of the pair `j` of heads, over what the other pairs left. -/
def lanes (j : ℕ) (G : ℕ → ℕ → EReal) (x y : ℕ) : EReal := if y = 2 * j then M.dcqA 0 x else if y = 2 * j + 1 then M.dcqA 1 x else G x y

theorem sum_keys (f : ℕ → EReal) {n : ℕ} (hn : n ≤ 4096) (hz : ∀ k, n ≤ k → f k = 0) : ∑ k ∈ Finset.range n, f k = ∑ k ∈ Finset.range 4096, f k :=
  Finset.sum_subset (Finset.range_mono hn) fun k _ hk => hz k (by rw [Finset.mem_range] at hk; omega)

theorem dq_all (n : ℕ → ℕ → ℕ) (q0 r l : ℕ) (h0 : q0 + r < n 0 r ∧ n 0 r ≤ 4096) (h1 : q0 + r < n 1 r ∧ n 1 r ≤ 4096) :
    M.dq q0 n r l = M.dqA (q0 + r) l := by
  unfold dq dqA
  rw [sum_keys _ h0.2 fun k hk => by rw [ds_gt M (by omega), zero_mul], sum_keys _ h1.2 fun k hk => by rw [ds_gt M (by omega), zero_mul]]
theorem dcq_all (n : ℕ → ℕ → ℕ) (q0 h r : ℕ) (h0 : q0 + r < n h r ∧ n h r ≤ 4096) : M.dcq q0 n h r = M.dcqA h (q0 + r) :=
  sum_keys _ h0.2 fun k hk => ds_gt M (by omega)

theorem sum_more (f : ℕ → EReal) {b b' : ℕ} (hb : b ≤ b') (hz : ∀ q, b ≤ q → q < b' → f q = 0) : ∑ q ∈ Finset.range b, f q = ∑ q ∈ Finset.range b', f q :=
  Finset.sum_subset (Finset.range_mono hb) fun k h hk => by rw [Finset.mem_range] at hk h; exact hz k (by omega) h
end Ins

theorem r4_bounds (k r : ℕ) (hk : k < 4) (hr : r < 1024) (h : ℕ) (hh : h < 2) : 1024 * k + r < r4 k h r ∧ r4 k h r ≤ 4096 := by
  by_cases h5 : r < 512 <;> interval_cases h
  · rw [show r4 k 0 r = 1024 * k + 512 by unfold r4 r3 r2 r1 upd; rw [if_neg (by omega), if_neg (by omega), if_neg (by omega), if_pos (by omega)]]; omega
  · rw [show r4 k 1 r = 1024 * k + 512 by unfold r4 r3 r2 r1 upd; rw [if_neg (by omega), if_neg (by omega), if_pos (by omega)]]; omega
  · rw [show r4 k 0 r = 1024 * k + 1024 by unfold r4 r3 upd; rw [if_neg (by omega), if_pos (by omega)]]; omega
  · rw [show r4 k 1 r = 1024 * k + 1024 by unfold r4 upd; rw [if_pos (by omega)]]; omega

theorem c4_bounds (k x : ℕ) (h : ℕ) (hh : h < 2) : (x < 1024 * k + 1024 → c4 k h x = 1024 * (k + 1)) ∧ (1024 * k + 1024 ≤ x → c4 k h x = 1024 * k) := by
  interval_cases h
  · refine ⟨fun hx => ?_, fun hx => ?_⟩
    · by_cases h1 : 1024 * k ≤ x
      · unfold c4 c3 upd; rw [if_neg (by omega), if_pos (by omega)]; omega
      · unfold c4 c3 c2 c1 upd colsAt; rw [if_neg (by omega), if_neg (by omega), if_neg (by omega), if_neg (by omega), if_pos (by omega)]; omega
    · unfold c4 c3 c2 c1 upd colsAt; rw [if_neg (by omega), if_neg (by omega), if_neg (by omega), if_neg (by omega), if_neg (by omega)]
  · refine ⟨fun hx => ?_, fun hx => ?_⟩
    · by_cases h1 : 1024 * k ≤ x
      · unfold c4 upd; rw [if_pos (by omega)]; omega
      · unfold c4 c3 c2 c1 upd colsAt; rw [if_neg (by omega), if_neg (by omega), if_neg (by omega), if_neg (by omega), if_pos (by omega)]; omega
    · unfold c4 c3 c2 c1 upd colsAt; rw [if_neg (by omega), if_neg (by omega), if_neg (by omega), if_neg (by omega), if_neg (by omega)]

theorem Cols.mono {arg11 : Memref sig .tc .vmem S2x1x4096 .f32} {arg14 : Memref sig .tc .vmem S1x128x4096 .f32} {arg15 : Memref sig .tc .vmem S128x4096 .f32}
    {M : Ins} {b b' : ℕ → ℕ → ℕ} {f11 : BufTy.Contents (Elt Ideal) arg11.view.ty} {f14 : BufTy.Contents (Elt Ideal) arg14.view.ty}
    {f15 : BufTy.Contents (Elt Ideal) arg15.view.ty} (h : Cols arg11 arg14 arg15 M b f11 f14 f15)
    (hb : ∀ h x, h < 2 → b h x ≤ b' h x ∧ ∀ q, b h x ≤ q → q < b' h x → q < x) : Cols arg11 arg14 arg15 M b' f11 f14 f15 := by
  refine ⟨fun x z y => (h.c x z y).trans ?_, fun z x y => (h.k z x y).trans ?_, fun x y => (h.v x y).trans ?_⟩
  · have e := hb x y x.isLt
    exact Ins.sum_more _ e.1 fun q h0 h1 => by rw [Ins.ds_gt M (e.2 q h0 h1), neg_zero]
  · have e := hb (x / 64) y (by omega)
    exact Ins.sum_more _ e.1 fun q h0 h1 => by rw [Ins.ds_gt M (e.2 q h0 h1), mul_zero]
  · have e := hb (x / 64) y (by omega)
    exact Ins.sum_more _ e.1 fun q h0 h1 => by rw [Ins.pr_gt M (e.2 q h0 h1), mul_zero]

theorem lane0 (j : Fin 4) (l : Fin 128) (x y : EReal) :
    Scalar.select (IntOp.cmpi CmpIPredicate.eq (BitVec.ofNat 32 ↑l) (Scalar.muli (2#32) (BitVec.ofNat 32 ↑j))) x y = if (l : ℕ) = 2 * j then x else y := by
  simp (disch := word_cmp_side) only [hlo_ix]
  rw [show ∀ j : Fin 4, (Scalar.muli (2#32) (BitVec.ofNat 32 ↑j)).toNat = 2 * j by decide]
theorem lane1 (j : Fin 4) (l : Fin 128) (x y : EReal) :
    Scalar.select (IntOp.cmpi CmpIPredicate.eq (BitVec.ofNat 32 ↑l) (Scalar.addi (Scalar.muli (2#32) (BitVec.ofNat 32 ↑j)) 1#32)) x y
      = if (l : ℕ) = 2 * j + 1 then x else y := by
  simp (disch := word_cmp_side) only [hlo_ix]
  rw [lane_a1]

section Pairs
variable {M : Ins} (hfin : ∀ h q k, ∃ r : ℝ, M.ds h q k = r)
variable (𝒱 : Variants) (c : Dev nD) (bd : Option 𝒱.V) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S2x1x4096 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .f32) (harg10 : arg10.IsWhole)
  (arg11 : Memref sig .tc .vmem S2x1x4096 .f32) (harg11 : arg11.IsWhole)
  (arg12 : Memref sig .tc .vmem S1x128x4096 .bf16) (harg12 : arg12.IsWhole)
  (arg13 : Memref sig .tc .vmem S128x4096 .bf16) (harg13 : arg13.IsWhole)
  (arg14 : Memref sig .tc .vmem S1x128x4096 .f32) (harg14 : arg14.IsWhole)
  (arg15 : Memref sig .tc .vmem S128x4096 .f32) (harg15 : arg15.IsWhole)
  (arg16 : Memref sig .tc .vmem S1x1024x128 .f32) (harg16 : arg16.IsWhole)
  (arg17 : Memref sig .tc .vmem S2x1024x1 .f32) (harg17 : arg17.IsWhole)

variable {X_arg1 : BufTy.Contents (Elt Ideal) arg1.view.ty} {X_arg2 : BufTy.Contents (Elt Ideal) arg2.view.ty}
  {X_arg3 : BufTy.Contents (Elt Ideal) arg3.view.ty} {X_arg4 : BufTy.Contents (Elt Ideal) arg4.view.ty}
  {X_arg5 : BufTy.Contents (Elt Ideal) arg5.view.ty} {X_arg6 : BufTy.Contents (Elt Ideal) arg6.view.ty}
  {X_arg12 : BufTy.Contents (Elt Ideal) arg12.view.ty} {X_arg13 : BufTy.Contents (Elt Ideal) arg13.view.ty}
  {j : Fin 4} {P : ℕ → ℕ → EReal} {k : Fin k0_t1_loop.trips}
  {f11 : BufTy.Contents (Elt Ideal) arg11.view.ty} {f14 : BufTy.Contents (Elt Ideal) arg14.view.ty} {f15 : BufTy.Contents (Elt Ideal) arg15.view.ty}
variable (hQ : Query arg1 arg4 arg5 X_arg1 X_arg4 X_arg5 P j M)
  (hR : Reads arg2 arg3 arg6 arg12 arg13 X_arg2 X_arg3 X_arg6 X_arg12 X_arg13 M)
  (hC : Cols arg11 arg14 arg15 M (fun _ _ => 1024 * k) f11 f14 f15)

/-- The scale of the queries. -/
def eighth : EReal := FloatOps.ofBits (F := Ideal) .f32 0x3E000000#32

include hfin hQ hR hC in
theorem out_dq (hk : (k : ℕ) < 4) (r : Fin 1024) (l : Fin 128) : trip.sl.v549 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15 (ix2 r l) = M.dqA (1024 * k + r) l * eighth := by
  have hI := rows4 hfin 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hQ hR hC
  have ld : ∀ (z : Fin 1) (r : Fin 1024) (l : Fin 128), trip.sl.v545 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15 (ix3 z r l) = M.dq (1024 * k) (r4 k) (0 + r) (0 + l) :=
    rc3 arg16.view _ (off := ![0, 0, 0]) rfl (G := fun _ => M.dq (1024 * k) (r4 k)) hI.q
  pointwise [trip.sl.v549, trip.sl.v548, trip.sl.v547, trip.sl.v546, trip.sl.cst_292, ld]
  rw [Ins.dq_all M _ _ _ _ (r4_bounds k r hk r.isLt 0 (by omega)) (r4_bounds k r hk r.isLt 1 (by omega))]
  rfl

include hfin hQ hR hC in
theorem out_dcq (hk : (k : ℕ) < 4) {f10 : BufTy.Contents (Elt Ideal) arg10.view.ty} {G : ℕ → ℕ → EReal}
    (hG : ∀ (x : Fin 4096) (y : Fin 128), arg10.view.read (Elt Ideal) f10 (ix2 x y) = G x y) (r : Fin 1024) (l : Fin 128) :
    trip.sl.v571 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f10 f11 f14 f15 (ix2 r l) = M.lanes j G (1024 * k + r) l := by
  have hI := rows4 hfin 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hQ hR hC
  have ld0 : ∀ (z : Fin 1) (r : Fin 1024) (l : Fin 1), trip.sl.v558 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15 (ix3 z r l) = M.dcq (1024 * k) (r4 k) (0 + z) (0 + r) :=
    rc3 arg17.view _ (off := ![0, 0, 0]) rfl (G := fun h r _ => M.dcq (1024 * k) (r4 k) h r) hI.c
  have ld1 : ∀ (z : Fin 1) (r : Fin 1024) (l : Fin 1), trip.sl.v564 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) X_arg1 X_arg2 X_arg3 X_arg4 X_arg5 X_arg6 X_arg12 X_arg13 k f11 f14 f15 (ix3 z r l) = M.dcq (1024 * k) (r4 k) (1 + z) (0 + r) :=
    rc3 arg17.view _ (off := ![1, 0, 0]) rfl (G := fun h r _ => M.dcq (1024 * k) (r4 k) h r) hI.c
  pointwise [trip.sl.v571, trip.sl.v570, trip.sl.v569, trip.sl.v568, trip.sl.v567, trip.sl.v566, trip.sl.v565, trip.sl.v563, trip.sl.v562, trip.sl.v561,
    trip.sl.v559, trip.sl.v557, trip.sl.v556, trip.sl.v555, trip.sl.v554, trip.sl.v117, ld0, ld1, rd2 (Val := Elt Ideal) arg10.view f10 (k0_off1_eq k) hG]
  rw [Ins.dcq_all M _ _ _ _ (r4_bounds k r hk r.isLt 0 (by omega)), Ins.dcq_all M _ _ _ _ (r4_bounds k r hk r.isLt 1 (by omega))]
  rw [lane0, lane1]
  rfl
end Pairs

section All

variable {M : Ins} (hfin : ∀ h q k, ∃ r : ℝ, M.ds h q k = r)
variable (𝒱 : Variants) (c : Dev nD) (bd : Option 𝒱.V) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S2x1x4096 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .f32) (harg10 : arg10.IsWhole)
  (arg11 : Memref sig .tc .vmem S2x1x4096 .f32) (harg11 : arg11.IsWhole)
  (arg12 : Memref sig .tc .vmem S1x128x4096 .bf16) (harg12 : arg12.IsWhole)
  (arg13 : Memref sig .tc .vmem S128x4096 .bf16) (harg13 : arg13.IsWhole)
  (arg14 : Memref sig .tc .vmem S1x128x4096 .f32) (harg14 : arg14.IsWhole)
  (arg15 : Memref sig .tc .vmem S128x4096 .f32) (harg15 : arg15.IsWhole)
  (arg16 : Memref sig .tc .vmem S1x1024x128 .f32) (harg16 : arg16.IsWhole)
  (arg17 : Memref sig .tc .vmem S2x1024x1 .f32) (harg17 : arg17.IsWhole)

variable {X_arg1 : BufTy.Contents (Elt Ideal) arg1.view.ty} {X_arg2 : BufTy.Contents (Elt Ideal) arg2.view.ty}
  {X_arg3 : BufTy.Contents (Elt Ideal) arg3.view.ty} {X_arg4 : BufTy.Contents (Elt Ideal) arg4.view.ty}
  {X_arg5 : BufTy.Contents (Elt Ideal) arg5.view.ty} {X_arg6 : BufTy.Contents (Elt Ideal) arg6.view.ty}
  {X_arg12 : BufTy.Contents (Elt Ideal) arg12.view.ty} {X_arg13 : BufTy.Contents (Elt Ideal) arg13.view.ty}
  {j : Fin 4} {P : ℕ → ℕ → EReal}
  {f11 : BufTy.Contents (Elt Ideal) arg11.view.ty} {f14 : BufTy.Contents (Elt Ideal) arg14.view.ty} {f15 : BufTy.Contents (Elt Ideal) arg15.view.ty}
variable (hQ : Query arg1 arg4 arg5 X_arg1 X_arg4 X_arg5 P j M)
  (hR : Reads arg2 arg3 arg6 arg12 arg13 X_arg2 X_arg3 X_arg6 X_arg12 X_arg13 M)
  (hC : Cols arg11 arg14 arg15 M (fun _ _ => 0) f11 f14 f15)

  {f7 : BufTy.Contents (Elt Ideal) arg7.view.ty} {f10 : BufTy.Contents (Elt Ideal) arg10.view.ty} {G7 G10 : ℕ → ℕ → EReal}
  (h7 : ∀ (x : Fin 4096) (y : Fin 128), arg7.view.read (Elt Ideal) f7 (ix2 x y) = G7 x y)
  (h10 : ∀ (x : Fin 4096) (y : Fin 128), arg10.view.read (Elt Ideal) f10 (ix2 x y) = G10 x y)

theorem t1_trips : k0_t1_loop.trips = 4 := by decide +kernel

include hfin hQ hR hC h7 h10 in
/-- After `n` tiles of queries. -/
theorem outer_at (n : ℕ) (hn : n ≤ k0_t1_loop.trips) :
    Cols arg11 arg14 arg15 M (fun _ _ => 1024 * n) (arg11.view.writes (Elt Ideal) f11 (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) 0#32 X_arg1 X_arg2 X_arg3 X_arg4 X_arg5 X_arg6 X_arg12 X_arg13 f7 f10 f11 f14 f15 n).2.2.1) (arg14.view.writes (Elt Ideal) f14 (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) 0#32 X_arg1 X_arg2 X_arg3 X_arg4 X_arg5 X_arg6 X_arg12 X_arg13 f7 f10 f11 f14 f15 n).2.2.2.1)
        (arg15.view.writes (Elt Ideal) f15 (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) 0#32 X_arg1 X_arg2 X_arg3 X_arg4 X_arg5 X_arg6 X_arg12 X_arg13 f7 f10 f11 f14 f15 n).2.2.2.2)
      ∧ (∀ (x : Fin 4096) (y : Fin 128), arg7.view.read (Elt Ideal) (arg7.view.writes (Elt Ideal) f7 (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) 0#32 X_arg1 X_arg2 X_arg3 X_arg4 X_arg5 X_arg6 X_arg12 X_arg13 f7 f10 f11 f14 f15 n).1) (ix2 x y)
          = if (x : ℕ) < 1024 * n then M.dqA x y * eighth else G7 x y)
      ∧ ∀ (x : Fin 4096) (y : Fin 128), arg10.view.read (Elt Ideal) (arg10.view.writes (Elt Ideal) f10 (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) 0#32 X_arg1 X_arg2 X_arg3 X_arg4 X_arg5 X_arg6 X_arg12 X_arg13 f7 f10 f11 f14 f15 n).2.1) (ix2 x y)
          = if (x : ℕ) < 1024 * n then M.lanes j G10 x y else G10 x y := by
  induction n with
  | zero =>
    refine ⟨hC, fun x y => ?_, fun x y => ?_⟩
    · rw [if_neg (by omega), ← h7]; rfl
    · rw [if_neg (by omega), ← h10]; rfl
  | succ n ih =>
    obtain ⟨h1, h2, h3⟩ := ih (by omega)
    have h4 : n < 4 := t1_trips ▸ hn
    have hs := pb_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 ↑j) 0#32 X_arg1 X_arg2 X_arg3 X_arg4 X_arg5 X_arg6 X_arg12 X_arg13 f7 f10 f11 f14 f15 ⟨n, hn⟩
    rw [show n + 1 = (⟨n, hn⟩ : Fin k0_t1_loop.trips).val + 1 from rfl, hs]
    have e1 := cols4 hfin 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k := ⟨n, hn⟩) hQ hR h1
    have e2 := out_dq hfin 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k := ⟨n, hn⟩) hQ hR h1 h4
    have e3 := out_dcq hfin 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k := ⟨n, hn⟩) hQ hR h1 h4 (G := fun x y => if x < 1024 * n then M.lanes j G10 x y else G10 x y) h3
    unfold trip
    dsimp only
    rw [View.writes_append, View.writes_append, View.writes_append, View.writes_append, View.writes_append]
    refine ⟨e1.mono fun h x hh => ?_, ?_, ?_⟩
    · have e := c4_bounds n x h hh
      by_cases hx : x < 1024 * n + 1024
      · rw [e.1 hx]; exact ⟨le_rfl, fun q a b => absurd b (by omega)⟩
      · rw [e.2 (by omega)]; exact ⟨by omega, fun q a b => by omega⟩
    · refine acc2 (Val := Elt Ideal) arg7.view _ (k0_off1_eq ⟨n, hn⟩) (G := fun x y => if x < 1024 * n then M.dqA x y * eighth else G7 x y)
        (H := fun x y => if x < 1024 * (n + 1) then M.dqA x y * eighth else G7 x y) h2 (fun r l => ?_) (fun x y hn => ?_)
      · dsimp only; rw [e2, if_pos (by omega), Nat.zero_add]
      · dsimp only at hn ⊢
        by_cases hx : (x : ℕ) < 1024 * n
        · rw [if_pos (by omega), if_pos hx]
        · rw [if_neg (by omega), if_neg hx]
    · refine acc2 (Val := Elt Ideal) arg10.view _ (k0_off1_eq ⟨n, hn⟩) (G := fun x y => if x < 1024 * n then M.lanes j G10 x y else G10 x y)
        (H := fun x y => if x < 1024 * (n + 1) then M.lanes j G10 x y else G10 x y) h3 (fun r l => ?_) (fun x y hn => ?_)
      · dsimp only; rw [e3, if_pos (by omega), Nat.zero_add]
        unfold Ins.lanes; dsimp only; rw [if_neg (show ¬ 1024 * n + (r : ℕ) < 1024 * n by omega)]
      · dsimp only at hn ⊢
        by_cases hx : (x : ℕ) < 1024 * n
        · rw [if_pos (by omega), if_pos hx]
        · rw [if_neg (by omega), if_neg hx]
end All
end Cert.Proof.Fox
end

end
-- ==== Proof.Fox.Point.lean ====
module

public import proofs.«01_k».proof.Proof.Fox.Pairs
public import proofs.«01_k».proof.Proof.Fox.Body

/-! What the body leaves in each result's buffer at one point. -/

@[expose] public section
set_option maxRecDepth 16384
noncomputable section
namespace Cert.Proof.Fox
open Idealize.ShloMosaic Idealize.ShloMosaic.TcCoe Idealize.SL.Sem
open Cert.FoxIdeal Cert.FoxIdeal.Gen Cert.FoxIdeal.Hand

section Cuts
variable {sig : RefSig} {κ : Kind} {sp : Space} {e : EltTy} {Val : EltTy → Type}

/-- Four tiles of rows written one after another: the buffer holds the rows so far. -/
theorem rows_more {A B : ℕ} (v : View sig κ sp ⟨2, ![A, B]⟩ e) (f : v.ty.Contents Val) (n : ℕ) {a : ℕ}
    {inb : ∀ x, (![n, 0] : Fin 2 → ℕ) x + (![a, B] : Fin 2 → ℕ) x ≤ (![A, B] : Fin 2 → ℕ) x}
    {w : (Rect.unit (s := ⟨2, ![A, B]⟩) ![n, 0] ![a, B] inb).shape.Idx → Val e} {L : List (View.Piece Val ⟨2, ![A, B]⟩ e)} {H : ℕ → ℕ → Val e}
    (hin : ∀ (r : Fin a) (c : Fin B), w (ix2 r c) = H (n + r) c)
    (hG : ∀ (x : Fin A) (y : Fin B), (x : ℕ) < n → v.read Val (v.writes Val f L) (ix2 x y) = H x y) (x : Fin A) (y : Fin B) (hx : (x : ℕ) < n + a) :
    v.read Val (v.writes Val f ((⟨Rect.unit (s := ⟨2, ![A, B]⟩) ![n, 0] ![a, B] inb, w⟩ : View.Piece Val ⟨2, ![A, B]⟩ e) :: L)) (ix2 x y) = H x y := by
  have hA : 0 < A := by have := x.isLt; omega
  have hB : 0 < B := by have := y.isLt; omega
  have g := acc2 (Val := Val) v f (off := ![n, 0]) (inb := inb) (o0 := n) (o1 := 0) rfl (w := w) (L := L)
    (G := fun x y => v.read Val (v.writes Val f L) (ix2 (⟨x % A, Nat.mod_lt _ hA⟩ : Fin A) (⟨y % B, Nat.mod_lt _ hB⟩ : Fin B)))
    (H := fun x y => if n ≤ x ∧ x < n + a ∧ y < B then H x y else v.read Val (v.writes Val f L) (ix2 (⟨x % A, Nat.mod_lt _ hA⟩ : Fin A) (⟨y % B, Nat.mod_lt _ hB⟩ : Fin B)))
    (fun x y => congrArg _ (by ext a; fin_cases a <;> exact (Nat.mod_eq_of_lt (Fin.isLt _)).symm))
    (fun r c => by rw [hin, if_pos ⟨by omega, by omega, by omega⟩, Nat.zero_add])
    (fun x y h => by rw [if_neg (by omega)]) x y
  rw [g]
  by_cases h : n ≤ (x : ℕ)
  · rw [if_pos ⟨h, hx, y.isLt⟩]
  · rw [if_neg (by omega), ← hG x y (by omega)]
    exact congrArg _ (by ext a; fin_cases a <;> exact Nat.mod_eq_of_lt (Fin.isLt _))

/-- The same of columns, -/
theorem cols_more {A B : ℕ} (v : View sig κ sp ⟨2, ![A, B]⟩ e) (f : v.ty.Contents Val) (n : ℕ) {b : ℕ}
    {inb : ∀ x, (![0, n] : Fin 2 → ℕ) x + (![A, b] : Fin 2 → ℕ) x ≤ (![A, B] : Fin 2 → ℕ) x}
    {w : (Rect.unit (s := ⟨2, ![A, B]⟩) ![0, n] ![A, b] inb).shape.Idx → Val e} {L : List (View.Piece Val ⟨2, ![A, B]⟩ e)} {H : ℕ → ℕ → Val e}
    (hin : ∀ (r : Fin A) (c : Fin b), w (ix2 r c) = H r (n + c))
    (hG : ∀ (x : Fin A) (y : Fin B), (y : ℕ) < n → v.read Val (v.writes Val f L) (ix2 x y) = H x y) (x : Fin A) (y : Fin B) (hx : (y : ℕ) < n + b) :
    v.read Val (v.writes Val f ((⟨Rect.unit (s := ⟨2, ![A, B]⟩) ![0, n] ![A, b] inb, w⟩ : View.Piece Val ⟨2, ![A, B]⟩ e) :: L)) (ix2 x y) = H x y := by
  have hA : 0 < A := by have := x.isLt; omega
  have hB : 0 < B := by have := y.isLt; omega
  have g := acc2 (Val := Val) v f (off := ![0, n]) (inb := inb) (o0 := 0) (o1 := n) rfl (w := w) (L := L)
    (G := fun x y => v.read Val (v.writes Val f L) (ix2 (⟨x % A, Nat.mod_lt _ hA⟩ : Fin A) (⟨y % B, Nat.mod_lt _ hB⟩ : Fin B)))
    (H := fun x y => if n ≤ y ∧ y < n + b ∧ x < A then H x y else v.read Val (v.writes Val f L) (ix2 (⟨x % A, Nat.mod_lt _ hA⟩ : Fin A) (⟨y % B, Nat.mod_lt _ hB⟩ : Fin B)))
    (fun x y => congrArg _ (by ext a; fin_cases a <;> exact (Nat.mod_eq_of_lt (Fin.isLt _)).symm))
    (fun r c => by rw [hin, if_pos ⟨by omega, by omega, by omega⟩, Nat.zero_add])
    (fun x y h => by rw [if_neg (by omega)]) x y
  rw [g]
  by_cases h : n ≤ (y : ℕ)
  · rw [if_pos ⟨h, hx, x.isLt⟩]
  · rw [if_neg (by omega), ← hG x y (by omega)]
    exact congrArg _ (by ext a; fin_cases a <;> exact Nat.mod_eq_of_lt (Fin.isLt _))

/-- and of columns of a buffer of one sheet. -/
theorem cols_more3 {A B : ℕ} (v : View sig κ sp ⟨3, ![1, A, B]⟩ e) (f : v.ty.Contents Val) (n : ℕ) {b : ℕ}
    {inb : ∀ x, (![0, 0, n] : Fin 3 → ℕ) x + (![1, A, b] : Fin 3 → ℕ) x ≤ (![1, A, B] : Fin 3 → ℕ) x}
    {w : (Rect.unit (s := ⟨3, ![1, A, B]⟩) ![0, 0, n] ![1, A, b] inb).shape.Idx → Val e} {L : List (View.Piece Val ⟨3, ![1, A, B]⟩ e)} {H : ℕ → ℕ → Val e}
    (hin : ∀ (z : Fin 1) (r : Fin A) (c : Fin b), w (ix3 z r c) = H r (n + c))
    (hG : ∀ (z : Fin 1) (x : Fin A) (y : Fin B), (y : ℕ) < n → v.read Val (v.writes Val f L) (ix3 z x y) = H x y) (z : Fin 1) (x : Fin A) (y : Fin B) (hx : (y : ℕ) < n + b) :
    v.read Val (v.writes Val f ((⟨Rect.unit (s := ⟨3, ![1, A, B]⟩) ![0, 0, n] ![1, A, b] inb, w⟩ : View.Piece Val ⟨3, ![1, A, B]⟩ e) :: L)) (ix3 z x y) = H x y := by
  have hA : 0 < A := by have := x.isLt; omega
  have hB : 0 < B := by have := y.isLt; omega
  have hz : ∀ z : Fin 1, z = 0 := by decide
  have g := acc3 (Val := Val) v f (off := ![0, 0, n]) (inb := inb) (o0 := 0) (o1 := 0) (o2 := n) rfl (w := w) (L := L)
    (G := fun _ x y => v.read Val (v.writes Val f L) (ix3 (0 : Fin 1) (⟨x % A, Nat.mod_lt _ hA⟩ : Fin A) (⟨y % B, Nat.mod_lt _ hB⟩ : Fin B)))
    (H := fun _ x y => if n ≤ y ∧ y < n + b ∧ x < A then H x y else v.read Val (v.writes Val f L) (ix3 (0 : Fin 1) (⟨x % A, Nat.mod_lt _ hA⟩ : Fin A) (⟨y % B, Nat.mod_lt _ hB⟩ : Fin B)))
    (fun z x y => congrArg _ (by rw [hz z]; ext a; fin_cases a <;> first | rfl | exact (Nat.mod_eq_of_lt (Fin.isLt _)).symm))
    (fun z r c => by rw [hin, if_pos ⟨by omega, by omega, by omega⟩, Nat.zero_add])
    (fun z x y h => by rw [if_neg (by omega)]) z x y
  rw [g]
  by_cases h : n ≤ (y : ℕ)
  · rw [if_pos ⟨h, hx, x.isLt⟩]
  · rw [if_neg (by omega), ← hG z x y (by omega)]
    exact congrArg _ (by rw [hz z]; ext a; fin_cases a <;> first | rfl | exact Nat.mod_eq_of_lt (Fin.isLt _))
end Cuts

/-- The logarithm of two, by which the keys' gradient is scaled. -/
def ln2 : EReal := ((Real.log 2 : ℝ) : EReal)
theorem ln2_named : (Named.named (F := Ideal) (φ := .f32) κ "ln2" 0x3F317218#32 : EReal) = ln2 := IdealRules.named_const.ideal_named_scalar _ _ _ _ rfl

section Parts
variable {arg1 arg4 : Memref sig .tc .vmem S4096x128 .bf16} {arg8 arg9 : Memref sig .tc .vmem S4096x128 .bf16} {arg11 : Memref sig .tc .vmem S2x1x4096 .f32}
  {arg12 : Memref sig .tc .vmem S1x128x4096 .bf16} {arg13 : Memref sig .tc .vmem S128x4096 .bf16}
  {arg14 : Memref sig .tc .vmem S1x128x4096 .f32} {arg15 : Memref sig .tc .vmem S128x4096 .f32}

theorem turned_q {X : BufTy.Contents (Elt Ideal) arg1.view.ty} {G : ℕ → ℕ → EReal} (h : ∀ (x : Fin 4096) (y : Fin 128), arg1.view.read (Elt Ideal) X (ix2 x y) = G x y)
    (z : Fin 1) (x : Fin 128) (y : Fin 4096) : arg12.view.read (Elt Ideal) (arg12.view.writes (Elt Ideal) arg12.view.junk (bodyB.sl.HW_arg12_4 arg1 X)) (ix3 z x y) = G y x := by
  unfold bodyB.sl.HW_arg12_4
  refine cols_more3 (Val := Elt Ideal) arg12.view _ 3072 (b := 1024) (H := fun x y => G y x) (fun z r l => ?_) (cols_more3 (Val := Elt Ideal) arg12.view _ 2048 (b := 1024) (H := fun x y => G y x) (fun z r l => ?_) (cols_more3 (Val := Elt Ideal) arg12.view _ 1024 (b := 1024) (H := fun x y => G y x) (fun z r l => ?_)
    (cols_more3 (Val := Elt Ideal) arg12.view _ 0 (b := 1024) (H := fun x y => G y x) (fun z r l => ?_) (fun z x y hx => absurd hx (by omega))))) z x y (by omega)
  · pointwise [k0_pay129, rd2 (Val := Elt Ideal) arg1.view X (off := ![3072, 0]) rfl h]
  · pointwise [k0_pay127, rd2 (Val := Elt Ideal) arg1.view X (off := ![2048, 0]) rfl h]
  · pointwise [k0_pay125, rd2 (Val := Elt Ideal) arg1.view X (off := ![1024, 0]) rfl h]
  · pointwise [k0_pay123, rd2 (Val := Elt Ideal) arg1.view X (off := ![0, 0]) rfl h]

theorem turned_o {X : BufTy.Contents (Elt Ideal) arg4.view.ty} {G : ℕ → ℕ → EReal} (h : ∀ (x : Fin 4096) (y : Fin 128), arg4.view.read (Elt Ideal) X (ix2 x y) = G x y)
    (x : Fin 128) (y : Fin 4096) : arg13.view.read (Elt Ideal) (arg13.view.writes (Elt Ideal) arg13.view.junk (bodyB.sl.HW_arg13_4 arg4 X)) (ix2 x y) = G y x := by
  unfold bodyB.sl.HW_arg13_4
  refine cols_more (Val := Elt Ideal) arg13.view _ 3072 (b := 1024) (H := fun x y => G y x) (fun r l => ?_) (cols_more (Val := Elt Ideal) arg13.view _ 2048 (b := 1024) (H := fun x y => G y x) (fun r l => ?_) (cols_more (Val := Elt Ideal) arg13.view _ 1024 (b := 1024) (H := fun x y => G y x) (fun r l => ?_)
    (cols_more (Val := Elt Ideal) arg13.view _ 0 (b := 1024) (H := fun x y => G y x) (fun r l => ?_) (fun x y hx => absurd hx (by omega))))) x y (by omega)
  · pointwise [k0_pay128, rd2 (Val := Elt Ideal) arg4.view X (off := ![3072, 0]) rfl h]
  · pointwise [k0_pay126, rd2 (Val := Elt Ideal) arg4.view X (off := ![2048, 0]) rfl h]
  · pointwise [k0_pay124, rd2 (Val := Elt Ideal) arg4.view X (off := ![1024, 0]) rfl h]
  · pointwise [k0_pay122, rd2 (Val := Elt Ideal) arg4.view X (off := ![0, 0]) rfl h]

theorem zero_cols (M : Ins) : Cols arg11 arg14 arg15 M (fun _ _ => 0) (arg11.view.writes (Elt Ideal) arg11.view.junk bodyB.sl.HW_arg11_1)
    (arg14.view.writes (Elt Ideal) arg14.view.junk bodyB.sl.HW_arg14_1) (arg15.view.writes (Elt Ideal) arg15.view.junk bodyB.sl.HW_arg15_1) := by
  refine ⟨fun x z y => ?_, fun z x y => ?_, fun x y => ?_⟩
  · unfold bodyB.sl.HW_arg11_1
    refine acc3 arg11.view _ (off := ![0, 0, 0]) (L := []) (o0 := 0) (o1 := 0) (o2 := 0) (G := fun x y z => arg11.view.read (Elt Ideal) arg11.view.junk (ix3 (Fin.ofNat 2 x) (Fin.ofNat 1 y) (Fin.ofNat 4096 z)))
      (H := fun h _ x => M.dck (fun _ _ => 0) h x) rfl (fun x y z => ?_) (fun x y z => ?_) (fun x y z hn => absurd hn (by omega)) x z y
    · exact congrArg _ (by ext a; fin_cases a <;> exact (Nat.mod_eq_of_lt (Fin.isLt _)).symm)
    · pointwise [k0_pay132]
      simp [Ins.dck]
  · unfold bodyB.sl.HW_arg14_1
    refine cols_more3 (Val := Elt Ideal) arg14.view _ 0 (H := fun x y => M.dkt (fun _ _ => 0) x y) (fun z r l => ?_) (fun z x y hx => absurd hx (by omega)) z x y (by omega)
    pointwise [k0_pay130]
    simp [Ins.dkt]
  · unfold bodyB.sl.HW_arg15_1
    refine cols_more (Val := Elt Ideal) arg15.view _ 0 (H := fun x y => M.dvt (fun _ _ => 0) x y) (fun r l => ?_) (fun x y hx => absurd hx (by omega)) x y (by omega)
    pointwise [k0_pay131]
    simp [Ins.dvt]

theorem out_k (f : BufTy.Contents (Elt Ideal) arg8.view.ty) {L : List (View.Piece (Elt Ideal) S1x128x4096 .f32)} {G : ℕ → ℕ → EReal}
    (h : ∀ (z : Fin 1) (x : Fin 128) (y : Fin 4096), arg14.view.read (Elt Ideal) (arg14.view.writes (Elt Ideal) arg14.view.junk L) (ix3 z x y) = G x y) (x : Fin 4096) (y : Fin 128) :
    arg8.view.read (Elt Ideal) (arg8.view.writes (Elt Ideal) f [⟨Rect.unit (s := S4096x128) ![3072, 0] S1024x128.size inb_S4096x128_S1024x128_3072_0, k0_pay3 (F := Ideal) (arg14.view.readCov L (Rect.unit (s := S1x128x4096) ![0, 0, 3072] S1x128x1024.size inb_S1x128x4096_S1x128x1024_0_0_3072).toLoadRect)⟩, ⟨Rect.unit (s := S4096x128) ![2048, 0] S1024x128.size inb_S4096x128_S1024x128_2048_0, k0_pay1 (F := Ideal) (arg14.view.readCov L (Rect.unit (s := S1x128x4096) ![0, 0, 2048] S1x128x1024.size inb_S1x128x4096_S1x128x1024_0_0_2048).toLoadRect)⟩, ⟨Rect.unit (s := S4096x128) ![1024, 0] S1024x128.size inb_S4096x128_S1024x128_1024_0, k0_pay137 (F := Ideal) (arg14.view.readCov L (Rect.unit (s := S1x128x4096) ![0, 0, 1024] S1x128x1024.size inb_S1x128x4096_S1x128x1024_0_0_1024).toLoadRect)⟩, ⟨Rect.unit (s := S4096x128) ![0, 0] S1024x128.size inb_S4096x128_S1024x128_0_0, k0_pay135 (F := Ideal) (arg14.view.readCov L (Rect.unit (s := S1x128x4096) ![0, 0, 0] S1x128x1024.size inb_S1x128x4096_S1x128x1024_0_0_0).toLoadRect)⟩]) (ix2 x y) = G y x * ln2 := by
  have ld : ∀ n inb (z : Fin 1) (r : Fin 128) (l : Fin 1024), arg14.view.readCov L (Rect.unit (s := S1x128x4096) ![0, 0, n] ![1, 128, 1024] inb).toLoadRect (ix3 z r l) = G (0 + r) (n + l) :=
    fun n inb => rc3 arg14.view L (off := ![0, 0, n]) rfl (G := fun _ => G) h
  refine rows_more (Val := Elt Ideal) arg8.view _ 3072 (a := 1024) (H := fun x y => G y x * ln2) (fun r l => ?_) (rows_more (Val := Elt Ideal) arg8.view _ 2048 (a := 1024) (H := fun x y => G y x * ln2) (fun r l => ?_) (rows_more (Val := Elt Ideal) arg8.view _ 1024 (a := 1024) (H := fun x y => G y x * ln2) (fun r l => ?_)
    (rows_more (Val := Elt Ideal) arg8.view _ 0 (a := 1024) (H := fun x y => G y x * ln2) (fun r l => ?_) (fun x y hx => absurd hx (by omega))))) x y (by omega)
  · pointwise [k0_pay3, ld 3072, ln2_named]
  · pointwise [k0_pay1, ld 2048, ln2_named]
  · pointwise [k0_pay137, ld 1024, ln2_named]
  · pointwise [k0_pay135, ld 0, ln2_named]

theorem rc2 {sig : RefSig} {κ : Kind} {sp : Space} {e : EltTy} {A B a b : ℕ} (v : View sig κ sp ⟨2, ![A, B]⟩ e)
    (L : List (View.Piece (Elt Ideal) ⟨2, ![A, B]⟩ e)) {off : Fin 2 → ℕ}
    {inb : ∀ x, off x + (![a, b] : Fin 2 → ℕ) x ≤ (![A, B] : Fin 2 → ℕ) x} {o0 o1 : ℕ} (h : off = ![o0, o1])
    {G : ℕ → ℕ → Elt Ideal e} (hG : ∀ (x : Fin A) (y : Fin B), v.read (Elt Ideal) (v.writes (Elt Ideal) v.junk L) (ix2 x y) = G x y) (r : Fin a) (s : Fin b) :
    v.readCov L (Rect.unit (s := ⟨2, ![A, B]⟩) off ![a, b] inb).toLoadRect (ix2 r s) = G (o0 + r) (o1 + s) :=
  rd2 v (v.writes (Elt Ideal) v.junk L) h hG r s

theorem out_v (f : BufTy.Contents (Elt Ideal) arg9.view.ty) {L : List (View.Piece (Elt Ideal) S128x4096 .f32)} {G : ℕ → ℕ → EReal}
    (h : ∀ (x : Fin 128) (y : Fin 4096), arg15.view.read (Elt Ideal) (arg15.view.writes (Elt Ideal) arg15.view.junk L) (ix2 x y) = G x y) (x : Fin 4096) (y : Fin 128) :
    arg9.view.read (Elt Ideal) (arg9.view.writes (Elt Ideal) f [⟨Rect.unit (s := S4096x128) ![3072, 0] S1024x128.size inb_S4096x128_S1024x128_3072_0, k0_pay2 (F := Ideal) (arg15.view.readCov L (Rect.unit (s := S128x4096) ![0, 3072] S128x1024.size inb_S128x4096_S128x1024_0_3072).toLoadRect)⟩, ⟨Rect.unit (s := S4096x128) ![2048, 0] S1024x128.size inb_S4096x128_S1024x128_2048_0, k0_pay138 (F := Ideal) (arg15.view.readCov L (Rect.unit (s := S128x4096) ![0, 2048] S128x1024.size inb_S128x4096_S128x1024_0_2048).toLoadRect)⟩, ⟨Rect.unit (s := S4096x128) ![1024, 0] S1024x128.size inb_S4096x128_S1024x128_1024_0, k0_pay136 (F := Ideal) (arg15.view.readCov L (Rect.unit (s := S128x4096) ![0, 1024] S128x1024.size inb_S128x4096_S128x1024_0_1024).toLoadRect)⟩, ⟨Rect.unit (s := S4096x128) ![0, 0] S1024x128.size inb_S4096x128_S1024x128_0_0, k0_pay134 (F := Ideal) (arg15.view.readCov L (Rect.unit (s := S128x4096) ![0, 0] S128x1024.size inb_S128x4096_S128x1024_0_0).toLoadRect)⟩]) (ix2 x y) = G y x := by
  have ld : ∀ n inb (r : Fin 128) (l : Fin 1024), arg15.view.readCov L (Rect.unit (s := S128x4096) ![0, n] ![128, 1024] inb).toLoadRect (ix2 r l) = G (0 + r) (n + l) :=
    fun n inb => rc2 arg15.view L (off := ![0, n]) rfl h
  refine rows_more (Val := Elt Ideal) arg9.view _ 3072 (a := 1024) (H := fun x y => G y x) (fun r l => ?_) (rows_more (Val := Elt Ideal) arg9.view _ 2048 (a := 1024) (H := fun x y => G y x) (fun r l => ?_) (rows_more (Val := Elt Ideal) arg9.view _ 1024 (a := 1024) (H := fun x y => G y x) (fun r l => ?_)
    (rows_more (Val := Elt Ideal) arg9.view _ 0 (a := 1024) (H := fun x y => G y x) (fun r l => ?_) (fun x y hx => absurd hx (by omega))))) x y (by omega)
  · pointwise [k0_pay2, ld 3072]
  · pointwise [k0_pay138, ld 2048]
  · pointwise [k0_pay136, ld 1024]
  · pointwise [k0_pay134, ld 0]
end Parts
end Cert.Proof.Fox
end

end
-- ==== Proof.Fox.Left.lean ====
module

public import proofs.«01_k».proof.Proof.Fox.Point

/-! The body's results at one point, in one statement. -/

@[expose] public section
set_option maxRecDepth 16384
noncomputable section
namespace Cert.Proof.Fox
open Idealize.ShloMosaic Idealize.ShloMosaic.TcCoe Idealize.SL.Sem
open Cert.FoxIdeal Cert.FoxIdeal.Gen Cert.FoxIdeal.Hand

/-- What the body leaves of a pair `j` of heads: the queries' gradient, the keys' and the values', the queries' offsets' among the
packed lanes, the keys' offsets'. -/
structure Left (M : Ins) (j : Fin 4) (G : ℕ → ℕ → EReal) (d7 d8 d9 d10 : S4096x128.Idx → EReal) (d11 : S2x1x4096.Idx → EReal) : Prop where
  q : ∀ (x : Fin 4096) (y : Fin 128), d7 (ix2 x y) = M.dqA x y * eighth
  k : ∀ (x : Fin 4096) (y : Fin 128), d8 (ix2 x y) = M.dkt (fun _ _ => 4096) y x * ln2
  v : ∀ (x : Fin 4096) (y : Fin 128), d9 (ix2 x y) = M.dvt (fun _ _ => 4096) y x
  cq : ∀ (x : Fin 4096) (y : Fin 128), d10 (ix2 x y) = M.lanes j G x y
  ck : ∀ (h : Fin 2) (z : Fin 1) (x : Fin 4096), d11 (ix3 h z x) = M.dck (fun _ _ => 4096) h x

theorem zero_lanes {arg10 : Memref sig .tc .vmem S4096x128 .f32} (x : Fin 4096) (y : Fin 128) :
    arg10.view.read (Elt Ideal) (arg10.view.writes (Elt Ideal) arg10.view.junk bodyA.sl.HW_arg10_1) (ix2 x y) = 0 := by
  unfold bodyA.sl.HW_arg10_1
  refine rows_more (Val := Elt Ideal) arg10.view _ 0 (a := 4096) (H := fun _ _ => (0 : EReal)) (fun r l => ?_) (fun x y hx => absurd hx (by omega)) x y (by omega)
  pointwise [k0_pay133]

section Left
variable {M : Ins} (hfin : ∀ h q k, ∃ r : ℝ, M.ds h q k = r)
variable (𝒱 : Variants) (c : Dev nD) (bd : Option 𝒱.V) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S2x1x4096 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .f32) (harg10 : arg10.IsWhole)
  (arg11 : Memref sig .tc .vmem S2x1x4096 .f32) (harg11 : arg11.IsWhole)
  (arg12 : Memref sig .tc .vmem S1x128x4096 .bf16) (harg12 : arg12.IsWhole)
  (arg13 : Memref sig .tc .vmem S128x4096 .bf16) (harg13 : arg13.IsWhole)
  (arg14 : Memref sig .tc .vmem S1x128x4096 .f32) (harg14 : arg14.IsWhole)
  (arg15 : Memref sig .tc .vmem S128x4096 .f32) (harg15 : arg15.IsWhole)
  (arg16 : Memref sig .tc .vmem S1x1024x128 .f32) (harg16 : arg16.IsWhole)
  (arg17 : Memref sig .tc .vmem S2x1024x1 .f32) (harg17 : arg17.IsWhole)

variable {X_arg1 : BufTy.Contents (Elt Ideal) arg1.view.ty} {X_arg2 : BufTy.Contents (Elt Ideal) arg2.view.ty} {X_arg3 : BufTy.Contents (Elt Ideal) arg3.view.ty} {X_arg4 : BufTy.Contents (Elt Ideal) arg4.view.ty} {X_arg5 : BufTy.Contents (Elt Ideal) arg5.view.ty} {X_arg6 : BufTy.Contents (Elt Ideal) arg6.view.ty} {j : Fin 4} {P G10 : ℕ → ℕ → EReal} (hj : j = i 0)
  (hQ : Query arg1 arg4 arg5 X_arg1 X_arg4 X_arg5 P j M)
  (hk : ∀ (x : Fin 4096) (y : Fin 128), arg2.view.read (Elt Ideal) X_arg2 (ix2 x y) = M.K x y)
  (hv : ∀ (x : Fin 4096) (y : Fin 128), arg3.view.read (Elt Ideal) X_arg3 (ix2 x y) = M.V x y)
  (hc6 : ∀ (x : Fin 2) (y : Fin 1) (z : Fin 4096), arg6.view.read (Elt Ideal) X_arg6 (ix3 x y z) = M.C x z)

include hj hfin hQ hk hv hc6 in
theorem left_B (hc : ¬ Starts i) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (h10 : ∀ (x : Fin 4096) (y : Fin 128), arg10.view.read (Elt Ideal) f10 (ix2 x y) = G10 x y) :
    Left M j G10 (arg7.view.read (Elt Ideal) ((bodyB (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X_arg1 X_arg2 X_arg3 X_arg4 X_arg5 X_arg6).1 f7 f8 f9 f10 f11)) (arg8.view.read (Elt Ideal) ((bodyB (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X_arg1 X_arg2 X_arg3 X_arg4 X_arg5 X_arg6).2.1 f7 f8 f9 f10 f11)) (arg9.view.read (Elt Ideal) ((bodyB (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X_arg1 X_arg2 X_arg3 X_arg4 X_arg5 X_arg6).2.2.1 f7 f8 f9 f10 f11)) (arg10.view.read (Elt Ideal) ((bodyB (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X_arg1 X_arg2 X_arg3 X_arg4 X_arg5 X_arg6).2.2.2.1 f7 f8 f9 f10 f11)) (arg11.view.read (Elt Ideal) ((bodyB (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X_arg1 X_arg2 X_arg3 X_arg4 X_arg5 X_arg6).2.2.2.2.1 f7 f8 f9 f10 f11)) := by
  have hR : Reads arg2 arg3 arg6 arg12 arg13 X_arg2 X_arg3 X_arg6 (arg12.view.writes (Elt Ideal) arg12.view.junk (bodyB.sl.HW_arg12_4 arg1 X_arg1))
      (arg13.view.writes (Elt Ideal) arg13.view.junk (bodyB.sl.HW_arg13_4 arg4 X_arg4)) M :=
    ⟨hk, hv, hc6, turned_q hQ.q, turned_o hQ.o⟩
  obtain ⟨h1, h2, h3⟩ := outer_at hfin 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hQ hR (zero_cols M) (f7 := f7) (f10 := f10) (G7 := fun x y => arg7.view.read (Elt Ideal) f7 (ix2 (Fin.ofNat 4096 x) (Fin.ofNat 128 y))) (G10 := G10)
    (fun x y => congrArg _ (by ext a; fin_cases a <;> exact (Nat.mod_eq_of_lt (Fin.isLt _)).symm)) h10 k0_t1_loop.trips le_rfl
  rw [← View.writes_append, ← View.writes_append, ← View.writes_append] at h1
  skip
  have e4 : 1024 * k0_t1_loop.trips = 4096 := by rw [t1_trips]
  rw [show (fun _ _ : ℕ => 1024 * k0_t1_loop.trips) = fun _ _ => 4096 from by funext _ _; exact e4] at h1
  subst hj
  unfold bodyB
  dsimp only
  refine ⟨fun x y => (h2 x y).trans ?_, out_k f8 fun z x y => ?_, out_v f9 fun x y => ?_, fun x y => (h3 x y).trans ?_, fun h z x => ?_⟩
  · rw [if_pos (by omega)]
  · exact h1.k z x y
  · exact h1.v x y
  · rw [if_pos (by omega)]
  · exact h1.c h z x

include hj hfin hQ hk hv hc6 in
theorem left_A (hc : Starts i) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty)  :
    Left M j (fun _ _ => 0) (arg7.view.read (Elt Ideal) ((bodyA (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X_arg1 X_arg2 X_arg3 X_arg4 X_arg5 X_arg6).1 f7 f8 f9 f10 f11)) (arg8.view.read (Elt Ideal) ((bodyA (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X_arg1 X_arg2 X_arg3 X_arg4 X_arg5 X_arg6).2.1 f7 f8 f9 f10 f11)) (arg9.view.read (Elt Ideal) ((bodyA (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X_arg1 X_arg2 X_arg3 X_arg4 X_arg5 X_arg6).2.2.1 f7 f8 f9 f10 f11)) (arg10.view.read (Elt Ideal) ((bodyA (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X_arg1 X_arg2 X_arg3 X_arg4 X_arg5 X_arg6).2.2.2.1 f7 f8 f9 f10 f11)) (arg11.view.read (Elt Ideal) ((bodyA (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X_arg1 X_arg2 X_arg3 X_arg4 X_arg5 X_arg6).2.2.2.2.1 f7 f8 f9 f10 f11)) := by
  have hR : Reads arg2 arg3 arg6 arg12 arg13 X_arg2 X_arg3 X_arg6 (arg12.view.writes (Elt Ideal) arg12.view.junk (bodyB.sl.HW_arg12_4 arg1 X_arg1))
      (arg13.view.writes (Elt Ideal) arg13.view.junk (bodyB.sl.HW_arg13_4 arg4 X_arg4)) M :=
    ⟨hk, hv, hc6, turned_q hQ.q, turned_o hQ.o⟩
  obtain ⟨h1, h2, h3⟩ := outer_at hfin 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hQ hR (zero_cols M) (f7 := f7) (f10 := arg10.view.writes (Elt Ideal) arg10.view.junk bodyA.sl.HW_arg10_1) (G7 := fun x y => arg7.view.read (Elt Ideal) f7 (ix2 (Fin.ofNat 4096 x) (Fin.ofNat 128 y))) (G10 := (fun _ _ => 0))
    (fun x y => congrArg _ (by ext a; fin_cases a <;> exact (Nat.mod_eq_of_lt (Fin.isLt _)).symm)) zero_lanes k0_t1_loop.trips le_rfl
  rw [← View.writes_append, ← View.writes_append, ← View.writes_append] at h1
  rw [← View.writes_append] at h3
  have e4 : 1024 * k0_t1_loop.trips = 4096 := by rw [t1_trips]
  rw [show (fun _ _ : ℕ => 1024 * k0_t1_loop.trips) = fun _ _ => 4096 from by funext _ _; exact e4] at h1
  subst hj
  unfold bodyA
  dsimp only
  refine ⟨fun x y => (h2 x y).trans ?_, out_k f8 fun z x y => ?_, out_v f9 fun x y => ?_, fun x y => (h3 x y).trans ?_, fun h z x => ?_⟩
  · rw [if_pos (by omega)]
  · exact h1.k z x y
  · exact h1.v x y
  · rw [if_pos (by omega)]
  · exact h1.c h z x

end Left
end Cert.Proof.Fox
end

end
-- ==== Proof.Fox.Value.lean ====
module

public import proofs.«01_k».proof.Proof.Fox.Left
public import proofs.«01_k».proof.Proof.Fox.Run

/-! The launch, with what the results' arrays hold. -/

@[expose] public section

set_option maxRecDepth 16384

noncomputable section

namespace Cert.Proof.Fox

open Cert.FoxIdeal Cert.FoxIdeal.Gen Cert.FoxIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄G" => MT nD τ sig Unit (Elt Ideal) ℕ (UR sig nD τ) ℕ

variable (m : (ℓ : Loc nD τ sig) → Buf (Elt Ideal) ℓ) (ρ : Dev nD → PrngReg)

/-- What a pair of heads reads. -/
def packed (c : Dev nD) (t : Fin cfg0.N) (x y : ℕ) : EReal := (iblk m c 4 t : FVec Ideal S4096x128 .f32) (ix2 (Fin.ofNat 4096 x) (Fin.ofNat 128 y))
def ins (c : Dev nD) (t : Fin cfg0.N) : Ins where
  Q x y := (iblk m c 0 t : FVec Ideal S4096x128 .bf16) (ix2 (Fin.ofNat 4096 x) (Fin.ofNat 128 y))
  K x y := (iblk m c 1 t : FVec Ideal S4096x128 .bf16) (ix2 (Fin.ofNat 4096 x) (Fin.ofNat 128 y))
  V x y := (iblk m c 2 t : FVec Ideal S4096x128 .bf16) (ix2 (Fin.ofNat 4096 x) (Fin.ofNat 128 y))
  O x y := (iblk m c 3 t : FVec Ideal S4096x128 .bf16) (ix2 (Fin.ofNat 4096 x) (Fin.ofNat 128 y))
  A h x := packed m c t x (2 * t + h)
  D h x := packed m c t x (8 + 2 * t + h)
  C h x := (iblk m c 5 t : FVec Ideal S2x1x4096 .f32) (ix3 (Fin.ofNat 2 h) (0 : Fin 1) (Fin.ofNat 4096 x))

/-- What it leaves: the queries', the keys' and the values' gradients, -/
def qOut (c : Dev nD) (t : Fin cfg0.N) (p : S4096x128.Idx) : EReal := (ins m c t).dqA (p 0) (p 1) * eighth
def kOut (c : Dev nD) (t : Fin cfg0.N) (p : S4096x128.Idx) : EReal := (ins m c t).dkt (fun _ _ => 4096) (p 1) (p 0) * ln2
def vOut (c : Dev nD) (t : Fin cfg0.N) (p : S4096x128.Idx) : EReal := (ins m c t).dvt (fun _ _ => 4096) (p 1) (p 0)
/-- the queries' offsets' of the pairs so far, -/
def cqTo (c : Dev nD) (n x y : ℕ) : EReal := if h : y / 2 < n ∧ n ≤ cfg0.N then (ins m c ⟨y / 2, by omega⟩).dcqA (y % 2) x else 0
def cqOut (c : Dev nD) (t : Fin cfg0.N) (p : S4096x128.Idx) : EReal := cqTo m c (t + 1) (p 0) (p 1)
/-- and the keys' offsets'. -/
def ckOut (c : Dev nD) (t : Fin cfg0.N) (p : S2x1x4096.Idx) : EReal := (ins m c t).dck (fun _ _ => 4096) (p 0) (p 2)

theorem N4 : cfg0.N = 4 := by decide +kernel

theorem lanes_next (c : Dev nD) (t : Fin cfg0.N) (x y : ℕ) : (ins m c t).lanes t (cqTo m c t) x y = cqTo m c (t + 1) x y := by
  have ht := t.isLt
  unfold Ins.lanes cqTo
  by_cases h0 : y = 2 * t
  · subst h0
    rw [if_pos rfl, dif_pos ⟨by omega, by omega⟩]
    have e : (⟨2 * t.val / 2, by omega⟩ : Fin cfg0.N) = t := Fin.ext (by dsimp only; omega)
    rw [e, show 2 * t.val % 2 = 0 by omega]
  · rw [if_neg h0]
    by_cases h1 : y = 2 * t + 1
    · subst h1
      rw [if_pos rfl, dif_pos ⟨by omega, by omega⟩]
      have e : (⟨(2 * t.val + 1) / 2, by omega⟩ : Fin cfg0.N) = t := Fin.ext (by dsimp only; omega)
      rw [e, show (2 * t.val + 1) % 2 = 1 by omega]
    · rw [if_neg h1]
      by_cases h2 : y / 2 < t
      · rw [dif_pos ⟨h2, by omega⟩, dif_pos ⟨by omega, by omega⟩]
      · rw [dif_neg (by omega), dif_neg (by omega)]

theorem lanes_first (c : Dev nD) (t : Fin cfg0.N) (h : t.val = 0) (x y : ℕ) : (ins m c t).lanes t (fun _ _ => 0) x y = cqTo m c (t + 1) x y := by
  rw [← lanes_next, show cqTo m c t = fun _ _ => 0 from ?_]
  funext x y
  exact dif_neg (by omega)

/-- The launch's data. -/
def vals (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => qOut m c t
    | ⟨7, _⟩ => kOut m c t
    | ⟨8, _⟩ => vOut m c t
    | ⟨9, _⟩ => cqOut m c t
    | ⟨10, _⟩ => ckOut m c t
  Φ _ := Pipeline.ΦA spec0 c
  q w := Pipeline.shareOf spec0 w
  owed _ := 0

theorem vA_eq (c : Dev nD) (w : Fin cfg0.W) : (vals m 0 c).A w = V m c (Pipeline.arrRef spec0 w) := by
  dsimp only [vals]

theorem vafter_0 (c : Dev nD) (t : Fin cfg0.N) : (vals m 0 c).after 0 t = iblk m c 0 t := by dsimp only [vals]
theorem vafter_1 (c : Dev nD) (t : Fin cfg0.N) : (vals m 0 c).after 1 t = iblk m c 1 t := by dsimp only [vals]
theorem vafter_2 (c : Dev nD) (t : Fin cfg0.N) : (vals m 0 c).after 2 t = iblk m c 2 t := by dsimp only [vals]
theorem vafter_3 (c : Dev nD) (t : Fin cfg0.N) : (vals m 0 c).after 3 t = iblk m c 3 t := by dsimp only [vals]
theorem vafter_4 (c : Dev nD) (t : Fin cfg0.N) : (vals m 0 c).after 4 t = iblk m c 4 t := by dsimp only [vals]
theorem vafter_5 (c : Dev nD) (t : Fin cfg0.N) : (vals m 0 c).after 5 t = iblk m c 5 t := by dsimp only [vals]
theorem vafter_6 (c : Dev nD) (t : Fin cfg0.N) : (vals m 0 c).after 6 t = qOut m c t := by dsimp only [vals]
theorem vafter_7 (c : Dev nD) (t : Fin cfg0.N) : (vals m 0 c).after 7 t = kOut m c t := by dsimp only [vals]
theorem vafter_8 (c : Dev nD) (t : Fin cfg0.N) : (vals m 0 c).after 8 t = vOut m c t := by dsimp only [vals]
theorem vafter_9 (c : Dev nD) (t : Fin cfg0.N) : (vals m 0 c).after 9 t = cqOut m c t := by dsimp only [vals]
theorem vafter_10 (c : Dev nD) (t : Fin cfg0.N) : (vals m 0 c).after 10 t = ckOut m c t := by dsimp only [vals]
theorem vbefore_0 (c : Dev nD) (t : Fin cfg0.N) (d) : (vals m 0 c).before 0 t d = iblk m c 0 t :=
  before0_0_of m (vals m 0 c) (vA_eq m c 0) (vafter_0 m c) t d
theorem vbefore_1 (c : Dev nD) (t : Fin cfg0.N) (d) : (vals m 0 c).before 1 t d = iblk m c 1 t :=
  before0_1_of m (vals m 0 c) (vA_eq m c 1) (vafter_1 m c) t d
theorem vbefore_2 (c : Dev nD) (t : Fin cfg0.N) (d) : (vals m 0 c).before 2 t d = iblk m c 2 t :=
  before0_2_of m (vals m 0 c) (vA_eq m c 2) (vafter_2 m c) t d
theorem vbefore_3 (c : Dev nD) (t : Fin cfg0.N) (d) : (vals m 0 c).before 3 t d = iblk m c 3 t :=
  before0_3_of m (vals m 0 c) (vA_eq m c 3) (vafter_3 m c) t d
theorem vbefore_4 (c : Dev nD) (t : Fin cfg0.N) (d) : (vals m 0 c).before 4 t d = iblk m c 4 t :=
  before0_4_of m (vals m 0 c) (vA_eq m c 4) (vafter_4 m c) t d
theorem vbefore_5 (c : Dev nD) (t : Fin cfg0.N) (d) : (vals m 0 c).before 5 t d = iblk m c 5 t :=
  before0_5_of m (vals m 0 c) (vA_eq m c 5) (vafter_5 m c) t d

theorem starts_iff : ∀ t : Fin cfg0.N, (Starts (grid0.coords t) ↔ t.val = 0) ∧ ((grid0.coords t) 0).val = t.val :=
  (by decide +kernel : ∀ t : Fin grid0.N, _)
theorem not_flushed : ∀ t : Fin cfg0.N, t.val ≠ 3 → (cfg0.win 9).flush t = false :=
  (by decide +kernel : ∀ t : Fin grid0.N, _)

/-- After the first point the shared buffer holds what the point before left. -/
theorem vbefore_9 (c : Dev nD) (t : Fin cfg0.N) (ht : t.val ≠ 0) (d) : (vals m 0 c).before 9 t d = fun p : S4096x128.Idx => cqTo m c t (p 0) (p 1) := by
  have h := (vals m 0 c).before_out_kept 9 rfl t ht (not_flushed _ (by have := t.isLt; have := N4; dsimp only; omega)) (fun _ => rfl) (fun _ _ => rfl) d
  rw [h, vafter_9]
  funext p
  show cqTo m c (t.val - 1 + 1) (p 0) (p 1) = _
  rw [Nat.sub_add_cancel (by omega)]

theorem close (c : Dev nD) (t : Fin cfg0.N) {j : Fin 4} {G : ℕ → ℕ → EReal} {d6 d7 d8 d9 : S4096x128.Idx → EReal} {d10 : S2x1x4096.Idx → EReal}
    (hl : ∀ x y, (ins m c t).lanes j G x y = cqTo m c (t + 1) x y) (h : Left (ins m c t) j G d6 d7 d8 d9 d10) :
    d6 = qOut m c t ∧ d7 = kOut m c t ∧ d8 = vOut m c t ∧ d9 = cqOut m c t ∧ d10 = ckOut m c t := by
  refine ⟨funext fun p => ?_, funext fun p => ?_, funext fun p => ?_, funext fun p => ?_, funext fun p => ?_⟩
  · idx_vars p; exact h.q p0 p1
  · idx_vars p; exact h.k p0 p1
  · idx_vars p; exact h.v p0 p1
  · idx_vars p; exact (h.cq p0 p1).trans (hl _ _)
  · idx_vars p; exact h.ck p0 p1 p2

section Spec
set_option maxHeartbeats 2000000
variable (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S2x1x4096 .f32) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .f32) (harg10 : arg10.IsWhole)
  (arg11 : Memref sig .tc .vmem S2x1x4096 .f32) (harg11 : arg11.IsWhole)
  (arg12 : Memref sig .tc .vmem S1x128x4096 .bf16) (harg12 : arg12.IsWhole)
  (arg13 : Memref sig .tc .vmem S128x4096 .bf16) (harg13 : arg13.IsWhole)
  (arg14 : Memref sig .tc .vmem S1x128x4096 .f32) (harg14 : arg14.IsWhole)
  (arg15 : Memref sig .tc .vmem S128x4096 .f32) (harg15 : arg15.IsWhole)
  (arg16 : Memref sig .tc .vmem S1x1024x128 .f32) (harg16 : arg16.IsWhole)
  (arg17 : Memref sig .tc .vmem S2x1024x1 .f32) (harg17 : arg17.IsWhole)
/-- The body's run at a point, with its results. -/
theorem spec_at (c : Dev nD) (t : Fin cfg0.N) (hfin : ∀ h q k, ∃ r : ℝ, (ins m c t).ds h q k = r) (d9) :
    ∃ (R6 : BufTy.Contents (Elt Ideal) arg7.view.ty → BufTy.Contents (Elt Ideal) arg8.view.ty → BufTy.Contents (Elt Ideal) arg9.view.ty → BufTy.Contents (Elt Ideal) arg10.view.ty → BufTy.Contents (Elt Ideal) arg11.view.ty → BufTy.Contents (Elt Ideal) arg7.view.ty) (R7 : BufTy.Contents (Elt Ideal) arg7.view.ty → BufTy.Contents (Elt Ideal) arg8.view.ty → BufTy.Contents (Elt Ideal) arg9.view.ty → BufTy.Contents (Elt Ideal) arg10.view.ty → BufTy.Contents (Elt Ideal) arg11.view.ty → BufTy.Contents (Elt Ideal) arg8.view.ty) (R8 : BufTy.Contents (Elt Ideal) arg7.view.ty → BufTy.Contents (Elt Ideal) arg8.view.ty → BufTy.Contents (Elt Ideal) arg9.view.ty → BufTy.Contents (Elt Ideal) arg10.view.ty → BufTy.Contents (Elt Ideal) arg11.view.ty → BufTy.Contents (Elt Ideal) arg9.view.ty) (R9 : BufTy.Contents (Elt Ideal) arg7.view.ty → BufTy.Contents (Elt Ideal) arg8.view.ty → BufTy.Contents (Elt Ideal) arg9.view.ty → BufTy.Contents (Elt Ideal) arg10.view.ty → BufTy.Contents (Elt Ideal) arg11.view.ty → BufTy.Contents (Elt Ideal) arg10.view.ty) (R10 : BufTy.Contents (Elt Ideal) arg7.view.ty → BufTy.Contents (Elt Ideal) arg8.view.ty → BufTy.Contents (Elt Ideal) arg9.view.ty → BufTy.Contents (Elt Ideal) arg10.view.ty → BufTy.Contents (Elt Ideal) arg11.view.ty → BufTy.Contents (Elt Ideal) arg11.view.ty),
      BodySpec (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (harg1.unread (iblk m c 0 t)) (harg2.unread (iblk m c 1 t)) (harg3.unread (iblk m c 2 t)) (harg4.unread (iblk m c 3 t)) (harg5.unread (iblk m c 4 t)) (harg6.unread (iblk m c 5 t)) R6 R7 R8 R9 R10
      ∧ ∀ f6 f7 f8 f9 f10, arg10.view.read (Elt Ideal) f9 = (vals m 0 c).before 9 t d9 →
        arg7.view.read (Elt Ideal) (R6 f6 f7 f8 f9 f10) = qOut m c t ∧ arg8.view.read (Elt Ideal) (R7 f6 f7 f8 f9 f10) = kOut m c t ∧ arg9.view.read (Elt Ideal) (R8 f6 f7 f8 f9 f10) = vOut m c t ∧ arg10.view.read (Elt Ideal) (R9 f6 f7 f8 f9 f10) = cqOut m c t ∧ arg11.view.read (Elt Ideal) (R10 f6 f7 f8 f9 f10) = ckOut m c t := by
  have hi := (starts_iff t).2
  have hQ : Query arg1 arg4 arg5 (harg1.unread (iblk m c 0 t)) (harg4.unread (iblk m c 3 t)) (harg5.unread (iblk m c 4 t)) (packed m c t) ((grid0.coords t) 0) (ins m c t) := by
    refine ⟨fun x y => ?_, fun x y => ?_, fun x y => ?_, fun x => ?_, fun x => ?_, fun x => ?_, fun x => ?_⟩
    · rw [harg1.read_unread]
      exact congrArg _ (by ext a; fin_cases a <;> exact (Nat.mod_eq_of_lt (Fin.isLt _)).symm)
    · rw [harg4.read_unread]
      exact congrArg _ (by ext a; fin_cases a <;> exact (Nat.mod_eq_of_lt (Fin.isLt _)).symm)
    · rw [harg5.read_unread]
      exact congrArg _ (by ext a; fin_cases a <;> exact (Nat.mod_eq_of_lt (Fin.isLt _)).symm)
    · rw [hi]; show packed m c t x (2 * t) = packed m c t x (2 * t + 0); rw [Nat.add_zero]
    · rw [hi]; show packed m c t x (2 * t + 1) = packed m c t x (2 * t + 1); rfl
    · rw [hi]; show packed m c t x (8 + 2 * t) = packed m c t x (8 + 2 * t + 0); rw [Nat.add_zero]
    · rw [hi]; show packed m c t x (8 + 2 * t + 1) = packed m c t x (8 + 2 * t + 1); rfl
  have hk : ∀ (x : Fin 4096) (y : Fin 128), arg2.view.read (Elt Ideal) (harg2.unread (iblk m c 1 t)) (ix2 x y) = (ins m c t).K x y := fun x y => by
    rw [harg2.read_unread]
    exact congrArg _ (by ext a; fin_cases a <;> exact (Nat.mod_eq_of_lt (Fin.isLt _)).symm)
  have hv : ∀ (x : Fin 4096) (y : Fin 128), arg3.view.read (Elt Ideal) (harg3.unread (iblk m c 2 t)) (ix2 x y) = (ins m c t).V x y := fun x y => by
    rw [harg3.read_unread]
    exact congrArg _ (by ext a; fin_cases a <;> exact (Nat.mod_eq_of_lt (Fin.isLt _)).symm)
  have hc : ∀ (x : Fin 2) (y : Fin 1) (z : Fin 4096), arg6.view.read (Elt Ideal) (harg6.unread (iblk m c 5 t)) (ix3 x y z) = (ins m c t).C x z := fun x y z => by
    rw [harg6.read_unread]
    exact congrArg _ (by ext a; fin_cases a <;> first | exact (Nat.mod_eq_of_lt (Fin.isLt _)).symm | (have := y.isLt; show (y : ℕ) = 0; omega))
  by_cases h0 : Starts (grid0.coords t)
  · refine ⟨_, _, _, _, _, (bodyA Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h0 (harg1.unread (iblk m c 0 t)) (harg2.unread (iblk m c 1 t)) (harg3.unread (iblk m c 2 t)) (harg4.unread (iblk m c 3 t)) (harg5.unread (iblk m c 4 t)) (harg6.unread (iblk m c 5 t))).2.2.2.2.2, fun f6 f7 f8 f9 f10 _ => ?_⟩
    exact close m c t (fun x y => by rw [hi]; exact lanes_first m c t ((starts_iff t).1.1 h0) x y) (left_A hfin Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rfl hQ hk hv hc h0 f6 f7 f8 f9 f10)
  · refine ⟨_, _, _, _, _, (bodyB Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h0 (harg1.unread (iblk m c 0 t)) (harg2.unread (iblk m c 1 t)) (harg3.unread (iblk m c 2 t)) (harg4.unread (iblk m c 3 t)) (harg5.unread (iblk m c 4 t)) (harg6.unread (iblk m c 5 t))).2.2.2.2.2, fun f6 f7 f8 f9 f10 e => ?_⟩
    refine close m c t (fun x y => by rw [hi]; exact lanes_next m c t x y) (left_B hfin Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rfl hQ hk hv hc h0 f6 f7 f8 f9 f10 fun x y => ?_)
    rw [e, vbefore_9 m c t fun h => h0 ((starts_iff t).1.2 h)]
    rfl
end Spec

/-- What the body is called with, -/
def vbodyPre (c : Dev nD) (t : Fin cfg0.N) : sProp 𝕄G :=
  iprop((vals m 0 c).Φ t.castSucc ∗ (vals m 0 c).owesAt () t.castSucc
    ∗ (∃ d, owns (c : Thread nD τ) (win0_0.stage (cfg0.slots t 0)) fullShare ((vals m 0 c).before 0 t d))
    ∗ (∃ d, owns (c : Thread nD τ) (win0_1.stage (cfg0.slots t 1)) fullShare ((vals m 0 c).before 1 t d))
    ∗ (∃ d, owns (c : Thread nD τ) (win0_2.stage (cfg0.slots t 2)) fullShare ((vals m 0 c).before 2 t d))
    ∗ (∃ d, owns (c : Thread nD τ) (win0_3.stage (cfg0.slots t 3)) fullShare ((vals m 0 c).before 3 t d))
    ∗ (∃ d, owns (c : Thread nD τ) (win0_4.stage (cfg0.slots t 4)) fullShare ((vals m 0 c).before 4 t d))
    ∗ (∃ d, owns (c : Thread nD τ) (win0_5.stage (cfg0.slots t 5)) fullShare ((vals m 0 c).before 5 t d))
    ∗ (∃ d, owns (c : Thread nD τ) (win0_6.stage (cfg0.slots t 6)) fullShare ((vals m 0 c).before 6 t d))
    ∗ (∃ d, owns (c : Thread nD τ) (win0_7.stage (cfg0.slots t 7)) fullShare ((vals m 0 c).before 7 t d))
    ∗ (∃ d, owns (c : Thread nD τ) (win0_8.stage (cfg0.slots t 8)) fullShare ((vals m 0 c).before 8 t d))
    ∗ (∃ d, owns (c : Thread nD τ) (win0_9.stage (cfg0.slots t 9)) fullShare ((vals m 0 c).before 9 t d))
    ∗ (∃ d, owns (c : Thread nD τ) (win0_10.stage (cfg0.slots t 10)) fullShare ((vals m 0 c).before 10 t d)))

/-- and what it returns. -/
def vbodyPost (c : Dev nD) (t : Fin cfg0.N) : sProp 𝕄G :=
  iprop((vals m 0 c).Φ t.succ ∗ (vals m 0 c).owesAt () t.succ
    ∗ owns (c : Thread nD τ) (win0_0.stage (cfg0.slots t 0)) fullShare ((vals m 0 c).after 0 t)
    ∗ owns (c : Thread nD τ) (win0_1.stage (cfg0.slots t 1)) fullShare ((vals m 0 c).after 1 t)
    ∗ owns (c : Thread nD τ) (win0_2.stage (cfg0.slots t 2)) fullShare ((vals m 0 c).after 2 t)
    ∗ owns (c : Thread nD τ) (win0_3.stage (cfg0.slots t 3)) fullShare ((vals m 0 c).after 3 t)
    ∗ owns (c : Thread nD τ) (win0_4.stage (cfg0.slots t 4)) fullShare ((vals m 0 c).after 4 t)
    ∗ owns (c : Thread nD τ) (win0_5.stage (cfg0.slots t 5)) fullShare ((vals m 0 c).after 5 t)
    ∗ owns (c : Thread nD τ) (win0_6.stage (cfg0.slots t 6)) fullShare ((vals m 0 c).after 6 t)
    ∗ owns (c : Thread nD τ) (win0_7.stage (cfg0.slots t 7)) fullShare ((vals m 0 c).after 7 t)
    ∗ owns (c : Thread nD τ) (win0_8.stage (cfg0.slots t 8)) fullShare ((vals m 0 c).after 8 t)
    ∗ owns (c : Thread nD τ) (win0_9.stage (cfg0.slots t 9)) fullShare ((vals m 0 c).after 9 t)
    ∗ owns (c : Thread nD τ) (win0_10.stage (cfg0.slots t 10)) fullShare ((vals m 0 c).after 10 t))

set_option maxHeartbeats 2000000 in
/-- The body at any point. -/
theorem vsound (c : Dev nD) (t : Fin cfg0.N) (hfin : ∀ h q k, ∃ r : ℝ, (ins m c t).ds h q k = r) :
    vbodyPre m c t ⊢ wp frame (wpE (defs₀ (F := Ideal)) Variants.none c none) Set.univ (bodyAt0 t) (fun _ => vbodyPost m c t) := by
  unfold vbodyPre vbodyPost bodyAt0
  simp only [vbefore_0, vbefore_1, vbefore_2, vbefore_3, vbefore_4, vbefore_5]
  rw [show (vals m 0 c).Φ t.succ = Pipeline.ΦA spec0 c from rfl, show (vals m 0 c).Φ t.castSucc = Pipeline.ΦA spec0 c from rfl,
    show (vals m 0 c).owesAt () t.succ = (vals m 0 c).owesAt () t.castSucc from rfl, ΦA_eq,
    vafter_0, vafter_1, vafter_2, vafter_3, vafter_4, vafter_5, vafter_6, vafter_7, vafter_8, vafter_9, vafter_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  icases HΦ with ⟨⟨S0, S1, S2, S3, S4, S5⟩, HR⟩
  obtain ⟨R6, R7, R8, R9, R10, hs, hQ⟩ := spec_at m (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) c t hfin d9
  ihave K := (step Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (fun _ => True) (fun d => d = qOut m c t) (fun _ => True) (fun d => d = kOut m c t) (fun _ => True) (fun d => d = vOut m c t) (fun d => d = (vals m 0 c).before 9 t d9) (fun d => d = cqOut m c t) (fun _ => True) (fun d => d = ckOut m c t) hs (fun f6 f7 f8 f9 f10 _ _ _ e _ => hQ f6 f7 f8 f9 f10 e) Set.univ) $$ [H0 H1 H2 H3 H4 H5 H6 H7 H8 H9 H10 S0 S1 S2 S3 S4 S5]
  · isplitl [H0]; · iexact H0
    isplitl [H1]; · iexact H1
    isplitl [H2]; · iexact H2
    isplitl [H3]; · iexact H3
    isplitl [H4]; · iexact H4
    isplitl [H5]; · iexact H5
    isplitl [H6]
    · iexists ((vals m 0 c).before 6 t d6); isplitr [H6]
      · ipureintro; exact trivial
      · iexact H6
    isplitl [H7]
    · iexists ((vals m 0 c).before 7 t d7); isplitr [H7]
      · ipureintro; exact trivial
      · iexact H7
    isplitl [H8]
    · iexists ((vals m 0 c).before 8 t d8); isplitr [H8]
      · ipureintro; exact trivial
      · iexact H8
    isplitl [H9]
    · iexists ((vals m 0 c).before 9 t d9); isplitr [H9]
      · ipureintro; exact rfl
      · iexact H9
    isplitl [H10]
    · iexists ((vals m 0 c).before 10 t d10); isplitr [H10]
      · ipureintro; exact trivial
      · iexact H10
    isplitl [S0]; · iexact S0
    isplitl [S1]; · iexact S1
    isplitl [S2]; · iexact S2
    isplitl [S3]; · iexact S3
    isplitl [S4]; · iexact S4
    iexact S5
  iapply (wp_wand_r _ _)
  isplitl [K]; · iexact K
  iintro %_ ⟨H0, H1, H2, H3, H4, H5, ⟨%r6, %e6, H6⟩, ⟨%r7, %e7, H7⟩, ⟨%r8, %e8, H8⟩, ⟨%r9, %e9, H9⟩, ⟨%r10, %e10, H10⟩, S0, S1, S2, S3, S4, S5⟩
  isplitl [HR S0 S1 S2 S3 S4 S5]
  · isplitr [HR]
    · isplitl [S0]; · iexact S0
      isplitl [S1]; · iexact S1
      isplitl [S2]; · iexact S2
      isplitl [S3]; · iexact S3
      isplitl [S4]; · iexact S4
      iexact S5
    · iexact HR
  subst e6
  subst e7
  subst e8
  subst e9
  subst e10
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem vobligation (hfin : ∀ c t h q k, ∃ r : ℝ, (ins m c t).ds h q k = r) (c : Dev nD) : BodyObligation (vals m 0 c) (defs₀ (F := Ideal)) Variants.none () Set.univ := fun t => by
  rw [bigSep_W0, bigSep_W0, defs₀_row]
  exact triple_restated (vsound m c t (hfin c t)) rfl .rfl fun _ => .rfl

set_option backward.isDefEq.respectTransparency.types false in
set_option maxHeartbeats 2000000 in
/-- Every run ends with the results' arrays and the lines after the call at what they compute. -/
theorem vrun (hfin : ∀ c t h q k, ∃ r : ℝ, (ins m c t).ds h q k = r) : θ_run defs (onTc (τ := τ) (main (F := Ideal))) (s₀ m ρ)
    (Pipeline.FramePost cfgs (vals m) 0 (Pipeline.afterTail₀ cfgs (vals m) 0 (V0 m) [hostOps1])) :=
  Pipeline.θ_run_frame_around_shared cfgs (vals m) (0 : Fin 1) launch₀0 defs₀ Variants.none m ρ main
    (hbody := fun c => (vobligation m hfin c).loose) (hq := fun _ _ _ => rfl)
    (howed := fun _ _ => rfl) (V₀ := V0 m) (opss := [hostOps1]) (hsub := sfx_sub) (hfresh := sfx_fresh) (hkeep := sfx_keeps)
    (hmain := hmain m Variants.none) (hA := vA_eq m) (hΦ := fun _ _ => rfl)

end Cert.Proof.Fox

end
-- ==== Proof.Fox.Host.lean ====
module

public import proofs.«01_k».proof.Proof.Fox.Value

/-! The host lines before the attention's backward call: the packed operands, and the forward's row maximum,
    row sum and output, from which the row offsets and the row sums come. -/

@[expose] public section
set_option maxRecDepth 16384
noncomputable section
namespace Cert.Proof.Fox
open Idealize.ShloMosaic Idealize.ShloMosaic.TcCoe Idealize.SL.Sem
open Cert.FoxIdeal Cert.FoxIdeal.Gen

/-- The number `1 / log 2` as the host computes it. -/
def hLog2e : FVec Ideal S_ .f32 := Host.divf (constant S_ .f32 0x3F800000#32) (Host.log (constant S_ .f32 0x40000000#32))
/-- Queries with the scale, keys and values side by side. -/
def hQkv (q k v : FVec Ideal S4096x512 .f32) : FVec Ideal S4096x1536 .bf16 :=
  concatenate S4096x1536 1 [⟨S4096x512, truncf .bf16 (mulf q (broadcastInDim S4096x512 ![] bcast_S_S4096x512 (mulf (constant S_ .f32 0x3E000000#32) hLog2e))) bitsLt_bf16_f32⟩,
    ⟨S4096x512, truncf .bf16 k bitsLt_bf16_f32⟩, ⟨S4096x512, truncf .bf16 v bitsLt_bf16_f32⟩] concatenates_S4096x512_S4096x512_S4096x512_S4096x1536_d1
/-- The key's offsets by head. -/
def hC2 (c : FVec Ideal S4096x8 .f32) : FVec Ideal S8x1x4096 .f32 :=
  broadcastInDim S8x1x4096 ![0, 2] bcast_S8x4096_S8x1x4096_0_2
    (mulf (transpose S8x4096 [1, 0] c transposes_S4096x8_S8x4096_1_0) (broadcastInDim S8x4096 ![] bcast_S_S8x4096 hLog2e))
/-- The masked scores. -/
def hS (q k : FVec Ideal S4096x512 .f32) (c : FVec Ideal S4096x8 .f32) : FVec Ideal S8x4096x4096 .f32 :=
  select (broadcastInDim S8x4096x4096 ![1, 2] bcast_S4096x4096_S8x4096x4096_1_2
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (subf (mulf (Host.dotGeneral dot_S4096x8x64_S4096x8x64_S8x4096x4096_2_2_0_0_1_1 none (shapeCast S4096x8x64 q shapeCasts_S4096x512_S4096x8x64) (shapeCast S4096x8x64 k shapeCasts_S4096x512_S4096x8x64))
        (broadcastInDim S8x4096x4096 ![] bcast_S_S8x4096x4096 (constant S_ .f32 0x3E000000#32)))
      (broadcastInDim S8x4096x4096 ![0, 1, 2] bcast_S8x1x4096_S8x4096x4096_0_1_2 (broadcastInDim S8x1x4096 ![0, 2] bcast_S8x4096_S8x1x4096_0_2 (transpose S8x4096 [1, 0] c transposes_S4096x8_S8x4096_1_0))))
    (broadcastInDim S8x4096x4096 ![] bcast_S_S8x4096x4096 (constant S_ .f32 0xFF800000#32))
/-- The row's greatest score. -/
def hM (s : FVec Ideal S8x4096x4096 .f32) : FVec Ideal S8x4096 .f32 :=
  Host.reduce FloatOps.maximumf s (constant S_ .f32 0xFF800000#32) reducesTo_S8x4096x4096_S8x4096_d2 h_S_
/-- The weights before they are divided by their sum. -/
def hE (s : FVec Ideal S8x4096x4096 .f32) : FVec Ideal S8x4096x4096 .f32 :=
  Host.exp (subf s (broadcastInDim S8x4096x4096 ![0, 1, 2] bcast_S8x4096x1_S8x4096x4096_0_1_2 (broadcastInDim S8x4096x1 ![0, 1] bcast_S8x4096_S8x4096x1_0_1 (hM s))))
/-- Their sum. -/
def hL (s : FVec Ideal S8x4096x4096 .f32) : FVec Ideal S8x4096 .f32 :=
  Host.reduceAdd (hE s) (constant S_ .f32 0x00000000#32) reducesTo_S8x4096x4096_S8x4096_d2 h_S_
/-- The logarithm of the row's sum, less its sign, by position and head. -/
def hOff (m l : FVec Ideal S8x4096 .f32) : FVec Ideal S4096x8 .f32 :=
  Host.negf (transpose S4096x8 [1, 0] (shapeCast S8x4096 (mulf (addf (broadcastInDim S8x4096x1 ![0, 1] bcast_S8x4096_S8x4096x1_0_1 m)
    (Host.log (broadcastInDim S8x4096x1 ![0, 1] bcast_S8x4096_S8x4096x1_0_1 l))) (broadcastInDim S8x4096x1 ![] bcast_S_S8x4096x1 hLog2e)) shapeCasts_S8x4096x1_S8x4096)
    transposes_S8x4096_S4096x8_1_0)
def hA (s : FVec Ideal S8x4096x4096 .f32) : FVec Ideal S4096x8 .f32 := hOff (hM s) (hL s)
/-- The weights, the output by head, lane and position, and the row's sum of cotangent times output. -/
def hP (s : FVec Ideal S8x4096x4096 .f32) : FVec Ideal S8x4096x4096 .f32 :=
  Host.divf (hE s) (broadcastInDim S8x4096x4096 ![0, 1, 2] bcast_S8x4096x1_S8x4096x4096_0_1_2 (broadcastInDim S8x4096x1 ![0, 1] bcast_S8x4096_S8x4096x1_0_1 (hL s)))
def hO (v : FVec Ideal S4096x512 .f32) (p : FVec Ideal S8x4096x4096 .f32) : FVec Ideal S8x64x4096 .f32 :=
  Host.dotGeneral dot_S4096x8x64_S8x4096x4096_S8x64x4096_0_2_2_1_1_0 none (shapeCast S4096x8x64 v shapeCasts_S4096x512_S4096x8x64) p
def hSum (o : FVec Ideal S4096x512 .f32) (w : FVec Ideal S8x64x4096 .f32) : FVec Ideal S4096x8 .f32 :=
  Host.reduceAdd (mulf (shapeCast S4096x8x64 o shapeCasts_S4096x512_S4096x8x64) (transpose S4096x8x64 [2, 0, 1] w transposes_S8x64x4096_S4096x8x64_2_0_1))
    (constant S_ .f32 0x00000000#32) reducesTo_S4096x8x64_S4096x8_d2 h_S_
def hD (s : FVec Ideal S8x4096x4096 .f32) (v o : FVec Ideal S4096x512 .f32) : FVec Ideal S4096x8 .f32 := hSum o (hO v (hP s))
/-- Both, packed into one array. -/
def hPack (a d : FVec Ideal S4096x8 .f32) : FVec Ideal S4096x128 .f32 :=
  concatenate S4096x128 1 [⟨S4096x8, a⟩, ⟨S4096x8, d⟩, ⟨S4096x112, broadcastInDim S4096x112 ![] bcast_S_S4096x112 (constant S_ .f32 0x00000000#32)⟩]
    concatenates_S4096x8_S4096x8_S4096x112_S4096x128_d1

variable (m : (ℓ : Loc nD τ sig) → Buf (Elt Ideal) ℓ) (c : Dev nD)

theorem entry_qkv : V m c main_v8 = (hQkv (m (c.tc.loc main_arg0)) (m (c.tc.loc main_arg1)) (m (c.tc.loc main_arg2)) : FVec Ideal S4096x1536 .bf16) := by
  entry_read
  simp only [List.flatten_cons, List.flatten_nil, List.append_nil, List.cons_append, List.nil_append]
  after_results
  rfl
theorem entry_do : V m c main_v52 = (truncf .bf16 (m (c.tc.loc main_arg4) : FVec Ideal S4096x512 .f32) bitsLt_bf16_f32 : FVec Ideal S4096x512 .bf16) := by
  entry_read
  simp only [List.flatten_cons, List.flatten_nil, List.append_nil, List.cons_append, List.nil_append]
  after_results
theorem entry_c2 : V m c main_v53 = (hC2 (m (c.tc.loc main_arg3)) : FVec Ideal S8x1x4096 .f32) := by
  entry_read
  simp only [List.flatten_cons, List.flatten_nil, List.append_nil, List.cons_append, List.nil_append]
  after_results
  rfl
theorem after_1 (W : Valuation τ sig (Elt Ideal)) : StableHlo.after hostOps0 W main_v1 = hLog2e := by
  after_results
  rfl
theorem after_14 (W : Valuation τ sig (Elt Ideal)) : StableHlo.after hostOps0 W main_v14 = shapeCast S4096x8x64 (W main_arg2 : FVec Ideal S4096x512 .f32) shapeCasts_S4096x512_S4096x8x64 := by
  after_results
  rfl
theorem after_15 (W : Valuation τ sig (Elt Ideal)) : StableHlo.after hostOps0 W main_v15 = shapeCast S4096x8x64 (W main_arg4 : FVec Ideal S4096x512 .f32) shapeCasts_S4096x512_S4096x8x64 := by
  after_results
  rfl
theorem after_29 (W : Valuation τ sig (Elt Ideal)) : StableHlo.after hostOps0_1 (StableHlo.after hostOps0 W) main_v29 = hS (W main_arg0) (W main_arg1) (W main_arg3) := by
  after_results
  rfl
theorem after_51 (W : Valuation τ sig (Elt Ideal)) (s : FVec Ideal S8x4096x4096 .f32) (v o : FVec Ideal S4096x512 .f32) (hs : W main_v29 = s) (h1 : W main_v1 = hLog2e)
    (hv : W main_v14 = shapeCast S4096x8x64 v shapeCasts_S4096x512_S4096x8x64) (ho : W main_v15 = shapeCast S4096x8x64 o shapeCasts_S4096x512_S4096x8x64) :
    StableHlo.after hostOps0_2 W main_v51 = hPack (hA s) (hD s v o) := by
  have ha : StableHlo.after (List.take 25 hostOps0_2) W main_v49 = hA s := by
    simp only [hostOps0_2, List.take]
    after_results
    rw [hs, h1]
    rfl
  have hd : StableHlo.after (List.take 25 hostOps0_2) W main_v47 = hD s v o := by
    simp only [hostOps0_2, List.take]
    after_results
    rw [hs, hv, ho]
    rfl
  have hz : StableHlo.after (List.take 25 hostOps0_2) W main_v50 = broadcastInDim S4096x112 ![] bcast_S_S4096x112 (constant (F := Ideal) S_ .f32 0x00000000#32) := by
    simp only [hostOps0_2, List.take]
    after_results
  rw [← List.take_append_drop 25 hostOps0_2, StableHlo.after_append]
  generalize StableHlo.after (List.take 25 hostOps0_2) W = U at ha hd hz ⊢
  show StableHlo.after (_ :: _ :: _ :: []) U main_v51 = _
  after_results
  rw [hPack, ← ha, ← hd, ← hz]
  rfl
theorem entry_pack : V m c main_v51 = (hPack (hA (hS (m (c.tc.loc main_arg0)) (m (c.tc.loc main_arg1)) (m (c.tc.loc main_arg3))))
    (hD (hS (m (c.tc.loc main_arg0)) (m (c.tc.loc main_arg1)) (m (c.tc.loc main_arg3))) (m (c.tc.loc main_arg2)) (m (c.tc.loc main_arg4))) : FVec Ideal S4096x128 .f32) := by
  show StableHlo.after (List.flatten [hostOps0, hostOps0_1, hostOps0_2]) _ _ = _
  rw [List.flatten_cons, List.flatten_cons, List.flatten_cons, List.flatten_nil, List.append_nil, StableHlo.after_append, StableHlo.after_append]
  refine after_51 _ _ _ _ (after_29 _) ?_ ?_ ?_
  · after_results
    rfl
  · after_results
    rfl
  · after_results
    rfl
end Cert.Proof.Fox
end
-- ==== Proof.Fox.Arrays.lean ====
module

public import proofs.«01_k».proof.Proof.Fox.Host

/-! What a pair of heads reads, out of the packed operands; and the results, out of what the pairs leave. -/

@[expose] public section
set_option maxRecDepth 16384
noncomputable section
namespace Cert.Proof.Fox
open Idealize.ShloMosaic Idealize.ShloMosaic.TcCoe Idealize.SL.Sem
open Cert.FoxIdeal Cert.FoxIdeal.Gen

/-- The blocks' places. -/
theorem idx : ∀ t : Fin cfg0.N, (win0_0.index t = ![0, t.val] ∧ win0_1.index t = ![0, t.val + 4] ∧ win0_2.index t = ![0, t.val + 8]
    ∧ win0_3.index t = ![0, t.val] ∧ win0_4.index t = ![0, 0] ∧ win0_5.index t = ![t.val, 0, 0]) ∧ win0_6.index t = ![0, t.val] ∧ win0_7.index t = ![0, t.val]
    ∧ win0_8.index t = ![0, t.val] ∧ win0_9.index t = ![0, 0] ∧ win0_10.index t = ![t.val, 0, 0] :=
  (by decide +kernel : ∀ t : Fin grid0.N, _)

variable (m : (ℓ : Loc nD τ sig) → Buf (Elt Ideal) ℓ) (c : Dev nD)

theorem blk_0 (t : Fin cfg0.N) (x : Fin 4096) (y : Fin 128) : (iblk m c 0 t : FVec Ideal S4096x128 .bf16) (ix2 x y)
    = (V m c main_v8 : FVec Ideal S4096x1536 .bf16) (ix2 x ⟨128 * t.val + y.val, by have := t.isLt; have := N4; omega⟩) := by
  blk_ext [iblk, idx t]
theorem blk_1 (t : Fin cfg0.N) (x : Fin 4096) (y : Fin 128) : (iblk m c 1 t : FVec Ideal S4096x128 .bf16) (ix2 x y)
    = (V m c main_v8 : FVec Ideal S4096x1536 .bf16) (ix2 x ⟨128 * (t.val + 4) + y.val, by have := t.isLt; have := N4; omega⟩) := by
  blk_ext [iblk, idx t]
theorem blk_2 (t : Fin cfg0.N) (x : Fin 4096) (y : Fin 128) : (iblk m c 2 t : FVec Ideal S4096x128 .bf16) (ix2 x y)
    = (V m c main_v8 : FVec Ideal S4096x1536 .bf16) (ix2 x ⟨128 * (t.val + 8) + y.val, by have := t.isLt; have := N4; omega⟩) := by
  blk_ext [iblk, idx t]
theorem blk_3 (t : Fin cfg0.N) (x : Fin 4096) (y : Fin 128) : (iblk m c 3 t : FVec Ideal S4096x128 .bf16) (ix2 x y)
    = (V m c main_v52 : FVec Ideal S4096x512 .bf16) (ix2 x ⟨128 * t.val + y.val, by have := t.isLt; have := N4; omega⟩) := by
  blk_ext [iblk, idx t]
theorem blk_4 (t : Fin cfg0.N) (x : Fin 4096) (y : Fin 128) : (iblk m c 4 t : FVec Ideal S4096x128 .f32) (ix2 x y)
    = (V m c main_v51 : FVec Ideal S4096x128 .f32) (ix2 x y) := by
  blk_ext [iblk, idx t]
theorem blk_5 (t : Fin cfg0.N) (h : Fin 2) (x : Fin 4096) : (iblk m c 5 t : FVec Ideal S2x1x4096 .f32) (ix3 h 0 x)
    = (V m c main_v53 : FVec Ideal S8x1x4096 .f32) (ix3 ⟨2 * t.val + h.val, by have := t.isLt; have := N4; omega⟩ 0 x) := by
  blk_ext [iblk, idx t]

/-- The pair of heads a number names. -/
def pairAt (n : ℕ) : Fin cfg0.N := ⟨n % 4, by have := N4; omega⟩
theorem pairAt_eq (t : Fin cfg0.N) {n : ℕ} (h : n = t.val) : pairAt n = t := by
  have := t.isLt
  have := N4
  exact Fin.ext (by show n % 4 = t.val; omega)

/-- The results' arrays. -/
def qArr (p : S4096x512.Idx) : EReal := (ins m c (pairAt ((p 1).val / 128))).dqA (p 0) ((p 1).val % 128) * eighth
def kArr (p : S4096x512.Idx) : EReal := (ins m c (pairAt ((p 1).val / 128))).dkt (fun _ _ => 4096) ((p 1).val % 128) (p 0) * ln2
def vArr (p : S4096x512.Idx) : EReal := (ins m c (pairAt ((p 1).val / 128))).dvt (fun _ _ => 4096) ((p 1).val % 128) (p 0)
def ckArr (p : S8x1x4096.Idx) : EReal := (ins m c (pairAt ((p 0).val / 2))).dck (fun _ _ => 4096) ((p 0).val % 2) (p 2)

theorem lane_128 (t : Fin cfg0.N) {y : ℕ} (hy : y < 128) : pairAt ((t.val * 128 + y) / 128) = t ∧ (t.val * 128 + y) % 128 = y :=
  ⟨pairAt_eq t (by omega), by omega⟩

theorem arr_6 : ((vals m 0 c).arrAt 6 (cfgs 0).N : S4096x512.Idx → EReal) = qArr m c := by
  refine Pipeline.Dat.arrAt_eq_of_covers (dat := vals m 0 c) 6 (qArr m c) (hcov := by decide +kernel) ?_
  intro t _ y
  have h := lane_128 t (y := (y 1).val) (y 1).isLt
  rw [vafter_6]
  blk_simp [qOut, qArr, idx t]
  rw [h.1, h.2]
theorem arr_7 : ((vals m 0 c).arrAt 7 (cfgs 0).N : S4096x512.Idx → EReal) = kArr m c := by
  refine Pipeline.Dat.arrAt_eq_of_covers (dat := vals m 0 c) 7 (kArr m c) (hcov := by decide +kernel) ?_
  intro t _ y
  have h := lane_128 t (y := (y 1).val) (y 1).isLt
  rw [vafter_7]
  blk_simp [kOut, kArr, idx t]
  rw [h.1, h.2]
theorem arr_8 : ((vals m 0 c).arrAt 8 (cfgs 0).N : S4096x512.Idx → EReal) = vArr m c := by
  refine Pipeline.Dat.arrAt_eq_of_covers (dat := vals m 0 c) 8 (vArr m c) (hcov := by decide +kernel) ?_
  intro t _ y
  have h := lane_128 t (y := (y 1).val) (y 1).isLt
  rw [vafter_8]
  blk_simp [vOut, vArr, idx t]
  rw [h.1, h.2]
/-- All pairs' offsets' gradients, one lane a head. -/
def cqArr (p : S4096x128.Idx) : EReal := cqTo m c 4 (p 0) (p 1)
theorem arr_9 : ((vals m 0 c).arrAt 9 (cfgs 0).N : S4096x128.Idx → EReal) = cqArr m c := by
  refine Pipeline.Dat.arrAt_eq_of_covers (dat := vals m 0 c) 9 (cqArr m c) (hcov := by decide +kernel) ?_
  intro t ht y
  have h3 : t.val = 3 := by
    by_contra hne
    exact absurd ht (by rw [not_flushed t hne]; decide)
  rw [vafter_9]
  blk_simp [cqOut, cqArr, idx t]
  rw [h3]
theorem arr_10 : ((vals m 0 c).arrAt 10 (cfgs 0).N : S8x1x4096.Idx → EReal) = ckArr m c := by
  refine Pipeline.Dat.arrAt_eq_of_covers (dat := vals m 0 c) 10 (ckArr m c) (hcov := by decide +kernel) ?_
  intro t _ y
  have h0 : (y 0).val < 2 := (y 0).isLt
  rw [vafter_10]
  blk_simp [ckOut, ckArr, idx t]
  rw [pairAt_eq t (by omega), show (t.val * 2 + (y 0).val) % 2 = (y 0).val by omega]

/-- Only the packed operands' array is shared, by windows that are read. -/
theorem left_at (w : Fin cfg0.W) :
    Pipeline.withArrays spec0 c (V0 m c) (fun w => (vals m 0 c).arrAt w (cfgs 0).N) (Proc.devRef .tc (Pipeline.arrRef spec0 w)) = (vals m 0 c).arrAt w (cfgs 0).N := by
  refine Pipeline.withArrays_arr_shared (Val := Elt Ideal) spec0 c (V0 m c) _ (fun w w' hw e => ?_) w
  have hin : (cfg0.win w).isOut = false :=
    (by decide +kernel : ∀ w w' : Fin cfg0.W, w ≠ w' → Pipeline.arrRef spec0 w = Pipeline.arrRef spec0 w' → (cfg0.win w).isOut = false) w w' hw e
  exact ((vals m 0 c).arrAt_in w hin _).trans (vA_eq m c w)

theorem tail_59 : Pipeline.afterTail₀ cfgs (vals m) 0 (V0 m) [hostOps1] c main_v59 = qArr m c := by
  have h := (left_at m c 6).trans (arr_6 m c)
  unfold Pipeline.afterTail₀
  rw [List.flatten_cons, List.flatten_nil, List.append_nil]
  generalize Pipeline.withArrays _ c (V0 m c) _ = W at h ⊢
  after_results
  exact h
theorem tail_60 : Pipeline.afterTail₀ cfgs (vals m) 0 (V0 m) [hostOps1] c main_v60 = kArr m c := by
  have h := (left_at m c 7).trans (arr_7 m c)
  unfold Pipeline.afterTail₀
  rw [List.flatten_cons, List.flatten_nil, List.append_nil]
  generalize Pipeline.withArrays _ c (V0 m c) _ = W at h ⊢
  after_results
  exact h
theorem tail_61 : Pipeline.afterTail₀ cfgs (vals m) 0 (V0 m) [hostOps1] c main_v61 = vArr m c := by
  have h := (left_at m c 8).trans (arr_8 m c)
  unfold Pipeline.afterTail₀
  rw [List.flatten_cons, List.flatten_nil, List.append_nil]
  generalize Pipeline.withArrays _ c (V0 m c) _ = W at h ⊢
  after_results
  exact h
theorem tail_62 (x : Fin 4096) (h : Fin 8) : (Pipeline.afterTail₀ cfgs (vals m) 0 (V0 m) [hostOps1] c main_v62 : FVec Ideal S4096x8 .f32) (ix2 x h)
    = cqTo m c 4 x h + (ins m c (pairAt (h.val / 2))).dck (fun _ _ => 4096) (h.val % 2) x := by
  have h9 := (left_at m c 9).trans (arr_9 m c)
  have h10 := (left_at m c 10).trans (arr_10 m c)
  unfold Pipeline.afterTail₀
  rw [List.flatten_cons, List.flatten_nil, List.append_nil]
  generalize Pipeline.withArrays _ c (V0 m c) _ = W at h9 h10 ⊢
  after_results
  have e : ∀ (A : FVec Ideal S4096x128 .f32) (B : FVec Ideal S8x1x4096 .f32),
      (transpose S4096x8 [1, 0] (addf (transpose S8x4096 [1, 0] (extractStridedSlice S4096x8 ![0, 0] A slices_S4096x128_S4096x8_0_0) transposes_S4096x8_S8x4096_1_0)
        (shapeCast S8x4096 B shapeCasts_S8x1x4096_S8x4096)) transposes_S8x4096_S4096x8_1_0 : FVec Ideal S4096x8 .f32) (ix2 x h)
      = A (ix2 x ⟨h.val, by omega⟩) + B (ix3 h 0 x) := by
    intro A B
    pointwise
  refine (e (W (Proc.devRef .tc main_v54_3)) (W (Proc.devRef .tc main_v54_4))).trans ?_
  exact congrArg₂ (· + ·) (congrFun h9 _) (congrFun h10 _)
end Cert.Proof.Fox
end
-- ==== Proof.Fox.Real.lean ====
module

public import proofs.«01_k».proof.Proof.Fox.Weights

/-! The attention's gradient over the reals, and a pair of heads' block when its operands are real. -/

@[expose] public section
set_option maxRecDepth 16384
noncomputable section
namespace Cert.Proof.Fox
open Idealize.ShloMosaic Idealize.ShloMosaic.TcCoe Idealize.SL.Sem

/-- Real arguments: queries, keys, values and cotangents by position and column, the gate's sum by position and head. -/
structure Reals where
  q : ℕ → ℕ → ℝ
  k : ℕ → ℕ → ℝ
  v : ℕ → ℕ → ℝ
  o : ℕ → ℕ → ℝ
  c : ℕ → ℕ → ℝ

namespace Reals
variable (R : Reals)

/-- The score, without the query's offset, which the softmax does not see. -/
def dot (h x y : ℕ) : ℝ := ∑ d : Fin 64, R.q x (64 * h + d) * R.k y (64 * h + d)
def z (h x y : ℕ) : ℝ := R.dot h x y * 8⁻¹ - R.c y h
/-- The row's sum of exponentials, and the weight. -/
def l (h x : ℕ) (μ : ℝ) : ℝ := ∑ j ∈ Finset.range 4096, if j ≤ x then Real.exp (R.z h x j - μ) else 0
def p (h x y : ℕ) : ℝ := if y ≤ x then Real.exp (R.z h x y) / R.l h x 0 else 0
/-- The weight's cotangent, the row's sum, the score's cotangent. -/
def dp (h x y : ℕ) : ℝ := ∑ d : Fin 64, R.o x (64 * h + d) * R.v y (64 * h + d)
def e (h x : ℕ) : ℝ := ∑ j ∈ Finset.range 4096, R.dp h x j * R.p h x j
def ds (h x y : ℕ) : ℝ := R.p h x y * (R.dp h x y - R.e h x)
/-- The four gradients. -/
def gq (x y : ℕ) : ℝ := (∑ j ∈ Finset.range 4096, R.ds (y / 64) x j * R.k j y) * 8⁻¹
def gk (x y : ℕ) : ℝ := (∑ j ∈ Finset.range 4096, R.q j y * R.ds (y / 64) j x) * 8⁻¹
def gv (x y : ℕ) : ℝ := ∑ j ∈ Finset.range 4096, R.o j y * R.p (y / 64) j x
def gc (x h : ℕ) : ℝ := (∑ j ∈ Finset.range 4096, R.ds h x j) + ∑ j ∈ Finset.range 4096, -R.ds h j x

theorem l_pos (h : ℕ) {x : ℕ} (hx : x < 4096) (μ : ℝ) : 0 < R.l h x μ := by
  refine Finset.sum_pos' (fun j _ => ?_) ⟨x, Finset.mem_range.2 hx, ?_⟩
  · split_ifs
    · positivity
    · exact le_refl _
  · rw [if_pos (le_refl x)]
    positivity

theorem l_shift (h x : ℕ) (μ : ℝ) : R.l h x μ = R.l h x 0 * Real.exp (-μ) := by
  unfold l
  rw [Finset.sum_mul]
  refine Finset.sum_congr rfl fun j _ => ?_
  rw [ite_mul, zero_mul, ← Real.exp_add]
  congr 2
  ring_nf

/-- The weight from scores less any number. -/
theorem p_shift (h : ℕ) {x y : ℕ} (hy : y ≤ x) (μ : ℝ) : Real.exp (R.z h x y - μ) / R.l h x μ = R.p h x y := by
  rw [l_shift, p, if_pos hy, sub_eq_add_neg, Real.exp_add, mul_div_mul_right _ _ (Real.exp_ne_zero _)]

/-- The row's sum is the cotangent's product with the output. -/
theorem e_out (h x : ℕ) : R.e h x = ∑ d : Fin 64, R.o x (64 * h + d) * ∑ j ∈ Finset.range 4096, R.v j (64 * h + d) * R.p h x j := by
  unfold e dp
  simp only [Finset.sum_mul, Finset.mul_sum]
  rw [Finset.sum_comm]
  refine Finset.sum_congr rfl fun d _ => Finset.sum_congr rfl fun j _ => ?_
  ring

/-- The base-two power of a score times `1 / log 2`, less the row's logarithm, is the weight. -/
theorem p_pow (h : ℕ) {x y : ℕ} (hy : y ≤ x) (hx : x < 4096) (μ : ℝ) :
    Real.rpow 2 (R.dot h x y * (8⁻¹ * (Real.log 2)⁻¹) + -((μ + Real.log (R.l h x μ)) * (Real.log 2)⁻¹) - R.c y h * (Real.log 2)⁻¹) = R.p h x y := by
  have h2 : Real.log 2 ≠ 0 := Real.log_ne_zero_of_pos_of_ne_one (by norm_num) (by norm_num)
  show (2 : ℝ) ^ (_ : ℝ) = _
  rw [Real.rpow_def_of_pos (by norm_num : (0 : ℝ) < 2), ← R.p_shift h hy μ,
    show Real.log 2 * (R.dot h x y * (8⁻¹ * (Real.log 2)⁻¹) + -((μ + Real.log (R.l h x μ)) * (Real.log 2)⁻¹) - R.c y h * (Real.log 2)⁻¹)
      = (R.z h x y - μ) - Real.log (R.l h x μ) by unfold z; field_simp; ring,
    Real.exp_sub, Real.exp_log (R.l_pos h hx μ)]
end Reals

/-- A lane of a real is real; the sum over all lanes is the sum over the head's. -/
theorem hd_coe (h l : ℕ) (r : ℝ) : Ins.hd h l (r : EReal) = ((if l / 64 = h then r else 0 : ℝ) : EReal) := by
  unfold Ins.hd
  split_ifs <;> simp
theorem head_sum {h : ℕ} (hh : h < 2) (f : ℕ → ℝ) : (∑ l : Fin 128, if (l : ℕ) / 64 = h then f l else 0) = ∑ d : Fin 64, f (64 * h + d) := by
  rw [Fin.sum_univ_tiles 2 64 rfl (fun l : Fin 128 => if (l : ℕ) / 64 = h then f l else 0), Fin.sum_univ_two]
  have e : ∀ (a : Fin 2) (d : Fin 64), (a.val * 64 + d.val) / 64 = a.val := fun a d => by omega
  simp only [e]
  interval_cases h
  · simp [Finset.sum_const_zero]
  · simp [Finset.sum_const_zero]

/-- A pair's operands, when they are real: the pair's columns and heads of the arguments. -/
structure IsReal (M : Ins) (R : Reals) (t : ℕ) (μ : ℕ → ℕ → ℝ) : Prop where
  Q : ∀ x l, x < 4096 → l < 128 → M.Q x l = ((R.q x (128 * t + l) * (8⁻¹ * (Real.log 2)⁻¹) : ℝ) : EReal)
  K : ∀ x l, x < 4096 → l < 128 → M.K x l = (R.k x (128 * t + l) : EReal)
  V : ∀ x l, x < 4096 → l < 128 → M.V x l = (R.v x (128 * t + l) : EReal)
  O : ∀ x l, x < 4096 → l < 128 → M.O x l = (R.o x (128 * t + l) : EReal)
  A : ∀ h x, h < 2 → x < 4096 → M.A h x = ((-((μ (2 * t + h) x + Real.log (R.l (2 * t + h) x (μ (2 * t + h) x))) * (Real.log 2)⁻¹) : ℝ) : EReal)
  D : ∀ h x, h < 2 → x < 4096 → M.D h x = (R.e (2 * t + h) x : EReal)
  C : ∀ h x, h < 2 → x < 4096 → M.C h x = ((R.c x (2 * t + h) * (Real.log 2)⁻¹ : ℝ) : EReal)

namespace IsReal
variable {M : Ins} {R : Reals} {t : ℕ} {μ : ℕ → ℕ → ℝ} (I : IsReal M R t μ)
include I

theorem pr {h x y : ℕ} (hh : h < 2) (hx : x < 4096) (hy : y < 4096) : M.pr h x y = (R.p (2 * t + h) x y : EReal) := by
  by_cases hk : y ≤ x
  · rw [M.pr_le hk, Ins.sc, I.A h x hh hx, I.C h y hh hy]
    have e : (∑ l : Fin 128, Ins.hd h l (M.Q x l) * M.K y l) = ((R.dot (2 * t + h) x y * (8⁻¹ * (Real.log 2)⁻¹) : ℝ) : EReal) := by
      rw [Finset.sum_congr rfl (fun (l : Fin 128) _ => show Ins.hd h l (M.Q x l) * M.K y l
        = (((if (l : ℕ) / 64 = h then R.q x (128 * t + l) * R.k y (128 * t + l) * (8⁻¹ * (Real.log 2)⁻¹) else 0 : ℝ)) : EReal) by
          rw [I.Q x l hx l.isLt, I.K y l hy l.isLt, hd_coe, ← EReal.coe_mul, ite_mul, zero_mul]
          congr 2
          ring), ← coe_sum, head_sum hh (fun l => R.q x (128 * t + l) * R.k y (128 * t + l) * (8⁻¹ * (Real.log 2)⁻¹)), ← Finset.sum_mul]
      simp only [Reals.dot, show ∀ d : ℕ, 128 * t + (64 * h + d) = 64 * (2 * t + h) + d from fun d => by omega]
    rw [e, ← EReal.coe_add, ← EReal.coe_sub, Ideal.exp2_coe, R.p_pow _ hk hx]
  · rw [M.pr_gt (by omega), Reals.p, if_neg hk, EReal.coe_zero]

theorem ds {h x y : ℕ} (hh : h < 2) (hx : x < 4096) (hy : y < 4096) : M.ds h x y = (R.ds (2 * t + h) x y : EReal) := by
  have e : (∑ l : Fin 128, Ins.hd h l (M.O x l) * M.V y l) = (R.dp (2 * t + h) x y : EReal) := by
    rw [Finset.sum_congr rfl (fun (l : Fin 128) _ => show Ins.hd h l (M.O x l) * M.V y l
      = (((if (l : ℕ) / 64 = h then R.o x (128 * t + l) * R.v y (128 * t + l) else 0 : ℝ)) : EReal) by
        rw [I.O x l hx l.isLt, I.V y l hy l.isLt, hd_coe, ← EReal.coe_mul, ite_mul, zero_mul]), ← coe_sum,
      head_sum hh (fun l => R.o x (128 * t + l) * R.v y (128 * t + l))]
    simp only [Reals.dp, show ∀ d : ℕ, 128 * t + (64 * h + d) = 64 * (2 * t + h) + d from fun d => by omega]
  rw [Ins.ds, I.pr hh hx hy, Ins.dw, e, I.D h x hh hx, ← EReal.coe_sub, ← EReal.coe_mul, Reals.ds]

theorem gv {x l : ℕ} (hx : x < 4096) (hl : l < 128) : M.dvt (fun _ _ => 4096) l x = (R.gv x (128 * t + l) : EReal) := by
  rw [Ins.dvt, Reals.gv, coe_sum]
  refine Finset.sum_congr rfl fun j hj => ?_
  rw [Finset.mem_range] at hj
  rw [I.O j l hj hl, I.pr (by omega) hj hx, ← EReal.coe_mul, show (128 * t + l) / 64 = 2 * t + l / 64 by omega]

theorem gk {x l : ℕ} (hx : x < 4096) (hl : l < 128) : M.dkt (fun _ _ => 4096) l x * ((Real.log 2 : ℝ) : EReal) = (R.gk x (128 * t + l) : EReal) := by
  have h2 : Real.log 2 ≠ 0 := Real.log_ne_zero_of_pos_of_ne_one (by norm_num) (by norm_num)
  have e : M.dkt (fun _ _ => 4096) l x = (∑ j ∈ Finset.range 4096, R.q j (128 * t + l) * (8⁻¹ * (Real.log 2)⁻¹) * R.ds (2 * t + l / 64) j x : ℝ) := by
    rw [Ins.dkt, coe_sum]
    refine Finset.sum_congr rfl fun j hj => ?_
    rw [Finset.mem_range] at hj
    rw [I.Q j l hj hl, I.ds (by omega) hj hx, ← EReal.coe_mul]
  rw [e, ← EReal.coe_mul, Reals.gk, Finset.sum_mul, Finset.sum_mul, show (128 * t + l) / 64 = 2 * t + l / 64 by omega]
  congr 1
  refine Finset.sum_congr rfl fun j _ => ?_
  field_simp

theorem gq {x l : ℕ} (hx : x < 4096) (hl : l < 128) :
    ((∑ k ∈ Finset.range 4096, M.ds 0 x k * Ins.hd 0 l (M.K k l)) + ∑ k ∈ Finset.range 4096, M.ds 1 x k * Ins.hd 1 l (M.K k l)) * ((8⁻¹ : ℝ) : EReal) = (R.gq x (128 * t + l) : EReal) := by
  have e : ∀ h < 2, (∑ k ∈ Finset.range 4096, M.ds h x k * Ins.hd h l (M.K k l))
      = ((if l / 64 = h then ∑ k ∈ Finset.range 4096, R.ds (2 * t + h) x k * R.k k (128 * t + l) else 0 : ℝ) : EReal) := by
    intro h hh
    rw [Finset.sum_congr rfl (fun k hk => show M.ds h x k * Ins.hd h l (M.K k l) = ((if l / 64 = h then R.ds (2 * t + h) x k * R.k k (128 * t + l) else 0 : ℝ) : EReal) by
      rw [Finset.mem_range] at hk
      rw [I.ds hh hx hk, I.K k l hk hl, hd_coe, ← EReal.coe_mul, mul_ite, mul_zero]), ← coe_sum]
    split_ifs <;> simp
  rw [e 0 (by omega), e 1 (by omega), ← EReal.coe_add, ← EReal.coe_mul, Reals.gq, show (128 * t + l) / 64 = 2 * t + l / 64 by omega]
  have h : l / 64 = 0 ∨ l / 64 = 1 := by omega
  rcases h with h | h <;> simp [h]

theorem gc {h x : ℕ} (hh : h < 2) (hx : x < 4096) :
    (∑ k ∈ Finset.range 4096, M.ds h x k) + M.dck (fun _ _ => 4096) h x = (R.gc x (2 * t + h) : EReal) := by
  rw [Ins.dck, Reals.gc, EReal.coe_add, coe_sum, coe_sum]
  refine congrArg₂ (· + ·) (Finset.sum_congr rfl fun j hj => ?_) (Finset.sum_congr rfl fun j hj => ?_) <;> rw [Finset.mem_range] at hj
  · exact I.ds hh hx hj
  · rw [I.ds hh hj hx, EReal.coe_neg]
end IsReal
end Cert.Proof.Fox
end
-- ==== Proof.Fox.Entry.lean ====
module

public import proofs.«01_k».proof.Proof.Fox.Arrays
public import proofs.«01_k».proof.Proof.Fox.Real

/-! The host lines before the call at one entry. -/

@[expose] public section
set_option maxRecDepth 16384
noncomputable section
namespace Cert.Proof.Fox
open Idealize.ShloMosaic Idealize.ShloMosaic.TcCoe Idealize.SL.Sem
open Cert.FoxIdeal Cert.FoxIdeal.Gen

theorem bits_2 : Ideal.ofBits FTy.f32 0x40000000#32 = ((2 : ℝ) : EReal) := by
  simp [Ideal.ofBits, Ideal.ieee]
  rw [← EReal.coe_mul]
  norm_num
theorem bits_8 : Ideal.ofBits FTy.f32 0x3E000000#32 = ((8⁻¹ : ℝ) : EReal) := by
  simp [Ideal.ofBits, Ideal.ieee]
  rw [← EReal.coe_mul]
  norm_num
theorem bits_bot : Ideal.ofBits FTy.f32 0xFF800000#32 = ⊥ := by
  simp [Ideal.ofBits, Ideal.ieee]

theorem hLog2e_at (i : S_.Idx) : hLog2e i = (((Real.log 2)⁻¹ : ℝ) : EReal) := by
  have h2 : Real.log 2 ≠ 0 := Real.log_ne_zero_of_pos_of_ne_one (by norm_num) (by norm_num)
  pointwise [hLog2e]
  rw [bits_2, Ideal.log_coe, if_neg (by norm_num), Ideal.div_coe h2, one_mul, one_div]

theorem hQkv_q (q k v : FVec Ideal S4096x512 .f32) (x : Fin 4096) (n : ℕ) (hn : n < 512) :
    hQkv q k v (ix2 x ⟨n, by omega⟩) = q (ix2 x ⟨n, hn⟩) * (((8⁻¹ * (Real.log 2)⁻¹ : ℝ)) : EReal) := by
  pointwise [hQkv]
  rw [dif_pos hn, hLog2e_at, bits_8, ← EReal.coe_mul]
theorem hQkv_k (q k v : FVec Ideal S4096x512 .f32) (x : Fin 4096) (n : ℕ) (hn : n < 512) :
    hQkv q k v (ix2 x ⟨512 + n, by omega⟩) = k (ix2 x ⟨n, hn⟩) := by
  pointwise [hQkv]
  rw [dif_pos hn]
theorem hQkv_v (q k v : FVec Ideal S4096x512 .f32) (x : Fin 4096) (n : ℕ) (hn : n < 512) :
    hQkv q k v (ix2 x ⟨1024 + n, by omega⟩) = v (ix2 x ⟨n, hn⟩) := by
  pointwise [hQkv]
  rw [dif_neg (by omega), dif_neg (by omega)]
  exact congrArg (fun l => v (ix2 x l)) (Fin.ext (by show 1024 + n - 512 - 512 = n; omega))
theorem hS_at (q k : FVec Ideal S4096x512 .f32) (w : FVec Ideal S4096x8 .f32) (h : Fin 8) (x y : Fin 4096) :
    hS q k w (ix3 h x y) = if y.val ≤ x.val then (∑ d : Fin 64, q (ix2 x ⟨h.val * 64 + d.val, by omega⟩) * k (ix2 y ⟨h.val * 64 + d.val, by omega⟩)) * ((8⁻¹ : ℝ) : EReal) - w (ix2 y h) else ⊥ := by
  pointwise [hS]
  simp (disch := word_cmp_side) only [hlo_ix]
  rw [bits_8, bits_bot]
theorem hM_at (s : FVec Ideal S8x4096x4096 .f32) (h : Fin 8) (x : Fin 4096) : hM s (ix2 h x) = Finset.univ.fold max ⊥ fun y : Fin 4096 => s (ix3 h x y) := by
  pointwise [hM]
  rw [bits_bot]
theorem hE_at (s : FVec Ideal S8x4096x4096 .f32) (h : Fin 8) (x y : Fin 4096) : hE s (ix3 h x y) = Ideal.exp (s (ix3 h x y) - hM s (ix2 h x)) := by
  pointwise [hE]
theorem hL_at (s : FVec Ideal S8x4096x4096 .f32) (h : Fin 8) (x : Fin 4096) : hL s (ix2 h x) = ∑ y : Fin 4096, hE s (ix3 h x y) := by
  pointwise [hL]
theorem hOff_at (m l : FVec Ideal S8x4096 .f32) (h : Fin 8) (x : Fin 4096) :
    hOff m l (ix2 x h) = -((m (ix2 h x) + Ideal.log (l (ix2 h x))) * (((Real.log 2)⁻¹ : ℝ) : EReal)) := by
  pointwise [hOff]
  rw [hLog2e_at]
theorem hP_at (s : FVec Ideal S8x4096x4096 .f32) (h : Fin 8) (x y : Fin 4096) : hP s (ix3 h x y) = Ideal.div (hE s (ix3 h x y)) (hL s (ix2 h x)) := by
  pointwise [hP]
theorem hO_at (v : FVec Ideal S4096x512 .f32) (p : FVec Ideal S8x4096x4096 .f32) (h : Fin 8) (d : Fin 64) (x : Fin 4096) :
    hO v p (ix3 h d x) = ∑ y : Fin 4096, v (ix2 y ⟨h.val * 64 + d.val, by omega⟩) * p (ix3 h x y) := by
  pointwise [hO]
theorem hSum_at (o : FVec Ideal S4096x512 .f32) (w : FVec Ideal S8x64x4096 .f32) (h : Fin 8) (x : Fin 4096) :
    hSum o w (ix2 x h) = ∑ d : Fin 64, o (ix2 x ⟨h.val * 64 + d.val, by omega⟩) * w (ix3 h d x) := by
  pointwise [hSum]
theorem hPack_a (a d : FVec Ideal S4096x8 .f32) (x : Fin 4096) (n : ℕ) (hn : n < 8) : hPack a d (ix2 x ⟨n, by omega⟩) = a (ix2 x ⟨n, hn⟩) := by
  pointwise [hPack]
  rw [dif_pos hn]
theorem hPack_d (a d : FVec Ideal S4096x8 .f32) (x : Fin 4096) (n : ℕ) (hn : n < 8) : hPack a d (ix2 x ⟨8 + n, by omega⟩) = d (ix2 x ⟨n, hn⟩) := by
  pointwise [hPack]
  rw [dif_pos hn]
theorem hPack_z (a d : FVec Ideal S4096x8 .f32) (x : Fin 4096) (n : Fin 128) (hn : 16 ≤ n.val) : hPack a d (ix2 x n) = 0 := by
  pointwise [hPack]
  rw [dif_neg (by omega), dif_neg (by omega)]
theorem hC2_at (w : FVec Ideal S4096x8 .f32) (h : Fin 8) (x : Fin 4096) : hC2 w (ix3 h 0 x) = w (ix2 x h) * (((Real.log 2)⁻¹ : ℝ) : EReal) := by
  pointwise [hC2]
  rw [hLog2e_at]
end Cert.Proof.Fox
end
-- ==== Proof.Fox.Soft.lean ====
module

public import proofs.«01_k».proof.Proof.Fox.Real

/-! A row's softmax over the extended reals, from real scores and a mask of minus infinities. -/

@[expose] public section
set_option maxRecDepth 16384
noncomputable section
namespace Cert.Proof.Fox
open Idealize.ShloMosaic Idealize.ShloMosaic.TcCoe Idealize.SL.Sem

/-- The greatest of real numbers and minus infinities is real when one of them is. -/
theorem fold_real {n : ℕ} (f : Fin n → EReal) (hf : ∀ i, f i = ⊥ ∨ ∃ r : ℝ, f i = r) (i₀ : Fin n) (h₀ : f i₀ ≠ ⊥) :
    ∃ r : ℝ, Finset.univ.fold max ⊥ f = r := by
  obtain ⟨k, -, hk⟩ := Finset.exists_mem_eq_sup Finset.univ ⟨i₀, Finset.mem_univ _⟩ f
  have e : Finset.univ.fold max ⊥ f = f k := hk
  rw [e]
  rcases hf k with h | h
  · have : f i₀ ≤ Finset.univ.sup f := Finset.le_sup (Finset.mem_univ i₀)
    rw [hk, h, le_bot_iff] at this
    exact absurd this h₀
  · exact h

namespace Reals
variable (R : Reals)

theorem l_fin (h x : ℕ) (μ : ℝ) : (∑ y : Fin 4096, ((if y.val ≤ x then Real.exp (R.z h x y - μ) else 0 : ℝ) : EReal)) = (R.l h x μ : EReal) := by
  rw [← coe_sum, Fin.sum_univ_eq_sum_range (fun y => if y ≤ x then Real.exp (R.z h x y - μ) else 0) 4096, l]

/-- A row of scores, each with the same number added: its greatest, its exponentials and their sum. -/
theorem soft (h : ℕ) (x : Fin 4096) (a : ℝ) (f : Fin 4096 → EReal) (hf : ∀ y, f y = if y.val ≤ x.val then ((R.z h x y + a : ℝ) : EReal) else ⊥) :
    ∃ μ : ℝ, Finset.univ.fold max ⊥ f = ((μ + a : ℝ) : EReal) ∧ (∀ y, Ideal.exp (f y - ((μ + a : ℝ) : EReal)) = ((if y.val ≤ x.val then Real.exp (R.z h x y - μ) else 0 : ℝ) : EReal)) := by
  obtain ⟨r, hr⟩ := fold_real f (fun y => by
    rw [hf]
    split_ifs
    · exact Or.inr ⟨_, rfl⟩
    · exact Or.inl rfl) x (by rw [hf, if_pos (le_refl _)]; exact EReal.coe_ne_bot _)
  refine ⟨r - a, by rw [hr, sub_add_cancel], fun y => ?_⟩
  rw [hf, sub_add_cancel]
  split_ifs
  · rw [← EReal.coe_sub, Ideal.exp_coe]
    congr 2
    ring
  · rw [EReal.bot_sub, Ideal.exp_bot, EReal.coe_zero]

/-- A weight: the exponential over the sum. -/
theorem weight (h : ℕ) (x y : Fin 4096) (μ : ℝ) :
    Ideal.div ((if y.val ≤ x.val then Real.exp (R.z h x y - μ) else 0 : ℝ) : EReal) (R.l h x μ : EReal) = (R.p h x y : EReal) := by
  rw [Ideal.div_coe (R.l_pos h x.isLt μ).ne', ← EReal.coe_mul, mul_one_div]
  split_ifs with hy
  · rw [R.p_shift h hy]
  · rw [zero_div, p, if_neg hy]
end Reals
end Cert.Proof.Fox
end
-- ==== Proof.Fox.Operands.lean ====
module

public import proofs.«01_k».proof.Proof.Fox.Entry
public import proofs.«01_k».proof.Proof.Fox.Soft

/-! The pairs' operands from real arguments. -/

@[expose] public section
set_option maxRecDepth 16384
noncomputable section
namespace Cert.Proof.Fox
open Idealize.ShloMosaic Idealize.ShloMosaic.TcCoe Idealize.SL.Sem
open Cert.FoxIdeal Cert.FoxIdeal.Gen

/-- The arguments as reals. -/
def realsOf (q k v o : FVec Ideal S4096x512 .f32) (w : FVec Ideal S4096x8 .f32) : Reals where
  q x y := (q (ix2 (Fin.ofNat 4096 x) (Fin.ofNat 512 y))).toReal
  k x y := (k (ix2 (Fin.ofNat 4096 x) (Fin.ofNat 512 y))).toReal
  v x y := (v (ix2 (Fin.ofNat 4096 x) (Fin.ofNat 512 y))).toReal
  o x y := (o (ix2 (Fin.ofNat 4096 x) (Fin.ofNat 512 y))).toReal
  c x h := (w (ix2 (Fin.ofNat 4096 x) (Fin.ofNat 8 h))).toReal

/-- An array of reals. -/
def Finite {s : Shape} {φ : FTy} (v : FVec Ideal s φ) : Prop := ∀ i, ∃ r : ℝ, v i = (r : EReal)

theorem ofNat_val {n : ℕ} [NeZero n] (x : Fin n) : Fin.ofNat n x.val = x := Fin.ext (Nat.mod_eq_of_lt x.isLt)

theorem real_at {a b : ℕ} [NeZero a] [NeZero b] {φ : FTy} {v : FVec Ideal ⟨2, ![a, b]⟩ φ} (hv : Finite v) (x : Fin a) (y : Fin b) :
    v (ix2 x y) = (((v (ix2 (Fin.ofNat a x) (Fin.ofNat b y)) : EReal).toReal : ℝ) : EReal) := by
  obtain ⟨r, hr⟩ := hv (ix2 x y)
  rw [ofNat_val, ofNat_val, hr, EReal.toReal_coe]

section
variable {q k v o : FVec Ideal S4096x512 .f32} {w : FVec Ideal S4096x8 .f32} (hq : Finite q) (hk : Finite k) (hv : Finite v) (ho : Finite o) (hw : Finite w)

include hq hk hw in
theorem scores (h : Fin 8) (x y : Fin 4096) : hS q k w (ix3 h x y) = if y.val ≤ x.val then (((realsOf q k v o w).z h x y + 0 : ℝ) : EReal) else ⊥ := by
  rw [hS_at]
  refine if_congr Iff.rfl ?_ rfl
  simp only [fun d : Fin 64 => real_at hq x ⟨h.val * 64 + d.val, by omega⟩, fun d : Fin 64 => real_at hk y ⟨h.val * 64 + d.val, by omega⟩, real_at hw y h, ← EReal.coe_mul]
  rw [← coe_sum, ← EReal.coe_mul, ← EReal.coe_sub, add_zero]
  simp only [Reals.z, Reals.dot, realsOf, mul_comm 64 h.val]

include hq hk hw in
theorem stages : ∃ μ : ℕ → ℕ → ℝ, ∀ (h : Fin 8) (x : Fin 4096), hM (hS q k w) (ix2 h x) = (μ h x : EReal)
    ∧ (∀ y : Fin 4096, hE (hS q k w) (ix3 h x y) = ((if y.val ≤ x.val then Real.exp ((realsOf q k v o w).z h x y - μ h x) else 0 : ℝ) : EReal))
    ∧ hL (hS q k w) (ix2 h x) = ((realsOf q k v o w).l h x (μ h x) : EReal) := by
  have H : ∀ (h : Fin 8) (x : Fin 4096), ∃ μ : ℝ, hM (hS q k w) (ix2 h x) = (μ : EReal)
      ∧ (∀ y : Fin 4096, hE (hS q k w) (ix3 h x y) = ((if y.val ≤ x.val then Real.exp ((realsOf q k v o w).z h x y - μ) else 0 : ℝ) : EReal)) := by
    intro h x
    obtain ⟨μ, h1, h2⟩ := (realsOf q k v o w).soft h x 0 (fun y => hS q k w (ix3 h x y)) (scores (v := v) (o := o) hq hk hw h x)
    rw [add_zero] at h1 h2
    refine ⟨μ, (hM_at _ h x).trans h1, fun y => ?_⟩
    rw [hE_at, hM_at, h1]
    exact h2 y
  choose μ h1 h2 using H
  refine ⟨fun h x => μ (Fin.ofNat 8 h) (Fin.ofNat 4096 x), fun h x => ?_⟩
  simp only [ofNat_val]
  refine ⟨h1 h x, h2 h x, ?_⟩
  rw [hL_at, Finset.sum_congr rfl fun y _ => h2 h x y, Reals.l_fin]

include hv ho in
theorem rowsum {p : FVec Ideal S8x4096x4096 .f32} (hp : ∀ (h : Fin 8) (x y : Fin 4096), p (ix3 h x y) = ((realsOf q k v o w).p h x y : EReal)) (h : Fin 8) (x : Fin 4096) :
    hSum o (hO v p) (ix2 x h) = ((realsOf q k v o w).e h x : EReal) := by
  rw [hSum_at, Reals.e_out, coe_sum]
  refine Finset.sum_congr rfl fun d _ => ?_
  rw [hO_at, real_at ho x ⟨h.val * 64 + d.val, by omega⟩, EReal.coe_mul, ← Fin.sum_univ_eq_sum_range (fun j => (realsOf q k v o w).v j (64 * h + d) * (realsOf q k v o w).p h x j) 4096, coe_sum]
  refine congrArg₂ (· * ·) (by simp only [realsOf, mul_comm 64 h.val]) (Finset.sum_congr rfl fun y _ => ?_)
  rw [hp, real_at hv y ⟨h.val * 64 + d.val, by omega⟩, ← EReal.coe_mul]
  simp only [realsOf, mul_comm 64 h.val]
end
end Cert.Proof.Fox
end
-- ==== Proof.Fox.Inputs.lean ====
module

public import proofs.«01_k».proof.Proof.Fox.Operands
public import proofs.«01_k».proof.Proof.Fox.Arrays

/-! The call's results from real arguments. -/

@[expose] public section
set_option maxRecDepth 16384
noncomputable section
namespace Cert.Proof.Fox
open Idealize.ShloMosaic Idealize.ShloMosaic.TcCoe Idealize.SL.Sem
open Cert.FoxIdeal Cert.FoxIdeal.Gen

/-- A real number among the extended reals, -/
def IsR (x : EReal) : Prop := ∃ r : ℝ, x = (r : EReal)
/-- closed under sums, products, differences and powers of two. -/
theorem IsR.add {x y : EReal} : IsR x → IsR y → IsR (x + y) := by rintro ⟨a, rfl⟩ ⟨b, rfl⟩; exact ⟨a + b, rfl⟩
theorem IsR.sub {x y : EReal} : IsR x → IsR y → IsR (x - y) := by rintro ⟨a, rfl⟩ ⟨b, rfl⟩; exact ⟨a - b, rfl⟩
theorem IsR.mul {x y : EReal} : IsR x → IsR y → IsR (x * y) := by rintro ⟨a, rfl⟩ ⟨b, rfl⟩; exact ⟨a * b, rfl⟩
theorem IsR.exp2 {x : EReal} : IsR x → IsR (Ideal.exp2 x) := by rintro ⟨a, rfl⟩; exact ⟨_, Ideal.exp2_coe a⟩
theorem IsR.sum {ι : Type} (s : Finset ι) {f : ι → EReal} (h : ∀ i, IsR (f i)) : IsR (∑ i ∈ s, f i) := by
  choose g hg using h
  exact ⟨∑ i ∈ s, g i, by rw [coe_sum]; exact Finset.sum_congr rfl fun i _ => hg i⟩
theorem IsR.zero : IsR 0 := ⟨0, rfl⟩
theorem IsR.hd {x : EReal} (h l : ℕ) (hx : IsR x) : IsR (Ins.hd h l x) := by
  unfold Ins.hd
  split_ifs
  · exact hx
  · exact IsR.zero

/-- A score's cotangent of real operands is real. -/
theorem Ins.ds_isR (M : Ins) (hQ : ∀ x l, IsR (M.Q x l)) (hK : ∀ x l, IsR (M.K x l)) (hV : ∀ x l, IsR (M.V x l)) (hO : ∀ x l, IsR (M.O x l))
    (hA : ∀ h x, IsR (M.A h x)) (hD : ∀ h x, IsR (M.D h x)) (hC : ∀ h x, IsR (M.C h x)) (h q k : ℕ) : IsR (M.ds h q k) := by
  refine IsR.mul ?_ ((IsR.sum _ fun l => ((hO _ _).hd _ _).mul (hV _ _)).sub (hD _ _))
  unfold Ins.pr
  split_ifs
  · exact (((IsR.sum _ fun l => ((hQ _ _).hd _ _).mul (hK _ _)).add (hA _ _)).sub (hC _ _)).exp2
  · exact IsR.zero

theorem fin_nat {n : ℕ} [NeZero n] {x : ℕ} (h : x < n) : Fin.ofNat n x = ⟨x, h⟩ := Fin.ext (Nat.mod_eq_of_lt h)

variable (m : (ℓ : Loc nD τ sig) → Buf (Elt Ideal) ℓ) (c : Dev nD)

/-- The arguments are real. -/
structure Args : Prop where
  q : Finite (s := S4096x512) (φ := .f32) (m (c.tc.loc main_arg0))
  k : Finite (s := S4096x512) (φ := .f32) (m (c.tc.loc main_arg1))
  v : Finite (s := S4096x512) (φ := .f32) (m (c.tc.loc main_arg2))
  o : Finite (s := S4096x512) (φ := .f32) (m (c.tc.loc main_arg4))
  w : Finite (s := S4096x8) (φ := .f32) (m (c.tc.loc main_arg3))

def R : Reals := realsOf (m (c.tc.loc main_arg0)) (m (c.tc.loc main_arg1)) (m (c.tc.loc main_arg2)) (m (c.tc.loc main_arg4)) (m (c.tc.loc main_arg3))

variable {m c}
section
variable (A : Args m c) (t : Fin cfg0.N)
include A

theorem in_q (x : Fin 4096) (l : Fin 128) : (iblk m c 0 t : FVec Ideal S4096x128 .bf16) (ix2 x l) = (((R m c).q x (128 * t + l) * (8⁻¹ * (Real.log 2)⁻¹) : ℝ) : EReal) := by
  have ht := t.isLt
  have hN := N4
  rw [blk_0, entry_qkv, hQkv_q _ _ _ _ _ (by omega), real_at A.q, EReal.coe_mul]
  rfl
theorem in_k (x : Fin 4096) (l : Fin 128) : (iblk m c 1 t : FVec Ideal S4096x128 .bf16) (ix2 x l) = ((R m c).k x (128 * t + l) : EReal) := by
  have ht := t.isLt
  have hN := N4
  rw [blk_1, entry_qkv, show (⟨128 * (t.val + 4) + l.val, by omega⟩ : Fin 1536) = ⟨512 + (128 * t.val + l.val), by omega⟩ from Fin.ext (by dsimp only; omega), hQkv_k _ _ _ _ _ (by omega), real_at A.k]
  rfl
theorem in_v (x : Fin 4096) (l : Fin 128) : (iblk m c 2 t : FVec Ideal S4096x128 .bf16) (ix2 x l) = ((R m c).v x (128 * t + l) : EReal) := by
  have ht := t.isLt
  have hN := N4
  rw [blk_2, entry_qkv, show (⟨128 * (t.val + 8) + l.val, by omega⟩ : Fin 1536) = ⟨1024 + (128 * t.val + l.val), by omega⟩ from Fin.ext (by dsimp only; omega), hQkv_v _ _ _ _ _ (by omega), real_at A.v]
  rfl
theorem in_o (x : Fin 4096) (l : Fin 128) : (iblk m c 3 t : FVec Ideal S4096x128 .bf16) (ix2 x l) = ((R m c).o x (128 * t + l) : EReal) := by
  have ht := t.isLt
  have hN := N4
  rw [blk_3, entry_do, truncf_apply]
  exact real_at A.o _ _
theorem in_c (h : Fin 2) (x : Fin 4096) : (iblk m c 5 t : FVec Ideal S2x1x4096 .f32) (ix3 h 0 x) = (((R m c).c x (2 * t + h) * (Real.log 2)⁻¹ : ℝ) : EReal) := by
  have ht := t.isLt
  have hN := N4
  rw [blk_5, entry_c2, hC2_at, real_at A.w, EReal.coe_mul]
  rfl

omit A in
theorem packed_at (x : Fin 4096) (n : Fin 128) : packed m c t x n = (V m c main_v51 : FVec Ideal S4096x128 .f32) (ix2 x n) :=
  (blk_4 m c t _ _).trans (by rw [ofNat_val, ofNat_val])

theorem in_pack : ∃ μ : ℕ → ℕ → ℝ, ∀ t : Fin cfg0.N, ∀ x : Fin 4096,
    (∀ n < 8, packed m c t x n = ((-((μ n x + Real.log ((R m c).l n x (μ n x))) * (Real.log 2)⁻¹) : ℝ) : EReal))
    ∧ (∀ n < 8, packed m c t x (8 + n) = ((R m c).e n x : EReal))
    ∧ (∀ n : Fin 128, 16 ≤ n.val → packed m c t x n = (0 : EReal)) := by
  obtain ⟨μ, H⟩ := stages (v := m (c.tc.loc main_arg2)) (o := m (c.tc.loc main_arg4)) A.q A.k A.w
  refine ⟨μ, fun t x => ⟨fun n hn => ?_, fun n hn => ?_, fun n hn => ?_⟩⟩
  · refine (packed_at t x ⟨n, by omega⟩).trans ?_
    rw [entry_pack, hPack_a _ _ _ _ hn, hA, hOff_at]
    obtain ⟨h1, -, h3⟩ := H ⟨n, hn⟩ x
    rw [h1, h3, Ideal.log_coe, if_neg (not_le.2 (Reals.l_pos _ _ x.isLt _)), ← EReal.coe_add, ← EReal.coe_mul, ← EReal.coe_neg]
    rfl
  · refine (packed_at t x ⟨8 + n, by omega⟩).trans ?_
    rw [entry_pack, hPack_d _ _ _ _ hn, hD]
    refine rowsum A.v A.o (fun h x y => ?_) ⟨n, hn⟩ x
    obtain ⟨-, h2, h3⟩ := H h x
    rw [hP_at, h2, h3]
    exact Reals.weight _ _ _ _ _
  · rw [packed_at, entry_pack, hPack_z _ _ _ _ hn]

theorem ins_Q (x l : ℕ) : (ins m c t).Q x l = (((R m c).q (Fin.ofNat 4096 x).val (128 * t + (Fin.ofNat 128 l).val) * (8⁻¹ * (Real.log 2)⁻¹) : ℝ) : EReal) := in_q A t (Fin.ofNat 4096 x) (Fin.ofNat 128 l)
theorem ins_K (x l : ℕ) : (ins m c t).K x l = ((R m c).k (Fin.ofNat 4096 x).val (128 * t + (Fin.ofNat 128 l).val) : EReal) := in_k A t (Fin.ofNat 4096 x) (Fin.ofNat 128 l)
theorem ins_V (x l : ℕ) : (ins m c t).V x l = ((R m c).v (Fin.ofNat 4096 x).val (128 * t + (Fin.ofNat 128 l).val) : EReal) := in_v A t (Fin.ofNat 4096 x) (Fin.ofNat 128 l)
theorem ins_O (x l : ℕ) : (ins m c t).O x l = ((R m c).o (Fin.ofNat 4096 x).val (128 * t + (Fin.ofNat 128 l).val) : EReal) := in_o A t (Fin.ofNat 4096 x) (Fin.ofNat 128 l)
theorem ins_C (h x : ℕ) : (ins m c t).C h x = (((R m c).c (Fin.ofNat 4096 x).val (2 * t + (Fin.ofNat 2 h).val) * (Real.log 2)⁻¹ : ℝ) : EReal) := in_c A t (Fin.ofNat 2 h) (Fin.ofNat 4096 x)

omit A in
theorem ins_A (h x : ℕ) : (ins m c t).A h x = packed m c t x (2 * t + h) := rfl
omit A in
theorem ins_D (h x : ℕ) : (ins m c t).D h x = packed m c t x (8 + (2 * t + h)) := by
  rw [← Nat.add_assoc]
  rfl

theorem pack_nat : ∃ μ : ℕ → ℕ → ℝ, ∀ t : Fin cfg0.N, ∀ x < 4096,
    (∀ n < 8, packed m c t x n = ((-((μ n x + Real.log ((R m c).l n x (μ n x))) * (Real.log 2)⁻¹) : ℝ) : EReal))
    ∧ (∀ n < 8, packed m c t x (8 + n) = ((R m c).e n x : EReal)) := by
  obtain ⟨μ, H⟩ := in_pack A
  exact ⟨μ, fun t x hx => ⟨(H t ⟨x, hx⟩).1, (H t ⟨x, hx⟩).2.1⟩⟩

theorem isReal : ∃ μ : ℕ → ℕ → ℝ, ∀ t : Fin cfg0.N, IsReal (ins m c t) (R m c) t μ := by
  obtain ⟨μ, H⟩ := pack_nat A
  refine ⟨μ, fun t => ?_⟩
  have h8 : ∀ h < 2, 2 * t.val + h < 8 := by
    have ht := t.isLt
    have hN := N4
    omega
  constructor
  · intro x l hx hl; rw [ins_Q A, fin_nat hx, fin_nat hl]
  · intro x l hx hl; rw [ins_K A, fin_nat hx, fin_nat hl]
  · intro x l hx hl; rw [ins_V A, fin_nat hx, fin_nat hl]
  · intro x l hx hl; rw [ins_O A, fin_nat hx, fin_nat hl]
  · intro h x hh hx
    rw [ins_A, (H t x hx).1 (2 * t.val + h) (h8 h hh)]
  · intro h x hh hx
    rw [ins_D, (H t x hx).2 (2 * t.val + h) (h8 h hh)]
  · intro h x hh hx; rw [ins_C A, fin_nat hx, fin_nat hh]

omit A in
theorem packed_mod (x n : ℕ) : packed m c t x n = packed m c t (Fin.ofNat 4096 x).val (Fin.ofNat 128 n).val := by
  unfold packed
  rw [ofNat_val, ofNat_val]
theorem packed_real (x n : ℕ) : IsR (packed m c t x n) := by
  obtain ⟨μ, H⟩ := in_pack A
  rw [packed_mod]
  generalize Fin.ofNat 4096 x = x
  generalize Fin.ofNat 128 n = n
  obtain ⟨h1, h2, h3⟩ := H t x
  by_cases a : n.val < 8
  · exact ⟨_, h1 n.val a⟩
  · by_cases b : n.val < 16
    · have h := h2 (n.val - 8) (by omega)
      rw [show 8 + (n.val - 8) = n.val by omega] at h
      exact ⟨_, h⟩
    · exact ⟨0, (h3 n (by omega)).trans rfl⟩

theorem ins_fin (h q k : ℕ) : ∃ r : ℝ, (ins m c t).ds h q k = r := by
  refine Ins.ds_isR (ins m c t) ?_ ?_ ?_ ?_ ?_ ?_ ?_ h q k
  · exact fun x l => ⟨_, ins_Q A t x l⟩
  · exact fun x l => ⟨_, ins_K A t x l⟩
  · exact fun x l => ⟨_, ins_V A t x l⟩
  · exact fun x l => ⟨_, ins_O A t x l⟩
  · exact fun h x => packed_real A t x (2 * t + h)
  · exact fun h x => packed_real A t x (8 + 2 * t + h)
  · exact fun h x => ⟨_, ins_C A t h x⟩

theorem kArr_at (p : S4096x512.Idx) : kArr m c p = ((R m c).gk (p 0) (p 1) : EReal) := by
  obtain ⟨μ, I⟩ := isReal A
  have h1 := (p 1).isLt
  have e := (I (pairAt ((p 1).val / 128))).gk (p 0).isLt (Nat.mod_lt (p 1).val (by norm_num : 0 < 128))
  refine e.trans ?_
  rw [show 128 * (pairAt ((p 1).val / 128)).val + (p 1).val % 128 = (p 1).val from ?_]
  show 128 * ((p 1).val / 128 % 4) + (p 1).val % 128 = _
  have : (p 1).val < 512 := h1
  omega
theorem vArr_at (p : S4096x512.Idx) : vArr m c p = ((R m c).gv (p 0) (p 1) : EReal) := by
  obtain ⟨μ, I⟩ := isReal A
  have h1 := (p 1).isLt
  have e := (I (pairAt ((p 1).val / 128))).gv (p 0).isLt (Nat.mod_lt (p 1).val (by norm_num : 0 < 128))
  refine e.trans ?_
  rw [show 128 * (pairAt ((p 1).val / 128)).val + (p 1).val % 128 = (p 1).val from ?_]
  show 128 * ((p 1).val / 128 % 4) + (p 1).val % 128 = _
  have : (p 1).val < 512 := h1
  omega
theorem qArr_at (p : S4096x512.Idx) : qArr m c p = ((R m c).gq (p 0) (p 1) : EReal) := by
  obtain ⟨μ, I⟩ := isReal A
  have h1 := (p 1).isLt
  have e := (I (pairAt ((p 1).val / 128))).gq (p 0).isLt (Nat.mod_lt (p 1).val (by norm_num : 0 < 128))
  rw [← bits_8] at e
  refine e.trans ?_
  rw [show 128 * (pairAt ((p 1).val / 128)).val + (p 1).val % 128 = (p 1).val from ?_]
  show 128 * ((p 1).val / 128 % 4) + (p 1).val % 128 = _
  have : (p 1).val < 512 := h1
  omega
theorem cArr_at (x : Fin 4096) (h : Fin 8) : cqTo m c 4 x h + (ins m c (pairAt (h.val / 2))).dck (fun _ _ => 4096) (h.val % 2) x = ((R m c).gc x h : EReal) := by
  obtain ⟨μ, I⟩ := isReal A
  have e := (I (pairAt (h.val / 2))).gc (Nat.mod_lt h.val (by norm_num : 0 < 2)) x.isLt
  have hN := N4
  rw [show 2 * (pairAt (h.val / 2)).val + h.val % 2 = h.val from ?_] at e
  · refine Eq.trans ?_ e
    rw [cqTo, dif_pos ⟨by omega, by omega⟩, ← pairAt_eq ⟨h.val / 2, by omega⟩ rfl]
    rfl
  · show 2 * (h.val / 2 % 4) + h.val % 2 = _
    omega
end
end Cert.Proof.Fox
end
-- ==== Proof.Fox.Ref.lean ====
module

public import proofs.«01_k».proof.Proof.Fox.Operands
public import proofs.«01_k».proof.Proof.Gen.FoxRefIdeal.Read

/-! What the reference of the forgetting attention's backward computes from real arguments. -/

@[expose] public section
set_option maxRecDepth 16384
noncomputable section
namespace Cert.Proof.Fox
open Idealize.ShloMosaic Idealize.ShloMosaic.TcCoe Idealize.SL.Sem
open Cert.FoxRefIdeal Cert.FoxRefIdeal.Gen Cert.FoxRefIdeal.Read

section
variable (q k v o : FVec Ideal S4096x512 .f32) (w : FVec Ideal S4096x8 .f32)

theorem r14 (h : Fin 8) (x y : Fin 4096) : val_main_v14 (F := Ideal) q k w (ix3 h x y)
    = (∑ d : Fin 64, q (ix2 x ⟨h.val * 64 + d.val, by omega⟩) * k (ix2 y ⟨h.val * 64 + d.val, by omega⟩)) * ((8⁻¹ : ℝ) : EReal) + w (ix2 x h) - w (ix2 y h) := by
  pointwise [val_main_v14, val_main_v13, val_main_v12, val_main_v11, val_main_v10, val_main_v9, val_main_v8, val_main_v7, val_main_v6, val_main_v5, val_main_cst, val_main_v4, val_main_v1, val_main_v0]
  simp only [bits_8]
theorem r20_1 (h : Fin 8) (x y : Fin 4096) : val_main_v20_1 (F := Ideal) (ix3 h x y) = if y.val ≤ x.val then 1#1 else 0#1 := by
  pointwise [val_main_v20_1, val_main_v19, val_main_v18, val_main_v17, val_main_v16, val_main_v15, val_main_v3]
  simp (disch := word_cmp_side) only [hlo_ix]
  by_cases e : y.val ≤ x.val
  · rw [if_pos e, decide_eq_true e]; rfl
  · rw [if_neg e, decide_eq_false e]; rfl
theorem r20 (h : Fin 8) (x y : Fin 4096) : val_main_v20_0 (F := Ideal) q k w (ix3 h x y) = if y.val ≤ x.val then val_main_v14 (F := Ideal) q k w (ix3 h x y) else ⊥ := by
  rw [val_main_v20_0_apply, r20_1]
  generalize val_main_v14 (F := Ideal) q k w (ix3 h x y) = s
  rw [val_main_call0_v2_apply, show ∀ i, val_main_call0_v0 (F := Ideal) i = ⊥ from fun _ => bits_bot]
  by_cases e : y.val ≤ x.val
  · rw [if_pos e, if_pos e]; rfl
  · rw [if_neg e, if_neg e]; rfl
theorem r21 (h : Fin 8) (x : Fin 4096) : val_main_v21 (F := Ideal) q k w (ix2 h x) = Finset.univ.fold max ⊥ fun y : Fin 4096 => val_main_v20_0 (F := Ideal) q k w (ix3 h x y) := by
  unfold val_main_v21
  generalize val_main_v20_0 (F := Ideal) q k w = s
  pointwise [val_main_cst_1]
  rw [bits_bot]
theorem r28 (h : Fin 8) (x : Fin 4096) : val_main_v28 (F := Ideal) q k w (ix2 h x) = Finset.univ.fold max ⊥ fun y : Fin 4096 => val_main_v20_0 (F := Ideal) q k w (ix3 h x y) := by
  rw [← r21, val_main_v28_apply, val_main_v27_apply, show ∀ i, val_main_cst_3 (F := Ideal) i = ⊥ from fun _ => bits_bot]
  exact max_bot_left _
theorem r41 (h : Fin 8) (x y : Fin 4096) : val_main_v41 (F := Ideal) q k w (ix3 h x y) = Ideal.exp (val_main_v20_0 (F := Ideal) q k w (ix3 h x y) - val_main_v28 (F := Ideal) q k w (ix2 h x)) := by
  unfold val_main_v41 val_main_v40 val_main_v39 val_main_v38
  generalize val_main_v20_0 (F := Ideal) q k w = s
  generalize val_main_v28 (F := Ideal) q k w = μ
  pointwise
theorem r42 (h : Fin 8) (x : Fin 4096) : val_main_v42 (F := Ideal) q k w (ix2 h x) = ∑ y : Fin 4096, val_main_v41 (F := Ideal) q k w (ix3 h x y) := by
  unfold val_main_v42
  generalize val_main_v41 (F := Ideal) q k w = s
  pointwise [val_main_cst_9]
theorem r45 (h : Fin 8) (x y : Fin 4096) : val_main_v45 (F := Ideal) q k w (ix3 h x y) = Ideal.div (val_main_v41 (F := Ideal) q k w (ix3 h x y)) (val_main_v42 (F := Ideal) q k w (ix2 h x)) := by
  unfold val_main_v45 val_main_v44 val_main_v43
  generalize val_main_v41 (F := Ideal) q k w = s
  generalize val_main_v42 (F := Ideal) q k w = l
  pointwise
theorem r54 (h : Fin 8) (x y : Fin 4096) : val_main_v54 (F := Ideal) v o (ix3 h x y)
    = ∑ d : Fin 64, o (ix2 x ⟨h.val * 64 + d.val, by omega⟩) * v (ix2 y ⟨h.val * 64 + d.val, by omega⟩) := by
  pointwise [val_main_v54, val_main_v53, val_main_v52, val_main_v2]
theorem r86 (x : Fin 4096) (n : Fin 512) : val_main_v86 (F := Ideal) q k w o (ix2 x n)
    = ∑ j : Fin 4096, o (ix2 j n) * val_main_v45 (F := Ideal) q k w (ix3 ⟨n.val / 64, by omega⟩ j x) := by
  unfold val_main_v86 val_main_v56 val_main_v55
  generalize val_main_v45 (F := Ideal) q k w = p
  pointwise [val_main_v53, val_main_v52]
theorem r60 (h : Fin 8) (x : Fin 4096) : val_main_v60 (F := Ideal) q k v w o (ix2 h x)
    = ∑ y : Fin 4096, val_main_v54 (F := Ideal) v o (ix3 h x y) * Ideal.div 1 (val_main_v42 (F := Ideal) q k w (ix2 h x) * val_main_v42 (F := Ideal) q k w (ix2 h x)) * val_main_v41 (F := Ideal) q k w (ix3 h x y) := by
  unfold val_main_v60 val_main_v59 val_main_v58 val_main_v57 val_main_v48 val_main_v47 val_main_v46 val_main_v43
  generalize val_main_v54 (F := Ideal) v o = d
  generalize val_main_v41 (F := Ideal) q k w = s
  generalize val_main_v42 (F := Ideal) q k w = l
  pointwise [val_main_cst_10, val_main_cst_11]
theorem r68 (h : Fin 8) (x y : Fin 4096) : val_main_v68 (F := Ideal) q k v w o (ix3 h x y)
    = (Ideal.div (val_main_v54 (F := Ideal) v o (ix3 h x y)) (val_main_v42 (F := Ideal) q k w (ix2 h x)) + -val_main_v60 (F := Ideal) q k v w o (ix2 h x)) * val_main_v41 (F := Ideal) q k w (ix3 h x y) := by
  unfold val_main_v68 val_main_v67 val_main_v66 val_main_v65 val_main_v64 val_main_v63 val_main_v62 val_main_v61 val_main_v43
  generalize val_main_v54 (F := Ideal) v o = d
  generalize val_main_v60 (F := Ideal) q k v w o = e
  generalize val_main_v41 (F := Ideal) q k w = s
  generalize val_main_v42 (F := Ideal) q k w = l
  pointwise [val_main_cst_12]
  simp only [Finset.univ_unique, Finset.sum_singleton]
theorem r69 (h : Fin 8) (x y : Fin 4096) : val_main_v69 (F := Ideal) q k v w o (ix3 h x y) = if y.val ≤ x.val then val_main_v68 (F := Ideal) q k v w o (ix3 h x y) else 0 := by
  rw [val_main_v69_apply, r20_1]
  generalize val_main_v68 (F := Ideal) q k v w o (ix3 h x y) = s
  rw [val_main_call1_v0_apply, show ∀ i, val_main_call1_cst (F := Ideal) i = 0 from fun _ => Ideal.ofBits_zero_f32]
  by_cases e : y.val ≤ x.val
  · rw [if_pos e, if_pos e]; rfl
  · rw [if_neg e, if_neg e]; rfl
theorem r79 (x : Fin 4096) (h : Fin 8) : val_main_v79 (F := Ideal) q k v w o (ix2 x h)
    = (∑ j : Fin 4096, -val_main_v69 (F := Ideal) q k v w o (ix3 h j x)) + ∑ j : Fin 4096, val_main_v69 (F := Ideal) q k v w o (ix3 h x j) := by
  unfold val_main_v79 val_main_v78 val_main_v77 val_main_v76 val_main_v75 val_main_v74 val_main_v73 val_main_v72 val_main_v71 val_main_v70
  generalize val_main_v69 (F := Ideal) q k v w o = s
  pointwise [val_main_cst_13, val_main_cst_14, val_main_cst_15, val_main_cst_16]
  simp only [Finset.univ_unique, Finset.sum_singleton]
theorem r87 (x : Fin 4096) (n : Fin 512) : val_main_v87 (F := Ideal) q k v w o (ix2 x n)
    = ∑ j : Fin 4096, val_main_v69 (F := Ideal) q k v w o (ix3 ⟨n.val / 64, by omega⟩ j x) * ((8⁻¹ : ℝ) : EReal) * q (ix2 j n) := by
  unfold val_main_v87 val_main_v83 val_main_v82 val_main_v81
  generalize val_main_v69 (F := Ideal) q k v w o = s
  pointwise [val_main_v80, val_main_cst_17, val_main_v0]
  simp only [bits_8]
theorem r88 (x : Fin 4096) (n : Fin 512) : val_main_v88 (F := Ideal) q k v w o (ix2 x n)
    = ∑ j : Fin 4096, val_main_v69 (F := Ideal) q k v w o (ix3 ⟨n.val / 64, by omega⟩ x j) * ((8⁻¹ : ℝ) : EReal) * k (ix2 j n) := by
  unfold val_main_v88 val_main_v85 val_main_v84 val_main_v81
  generalize val_main_v69 (F := Ideal) q k v w o = s
  pointwise [val_main_v80, val_main_cst_17, val_main_v1]
  simp only [bits_8]
end
end Cert.Proof.Fox
end
-- ==== Proof.Fox.RefReal.lean ====
module

public import proofs.«01_k».proof.Proof.Fox.Ref

/-! The reference's results as the real gradients. -/

@[expose] public section
set_option maxRecDepth 16384
noncomputable section
namespace Cert.Proof.Fox
open Idealize.ShloMosaic Idealize.ShloMosaic.TcCoe Idealize.SL.Sem
open Cert.FoxRefIdeal Cert.FoxRefIdeal.Gen Cert.FoxRefIdeal.Read

namespace Reals
variable (R : Reals)

/-- The exponential of a shifted score, zero at the masked keys. -/
def ex (h x : ℕ) (μ : ℝ) (y : ℕ) : ℝ := if y ≤ x then Real.exp (R.z h x y - μ) else 0

theorem ex_div (h : ℕ) (x y : Fin 4096) (μ : ℝ) : R.ex h x μ y / R.l h x μ = R.p h x y := by
  unfold ex
  split_ifs with hy
  · rw [R.p_shift h hy]
  · rw [zero_div, p, if_neg hy]

/-- The score's cotangent in the quotient's form. -/
theorem ds_quot (h : ℕ) (x y : Fin 4096) (μ : ℝ) :
    (R.dp h x y / R.l h x μ - ∑ j : Fin 4096, R.dp h x j * (1 / (R.l h x μ * R.l h x μ)) * R.ex h x μ j) * R.ex h x μ y = R.ds h x y := by
  have hl := (R.l_pos h x.isLt μ).ne'
  have e : ∑ j : Fin 4096, R.dp h x j * (1 / (R.l h x μ * R.l h x μ)) * R.ex h x μ j = R.e h x / R.l h x μ := by
    rw [Reals.e, ← Fin.sum_univ_eq_sum_range (fun j => R.dp h x j * R.p h x j) 4096, Finset.sum_div]
    refine Finset.sum_congr rfl fun j _ => ?_
    rw [← R.ex_div h x j μ]
    field_simp
  rw [e, Reals.ds, ← R.ex_div h x y μ]
  field_simp
end Reals

section
variable {q k v o : FVec Ideal S4096x512 .f32} {w : FVec Ideal S4096x8 .f32} (hq : Finite q) (hk : Finite k) (hv : Finite v) (ho : Finite o) (hw : Finite w)

include hq hk hw in
theorem rs (h : Fin 8) (x y : Fin 4096) : val_main_v20_0 (F := Ideal) q k w (ix3 h x y)
    = if y.val ≤ x.val then (((realsOf q k v o w).z h x y + (realsOf q k v o w).c x h : ℝ) : EReal) else ⊥ := by
  rw [r20, r14]
  refine if_congr Iff.rfl ?_ rfl
  simp only [fun d : Fin 64 => real_at hq x ⟨h.val * 64 + d.val, by omega⟩, fun d : Fin 64 => real_at hk y ⟨h.val * 64 + d.val, by omega⟩, real_at hw y h, real_at hw x h, ← EReal.coe_mul]
  rw [← coe_sum, ← EReal.coe_mul, ← EReal.coe_add, ← EReal.coe_sub, add_sub_right_comm]
  simp only [Reals.z, Reals.dot, realsOf, mul_comm 64 h.val]

include hq hk hw in
theorem rstages : ∃ μ : ℕ → ℕ → ℝ, ∀ (h : Fin 8) (x : Fin 4096),
    (∀ y : Fin 4096, val_main_v41 (F := Ideal) q k w (ix3 h x y) = ((realsOf q k v o w).ex h x (μ h x) y : EReal))
    ∧ val_main_v42 (F := Ideal) q k w (ix2 h x) = ((realsOf q k v o w).l h x (μ h x) : EReal) := by
  have H : ∀ (h : Fin 8) (x : Fin 4096), ∃ μ : ℝ, ∀ y : Fin 4096, val_main_v41 (F := Ideal) q k w (ix3 h x y) = ((realsOf q k v o w).ex h x μ y : EReal) := by
    intro h x
    obtain ⟨μ, h1, h2⟩ := (realsOf q k v o w).soft h x ((realsOf q k v o w).c x h) (fun y => val_main_v20_0 (F := Ideal) q k w (ix3 h x y)) (rs (v := v) (o := o) hq hk hw h x)
    refine ⟨μ, fun y => ?_⟩
    rw [r41, r28, h1]
    exact h2 y
  choose μ h1 using H
  refine ⟨fun h x => μ (Fin.ofNat 8 h) (Fin.ofNat 4096 x), fun h x => ?_⟩
  simp only [ofNat_val]
  refine ⟨h1 h x, ?_⟩
  rw [r42, Finset.sum_congr rfl fun y _ => h1 h x y]
  exact Reals.l_fin _ _ _ _

include hv ho in
theorem rdp (h : Fin 8) (x y : Fin 4096) : val_main_v54 (F := Ideal) v o (ix3 h x y) = ((realsOf q k v o w).dp h x y : EReal) := by
  rw [r54]
  simp only [fun d : Fin 64 => real_at ho x ⟨h.val * 64 + d.val, by omega⟩, fun d : Fin 64 => real_at hv y ⟨h.val * 64 + d.val, by omega⟩, ← EReal.coe_mul]
  rw [← coe_sum]
  simp only [Reals.dp, realsOf, mul_comm 64 h.val]

include hq hk hw in
theorem rp (h : Fin 8) (x y : Fin 4096) : val_main_v45 (F := Ideal) q k w (ix3 h x y) = ((realsOf q k v o w).p h x y : EReal) := by
  obtain ⟨μ, H⟩ := rstages (v := v) (o := o) hq hk hw
  rw [r45, (H h x).1, (H h x).2]
  exact Reals.weight _ _ _ _ _

include hq hk hv ho hw in
theorem rds (h : Fin 8) (x y : Fin 4096) : val_main_v69 (F := Ideal) q k v w o (ix3 h x y) = ((realsOf q k v o w).ds h x y : EReal) := by
  obtain ⟨μ, H⟩ := rstages (v := v) (o := o) hq hk hw
  have hl := ((realsOf q k v o w).l_pos h x.isLt (μ h x)).ne'
  have e : val_main_v68 (F := Ideal) q k v w o (ix3 h x y) = ((realsOf q k v o w).ds h x y : EReal) := by
    rw [r68, r60, (H h x).2]
    simp only [(H h x).1, rdp (q := q) (k := k) (w := w) hv ho]
    rw [← EReal.coe_mul, Ideal.div_coe hl, Ideal.div_coe (mul_ne_zero hl hl), one_mul]
    simp only [← EReal.coe_mul]
    rw [← coe_sum, ← EReal.coe_neg, ← EReal.coe_add, ← EReal.coe_mul, mul_one_div, ← sub_eq_add_neg, Reals.ds_quot]
  rw [r69, e]
  split_ifs with hy
  · rfl
  · rw [Reals.ds, Reals.p, if_neg hy, zero_mul, EReal.coe_zero]

include hq hk hv ho hw

theorem ref_c (x : Fin 4096) (h : Fin 8) : val_main_v79 (F := Ideal) q k v w o (ix2 x h) = ((realsOf q k v o w).gc x h : EReal) := by
  rw [r79, Reals.gc, ← Fin.sum_univ_eq_sum_range (fun j => (realsOf q k v o w).ds h x j) 4096, ← Fin.sum_univ_eq_sum_range (fun j => -(realsOf q k v o w).ds h j x) 4096, add_comm, EReal.coe_add, coe_sum, coe_sum]
  simp only [rds hq hk hv ho hw, EReal.coe_neg]
theorem ref_k (x : Fin 4096) (n : Fin 512) : val_main_v87 (F := Ideal) q k v w o (ix2 x n) = ((realsOf q k v o w).gk x n : EReal) := by
  rw [r87, Reals.gk, Finset.sum_mul, ← Fin.sum_univ_eq_sum_range (fun j => (realsOf q k v o w).q j n * (realsOf q k v o w).ds (n / 64) j x * 8⁻¹) 4096, coe_sum]
  refine Finset.sum_congr rfl fun j _ => ?_
  rw [rds hq hk hv ho hw, real_at hq, ← EReal.coe_mul, ← EReal.coe_mul]
  refine congrArg _ (Eq.trans ?_ (mul_rotate _ _ _).symm)
  rfl
theorem ref_q (x : Fin 4096) (n : Fin 512) : val_main_v88 (F := Ideal) q k v w o (ix2 x n) = ((realsOf q k v o w).gq x n : EReal) := by
  rw [r88, Reals.gq, Finset.sum_mul, ← Fin.sum_univ_eq_sum_range (fun j => (realsOf q k v o w).ds (n / 64) x j * (realsOf q k v o w).k j n * 8⁻¹) 4096, coe_sum]
  refine Finset.sum_congr rfl fun j _ => ?_
  rw [rds hq hk hv ho hw, real_at hk, ← EReal.coe_mul, ← EReal.coe_mul]
  refine congrArg _ (Eq.trans ?_ (mul_right_comm _ _ _))
  rfl
theorem ref_v (x : Fin 4096) (n : Fin 512) : val_main_v86 (F := Ideal) q k w o (ix2 x n) = ((realsOf q k v o w).gv x n : EReal) := by
  rw [r86, Reals.gv, ← Fin.sum_univ_eq_sum_range (fun j => (realsOf q k v o w).o j n * (realsOf q k v o w).p (n / 64) j x) 4096, coe_sum]
  refine Finset.sum_congr rfl fun j _ => ?_
  rw [rp (v := v) (o := o) hq hk hw, real_at ho, ← EReal.coe_mul]
  rfl
end
end Cert.Proof.Fox
end
-- ==== Proof.Fox.Claim.lean ====
module

public import proofs.«01_k».proof.Proof.Fox.Frames
public import proofs.«01_k».proof.Proof.Fox.Inputs
public import proofs.«01_k».proof.Proof.Fox.RefReal
public import proofs.«01_k».proof.Proof.Gen.FoxRefIdeal.Run

/-! The forgetting attention's backward: the kernel's four gradients are the reference's. -/

@[expose] public section
set_option maxRecDepth 16384
noncomputable section
namespace Cert.Proof.Fox
open Idealize.ShloMosaic Idealize.ShloMosaic.TcCoe Idealize.SL.Sem

/-- The precondition's side conditions. -/
theorem preFacts : Cert.Pre_finite_fox.Facts := ⟨by decide, by decide⟩

/-- Below infinity in size: real. -/
theorem real_of_word {x : EReal} (h : FloatOps.cmpf (F := Ideal) (φ := .f32) .olt (FloatOps.absf (F := Ideal) (φ := .f32) x) (FloatOps.ofBits (F := Ideal) .f32 0x7F800000#32) = 1#1) :
    ∃ r : ℝ, x = (r : EReal) := by
  have e : (FloatOps.ofBits (F := Ideal) .f32 0x7F800000#32 : EReal) = ⊤ := by
    show Ideal.ofBits FTy.f32 0x7F800000#32 = ⊤
    simp [Ideal.ofBits, Ideal.ieee]
  rw [e] at h
  have h' : BitVec.ofBool (decide (max x (-x) < ⊤)) = 1#1 := h
  have lt : max x (-x) < ⊤ := by
    by_contra n
    rw [decide_eq_false n] at h'
    exact absurd h' (by decide)
  induction x using EReal.rec with
  | bot => simp at lt
  | coe r => exact ⟨r, rfl⟩
  | top => simp at lt

/-- The precondition's predicate holding everywhere: the arguments are real. -/
theorem args_of_pre (m : (ℓ : Loc Cert.FoxIdeal.nD Cert.FoxIdeal.τ Cert.FoxIdeal.sig) → Buf (Elt Ideal) ℓ)
    (h : Cert.Pre_FoxIdeal_finite_fox (hPre_finite_fox := preFacts) m) (c : Dev Cert.FoxIdeal.nD) : Args m c := by
  obtain ⟨h0, h1, h2, h3, h4⟩ := h c
  exact ⟨fun i => real_of_word (congrFun h0 i), fun i => real_of_word (congrFun h1 i), fun i => real_of_word (congrFun h2 i), fun i => real_of_word (congrFun h4 i), fun i => real_of_word (congrFun h3 i)⟩

section kernel
open Cert.FoxIdeal Cert.FoxIdeal.Gen
variable {m : (ℓ : Loc nD τ sig) → Buf (Elt Ideal) ℓ} {c : Dev nD} (A : Args m c)
include A

theorem out59 : Pipeline.afterTail₀ cfgs (vals m) 0 (V0 m) [hostOps1] c main_v59
    = Cert.FoxRefIdeal.Read.val_main_v88 (F := Ideal) (m (c.tc.loc main_arg0)) (m (c.tc.loc main_arg1)) (m (c.tc.loc main_arg2)) (m (c.tc.loc main_arg3)) (m (c.tc.loc main_arg4)) := by
  rw [tail_59]
  funext p
  rw [qArr_at A]
  idx_vars p
  exact (ref_q A.q A.k A.v A.o A.w _ _).symm
theorem out60 : Pipeline.afterTail₀ cfgs (vals m) 0 (V0 m) [hostOps1] c main_v60
    = Cert.FoxRefIdeal.Read.val_main_v87 (F := Ideal) (m (c.tc.loc main_arg0)) (m (c.tc.loc main_arg1)) (m (c.tc.loc main_arg2)) (m (c.tc.loc main_arg3)) (m (c.tc.loc main_arg4)) := by
  rw [tail_60]
  funext p
  rw [kArr_at A]
  idx_vars p
  exact (ref_k A.q A.k A.v A.o A.w _ _).symm
theorem out61 : Pipeline.afterTail₀ cfgs (vals m) 0 (V0 m) [hostOps1] c main_v61
    = Cert.FoxRefIdeal.Read.val_main_v86 (F := Ideal) (m (c.tc.loc main_arg0)) (m (c.tc.loc main_arg1)) (m (c.tc.loc main_arg3)) (m (c.tc.loc main_arg4)) := by
  rw [tail_61]
  funext p
  rw [vArr_at A]
  idx_vars p
  exact (ref_v (v := m (c.tc.loc main_arg2)) A.q A.k A.v A.o A.w _ _).symm
theorem out62 : Pipeline.afterTail₀ cfgs (vals m) 0 (V0 m) [hostOps1] c main_v62
    = Cert.FoxRefIdeal.Read.val_main_v79 (F := Ideal) (m (c.tc.loc main_arg0)) (m (c.tc.loc main_arg1)) (m (c.tc.loc main_arg2)) (m (c.tc.loc main_arg3)) (m (c.tc.loc main_arg4)) := by
  funext p
  idx_vars p
  exact (tail_62 m c p0 p1).trans ((cArr_at A p0 p1).trans (ref_c A.q A.k A.v A.o A.w p0 p1).symm)
end kernel

theorem alg : Cert.algebraic_FoxIdeal_FoxRefIdeal_pre_finite_fox (hFoxIdeal := Cert.FoxIdeal.Gen.facts) (hFoxRefIdeal := Cert.FoxRefIdeal.Gen.facts) (hPre_finite_fox := preFacts) := by
  intro m g m' g' hpre hagree
  have A := args_of_pre m hpre
  refine ⟨fun c => Cert.FoxRefIdeal.Read.val_main_v88 (F := Ideal) (m (c.tc.loc Cert.FoxIdeal.main_arg0)) (m (c.tc.loc Cert.FoxIdeal.main_arg1)) (m (c.tc.loc Cert.FoxIdeal.main_arg2)) (m (c.tc.loc Cert.FoxIdeal.main_arg3)) (m (c.tc.loc Cert.FoxIdeal.main_arg4)),
    fun c => Cert.FoxRefIdeal.Read.val_main_v87 (F := Ideal) (m (c.tc.loc Cert.FoxIdeal.main_arg0)) (m (c.tc.loc Cert.FoxIdeal.main_arg1)) (m (c.tc.loc Cert.FoxIdeal.main_arg2)) (m (c.tc.loc Cert.FoxIdeal.main_arg3)) (m (c.tc.loc Cert.FoxIdeal.main_arg4)),
    fun c => Cert.FoxRefIdeal.Read.val_main_v86 (F := Ideal) (m (c.tc.loc Cert.FoxIdeal.main_arg0)) (m (c.tc.loc Cert.FoxIdeal.main_arg1)) (m (c.tc.loc Cert.FoxIdeal.main_arg3)) (m (c.tc.loc Cert.FoxIdeal.main_arg4)),
    fun c => Cert.FoxRefIdeal.Read.val_main_v79 (F := Ideal) (m (c.tc.loc Cert.FoxIdeal.main_arg0)) (m (c.tc.loc Cert.FoxIdeal.main_arg1)) (m (c.tc.loc Cert.FoxIdeal.main_arg2)) (m (c.tc.loc Cert.FoxIdeal.main_arg3)) (m (c.tc.loc Cert.FoxIdeal.main_arg4)), ?_, ?_⟩
  · have run := vrun m g fun c => ins_fin (A c)
    refine (θ_run _ _ _).mono (fun r h c => ?_) (θ_run_and (Cert.FoxIdeal.Gen.frame_of m g (vals m) (vA_eq m) run) run)
    exact ⟨((h.2 c).2 Cert.FoxIdeal.main_v59 (Pipeline.mem_restRefs_of Cert.FoxIdeal.main_v59 (by decide) (by decide))).trans (out59 (A c)),
      ((h.2 c).2 Cert.FoxIdeal.main_v60 (Pipeline.mem_restRefs_of Cert.FoxIdeal.main_v60 (by decide) (by decide))).trans (out60 (A c)),
      ((h.2 c).2 Cert.FoxIdeal.main_v61 (Pipeline.mem_restRefs_of Cert.FoxIdeal.main_v61 (by decide) (by decide))).trans (out61 (A c)),
      ((h.2 c).2 Cert.FoxIdeal.main_v62 (Pipeline.mem_restRefs_of Cert.FoxIdeal.main_v62 (by decide) (by decide))).trans (out62 (A c)), h.1 c⟩
  · refine (θ_run _ _ _).mono (fun r h c => ?_) (Cert.FoxRefIdeal.Value.run m' g')
    obtain ⟨h0, h1, h2, h3, hargs⟩ := h c
    obtain ⟨a0, a1, a2, a3, a4⟩ := hagree c
    refine ⟨h0.trans ?_, h1.trans ?_, h2.trans ?_, h3.trans ?_, hargs⟩
    · rw [Cert.FoxRefIdeal.Read.val_main_v88_eq, a0, a1, a2, a3, a4]
    · rw [Cert.FoxRefIdeal.Read.val_main_v87_eq, a0, a1, a2, a3, a4]
    · rw [Cert.FoxRefIdeal.Read.val_main_v86_eq, a0, a1, a3, a4]
    · rw [Cert.FoxRefIdeal.Read.val_main_v79_eq, a0, a1, a2, a3, a4]
end Cert.Proof.Fox
end
-- ==== Proof.Mla.Trip.lean ====
/-
  One trip of the outer loop of the latent attention's backward kernel: query tile `k` against every key tile before it, then its
  own key tile in two masked halves.  The trip is run once, at any float values; the pieces that it writes into
  each buffer are functions of the contents that it finds.
-/
module

public import proofs.«01_k».proof.Proof.Gen.MlaIdeal.Loops
public import proofs.«01_k».proof.Proof.Gen.MlaIdeal.Frame
public import Idealize.ShloMosaic.Lib.LoopRemainder

@[expose] public section

set_option maxRecDepth 16384
set_option maxHeartbeats 4000000

noncomputable section

namespace Cert.MlaIdeal.Hand

open Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What one trip holds: the buffers that it only reads, at their contents, and the buffers that it writes. -/
abbrev Trip (c : Dev nD) (arg1 : Memref sig .tc .vmem S4096x128 .bf16) (arg2 : Memref sig .tc .vmem S4096x128 .bf16) (arg3 : Memref sig .tc .vmem S4096x128 .bf16) (arg4 : Memref sig .tc .vmem S4096x128 .bf16) (arg5 : Memref sig .tc .vmem S4096x128 .f32) (arg6 : Memref sig .tc .vmem S4096x128 .bf16) (arg7 : Memref sig .tc .vmem S4096x128 .bf16) (arg13 : Memref sig .tc .vmem S2x128x4096 .bf16) (arg14 : Memref sig .tc .vmem S128x4096 .bf16) (arg8 : Memref sig .tc .vmem S4096x128 .bf16) (arg11 : Memref sig .tc .vmem S4096x128 .f32) (arg15 : Memref sig .tc .vmem S2x128x4096 .f32) (arg16 : Memref sig .tc .vmem S128x4096 .f32)
    (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg14 : BufTy.Contents (Elt F) arg14.view.ty)
    (f_arg8 : BufTy.Contents (Elt F) arg8.view.ty) (f_arg11 : BufTy.Contents (Elt F) arg11.view.ty) (f_arg15 : BufTy.Contents (Elt F) arg15.view.ty) (f_arg16 : BufTy.Contents (Elt F) arg16.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg13.view.loc (c : Thread nD τ) ↦[arg13.view.set]{fullShare} X_arg13) ∗ (arg14.view.loc (c : Thread nD τ) ↦[arg14.view.set]{fullShare} X_arg14) ∗ (arg8.view.loc (c : Thread nD τ) ↦[arg8.view.set]{fullShare} f_arg8) ∗ (arg11.view.loc (c : Thread nD τ) ↦[arg11.view.set]{fullShare} f_arg11) ∗ (arg15.view.loc (c : Thread nD τ) ↦[arg15.view.set]{fullShare} f_arg15) ∗ (arg16.view.loc (c : Thread nD τ) ↦[arg16.view.set]{fullShare} f_arg16))

/-- The inner loop's invariant, at the words that its region does not read. -/
@[instance_reducible, sl_loop] def inner (𝒱 : Variants) (c : Dev nD) (bd : Option 𝒱.V) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S1x4096x128 .f32) (harg12 : arg12.IsWhole) (arg13 : Memref sig .tc .vmem S2x128x4096 .bf16) (harg13 : arg13.IsWhole) (arg14 : Memref sig .tc .vmem S128x4096 .bf16) (harg14 : arg14.IsWhole) (arg15 : Memref sig .tc .vmem S2x128x4096 .f32) (harg15 : arg15.IsWhole) (arg16 : Memref sig .tc .vmem S128x4096 .f32) (harg16 : arg16.IsWhole) (arg17 : Memref sig .tc .vmem S2x1024x128 .f32) (harg17 : arg17.IsWhole) (arg18 : Memref sig .tc .vmem S2x1024x1 .f32) (harg18 : arg18.IsWhole) (k0_t1 : Fin k0_t1_loop.trips) (v250 : BitVec 32) (v270 : FVec F S1024x128 .bf16) (v277 : FVec F S1024x128 .bf16) (v285 : FVec F S1024x128 .bf16) (v293 : FVec F S1024x128 .bf16) (v301 : FVec F S1024x1 .f32) (v309 : FVec F S1024x1 .f32) (v318 : FVec F S1024x1 .f32) (v327 : FVec F S1024x1 .f32) (X_arg2 : BufTy.Contents (Elt F) arg2.view.ty) (X_arg3 : BufTy.Contents (Elt F) arg3.view.ty) (X_arg7 : BufTy.Contents (Elt F) arg7.view.ty) (X_arg13 : BufTy.Contents (Elt F) arg13.view.ty) (X_arg14 : BufTy.Contents (Elt F) arg14.view.ty) (G_arg15 : BufTy.Contents (Elt F) arg15.view.ty) (G_arg16 : BufTy.Contents (Elt F) arg16.view.ty) (G_arg17 : BufTy.Contents (Elt F) arg17.view.ty) :=
  loopInv_k0_t2 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t1 0#32 v250 v270 v277 v285 v293 v301 v309 v318 v327 (constant S2x1024x128 .f32 0#32) X_arg2 X_arg3 X_arg7 X_arg13 X_arg14 G_arg15 G_arg16 G_arg17

variable (𝒱 : Variants) (c : Dev nD) (bd : Option 𝒱.V) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S4096x128 .bf16) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .bf16) (harg10 : arg10.IsWhole)
  (arg11 : Memref sig .tc .vmem S4096x128 .f32) (harg11 : arg11.IsWhole)
  (arg12 : Memref sig .tc .vmem S1x4096x128 .f32) (harg12 : arg12.IsWhole)
  (arg13 : Memref sig .tc .vmem S2x128x4096 .bf16) (harg13 : arg13.IsWhole)
  (arg14 : Memref sig .tc .vmem S128x4096 .bf16) (harg14 : arg14.IsWhole)
  (arg15 : Memref sig .tc .vmem S2x128x4096 .f32) (harg15 : arg15.IsWhole)
  (arg16 : Memref sig .tc .vmem S128x4096 .f32) (harg16 : arg16.IsWhole)
  (arg17 : Memref sig .tc .vmem S2x1024x128 .f32) (harg17 : arg17.IsWhole)
  (arg18 : Memref sig .tc .vmem S2x1024x1 .f32) (harg18 : arg18.IsWhole)
  (arg0 : BitVec 32) (v140 : FVec F S128x1024 .bf16)

/-- One trip of the outer loop: the pieces that it writes, with the statement that it writes them. -/
@[irreducible] def trip (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg14 : BufTy.Contents (Elt F) arg14.view.ty)
    (k : Fin k0_t1_loop.trips) :
    Σ' (L_arg8 : BufTy.Contents (Elt F) arg8.view.ty → BufTy.Contents (Elt F) arg11.view.ty → BufTy.Contents (Elt F) arg15.view.ty → BufTy.Contents (Elt F) arg16.view.ty → List (View.Piece (Elt F) S4096x128 .bf16)) (L_arg11 : BufTy.Contents (Elt F) arg8.view.ty → BufTy.Contents (Elt F) arg11.view.ty → BufTy.Contents (Elt F) arg15.view.ty → BufTy.Contents (Elt F) arg16.view.ty → List (View.Piece (Elt F) S4096x128 .f32)) (L_arg15 : BufTy.Contents (Elt F) arg8.view.ty → BufTy.Contents (Elt F) arg11.view.ty → BufTy.Contents (Elt F) arg15.view.ty → BufTy.Contents (Elt F) arg16.view.ty → List (View.Piece (Elt F) S2x128x4096 .f32)),
      { L_arg16 : BufTy.Contents (Elt F) arg8.view.ty → BufTy.Contents (Elt F) arg11.view.ty → BufTy.Contents (Elt F) arg15.view.ty → BufTy.Contents (Elt F) arg16.view.ty → List (View.Piece (Elt F) S128x4096 .f32) // ∀ (E : Set ℕ) (f_arg8 : BufTy.Contents (Elt F) arg8.view.ty) (f_arg11 : BufTy.Contents (Elt F) arg11.view.ty) (f_arg15 : BufTy.Contents (Elt F) arg15.view.ty) (f_arg16 : BufTy.Contents (Elt F) arg16.view.ty) (f_arg17 : BufTy.Contents (Elt F) arg17.view.ty),
      iprop(Trip (F := F) c arg1 arg2 arg3 arg4 arg5 arg6 arg7 arg13 arg14 arg8 arg11 arg15 arg16 X_arg1 X_arg2 X_arg3 X_arg4 X_arg5 X_arg6 X_arg7 X_arg13 X_arg14 f_arg8 f_arg11 f_arg15 f_arg16 ∗ (arg17.view.loc (c : Thread nD τ) ↦[arg17.view.set]{fullShare} f_arg17))
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 k PUnit.unit)
          (fun _ => iprop(Trip (F := F) c arg1 arg2 arg3 arg4 arg5 arg6 arg7 arg13 arg14 arg8 arg11 arg15 arg16 X_arg1 X_arg2 X_arg3 X_arg4 X_arg5 X_arg6 X_arg7 X_arg13 X_arg14 (arg8.view.writes (Elt F) f_arg8 (L_arg8 f_arg8 f_arg11 f_arg15 f_arg16)) (arg11.view.writes (Elt F) f_arg11 (L_arg11 f_arg8 f_arg11 f_arg15 f_arg16)) (arg15.view.writes (Elt F) f_arg15 (L_arg15 f_arg8 f_arg11 f_arg15 f_arg16)) (arg16.view.writes (Elt F) f_arg16 (L_arg16 f_arg8 f_arg11 f_arg15 f_arg16)) ∗ (∃ f : BufTy.Contents (Elt F) arg17.view.ty, (arg17.view.loc (c : Thread nD τ) ↦[arg17.view.set]{fullShare} f)))) } := by
  refine ⟨?_, ?_, ?_, ?_, fun E f_arg8 f_arg11 f_arg15 f_arg16 f_arg17 => ?run⟩
  case run =>
    unfold k0_t1_body
    iintro ⟨⟨HR_arg1, HR_arg2, HR_arg3, HR_arg4, HR_arg5, HR_arg6, HR_arg7, HR_arg13, HR_arg14, HW_arg8, HW_arg11, HW_arg15, HW_arg16⟩, HW_arg17⟩
    sl_exec
    sl_step
    sl_close

end Cert.MlaIdeal.Hand

end
-- ==== Proof.Mla.Loop.lean ====
/-
  The outer loop of the latent attention's backward kernel, by its trips: before trip `k` each buffer that the loop writes holds the
  pieces of the trips before it over what the loop found there.
-/
module

public import proofs.«01_k».proof.Proof.Mla.Trip

@[expose] public section

set_option maxRecDepth 16384
set_option maxHeartbeats 4000000

noncomputable section

namespace Cert.MlaIdeal.Hand

open Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (𝒱 : Variants) (c : Dev nD) (bd : Option 𝒱.V) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S4096x128 .bf16) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .bf16) (harg10 : arg10.IsWhole)
  (arg11 : Memref sig .tc .vmem S4096x128 .f32) (harg11 : arg11.IsWhole)
  (arg12 : Memref sig .tc .vmem S1x4096x128 .f32) (harg12 : arg12.IsWhole)
  (arg13 : Memref sig .tc .vmem S2x128x4096 .bf16) (harg13 : arg13.IsWhole)
  (arg14 : Memref sig .tc .vmem S128x4096 .bf16) (harg14 : arg14.IsWhole)
  (arg15 : Memref sig .tc .vmem S2x128x4096 .f32) (harg15 : arg15.IsWhole)
  (arg16 : Memref sig .tc .vmem S128x4096 .f32) (harg16 : arg16.IsWhole)
  (arg17 : Memref sig .tc .vmem S2x1024x128 .f32) (harg17 : arg17.IsWhole)
  (arg18 : Memref sig .tc .vmem S2x1024x1 .f32) (harg18 : arg18.IsWhole)
  (arg0 : BitVec 32) (v140 : FVec F S128x1024 .bf16)
  (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg14 : BufTy.Contents (Elt F) arg14.view.ty)
  (G_arg8 : BufTy.Contents (Elt F) arg8.view.ty) (G_arg11 : BufTy.Contents (Elt F) arg11.view.ty) (G_arg15 : BufTy.Contents (Elt F) arg15.view.ty) (G_arg16 : BufTy.Contents (Elt F) arg16.view.ty)

/-- The pieces of the trips, one list for each buffer written. -/
abbrev Pcs (F : FTy → Type) : Type := List (View.Piece (Elt F) S4096x128 .bf16) × List (View.Piece (Elt F) S4096x128 .f32) × List (View.Piece (Elt F) S2x128x4096 .f32) × List (View.Piece (Elt F) S128x4096 .f32)

/-- Trip `k`'s pieces in front of those of the trips before it. -/
@[irreducible] def pbStep (k : ℕ) (prev : Pcs F) : Pcs F :=
  if h : k < k0_t1_loop.trips then
    ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 ⟨k, h⟩).1 (arg8.view.writes (Elt F) G_arg8 prev.1) (arg11.view.writes (Elt F) G_arg11 prev.2.1) (arg15.view.writes (Elt F) G_arg15 prev.2.2.1) (arg16.view.writes (Elt F) G_arg16 prev.2.2.2) ++ prev.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 ⟨k, h⟩).2.1 (arg8.view.writes (Elt F) G_arg8 prev.1) (arg11.view.writes (Elt F) G_arg11 prev.2.1) (arg15.view.writes (Elt F) G_arg15 prev.2.2.1) (arg16.view.writes (Elt F) G_arg16 prev.2.2.2) ++ prev.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 ⟨k, h⟩).2.2.1 (arg8.view.writes (Elt F) G_arg8 prev.1) (arg11.view.writes (Elt F) G_arg11 prev.2.1) (arg15.view.writes (Elt F) G_arg15 prev.2.2.1) (arg16.view.writes (Elt F) G_arg16 prev.2.2.2) ++ prev.2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 ⟨k, h⟩).2.2.2.1 (arg8.view.writes (Elt F) G_arg8 prev.1) (arg11.view.writes (Elt F) G_arg11 prev.2.1) (arg15.view.writes (Elt F) G_arg15 prev.2.2.1) (arg16.view.writes (Elt F) G_arg16 prev.2.2.2) ++ prev.2.2.2)
  else prev

/-- The pieces of the trips before `k`, the last trip's first. -/
def pb : ℕ → Pcs F
  | 0 => ([], [], [], [])
  | k + 1 => pbStep 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k (pb k)

theorem pb_succ (k : Fin k0_t1_loop.trips) :
    pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 (k.val + 1)
      = ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 k).1 (arg8.view.writes (Elt F) G_arg8 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).1) (arg11.view.writes (Elt F) G_arg11 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).2.1) (arg15.view.writes (Elt F) G_arg15 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).2.2.1) (arg16.view.writes (Elt F) G_arg16 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).2.2.2) ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 k).2.1 (arg8.view.writes (Elt F) G_arg8 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).1) (arg11.view.writes (Elt F) G_arg11 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).2.1) (arg15.view.writes (Elt F) G_arg15 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).2.2.1) (arg16.view.writes (Elt F) G_arg16 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).2.2.2) ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 k).2.2.1 (arg8.view.writes (Elt F) G_arg8 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).1) (arg11.view.writes (Elt F) G_arg11 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).2.1) (arg15.view.writes (Elt F) G_arg15 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).2.2.1) (arg16.view.writes (Elt F) G_arg16 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).2.2.2) ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).2.2.1, (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 k).2.2.2.1 (arg8.view.writes (Elt F) G_arg8 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).1) (arg11.view.writes (Elt F) G_arg11 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).2.1) (arg15.view.writes (Elt F) G_arg15 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).2.2.1) (arg16.view.writes (Elt F) G_arg16 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).2.2.2) ++ (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k.val).2.2.2) := by
  rw [pb.eq_2]; unfold pbStep; exact dif_pos k.isLt

/-- The loop's invariant before trip `k`. -/
abbrev inv (k : ℕ) (_u : PUnit) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg13.view.loc (c : Thread nD τ) ↦[arg13.view.set]{fullShare} X_arg13) ∗ (arg14.view.loc (c : Thread nD τ) ↦[arg14.view.set]{fullShare} X_arg14) ∗ (∃ f, (arg8.view.loc (c : Thread nD τ) ↦[arg8.view.set]{fullShare} f) ∗ ⌜f = arg8.view.writes (Elt F) G_arg8 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k).1⌝) ∗ (∃ f, (arg11.view.loc (c : Thread nD τ) ↦[arg11.view.set]{fullShare} f) ∗ ⌜f = arg11.view.writes (Elt F) G_arg11 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k).2.1⌝) ∗ (∃ f, (arg15.view.loc (c : Thread nD τ) ↦[arg15.view.set]{fullShare} f) ∗ ⌜f = arg15.view.writes (Elt F) G_arg15 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k).2.2.1⌝) ∗ (∃ f, (arg16.view.loc (c : Thread nD τ) ↦[arg16.view.set]{fullShare} f) ∗ ⌜f = arg16.view.writes (Elt F) G_arg16 (pb (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16 k).2.2.2⌝) ∗ (∃ f : BufTy.Contents (Elt F) arg17.view.ty, (arg17.view.loc (c : Thread nD τ) ↦[arg17.view.set]{fullShare} f)))

/-- The outer loop by its invariant. -/
@[instance_reducible, sl_loop] def outer (E : Set ℕ) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 where
  inv := inv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 G_arg8 G_arg11 G_arg15 G_arg16
  step k acc := by
    iintro ⟨HR_arg1, HR_arg2, HR_arg3, HR_arg4, HR_arg5, HR_arg6, HR_arg7, HR_arg13, HR_arg14, ⟨%f_arg8, HW_arg8, %h_arg8⟩, ⟨%f_arg11, HW_arg11, %h_arg11⟩, ⟨%f_arg15, HW_arg15, %h_arg15⟩, ⟨%f_arg16, HW_arg16, %h_arg16⟩, ⟨%f_arg17, HW_arg17⟩⟩
    iapply (wp_wand_r Idealize.ShloMosaic.frame (wpE (defs₀ (F := F)) 𝒱 (c : Thread nD τ) bd) E)
    isplitl [HR_arg1 HR_arg2 HR_arg3 HR_arg4 HR_arg5 HR_arg6 HR_arg7 HR_arg13 HR_arg14 HW_arg8 HW_arg11 HW_arg15 HW_arg16 HW_arg17]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v140 X_arg1 X_arg2 X_arg3 X_arg4 X_arg5 X_arg6 X_arg7 X_arg13 X_arg14 k).2.2.2.2 E f_arg8 f_arg11 f_arg15 f_arg16 f_arg17)
      isplitl [HR_arg1 HR_arg2 HR_arg3 HR_arg4 HR_arg5 HR_arg6 HR_arg7 HR_arg13 HR_arg14 HW_arg8 HW_arg11 HW_arg15 HW_arg16]
      · unfold Trip
        isplitl [HR_arg1]; · iexact HR_arg1
        isplitl [HR_arg2]; · iexact HR_arg2
        isplitl [HR_arg3]; · iexact HR_arg3
        isplitl [HR_arg4]; · iexact HR_arg4
        isplitl [HR_arg5]; · iexact HR_arg5
        isplitl [HR_arg6]; · iexact HR_arg6
        isplitl [HR_arg7]; · iexact HR_arg7
        isplitl [HR_arg13]; · iexact HR_arg13
        isplitl [HR_arg14]; · iexact HR_arg14
        isplitl [HW_arg8]; · iexact HW_arg8
        isplitl [HW_arg11]; · iexact HW_arg11
        isplitl [HW_arg15]; · iexact HW_arg15
        iexact HW_arg16
      iexact HW_arg17
    · iintro %_ ⟨⟨HR_arg1, HR_arg2, HR_arg3, HR_arg4, HR_arg5, HR_arg6, HR_arg7, HR_arg13, HR_arg14, HW_arg8, HW_arg11, HW_arg15, HW_arg16⟩, HW_arg17⟩
      isplitl [HR_arg1]; · iexact HR_arg1
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg13]; · iexact HR_arg13
      isplitl [HR_arg14]; · iexact HR_arg14
      isplitl [HW_arg8]
      · iexists _; isplitl [HW_arg8]; · iexact HW_arg8
        ipureintro; rw [pb_succ, h_arg8, h_arg11, h_arg15, h_arg16, ← View.writes_append]
      isplitl [HW_arg11]
      · iexists _; isplitl [HW_arg11]; · iexact HW_arg11
        ipureintro; rw [pb_succ, h_arg8, h_arg11, h_arg15, h_arg16, ← View.writes_append]
      isplitl [HW_arg15]
      · iexists _; isplitl [HW_arg15]; · iexact HW_arg15
        ipureintro; rw [pb_succ, h_arg8, h_arg11, h_arg15, h_arg16, ← View.writes_append]
      isplitl [HW_arg16]
      · iexists _; isplitl [HW_arg16]; · iexact HW_arg16
        ipureintro; rw [pb_succ, h_arg8, h_arg11, h_arg15, h_arg16, ← View.writes_append]
      iexact HW_arg17

end Cert.MlaIdeal.Hand

end
-- ==== Proof.Mla.Body.lean ====
/-
  The body of the latent attention's backward kernel at one grid point, run once at any float values.
-/
module

public import proofs.«01_k».proof.Proof.Mla.Loop

@[expose] public section

set_option maxRecDepth 16384
set_option maxHeartbeats 4000000

noncomputable section

namespace Cert.MlaIdeal.Hand

open Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The body's statement: from the inputs at their contents and the results' and scratch buffers at any, it leaves the
    results' buffers at what `R_…` makes of what they held. -/
def BodySpec (𝒱 : Variants) (c : Dev nD) (bd : Option 𝒱.V) (i : grid0.Coords)
    (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S1x4096x128 .f32) (harg12 : arg12.IsWhole) (arg13 : Memref sig .tc .vmem S2x128x4096 .bf16) (harg13 : arg13.IsWhole) (arg14 : Memref sig .tc .vmem S128x4096 .bf16) (harg14 : arg14.IsWhole) (arg15 : Memref sig .tc .vmem S2x128x4096 .f32) (harg15 : arg15.IsWhole) (arg16 : Memref sig .tc .vmem S128x4096 .f32) (harg16 : arg16.IsWhole) (arg17 : Memref sig .tc .vmem S2x1024x128 .f32) (harg17 : arg17.IsWhole) (arg18 : Memref sig .tc .vmem S2x1024x1 .f32) (harg18 : arg18.IsWhole)
    (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)
    (R_arg8 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg8.view.ty)
    (R_arg9 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg9.view.ty)
    (R_arg10 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg10.view.ty)
    (R_arg11 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg11.view.ty)
    (R_arg12 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg12.view.ty) : Prop :=
  ∀ (E : Set ℕ) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty),
    (iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18)) : sProp 𝕄G)
    ⊢ wp frame (wpE (defs₀ (F := F)) 𝒱 (c : Thread nD τ) bd) E (cc0_mla_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
      (fun _ => iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} (R_arg8 f_arg8 f_arg9 f_arg10 f_arg11 f_arg12)) ∗ (arg9.view.loc (c : Thread nD τ) ↦[arg9.view.set]{fullShare} (R_arg9 f_arg8 f_arg9 f_arg10 f_arg11 f_arg12)) ∗ (arg10.view.loc (c : Thread nD τ) ↦[arg10.view.set]{fullShare} (R_arg10 f_arg8 f_arg9 f_arg10 f_arg11 f_arg12)) ∗ (arg11.view.loc (c : Thread nD τ) ↦[arg11.view.set]{fullShare} (R_arg11 f_arg8 f_arg9 f_arg10 f_arg11 f_arg12)) ∗ (arg12.view.loc (c : Thread nD τ) ↦[arg12.view.set]{fullShare} (R_arg12 f_arg8 f_arg9 f_arg10 f_arg11 f_arg12)) ∗ (∃ f : BufTy.Contents (Elt F) arg13.view.ty, (arg13.view.loc (c : Thread nD τ) ↦[arg13.view.set]{fullShare} f)) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f))))

variable (𝒱 : Variants) (c : Dev nD) (bd : Option 𝒱.V) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S4096x128 .bf16) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .bf16) (harg10 : arg10.IsWhole)
  (arg11 : Memref sig .tc .vmem S4096x128 .f32) (harg11 : arg11.IsWhole)
  (arg12 : Memref sig .tc .vmem S1x4096x128 .f32) (harg12 : arg12.IsWhole)
  (arg13 : Memref sig .tc .vmem S2x128x4096 .bf16) (harg13 : arg13.IsWhole)
  (arg14 : Memref sig .tc .vmem S128x4096 .bf16) (harg14 : arg14.IsWhole)
  (arg15 : Memref sig .tc .vmem S2x128x4096 .f32) (harg15 : arg15.IsWhole)
  (arg16 : Memref sig .tc .vmem S128x4096 .f32) (harg16 : arg16.IsWhole)
  (arg17 : Memref sig .tc .vmem S2x1024x128 .f32) (harg17 : arg17.IsWhole)
  (arg18 : Memref sig .tc .vmem S2x1024x1 .f32) (harg18 : arg18.IsWhole)

/-- The body's run: what it leaves in each result's buffer, as a function of what it finds there. -/
@[irreducible] def body  (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) :
    Σ' (R_arg8 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg8.view.ty) (R_arg9 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg9.view.ty) (R_arg10 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg10.view.ty) (R_arg11 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg11.view.ty),
      { R_arg12 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg12.view.ty // BodySpec (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 X_arg7 R_arg8 R_arg9 R_arg10 R_arg11 R_arg12 } := by
  refine ⟨?_, ?_, ?_, ?_, ?_, ?run⟩
  case run =>
    intro E f_arg8 f_arg9 f_arg10 f_arg11 f_arg12 f_arg13 f_arg14 f_arg15 f_arg16 f_arg17 f_arg18
    simp only [cc0_mla_bwd_eq_skeleton]; unfold cc0_mla_bwd_skel
    simp only [k0_part18_eq_skeleton, k0_part19_eq_skeleton, k0_part20_eq_skeleton, k0_part21_eq_skeleton, k0_part22_eq_skeleton, k0_part23_eq_skeleton, k0_part24_eq_skeleton]
    iintro ⟨HR_arg1, HR_arg2, HR_arg3, HR_arg4, HR_arg5, HR_arg6, HR_arg7, HW_arg8, HW_arg9, HW_arg10, HW_arg11, HW_arg12, HW_arg13, HW_arg14, HW_arg15, HW_arg16, HW_arg17, HW_arg18⟩
    sl_exec
    sl_step
    sl_close

end Cert.MlaIdeal.Hand

end
-- ==== Proof.Mla.Step.lean ====
/-
  The latent attention's backward kernel: the body at one point over owned staging buffers, with what it needs of
  what it finds in the results' buffers and what it leaves there as predicates.
-/
module

public import proofs.«01_k».proof.Proof.Mla.Body
public import Idealize.ShloMosaic.Lib.Claim

@[expose] public section

set_option maxRecDepth 16384
set_option maxHeartbeats 4000000

noncomputable section

namespace Cert.MlaIdeal.Hand

open Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- Owned, at contents of which `P` holds. -/
abbrev Some' (c : Dev nD) {sh : Shape} {e : EltTy} (a : Memref sig .tc .vmem sh e) (P : (sh.Idx → Elt F e) → Prop) : sProp 𝕄G :=
  iprop(∃ d, ⌜P d⌝ ∗ owns (c : Thread nD τ) a fullShare d)

/-- The body over owned buffers. -/
theorem step (𝒱 : Variants) (c : Dev nD) (bd : Option 𝒱.V) (i : grid0.Coords)
  (arg1 : Memref sig .tc .vmem S4096x128 .bf16) (harg1 : arg1.IsWhole)
  (arg2 : Memref sig .tc .vmem S4096x128 .bf16) (harg2 : arg2.IsWhole)
  (arg3 : Memref sig .tc .vmem S4096x128 .bf16) (harg3 : arg3.IsWhole)
  (arg4 : Memref sig .tc .vmem S4096x128 .bf16) (harg4 : arg4.IsWhole)
  (arg5 : Memref sig .tc .vmem S4096x128 .f32) (harg5 : arg5.IsWhole)
  (arg6 : Memref sig .tc .vmem S4096x128 .bf16) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S4096x128 .bf16) (harg9 : arg9.IsWhole)
  (arg10 : Memref sig .tc .vmem S4096x128 .bf16) (harg10 : arg10.IsWhole)
  (arg11 : Memref sig .tc .vmem S4096x128 .f32) (harg11 : arg11.IsWhole)
  (arg12 : Memref sig .tc .vmem S1x4096x128 .f32) (harg12 : arg12.IsWhole)
  (arg13 : Memref sig .tc .vmem S2x128x4096 .bf16) (harg13 : arg13.IsWhole)
  (arg14 : Memref sig .tc .vmem S128x4096 .bf16) (harg14 : arg14.IsWhole)
  (arg15 : Memref sig .tc .vmem S2x128x4096 .f32) (harg15 : arg15.IsWhole)
  (arg16 : Memref sig .tc .vmem S128x4096 .f32) (harg16 : arg16.IsWhole)
  (arg17 : Memref sig .tc .vmem S2x1024x128 .f32) (harg17 : arg17.IsWhole)
  (arg18 : Memref sig .tc .vmem S2x1024x1 .f32) (harg18 : arg18.IsWhole)
    (x0 : S4096x128.Idx → Elt F .bf16)
    (x1 : S4096x128.Idx → Elt F .bf16)
    (x2 : S4096x128.Idx → Elt F .bf16)
    (x3 : S4096x128.Idx → Elt F .bf16)
    (x4 : S4096x128.Idx → Elt F .f32)
    (x5 : S4096x128.Idx → Elt F .bf16)
    (x6 : S4096x128.Idx → Elt F .bf16)
    {R_arg8 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg8.view.ty}
    {R_arg9 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg9.view.ty}
    {R_arg10 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg10.view.ty}
    {R_arg11 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg11.view.ty}
    {R_arg12 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg12.view.ty}
    (P_arg8 Q_arg8 : (S4096x128.Idx → Elt F .bf16) → Prop)
    (P_arg9 Q_arg9 : (S4096x128.Idx → Elt F .bf16) → Prop)
    (P_arg10 Q_arg10 : (S4096x128.Idx → Elt F .bf16) → Prop)
    (P_arg11 Q_arg11 : (S4096x128.Idx → Elt F .f32) → Prop)
    (P_arg12 Q_arg12 : (S1x4096x128.Idx → Elt F .f32) → Prop)
    (hs : BodySpec (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg1.unread x0) (harg2.unread x1) (harg3.unread x2) (harg4.unread x3) (harg5.unread x4) (harg6.unread x5) (harg7.unread x6) R_arg8 R_arg9 R_arg10 R_arg11 R_arg12)
    (hQ : ∀ f_arg8 f_arg9 f_arg10 f_arg11 f_arg12, P_arg8 (arg8.view.read (Elt F) f_arg8) → P_arg9 (arg9.view.read (Elt F) f_arg9) → P_arg10 (arg10.view.read (Elt F) f_arg10) → P_arg11 (arg11.view.read (Elt F) f_arg11) → P_arg12 (arg12.view.read (Elt F) f_arg12) →
      Q_arg8 (arg8.view.read (Elt F) (R_arg8 f_arg8 f_arg9 f_arg10 f_arg11 f_arg12)) ∧ Q_arg9 (arg9.view.read (Elt F) (R_arg9 f_arg8 f_arg9 f_arg10 f_arg11 f_arg12)) ∧ Q_arg10 (arg10.view.read (Elt F) (R_arg10 f_arg8 f_arg9 f_arg10 f_arg11 f_arg12)) ∧ Q_arg11 (arg11.view.read (Elt F) (R_arg11 f_arg8 f_arg9 f_arg10 f_arg11 f_arg12)) ∧ Q_arg12 (arg12.view.read (Elt F) (R_arg12 f_arg8 f_arg9 f_arg10 f_arg11 f_arg12)))
    (E : Set ℕ) :
    (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ Some' c arg8 P_arg8 ∗ Some' c arg9 P_arg9 ∗ Some' c arg10 P_arg10 ∗ Some' c arg11 P_arg11 ∗ Some' c arg12 P_arg12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) : sProp 𝕄G)
      ⊢ wp frame (wpE (defs₀ (F := F)) 𝒱 (c : Thread nD τ) bd) E (cc0_mla_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ Some' c arg8 Q_arg8 ∗ Some' c arg9 Q_arg9 ∗ Some' c arg10 Q_arg10 ∗ Some' c arg11 Q_arg11 ∗ Some' c arg12 Q_arg12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d))) := by
  unfold Some' owns
  iintro ⟨⟨%i0, %hi0, I0⟩, ⟨%i1, %hi1, I1⟩, ⟨%i2, %hi2, I2⟩, ⟨%i3, %hi3, I3⟩, ⟨%i4, %hi4, I4⟩, ⟨%i5, %hi5, I5⟩, ⟨%i6, %hi6, I6⟩, ⟨%d0, %hp0, %o0, %ho0, O0⟩, ⟨%d1, %hp1, %o1, %ho1, O1⟩, ⟨%d2, %hp2, %o2, %ho2, O2⟩, ⟨%d3, %hp3, %o3, %ho3, O3⟩, ⟨%d4, %hp4, %o4, %ho4, O4⟩, ⟨%e0, %s0, -, S0⟩, ⟨%e1, %s1, -, S1⟩, ⟨%e2, %s2, -, S2⟩, ⟨%e3, %s3, -, S3⟩, ⟨%e4, %s4, -, S4⟩, ⟨%e5, %s5, -, S5⟩⟩
  obtain rfl := harg1.eq_unread hi0
  obtain rfl := harg2.eq_unread hi1
  obtain rfl := harg3.eq_unread hi2
  obtain rfl := harg4.eq_unread hi3
  obtain rfl := harg5.eq_unread hi4
  obtain rfl := harg6.eq_unread hi5
  obtain rfl := harg7.eq_unread hi6
  subst ho0
  subst ho1
  subst ho2
  subst ho3
  subst ho4
  obtain ⟨hq0, hq1, hq2, hq3, hq4⟩ := hQ o0 o1 o2 o3 o4 hp0 hp1 hp2 hp3 hp4
  iapply ((hs E o0 o1 o2 o3 o4 s0 s1 s2 s3 s4 s5).trans (wp_mono _ _ _ fun _ => ?post))
  case post =>
    iintro ⟨I0, I1, I2, I3, I4, I5, I6, O0, O1, O2, O3, O4, ⟨%s0', S0⟩, ⟨%s1', S1⟩, ⟨%s2', S2⟩, ⟨%s3', S3⟩, ⟨%s4', S4⟩, ⟨%s5', S5⟩⟩
    isplitl [I0]
    · iexists _; isplitr; · ipureintro; exact harg1.read_unread _
      iexact I0
    isplitl [I1]
    · iexists _; isplitr; · ipureintro; exact harg2.read_unread _
      iexact I1
    isplitl [I2]
    · iexists _; isplitr; · ipureintro; exact harg3.read_unread _
      iexact I2
    isplitl [I3]
    · iexists _; isplitr; · ipureintro; exact harg4.read_unread _
      iexact I3
    isplitl [I4]
    · iexists _; isplitr; · ipureintro; exact harg5.read_unread _
      iexact I4
    isplitl [I5]
    · iexists _; isplitr; · ipureintro; exact harg6.read_unread _
      iexact I5
    isplitl [I6]
    · iexists _; isplitr; · ipureintro; exact harg7.read_unread _
      iexact I6
    isplitl [O0]
    · iexists _; isplitr; · ipureintro; exact hq0
      iexists _; isplitr; · ipureintro; rfl
      iexact O0
    isplitl [O1]
    · iexists _; isplitr; · ipureintro; exact hq1
      iexists _; isplitr; · ipureintro; rfl
      iexact O1
    isplitl [O2]
    · iexists _; isplitr; · ipureintro; exact hq2
      iexists _; isplitr; · ipureintro; rfl
      iexact O2
    isplitl [O3]
    · iexists _; isplitr; · ipureintro; exact hq3
      iexists _; isplitr; · ipureintro; rfl
      iexact O3
    isplitl [O4]
    · iexists _; isplitr; · ipureintro; exact hq4
      iexists _; isplitr; · ipureintro; rfl
      iexact O4
    isplitl [S0]
    · iexists _, _; isplitr; swap; · iexact S0
      ipureintro; rfl
    isplitl [S1]
    · iexists _, _; isplitr; swap; · iexact S1
      ipureintro; rfl
    isplitl [S2]
    · iexists _, _; isplitr; swap; · iexact S2
      ipureintro; rfl
    isplitl [S3]
    · iexists _, _; isplitr; swap; · iexact S3
      ipureintro; rfl
    isplitl [S4]
    · iexists _, _; isplitr; swap; · iexact S4
      ipureintro; rfl
    iexists _, _; isplitr; swap; · iexact S5
    ipureintro; rfl
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [O0]; · iexact O0
  isplitl [O1]; · iexact O1
  isplitl [O2]; · iexact O2
  isplitl [O3]; · iexact O3
  isplitl [O4]; · iexact O4
  isplitl [S0]; · iexact S0
  isplitl [S1]; · iexact S1
  isplitl [S2]; · iexact S2
  isplitl [S3]; · iexact S3
  isplitl [S4]; · iexact S4
  iexact S5

end Cert.MlaIdeal.Hand

end
-- ==== Proof.Mla.Run.lean ====
/-
  The latent attention's backward kernel: the launch, with nothing named of what the results' buffers hold: every
  run ends, its arguments unchanged.
-/
module

public import proofs.«01_k».proof.Proof.Mla.Step
public import proofs.«01_k».proof.Proof.Gen.MlaIdeal.Frame

@[expose] public section

set_option maxRecDepth 16384

noncomputable section

namespace Cert.MlaIdeal.Hand

open Cert.MlaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- The results' windows, of whose contents this run says nothing. -/
def forgets0 : Fin 12 → Bool := fun w => w.val == 7 || w.val == 8 || w.val == 9 || w.val == 10 || w.val == 11

/-- The launch's data: each input's buffer at its block, the results' unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with, -/
def bodyPre (c : Dev nD) (t : Fin cfg0.N) : sProp 𝕄G :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d))

/-- and what it returns. -/
def bodyPost (c : Dev nD) (t : Fin cfg0.N) : sProp 𝕄G :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ (∃ d, owns (c : Thread nD τ) (win0_7.stage (cfg0.slots t 7)) fullShare d)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d))

/-- The scratch buffers out of the launch's invariant. -/
theorem ΦA_eq (c : Dev nD) :
    (Pipeline.ΦA spec0 c : sProp 𝕄G)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, ΦA_eq,
    after0_0, after0_1, after0_2, after0_3, after0_4, after0_5, after0_6]
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    icases HΦ with ⟨⟨S0, S1, S2, S3, S4, S5⟩, HR⟩
    ihave K := (step Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) (fun _ => True) (fun _ => True) (fun _ => True) (fun _ => True) (fun _ => True) (fun _ => True) (fun _ => True) (fun _ => True) (fun _ => True) (fun _ => True) (body Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)  _ _ _ _ _ _ _).2.2.2.2.2 (by intros; exact ⟨trivial, trivial, trivial, trivial, trivial⟩) Set.univ) $$ [H0 H1 H2 H3 H4 H5 H6 H7 H8 H9 H10 H11 S0 S1 S2 S3 S4 S5]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iexists d7; isplitr; · ipureintro; trivial
        iexact H7
      isplitl [H8]
      · iexists d8; isplitr; · ipureintro; trivial
        iexact H8
      isplitl [H9]
      · iexists d9; isplitr; · ipureintro; trivial
        iexact H9
      isplitl [H10]
      · iexists d10; isplitr; · ipureintro; trivial
        iexact H10
      isplitl [H11]
      · iexists d11; isplitr; · ipureintro; trivial
        iexact H11
      isplitl [S0]; · iexact S0
      isplitl [S1]; · iexact S1
      isplitl [S2]; · iexact S2
      isplitl [S3]; · iexact S3
      isplitl [S4]; · iexact S4
      iexact S5
    iapply (wp_wand_r _ _)
    isplitl [K]; · iexact K
    iintro %_ ⟨H0, H1, H2, H3, H4, H5, H6, ⟨%r7, -, H7⟩, ⟨%r8, -, H8⟩, ⟨%r9, -, H9⟩, ⟨%r10, -, H10⟩, ⟨%r11, -, H11⟩, S0, S1, S2, S3, S4, S5⟩
    isplitl [HR S0 S1 S2 S3 S4 S5]
    · isplitr [HR]
      · isplitl [S0]; · iexact S0
        isplitl [S1]; · iexact S1
        isplitl [S2]; · iexact S2
        isplitl [S3]; · iexact S3
        isplitl [S4]; · iexact S4
        iexact S5
      · iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iexists _; iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The buffers that the lines after the call write. -/
def T0 : Finset (Ref sig .tc) := {main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_call4_v0, main_call4_v1}

theorem tail_writes : ∀ ops ∈ ([hostOps1, hostOps1_1, hostOps1_2] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals
      intro b hb
      simp only [StableHlo.nullary_writes, StableHlo.unary_writes, StableHlo.binary_writes, StableHlo.ternary_writes,
        StableHlo.quaternary_writes, StableHlo.reshape_writes, Finset.mem_singleton] at hb
      cases Proc.devRef_injective (τ := τ) _ hb
      decide
  · simp only [hostOps1_1, List.mem_cons, List.mem_nil_iff, or_false] at hop
    rcases hop with rfl | rfl | rfl
    all_goals
      intro b hb
      simp only [StableHlo.nullary_writes, StableHlo.unary_writes, StableHlo.binary_writes, StableHlo.ternary_writes,
        StableHlo.quaternary_writes, StableHlo.reshape_writes, Finset.mem_singleton] at hb
      cases Proc.devRef_injective (τ := τ) _ hb
      decide
  · simp only [hostOps1_2, List.mem_cons, List.mem_nil_iff, or_false] at hop
    rcases hop with rfl | rfl | rfl | rfl | rfl | rfl | rfl | rfl
    all_goals
      intro b hb
      simp only [StableHlo.nullary_writes, StableHlo.unary_writes, StableHlo.binary_writes, StableHlo.ternary_writes,
        StableHlo.quaternary_writes, StableHlo.reshape_writes, Finset.mem_singleton] at hb
      cases Proc.devRef_injective (τ := τ) _ hb
      decide

set_option backward.isDefEq.respectTransparency.types false in
set_option maxHeartbeats 2000000 in
/-- The launch, with every counter at zero at its end. -/
theorem run_quiet : θ_run defs (onTc (τ := τ) (main (F := F))) (s₀ m ρ)
    (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c w => by unfold Pipeline.Dat.share; split <;> rfl)
    (howed := fun _ _ => rfl) (V₀ := V0 m) (opss := [hostOps1, hostOps1_1, hostOps1_2]) (hsub := sfx_sub) (hfresh := sfx_fresh) (hkeep := sfx_keeps) (hT := tail_writes)
    (hmain := hmain m Variants.none) (hA := A_eq m) (hΦ := fun _ _ => rfl)

/-- Every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c)⟩, h.2⟩) (run_quiet m ρ)

end Cert.MlaIdeal.Hand

end
-- ==== Proof.Mla.Frames.lean ====
/-
  The latent attention's backward call: its frames.
-/
module

public import proofs.«01_k».proof.Defs
public import proofs.«01_k».proof.Proof.Mla.Run
public import proofs.«01_k».proof.Proof.Gen.Mla
public import proofs.«01_k».proof.Proof.Gen.MlaRefIdeal.Run

@[expose] public section

set_option maxRecDepth 16384

noncomputable section

namespace Cert.Proof.Mla

open Idealize.ShloMosaic Idealize.ShloMosaic.TcCoe Idealize.SL.Sem

/-- At the machine's floats a named constant is its literal. -/
@[reducible] def literal : Named Bits where
  named _ _ {φ} b := FloatOps.ofBits φ b

/-- What the frame says of the idealised call's program at the machine's floats. -/
def FrameAtBits : Prop :=
  letI := literal
  ∀ (m : (ℓ : Loc Cert.MlaIdeal.nD Cert.MlaIdeal.τ Cert.MlaIdeal.sig) → Buf (Elt Bits) ℓ) (g : Dev Cert.MlaIdeal.nD → PrngReg),
    Cert.Pre_Mla m →
    θ_run (Cert.MlaIdeal.defs (F := Bits)) (onTc (τ := Cert.MlaIdeal.τ) (Cert.MlaIdeal.main (F := Bits))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

theorem frameAtBits : FrameAtBits := fun m g _ => @Cert.MlaIdeal.Hand.frame Bits _ literal m g

/-- The printed call is the idealised one's program at the machine's floats. -/
theorem same_program : FrameAtBits = Cert.quiescent_Mla (hMla := Cert.Mla.Gen.facts) := by sl_kernel_rfl

/-- The printed call's frame: the idealised one's run at the machine's floats. -/
theorem frame_kernel : Cert.quiescent_Mla (hMla := Cert.Mla.Gen.facts) := same_program ▸ frameAtBits

theorem frame_ideal : Cert.quiescent_MlaIdeal (hMlaIdeal := Cert.MlaIdeal.Gen.facts) := fun m ρ _ =>
  Cert.MlaIdeal.Hand.frame (F := Ideal) m ρ

theorem frame_ref : Cert.quiescent_MlaRefIdeal (hMlaRefIdeal := Cert.MlaRefIdeal.Gen.facts) := fun m ρ _ =>
  (θ_run _ _ _).mono (fun r h => ⟨fun c => (h c).2.2.2.2.2, Idealize.ShloMosaic.sem_eq_zero_of_no_sems (by decide) r.2⟩)
    (Cert.MlaRefIdeal.Value.run (F := Ideal) m ρ)

end Cert.Proof.Mla

end
-- ==== Proof.Mla.Weights.lean ====
module

public import proofs.«01_k».proof.Proof.Fox.Weights
public import proofs.«01_k».proof.Proof.Gen.MlaIdeal.Loops

/-! The latent attention's backward block in plain formulas: one pair of heads, positions and lanes as numbers. -/

@[expose] public section
set_option maxRecDepth 16384
noncomputable section
namespace Cert.Proof.Mla
open Idealize.ShloMosaic Idealize.ShloMosaic.TcCoe Idealize.SL.Sem
open Cert.Proof.Fox (rd2 rd3 acc2 acc3 sum_tile upd upd_in upd_out)

/-- What a pair of heads reads, by position and lane: the queries and keys, the rotary queries and keys (each head's at the
    other head's lanes), the values and cotangents; the row's offset and the row's sum by head and position. -/
structure Ins where
  q : ℕ → ℕ → EReal
  qr : ℕ → ℕ → EReal
  k : ℕ → ℕ → EReal
  kr : ℕ → ℕ → EReal
  V : ℕ → ℕ → EReal
  O : ℕ → ℕ → EReal
  A : ℕ → ℕ → EReal
  D : ℕ → ℕ → EReal

namespace Ins
variable (M : Ins)

/-- Head `h`'s operand: its own lanes from `x`, the other head's lanes from `y`. -/
def hd (h l : ℕ) (x y : EReal) : EReal := if l / 64 = h then x else y

/-- Head `h`'s query. -/
def Q (h q l : ℕ) : EReal := hd h l (M.q q l) (M.qr q l)
/-- Head `h`'s key. -/
def K (h k l : ℕ) : EReal := hd h l (M.k k l) (M.kr k l)

/-- The score of query `q` and key `k`. -/
def sc (h q k : ℕ) : EReal := (∑ l : Fin 128, M.Q h q l * M.K h k l) + M.A h q

/-- The cotangent of the weight of query `q` and key `k`, less the row's sum. -/
def dw (h q k : ℕ) : EReal := (∑ l : Fin 128, hd h l (M.O q l) 0 * M.V k l) - M.D h q

/-- The weight: a query sees the keys of its own chunk and of those before. -/
def pr (h q k : ℕ) : EReal := if k / 64 ≤ q / 64 then Ideal.exp2 (M.sc h q k) else 0

/-- The score's cotangent. -/
def ds (h q k : ℕ) : EReal := M.pr h q k * M.dw h q k

theorem pr_le {h q k : ℕ} (hk : k / 64 ≤ q / 64) : M.pr h q k = Ideal.exp2 (M.sc h q k) := if_pos hk
theorem pr_gt {h q k : ℕ} (hk : q / 64 < k / 64) : M.pr h q k = 0 := if_neg (by omega)
theorem ds_gt {h q k : ℕ} (hk : q / 64 < k / 64) : M.ds h q k = 0 := by rw [ds, pr_gt _ hk, zero_mul]

/-- The value's gradient, transposed: the queries before a bound that depends on the head and the key. -/
def dvt (b : ℕ → ℕ → ℕ) (l k : ℕ) : EReal := ∑ q ∈ Finset.range (b (l / 64) k), M.O q l * M.pr (l / 64) q k
/-- The gradient of head `h`'s key, transposed. -/
def dkt (b : ℕ → ℕ → ℕ) (h l k : ℕ) : EReal := ∑ q ∈ Finset.range (b h k), M.Q h q l * M.ds h q k
/-- The gradient of head `h`'s query at row `r` of the tile that begins at `q0`: the keys before a bound that depends on head and row. -/
def dq (q0 : ℕ) (n : ℕ → ℕ → ℕ) (h r l : ℕ) : EReal := ∑ k ∈ Finset.range (n h r), M.ds h (q0 + r) k * M.K h k l
end Ins

/-- The bound of a tile's keys is at or before the tile's first query, and the queries in between see none of the keys. -/
def Ready (b : ℕ → ℕ → ℕ) (h k0 n q0 : ℕ) : Prop :=
  ∀ k, k0 ≤ k → k < k0 + n → b h k ≤ q0 ∧ ∀ q, b h k ≤ q → q < q0 → q / 64 < k / 64

section Adds
variable {sig : RefSig} {κ : Kind} {sp : Space} (M : Ins)
variable {off2 : Fin 2 → ℕ} {off3 : Fin 3 → ℕ} {h q0 m k0 n : ℕ} {b : ℕ → ℕ → ℕ}

/-- One tile added to the value's gradient. -/
theorem add_dvt (v : View sig κ sp ⟨2, ![128, 4096]⟩ .f32) (f : v.ty.Contents (Elt Ideal))
    {inb : ∀ x, off2 x + (![64, n] : Fin 2 → ℕ) x ≤ (![128, 4096] : Fin 2 → ℕ) x} (hoff : off2 = ![64 * h, k0])
    {w : (Rect.unit (s := ⟨2, ![128, 4096]⟩) off2 ![64, n] inb).shape.Idx → Elt Ideal .f32}
    {L : List (View.Piece (Elt Ideal) ⟨2, ![128, 4096]⟩ .f32)} (hr : Ready b h k0 n q0)
    (hG : ∀ (x : Fin 128) (y : Fin 4096), v.read (Elt Ideal) (v.writes (Elt Ideal) f L) (ix2 x y) = M.dvt b x y)
    (hw : ∀ (r : Fin 64) (c : Fin n), w (ix2 r c)
      = M.dvt b (64 * h + r) (k0 + c) + ∑ x : Fin m, M.O (q0 + x) (64 * h + r) * M.pr h (q0 + x) (k0 + c))
    (x : Fin 128) (y : Fin 4096) :
    v.read (Elt Ideal) (v.writes (Elt Ideal) f (⟨Rect.unit off2 ![64, n] inb, w⟩ :: L)) (ix2 x y)
      = M.dvt (upd b h k0 n (q0 + m)) x y := by
  refine acc2 v f hoff (H := M.dvt (upd b h k0 n (q0 + m))) hG (fun r c => ?_) (fun x y hn => ?_) x y
  · obtain ⟨h1, h2⟩ := hr (k0 + c) (by omega) (by omega)
    rw [hw r c, Ins.dvt, Ins.dvt, (by omega : (64 * h + (r : ℕ)) / 64 = h), upd_in b (by omega) (by omega)]
    exact (sum_tile _ h1 fun q hq hq' => by rw [M.pr_gt (h2 q hq hq'), mul_zero]).symm
  · rw [Ins.dvt, Ins.dvt, upd_out b (by omega)]

/-- One tile added to the keys' gradients. -/
theorem add_dkt (v : View sig κ sp ⟨3, ![2, 128, 4096]⟩ .f32) (f : v.ty.Contents (Elt Ideal))
    {inb : ∀ x, off3 x + (![1, 128, n] : Fin 3 → ℕ) x ≤ (![2, 128, 4096] : Fin 3 → ℕ) x} (hoff : off3 = ![h, 0, k0])
    {w : (Rect.unit (s := ⟨3, ![2, 128, 4096]⟩) off3 ![1, 128, n] inb).shape.Idx → Elt Ideal .f32}
    {L : List (View.Piece (Elt Ideal) ⟨3, ![2, 128, 4096]⟩ .f32)} (hr : Ready b h k0 n q0)
    (hG : ∀ (z : Fin 2) (x : Fin 128) (y : Fin 4096), v.read (Elt Ideal) (v.writes (Elt Ideal) f L) (ix3 z x y) = M.dkt b z x y)
    (hw : ∀ (z : Fin 1) (r : Fin 128) (c : Fin n), w (ix3 z r c)
      = M.dkt b h r (k0 + c) + ∑ x : Fin m, M.Q h (q0 + x) r * M.ds h (q0 + x) (k0 + c))
    (z : Fin 2) (x : Fin 128) (y : Fin 4096) :
    v.read (Elt Ideal) (v.writes (Elt Ideal) f (⟨Rect.unit off3 ![1, 128, n] inb, w⟩ :: L)) (ix3 z x y)
      = M.dkt (upd b h k0 n (q0 + m)) z x y := by
  refine acc3 v f hoff (G := M.dkt b) (H := M.dkt (upd b h k0 n (q0 + m))) hG (fun z r c => ?_) (fun z x y hn => ?_) z x y
  · obtain ⟨h1, h2⟩ := hr (k0 + c) (by omega) (by omega)
    rw [hw z r c, (by omega : h + (z : ℕ) = h), Nat.zero_add, Ins.dkt, Ins.dkt, upd_in b (by omega) (by omega)]
    exact (sum_tile _ h1 fun q hq hq' => by rw [M.ds_gt (h2 q hq hq'), mul_zero]).symm
  · rw [Ins.dkt, Ins.dkt, upd_out b (by omega)]

variable {r0 : ℕ}

/-- One tile added to the gradients of the queries of a tile of rows. -/
theorem add_dq (v : View sig κ sp ⟨3, ![2, 1024, 128]⟩ .f32) (f : v.ty.Contents (Elt Ideal))
    {inb : ∀ x, off3 x + (![1, m, 128] : Fin 3 → ℕ) x ≤ (![2, 1024, 128] : Fin 3 → ℕ) x} (hoff : off3 = ![h, r0, 0])
    {w : (Rect.unit (s := ⟨3, ![2, 1024, 128]⟩) off3 ![1, m, 128] inb).shape.Idx → Elt Ideal .f32}
    {L : List (View.Piece (Elt Ideal) ⟨3, ![2, 1024, 128]⟩ .f32)} (hr : ∀ r, r0 ≤ r → r < r0 + m → b h r = k0)
    (hG : ∀ (z : Fin 2) (x : Fin 1024) (y : Fin 128), v.read (Elt Ideal) (v.writes (Elt Ideal) f L) (ix3 z x y) = M.dq q0 b z x y)
    (hw : ∀ (z : Fin 1) (r : Fin m) (l : Fin 128), w (ix3 z r l)
      = M.dq q0 b h (r0 + r) l + ∑ x : Fin n, M.ds h (q0 + (r0 + r)) (k0 + x) * M.K h (k0 + x) l)
    (z : Fin 2) (x : Fin 1024) (y : Fin 128) :
    v.read (Elt Ideal) (v.writes (Elt Ideal) f (⟨Rect.unit off3 ![1, m, 128] inb, w⟩ :: L)) (ix3 z x y)
      = M.dq q0 (upd b h r0 m (k0 + n)) z x y := by
  refine acc3 v f hoff (G := M.dq q0 b) (H := M.dq q0 (upd b h r0 m (k0 + n))) hG (fun z r c => ?_) (fun z x y hn => ?_) z x y
  · have h1 := hr (r0 + r) (by omega) (by omega)
    rw [hw z r c, (by omega : h + (z : ℕ) = h), Nat.zero_add, Ins.dq, Ins.dq, upd_in b (by omega) (by omega), h1]
    exact (sum_tile _ le_rfl (by omega)).symm
  · rw [Ins.dq, Ins.dq, upd_out b (by omega)]
end Adds

/-- The lanes below 64, by words. -/
theorem lane_lt (l : Fin 128) (x y : EReal) :
    Scalar.select (IntOp.andi (IntOp.cmpi CmpIPredicate.sge (BitVec.ofNat 32 ↑l) 0#32) (IntOp.cmpi CmpIPredicate.slt (BitVec.ofNat 32 ↑l) 64#32)) x y
      = Ins.hd 0 l x y := by
  simp (disch := word_cmp_side) only [hlo_ix]
  by_cases h : (l : ℕ) < 64
  · rw [Ins.hd, if_pos (by omega), if_pos (by omega)]
  · rw [Ins.hd, if_neg (by omega), if_neg (by omega)]

/-- The lanes from 64, by words. -/
theorem lane_ge (l : Fin 128) (x y : EReal) :
    Scalar.select (IntOp.andi (IntOp.cmpi CmpIPredicate.sge (BitVec.ofNat 32 ↑l) 64#32) (IntOp.cmpi CmpIPredicate.slt (BitVec.ofNat 32 ↑l) 128#32)) x y
      = Ins.hd 1 l x y := by
  simp (disch := word_cmp_side) only [hlo_ix]
  by_cases h : (l : ℕ) < 64
  · rw [Ins.hd, if_neg (by omega), if_neg (by omega)]
  · rw [Ins.hd, if_pos (by omega), if_pos (by omega)]
end Cert.Proof.Mla
end

end
-- ==== Proof.Mla.Full.lean ====
module

public import proofs.«01_k».proof.Proof.Mla.Weights

/-! One whole tile of keys against one tile of queries: what the inner loop's trip adds to the gradients. -/

@[expose] public section
set_option maxRecDepth 16384
noncomputable section
namespace Cert.Proof.Mla
open Idealize.ShloMosaic Idealize.ShloMosaic.TcCoe Idealize.SL.Sem
open Cert.MlaIdeal Cert.MlaIdeal.Gen
open Cert.Proof.Fox (rd2 rd3 acc2 acc3 sum_tile upd upd_in upd_out)

/-- The operands of one tile of queries: each head's queries, its cotangents, zero at the other head's lanes, with the
    rows' offsets and sums. -/
structure Tiles (M : Ins) (p : ℕ) (v270 v277 v285 v293 : FVec Ideal S1024x128 .bf16) (v301 v309 v318 v327 : FVec Ideal S1024x1 .f32) : Prop where
  q0 : ∀ (r : Fin 1024) (l : Fin 128), v270 (ix2 r l) = M.Q 0 (p + r) l
  q1 : ∀ (r : Fin 1024) (l : Fin 128), v277 (ix2 r l) = M.Q 1 (p + r) l
  o0 : ∀ (r : Fin 1024) (l : Fin 128), v285 (ix2 r l) = Ins.hd 0 l (M.O (p + r) l) 0
  o1 : ∀ (r : Fin 1024) (l : Fin 128), v293 (ix2 r l) = Ins.hd 1 l (M.O (p + r) l) 0
  a0 : ∀ (r : Fin 1024) (z : Fin 1), v301 (ix2 r z) = M.A 0 (p + r)
  a1 : ∀ (r : Fin 1024) (z : Fin 1), v309 (ix2 r z) = M.A 1 (p + r)
  d0 : ∀ (r : Fin 1024) (z : Fin 1), v318 (ix2 r z) = M.D 0 (p + r)
  d1 : ∀ (r : Fin 1024) (z : Fin 1), v327 (ix2 r z) = M.D 1 (p + r)

variable (arg2 arg3 arg7 : Memref sig .tc .vmem S4096x128 .bf16)
  (arg13 : Memref sig .tc .vmem S2x128x4096 .bf16) (arg14 : Memref sig .tc .vmem S128x4096 .bf16)
  (X_arg2 : BufTy.Contents (Elt Ideal) arg2.view.ty) (X_arg3 : BufTy.Contents (Elt Ideal) arg3.view.ty) (X_arg7 : BufTy.Contents (Elt Ideal) arg7.view.ty)
  (X_arg13 : BufTy.Contents (Elt Ideal) arg13.view.ty) (X_arg14 : BufTy.Contents (Elt Ideal) arg14.view.ty)

/-- The buffers that a trip reads. -/
structure Reads (M : Ins) : Prop where
  k : ∀ (x : Fin 4096) (y : Fin 128), arg2.view.read (Elt Ideal) X_arg2 (ix2 x y) = M.k x y
  v : ∀ (x : Fin 4096) (y : Fin 128), arg3.view.read (Elt Ideal) X_arg3 (ix2 x y) = M.V x y
  kr : ∀ (x : Fin 4096) (y : Fin 128), arg7.view.read (Elt Ideal) X_arg7 (ix2 x y) = M.kr x y
  q : ∀ (z : Fin 2) (x : Fin 128) (y : Fin 4096), arg13.view.read (Elt Ideal) X_arg13 (ix3 z x y) = M.Q z y x
  o : ∀ (x : Fin 128) (y : Fin 4096), arg14.view.read (Elt Ideal) X_arg14 (ix2 x y) = M.O y x

variable (arg15 : Memref sig .tc .vmem S2x128x4096 .f32) (arg16 : Memref sig .tc .vmem S128x4096 .f32)
  (arg17 : Memref sig .tc .vmem S2x1024x128 .f32)

/-- The gradients so far: the keys' buffers hold the queries before the bounds `b`, -/
structure Cols (M : Ins) (b : ℕ → ℕ → ℕ) (f15 : BufTy.Contents (Elt Ideal) arg15.view.ty) (f16 : BufTy.Contents (Elt Ideal) arg16.view.ty) : Prop where
  k : ∀ (z : Fin 2) (x : Fin 128) (y : Fin 4096), arg15.view.read (Elt Ideal) f15 (ix3 z x y) = M.dkt b z x y
  v : ∀ (x : Fin 128) (y : Fin 4096), arg16.view.read (Elt Ideal) f16 (ix2 x y) = M.dvt b x y

/-- and the tile's buffer the keys before the bounds `n`. -/
def Rows (M : Ins) (q0 : ℕ) (n : ℕ → ℕ → ℕ) (f17 : BufTy.Contents (Elt Ideal) arg17.view.ty) : Prop :=
  ∀ (z : Fin 2) (x : Fin 1024) (y : Fin 128), arg17.view.read (Elt Ideal) f17 (ix3 z x y) = M.dq q0 n z x y

section Full
variable {arg2 arg3 arg7 arg13 arg14 X_arg2 X_arg3 X_arg7 X_arg13 X_arg14}
variable {M : Ins} {k0_t1 : Fin k0_t1_loop.trips} {v270 v277 v285 v293 : FVec Ideal S1024x128 .bf16} {v301 v309 v318 v327 : FVec Ideal S1024x1 .f32}
  (hT : Tiles M (1024 * k0_t1) v270 v277 v285 v293 v301 v309 v318 v327)
  (hR : Reads arg2 arg3 arg7 arg13 arg14 X_arg2 X_arg3 X_arg7 X_arg13 X_arg14 M)
  (k : Fin (k0_t2_loop k0_t1).trips)

theorem t2_lt : ∀ (k0_t1 : Fin k0_t1_loop.trips) (k : Fin (k0_t2_loop k0_t1).trips), (k : ℕ) < k0_t1 := by decide +kernel

include hR in
theorem full_k0 (c : Fin 1024) (l : Fin 128) : trip_k0_t2.sl.v814 (F := Ideal) arg2 arg7 k0_t1 X_arg2 X_arg7 k (ix2 c l) = M.K 0 (1024 * k + c) l := by
  pointwise [trip_k0_t2.sl.v814, trip_k0_t2.sl.v813, trip_k0_t2.sl.v808, trip_k0_t2.sl.v809, trip_k0_t2.sl.v811, trip_k0_t2.sl.v804, trip_k0_t2.sl.v807, rd2 arg2.view X_arg2 (k0_off2_eq k0_t1 k) hR.k, rd2 arg7.view X_arg7 (k0_off2_eq k0_t1 k) hR.kr]
  exact lane_lt l _ _

include hR in
theorem full_k1 (c : Fin 1024) (l : Fin 128) : trip_k0_t2.sl.v821 (F := Ideal) arg2 arg7 k0_t1 X_arg2 X_arg7 k (ix2 c l) = M.K 1 (1024 * k + c) l := by
  pointwise [trip_k0_t2.sl.v821, trip_k0_t2.sl.v820, trip_k0_t2.sl.v808, trip_k0_t2.sl.v818, trip_k0_t2.sl.v811, trip_k0_t2.sl.v804, trip_k0_t2.sl.v807, rd2 arg2.view X_arg2 (k0_off2_eq k0_t1 k) hR.k, rd2 arg7.view X_arg7 (k0_off2_eq k0_t1 k) hR.kr]
  exact lane_ge l _ _

include hT hR in
theorem full_pr0 (r c : Fin 1024) : trip_k0_t2.sl.v835 (F := Ideal) arg2 arg7 k0_t1 v270 v301 X_arg2 X_arg7 k (ix2 r c)
    = M.pr 0 (1024 * k0_t1 + r) (1024 * k + c) := by
  have hlt := t2_lt k0_t1 k
  rw [Ins.pr_le _ (by omega), Ins.sc]
  pointwise [trip_k0_t2.sl.v835, trip_k0_t2.sl.v829, trip_k0_t2.sl.v827, trip_k0_t2.sl.v828, trip_k0_t2.sl.cst_382, full_k0 hR k, hT.q0, hT.a0]
  rfl

include hT hR in
theorem full_pr1 (r c : Fin 1024) : trip_k0_t2.sl.v836 (F := Ideal) arg2 arg7 k0_t1 v277 v309 X_arg2 X_arg7 k (ix2 r c)
    = M.pr 1 (1024 * k0_t1 + r) (1024 * k + c) := by
  have hlt := t2_lt k0_t1 k
  rw [Ins.pr_le _ (by omega), Ins.sc]
  pointwise [trip_k0_t2.sl.v836, trip_k0_t2.sl.v832, trip_k0_t2.sl.v830, trip_k0_t2.sl.v831, trip_k0_t2.sl.cst_382, full_k1 hR k, hT.q1, hT.a1]
  rfl

include hT hR in
theorem full_ds0 (r c : Fin 1024) : trip_k0_t2.sl.v839 (F := Ideal) arg2 arg3 arg7 k0_t1 v270 v285 v301 v318 X_arg2 X_arg3 X_arg7 k (ix2 r c)
    = M.ds 0 (1024 * k0_t1 + r) (1024 * k + c) := by
  rw [Ins.ds, Ins.dw]
  pointwise [trip_k0_t2.sl.v839, full_pr0 hT hR k, trip_k0_t2.sl.v838, trip_k0_t2.sl.v833, trip_k0_t2.sl.v837, trip_k0_t2.sl.cst_382, trip_k0_t2.sl.v824,
    rd2 arg3.view X_arg3 (k0_off2_eq k0_t1 k) hR.v, hT.o0, hT.d0]

include hT hR in
theorem full_ds1 (r c : Fin 1024) : trip_k0_t2.sl.v842 (F := Ideal) arg2 arg3 arg7 k0_t1 v277 v293 v309 v327 X_arg2 X_arg3 X_arg7 k (ix2 r c)
    = M.ds 1 (1024 * k0_t1 + r) (1024 * k + c) := by
  rw [Ins.ds, Ins.dw]
  pointwise [trip_k0_t2.sl.v842, full_pr1 hT hR k, trip_k0_t2.sl.v841, trip_k0_t2.sl.v834, trip_k0_t2.sl.v840, trip_k0_t2.sl.cst_382, trip_k0_t2.sl.v824,
    rd2 arg3.view X_arg3 (k0_off2_eq k0_t1 k) hR.v, hT.o1, hT.d1]
end Full

section Trip
variable {M : Ins}
variable (𝒱 : Variants) (c : Dev nD) (bd : Option 𝒱.V) (i : grid0.Coords)
  (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S4096x128 .f32) (harg5 : arg5.IsWhole) (arg6 : Memref sig .tc .vmem S4096x128 .bf16) (harg6 : arg6.IsWhole)
  (arg7 : Memref sig .tc .vmem S4096x128 .bf16) (harg7 : arg7.IsWhole) (arg8 : Memref sig .tc .vmem S4096x128 .bf16) (harg8 : arg8.IsWhole)
  (arg9 : Memref sig .tc .vmem S4096x128 .bf16) (harg9 : arg9.IsWhole) (arg10 : Memref sig .tc .vmem S4096x128 .bf16) (harg10 : arg10.IsWhole)
  (arg11 : Memref sig .tc .vmem S4096x128 .f32) (harg11 : arg11.IsWhole) (arg12 : Memref sig .tc .vmem S1x4096x128 .f32)
  (harg12 : arg12.IsWhole) (arg13 : Memref sig .tc .vmem S2x128x4096 .bf16) (harg13 : arg13.IsWhole)
  (arg14 : Memref sig .tc .vmem S128x4096 .bf16) (harg14 : arg14.IsWhole) (arg15 : Memref sig .tc .vmem S2x128x4096 .f32)
  (harg15 : arg15.IsWhole) (arg16 : Memref sig .tc .vmem S128x4096 .f32) (harg16 : arg16.IsWhole)
  (arg17 : Memref sig .tc .vmem S2x1024x128 .f32) (harg17 : arg17.IsWhole) (arg18 : Memref sig .tc .vmem S2x1024x1 .f32)
  (harg18 : arg18.IsWhole)
variable (k0_t1 : Fin k0_t1_loop.trips) (arg19 : BitVec 32) (v250 : BitVec 32) (v270 : FVec Ideal S1024x128 .bf16) (v277 : FVec Ideal S1024x128 .bf16)
  (v285 : FVec Ideal S1024x128 .bf16) (v293 : FVec Ideal S1024x128 .bf16) (v301 : FVec Ideal S1024x1 .f32) (v309 : FVec Ideal S1024x1 .f32)
  (v318 : FVec Ideal S1024x1 .f32) (v327 : FVec Ideal S1024x1 .f32) (v328 : FVec Ideal S2x1024x128 .f32)
  (X_arg2 : BufTy.Contents (Elt Ideal) arg2.view.ty) (X_arg3 : BufTy.Contents (Elt Ideal) arg3.view.ty)
  (X_arg7 : BufTy.Contents (Elt Ideal) arg7.view.ty) (X_arg13 : BufTy.Contents (Elt Ideal) arg13.view.ty)
  (X_arg14 : BufTy.Contents (Elt Ideal) arg14.view.ty)
  (hT : Tiles M (1024 * k0_t1) v270 v277 v285 v293 v301 v309 v318 v327)
  (hR : Reads arg2 arg3 arg7 arg13 arg14 X_arg2 X_arg3 X_arg7 X_arg13 X_arg14 M)

/-- The bounds after a tile of keys has met a tile of queries. -/
def both (b : ℕ → ℕ → ℕ) (k0 n e : ℕ) : ℕ → ℕ → ℕ := upd (upd b 0 k0 n e) 1 k0 n e

include hT hR in
/-- One trip of the inner loop moves the bounds over its tile. -/
theorem full_cols (k : Fin (k0_t2_loop k0_t1).trips) (b : ℕ → ℕ → ℕ) (hb : ∀ h, Ready b h (1024 * k) 1024 (1024 * k0_t1))
    (f15 : BufTy.Contents (Elt Ideal) arg15.view.ty) (f16 : BufTy.Contents (Elt Ideal) arg16.view.ty) (f17 : BufTy.Contents (Elt Ideal) arg17.view.ty) (hC : Cols arg15 arg16 M b f15 f16) :
    Cols arg15 arg16 M (both b (1024 * k) 1024 (1024 * k0_t1 + 1024))
      (arg15.view.writes (Elt Ideal) f15 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t1 arg19 v250 v270 v277 v285 v293 v301 v309 v318 v327 v328 X_arg2 X_arg3 X_arg7 X_arg13 X_arg14 k).1 f15 f16 f17)) (arg16.view.writes (Elt Ideal) f16 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t1 arg19 v250 v270 v277 v285 v293 v301 v309 v318 v327 v328 X_arg2 X_arg3 X_arg7 X_arg13 X_arg14 k).2.1 f15 f16 f17)) := by
  have hb1 : Ready (upd b 0 (1024 * k) 1024 (1024 * k0_t1 + 1024)) 1 (1024 * k) 1024 (1024 * k0_t1) := by
    intro x h0 h1
    rw [upd_out b (by omega)]
    exact hb 1 x h0 h1
  unfold trip_k0_t2
  dsimp only
  refine ⟨?_, ?_⟩
  · refine add_dkt M arg15.view f15 (h := 1) (m := 1024) (k0_off9_eq k0_t1 k) hb1
      (add_dkt M arg15.view f15 (h := 0) (m := 1024) (k0_off5_eq k0_t1 k) (hb 0) hC.k fun z r c => ?_) fun z r c => ?_
    · pointwise [trip_k0_t2.sl.v866, trip_k0_t2.sl.v862, trip_k0_t2.sl.v857, trip_k0_t2.sl.v861, trip_k0_t2.sl.v860, trip_k0_t2.sl.v843, trip_k0_t2.sl.cst_394, full_ds0 hT hR k,
        rd3 arg15.view f15 (k0_off5_eq k0_t1 k) (G := M.dkt b) hC.k, rd3 arg13.view X_arg13 (k0_off6_eq k0_t1) (G := fun h l q => M.Q h q l) hR.q]
    · pointwise [k0_pay50, trip_k0_t2.sl.v887, trip_k0_t2.sl.v874, full_ds1 hT hR k,
        rd3 arg15.view f15 (k0_off9_eq k0_t1 k) (G := M.dkt b) hC.k, rd3 arg13.view X_arg13 (k0_off10_eq k0_t1) (G := fun h l q => M.Q h q l) hR.q]
      rw [Ins.dkt, Ins.dkt, upd_out b (by omega)]
  · refine add_dvt M arg16.view f16 (h := 1) (m := 1024) (k0_off7_eq k0_t1 k) hb1
      (add_dvt M arg16.view f16 (h := 0) (m := 1024) (k0_off3_eq k0_t1 k) (hb 0) hC.v fun r c => ?_) fun r c => ?_
    · pointwise [trip_k0_t2.sl.v854, trip_k0_t2.sl.v850, trip_k0_t2.sl.v849, trip_k0_t2.sl.v848, trip_k0_t2.sl.cst_388, full_pr0 hT hR k, rd2 arg16.view f16 (k0_off3_eq k0_t1 k) (G := M.dvt b) hC.v,
        rd2 arg14.view X_arg14 (k0_off4_eq k0_t1) (G := fun l q => M.O q l) hR.o]
    · pointwise [k0_pay49, trip_k0_t2.sl.v881, trip_k0_t2.sl.v876, trip_k0_t2.sl.v880, trip_k0_t2.sl.v879, trip_k0_t2.sl.cst_388, full_pr1 hT hR k, rd2 arg16.view f16 (k0_off7_eq k0_t1 k) (G := M.dvt b) hC.v,
        rd2 arg14.view X_arg14 (k0_off8_eq k0_t1) (G := fun l q => M.O q l) hR.o]
      rw [Ins.dvt, Ins.dvt, upd_out b (by omega)]

include hT hR in
/-- and the rows' gradients over its keys. -/
theorem full_rows (k : Fin (k0_t2_loop k0_t1).trips) (n : ℕ → ℕ → ℕ) (hn : ∀ h r, h < 2 → r < 1024 → n h r = 1024 * k)
    (f15 : BufTy.Contents (Elt Ideal) arg15.view.ty) (f16 : BufTy.Contents (Elt Ideal) arg16.view.ty) (f17 : BufTy.Contents (Elt Ideal) arg17.view.ty)
    (hC : Rows arg17 M (1024 * k0_t1) n f17) :
    Rows arg17 M (1024 * k0_t1) (both n 0 1024 (1024 * k + 1024))
      (arg17.view.writes (Elt Ideal) f17 ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t1 arg19 v250 v270 v277 v285 v293 v301 v309 v318 v327 v328 X_arg2 X_arg3 X_arg7 X_arg13 X_arg14 k).2.2.1 f15 f16 f17)) := by
  have hn1 : ∀ r, 0 ≤ r → r < 0 + 1024 → upd n 0 0 1024 (1024 * k + 1024) 1 r = 1024 * k := by
    intro r _ h1
    rw [upd_out n (by omega)]
    exact hn 1 r (by omega) (by omega)
  have hn0 : ∀ r, 0 ≤ r → r < 0 + 1024 → n 0 r = 1024 * k := fun r _ h1 => hn 0 r (by omega) (by omega)
  unfold trip_k0_t2
  dsimp only
  refine add_dq M arg17.view f17 (h := 1) (r0 := 0) (n := 1024) rfl hn1
    (add_dq M arg17.view f17 (h := 0) (r0 := 0) (n := 1024) (L := []) rfl hn0 hC fun z r l => ?_) fun z r l => ?_
  · pointwise [trip_k0_t2.sl.v873, trip_k0_t2.sl.v870, trip_k0_t2.sl.v868, trip_k0_t2.sl.v869, trip_k0_t2.sl.v843, trip_k0_t2.sl.cst_400, full_k0 hR k, full_ds0 hT hR k,
      rd3 arg17.view f17 (off := ![0, 0, 0]) rfl (G := M.dq (1024 * k0_t1) n) hC]
  · pointwise [k0_pay51, trip_k0_t2.sl.v898, trip_k0_t2.sl.v874, full_k1 hR k, full_ds1 hT hR k,
      rd3 arg17.view f17 (off := ![1, 0, 0]) rfl (G := M.dq (1024 * k0_t1) n) hC]
    rw [Ins.dq, Ins.dq, upd_out n (by omega)]
end Trip
end Cert.Proof.Mla
end

end
-- ==== Proof.Mla.Inner.lean ====
module

public import proofs.«01_k».proof.Proof.Mla.Full
public import proofs.«01_k».proof.Proof.Fox.Inner

/-! The inner loop's trips together: the whole tiles of keys before the diagonal. -/

@[expose] public section
set_option maxRecDepth 16384
noncomputable section
namespace Cert.Proof.Mla
open Idealize.ShloMosaic Idealize.ShloMosaic.TcCoe Idealize.SL.Sem
open Cert.MlaIdeal Cert.MlaIdeal.Gen
open Cert.Proof.Fox (rd2 rd3 acc2 acc3 sum_tile upd upd_in upd_out colsAt rowsAt colsAt_zero rowsAt_zero)

theorem colsAt_succ (t j : ℕ) : both (colsAt t j) (1024 * j) 1024 (1024 * t + 1024) = colsAt t (j + 1) := Fox.colsAt_succ t j
theorem rowsAt_succ (j : ℕ) : both (rowsAt j) 0 1024 (1024 * j + 1024) = rowsAt (j + 1) := Fox.rowsAt_succ j

section Trip
variable {M : Ins}
variable (𝒱 : Variants) (c : Dev nD) (bd : Option 𝒱.V) (i : grid0.Coords)
  (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S4096x128 .f32) (harg5 : arg5.IsWhole) (arg6 : Memref sig .tc .vmem S4096x128 .bf16) (harg6 : arg6.IsWhole)
  (arg7 : Memref sig .tc .vmem S4096x128 .bf16) (harg7 : arg7.IsWhole) (arg8 : Memref sig .tc .vmem S4096x128 .bf16) (harg8 : arg8.IsWhole)
  (arg9 : Memref sig .tc .vmem S4096x128 .bf16) (harg9 : arg9.IsWhole) (arg10 : Memref sig .tc .vmem S4096x128 .bf16) (harg10 : arg10.IsWhole)
  (arg11 : Memref sig .tc .vmem S4096x128 .f32) (harg11 : arg11.IsWhole) (arg12 : Memref sig .tc .vmem S1x4096x128 .f32)
  (harg12 : arg12.IsWhole) (arg13 : Memref sig .tc .vmem S2x128x4096 .bf16) (harg13 : arg13.IsWhole)
  (arg14 : Memref sig .tc .vmem S128x4096 .bf16) (harg14 : arg14.IsWhole) (arg15 : Memref sig .tc .vmem S2x128x4096 .f32)
  (harg15 : arg15.IsWhole) (arg16 : Memref sig .tc .vmem S128x4096 .f32) (harg16 : arg16.IsWhole)
  (arg17 : Memref sig .tc .vmem S2x1024x128 .f32) (harg17 : arg17.IsWhole) (arg18 : Memref sig .tc .vmem S2x1024x1 .f32)
  (harg18 : arg18.IsWhole)
variable (k0_t1 : Fin k0_t1_loop.trips) (arg19 : BitVec 32) (v250 : BitVec 32) (v270 : FVec Ideal S1024x128 .bf16) (v277 : FVec Ideal S1024x128 .bf16)
  (v285 : FVec Ideal S1024x128 .bf16) (v293 : FVec Ideal S1024x128 .bf16) (v301 : FVec Ideal S1024x1 .f32) (v309 : FVec Ideal S1024x1 .f32)
  (v318 : FVec Ideal S1024x1 .f32) (v327 : FVec Ideal S1024x1 .f32) (v328 : FVec Ideal S2x1024x128 .f32)
  (X_arg2 : BufTy.Contents (Elt Ideal) arg2.view.ty) (X_arg3 : BufTy.Contents (Elt Ideal) arg3.view.ty)
  (X_arg7 : BufTy.Contents (Elt Ideal) arg7.view.ty) (X_arg13 : BufTy.Contents (Elt Ideal) arg13.view.ty)
  (X_arg14 : BufTy.Contents (Elt Ideal) arg14.view.ty)
  (hT : Tiles M (1024 * k0_t1) v270 v277 v285 v293 v301 v309 v318 v327)
  (hR : Reads arg2 arg3 arg7 arg13 arg14 X_arg2 X_arg3 X_arg7 X_arg13 X_arg14 M)

include hT hR in
theorem inner_cols (f15 : BufTy.Contents (Elt Ideal) arg15.view.ty) (f16 : BufTy.Contents (Elt Ideal) arg16.view.ty) (f17 : BufTy.Contents (Elt Ideal) arg17.view.ty)
    (hC : Cols arg15 arg16 M (colsAt k0_t1 0) f15 f16) (hW : Rows arg17 M (1024 * k0_t1) (rowsAt 0) f17) (j : ℕ)
    (hj : j ≤ (k0_t2_loop k0_t1).trips) :
    Cols arg15 arg16 M (colsAt k0_t1 j) (arg15.view.writes (Elt Ideal) f15 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t1 arg19 v250 v270 v277 v285 v293 v301 v309 v318 v327 v328 X_arg2 X_arg3 X_arg7 X_arg13 X_arg14 f15 f16 f17 j).1) (arg16.view.writes (Elt Ideal) f16 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t1 arg19 v250 v270 v277 v285 v293 v301 v309 v318 v327 v328 X_arg2 X_arg3 X_arg7 X_arg13 X_arg14 f15 f16 f17 j).2.1)
      ∧ Rows arg17 M (1024 * k0_t1) (rowsAt j) (arg17.view.writes (Elt Ideal) f17 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t1 arg19 v250 v270 v277 v285 v293 v301 v309 v318 v327 v328 X_arg2 X_arg3 X_arg7 X_arg13 X_arg14 f15 f16 f17 j).2.2) := by
  induction j with
  | zero => exact ⟨hC, hW⟩
  | succ j ih =>
    obtain ⟨h1, h2⟩ := ih (by omega)
    have hs := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t1 arg19 v250 v270 v277 v285 v293 v301 v309 v318 v327 v328 X_arg2 X_arg3 X_arg7 X_arg13 X_arg14 f15 f16 f17 ⟨j, by omega⟩
    rw [show j + 1 = (⟨j, by omega⟩ : Fin (k0_t2_loop k0_t1).trips).val + 1 from rfl, hs]
    unfold tripL_k0_t2
    dsimp only
    rw [View.writes_append, View.writes_append, View.writes_append]
    have e1 := full_cols 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t1 arg19 v250 v270 v277 v285 v293 v301 v309 v318 v327 v328 X_arg2 X_arg3 X_arg7 X_arg13 X_arg14 hT hR ⟨j, by omega⟩ (colsAt k0_t1 j) (by
      intro h x (h0 : 1024 * j ≤ x) h1
      unfold colsAt
      rw [if_neg (by omega)]
      exact ⟨le_rfl, fun q a b => absurd a (by omega)⟩) _ _ (arg17.view.writes (Elt Ideal) f17 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t1 arg19 v250 v270 v277 v285 v293 v301 v309 v318 v327 v328 X_arg2 X_arg3 X_arg7 X_arg13 X_arg14 f15 f16 f17 j).2.2) h1
    have e2 := full_rows 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t1 arg19 v250 v270 v277 v285 v293 v301 v309 v318 v327 v328 X_arg2 X_arg3 X_arg7 X_arg13 X_arg14 hT hR ⟨j, by omega⟩ (rowsAt j) (by
      intro h r h0 h1
      unfold rowsAt
      rw [if_pos (by omega)]) (arg15.view.writes (Elt Ideal) f15 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t1 arg19 v250 v270 v277 v285 v293 v301 v309 v318 v327 v328 X_arg2 X_arg3 X_arg7 X_arg13 X_arg14 f15 f16 f17 j).1) (arg16.view.writes (Elt Ideal) f16 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_t1 arg19 v250 v270 v277 v285 v293 v301 v309 v318 v327 v328 X_arg2 X_arg3 X_arg7 X_arg13 X_arg14 f15 f16 f17 j).2.1) _ h2
    rw [colsAt_succ] at e1
    rw [rowsAt_succ] at e2
    exact ⟨e1, e2⟩
end Trip
end Cert.Proof.Mla
end

end
-- ==== Proof.Mla.Half.lean ====
module

public import proofs.«01_k».proof.Proof.Mla.Inner
public import proofs.«01_k».proof.Proof.Mla.Trip
public import proofs.«01_k».proof.Proof.Fox.Half

/-! The two half tiles on the diagonal: their weights and the gradients of their scores. -/

@[expose] public section
set_option maxRecDepth 16384
noncomputable section
namespace Cert.Proof.Mla
open Idealize.ShloMosaic Idealize.ShloMosaic.TcCoe Idealize.SL.Sem
open Cert.MlaIdeal Cert.MlaIdeal.Gen Cert.MlaIdeal.Hand
open Cert.Proof.Fox (rd2 rd3 acc2 acc3 sum_tile upd upd_in upd_out sum_lane lane_a0 lane_a1 lane_d0 lane_d1)

variable {arg1 arg2 arg3 arg4 arg6 arg7 : Memref sig .tc .vmem S4096x128 .bf16} {arg5 : Memref sig .tc .vmem S4096x128 .f32}
  {arg13 : Memref sig .tc .vmem S2x128x4096 .bf16} {arg14 : Memref sig .tc .vmem S128x4096 .bf16}
  {X_arg1 : BufTy.Contents (Elt Ideal) arg1.view.ty}  {X_arg2 : BufTy.Contents (Elt Ideal) arg2.view.ty}  {X_arg3 : BufTy.Contents (Elt Ideal) arg3.view.ty}
  {X_arg4 : BufTy.Contents (Elt Ideal) arg4.view.ty}  {X_arg5 : BufTy.Contents (Elt Ideal) arg5.view.ty}  {X_arg6 : BufTy.Contents (Elt Ideal) arg6.view.ty}
  {X_arg7 : BufTy.Contents (Elt Ideal) arg7.view.ty}  {X_arg13 : BufTy.Contents (Elt Ideal) arg13.view.ty}  {X_arg14 : BufTy.Contents (Elt Ideal) arg14.view.ty}
  {M : Ins} {j : Fin 4} {P : ℕ → ℕ → EReal} {k : Fin k0_t1_loop.trips}

/-- The buffers of the queries, the cotangents and the packed rows of the pair `j` of heads. -/
structure Query (arg1 arg4 arg6 : Memref sig .tc .vmem S4096x128 .bf16) (arg5 : Memref sig .tc .vmem S4096x128 .f32)
    (X_arg1 : BufTy.Contents (Elt Ideal) arg1.view.ty) (X_arg4 : BufTy.Contents (Elt Ideal) arg4.view.ty)
    (X_arg6 : BufTy.Contents (Elt Ideal) arg6.view.ty) (X_arg5 : BufTy.Contents (Elt Ideal) arg5.view.ty) (P : ℕ → ℕ → EReal) (j : Fin 4) (M : Ins) : Prop where
  q : ∀ (x : Fin 4096) (y : Fin 128), arg1.view.read (Elt Ideal) X_arg1 (ix2 x y) = M.q x y
  o : ∀ (x : Fin 4096) (y : Fin 128), arg4.view.read (Elt Ideal) X_arg4 (ix2 x y) = M.O x y
  qr : ∀ (x : Fin 4096) (y : Fin 128), arg6.view.read (Elt Ideal) X_arg6 (ix2 x y) = M.qr x y
  p : ∀ (x : Fin 4096) (y : Fin 128), arg5.view.read (Elt Ideal) X_arg5 (ix2 x y) = P x y
  a0 : ∀ x, P x (2 * j) = M.A 0 x
  a1 : ∀ x, P x (2 * j + 1) = M.A 1 x
  d0 : ∀ x, P x (8 + 2 * j) = M.D 0 x
  d1 : ∀ x, P x (8 + 2 * j + 1) = M.D 1 x

variable (hQ : Query arg1 arg4 arg6 arg5 X_arg1 X_arg4 X_arg6 X_arg5 P j M)
  (hR : Reads arg2 arg3 arg7 arg13 arg14 X_arg2 X_arg3 X_arg7 X_arg13 X_arg14 M)
include hQ in
theorem tile_q0 (r : Fin 1024) (l : Fin 128) : trip.sl.v270 (F := Ideal) arg1 arg6 X_arg1 X_arg6 k (ix2 r l) = M.Q 0 (1024 * k + r) l := by
  pointwise [trip.sl.v270, trip.sl.v269, trip.sl.v263, trip.sl.v265, trip.sl.v267, trip.sl.v253, trip.sl.v256, rd2 arg1.view X_arg1 (k0_off1_eq k) hQ.q, rd2 arg6.view X_arg6 (k0_off1_eq k) hQ.qr]
  exact lane_lt l _ _
include hQ in
theorem tile_q1 (r : Fin 1024) (l : Fin 128) : trip.sl.v277 (F := Ideal) arg1 arg6 X_arg1 X_arg6 k (ix2 r l) = M.Q 1 (1024 * k + r) l := by
  pointwise [trip.sl.v277, trip.sl.v276, trip.sl.v263, trip.sl.v267, trip.sl.v274, trip.sl.v253, trip.sl.v256, rd2 arg1.view X_arg1 (k0_off1_eq k) hQ.q, rd2 arg6.view X_arg6 (k0_off1_eq k) hQ.qr]
  exact lane_ge l _ _
include hQ in
theorem tile_o0 (r : Fin 1024) (l : Fin 128) : trip.sl.v285 (F := Ideal) arg4 X_arg4 k (ix2 r l) = Ins.hd 0 l (M.O (1024 * k + r) l) 0 := by
  pointwise [trip.sl.v285, trip.sl.v269, trip.sl.v263, trip.sl.v265, trip.sl.v267, trip.sl.v284, trip.sl.cst_170, trip.sl.v259, rd2 arg4.view X_arg4 (k0_off1_eq k) hQ.o]
  exact lane_lt l _ _
include hQ in
theorem tile_o1 (r : Fin 1024) (l : Fin 128) : trip.sl.v293 (F := Ideal) arg4 X_arg4 k (ix2 r l) = Ins.hd 1 l (M.O (1024 * k + r) l) 0 := by
  pointwise [trip.sl.v293, trip.sl.v276, trip.sl.v263, trip.sl.v267, trip.sl.v274, trip.sl.v284, trip.sl.cst_170, trip.sl.v259, rd2 arg4.view X_arg4 (k0_off1_eq k) hQ.o]
  exact lane_ge l _ _
include hQ in
theorem tile_a0 (r : Fin 1024) (z : Fin 1) : trip.sl.v301 (F := Ideal) arg5 (BitVec.ofNat 32 ↑j) X_arg5 k (ix2 r z) = M.A 0 (1024 * k + r) := by
  rw [← hQ.a0, ← sum_lane (P (1024 * k + r)) (2 * j) (by omega)]
  pointwise [trip.sl.v301, trip.sl.v300, trip.sl.v299, trip.sl.v297, trip.sl.v296, trip.sl.v295, trip.sl.v294, trip.sl.v263, trip.sl.v298, trip.sl.cst_175, trip.sl.cst_176, trip.sl.v262, rd2 arg5.view X_arg5 (k0_off1_eq k) hQ.p]
  refine Finset.sum_congr rfl fun l _ => ?_
  simp (disch := word_cmp_side) only [hlo_ix]
  rw [lane_a0]
include hQ in
theorem tile_a1 (r : Fin 1024) (z : Fin 1) : trip.sl.v309 (F := Ideal) arg5 (BitVec.ofNat 32 ↑j) X_arg5 k (ix2 r z) = M.A 1 (1024 * k + r) := by
  rw [← hQ.a1, ← sum_lane (P (1024 * k + r)) (2 * j + 1) (by omega)]
  pointwise [trip.sl.v309, trip.sl.v308, trip.sl.v307, trip.sl.v305, trip.sl.v304, trip.sl.v303, trip.sl.v294, trip.sl.v263, trip.sl.v298, trip.sl.cst_175, trip.sl.cst_176, trip.sl.v262, rd2 arg5.view X_arg5 (k0_off1_eq k) hQ.p]
  refine Finset.sum_congr rfl fun l _ => ?_
  simp (disch := word_cmp_side) only [hlo_ix]
  rw [lane_a1]
include hQ in
theorem tile_d0 (r : Fin 1024) (z : Fin 1) : trip.sl.v318 (F := Ideal) arg5 (BitVec.ofNat 32 ↑j) X_arg5 k (ix2 r z) = M.D 0 (1024 * k + r) := by
  rw [← hQ.d0, ← sum_lane (P (1024 * k + r)) (8 + 2 * j) (by omega)]
  pointwise [trip.sl.v318, trip.sl.v317, trip.sl.v316, trip.sl.v314, trip.sl.v313, trip.sl.v312, trip.sl.v311, trip.sl.v294, trip.sl.v263, trip.sl.v298, trip.sl.cst_175, trip.sl.cst_176, trip.sl.v262, rd2 arg5.view X_arg5 (k0_off1_eq k) hQ.p]
  refine Finset.sum_congr rfl fun l _ => ?_
  simp (disch := word_cmp_side) only [hlo_ix]
  rw [lane_d0]
include hQ in
theorem tile_d1 (r : Fin 1024) (z : Fin 1) : trip.sl.v327 (F := Ideal) arg5 (BitVec.ofNat 32 ↑j) X_arg5 k (ix2 r z) = M.D 1 (1024 * k + r) := by
  rw [← hQ.d1, ← sum_lane (P (1024 * k + r)) (8 + 2 * j + 1) (by omega)]
  pointwise [trip.sl.v327, trip.sl.v326, trip.sl.v325, trip.sl.v323, trip.sl.v322, trip.sl.v321, trip.sl.v311, trip.sl.v294, trip.sl.v263, trip.sl.v298, trip.sl.cst_175, trip.sl.cst_176, trip.sl.v262, rd2 arg5.view X_arg5 (k0_off1_eq k) hQ.p]
  refine Finset.sum_congr rfl fun l _ => ?_
  simp (disch := word_cmp_side) only [hlo_ix]
  rw [lane_d1]

include hQ in
theorem tiles : Tiles (M := M) (1024 * k) (trip.sl.v270 (F := Ideal) arg1 arg6 X_arg1 X_arg6 k) (trip.sl.v277 arg1 arg6 X_arg1 X_arg6 k) (trip.sl.v285 arg4 X_arg4 k) (trip.sl.v293 arg4 X_arg4 k) (trip.sl.v301 arg5 (BitVec.ofNat 32 ↑j) X_arg5 k) (trip.sl.v309 arg5 (BitVec.ofNat 32 ↑j) X_arg5 k) (trip.sl.v318 arg5 (BitVec.ofNat 32 ↑j) X_arg5 k) (trip.sl.v327 arg5 (BitVec.ofNat 32 ↑j) X_arg5 k) :=
  ⟨tile_q0 hQ, tile_q1 hQ, tile_o0 hQ, tile_o1 hQ, tile_a0 hQ, tile_a1 hQ, tile_d0 hQ, tile_d1 hQ⟩

/-- A position's chunk of 64, by words: the quotient toward zero, less one where signs differ and a remainder is left. -/
def chunk (x : BitVec 32) : BitVec 32 :=
  Scalar.select (IntOp.andi (IntOp.cmpi .ne (IntOp.subi (BitVec.setWidth 32 (IntOp.cmpi .sgt x 0#32)) (BitVec.setWidth 32 (IntOp.cmpi .slt x 0#32))) 1#32)
    (IntOp.cmpi .ne (IntOp.remsi .vector x 64#32) 0#32)) (IntOp.subi (IntOp.divsi .vector x 64#32) 1#32) (IntOp.divsi .vector x 64#32)

theorem chunk_eq : ∀ x : Fin 1024, chunk (BitVec.ofNat 32 x) = BitVec.ofNat 32 (x / 64) := by decide +kernel

theorem diag1 (t : ℕ) (r c : Fin 512) (x : EReal) :
    Scalar.select (IntOp.cmpi .sle (chunk (BitVec.ofNat 32 ↑c)) (chunk (IntOp.addi (BitVec.ofNat 32 ↑r) 0#32))) x 0
      = if (1024 * t + (c : ℕ)) / 64 ≤ (1024 * t + r) / 64 then x else 0 := by
  rw [show IntOp.addi (BitVec.ofNat 32 ↑r) 0#32 = BitVec.ofNat 32 r from (BitVec.ofNat_add _ 0).symm,
    chunk_eq ⟨c, by omega⟩, chunk_eq ⟨r, by omega⟩]
  simp (disch := word_cmp_side) only [hlo_ix]
  by_cases h : (c : ℕ) / 64 ≤ r / 64
  · rw [if_pos (by omega), if_pos (by omega)]
  · rw [if_neg (by omega), if_neg (by omega)]
theorem diag2 (t : ℕ) (r : Fin 512) (c : Fin 1024) (x : EReal) :
    Scalar.select (IntOp.cmpi .sle (chunk (BitVec.ofNat 32 ↑c)) (chunk (IntOp.addi (BitVec.ofNat 32 ↑r) 512#32))) x 0
      = if (1024 * t + (c : ℕ)) / 64 ≤ (1024 * t + 512 + r) / 64 then x else 0 := by
  rw [show IntOp.addi (BitVec.ofNat 32 ↑r) 512#32 = BitVec.ofNat 32 (r + 512) from (BitVec.ofNat_add _ 512).symm,
    chunk_eq ⟨c, by omega⟩, chunk_eq ⟨r + 512, by omega⟩]
  simp (disch := word_cmp_side) only [hlo_ix]
  by_cases h : (c : ℕ) / 64 ≤ (r + 512) / 64
  · rw [if_pos (by omega), if_pos (by omega)]
  · rw [if_neg (by omega), if_neg (by omega)]

include hR in
theorem half1_k0 (c : Fin 512) (l : Fin 128) : trip.sl.v349 (F := Ideal) arg2 arg7 X_arg2 X_arg7 k (ix2 c l) = M.K 0 (1024 * k + c) l := by
  pointwise [trip.sl.v349, trip.sl.v348, trip.sl.v343, trip.sl.v344, trip.sl.v346, trip.sl.v339, trip.sl.v342, rd2 arg2.view X_arg2 (k0_off20_eq k) hR.k, rd2 arg7.view X_arg7 (k0_off20_eq k) hR.kr]
  exact lane_lt l _ _
include hQ hR in
theorem half1_pr0 (r : Fin 512) (c : Fin 512) : trip.sl.v432 (F := Ideal) arg1 arg2 arg5 arg6 arg7 (BitVec.ofNat 32 ↑j) X_arg1 X_arg2 X_arg5 X_arg6 X_arg7 k (ix2 r c) = M.pr 0 (1024 * k + r) (1024 * k + c) := by
  rw [Ins.pr, Ins.sc]
  pointwise [trip.sl.v432, trip.sl.v376, trip.sl.v366, trip.sl.v363, trip.sl.v362, trip.sl.v365, trip.sl.v364, trip.sl.v378, trip.sl.v379, trip.sl.v380, trip.sl.v382, trip.sl.v386, trip.sl.v389, trip.sl.v396, trip.sl.v397, trip.sl.v401, trip.sl.v404, trip.sl.v405, trip.sl.v407, trip.sl.v409, trip.sl.v410, trip.sl.v412, trip.sl.v413, trip.sl.v421, trip.sl.v423, trip.sl.v426, trip.sl.v429, trip.sl.v431, trip.sl.cst_226, trip.sl.cst_207, half1_k0 hR, tile_q0 hQ, tile_a0 hQ]
  refine (diag1 k r c _).trans ?_
  rfl
include hQ hR in
theorem half1_ds0 (r : Fin 512) (c : Fin 512) : trip.sl.v491 (F := Ideal) arg1 arg2 arg3 arg4 arg5 arg6 arg7 (BitVec.ofNat 32 ↑j) X_arg1 X_arg2 X_arg3 X_arg4 X_arg5 X_arg6 X_arg7 k (ix2 r c) = M.ds 0 (1024 * k + r) (1024 * k + c) := by
  rw [Ins.ds, Ins.dw]
  pointwise [trip.sl.v491, half1_pr0 hQ hR, trip.sl.v490, trip.sl.v373, trip.sl.v372, trip.sl.v489, trip.sl.v488, trip.sl.v359, trip.sl.cst_207, rd2 arg3.view X_arg3 (k0_off20_eq k) hR.v, tile_o0 hQ, tile_d0 hQ]

include hR in
theorem half1_k1 (c : Fin 512) (l : Fin 128) : trip.sl.v356 (F := Ideal) arg2 arg7 X_arg2 X_arg7 k (ix2 c l) = M.K 1 (1024 * k + c) l := by
  pointwise [trip.sl.v356, trip.sl.v355, trip.sl.v343, trip.sl.v346, trip.sl.v353, trip.sl.v339, trip.sl.v342, rd2 arg2.view X_arg2 (k0_off20_eq k) hR.k, rd2 arg7.view X_arg7 (k0_off20_eq k) hR.kr]
  exact lane_ge l _ _
include hQ hR in
theorem half1_pr1 (r : Fin 512) (c : Fin 512) : trip.sl.v487 (F := Ideal) arg1 arg2 arg5 arg6 arg7 (BitVec.ofNat 32 ↑j) X_arg1 X_arg2 X_arg5 X_arg6 X_arg7 k (ix2 r c) = M.pr 1 (1024 * k + r) (1024 * k + c) := by
  rw [Ins.pr, Ins.sc]
  pointwise [trip.sl.v487, trip.sl.v377, trip.sl.v371, trip.sl.v368, trip.sl.v367, trip.sl.v370, trip.sl.v369, trip.sl.v378, trip.sl.v379, trip.sl.v380, trip.sl.v382, trip.sl.v386, trip.sl.v389, trip.sl.v396, trip.sl.v397, trip.sl.v401, trip.sl.v404, trip.sl.v405, trip.sl.v407, trip.sl.v409, trip.sl.v410, trip.sl.v412, trip.sl.v413, trip.sl.v421, trip.sl.v423, trip.sl.v426, trip.sl.v429, trip.sl.v431, trip.sl.cst_226, trip.sl.cst_207, half1_k1 hR, tile_q1 hQ, tile_a1 hQ]
  refine (diag1 k r c _).trans ?_
  rfl
include hQ hR in
theorem half1_ds1 (r : Fin 512) (c : Fin 512) : trip.sl.v495 (F := Ideal) arg1 arg2 arg3 arg4 arg5 arg6 arg7 (BitVec.ofNat 32 ↑j) X_arg1 X_arg2 X_arg3 X_arg4 X_arg5 X_arg6 X_arg7 k (ix2 r c) = M.ds 1 (1024 * k + r) (1024 * k + c) := by
  rw [Ins.ds, Ins.dw]
  pointwise [trip.sl.v495, half1_pr1 hQ hR, trip.sl.v494, trip.sl.v375, trip.sl.v374, trip.sl.v493, trip.sl.v492, trip.sl.v359, trip.sl.cst_207, rd2 arg3.view X_arg3 (k0_off20_eq k) hR.v, tile_o1 hQ, tile_d1 hQ]

include hR in
theorem half2_k0 (c : Fin 1024) (l : Fin 128) : trip.sl.v570 (F := Ideal) arg2 arg7 X_arg2 X_arg7 k (ix2 c l) = M.K 0 (1024 * k + c) l := by
  pointwise [trip.sl.v570, trip.sl.v569, trip.sl.v564, trip.sl.v565, trip.sl.v567, trip.sl.v560, trip.sl.v563, rd2 arg2.view X_arg2 (k0_off1_eq k) hR.k, rd2 arg7.view X_arg7 (k0_off1_eq k) hR.kr]
  exact lane_lt l _ _
include hQ hR in
theorem half2_pr0 (r : Fin 512) (c : Fin 1024) : trip.sl.v653 (F := Ideal) arg1 arg2 arg5 arg6 arg7 (BitVec.ofNat 32 ↑j) X_arg1 X_arg2 X_arg5 X_arg6 X_arg7 k (ix2 r c) = M.pr 0 (1024 * k + 512 + r) (1024 * k + c) := by
  rw [Ins.pr, Ins.sc]
  pointwise [trip.sl.v653, trip.sl.v597, trip.sl.v587, trip.sl.v584, trip.sl.v583, trip.sl.v586, trip.sl.v585, trip.sl.v599, trip.sl.v600, trip.sl.v601, trip.sl.v603, trip.sl.v605, trip.sl.v607, trip.sl.v610, trip.sl.v617, trip.sl.v618, trip.sl.v622, trip.sl.v625, trip.sl.v626, trip.sl.v628, trip.sl.v630, trip.sl.v631, trip.sl.v633, trip.sl.v634, trip.sl.v642, trip.sl.v644, trip.sl.v647, trip.sl.v650, trip.sl.v652, trip.sl.cst_226, trip.sl.cst_285, half2_k0 hR, tile_q0 hQ, tile_a0 hQ]
  refine (diag2 k r c _).trans ?_
  simp only [Nat.add_assoc]; rfl
include hQ hR in
theorem half2_ds0 (r : Fin 512) (c : Fin 1024) : trip.sl.v712 (F := Ideal) arg1 arg2 arg3 arg4 arg5 arg6 arg7 (BitVec.ofNat 32 ↑j) X_arg1 X_arg2 X_arg3 X_arg4 X_arg5 X_arg6 X_arg7 k (ix2 r c) = M.ds 0 (1024 * k + 512 + r) (1024 * k + c) := by
  rw [Ins.ds, Ins.dw]
  pointwise [trip.sl.v712, half2_pr0 hQ hR, trip.sl.v711, trip.sl.v594, trip.sl.v593, trip.sl.v710, trip.sl.v709, trip.sl.v580, trip.sl.cst_285, rd2 arg3.view X_arg3 (k0_off1_eq k) hR.v, tile_o0 hQ, tile_d0 hQ]
  simp only [Nat.add_assoc]

include hR in
theorem half2_k1 (c : Fin 1024) (l : Fin 128) : trip.sl.v577 (F := Ideal) arg2 arg7 X_arg2 X_arg7 k (ix2 c l) = M.K 1 (1024 * k + c) l := by
  pointwise [trip.sl.v577, trip.sl.v576, trip.sl.v564, trip.sl.v567, trip.sl.v574, trip.sl.v560, trip.sl.v563, rd2 arg2.view X_arg2 (k0_off1_eq k) hR.k, rd2 arg7.view X_arg7 (k0_off1_eq k) hR.kr]
  exact lane_ge l _ _
include hQ hR in
theorem half2_pr1 (r : Fin 512) (c : Fin 1024) : trip.sl.v708 (F := Ideal) arg1 arg2 arg5 arg6 arg7 (BitVec.ofNat 32 ↑j) X_arg1 X_arg2 X_arg5 X_arg6 X_arg7 k (ix2 r c) = M.pr 1 (1024 * k + 512 + r) (1024 * k + c) := by
  rw [Ins.pr, Ins.sc]
  pointwise [trip.sl.v708, trip.sl.v598, trip.sl.v592, trip.sl.v589, trip.sl.v588, trip.sl.v591, trip.sl.v590, trip.sl.v599, trip.sl.v600, trip.sl.v601, trip.sl.v603, trip.sl.v605, trip.sl.v607, trip.sl.v610, trip.sl.v617, trip.sl.v618, trip.sl.v622, trip.sl.v625, trip.sl.v626, trip.sl.v628, trip.sl.v630, trip.sl.v631, trip.sl.v633, trip.sl.v634, trip.sl.v642, trip.sl.v644, trip.sl.v647, trip.sl.v650, trip.sl.v652, trip.sl.cst_226, trip.sl.cst_285, half2_k1 hR, tile_q1 hQ, tile_a1 hQ]
  refine (diag2 k r c _).trans ?_
  simp only [Nat.add_assoc]; rfl
include hQ hR in
theorem half2_ds1 (r : Fin 512) (c : Fin 1024) : trip.sl.v716 (F := Ideal) arg1 arg2 arg3 arg4 arg5 arg6 arg7 (BitVec.ofNat 32 ↑j) X_arg1 X_arg2 X_arg3 X_arg4 X_arg5 X_arg6 X_arg7 k (ix2 r c) = M.ds 1 (1024 * k + 512 + r) (1024 * k + c) := by
  rw [Ins.ds, Ins.dw]
  pointwise [trip.sl.v716, half2_pr1 hQ hR, trip.sl.v715, trip.sl.v596, trip.sl.v595, trip.sl.v714, trip.sl.v713, trip.sl.v580, trip.sl.cst_285, rd2 arg3.view X_arg3 (k0_off1_eq k) hR.v, tile_o1 hQ, tile_d1 hQ]
  simp only [Nat.add_assoc]
end Cert.Proof.Mla
end

end
-- ==== Proof.Mla.Outer.lean ====
module

public import proofs.«01_k».proof.Proof.Mla.Half
public import proofs.«01_k».proof.Proof.Fox.Outer

/-! The two half tiles on the diagonal added to what the whole tiles left. -/

@[expose] public section
set_option maxRecDepth 16384
noncomputable section
namespace Cert.Proof.Mla
open Idealize.ShloMosaic Idealize.ShloMosaic.TcCoe Idealize.SL.Sem
open Cert.MlaIdeal Cert.MlaIdeal.Gen Cert.MlaIdeal.Hand
open Cert.Proof.Fox (rd2 rd3 acc2 acc3 sum_tile upd upd_in upd_out c1 c2 c3 c4 r1 r2 r3 r4 row0 row1 row2 row3 rc3 colsAt rowsAt colsAt_zero rowsAt_zero sum_lane lane_a0 lane_a1 lane_d0 lane_d1)

theorem ready0 (k : ℕ) : Ready (colsAt k k) 0 (1024 * k) 512 (1024 * k) := by
  intro x h0 h1; unfold colsAt; rw [if_neg (by omega)]; exact ⟨le_rfl, fun q a b => absurd a (by omega)⟩
theorem ready1 (k : ℕ) : Ready (c1 k) 1 (1024 * k) 512 (1024 * k) := by
  intro x h0 h1; unfold c1 upd colsAt; rw [if_neg (by omega), if_neg (by omega)]; exact ⟨le_rfl, fun q a b => absurd a (by omega)⟩
theorem ready2 (k : ℕ) : Ready (c2 k) 0 (1024 * k) 1024 (1024 * k + 512) := by
  intro x h0 h1
  by_cases hx : x < 1024 * k + 512
  · rw [show c2 k 0 x = 1024 * k + 512 by unfold c2 c1 upd; rw [if_neg (by omega), if_pos (by omega)]]
    exact ⟨le_rfl, fun q a b => absurd b (by omega)⟩
  · rw [show c2 k 0 x = 1024 * k by unfold c2 c1 upd colsAt; rw [if_neg (by omega), if_neg (by omega), if_neg (by omega)]]
    exact ⟨by omega, fun q a b => by omega⟩
theorem ready3 (k : ℕ) : Ready (c3 k) 1 (1024 * k) 1024 (1024 * k + 512) := by
  intro x h0 h1
  by_cases hx : x < 1024 * k + 512
  · rw [show c3 k 1 x = 1024 * k + 512 by unfold c3 c2 c1 upd; rw [if_neg (by omega), if_pos (by omega)]]
    exact ⟨le_rfl, fun q a b => absurd b (by omega)⟩
  · rw [show c3 k 1 x = 1024 * k by unfold c3 c2 c1 upd colsAt; rw [if_neg (by omega), if_neg (by omega), if_neg (by omega), if_neg (by omega)]]
    exact ⟨by omega, fun q a b => by omega⟩

theorem off22a (k : Fin k0_t1_loop.trips) : k0_off22 k 0#32 = ![0,  1024 * (k : ℕ)] := k0_off22_eq k 0
theorem off22b (k : Fin k0_t1_loop.trips) : k0_off22 k 512#32 = ![0,  1024 * (k : ℕ) + 512] := k0_off22_eq k 1
theorem off24a (k : Fin k0_t1_loop.trips) : k0_off24 k 0#32 = ![0, 0,  1024 * (k : ℕ)] := k0_off24_eq k 0
theorem off24b (k : Fin k0_t1_loop.trips) : k0_off24 k 512#32 = ![0, 0,  1024 * (k : ℕ) + 512] := k0_off24_eq k 1
theorem off26a (k : Fin k0_t1_loop.trips) : k0_off26 k 0#32 = ![64,  1024 * (k : ℕ)] := k0_off26_eq k 0
theorem off26b (k : Fin k0_t1_loop.trips) : k0_off26 k 512#32 = ![64,  1024 * (k : ℕ) + 512] := k0_off26_eq k 1
theorem off28a (k : Fin k0_t1_loop.trips) : k0_off28 k 0#32 = ![1, 0,  1024 * (k : ℕ)] := k0_off28_eq k 0
theorem off28b (k : Fin k0_t1_loop.trips) : k0_off28 k 512#32 = ![1, 0,  1024 * (k : ℕ) + 512] := k0_off28_eq k 1
theorem t2_trips : ∀ k : Fin k0_t1_loop.trips, (k0_t2_loop k).trips = k := by decide +kernel

section Outer
variable {M : Ins}
variable (𝒱 : Variants) (c : Dev nD) (bd : Option 𝒱.V) (i : grid0.Coords)
  (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S4096x128 .f32) (harg5 : arg5.IsWhole) (arg6 : Memref sig .tc .vmem S4096x128 .bf16) (harg6 : arg6.IsWhole)
  (arg7 : Memref sig .tc .vmem S4096x128 .bf16) (harg7 : arg7.IsWhole) (arg8 : Memref sig .tc .vmem S4096x128 .bf16) (harg8 : arg8.IsWhole)
  (arg9 : Memref sig .tc .vmem S4096x128 .bf16) (harg9 : arg9.IsWhole) (arg10 : Memref sig .tc .vmem S4096x128 .bf16) (harg10 : arg10.IsWhole)
  (arg11 : Memref sig .tc .vmem S4096x128 .f32) (harg11 : arg11.IsWhole) (arg12 : Memref sig .tc .vmem S1x4096x128 .f32)
  (harg12 : arg12.IsWhole) (arg13 : Memref sig .tc .vmem S2x128x4096 .bf16) (harg13 : arg13.IsWhole)
  (arg14 : Memref sig .tc .vmem S128x4096 .bf16) (harg14 : arg14.IsWhole) (arg15 : Memref sig .tc .vmem S2x128x4096 .f32)
  (harg15 : arg15.IsWhole) (arg16 : Memref sig .tc .vmem S128x4096 .f32) (harg16 : arg16.IsWhole)
  (arg17 : Memref sig .tc .vmem S2x1024x128 .f32) (harg17 : arg17.IsWhole) (arg18 : Memref sig .tc .vmem S2x1024x1 .f32)
  (harg18 : arg18.IsWhole)

variable {X_arg1 : BufTy.Contents (Elt Ideal) arg1.view.ty}
  {X_arg2 : BufTy.Contents (Elt Ideal) arg2.view.ty}
  {X_arg3 : BufTy.Contents (Elt Ideal) arg3.view.ty}
  {X_arg4 : BufTy.Contents (Elt Ideal) arg4.view.ty}
  {X_arg5 : BufTy.Contents (Elt Ideal) arg5.view.ty}
  {X_arg6 : BufTy.Contents (Elt Ideal) arg6.view.ty}
  {X_arg7 : BufTy.Contents (Elt Ideal) arg7.view.ty}
  {X_arg13 : BufTy.Contents (Elt Ideal) arg13.view.ty}
  {X_arg14 : BufTy.Contents (Elt Ideal) arg14.view.ty}
  {j : Fin 4} {P : ℕ → ℕ → EReal} {k : Fin k0_t1_loop.trips}
  {f15 : BufTy.Contents (Elt Ideal) arg15.view.ty} {f16 : BufTy.Contents (Elt Ideal) arg16.view.ty}
variable (hQ : Query arg1 arg4 arg6 arg5 X_arg1 X_arg4 X_arg6 X_arg5 P j M)
  (hR : Reads arg2 arg3 arg7 arg13 arg14 X_arg2 X_arg3 X_arg7 X_arg13 X_arg14 M)
  (hC : Cols arg15 arg16 M (fun _ _ => 1024 * k) f15 f16)

theorem zero_rows : Rows arg17 M (1024 * k) (rowsAt 0) (arg17.view.writes (Elt Ideal) arg17.view.junk trip.sl.HW_arg17_1) := by
  rw [rowsAt_zero]
  intro z x y
  unfold trip.sl.HW_arg17_1
  refine acc3 arg17.view _ (off := ![0, 0, 0]) (L := []) (o0 := 0) (o1 := 0) (o2 := 0) (G := fun x y z => arg17.view.read (Elt Ideal) arg17.view.junk (ix3 (Fin.ofNat 2 x) (Fin.ofNat 1024 y) (Fin.ofNat 128 z)))
    (H := M.dq (1024 * k) fun _ _ => 0) rfl (fun x y z => ?_) (fun x y z => ?_) (fun x y z hn => absurd hn (by omega)) z x y
  · exact congrArg _ (by ext a; fin_cases a <;> exact (Nat.mod_eq_of_lt (Fin.isLt _)).symm)
  · pointwise [trip.sl.v331, trip.sl.v328, trip.sl.cst_175]
    simp [Ins.dq]

include hQ hR hC in
/-- What the whole tiles leave. -/
theorem inner_at : Cols arg15 arg16 M (colsAt k k) (arg15.view.writes (Elt Ideal) f15 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k (0#32) (trip.sl.v249 k) (trip.sl.v270 arg1 arg6 X_arg1 X_arg6 k) (trip.sl.v277 arg1 arg6 X_arg1 X_arg6 k) (trip.sl.v285 arg4 X_arg4 k) (trip.sl.v293 arg4 X_arg4 k) (trip.sl.v301 arg5 (BitVec.ofNat 32 ↑j) X_arg5 k) (trip.sl.v309 arg5 (BitVec.ofNat 32 ↑j) X_arg5 k) (trip.sl.v318 arg5 (BitVec.ofNat 32 ↑j) X_arg5 k) (trip.sl.v327 arg5 (BitVec.ofNat 32 ↑j) X_arg5 k) (constant S2x1024x128 .f32 0#32) X_arg2 X_arg3 X_arg7 X_arg13 X_arg14 f15 f16 (arg17.view.writes (Elt Ideal) arg17.view.junk trip.sl.HW_arg17_1) (k0_t2_loop k).trips).1) (arg16.view.writes (Elt Ideal) f16 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k (0#32) (trip.sl.v249 k) (trip.sl.v270 arg1 arg6 X_arg1 X_arg6 k) (trip.sl.v277 arg1 arg6 X_arg1 X_arg6 k) (trip.sl.v285 arg4 X_arg4 k) (trip.sl.v293 arg4 X_arg4 k) (trip.sl.v301 arg5 (BitVec.ofNat 32 ↑j) X_arg5 k) (trip.sl.v309 arg5 (BitVec.ofNat 32 ↑j) X_arg5 k) (trip.sl.v318 arg5 (BitVec.ofNat 32 ↑j) X_arg5 k) (trip.sl.v327 arg5 (BitVec.ofNat 32 ↑j) X_arg5 k) (constant S2x1024x128 .f32 0#32) X_arg2 X_arg3 X_arg7 X_arg13 X_arg14 f15 f16 (arg17.view.writes (Elt Ideal) arg17.view.junk trip.sl.HW_arg17_1) (k0_t2_loop k).trips).2.1)
    ∧ Rows arg17 M (1024 * k) (rowsAt k) (arg17.view.writes (Elt Ideal) arg17.view.junk ((pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k (0#32) (trip.sl.v249 k) (trip.sl.v270 arg1 arg6 X_arg1 X_arg6 k) (trip.sl.v277 arg1 arg6 X_arg1 X_arg6 k) (trip.sl.v285 arg4 X_arg4 k) (trip.sl.v293 arg4 X_arg4 k) (trip.sl.v301 arg5 (BitVec.ofNat 32 ↑j) X_arg5 k) (trip.sl.v309 arg5 (BitVec.ofNat 32 ↑j) X_arg5 k) (trip.sl.v318 arg5 (BitVec.ofNat 32 ↑j) X_arg5 k) (trip.sl.v327 arg5 (BitVec.ofNat 32 ↑j) X_arg5 k) (constant S2x1024x128 .f32 0#32) X_arg2 X_arg3 X_arg7 X_arg13 X_arg14 f15 f16 (arg17.view.writes (Elt Ideal) arg17.view.junk trip.sl.HW_arg17_1) (k0_t2_loop k).trips).2.2 ++ trip.sl.HW_arg17_1)) := by
  rw [View.writes_append]
  have h := inner_cols 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k (0#32) (trip.sl.v249 k) (trip.sl.v270 arg1 arg6 X_arg1 X_arg6 k) (trip.sl.v277 arg1 arg6 X_arg1 X_arg6 k) (trip.sl.v285 arg4 X_arg4 k) (trip.sl.v293 arg4 X_arg4 k) (trip.sl.v301 arg5 (BitVec.ofNat 32 ↑j) X_arg5 k) (trip.sl.v309 arg5 (BitVec.ofNat 32 ↑j) X_arg5 k) (trip.sl.v318 arg5 (BitVec.ofNat 32 ↑j) X_arg5 k) (trip.sl.v327 arg5 (BitVec.ofNat 32 ↑j) X_arg5 k) (constant S2x1024x128 .f32 0#32) X_arg2 X_arg3 X_arg7 X_arg13 X_arg14 (tiles hQ) hR f15 f16 (arg17.view.writes (Elt Ideal) arg17.view.junk trip.sl.HW_arg17_1)
    (by rw [colsAt_zero]; exact hC) (zero_rows arg17) (k0_t2_loop k).trips le_rfl
  rw [show colsAt k (k0_t2_loop k).trips = colsAt k k by rw [t2_trips], show rowsAt (k0_t2_loop k).trips = rowsAt k by rw [t2_trips]] at h
  exact h

include hQ hR hC in
theorem cols1 : Cols arg15 arg16 M (c1 k) (arg15.view.writes (Elt Ideal) f15 (trip.sl.HW_arg15_1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16))
    (arg16.view.writes (Elt Ideal) f16 (trip.sl.HW_arg16_1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16)) := by
  have hI := (inner_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hQ hR hC).1
  refine ⟨?_, ?_⟩
  · unfold trip.sl.HW_arg15_1
    refine add_dkt M arg15.view f15 (h := 0) (b := colsAt k k) (m := 512) (k0_off23_eq k) (ready0 k) hI.k fun z r w => ?_
    have ld : ∀ (r : Fin 1) (z : Fin 128) (w : Fin 512), trip.sl.v509 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16 (ix3 r z w) = M.dkt (colsAt k k) (0 + r) (0 + z) (1024 * k + w) :=
      rd3 (Val := Elt Ideal) arg15.view _ (k0_off23_eq k) (G := M.dkt (colsAt k k)) hI.k
    pointwise [trip.sl.v519, trip.sl.v515, trip.sl.v510, trip.sl.v514, trip.sl.v513, trip.sl.v496, trip.sl.cst_251, half1_ds0 hQ hR, ld,
      rd3 arg13.view X_arg13 (off24a k) (G := fun h l q => M.Q h q l) hR.q]
  · unfold trip.sl.HW_arg16_1
    refine add_dvt M arg16.view f16 (h := 0) (b := colsAt k k) (m := 512) (k0_off21_eq k) (ready0 k) hI.v fun r w => ?_
    have ld : ∀ (r : Fin 64) (w : Fin 512), trip.sl.v498 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16 (ix2 r w) = M.dvt (colsAt k k) (0 + r) (1024 * k + w) :=
      rd2 (Val := Elt Ideal) arg16.view _ (k0_off21_eq k) (G := M.dvt (colsAt k k)) hI.v
    pointwise [trip.sl.v507, trip.sl.v503, trip.sl.v502, trip.sl.v501, trip.sl.cst_245, half1_pr0 hQ hR, ld,
      rd2 arg14.view X_arg14 (off22a k) (G := fun l q => M.O q l) hR.o]

include hQ hR hC in
theorem cols2 : Cols arg15 arg16 M (c2 k) (arg15.view.writes (Elt Ideal) f15 (trip.sl.HW_arg15_2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16))
    (arg16.view.writes (Elt Ideal) f16 (trip.sl.HW_arg16_2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16)) := by
  have hI := cols1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hQ hR hC
  refine ⟨?_, ?_⟩
  · unfold trip.sl.HW_arg15_2
    refine add_dkt M arg15.view f15 (h := 1) (b := c1 k) (m := 512) (k0_off27_eq k) (ready1 k) hI.k fun z r w => ?_
    pointwise [trip.sl.v550, trip.sl.v546, trip.sl.v541, trip.sl.v545, trip.sl.v544, trip.sl.v527, trip.sl.cst_251, half1_ds1 hQ hR, rd3 (Val := Elt Ideal) arg15.view _ (k0_off27_eq k) (G := M.dkt (c1 k)) hI.k,
      rd3 arg13.view X_arg13 (off28a k) (G := fun h l q => M.Q h q l) hR.q]
  · unfold trip.sl.HW_arg16_2
    refine add_dvt M arg16.view f16 (h := 1) (b := c1 k) (m := 512) (k0_off25_eq k) (ready1 k) hI.v fun r w => ?_
    pointwise [trip.sl.v538, trip.sl.v534, trip.sl.v533, trip.sl.v532, trip.sl.cst_245, half1_pr1 hQ hR, rd2 (Val := Elt Ideal) arg16.view _ (k0_off25_eq k) (G := M.dvt (c1 k)) hI.v,
      rd2 arg14.view X_arg14 (off26a k) (G := fun l q => M.O q l) hR.o]

include hQ hR hC in
theorem cols3 : Cols arg15 arg16 M (c3 k) (arg15.view.writes (Elt Ideal) f15 (trip.sl.HW_arg15_3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16))
    (arg16.view.writes (Elt Ideal) f16 (trip.sl.HW_arg16_3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16)) := by
  have hI := cols2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hQ hR hC
  refine ⟨?_, ?_⟩
  · unfold trip.sl.HW_arg15_3
    refine add_dkt M arg15.view f15 (h := 0) (b := c2 k) (m := 512) (k0_off30_eq k) (ready2 k) hI.k fun z r w => ?_
    pointwise [trip.sl.v740, trip.sl.v736, trip.sl.v731, trip.sl.v735, trip.sl.v734, trip.sl.v717, trip.sl.cst_329, half2_ds0 hQ hR, rd3 (Val := Elt Ideal) arg15.view _ (k0_off30_eq k) (G := M.dkt (c2 k)) hI.k,
      rd3 arg13.view X_arg13 (off24b k) (G := fun h l q => M.Q h q l) hR.q]
  · unfold trip.sl.HW_arg16_3
    refine add_dvt M arg16.view f16 (h := 0) (b := c2 k) (m := 512) (k0_off29_eq k) (ready2 k) hI.v fun r w => ?_
    pointwise [trip.sl.v728, trip.sl.v724, trip.sl.v723, trip.sl.v722, trip.sl.cst_323, half2_pr0 hQ hR, rd2 (Val := Elt Ideal) arg16.view _ (k0_off29_eq k) (G := M.dvt (c2 k)) hI.v,
      rd2 arg14.view X_arg14 (off22b k) (G := fun l q => M.O q l) hR.o]

include hQ hR hC in
theorem cols4 : Cols arg15 arg16 M (c4 k) (arg15.view.writes (Elt Ideal) f15 (⟨Rect.unit (k0_off32 k) S1x128x1024.size (k0_off32_inb k), trip.sl.v771 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16⟩ :: (trip.sl.HW_arg15_3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16)))
    (arg16.view.writes (Elt Ideal) f16 (⟨Rect.unit (k0_off31 k) S64x1024.size (k0_off31_inb k), trip.sl.v759 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16⟩ :: (trip.sl.HW_arg16_3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16))) := by
  have hI := cols3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hQ hR hC
  refine ⟨?_, ?_⟩
  · refine add_dkt M arg15.view f15 (h := 1) (b := c3 k) (m := 512) (k0_off32_eq k) (ready3 k) hI.k fun z r w => ?_
    pointwise [trip.sl.v771, trip.sl.v767, trip.sl.v762, trip.sl.v766, trip.sl.v765, trip.sl.v748, trip.sl.cst_329, half2_ds1 hQ hR, rd3 (Val := Elt Ideal) arg15.view _ (k0_off32_eq k) (G := M.dkt (c3 k)) hI.k,
      rd3 arg13.view X_arg13 (off28b k) (G := fun h l q => M.Q h q l) hR.q]
  · refine add_dvt M arg16.view f16 (h := 1) (b := c3 k) (m := 512) (k0_off31_eq k) (ready3 k) hI.v fun r w => ?_
    pointwise [trip.sl.v759, trip.sl.v755, trip.sl.v754, trip.sl.v753, trip.sl.cst_323, half2_pr1 hQ hR, rd2 (Val := Elt Ideal) arg16.view _ (k0_off31_eq k) (G := M.dvt (c3 k)) hI.v,
      rd2 arg14.view X_arg14 (off26b k) (G := fun l q => M.O q l) hR.o]

include hQ hR hC in
theorem rows1 : Rows arg17 M (1024 * k) (r1 k) (arg17.view.writes (Elt Ideal) arg17.view.junk (trip.sl.HW_arg17_1_1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16)) := by
  have hI := (inner_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hQ hR hC).2
  unfold trip.sl.HW_arg17_1_1
  refine add_dq M arg17.view _ (h := 0) (b := rowsAt k) (r0 := 0) (m := 512) (n := 512) rfl (row0 k) hI fun z r l => ?_
  have ld : ∀ (z : Fin 1) (r : Fin 512) (l : Fin 128), trip.sl.v520 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16 (ix3 z r l) = M.dq (1024 * k) (rowsAt k) (0 + z) (0 + r) (0 + l) :=
    rc3 arg17.view _ (off := ![0, 0, 0]) rfl (G := M.dq (1024 * k) (rowsAt k)) hI
  pointwise [trip.sl.v526, trip.sl.v523, trip.sl.v521, trip.sl.v522, trip.sl.v496, trip.sl.cst_257, half1_ds0 hQ hR, half1_k0 hR, ld]

include hQ hR hC in
theorem rows2 : Rows arg17 M (1024 * k) (r2 k) (arg17.view.writes (Elt Ideal) arg17.view.junk (trip.sl.HW_arg17_2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16)) := by
  have hI := rows1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hQ hR hC
  unfold trip.sl.HW_arg17_2
  refine add_dq M arg17.view _ (h := 1) (b := r1 k) (r0 := 0) (m := 512) (n := 512) rfl (row1 k) hI fun z r l => ?_
  have ld : ∀ (z : Fin 1) (r : Fin 512) (l : Fin 128), trip.sl.v551 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16 (ix3 z r l) = M.dq (1024 * k) (r1 k) (1 + z) (0 + r) (0 + l) :=
    rc3 arg17.view _ (off := ![1, 0, 0]) rfl (G := M.dq (1024 * k) (r1 k)) hI
  pointwise [trip.sl.v557, trip.sl.v554, trip.sl.v552, trip.sl.v553, trip.sl.v527, trip.sl.cst_257, half1_ds1 hQ hR, half1_k1 hR, ld]

include hQ hR hC in
theorem rows3 : Rows arg17 M (1024 * k) (r3 k) (arg17.view.writes (Elt Ideal) arg17.view.junk (trip.sl.HW_arg17_3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16)) := by
  have hI := rows2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hQ hR hC
  unfold trip.sl.HW_arg17_3
  refine add_dq M arg17.view _ (h := 0) (b := r2 k) (r0 := 512) (m := 512) (n := 1024) rfl (row2 k) hI fun z r l => ?_
  have ld : ∀ (z : Fin 1) (r : Fin 512) (l : Fin 128), trip.sl.v741 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16 (ix3 z r l) = M.dq (1024 * k) (r2 k) (0 + z) (512 + r) (0 + l) :=
    rc3 arg17.view _ (off := ![0, 512, 0]) rfl (G := M.dq (1024 * k) (r2 k)) hI
  pointwise [trip.sl.v747, trip.sl.v744, trip.sl.v742, trip.sl.v743, trip.sl.v717, trip.sl.cst_257, half2_ds0 hQ hR, half2_k0 hR, ld]
  simp only [Nat.add_assoc]

include hQ hR hC in
theorem rows4 : Rows arg17 M (1024 * k) (r4 k) (arg17.view.writes (Elt Ideal) arg17.view.junk (trip.sl.HW_arg17_4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16)) := by
  have hI := rows3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hQ hR hC
  unfold trip.sl.HW_arg17_4
  refine add_dq M arg17.view _ (h := 1) (b := r3 k) (r0 := 512) (m := 512) (n := 1024) rfl (row3 k) hI fun z r l => ?_
  have ld : ∀ (z : Fin 1) (r : Fin 512) (l : Fin 128), trip.sl.v772 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16 (ix3 z r l) = M.dq (1024 * k) (r3 k) (1 + z) (512 + r) (0 + l) :=
    rc3 arg17.view _ (off := ![1, 512, 0]) rfl (G := M.dq (1024 * k) (r3 k)) hI
  pointwise [trip.sl.v778, trip.sl.v775, trip.sl.v773, trip.sl.v774, trip.sl.v748, trip.sl.cst_257, half2_ds1 hQ hR, half2_k1 hR, ld]
  simp only [Nat.add_assoc]
end Outer
end Cert.Proof.Mla
end

end
-- ==== Proof.Mla.Pairs.lean ====
module

public import proofs.«01_k».proof.Proof.Mla.Outer
public import proofs.«01_k».proof.Proof.Mla.Loop
public import proofs.«01_k».proof.Proof.Fox.Pairs

/-! The outer loop's trips together: every tile of queries. -/

@[expose] public section
set_option maxRecDepth 16384
noncomputable section
namespace Cert.Proof.Mla
open Idealize.ShloMosaic Idealize.ShloMosaic.TcCoe Idealize.SL.Sem
open Cert.MlaIdeal Cert.MlaIdeal.Gen Cert.MlaIdeal.Hand
open Cert.Proof.Fox (rd2 rd3 acc2 acc3 sum_tile upd upd_in upd_out c1 c2 c3 c4 r1 r2 r3 r4 row0 row1 row2 row3 rc3 colsAt rowsAt colsAt_zero rowsAt_zero r4_bounds c4_bounds Ins.sum_keys Ins.sum_more sum_lane lane_a0 lane_a1 lane_d0 lane_d1)

namespace Ins
variable (M : Ins)
/-- The gradient of head `h`'s query (before its scale) over all keys. -/
def dqA (h x y : ℕ) : EReal := ∑ k ∈ Finset.range 4096, M.ds h x k * M.K h k y

theorem dq_all (n : ℕ → ℕ → ℕ) (q0 h r l : ℕ) (h0 : ∀ k, n h r ≤ k → (q0 + r) / 64 < k / 64) (h1 : n h r ≤ 4096) :
    M.dq q0 n h r l = M.dqA h (q0 + r) l := by
  unfold dq dqA
  exact Fox.Ins.sum_keys _ h1 fun k hk => by rw [ds_gt M (h0 k hk), zero_mul]
end Ins

/-- The keys past a row's bound lie in later chunks. -/
theorem r4_chunk (k r : ℕ) (hk : k < 4) (hr : r < 1024) (h : ℕ) (hh : h < 2) : (∀ x, r4 k h r ≤ x → (1024 * k + r) / 64 < x / 64) ∧ r4 k h r ≤ 4096 := by
  by_cases h5 : r < 512 <;> interval_cases h
  · rw [show r4 k 0 r = 1024 * k + 512 by unfold r4 r3 r2 r1 upd; rw [if_neg (by omega), if_neg (by omega), if_neg (by omega), if_pos (by omega)]]; exact ⟨fun x hx => by omega, by omega⟩
  · rw [show r4 k 1 r = 1024 * k + 512 by unfold r4 r3 r2 r1 upd; rw [if_neg (by omega), if_neg (by omega), if_pos (by omega)]]; exact ⟨fun x hx => by omega, by omega⟩
  · rw [show r4 k 0 r = 1024 * k + 1024 by unfold r4 r3 upd; rw [if_neg (by omega), if_pos (by omega)]]; exact ⟨fun x hx => by omega, by omega⟩
  · rw [show r4 k 1 r = 1024 * k + 1024 by unfold r4 upd; rw [if_pos (by omega)]]; exact ⟨fun x hx => by omega, by omega⟩

theorem Cols.mono {arg15 : Memref sig .tc .vmem S2x128x4096 .f32} {arg16 : Memref sig .tc .vmem S128x4096 .f32}
    {M : Ins} {b b' : ℕ → ℕ → ℕ} {f15 : BufTy.Contents (Elt Ideal) arg15.view.ty} {f16 : BufTy.Contents (Elt Ideal) arg16.view.ty} (h : Cols arg15 arg16 M b f15 f16)
    (hb : ∀ h x, h < 2 → b h x ≤ b' h x ∧ ∀ q, b h x ≤ q → q < b' h x → q / 64 < x / 64) : Cols arg15 arg16 M b' f15 f16 := by
  refine ⟨fun z x y => (h.k z x y).trans ?_, fun x y => (h.v x y).trans ?_⟩
  · have e := hb z y (by omega)
    exact Fox.Ins.sum_more _ e.1 fun q h0 h1 => by rw [Ins.ds_gt M (e.2 q h0 h1), mul_zero]
  · have e := hb (x / 64) y (by omega)
    exact Fox.Ins.sum_more _ e.1 fun q h0 h1 => by rw [Ins.pr_gt M (e.2 q h0 h1), mul_zero]

/-- The lanes below 64, by one comparison. -/
theorem lane_below (l : Fin 128) (x y : EReal) :
    Scalar.select (IntOp.cmpi CmpIPredicate.slt (BitVec.ofNat 32 ↑l) 64#32) x y = Ins.hd 0 l x y := by
  simp (disch := word_cmp_side) only [hlo_ix]
  by_cases h : (l : ℕ) < 64
  · rw [Ins.hd, if_pos (by omega), if_pos (by omega)]
  · rw [Ins.hd, if_neg (by omega), if_neg (by omega)]

/-- The scale of the queries. -/
def qscale : EReal := FloatOps.ofBits (F := Ideal) .f32 0x3DD105EC#32

section Pairs
variable {M : Ins}
variable (𝒱 : Variants) (c : Dev nD) (bd : Option 𝒱.V) (i : grid0.Coords)
  (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S4096x128 .f32) (harg5 : arg5.IsWhole) (arg6 : Memref sig .tc .vmem S4096x128 .bf16) (harg6 : arg6.IsWhole)
  (arg7 : Memref sig .tc .vmem S4096x128 .bf16) (harg7 : arg7.IsWhole) (arg8 : Memref sig .tc .vmem S4096x128 .bf16) (harg8 : arg8.IsWhole)
  (arg9 : Memref sig .tc .vmem S4096x128 .bf16) (harg9 : arg9.IsWhole) (arg10 : Memref sig .tc .vmem S4096x128 .bf16) (harg10 : arg10.IsWhole)
  (arg11 : Memref sig .tc .vmem S4096x128 .f32) (harg11 : arg11.IsWhole) (arg12 : Memref sig .tc .vmem S1x4096x128 .f32)
  (harg12 : arg12.IsWhole) (arg13 : Memref sig .tc .vmem S2x128x4096 .bf16) (harg13 : arg13.IsWhole)
  (arg14 : Memref sig .tc .vmem S128x4096 .bf16) (harg14 : arg14.IsWhole) (arg15 : Memref sig .tc .vmem S2x128x4096 .f32)
  (harg15 : arg15.IsWhole) (arg16 : Memref sig .tc .vmem S128x4096 .f32) (harg16 : arg16.IsWhole)
  (arg17 : Memref sig .tc .vmem S2x1024x128 .f32) (harg17 : arg17.IsWhole) (arg18 : Memref sig .tc .vmem S2x1024x1 .f32)
  (harg18 : arg18.IsWhole)

variable {X_arg1 : BufTy.Contents (Elt Ideal) arg1.view.ty}
  {X_arg2 : BufTy.Contents (Elt Ideal) arg2.view.ty}
  {X_arg3 : BufTy.Contents (Elt Ideal) arg3.view.ty}
  {X_arg4 : BufTy.Contents (Elt Ideal) arg4.view.ty}
  {X_arg5 : BufTy.Contents (Elt Ideal) arg5.view.ty}
  {X_arg6 : BufTy.Contents (Elt Ideal) arg6.view.ty}
  {X_arg7 : BufTy.Contents (Elt Ideal) arg7.view.ty}
  {X_arg13 : BufTy.Contents (Elt Ideal) arg13.view.ty}
  {X_arg14 : BufTy.Contents (Elt Ideal) arg14.view.ty}
  {j : Fin 4} {P : ℕ → ℕ → EReal} {k : Fin k0_t1_loop.trips}
  {f15 : BufTy.Contents (Elt Ideal) arg15.view.ty} {f16 : BufTy.Contents (Elt Ideal) arg16.view.ty}
variable (hQ : Query arg1 arg4 arg6 arg5 X_arg1 X_arg4 X_arg6 X_arg5 P j M)
  (hR : Reads arg2 arg3 arg7 arg13 arg14 X_arg2 X_arg3 X_arg7 X_arg13 X_arg14 M)
  (hC : Cols arg15 arg16 M (fun _ _ => 1024 * k) f15 f16)

include hQ hR hC in
theorem last0 (hk : (k : ℕ) < 4) (r : Fin 1024) (l : Fin 128) : trip.sl.v782 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16 (ix2 r l) = M.dqA 0 (1024 * k + r) l := by
  have hI := rows4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hQ hR hC
  have ld : ∀ (z : Fin 1) (r : Fin 1024) (l : Fin 128), trip.sl.v781 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16 (ix3 z r l) = M.dq (1024 * k) (r4 k) (0 + z) (0 + r) (0 + l) :=
    rc3 arg17.view _ (off := ![0, 0, 0]) rfl (G := M.dq (1024 * k) (r4 k)) hI
  have e := r4_chunk k r hk r.isLt 0 (by omega)
  pointwise [trip.sl.v782, ld]
  exact Ins.dq_all M _ _ _ _ _ e.1 e.2

include hQ hR hC in
theorem last1 (hk : (k : ℕ) < 4) (r : Fin 1024) (l : Fin 128) : trip.sl.v784 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16 (ix2 r l) = M.dqA 1 (1024 * k + r) l := by
  have hI := rows4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hQ hR hC
  have ld : ∀ (z : Fin 1) (r : Fin 1024) (l : Fin 128), trip.sl.v783 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16 (ix3 z r l) = M.dq (1024 * k) (r4 k) (1 + z) (0 + r) (0 + l) :=
    rc3 arg17.view _ (off := ![1, 0, 0]) rfl (G := M.dq (1024 * k) (r4 k)) hI
  have e := r4_chunk k r hk r.isLt 1 (by omega)
  pointwise [trip.sl.v784, ld]
  exact Ins.dq_all M _ _ _ _ _ e.1 e.2

include hQ hR hC in
theorem out_dq (hk : (k : ℕ) < 4) (r : Fin 1024) (l : Fin 128) : trip.sl.v788 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16 (ix2 r l)
    = Ins.hd 0 l (M.dqA 0 (1024 * k + r) l) (M.dqA 1 (1024 * k + r) l) * qscale := by
  pointwise [trip.sl.v788, trip.sl.v787, trip.sl.v785, trip.sl.v786, trip.sl.cst_363, trip.sl.v263, trip.sl.v567, last0 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hQ hR hC hk, last1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hQ hR hC hk]
  rw [lane_below]
  rfl

include hQ hR hC in
theorem out_dqr (hk : (k : ℕ) < 4) (r : Fin 1024) (l : Fin 128) :
    k0_pay141 (cmpi CmpIPredicate.slt trip.sl.v263 trip.sl.v567) (trip.sl.v784 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16) (trip.sl.v782 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) X_arg1 X_arg2 X_arg3 X_arg4 X_arg5 X_arg6 X_arg7 X_arg13 X_arg14 k f15 f16) (ix2 r l)
    = Ins.hd 0 l (M.dqA 1 (1024 * k + r) l) (M.dqA 0 (1024 * k + r) l) * qscale := by
  pointwise [k0_pay141, trip.sl.v263, trip.sl.v567, last0 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hQ hR hC hk, last1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hQ hR hC hk]
  rw [lane_below]
  rfl
end Pairs

section All

variable {M : Ins}
variable (𝒱 : Variants) (c : Dev nD) (bd : Option 𝒱.V) (i : grid0.Coords)
  (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S4096x128 .f32) (harg5 : arg5.IsWhole) (arg6 : Memref sig .tc .vmem S4096x128 .bf16) (harg6 : arg6.IsWhole)
  (arg7 : Memref sig .tc .vmem S4096x128 .bf16) (harg7 : arg7.IsWhole) (arg8 : Memref sig .tc .vmem S4096x128 .bf16) (harg8 : arg8.IsWhole)
  (arg9 : Memref sig .tc .vmem S4096x128 .bf16) (harg9 : arg9.IsWhole) (arg10 : Memref sig .tc .vmem S4096x128 .bf16) (harg10 : arg10.IsWhole)
  (arg11 : Memref sig .tc .vmem S4096x128 .f32) (harg11 : arg11.IsWhole) (arg12 : Memref sig .tc .vmem S1x4096x128 .f32)
  (harg12 : arg12.IsWhole) (arg13 : Memref sig .tc .vmem S2x128x4096 .bf16) (harg13 : arg13.IsWhole)
  (arg14 : Memref sig .tc .vmem S128x4096 .bf16) (harg14 : arg14.IsWhole) (arg15 : Memref sig .tc .vmem S2x128x4096 .f32)
  (harg15 : arg15.IsWhole) (arg16 : Memref sig .tc .vmem S128x4096 .f32) (harg16 : arg16.IsWhole)
  (arg17 : Memref sig .tc .vmem S2x1024x128 .f32) (harg17 : arg17.IsWhole) (arg18 : Memref sig .tc .vmem S2x1024x1 .f32)
  (harg18 : arg18.IsWhole)

variable {X_arg1 : BufTy.Contents (Elt Ideal) arg1.view.ty}
  {X_arg2 : BufTy.Contents (Elt Ideal) arg2.view.ty}
  {X_arg3 : BufTy.Contents (Elt Ideal) arg3.view.ty}
  {X_arg4 : BufTy.Contents (Elt Ideal) arg4.view.ty}
  {X_arg5 : BufTy.Contents (Elt Ideal) arg5.view.ty}
  {X_arg6 : BufTy.Contents (Elt Ideal) arg6.view.ty}
  {X_arg7 : BufTy.Contents (Elt Ideal) arg7.view.ty}
  {X_arg13 : BufTy.Contents (Elt Ideal) arg13.view.ty}
  {X_arg14 : BufTy.Contents (Elt Ideal) arg14.view.ty}
  {j : Fin 4} {P : ℕ → ℕ → EReal}
  {f15 : BufTy.Contents (Elt Ideal) arg15.view.ty} {f16 : BufTy.Contents (Elt Ideal) arg16.view.ty}
variable (hQ : Query arg1 arg4 arg6 arg5 X_arg1 X_arg4 X_arg6 X_arg5 P j M)
  (hR : Reads arg2 arg3 arg7 arg13 arg14 X_arg2 X_arg3 X_arg7 X_arg13 X_arg14 M)
  (hC : Cols arg15 arg16 M (fun _ _ => 0) f15 f16)

  {f8 : BufTy.Contents (Elt Ideal) arg8.view.ty} {f11 : BufTy.Contents (Elt Ideal) arg11.view.ty} {G8 G11 : ℕ → ℕ → EReal} (v140 : FVec Ideal S128x1024 .bf16)
  (h8 : ∀ (x : Fin 4096) (y : Fin 128), arg8.view.read (Elt Ideal) f8 (ix2 x y) = G8 x y)
  (h11 : ∀ (x : Fin 4096) (y : Fin 128), arg11.view.read (Elt Ideal) f11 (ix2 x y) = G11 x y)

theorem t1_trips : k0_t1_loop.trips = 4 := by decide +kernel

include hQ hR hC h8 h11 in
/-- After `n` tiles of queries. -/
theorem outer_at (n : ℕ) (hn : n ≤ k0_t1_loop.trips) :
    Cols arg15 arg16 M (fun _ _ => 1024 * n) (arg15.view.writes (Elt Ideal) f15 (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) v140 X_arg1 X_arg2 X_arg3 X_arg4 X_arg5 X_arg6 X_arg7 X_arg13 X_arg14 f8 f11 f15 f16 n).2.2.1) (arg16.view.writes (Elt Ideal) f16 (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) v140 X_arg1 X_arg2 X_arg3 X_arg4 X_arg5 X_arg6 X_arg7 X_arg13 X_arg14 f8 f11 f15 f16 n).2.2.2)
      ∧ (∀ (x : Fin 4096) (y : Fin 128), arg8.view.read (Elt Ideal) (arg8.view.writes (Elt Ideal) f8 (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) v140 X_arg1 X_arg2 X_arg3 X_arg4 X_arg5 X_arg6 X_arg7 X_arg13 X_arg14 f8 f11 f15 f16 n).1) (ix2 x y)
          = if (x : ℕ) < 1024 * n then Ins.hd 0 y (M.dqA 0 x y) (M.dqA 1 x y) * qscale else G8 x y)
      ∧ ∀ (x : Fin 4096) (y : Fin 128), arg11.view.read (Elt Ideal) (arg11.view.writes (Elt Ideal) f11 (pb (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) v140 X_arg1 X_arg2 X_arg3 X_arg4 X_arg5 X_arg6 X_arg7 X_arg13 X_arg14 f8 f11 f15 f16 n).2.1) (ix2 x y)
          = if (x : ℕ) < 1024 * n then Ins.hd 0 y (M.dqA 1 x y) (M.dqA 0 x y) * qscale else G11 x y := by
  induction n with
  | zero =>
    refine ⟨hC, fun x y => ?_, fun x y => ?_⟩
    · rw [if_neg (by omega), ← h8]; rfl
    · rw [if_neg (by omega), ← h11]; rfl
  | succ n ih =>
    obtain ⟨h1, h2, h3⟩ := ih (by omega)
    have h4 : n < 4 := t1_trips ▸ hn
    have hs := pb_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 ↑j) v140 X_arg1 X_arg2 X_arg3 X_arg4 X_arg5 X_arg6 X_arg7 X_arg13 X_arg14 f8 f11 f15 f16 ⟨n, hn⟩
    rw [show n + 1 = (⟨n, hn⟩ : Fin k0_t1_loop.trips).val + 1 from rfl, hs]
    have e1 := cols4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k := ⟨n, hn⟩) hQ hR h1
    have e2 := out_dq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k := ⟨n, hn⟩) hQ hR h1 h4
    have e3 := out_dqr 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (k := ⟨n, hn⟩) hQ hR h1 h4
    unfold trip
    dsimp only
    rw [View.writes_append, View.writes_append, View.writes_append, View.writes_append]
    refine ⟨e1.mono fun h x hh => ?_, ?_, ?_⟩
    · have e := c4_bounds n x h hh
      by_cases hx : x < 1024 * n + 1024
      · rw [e.1 hx]; exact ⟨le_rfl, fun q a b => absurd b (by omega)⟩
      · rw [e.2 (by omega)]; exact ⟨by omega, fun q a b => by omega⟩
    · refine acc2 (Val := Elt Ideal) arg8.view _ (k0_off1_eq ⟨n, hn⟩) (G := (fun x y => if x < 1024 * n then Ins.hd 0 y (M.dqA 0 x y) (M.dqA 1 x y) * qscale else G8 x y))
        (H := (fun x y => if x < 1024 * (n + 1) then Ins.hd 0 y (M.dqA 0 x y) (M.dqA 1 x y) * qscale else G8 x y)) h2 (fun r l => ?_) (fun x y hn => ?_)
      · dsimp only; rw [e2, if_pos (by omega), Nat.zero_add]
      · dsimp only at hn ⊢
        by_cases hx : (x : ℕ) < 1024 * n
        · rw [if_pos (by omega), if_pos hx]
        · rw [if_neg (by omega), if_neg hx]
    · refine acc2 (Val := Elt Ideal) arg11.view _ (k0_off1_eq ⟨n, hn⟩) (G := (fun x y => if x < 1024 * n then Ins.hd 0 y (M.dqA 1 x y) (M.dqA 0 x y) * qscale else G11 x y))
        (H := (fun x y => if x < 1024 * (n + 1) then Ins.hd 0 y (M.dqA 1 x y) (M.dqA 0 x y) * qscale else G11 x y)) h3 (fun r l => ?_) (fun x y hn => ?_)
      · dsimp only; rw [e3, if_pos (by omega), Nat.zero_add]
      · dsimp only at hn ⊢
        by_cases hx : (x : ℕ) < 1024 * n
        · rw [if_pos (by omega), if_pos hx]
        · rw [if_neg (by omega), if_neg hx]
end All
end Cert.Proof.Mla
end

end
-- ==== Proof.Mla.Point.lean ====
module

public import proofs.«01_k».proof.Proof.Mla.Pairs
public import proofs.«01_k».proof.Proof.Mla.Body
public import proofs.«01_k».proof.Proof.Fox.Point

/-! What the body leaves in each result's buffer at one point. -/

@[expose] public section
set_option maxRecDepth 16384
noncomputable section
namespace Cert.Proof.Mla
open Idealize.ShloMosaic Idealize.ShloMosaic.TcCoe Idealize.SL.Sem
open Cert.MlaIdeal Cert.MlaIdeal.Gen Cert.MlaIdeal.Hand
open Cert.Proof.Fox (rd2 rd3 acc2 acc3 sum_tile upd upd_in upd_out c1 c2 c3 c4 r1 r2 r3 r4 row0 row1 row2 row3 rc3 colsAt rowsAt colsAt_zero rowsAt_zero rows_more cols_more rc2 ln2 sum_lane lane_a0 lane_a1 lane_d0 lane_d1)

section Cuts
variable {sig : RefSig} {κ : Kind} {sp : Space} {e : EltTy} {Val : EltTy → Type}

/-- One more tile of columns of one sheet: the buffer holds the tiles so far. -/
theorem sheet_more {S A B : ℕ} (v : View sig κ sp ⟨3, ![S, A, B]⟩ e) (f : v.ty.Contents Val) (h n : ℕ) {b : ℕ}
    {inb : ∀ x, (![h, 0, n] : Fin 3 → ℕ) x + (![1, A, b] : Fin 3 → ℕ) x ≤ (![S, A, B] : Fin 3 → ℕ) x}
    {w : (Rect.unit (s := ⟨3, ![S, A, B]⟩) ![h, 0, n] ![1, A, b] inb).shape.Idx → Val e} {L : List (View.Piece Val ⟨3, ![S, A, B]⟩ e)} {H : ℕ → ℕ → ℕ → Val e}
    (hin : ∀ (z : Fin 1) (r : Fin A) (c : Fin b), w (ix3 z r c) = H (h + z) r (n + c))
    (P : ℕ → ℕ → Prop) (hG : ∀ (z : Fin S) (x : Fin A) (y : Fin B), P z y → v.read Val (v.writes Val f L) (ix3 z x y) = H z x y)
    (z : Fin S) (x : Fin A) (y : Fin B) (hx : ((z : ℕ) = h ∧ n ≤ y ∧ (y : ℕ) < n + b) ∨ P z y) :
    v.read Val (v.writes Val f ((⟨Rect.unit (s := ⟨3, ![S, A, B]⟩) ![h, 0, n] ![1, A, b] inb, w⟩ : View.Piece Val ⟨3, ![S, A, B]⟩ e) :: L)) (ix3 z x y) = H z x y := by
  have hA : 0 < A := by have := x.isLt; omega
  have hB : 0 < B := by have := y.isLt; omega
  have hS : 0 < S := by have := z.isLt; omega
  have g := acc3 (Val := Val) v f (off := ![h, 0, n]) (inb := inb) (o0 := h) (o1 := 0) (o2 := n) rfl (w := w) (L := L)
    (G := fun z x y => v.read Val (v.writes Val f L) (ix3 (⟨z % S, Nat.mod_lt _ hS⟩ : Fin S) (⟨x % A, Nat.mod_lt _ hA⟩ : Fin A) (⟨y % B, Nat.mod_lt _ hB⟩ : Fin B)))
    (H := fun z x y => if z = h ∧ n ≤ y ∧ y < n + b ∧ x < A then H z x y else v.read Val (v.writes Val f L) (ix3 (⟨z % S, Nat.mod_lt _ hS⟩ : Fin S) (⟨x % A, Nat.mod_lt _ hA⟩ : Fin A) (⟨y % B, Nat.mod_lt _ hB⟩ : Fin B)))
    (fun z x y => congrArg _ (by ext a; fin_cases a <;> exact (Nat.mod_eq_of_lt (Fin.isLt _)).symm))
    (fun z r c => by rw [hin, if_pos ⟨by omega, by omega, by omega, by omega⟩, Nat.zero_add])
    (fun z x y h => by rw [if_neg (by omega)]) z x y
  rw [g]
  by_cases hc : (z : ℕ) = h ∧ n ≤ (y : ℕ) ∧ (y : ℕ) < n + b
  · rw [if_pos ⟨hc.1, hc.2.1, hc.2.2, x.isLt⟩]
  · rw [if_neg (fun h => hc ⟨h.1, h.2.1, h.2.2.1⟩), ← hG z x y (hx.resolve_left hc)]
    exact congrArg _ (by ext a; fin_cases a <;> exact Nat.mod_eq_of_lt (Fin.isLt _))

/-- Tiles of rows of a buffer of one sheet. -/
theorem slab_more {A B : ℕ} (v : View sig κ sp ⟨3, ![1, A, B]⟩ e) (f : v.ty.Contents Val) (n : ℕ) {a : ℕ}
    {inb : ∀ x, (![0, n, 0] : Fin 3 → ℕ) x + (![1, a, B] : Fin 3 → ℕ) x ≤ (![1, A, B] : Fin 3 → ℕ) x}
    {w : (Rect.unit (s := ⟨3, ![1, A, B]⟩) ![0, n, 0] ![1, a, B] inb).shape.Idx → Val e} {L : List (View.Piece Val ⟨3, ![1, A, B]⟩ e)} {H : ℕ → ℕ → Val e}
    (hin : ∀ (z : Fin 1) (r : Fin a) (c : Fin B), w (ix3 z r c) = H (n + r) c)
    (hG : ∀ (z : Fin 1) (x : Fin A) (y : Fin B), (x : ℕ) < n → v.read Val (v.writes Val f L) (ix3 z x y) = H x y) (z : Fin 1) (x : Fin A) (y : Fin B) (hx : (x : ℕ) < n + a) :
    v.read Val (v.writes Val f ((⟨Rect.unit (s := ⟨3, ![1, A, B]⟩) ![0, n, 0] ![1, a, B] inb, w⟩ : View.Piece Val ⟨3, ![1, A, B]⟩ e) :: L)) (ix3 z x y) = H x y := by
  have hA : 0 < A := by have := x.isLt; omega
  have hB : 0 < B := by have := y.isLt; omega
  have hz : ∀ z : Fin 1, z = 0 := by decide
  have g := acc3 (Val := Val) v f (off := ![0, n, 0]) (inb := inb) (o0 := 0) (o1 := n) (o2 := 0) rfl (w := w) (L := L)
    (G := fun _ x y => v.read Val (v.writes Val f L) (ix3 (0 : Fin 1) (⟨x % A, Nat.mod_lt _ hA⟩ : Fin A) (⟨y % B, Nat.mod_lt _ hB⟩ : Fin B)))
    (H := fun _ x y => if n ≤ x ∧ x < n + a ∧ y < B then H x y else v.read Val (v.writes Val f L) (ix3 (0 : Fin 1) (⟨x % A, Nat.mod_lt _ hA⟩ : Fin A) (⟨y % B, Nat.mod_lt _ hB⟩ : Fin B)))
    (fun z x y => congrArg _ (by rw [hz z]; ext a; fin_cases a <;> first | rfl | exact (Nat.mod_eq_of_lt (Fin.isLt _)).symm))
    (fun z r c => by rw [hin, if_pos ⟨by omega, by omega, by omega⟩, Nat.zero_add])
    (fun z x y h => by rw [if_neg (by omega)]) z x y
  rw [g]
  by_cases h : n ≤ (x : ℕ)
  · rw [if_pos ⟨h, hx, y.isLt⟩]
  · rw [if_neg (by omega), ← hG z x y (by omega)]
    exact congrArg _ (by rw [hz z]; ext a; fin_cases a <;> first | rfl | exact Nat.mod_eq_of_lt (Fin.isLt _))
end Cuts

theorem ln2_named : (Named.named (F := Ideal) (φ := .f32) κ "ln2" 0x3F317218#32 : EReal) = ln2 := IdealRules.named_const.ideal_named_scalar _ _ _ _ rfl

section Parts
variable {arg1 arg4 arg6 : Memref sig .tc .vmem S4096x128 .bf16} {arg9 arg10 : Memref sig .tc .vmem S4096x128 .bf16} {arg12 : Memref sig .tc .vmem S1x4096x128 .f32}
  {arg13 : Memref sig .tc .vmem S2x128x4096 .bf16} {arg14 : Memref sig .tc .vmem S128x4096 .bf16}
  {arg15 : Memref sig .tc .vmem S2x128x4096 .f32} {arg16 : Memref sig .tc .vmem S128x4096 .f32}

theorem turned_q {X1 : BufTy.Contents (Elt Ideal) arg1.view.ty} {X6 : BufTy.Contents (Elt Ideal) arg6.view.ty} {M : Ins}
    (hq : ∀ (x : Fin 4096) (y : Fin 128), arg1.view.read (Elt Ideal) X1 (ix2 x y) = M.q x y) (hqr : ∀ (x : Fin 4096) (y : Fin 128), arg6.view.read (Elt Ideal) X6 (ix2 x y) = M.qr x y)
    (z : Fin 2) (x : Fin 128) (y : Fin 4096) : arg13.view.read (Elt Ideal) (arg13.view.writes (Elt Ideal) arg13.view.junk (body.sl.HW_arg13_8 arg1 arg6 X1 X6)) (ix3 z x y) = M.Q z y x := by
  unfold body.sl.HW_arg13_8
  refine sheet_more (Val := Elt Ideal) arg13.view _ 1 3072 (b := 1024) (H := fun z x y => M.Q z y x) (fun z r l => ?_) (fun z y : ℕ => ((z = 0 ∧ 3072 ≤ y ∧ y < 3072 + 1024) ∨ ((z = 1 ∧ 2048 ≤ y ∧ y < 2048 + 1024) ∨ ((z = 0 ∧ 2048 ≤ y ∧ y < 2048 + 1024) ∨ ((z = 1 ∧ 1024 ≤ y ∧ y < 1024 + 1024) ∨ ((z = 0 ∧ 1024 ≤ y ∧ y < 1024 + 1024) ∨ ((z = 1 ∧ 0 ≤ y ∧ y < 0 + 1024) ∨ ((z = 0 ∧ 0 ≤ y ∧ y < 0 + 1024) ∨ False)))))))) (sheet_more (Val := Elt Ideal) arg13.view _ 0 3072 (b := 1024) (H := fun z x y => M.Q z y x) (fun z r l => ?_) (fun z y : ℕ => ((z = 1 ∧ 2048 ≤ y ∧ y < 2048 + 1024) ∨ ((z = 0 ∧ 2048 ≤ y ∧ y < 2048 + 1024) ∨ ((z = 1 ∧ 1024 ≤ y ∧ y < 1024 + 1024) ∨ ((z = 0 ∧ 1024 ≤ y ∧ y < 1024 + 1024) ∨ ((z = 1 ∧ 0 ≤ y ∧ y < 0 + 1024) ∨ ((z = 0 ∧ 0 ≤ y ∧ y < 0 + 1024) ∨ False))))))) (sheet_more (Val := Elt Ideal) arg13.view _ 1 2048 (b := 1024) (H := fun z x y => M.Q z y x) (fun z r l => ?_) (fun z y : ℕ => ((z = 0 ∧ 2048 ≤ y ∧ y < 2048 + 1024) ∨ ((z = 1 ∧ 1024 ≤ y ∧ y < 1024 + 1024) ∨ ((z = 0 ∧ 1024 ≤ y ∧ y < 1024 + 1024) ∨ ((z = 1 ∧ 0 ≤ y ∧ y < 0 + 1024) ∨ ((z = 0 ∧ 0 ≤ y ∧ y < 0 + 1024) ∨ False)))))) (sheet_more (Val := Elt Ideal) arg13.view _ 0 2048 (b := 1024) (H := fun z x y => M.Q z y x) (fun z r l => ?_) (fun z y : ℕ => ((z = 1 ∧ 1024 ≤ y ∧ y < 1024 + 1024) ∨ ((z = 0 ∧ 1024 ≤ y ∧ y < 1024 + 1024) ∨ ((z = 1 ∧ 0 ≤ y ∧ y < 0 + 1024) ∨ ((z = 0 ∧ 0 ≤ y ∧ y < 0 + 1024) ∨ False))))) (sheet_more (Val := Elt Ideal) arg13.view _ 1 1024 (b := 1024) (H := fun z x y => M.Q z y x) (fun z r l => ?_) (fun z y : ℕ => ((z = 0 ∧ 1024 ≤ y ∧ y < 1024 + 1024) ∨ ((z = 1 ∧ 0 ≤ y ∧ y < 0 + 1024) ∨ ((z = 0 ∧ 0 ≤ y ∧ y < 0 + 1024) ∨ False)))) (sheet_more (Val := Elt Ideal) arg13.view _ 0 1024 (b := 1024) (H := fun z x y => M.Q z y x) (fun z r l => ?_) (fun z y : ℕ => ((z = 1 ∧ 0 ≤ y ∧ y < 0 + 1024) ∨ ((z = 0 ∧ 0 ≤ y ∧ y < 0 + 1024) ∨ False))) (sheet_more (Val := Elt Ideal) arg13.view _ 1 0 (b := 1024) (H := fun z x y => M.Q z y x) (fun z r l => ?_) (fun z y : ℕ => ((z = 0 ∧ 0 ≤ y ∧ y < 0 + 1024) ∨ False)) (sheet_more (Val := Elt Ideal) arg13.view _ 0 0 (b := 1024) (H := fun z x y => M.Q z y x) (fun z r l => ?_) (fun _ _ => False) (fun z x y h => h.elim)))))))) z x y (by omega)
  · pointwise [k0_pay138, body.sl.r_3, k0_pay137, rd2 (Val := Elt Ideal) arg1.view X1 (off := ![3072, 0]) rfl hq, rd2 (Val := Elt Ideal) arg6.view X6 (off := ![3072, 0]) rfl hqr, lane_ge]
    simp only [show (z : ℕ) = 0 by have := z.isLt; omega, Nat.add_zero, Nat.zero_add, Ins.Q]
  · pointwise [k0_pay136, rd2 (Val := Elt Ideal) arg1.view X1 (off := ![3072, 0]) rfl hq, rd2 (Val := Elt Ideal) arg6.view X6 (off := ![3072, 0]) rfl hqr, lane_lt]
    simp only [show (z : ℕ) = 0 by have := z.isLt; omega, Nat.add_zero, Nat.zero_add, Ins.Q]
  · pointwise [k0_pay134, body.sl.r_2, k0_pay133, rd2 (Val := Elt Ideal) arg1.view X1 (off := ![2048, 0]) rfl hq, rd2 (Val := Elt Ideal) arg6.view X6 (off := ![2048, 0]) rfl hqr, lane_ge]
    simp only [show (z : ℕ) = 0 by have := z.isLt; omega, Nat.add_zero, Nat.zero_add, Ins.Q]
  · pointwise [k0_pay132, rd2 (Val := Elt Ideal) arg1.view X1 (off := ![2048, 0]) rfl hq, rd2 (Val := Elt Ideal) arg6.view X6 (off := ![2048, 0]) rfl hqr, lane_lt]
    simp only [show (z : ℕ) = 0 by have := z.isLt; omega, Nat.add_zero, Nat.zero_add, Ins.Q]
  · pointwise [k0_pay130, body.sl.r_1, k0_pay129, rd2 (Val := Elt Ideal) arg1.view X1 (off := ![1024, 0]) rfl hq, rd2 (Val := Elt Ideal) arg6.view X6 (off := ![1024, 0]) rfl hqr, lane_ge]
    simp only [show (z : ℕ) = 0 by have := z.isLt; omega, Nat.add_zero, Nat.zero_add, Ins.Q]
  · pointwise [k0_pay128, rd2 (Val := Elt Ideal) arg1.view X1 (off := ![1024, 0]) rfl hq, rd2 (Val := Elt Ideal) arg6.view X6 (off := ![1024, 0]) rfl hqr, lane_lt]
    simp only [show (z : ℕ) = 0 by have := z.isLt; omega, Nat.add_zero, Nat.zero_add, Ins.Q]
  · pointwise [k0_pay126, body.sl.r, k0_pay125, rd2 (Val := Elt Ideal) arg1.view X1 (off := ![0, 0]) rfl hq, rd2 (Val := Elt Ideal) arg6.view X6 (off := ![0, 0]) rfl hqr, lane_ge]
    simp only [show (z : ℕ) = 0 by have := z.isLt; omega, Nat.add_zero, Nat.zero_add, Ins.Q]
  · pointwise [k0_pay124, rd2 (Val := Elt Ideal) arg1.view X1 (off := ![0, 0]) rfl hq, rd2 (Val := Elt Ideal) arg6.view X6 (off := ![0, 0]) rfl hqr, lane_lt]
    simp only [show (z : ℕ) = 0 by have := z.isLt; omega, Nat.add_zero, Nat.zero_add, Ins.Q]

theorem turned_o {X : BufTy.Contents (Elt Ideal) arg4.view.ty} {G : ℕ → ℕ → EReal} (h : ∀ (x : Fin 4096) (y : Fin 128), arg4.view.read (Elt Ideal) X (ix2 x y) = G x y)
    (x : Fin 128) (y : Fin 4096) : arg14.view.read (Elt Ideal) (arg14.view.writes (Elt Ideal) arg14.view.junk (body.sl.HW_arg14_4 arg4 X)) (ix2 x y) = G y x := by
  unfold body.sl.HW_arg14_4
  refine cols_more (Val := Elt Ideal) arg14.view _ 3072 (b := 1024) (H := fun x y => G y x) (fun r l => ?_) (cols_more (Val := Elt Ideal) arg14.view _ 2048 (b := 1024) (H := fun x y => G y x) (fun r l => ?_) (cols_more (Val := Elt Ideal) arg14.view _ 1024 (b := 1024) (H := fun x y => G y x) (fun r l => ?_)
    (cols_more (Val := Elt Ideal) arg14.view _ 0 (b := 1024) (H := fun x y => G y x) (fun r l => ?_) (fun x y hx => absurd hx (by omega))))) x y (by omega)
  · pointwise [k0_pay135, rd2 (Val := Elt Ideal) arg4.view X (off := ![3072, 0]) rfl h]
  · pointwise [k0_pay131, rd2 (Val := Elt Ideal) arg4.view X (off := ![2048, 0]) rfl h]
  · pointwise [k0_pay127, rd2 (Val := Elt Ideal) arg4.view X (off := ![1024, 0]) rfl h]
  · pointwise [k0_pay123, rd2 (Val := Elt Ideal) arg4.view X (off := ![0, 0]) rfl h]

theorem zero_cols (M : Ins) : Cols arg15 arg16 M (fun _ _ => 0) (arg15.view.writes (Elt Ideal) arg15.view.junk body.sl.HW_arg15_1)
    (arg16.view.writes (Elt Ideal) arg16.view.junk body.sl.HW_arg16_1) := by
  refine ⟨fun x z y => ?_, fun x y => ?_⟩
  · unfold body.sl.HW_arg15_1
    refine acc3 arg15.view _ (off := ![0, 0, 0]) (L := []) (o0 := 0) (o1 := 0) (o2 := 0) (G := fun x y z => arg15.view.read (Elt Ideal) arg15.view.junk (ix3 (Fin.ofNat 2 x) (Fin.ofNat 128 y) (Fin.ofNat 4096 z)))
      (H := fun h l x => M.dkt (fun _ _ => 0) h l x) rfl (fun x y z => ?_) (fun x y z => ?_) (fun x y z hn => absurd hn (by omega)) x z y
    · exact congrArg _ (by ext a; fin_cases a <;> exact (Nat.mod_eq_of_lt (Fin.isLt _)).symm)
    · pointwise [k0_pay139]
      simp [Ins.dkt]
  · unfold body.sl.HW_arg16_1
    refine cols_more (Val := Elt Ideal) arg16.view _ 0 (H := fun x y => M.dvt (fun _ _ => 0) x y) (fun r l => ?_) (fun x y hx => absurd hx (by omega)) x y (by omega)
    pointwise [k0_pay140]
    simp [Ins.dvt]

section Keys
variable {L : List (View.Piece (Elt Ideal) S2x128x4096 .f32)} {G : ℕ → ℕ → ℕ → EReal}
    (h : ∀ (z : Fin 2) (x : Fin 128) (y : Fin 4096), arg15.view.read (Elt Ideal) (arg15.view.writes (Elt Ideal) arg15.view.junk L) (ix3 z x y) = G z x y)
include h
theorem key_load (s n : ℕ) (inb) (z : Fin 1) (r : Fin 128) (l : Fin 1024) :
    arg15.view.readCov L (Rect.unit (s := S2x128x4096) ![s, 0, n] ![1, 128, 1024] inb).toLoadRect (ix3 z r l) = G s r (n + l) := by
  have := rc3 arg15.view L (off := ![s, 0, n]) (inb := inb) rfl (G := G) h z r l
  rw [this, Nat.zero_add, show (z : ℕ) = 0 by have := z.isLt; omega, Nat.add_zero]

theorem out_k (f : BufTy.Contents (Elt Ideal) arg9.view.ty) (x : Fin 4096) (y : Fin 128) :
    arg9.view.read (Elt Ideal) (arg9.view.writes (Elt Ideal) f [⟨Rect.unit (s := S4096x128) ![3072, 0] S1024x128.size inb_S4096x128_S1024x128_3072_0, k0_pay3 (F := Ideal) (k0_pay161 (arg15.view.readCov L (Rect.unit (s := S2x128x4096) ![0, 0, 3072] S1x128x1024.size inb_S2x128x4096_S1x128x1024_0_0_3072).toLoadRect)) (arg15.view.readCov L (Rect.unit (s := S2x128x4096) ![1, 0, 3072] S1x128x1024.size inb_S2x128x4096_S1x128x1024_1_0_3072).toLoadRect)⟩, ⟨Rect.unit (s := S4096x128) ![2048, 0] S1024x128.size inb_S4096x128_S1024x128_2048_0, k0_pay158 (F := Ideal) (arg15.view.readCov L (Rect.unit (s := S2x128x4096) ![0, 0, 2048] S1x128x1024.size inb_S2x128x4096_S1x128x1024_0_0_2048).toLoadRect) (arg15.view.readCov L (Rect.unit (s := S2x128x4096) ![1, 0, 2048] S1x128x1024.size inb_S2x128x4096_S1x128x1024_1_0_2048).toLoadRect)⟩, ⟨Rect.unit (s := S4096x128) ![1024, 0] S1024x128.size inb_S4096x128_S1024x128_1024_0, k0_pay152 (F := Ideal) (arg15.view.readCov L (Rect.unit (s := S2x128x4096) ![0, 0, 1024] S1x128x1024.size inb_S2x128x4096_S1x128x1024_0_0_1024).toLoadRect) (arg15.view.readCov L (Rect.unit (s := S2x128x4096) ![1, 0, 1024] S1x128x1024.size inb_S2x128x4096_S1x128x1024_1_0_1024).toLoadRect)⟩, ⟨Rect.unit (s := S4096x128) ![0, 0] S1024x128.size inb_S4096x128_S1024x128_0_0, k0_pay146 (F := Ideal) (arg15.view.readCov L (Rect.unit (s := S2x128x4096) ![0, 0, 0] S1x128x1024.size inb_S2x128x4096_S1x128x1024_0_0_0).toLoadRect) (arg15.view.readCov L (Rect.unit (s := S2x128x4096) ![1, 0, 0] S1x128x1024.size inb_S2x128x4096_S1x128x1024_1_0_0).toLoadRect)⟩]) (ix2 x y) = Ins.hd 0 y (G 0 y x) (G 1 y x) * ln2 := by
  refine rows_more (Val := Elt Ideal) arg9.view _ 3072 (a := 1024) (H := fun x y => Ins.hd 0 y (G 0 y x) (G 1 y x) * ln2) (fun r l => ?_) (rows_more (Val := Elt Ideal) arg9.view _ 2048 (a := 1024) (H := fun x y => Ins.hd 0 y (G 0 y x) (G 1 y x) * ln2) (fun r l => ?_) (rows_more (Val := Elt Ideal) arg9.view _ 1024 (a := 1024) (H := fun x y => Ins.hd 0 y (G 0 y x) (G 1 y x) * ln2) (fun r l => ?_)
    (rows_more (Val := Elt Ideal) arg9.view _ 0 (a := 1024) (H := fun x y => Ins.hd 0 y (G 0 y x) (G 1 y x) * ln2) (fun r l => ?_) (fun x y hx => absurd hx (by omega))))) x y (by omega)
  · pointwise [k0_pay3, k0_pay4, k0_pay161, k0_pay1, k0_pay2, key_load h 0 3072, key_load h 1 3072, ln2_named, lane_below]
  · pointwise [k0_pay158, k0_pay159, k0_pay155, k0_pay156, k0_pay157, key_load h 0 2048, key_load h 1 2048, ln2_named, lane_below]
  · pointwise [k0_pay152, k0_pay153, k0_pay149, k0_pay150, k0_pay151, key_load h 0 1024, key_load h 1 1024, ln2_named, lane_below]
  · pointwise [k0_pay146, k0_pay147, k0_pay143, k0_pay144, k0_pay145, key_load h 0 0, key_load h 1 0, ln2_named, lane_below]

theorem out_kr (f : BufTy.Contents (Elt Ideal) arg12.view.ty) (z : Fin 1) (x : Fin 4096) (y : Fin 128) :
    arg12.view.read (Elt Ideal) (arg12.view.writes (Elt Ideal) f [⟨Rect.unit (s := S1x4096x128) ![0, 3072, 0] S1x1024x128.size inb_S1x4096x128_S1x1024x128_0_3072_0, k0_pay4 (F := Ideal) (k0_pay161 (arg15.view.readCov L (Rect.unit (s := S2x128x4096) ![0, 0, 3072] S1x128x1024.size inb_S2x128x4096_S1x128x1024_0_0_3072).toLoadRect)) (arg15.view.readCov L (Rect.unit (s := S2x128x4096) ![1, 0, 3072] S1x128x1024.size inb_S2x128x4096_S1x128x1024_1_0_3072).toLoadRect)⟩, ⟨Rect.unit (s := S1x4096x128) ![0, 2048, 0] S1x1024x128.size inb_S1x4096x128_S1x1024x128_0_2048_0, k0_pay159 (F := Ideal) (arg15.view.readCov L (Rect.unit (s := S2x128x4096) ![0, 0, 2048] S1x128x1024.size inb_S2x128x4096_S1x128x1024_0_0_2048).toLoadRect) (arg15.view.readCov L (Rect.unit (s := S2x128x4096) ![1, 0, 2048] S1x128x1024.size inb_S2x128x4096_S1x128x1024_1_0_2048).toLoadRect)⟩, ⟨Rect.unit (s := S1x4096x128) ![0, 1024, 0] S1x1024x128.size inb_S1x4096x128_S1x1024x128_0_1024_0, k0_pay153 (F := Ideal) (arg15.view.readCov L (Rect.unit (s := S2x128x4096) ![0, 0, 1024] S1x128x1024.size inb_S2x128x4096_S1x128x1024_0_0_1024).toLoadRect) (arg15.view.readCov L (Rect.unit (s := S2x128x4096) ![1, 0, 1024] S1x128x1024.size inb_S2x128x4096_S1x128x1024_1_0_1024).toLoadRect)⟩, ⟨Rect.unit (s := S1x4096x128) ![0, 0, 0] S1x1024x128.size inb_S1x4096x128_S1x1024x128_0_0_0, k0_pay147 (F := Ideal) (k0_pay143 (arg15.view.readCov L (Rect.unit (s := S2x128x4096) ![0, 0, 0] S1x128x1024.size inb_S2x128x4096_S1x128x1024_0_0_0).toLoadRect)) (k0_pay144 (arg15.view.readCov L (Rect.unit (s := S2x128x4096) ![1, 0, 0] S1x128x1024.size inb_S2x128x4096_S1x128x1024_1_0_0).toLoadRect)) k0_pay145⟩]) (ix3 z x y) = Ins.hd 0 y (G 1 y x) (G 0 y x) * ln2 := by
  refine slab_more (Val := Elt Ideal) arg12.view _ 3072 (a := 1024) (H := fun x y => Ins.hd 0 y (G 1 y x) (G 0 y x) * ln2) (fun z r l => ?_) (slab_more (Val := Elt Ideal) arg12.view _ 2048 (a := 1024) (H := fun x y => Ins.hd 0 y (G 1 y x) (G 0 y x) * ln2) (fun z r l => ?_) (slab_more (Val := Elt Ideal) arg12.view _ 1024 (a := 1024) (H := fun x y => Ins.hd 0 y (G 1 y x) (G 0 y x) * ln2) (fun z r l => ?_)
    (slab_more (Val := Elt Ideal) arg12.view _ 0 (a := 1024) (H := fun x y => Ins.hd 0 y (G 1 y x) (G 0 y x) * ln2) (fun z r l => ?_) (fun z x y hx => absurd hx (by omega))))) z x y (by omega)
  · pointwise [k0_pay3, k0_pay4, k0_pay161, k0_pay1, k0_pay2, key_load h 0 3072, key_load h 1 3072, ln2_named, lane_below]
  · pointwise [k0_pay158, k0_pay159, k0_pay155, k0_pay156, k0_pay157, key_load h 0 2048, key_load h 1 2048, ln2_named, lane_below]
  · pointwise [k0_pay152, k0_pay153, k0_pay149, k0_pay150, k0_pay151, key_load h 0 1024, key_load h 1 1024, ln2_named, lane_below]
  · pointwise [k0_pay146, k0_pay147, k0_pay143, k0_pay144, k0_pay145, key_load h 0 0, key_load h 1 0, ln2_named, lane_below]
end Keys

theorem out_v (f : BufTy.Contents (Elt Ideal) arg10.view.ty) {L : List (View.Piece (Elt Ideal) S128x4096 .f32)} {G : ℕ → ℕ → EReal}
    (h : ∀ (x : Fin 128) (y : Fin 4096), arg16.view.read (Elt Ideal) (arg16.view.writes (Elt Ideal) arg16.view.junk L) (ix2 x y) = G x y) (x : Fin 4096) (y : Fin 128) :
    arg10.view.read (Elt Ideal) (arg10.view.writes (Elt Ideal) f [⟨Rect.unit (s := S4096x128) ![3072, 0] S1024x128.size inb_S4096x128_S1024x128_3072_0, k0_pay160 (F := Ideal) (arg16.view.readCov L (Rect.unit (s := S128x4096) ![0, 3072] S128x1024.size inb_S128x4096_S128x1024_0_3072).toLoadRect)⟩, ⟨Rect.unit (s := S4096x128) ![2048, 0] S1024x128.size inb_S4096x128_S1024x128_2048_0, k0_pay154 (F := Ideal) (arg16.view.readCov L (Rect.unit (s := S128x4096) ![0, 2048] S128x1024.size inb_S128x4096_S128x1024_0_2048).toLoadRect)⟩, ⟨Rect.unit (s := S4096x128) ![1024, 0] S1024x128.size inb_S4096x128_S1024x128_1024_0, k0_pay148 (F := Ideal) (arg16.view.readCov L (Rect.unit (s := S128x4096) ![0, 1024] S128x1024.size inb_S128x4096_S128x1024_0_1024).toLoadRect)⟩, ⟨Rect.unit (s := S4096x128) ![0, 0] S1024x128.size inb_S4096x128_S1024x128_0_0, k0_pay142 (F := Ideal) (arg16.view.readCov L (Rect.unit (s := S128x4096) ![0, 0] S128x1024.size inb_S128x4096_S128x1024_0_0).toLoadRect)⟩]) (ix2 x y) = G y x := by
  have ld : ∀ n inb (r : Fin 128) (l : Fin 1024), arg16.view.readCov L (Rect.unit (s := S128x4096) ![0, n] ![128, 1024] inb).toLoadRect (ix2 r l) = G (0 + r) (n + l) :=
    fun n inb => rc2 arg16.view L (off := ![0, n]) rfl h
  refine rows_more (Val := Elt Ideal) arg10.view _ 3072 (a := 1024) (H := fun x y => G y x) (fun r l => ?_) (rows_more (Val := Elt Ideal) arg10.view _ 2048 (a := 1024) (H := fun x y => G y x) (fun r l => ?_) (rows_more (Val := Elt Ideal) arg10.view _ 1024 (a := 1024) (H := fun x y => G y x) (fun r l => ?_)
    (rows_more (Val := Elt Ideal) arg10.view _ 0 (a := 1024) (H := fun x y => G y x) (fun r l => ?_) (fun x y hx => absurd hx (by omega))))) x y (by omega)
  · pointwise [k0_pay160, ld 3072]
  · pointwise [k0_pay154, ld 2048]
  · pointwise [k0_pay148, ld 1024]
  · pointwise [k0_pay142, ld 0]
end Parts
end Cert.Proof.Mla
end

end
-- ==== Proof.Mla.Left.lean ====
module

public import proofs.«01_k».proof.Proof.Mla.Point

/-! The body's results at one point, in one statement. -/

@[expose] public section
set_option maxRecDepth 16384
noncomputable section
namespace Cert.Proof.Mla
open Idealize.ShloMosaic Idealize.ShloMosaic.TcCoe Idealize.SL.Sem
open Cert.MlaIdeal Cert.MlaIdeal.Gen Cert.MlaIdeal.Hand
open Cert.Proof.Fox (rd2 rd3 acc2 acc3 sum_tile upd upd_in upd_out c1 c2 c3 c4 r1 r2 r3 r4 row0 row1 row2 row3 rc3 colsAt rowsAt colsAt_zero rowsAt_zero ln2 sum_lane lane_a0 lane_a1 lane_d0 lane_d1)

/-- What the body leaves of a pair of heads: the queries' gradient, the keys' and the values', that of the queries' turned part and
that of the keys' turned part. -/
structure Left (M : Ins) (d8 d9 d10 d11 : S4096x128.Idx → EReal) (d12 : S1x4096x128.Idx → EReal) : Prop where
  q : ∀ (x : Fin 4096) (y : Fin 128), d8 (ix2 x y) = Ins.hd 0 y (M.dqA 0 x y) (M.dqA 1 x y) * qscale
  k : ∀ (x : Fin 4096) (y : Fin 128), d9 (ix2 x y) = Ins.hd 0 y (M.dkt (fun _ _ => 4096) 0 y x) (M.dkt (fun _ _ => 4096) 1 y x) * ln2
  v : ∀ (x : Fin 4096) (y : Fin 128), d10 (ix2 x y) = M.dvt (fun _ _ => 4096) y x
  qr : ∀ (x : Fin 4096) (y : Fin 128), d11 (ix2 x y) = Ins.hd 0 y (M.dqA 1 x y) (M.dqA 0 x y) * qscale
  kr : ∀ (z : Fin 1) (x : Fin 4096) (y : Fin 128), d12 (ix3 z x y) = Ins.hd 0 y (M.dkt (fun _ _ => 4096) 1 y x) (M.dkt (fun _ _ => 4096) 0 y x) * ln2

section Left
variable {M : Ins}
variable (𝒱 : Variants) (c : Dev nD) (bd : Option 𝒱.V) (i : grid0.Coords)
  (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S1x4096x128 .f32) (harg12 : arg12.IsWhole) (arg13 : Memref sig .tc .vmem S2x128x4096 .bf16) (harg13 : arg13.IsWhole) (arg14 : Memref sig .tc .vmem S128x4096 .bf16) (harg14 : arg14.IsWhole) (arg15 : Memref sig .tc .vmem S2x128x4096 .f32) (harg15 : arg15.IsWhole) (arg16 : Memref sig .tc .vmem S128x4096 .f32) (harg16 : arg16.IsWhole) (arg17 : Memref sig .tc .vmem S2x1024x128 .f32) (harg17 : arg17.IsWhole) (arg18 : Memref sig .tc .vmem S2x1024x1 .f32) (harg18 : arg18.IsWhole)
variable {X_arg1 : BufTy.Contents (Elt Ideal) arg1.view.ty} {X_arg2 : BufTy.Contents (Elt Ideal) arg2.view.ty} {X_arg3 : BufTy.Contents (Elt Ideal) arg3.view.ty} {X_arg4 : BufTy.Contents (Elt Ideal) arg4.view.ty} {X_arg5 : BufTy.Contents (Elt Ideal) arg5.view.ty} {X_arg6 : BufTy.Contents (Elt Ideal) arg6.view.ty} {X_arg7 : BufTy.Contents (Elt Ideal) arg7.view.ty} {j : Fin 4} {P : ℕ → ℕ → EReal} (hj : j = i 0)
  (hQ : Query arg1 arg4 arg6 arg5 X_arg1 X_arg4 X_arg6 X_arg5 P j M)
  (hk : ∀ (x : Fin 4096) (y : Fin 128), arg2.view.read (Elt Ideal) X_arg2 (ix2 x y) = M.k x y)
  (hv : ∀ (x : Fin 4096) (y : Fin 128), arg3.view.read (Elt Ideal) X_arg3 (ix2 x y) = M.V x y)
  (hkr : ∀ (x : Fin 4096) (y : Fin 128), arg7.view.read (Elt Ideal) X_arg7 (ix2 x y) = M.kr x y)

include hj hQ hk hv hkr in
theorem left_body (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) :
    Left M (arg8.view.read (Elt Ideal) ((body (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 X_arg7).1 f8 f9 f10 f11 f12)) (arg9.view.read (Elt Ideal) ((body (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 X_arg7).2.1 f8 f9 f10 f11 f12)) (arg10.view.read (Elt Ideal) ((body (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 X_arg7).2.2.1 f8 f9 f10 f11 f12)) (arg11.view.read (Elt Ideal) ((body (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 X_arg7).2.2.2.1 f8 f9 f10 f11 f12)) (arg12.view.read (Elt Ideal) ((body (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 X_arg7).2.2.2.2.1 f8 f9 f10 f11 f12)) := by
  have hR : Reads arg2 arg3 arg7 arg13 arg14 X_arg2 X_arg3 X_arg7 (arg13.view.writes (Elt Ideal) arg13.view.junk (body.sl.HW_arg13_8 arg1 arg6 X_arg1 X_arg6))
      (arg14.view.writes (Elt Ideal) arg14.view.junk (body.sl.HW_arg14_4 arg4 X_arg4)) M :=
    ⟨hk, hv, hkr, turned_q hQ.q hQ.qr, turned_o hQ.o⟩
  obtain ⟨h1, h2, h3⟩ := outer_at 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hQ hR (v140 := body.sl.r_3 arg1 arg6 X_arg1 X_arg6) (zero_cols M) (f8 := f8) (f11 := f11) (G8 := fun x y => arg8.view.read (Elt Ideal) f8 (ix2 (Fin.ofNat 4096 x) (Fin.ofNat 128 y))) (G11 := fun x y => arg11.view.read (Elt Ideal) f11 (ix2 (Fin.ofNat 4096 x) (Fin.ofNat 128 y)))
    (fun x y => congrArg _ (by ext a; fin_cases a <;> exact (Nat.mod_eq_of_lt (Fin.isLt _)).symm)) (fun x y => congrArg _ (by ext a; fin_cases a <;> exact (Nat.mod_eq_of_lt (Fin.isLt _)).symm)) k0_t1_loop.trips le_rfl
  rw [← View.writes_append, ← View.writes_append] at h1
  have e4 : 1024 * k0_t1_loop.trips = 4096 := by rw [t1_trips]
  rw [show (fun _ _ : ℕ => 1024 * k0_t1_loop.trips) = fun _ _ => 4096 from by funext _ _; exact e4] at h1
  subst hj
  unfold body
  dsimp only
  refine ⟨fun x y => (h2 x y).trans ?_, out_k (G := M.dkt fun _ _ => 4096) h1.k f9, out_v f10 fun x y => ?_, fun x y => (h3 x y).trans ?_, out_kr (G := M.dkt fun _ _ => 4096) h1.k f12⟩
  · rw [if_pos (by omega)]
  · exact h1.v x y
  · rw [if_pos (by omega)]
end Left
end Cert.Proof.Mla
end

end
-- ==== Proof.Mla.Value.lean ====
module

public import proofs.«01_k».proof.Proof.Mla.Left
public import proofs.«01_k».proof.Proof.Mla.Run

/-! The launch, with what the results' arrays hold. -/

@[expose] public section

set_option maxRecDepth 16384

noncomputable section

namespace Cert.Proof.Mla

open Cert.MlaIdeal Cert.MlaIdeal.Gen Cert.MlaIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Fox (ln2)

local notation "𝕄G" => MT nD τ sig Unit (Elt Ideal) ℕ (UR sig nD τ) ℕ

variable (m : (ℓ : Loc nD τ sig) → Buf (Elt Ideal) ℓ) (ρ : Dev nD → PrngReg)

/-- What a pair of heads reads. -/
def packed (c : Dev nD) (t : Fin cfg0.N) (x y : ℕ) : EReal := (iblk m c 4 t : FVec Ideal S4096x128 .f32) (ix2 (Fin.ofNat 4096 x) (Fin.ofNat 128 y))
def ins (c : Dev nD) (t : Fin cfg0.N) : Ins where
  q x y := (iblk m c 0 t : FVec Ideal S4096x128 .bf16) (ix2 (Fin.ofNat 4096 x) (Fin.ofNat 128 y))
  qr x y := (iblk m c 5 t : FVec Ideal S4096x128 .bf16) (ix2 (Fin.ofNat 4096 x) (Fin.ofNat 128 y))
  k x y := (iblk m c 1 t : FVec Ideal S4096x128 .bf16) (ix2 (Fin.ofNat 4096 x) (Fin.ofNat 128 y))
  kr x y := (iblk m c 6 t : FVec Ideal S4096x128 .bf16) (ix2 (Fin.ofNat 4096 x) (Fin.ofNat 128 y))
  V x y := (iblk m c 2 t : FVec Ideal S4096x128 .bf16) (ix2 (Fin.ofNat 4096 x) (Fin.ofNat 128 y))
  O x y := (iblk m c 3 t : FVec Ideal S4096x128 .bf16) (ix2 (Fin.ofNat 4096 x) (Fin.ofNat 128 y))
  A h x := packed m c t x (2 * t + h)
  D h x := packed m c t x (8 + 2 * t + h)

/-- What it leaves: the queries', the keys' and the values' gradients, -/
def qOut (c : Dev nD) (t : Fin cfg0.N) (p : S4096x128.Idx) : EReal := Ins.hd 0 (p 1) ((ins m c t).dqA 0 (p 0) (p 1)) ((ins m c t).dqA 1 (p 0) (p 1)) * qscale
def kOut (c : Dev nD) (t : Fin cfg0.N) (p : S4096x128.Idx) : EReal :=
  Ins.hd 0 (p 1) ((ins m c t).dkt (fun _ _ => 4096) 0 (p 1) (p 0)) ((ins m c t).dkt (fun _ _ => 4096) 1 (p 1) (p 0)) * ln2
def vOut (c : Dev nD) (t : Fin cfg0.N) (p : S4096x128.Idx) : EReal := (ins m c t).dvt (fun _ _ => 4096) (p 1) (p 0)
/-- and those of the turned parts of the queries and the keys. -/
def qrOut (c : Dev nD) (t : Fin cfg0.N) (p : S4096x128.Idx) : EReal := Ins.hd 0 (p 1) ((ins m c t).dqA 1 (p 0) (p 1)) ((ins m c t).dqA 0 (p 0) (p 1)) * qscale
def krOut (c : Dev nD) (t : Fin cfg0.N) (p : S1x4096x128.Idx) : EReal :=
  Ins.hd 0 (p 2) ((ins m c t).dkt (fun _ _ => 4096) 1 (p 2) (p 1)) ((ins m c t).dkt (fun _ _ => 4096) 0 (p 2) (p 1)) * ln2

theorem N4 : cfg0.N = 4 := by decide +kernel

/-- The launch's data. -/
def vals (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => qOut m c t
    | ⟨8, _⟩ => kOut m c t
    | ⟨9, _⟩ => vOut m c t
    | ⟨10, _⟩ => qrOut m c t
    | ⟨11, _⟩ => krOut m c t
  Φ _ := Pipeline.ΦA spec0 c
  q _ := fullShare
  owed _ := 0

theorem vA_eq (c : Dev nD) (w : Fin cfg0.W) : (vals m 0 c).A w = V m c (Pipeline.arrRef spec0 w) := by
  dsimp only [vals]

theorem vafter_0 (c : Dev nD) (t : Fin cfg0.N) : (vals m 0 c).after 0 t = iblk m c 0 t := by dsimp only [vals]
theorem vafter_1 (c : Dev nD) (t : Fin cfg0.N) : (vals m 0 c).after 1 t = iblk m c 1 t := by dsimp only [vals]
theorem vafter_2 (c : Dev nD) (t : Fin cfg0.N) : (vals m 0 c).after 2 t = iblk m c 2 t := by dsimp only [vals]
theorem vafter_3 (c : Dev nD) (t : Fin cfg0.N) : (vals m 0 c).after 3 t = iblk m c 3 t := by dsimp only [vals]
theorem vafter_4 (c : Dev nD) (t : Fin cfg0.N) : (vals m 0 c).after 4 t = iblk m c 4 t := by dsimp only [vals]
theorem vafter_5 (c : Dev nD) (t : Fin cfg0.N) : (vals m 0 c).after 5 t = iblk m c 5 t := by dsimp only [vals]
theorem vafter_6 (c : Dev nD) (t : Fin cfg0.N) : (vals m 0 c).after 6 t = iblk m c 6 t := by dsimp only [vals]
theorem vafter_7 (c : Dev nD) (t : Fin cfg0.N) : (vals m 0 c).after 7 t = qOut m c t := by dsimp only [vals]
theorem vafter_8 (c : Dev nD) (t : Fin cfg0.N) : (vals m 0 c).after 8 t = kOut m c t := by dsimp only [vals]
theorem vafter_9 (c : Dev nD) (t : Fin cfg0.N) : (vals m 0 c).after 9 t = vOut m c t := by dsimp only [vals]
theorem vafter_10 (c : Dev nD) (t : Fin cfg0.N) : (vals m 0 c).after 10 t = qrOut m c t := by dsimp only [vals]
theorem vafter_11 (c : Dev nD) (t : Fin cfg0.N) : (vals m 0 c).after 11 t = krOut m c t := by dsimp only [vals]
theorem vbefore_0 (c : Dev nD) (t : Fin cfg0.N) (d) : (vals m 0 c).before 0 t d = iblk m c 0 t :=
  before0_0_of m (vals m 0 c) (vA_eq m c 0) (vafter_0 m c) t d
theorem vbefore_1 (c : Dev nD) (t : Fin cfg0.N) (d) : (vals m 0 c).before 1 t d = iblk m c 1 t :=
  before0_1_of m (vals m 0 c) (vA_eq m c 1) (vafter_1 m c) t d
theorem vbefore_2 (c : Dev nD) (t : Fin cfg0.N) (d) : (vals m 0 c).before 2 t d = iblk m c 2 t :=
  before0_2_of m (vals m 0 c) (vA_eq m c 2) (vafter_2 m c) t d
theorem vbefore_3 (c : Dev nD) (t : Fin cfg0.N) (d) : (vals m 0 c).before 3 t d = iblk m c 3 t :=
  before0_3_of m (vals m 0 c) (vA_eq m c 3) (vafter_3 m c) t d
theorem vbefore_4 (c : Dev nD) (t : Fin cfg0.N) (d) : (vals m 0 c).before 4 t d = iblk m c 4 t :=
  before0_4_of m (vals m 0 c) (vA_eq m c 4) (vafter_4 m c) t d
theorem vbefore_5 (c : Dev nD) (t : Fin cfg0.N) (d) : (vals m 0 c).before 5 t d = iblk m c 5 t :=
  before0_5_of m (vals m 0 c) (vA_eq m c 5) (vafter_5 m c) t d
theorem vbefore_6 (c : Dev nD) (t : Fin cfg0.N) (d) : (vals m 0 c).before 6 t d = iblk m c 6 t :=
  before0_6_of m (vals m 0 c) (vA_eq m c 6) (vafter_6 m c) t d

theorem coord : ∀ t : Fin cfg0.N, ((grid0.coords t) 0).val = t.val :=
  (by decide +kernel : ∀ t : Fin grid0.N, _)

theorem close (c : Dev nD) (t : Fin cfg0.N) {d7 d8 d9 d10 : S4096x128.Idx → EReal} {d11 : S1x4096x128.Idx → EReal}
    (h : Left (ins m c t) d7 d8 d9 d10 d11) :
    d7 = qOut m c t ∧ d8 = kOut m c t ∧ d9 = vOut m c t ∧ d10 = qrOut m c t ∧ d11 = krOut m c t := by
  refine ⟨funext fun p => ?_, funext fun p => ?_, funext fun p => ?_, funext fun p => ?_, funext fun p => ?_⟩
  · idx_vars p; exact h.q p0 p1
  · idx_vars p; exact h.k p0 p1
  · idx_vars p; exact h.v p0 p1
  · idx_vars p; exact h.qr p0 p1
  · idx_vars p; exact h.kr p0 p1 p2

section Spec
set_option maxHeartbeats 2000000
variable (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .f32) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S1x4096x128 .f32) (harg12 : arg12.IsWhole) (arg13 : Memref sig .tc .vmem S2x128x4096 .bf16) (harg13 : arg13.IsWhole) (arg14 : Memref sig .tc .vmem S128x4096 .bf16) (harg14 : arg14.IsWhole) (arg15 : Memref sig .tc .vmem S2x128x4096 .f32) (harg15 : arg15.IsWhole) (arg16 : Memref sig .tc .vmem S128x4096 .f32) (harg16 : arg16.IsWhole) (arg17 : Memref sig .tc .vmem S2x1024x128 .f32) (harg17 : arg17.IsWhole) (arg18 : Memref sig .tc .vmem S2x1024x1 .f32) (harg18 : arg18.IsWhole)
/-- The body's run at a point, with its results. -/
theorem spec_at (c : Dev nD) (t : Fin cfg0.N) :
    ∃ (R7 : BufTy.Contents (Elt Ideal) arg8.view.ty → BufTy.Contents (Elt Ideal) arg9.view.ty → BufTy.Contents (Elt Ideal) arg10.view.ty → BufTy.Contents (Elt Ideal) arg11.view.ty → BufTy.Contents (Elt Ideal) arg12.view.ty → BufTy.Contents (Elt Ideal) arg8.view.ty) (R8 : BufTy.Contents (Elt Ideal) arg8.view.ty → BufTy.Contents (Elt Ideal) arg9.view.ty → BufTy.Contents (Elt Ideal) arg10.view.ty → BufTy.Contents (Elt Ideal) arg11.view.ty → BufTy.Contents (Elt Ideal) arg12.view.ty → BufTy.Contents (Elt Ideal) arg9.view.ty) (R9 : BufTy.Contents (Elt Ideal) arg8.view.ty → BufTy.Contents (Elt Ideal) arg9.view.ty → BufTy.Contents (Elt Ideal) arg10.view.ty → BufTy.Contents (Elt Ideal) arg11.view.ty → BufTy.Contents (Elt Ideal) arg12.view.ty → BufTy.Contents (Elt Ideal) arg10.view.ty) (R10 : BufTy.Contents (Elt Ideal) arg8.view.ty → BufTy.Contents (Elt Ideal) arg9.view.ty → BufTy.Contents (Elt Ideal) arg10.view.ty → BufTy.Contents (Elt Ideal) arg11.view.ty → BufTy.Contents (Elt Ideal) arg12.view.ty → BufTy.Contents (Elt Ideal) arg11.view.ty) (R11 : BufTy.Contents (Elt Ideal) arg8.view.ty → BufTy.Contents (Elt Ideal) arg9.view.ty → BufTy.Contents (Elt Ideal) arg10.view.ty → BufTy.Contents (Elt Ideal) arg11.view.ty → BufTy.Contents (Elt Ideal) arg12.view.ty → BufTy.Contents (Elt Ideal) arg12.view.ty),
      BodySpec (F := Ideal) Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg1.unread (iblk m c 0 t)) (harg2.unread (iblk m c 1 t)) (harg3.unread (iblk m c 2 t)) (harg4.unread (iblk m c 3 t)) (harg5.unread (iblk m c 4 t)) (harg6.unread (iblk m c 5 t)) (harg7.unread (iblk m c 6 t)) R7 R8 R9 R10 R11
      ∧ ∀ f7 f8 f9 f10 f11,
        arg8.view.read (Elt Ideal) (R7 f7 f8 f9 f10 f11) = qOut m c t ∧ arg9.view.read (Elt Ideal) (R8 f7 f8 f9 f10 f11) = kOut m c t ∧ arg10.view.read (Elt Ideal) (R9 f7 f8 f9 f10 f11) = vOut m c t ∧ arg11.view.read (Elt Ideal) (R10 f7 f8 f9 f10 f11) = qrOut m c t ∧ arg12.view.read (Elt Ideal) (R11 f7 f8 f9 f10 f11) = krOut m c t := by
  have hi := coord t
  have hQ : Query arg1 arg4 arg6 arg5 (harg1.unread (iblk m c 0 t)) (harg4.unread (iblk m c 3 t)) (harg6.unread (iblk m c 5 t)) (harg5.unread (iblk m c 4 t)) (packed m c t) ((grid0.coords t) 0) (ins m c t) := by
    refine ⟨fun x y => ?_, fun x y => ?_, fun x y => ?_, fun x y => ?_, fun x => ?_, fun x => ?_, fun x => ?_, fun x => ?_⟩
    · rw [harg1.read_unread]
      exact congrArg _ (by ext a; fin_cases a <;> exact (Nat.mod_eq_of_lt (Fin.isLt _)).symm)
    · rw [harg4.read_unread]
      exact congrArg _ (by ext a; fin_cases a <;> exact (Nat.mod_eq_of_lt (Fin.isLt _)).symm)
    · rw [harg6.read_unread]
      exact congrArg _ (by ext a; fin_cases a <;> exact (Nat.mod_eq_of_lt (Fin.isLt _)).symm)
    · rw [harg5.read_unread]
      exact congrArg _ (by ext a; fin_cases a <;> exact (Nat.mod_eq_of_lt (Fin.isLt _)).symm)
    · rw [hi]; show packed m c t x (2 * t) = packed m c t x (2 * t + 0); rw [Nat.add_zero]
    · rw [hi]; show packed m c t x (2 * t + 1) = packed m c t x (2 * t + 1); rfl
    · rw [hi]; show packed m c t x (8 + 2 * t) = packed m c t x (8 + 2 * t + 0); rw [Nat.add_zero]
    · rw [hi]; show packed m c t x (8 + 2 * t + 1) = packed m c t x (8 + 2 * t + 1); rfl
  have hk : ∀ (x : Fin 4096) (y : Fin 128), arg2.view.read (Elt Ideal) (harg2.unread (iblk m c 1 t)) (ix2 x y) = (ins m c t).k x y := fun x y => by
    rw [harg2.read_unread]
    exact congrArg _ (by ext a; fin_cases a <;> exact (Nat.mod_eq_of_lt (Fin.isLt _)).symm)
  have hv : ∀ (x : Fin 4096) (y : Fin 128), arg3.view.read (Elt Ideal) (harg3.unread (iblk m c 2 t)) (ix2 x y) = (ins m c t).V x y := fun x y => by
    rw [harg3.read_unread]
    exact congrArg _ (by ext a; fin_cases a <;> exact (Nat.mod_eq_of_lt (Fin.isLt _)).symm)
  have hkr : ∀ (x : Fin 4096) (y : Fin 128), arg7.view.read (Elt Ideal) (harg7.unread (iblk m c 6 t)) (ix2 x y) = (ins m c t).kr x y := fun x y => by
    rw [harg7.read_unread]
    exact congrArg _ (by ext a; fin_cases a <;> exact (Nat.mod_eq_of_lt (Fin.isLt _)).symm)
  refine ⟨_, _, _, _, _, (body Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg1.unread (iblk m c 0 t)) (harg2.unread (iblk m c 1 t)) (harg3.unread (iblk m c 2 t)) (harg4.unread (iblk m c 3 t)) (harg5.unread (iblk m c 4 t)) (harg6.unread (iblk m c 5 t)) (harg7.unread (iblk m c 6 t))).2.2.2.2.2, fun f7 f8 f9 f10 f11 => ?_⟩
  exact close m c t (left_body Variants.none c none (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 rfl hQ hk hv hkr f7 f8 f9 f10 f11)
end Spec

/-- What the body is called with, -/
def vbodyPre (c : Dev nD) (t : Fin cfg0.N) : sProp 𝕄G :=
  iprop((vals m 0 c).Φ t.castSucc ∗ (vals m 0 c).owesAt () t.castSucc
    ∗ (∃ d, owns (c : Thread nD τ) (win0_0.stage (cfg0.slots t 0)) fullShare ((vals m 0 c).before 0 t d))
    ∗ (∃ d, owns (c : Thread nD τ) (win0_1.stage (cfg0.slots t 1)) fullShare ((vals m 0 c).before 1 t d))
    ∗ (∃ d, owns (c : Thread nD τ) (win0_2.stage (cfg0.slots t 2)) fullShare ((vals m 0 c).before 2 t d))
    ∗ (∃ d, owns (c : Thread nD τ) (win0_3.stage (cfg0.slots t 3)) fullShare ((vals m 0 c).before 3 t d))
    ∗ (∃ d, owns (c : Thread nD τ) (win0_4.stage (cfg0.slots t 4)) fullShare ((vals m 0 c).before 4 t d))
    ∗ (∃ d, owns (c : Thread nD τ) (win0_5.stage (cfg0.slots t 5)) fullShare ((vals m 0 c).before 5 t d))
    ∗ (∃ d, owns (c : Thread nD τ) (win0_6.stage (cfg0.slots t 6)) fullShare ((vals m 0 c).before 6 t d))
    ∗ (∃ d, owns (c : Thread nD τ) (win0_7.stage (cfg0.slots t 7)) fullShare ((vals m 0 c).before 7 t d))
    ∗ (∃ d, owns (c : Thread nD τ) (win0_8.stage (cfg0.slots t 8)) fullShare ((vals m 0 c).before 8 t d))
    ∗ (∃ d, owns (c : Thread nD τ) (win0_9.stage (cfg0.slots t 9)) fullShare ((vals m 0 c).before 9 t d))
    ∗ (∃ d, owns (c : Thread nD τ) (win0_10.stage (cfg0.slots t 10)) fullShare ((vals m 0 c).before 10 t d))
    ∗ (∃ d, owns (c : Thread nD τ) (win0_11.stage (cfg0.slots t 11)) fullShare ((vals m 0 c).before 11 t d)))

/-- and what it returns. -/
def vbodyPost (c : Dev nD) (t : Fin cfg0.N) : sProp 𝕄G :=
  iprop((vals m 0 c).Φ t.succ ∗ (vals m 0 c).owesAt () t.succ
    ∗ owns (c : Thread nD τ) (win0_0.stage (cfg0.slots t 0)) fullShare ((vals m 0 c).after 0 t)
    ∗ owns (c : Thread nD τ) (win0_1.stage (cfg0.slots t 1)) fullShare ((vals m 0 c).after 1 t)
    ∗ owns (c : Thread nD τ) (win0_2.stage (cfg0.slots t 2)) fullShare ((vals m 0 c).after 2 t)
    ∗ owns (c : Thread nD τ) (win0_3.stage (cfg0.slots t 3)) fullShare ((vals m 0 c).after 3 t)
    ∗ owns (c : Thread nD τ) (win0_4.stage (cfg0.slots t 4)) fullShare ((vals m 0 c).after 4 t)
    ∗ owns (c : Thread nD τ) (win0_5.stage (cfg0.slots t 5)) fullShare ((vals m 0 c).after 5 t)
    ∗ owns (c : Thread nD τ) (win0_6.stage (cfg0.slots t 6)) fullShare ((vals m 0 c).after 6 t)
    ∗ owns (c : Thread nD τ) (win0_7.stage (cfg0.slots t 7)) fullShare ((vals m 0 c).after 7 t)
    ∗ owns (c : Thread nD τ) (win0_8.stage (cfg0.slots t 8)) fullShare ((vals m 0 c).after 8 t)
    ∗ owns (c : Thread nD τ) (win0_9.stage (cfg0.slots t 9)) fullShare ((vals m 0 c).after 9 t)
    ∗ owns (c : Thread nD τ) (win0_10.stage (cfg0.slots t 10)) fullShare ((vals m 0 c).after 10 t)
    ∗ owns (c : Thread nD τ) (win0_11.stage (cfg0.slots t 11)) fullShare ((vals m 0 c).after 11 t))

set_option maxHeartbeats 2000000 in
/-- The body at any point. -/
theorem vsound (c : Dev nD) (t : Fin cfg0.N) :
    vbodyPre m c t ⊢ wp Idealize.ShloMosaic.frame (wpE (defs₀ (F := Ideal)) Variants.none c none) Set.univ (bodyAt0 t) (fun _ => vbodyPost m c t) := by
  unfold vbodyPre vbodyPost bodyAt0
  simp only [vbefore_0, vbefore_1, vbefore_2, vbefore_3, vbefore_4, vbefore_5, vbefore_6]
  rw [show (vals m 0 c).Φ t.succ = Pipeline.ΦA spec0 c from rfl, show (vals m 0 c).Φ t.castSucc = Pipeline.ΦA spec0 c from rfl,
    show (vals m 0 c).owesAt () t.succ = (vals m 0 c).owesAt () t.castSucc from rfl, ΦA_eq,
    vafter_0, vafter_1, vafter_2, vafter_3, vafter_4, vafter_5, vafter_6, vafter_7, vafter_8, vafter_9, vafter_10, vafter_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  icases HΦ with ⟨⟨S0, S1, S2, S3, S4, S5⟩, HR⟩
  obtain ⟨R7, R8, R9, R10, R11, hs, hQ⟩ := spec_at m (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) c t
  ihave K := (step Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) (fun _ => True) (fun d => d = qOut m c t) (fun _ => True) (fun d => d = kOut m c t) (fun _ => True) (fun d => d = vOut m c t) (fun _ => True) (fun d => d = qrOut m c t) (fun _ => True) (fun d => d = krOut m c t) hs (fun f7 f8 f9 f10 f11 _ _ _ _ _ => hQ f7 f8 f9 f10 f11) Set.univ) $$ [H0 H1 H2 H3 H4 H5 H6 H7 H8 H9 H10 H11 S0 S1 S2 S3 S4 S5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists ((vals m 0 c).before 7 t d7); isplitr [H7]
      · ipureintro; exact trivial
      · iexact H7
    isplitl [H8]
    · iexists ((vals m 0 c).before 8 t d8); isplitr [H8]
      · ipureintro; exact trivial
      · iexact H8
    isplitl [H9]
    · iexists ((vals m 0 c).before 9 t d9); isplitr [H9]
      · ipureintro; exact trivial
      · iexact H9
    isplitl [H10]
    · iexists ((vals m 0 c).before 10 t d10); isplitr [H10]
      · ipureintro; exact trivial
      · iexact H10
    isplitl [H11]
    · iexists ((vals m 0 c).before 11 t d11); isplitr [H11]
      · ipureintro; exact trivial
      · iexact H11
    isplitl [S0]; · iexact S0
    isplitl [S1]; · iexact S1
    isplitl [S2]; · iexact S2
    isplitl [S3]; · iexact S3
    isplitl [S4]; · iexact S4
    iexact S5
  iapply (wp_wand_r _ _)
  isplitl [K]; · iexact K
  iintro %_ ⟨H0, H1, H2, H3, H4, H5, H6, ⟨%r7, %e7, H7⟩, ⟨%r8, %e8, H8⟩, ⟨%r9, %e9, H9⟩, ⟨%r10, %e10, H10⟩, ⟨%r11, %e11, H11⟩, S0, S1, S2, S3, S4, S5⟩
  isplitl [HR S0 S1 S2 S3 S4 S5]
  · isplitr [HR]
    · isplitl [S0]; · iexact S0
      isplitl [S1]; · iexact S1
      isplitl [S2]; · iexact S2
      isplitl [S3]; · iexact S3
      isplitl [S4]; · iexact S4
      iexact S5
    · iexact HR
  subst e7
  subst e8
  subst e9
  subst e10
  subst e11
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem vobligation (c : Dev nD) : BodyObligation (vals m 0 c) (defs₀ (F := Ideal)) Variants.none () Set.univ := fun t => by
  rw [bigSep_W0, bigSep_W0, defs₀_row]
  exact triple_restated (vsound m c t) rfl .rfl fun _ => .rfl

set_option backward.isDefEq.respectTransparency.types false in
set_option maxHeartbeats 2000000 in
/-- Every run ends with the results' arrays and the lines after the call at what they compute. -/
theorem vrun : θ_run defs (onTc (τ := τ) (main (F := Ideal))) (s₀ m ρ)
    (Pipeline.FramePost cfgs (vals m) 0 (Pipeline.afterTail₀ cfgs (vals m) 0 (V0 m) [hostOps1, hostOps1_1, hostOps1_2])) :=
  Pipeline.θ_run_frame_around cfgs (vals m) (0 : Fin 1) launch0 defs₀ Variants.none m ρ main
    (hbody := fun c => (vobligation m c).loose) (hshare := fun c w => by unfold Pipeline.Dat.share; split <;> rfl)
    (howed := fun _ _ => rfl) (V₀ := V0 m) (opss := [hostOps1, hostOps1_1, hostOps1_2]) (hsub := sfx_sub) (hfresh := sfx_fresh) (hkeep := sfx_keeps)
    (hmain := hmain m Variants.none) (hA := vA_eq m) (hΦ := fun _ _ => rfl)

end Cert.Proof.Mla

end
-- ==== Proof.Mla.Host.lean ====
module

public import proofs.«01_k».proof.Proof.Mla.Value

/-! The host lines before the latent attention's backward call: queries, keys, values and cotangents by column, the
    turned queries' and keys' lanes, and the forward's row maximum, row sum and output. -/

@[expose] public section
set_option maxRecDepth 16384
noncomputable section
namespace Cert.Proof.Mla
open Idealize.ShloMosaic Idealize.ShloMosaic.TcCoe Idealize.SL.Sem
open Cert.MlaIdeal Cert.MlaIdeal.Gen

/-- The number `1 / log 2` as the host computes it, and the scale times it. -/
def hLog2e : FVec Ideal S_ .f32 := Host.divf (constant S_ .f32 0x3F800000#32) (Host.log (constant S_ .f32 0x40000000#32))
def hScale : FVec Ideal S_ .f32 := mulf (constant S_ .f32 0x3DD105EC#32) hLog2e
/-- The queries by pair, head and lane. -/
def hHeads (q : FVec Ideal S4096x8x64 .f32) (r : FVec Ideal S4096x8x32 .f32) : FVec Ideal S4096x4x2x96 .f32 :=
  shapeCast S4096x4x2x96 (shapeCast S4096x768 (concatenate S4096x8x96 2 [⟨S4096x8x64, q⟩, ⟨S4096x8x32, r⟩] concatenates_S4096x8x64_S4096x8x32_S4096x8x96_d2)
    shapeCasts_S4096x8x96_S4096x768) shapeCasts_S4096x768_S4096x4x2x96
/-- Their plain columns, then the turned ones: a pair's second head's, then its first's, each followed by zeros. -/
def hZero : FVec Ideal S4096x4x32 .f32 := broadcastInDim S4096x4x32 ![] bcast_S_S4096x4x32 (constant S_ .f32 0x00000000#32)
def hTurned (y : FVec Ideal S4096x4x2x96 .f32) : FVec Ideal S4096x4x128 .f32 :=
  concatenate S4096x4x128 2 [⟨S4096x4x32, shapeCast S4096x4x32 (extractStridedSlice S4096x4x1x32 ![0, 0, 1, 64] y slices_S4096x4x2x96_S4096x4x1x32_0_0_1_64) shapeCasts_S4096x4x1x32_S4096x4x32⟩,
    ⟨S4096x4x32, hZero⟩, ⟨S4096x4x32, shapeCast S4096x4x32 (extractStridedSlice S4096x4x1x32 ![0, 0, 0, 64] y slices_S4096x4x2x96_S4096x4x1x32_0_0_0_64) shapeCasts_S4096x4x1x32_S4096x4x32⟩,
    ⟨S4096x4x32, hZero⟩] concatenates_S4096x4x32_S4096x4x32_S4096x4x32_S4096x4x32_S4096x4x128_d2
def hPlain (y : FVec Ideal S4096x4x2x96 .f32) : FVec Ideal S4096x4x2x64 .f32 := extractStridedSlice S4096x4x2x64 ![0, 0, 0, 0] y slices_S4096x4x2x96_S4096x4x2x64_0_0_0_0
def hCols (a : FVec Ideal S4096x4x2x64 .f32) (b : FVec Ideal S4096x4x128 .f32) : FVec Ideal S4096x1024 .f32 :=
  concatenate S4096x1024 1 [⟨S4096x512, shapeCast S4096x512 a shapeCasts_S4096x4x2x64_S4096x512⟩, ⟨S4096x512, shapeCast S4096x512 b shapeCasts_S4096x4x128_S4096x512⟩]
    concatenates_S4096x512_S4096x512_S4096x1024_d1
def hQ (u : FVec Ideal S4096x1024 .f32) : FVec Ideal S4096x512 .bf16 :=
  truncf .bf16 (mulf (extractStridedSlice S4096x512 ![0, 0] u slices_S4096x1024_S4096x512_0_0) (broadcastInDim S4096x512 ![] bcast_S_S4096x512 hScale)) bitsLt_bf16_f32
def hQr (u : FVec Ideal S4096x1024 .f32) : FVec Ideal S4096x512 .bf16 :=
  truncf .bf16 (mulf (extractStridedSlice S4096x512 ![0, 512] u slices_S4096x1024_S4096x512_0_512) (broadcastInDim S4096x512 ![] bcast_S_S4096x512 hScale)) bitsLt_bf16_f32
/-- The keys' columns, then the values'. -/
def hJoin (k v : FVec Ideal S4096x8x64 .f32) : FVec Ideal S4096x8x128 .f32 :=
  shapeCast S4096x8x128 (shapeCast S4096x1024 (concatenate S4096x8x128 2 [⟨S4096x8x64, k⟩, ⟨S4096x8x64, v⟩] concatenates_S4096x8x64_S4096x8x64_S4096x8x128_d2)
    shapeCasts_S4096x8x128_S4096x1024) shapeCasts_S4096x1024_S4096x8x128
def hKv (u : FVec Ideal S4096x8x128 .f32) : FVec Ideal S4096x1024 .f32 :=
  concatenate S4096x1024 1 [⟨S4096x512, shapeCast S4096x512 (extractStridedSlice S4096x8x64 ![0, 0, 0] u slices_S4096x8x128_S4096x8x64_0_0_0) shapeCasts_S4096x8x64_S4096x512⟩,
    ⟨S4096x512, shapeCast S4096x512 (extractStridedSlice S4096x8x64 ![0, 0, 64] u slices_S4096x8x128_S4096x8x64_0_0_64) shapeCasts_S4096x8x64_S4096x512⟩]
    concatenates_S4096x512_S4096x512_S4096x1024_d1
def hK (u : FVec Ideal S4096x1024 .f32) : FVec Ideal S4096x512 .bf16 := truncf .bf16 (extractStridedSlice S4096x512 ![0, 0] u slices_S4096x1024_S4096x512_0_0) bitsLt_bf16_f32
def hV (u : FVec Ideal S4096x1024 .f32) : FVec Ideal S4096x512 .bf16 := truncf .bf16 (extractStridedSlice S4096x512 ![0, 512] u slices_S4096x1024_S4096x512_0_512) bitsLt_bf16_f32
/-- The turned key at the first lanes of both halves. -/
def hPad (r : FVec Ideal S4096x32 .f32) : FVec Ideal S4096x128 .f32 :=
  pad S4096x128 ![0, 0] ![0, 96] ![0, 0] r (sitofp (F := Ideal) .f32 (constantI S_ 32 0#32)) pads_S4096x32_S4096x128_000_0960 h_S_
def hRoll (x : FVec Ideal S4096x128 .f32) : FVec Ideal S4096x128 .f32 :=
  concatenate S4096x128 1 [⟨S4096x64, extractStridedSlice S4096x64 ![0, 64] x slices_S4096x128_S4096x64_0_64⟩, ⟨S4096x64, extractStridedSlice S4096x64 ![0, 0] x slices_S4096x128_S4096x64_0_0⟩]
    concatenates_S4096x64_S4096x64_S4096x128_d1
def hKr (r : FVec Ideal S4096x32 .f32) : FVec Ideal S4096x128 .bf16 := truncf .bf16 (addf (hPad r) (hRoll (hPad r))) bitsLt_bf16_f32
/-- A position's chunk. -/
def hQuot : IVec S4096 32 := Host.divsi (iotaInDim S4096 32 0) (broadcastInDim S4096 ![] bcast_S_S4096 (constantI S_ 32 64#32))
def hChunk : IVec S4096 32 :=
  select (andi (cmpi .ne (signi (iotaInDim S4096 32 0)) (broadcastInDim S4096 ![] bcast_S_S4096 (signi (constantI S_ 32 64#32))))
      (cmpi .ne (Host.remsi (iotaInDim S4096 32 0) (broadcastInDim S4096 ![] bcast_S_S4096 (constantI S_ 32 64#32))) (broadcastInDim S4096 ![] bcast_S_S4096 (constantI S_ 32 0#32))))
    (subi hQuot (broadcastInDim S4096 ![] bcast_S_S4096 (constantI S_ 32 1#32))) hQuot
/-- The scores, and the scores with the keys of later chunks masked. -/
def hDot (q : FVec Ideal S4096x8x64 .f32) (qr : FVec Ideal S4096x8x32 .f32) (k : FVec Ideal S4096x8x64 .f32) (kr : FVec Ideal S4096x32 .f32) : FVec Ideal S8x4096x4096 .f32 :=
  addf (Host.dotGeneral dot_S4096x8x64_S4096x8x64_S8x4096x4096_2_2_0_0_1_1 none q k)
    (transpose S8x4096x4096 [2, 1, 0] (Host.dotGeneral dot_S4096x32_S4096x8x32_S4096x4096x8_1_2_0_01_n_n none kr qr) transposes_S4096x4096x8_S8x4096x4096_2_1_0)
def hMask (u : IVec S4096 32) : IVec S4096x4096 1 :=
  cmpi .sle (broadcastInDim S4096x4096 ![0, 1] bcast_S1x4096_S4096x4096_0_1 (broadcastInDim S1x4096 ![1] bcast_S4096_S1x4096_1 u))
    (broadcastInDim S4096x4096 ![0, 1] bcast_S4096x1_S4096x4096_0_1 (broadcastInDim S4096x1 ![0] bcast_S4096_S4096x1_0 u))
def hS (s : FVec Ideal S8x4096x4096 .f32) (u : IVec S4096 32) : FVec Ideal S8x4096x4096 .f32 :=
  select (broadcastInDim S8x4096x4096 ![1, 2] bcast_S4096x4096_S8x4096x4096_1_2 (hMask u))
    (mulf s (broadcastInDim S8x4096x4096 ![] bcast_S_S8x4096x4096 (constant S_ .f32 0x3DD105EC#32)))
    (broadcastInDim S8x4096x4096 ![] bcast_S_S8x4096x4096 (constant S_ .f32 0xFF800000#32))
/-- The row's greatest score. -/
def hM (s : FVec Ideal S8x4096x4096 .f32) : FVec Ideal S8x4096 .f32 :=
  Host.reduce FloatOps.maximumf s (constant S_ .f32 0xFF800000#32) reducesTo_S8x4096x4096_S8x4096_d2 h_S_
/-- The weights before they are divided by their sum. -/
def hE (s : FVec Ideal S8x4096x4096 .f32) : FVec Ideal S8x4096x4096 .f32 :=
  Host.exp (subf s (broadcastInDim S8x4096x4096 ![0, 1, 2] bcast_S8x4096x1_S8x4096x4096_0_1_2 (broadcastInDim S8x4096x1 ![0, 1] bcast_S8x4096_S8x4096x1_0_1 (hM s))))
/-- Their sum. -/
def hL (s : FVec Ideal S8x4096x4096 .f32) : FVec Ideal S8x4096 .f32 :=
  Host.reduceAdd (hE s) (constant S_ .f32 0x00000000#32) reducesTo_S8x4096x4096_S8x4096_d2 h_S_
/-- The logarithm of the row's sum, less its sign, by position and head. -/
def hOff (m l : FVec Ideal S8x4096 .f32) : FVec Ideal S4096x8 .f32 :=
  Host.negf (transpose S4096x8 [1, 0] (shapeCast S8x4096 (mulf (addf (broadcastInDim S8x4096x1 ![0, 1] bcast_S8x4096_S8x4096x1_0_1 m)
    (Host.log (broadcastInDim S8x4096x1 ![0, 1] bcast_S8x4096_S8x4096x1_0_1 l))) (broadcastInDim S8x4096x1 ![] bcast_S_S8x4096x1 hLog2e)) shapeCasts_S8x4096x1_S8x4096)
    transposes_S8x4096_S4096x8_1_0)
def hA (s : FVec Ideal S8x4096x4096 .f32) : FVec Ideal S4096x8 .f32 := hOff (hM s) (hL s)
/-- The weights, the output by head, lane and position, and the row's sum of cotangent times output. -/
def hP (s : FVec Ideal S8x4096x4096 .f32) : FVec Ideal S8x4096x4096 .f32 :=
  Host.divf (hE s) (broadcastInDim S8x4096x4096 ![0, 1, 2] bcast_S8x4096x1_S8x4096x4096_0_1_2 (broadcastInDim S8x4096x1 ![0, 1] bcast_S8x4096_S8x4096x1_0_1 (hL s)))
def hO (v : FVec Ideal S4096x8x64 .f32) (p : FVec Ideal S8x4096x4096 .f32) : FVec Ideal S8x64x4096 .f32 :=
  Host.dotGeneral dot_S4096x8x64_S8x4096x4096_S8x64x4096_0_2_2_1_1_0 none v p
def hSum (o : FVec Ideal S4096x8x64 .f32) (w : FVec Ideal S8x64x4096 .f32) : FVec Ideal S4096x8 .f32 :=
  Host.reduceAdd (mulf o (transpose S4096x8x64 [2, 0, 1] w transposes_S8x64x4096_S4096x8x64_2_0_1))
    (constant S_ .f32 0x00000000#32) reducesTo_S4096x8x64_S4096x8_d2 h_S_
def hD (s : FVec Ideal S8x4096x4096 .f32) (v o : FVec Ideal S4096x8x64 .f32) : FVec Ideal S4096x8 .f32 := hSum o (hO v (hP s))
/-- Both, packed into one array. -/
def hPack (a d : FVec Ideal S4096x8 .f32) : FVec Ideal S4096x128 .f32 :=
  concatenate S4096x128 1 [⟨S4096x8, a⟩, ⟨S4096x8, d⟩, ⟨S4096x112, broadcastInDim S4096x112 ![] bcast_S_S4096x112 (constant S_ .f32 0x00000000#32)⟩]
    concatenates_S4096x8_S4096x8_S4096x112_S4096x128_d1

section
variable (W : Valuation τ sig (Elt Ideal))
theorem after_22 : StableHlo.after hostOps0 W main_v22 = hLog2e := by
  after_results
  rfl
theorem after_12 : StableHlo.after (List.take 14 hostOps0) W main_v12 = hCols (hPlain (hHeads (W main_arg0) (W main_arg1))) (hTurned (hHeads (W main_arg0) (W main_arg1))) := by
  simp only [hostOps0, List.take]
  after_results
  rfl
theorem after_20 : StableHlo.after (List.take 22 hostOps0) W main_v20 = hKv (hJoin (W main_arg2) (W main_arg4)) := by
  simp only [hostOps0, List.take]
  after_results
  rfl
theorem after_27 : StableHlo.after hostOps0 W main_v27 = hQ (hCols (hPlain (hHeads (W main_arg0) (W main_arg1))) (hTurned (hHeads (W main_arg0) (W main_arg1)))) := by
  rw [← after_12, ← List.take_append_drop 14 hostOps0, StableHlo.after_append, List.take_append_drop]
  generalize StableHlo.after (List.take 14 hostOps0) W = U
  simp only [hostOps0, List.drop]
  after_results
  rfl
theorem after_31 : StableHlo.after hostOps0 W main_v31 = hQr (hCols (hPlain (hHeads (W main_arg0) (W main_arg1))) (hTurned (hHeads (W main_arg0) (W main_arg1)))) := by
  rw [← after_12, ← List.take_append_drop 14 hostOps0, StableHlo.after_append, List.take_append_drop]
  generalize StableHlo.after (List.take 14 hostOps0) W = U
  simp only [hostOps0, List.drop]
  after_results
  rfl
theorem after_33 : StableHlo.after hostOps0 W main_v33 = hK (hKv (hJoin (W main_arg2) (W main_arg4))) := by
  rw [← after_20, ← List.take_append_drop 22 hostOps0, StableHlo.after_append, List.take_append_drop]
  generalize StableHlo.after (List.take 22 hostOps0) W = U
  simp only [hostOps0, List.drop]
  after_results
  rfl
theorem after_35 : StableHlo.after hostOps0 W main_v35 = hV (hKv (hJoin (W main_arg2) (W main_arg4))) := by
  rw [← after_20, ← List.take_append_drop 22 hostOps0, StableHlo.after_append, List.take_append_drop]
  generalize StableHlo.after (List.take 22 hostOps0) W = U
  simp only [hostOps0, List.drop]
  after_results
  rfl
theorem after_c : StableHlo.after hostOps0 W main_c = constantI S_ 32 0#32 := by
  after_results
theorem after_39 (h : W main_c = constantI S_ 32 0#32) :
    StableHlo.after hostOps0_3 (StableHlo.after hostOps0_2 (StableHlo.after hostOps0_1 W)) main_v39 = hKr (W main_arg3) := by
  after_results
  rw [h]
  rfl
theorem after_41 : StableHlo.after hostOps0_4 (StableHlo.after hostOps0_3 W) main_v41 = hChunk := by
  after_results
  rfl
theorem after_53 : StableHlo.after hostOps0_6 (StableHlo.after hostOps0_5 W) main_v53 = hS (hDot (W main_arg0) (W main_arg1) (W main_arg2) (W main_arg3)) (W main_v41) := by
  after_results
  rfl
theorem after_75 (s : FVec Ideal S8x4096x4096 .f32) (hs : W main_v53 = s) (h1 : W main_v22 = hLog2e) :
    StableHlo.after hostOps0_7 W main_v75 = hPack (hA s) (hD s (W main_arg4) (W main_arg5)) := by
  have ha : StableHlo.after (List.take 25 hostOps0_7) W main_v73 = hA s := by
    simp only [hostOps0_7, List.take]
    after_results
    rw [hs, h1]
    rfl
  have hd : StableHlo.after (List.take 25 hostOps0_7) W main_v71 = hD s (W main_arg4) (W main_arg5) := by
    simp only [hostOps0_7, List.take]
    after_results
    rw [hs]
    rfl
  have hz : StableHlo.after (List.take 25 hostOps0_7) W main_v74 = broadcastInDim S4096x112 ![] bcast_S_S4096x112 (constant (F := Ideal) S_ .f32 0x00000000#32) := by
    simp only [hostOps0_7, List.take]
    after_results
  rw [← List.take_append_drop 25 hostOps0_7, StableHlo.after_append]
  generalize StableHlo.after (List.take 25 hostOps0_7) W = U at ha hd hz ⊢
  show StableHlo.after (_ :: _ :: _ :: []) U main_v75 = _
  after_results
  rw [hPack, ← ha, ← hd, ← hz]
  rfl
end

variable (m : (ℓ : Loc nD τ sig) → Buf (Elt Ideal) ℓ) (c : Dev nD)

/-- The arrays after the first list, and after the one that gives the chunks. -/
def W0 : Valuation τ sig (Elt Ideal) := StableHlo.after hostOps0 (fun b => m (c, b))
def W4 : Valuation τ sig (Elt Ideal) :=
  StableHlo.after hostOps0_4 (StableHlo.after hostOps0_3 (StableHlo.after hostOps0_2 (StableHlo.after hostOps0_1 (W0 m c))))
theorem entry_at (b : DevRef τ sig) : V0 m c b = StableHlo.after hostOps0_7 (StableHlo.after hostOps0_6 (StableHlo.after hostOps0_5 (W4 m c))) b := by
  show StableHlo.after (List.flatten [hostOps0, hostOps0_1, hostOps0_2, hostOps0_3, hostOps0_4, hostOps0_5, hostOps0_6, hostOps0_7]) _ _ = _
  simp only [List.flatten_cons, List.flatten_nil, List.append_nil, StableHlo.after_append]
  rfl
theorem W0_arg0 : W0 m c main_arg0 = m (c.tc.loc main_arg0) := by unfold W0; after_results
theorem W0_arg1 : W0 m c main_arg1 = m (c.tc.loc main_arg1) := by unfold W0; after_results
theorem W0_arg2 : W0 m c main_arg2 = m (c.tc.loc main_arg2) := by unfold W0; after_results
theorem W0_arg3 : W0 m c main_arg3 = m (c.tc.loc main_arg3) := by unfold W0; after_results
theorem W0_arg4 : W0 m c main_arg4 = m (c.tc.loc main_arg4) := by unfold W0; after_results
theorem W0_arg5 : W0 m c main_arg5 = m (c.tc.loc main_arg5) := by unfold W0; after_results

theorem entry_q : V m c main_v27 = hQ (hCols (hPlain (hHeads (m (c.tc.loc main_arg0)) (m (c.tc.loc main_arg1)))) (hTurned (hHeads (m (c.tc.loc main_arg0)) (m (c.tc.loc main_arg1))))) := by
  have e : W0 m c main_v27 = _ := after_27 _
  refine (entry_at m c main_v27).trans (Eq.trans ?_ e)
  unfold W4
  after_results
theorem entry_qr : V m c main_v31 = hQr (hCols (hPlain (hHeads (m (c.tc.loc main_arg0)) (m (c.tc.loc main_arg1)))) (hTurned (hHeads (m (c.tc.loc main_arg0)) (m (c.tc.loc main_arg1))))) := by
  have e : W0 m c main_v31 = _ := after_31 _
  refine (entry_at m c main_v31).trans (Eq.trans ?_ e)
  unfold W4
  after_results
theorem entry_k : V m c main_v33 = hK (hKv (hJoin (m (c.tc.loc main_arg2)) (m (c.tc.loc main_arg4)))) := by
  have e : W0 m c main_v33 = _ := after_33 _
  refine (entry_at m c main_v33).trans (Eq.trans ?_ e)
  unfold W4
  after_results
theorem entry_v : V m c main_v35 = hV (hKv (hJoin (m (c.tc.loc main_arg2)) (m (c.tc.loc main_arg4)))) := by
  have e : W0 m c main_v35 = _ := after_35 _
  refine (entry_at m c main_v35).trans (Eq.trans ?_ e)
  unfold W4
  after_results
theorem entry_kr : V m c main_v39 = hKr (m (c.tc.loc main_arg3)) := by
  rw [← W0_arg3 m c, ← after_39 (W0 m c) (after_c _)]
  refine (entry_at m c main_v39).trans ?_
  unfold W4
  generalize StableHlo.after (hostOps0_3 (F := Ideal)) _ = U
  after_results
theorem entry_do : V m c main_v77 = (truncf .bf16 (shapeCast S4096x512 (m (c.tc.loc main_arg5) : FVec Ideal S4096x8x64 .f32) shapeCasts_S4096x8x64_S4096x512) bitsLt_bf16_f32 : FVec Ideal S4096x512 .bf16) := by
  rw [← W0_arg5 m c]
  refine (entry_at m c main_v77).trans ?_
  unfold W4
  after_results
  rfl
theorem entry_pack : V m c main_v75 = (hPack (hA (hS (hDot (m (c.tc.loc main_arg0)) (m (c.tc.loc main_arg1)) (m (c.tc.loc main_arg2)) (m (c.tc.loc main_arg3))) hChunk))
    (hD (hS (hDot (m (c.tc.loc main_arg0)) (m (c.tc.loc main_arg1)) (m (c.tc.loc main_arg2)) (m (c.tc.loc main_arg3))) hChunk) (m (c.tc.loc main_arg4)) (m (c.tc.loc main_arg5))) : FVec Ideal S4096x128 .f32) := by
  have a0 : W4 m c main_arg0 = W0 m c main_arg0 := by unfold W4; after_results
  have a1 : W4 m c main_arg1 = W0 m c main_arg1 := by unfold W4; after_results
  have a2 : W4 m c main_arg2 = W0 m c main_arg2 := by unfold W4; after_results
  have a3 : W4 m c main_arg3 = W0 m c main_arg3 := by unfold W4; after_results
  have a4 : StableHlo.after hostOps0_6 (StableHlo.after hostOps0_5 (W4 m c)) main_arg4 = W0 m c main_arg4 := by unfold W4; after_results
  have a5 : StableHlo.after hostOps0_6 (StableHlo.after hostOps0_5 (W4 m c)) main_arg5 = W0 m c main_arg5 := by unfold W4; after_results
  have h22 : StableHlo.after hostOps0_6 (StableHlo.after hostOps0_5 (W4 m c)) main_v22 = W0 m c main_v22 := by unfold W4; after_results
  have h41 : W4 m c main_v41 = hChunk := after_41 _
  have h53 := after_53 (W4 m c)
  rw [a0, a1, a2, a3, h41] at h53
  refine (entry_at m c main_v75).trans ((after_75 _ _ h53 (h22.trans (after_22 _))).trans ?_)
  rw [a4, a5, W0_arg0, W0_arg1, W0_arg2, W0_arg3, W0_arg4, W0_arg5]
end Cert.Proof.Mla
end
-- ==== Proof.Mla.Entry.lean ====
module

public import proofs.«01_k».proof.Proof.Mla.Host
public import proofs.«01_k».proof.Proof.Fox.Inputs

/-! The host lines before the call at one entry. -/

@[expose] public section
set_option maxRecDepth 16384
noncomputable section
namespace Cert.Proof.Mla
open Idealize.ShloMosaic Idealize.ShloMosaic.TcCoe Idealize.SL.Sem
open Cert.Proof.Fox (bits_2 bits_bot)
open Cert.MlaIdeal Cert.MlaIdeal.Gen

/-- The scale, a real number. -/
def scale : ℝ := (13698540 : ℝ) * (2 ^ 27)⁻¹
theorem bits_scale : Ideal.ofBits FTy.f32 0x3DD105EC#32 = (scale : EReal) := by
  simp [Ideal.ofBits, Ideal.ieee, scale]

theorem hLog2e_at (i : S_.Idx) : hLog2e i = (((Real.log 2)⁻¹ : ℝ) : EReal) := by
  have h2 : Real.log 2 ≠ 0 := Real.log_ne_zero_of_pos_of_ne_one (by norm_num) (by norm_num)
  pointwise [hLog2e]
  rw [bits_2, Ideal.log_coe, if_neg (by norm_num), Ideal.div_coe h2, one_mul, one_div]
theorem hScale_at (i : S_.Idx) : hScale i = ((scale * (Real.log 2)⁻¹ : ℝ) : EReal) := by
  pointwise [hScale]
  rw [hLog2e_at, bits_scale, ← EReal.coe_mul]

theorem hHeads_plain (q : FVec Ideal S4096x8x64 .f32) (r : FVec Ideal S4096x8x32 .f32) (x : Fin 4096) (t : Fin 4) (h : Fin 2) (d : Fin 96) (hd : d.val < 64) :
    hHeads q r (ix4 x t h d) = q (ix3 x ⟨2 * t.val + h.val, by omega⟩ ⟨d.val, hd⟩) := by
  pointwise [hHeads]
  rw [dif_pos (by omega)]
  exact congrArg₂ (fun a b => q (ix3 x a b)) (Fin.ext (by dsimp only; omega)) rfl
theorem hHeads_turned (q : FVec Ideal S4096x8x64 .f32) (r : FVec Ideal S4096x8x32 .f32) (x : Fin 4096) (t : Fin 4) (h : Fin 2) (d : Fin 96) (hd : 64 ≤ d.val) :
    hHeads q r (ix4 x t h d) = r (ix3 x ⟨2 * t.val + h.val, by omega⟩ ⟨d.val - 64, by omega⟩) := by
  pointwise [hHeads]
  rw [dif_neg (by omega)]
  exact congrArg₂ (fun a b => r (ix3 x a b)) (Fin.ext (by dsimp only; omega)) rfl

theorem hPlain_at (y : FVec Ideal S4096x4x2x96 .f32) (x : Fin 4096) (t : Fin 4) (h : Fin 2) (d : Fin 64) : hPlain y (ix4 x t h d) = y (ix4 x t h ⟨d.val, by omega⟩) := by
  pointwise [hPlain]
theorem hTurned_second (y : FVec Ideal S4096x4x2x96 .f32) (x : Fin 4096) (t : Fin 4) (l : Fin 128) (hl : l.val < 32) :
    hTurned y (ix3 x t l) = y (ix4 x t 1 ⟨64 + l.val, by omega⟩) := by
  pointwise [hTurned]
  rw [dif_pos hl]
theorem hTurned_first (y : FVec Ideal S4096x4x2x96 .f32) (x : Fin 4096) (t : Fin 4) (l : Fin 128) (h0 : 64 ≤ l.val) (h1 : l.val < 96) :
    hTurned y (ix3 x t l) = y (ix4 x t 0 ⟨l.val, by omega⟩) := by
  pointwise [hTurned]
  rw [dif_neg (by omega), dif_neg (by omega), dif_pos (by omega)]
  exact congrArg (fun a => y (ix4 x t 0 a)) (Fin.ext (by dsimp only; omega))
theorem hTurned_zero (y : FVec Ideal S4096x4x2x96 .f32) (x : Fin 4096) (t : Fin 4) (l : Fin 128) (h : 32 ≤ l.val % 64) : hTurned y (ix3 x t l) = 0 := by
  pointwise [hTurned, hZero]
  by_cases h64 : l.val < 64
  · rw [dif_neg (by omega), dif_pos (by omega)]
  · rw [dif_neg (by omega), dif_neg (by omega), dif_neg (by omega)]
theorem hQ_at (a : FVec Ideal S4096x4x2x64 .f32) (b : FVec Ideal S4096x4x128 .f32) (x : Fin 4096) (n : Fin 512) :
    hQ (hCols a b) (ix2 x n) = a (ix4 x ⟨n.val / 128, by omega⟩ ⟨n.val / 64 % 2, by omega⟩ ⟨n.val % 64, by omega⟩) * ((scale * (Real.log 2)⁻¹ : ℝ) : EReal) := by
  pointwise [hQ, hCols]
  rw [hScale_at]
theorem hQr_at (a : FVec Ideal S4096x4x2x64 .f32) (b : FVec Ideal S4096x4x128 .f32) (x : Fin 4096) (n : Fin 512) :
    hQr (hCols a b) (ix2 x n) = b (ix3 x ⟨n.val / 128, by omega⟩ ⟨n.val % 128, by omega⟩) * ((scale * (Real.log 2)⁻¹ : ℝ) : EReal) := by
  pointwise [hQr, hCols]
  rw [hScale_at]
theorem hK_at (k v : FVec Ideal S4096x8x64 .f32) (x : Fin 4096) (n : Fin 512) : hK (hKv (hJoin k v)) (ix2 x n) = k (ix3 x ⟨n.val / 64, by omega⟩ ⟨n.val % 64, by omega⟩) := by
  pointwise [hK, hKv, hJoin]
  rw [dif_pos (by omega)]
theorem hV_at (k v : FVec Ideal S4096x8x64 .f32) (x : Fin 4096) (n : Fin 512) : hV (hKv (hJoin k v)) (ix2 x n) = v (ix3 x ⟨n.val / 64, by omega⟩ ⟨n.val % 64, by omega⟩) := by
  pointwise [hV, hKv, hJoin]
theorem hPad_in (r : FVec Ideal S4096x32 .f32) (x : Fin 4096) (l : Fin 128) (h : l.val < 32) : hPad r (ix2 x l) = r (ix2 x ⟨l.val, h⟩) := by
  pointwise [hPad]
  rw [dif_pos h]
theorem hPad_out (r : FVec Ideal S4096x32 .f32) (x : Fin 4096) (l : Fin 128) (h : 32 ≤ l.val) : hPad r (ix2 x l) = 0 := by
  pointwise [hPad]
  rw [dif_neg (by omega)]
  show (((0#32 : BitVec 32).toInt : ℝ) : EReal) = 0
  simp
theorem hRoll_at (u : FVec Ideal S4096x128 .f32) (x : Fin 4096) (l : Fin 128) : hRoll u (ix2 x l) = u (ix2 x ⟨(l.val + 64) % 128, by omega⟩) := by
  pointwise [hRoll]
  by_cases h : l.val < 64
  · rw [dif_pos h]
    exact congrArg (fun a => u (ix2 x a)) (Fin.ext (by dsimp only; omega))
  · rw [dif_neg h]
    exact congrArg (fun a => u (ix2 x a)) (Fin.ext (by dsimp only; omega))
theorem hKr_in (r : FVec Ideal S4096x32 .f32) (x : Fin 4096) (l : Fin 128) (h : l.val % 64 < 32) : hKr r (ix2 x l) = r (ix2 x ⟨l.val % 64, h⟩) := by
  show hPad r (ix2 x l) + hRoll (hPad r) (ix2 x l) = _
  rw [hRoll_at]
  by_cases h64 : l.val < 64
  · rw [hPad_in _ _ _ (by omega), hPad_out _ _ _ (by dsimp only; omega), add_zero]
    exact congrArg (fun a => r (ix2 x a)) (Fin.ext (by dsimp only; omega))
  · rw [hPad_out _ _ l (by omega), hPad_in _ _ _ (by dsimp only; omega), zero_add]
    exact congrArg (fun a => r (ix2 x a)) (Fin.ext (by dsimp only; omega))
theorem hKr_out (r : FVec Ideal S4096x32 .f32) (x : Fin 4096) (l : Fin 128) (h : 32 ≤ l.val % 64) : hKr r (ix2 x l) = 0 := by
  show hPad r (ix2 x l) + hRoll (hPad r) (ix2 x l) = _
  rw [hRoll_at, hPad_out _ _ _ (by omega), hPad_out _ _ _ (by dsimp only; omega), add_zero]
theorem chunk_word : ∀ x : Fin 4096, hChunk (ix1 x) = BitVec.ofNat 32 (x.val / 64) := by
  decide +kernel
theorem hDot_at (q : FVec Ideal S4096x8x64 .f32) (qr : FVec Ideal S4096x8x32 .f32) (k : FVec Ideal S4096x8x64 .f32) (kr : FVec Ideal S4096x32 .f32) (h : Fin 8) (x y : Fin 4096) :
    hDot q qr k kr (ix3 h x y) = (∑ d : Fin 64, q (ix3 x h d) * k (ix3 y h d)) + ∑ e : Fin 32, kr (ix2 y e) * qr (ix3 x h e) := by
  pointwise [hDot]
theorem hMask_at (u : IVec S4096 32) (hu : ∀ x : Fin 4096, u (ix1 x) = BitVec.ofNat 32 (x.val / 64)) (x y : Fin 4096) : hMask u (ix2 x y) = if y.val / 64 ≤ x.val / 64 then 1#1 else 0#1 := by
  pointwise [hMask]
  simp only [hu]
  simp (disch := word_cmp_side) only [hlo_ix]
  by_cases e : y.val / 64 ≤ x.val / 64
  · rw [if_pos e, decide_eq_true e]; rfl
  · rw [if_neg e, decide_eq_false e]; rfl
theorem hS_at (s : FVec Ideal S8x4096x4096 .f32) (h : Fin 8) (x y : Fin 4096) : hS s hChunk (ix3 h x y) = if y.val / 64 ≤ x.val / 64 then s (ix3 h x y) * (scale : EReal) else ⊥ := by
  have e := hMask_at hChunk chunk_word x y
  unfold hS
  generalize hMask hChunk = u at e ⊢
  pointwise
  rw [e, bits_scale, bits_bot]
  by_cases e : y.val / 64 ≤ x.val / 64
  · rw [if_pos e, if_pos e]; rfl
  · rw [if_neg e, if_neg e]; rfl
theorem hM_at (s : FVec Ideal S8x4096x4096 .f32) (h : Fin 8) (x : Fin 4096) : hM s (ix2 h x) = Finset.univ.fold max ⊥ fun y : Fin 4096 => s (ix3 h x y) := by
  pointwise [hM]
  rw [bits_bot]
theorem hE_at (s : FVec Ideal S8x4096x4096 .f32) (h : Fin 8) (x y : Fin 4096) : hE s (ix3 h x y) = Ideal.exp (s (ix3 h x y) - hM s (ix2 h x)) := by
  pointwise [hE]
theorem hL_at (s : FVec Ideal S8x4096x4096 .f32) (h : Fin 8) (x : Fin 4096) : hL s (ix2 h x) = ∑ y : Fin 4096, hE s (ix3 h x y) := by
  pointwise [hL]
theorem hOff_at (m l : FVec Ideal S8x4096 .f32) (h : Fin 8) (x : Fin 4096) :
    hOff m l (ix2 x h) = -((m (ix2 h x) + Ideal.log (l (ix2 h x))) * (((Real.log 2)⁻¹ : ℝ) : EReal)) := by
  pointwise [hOff]
  rw [hLog2e_at]
theorem hP_at (s : FVec Ideal S8x4096x4096 .f32) (h : Fin 8) (x y : Fin 4096) : hP s (ix3 h x y) = Ideal.div (hE s (ix3 h x y)) (hL s (ix2 h x)) := by
  pointwise [hP]
theorem hO_at (v : FVec Ideal S4096x8x64 .f32) (p : FVec Ideal S8x4096x4096 .f32) (h : Fin 8) (d : Fin 64) (x : Fin 4096) :
    hO v p (ix3 h d x) = ∑ y : Fin 4096, v (ix3 y h d) * p (ix3 h x y) := by
  pointwise [hO]
theorem hSum_at (o : FVec Ideal S4096x8x64 .f32) (w : FVec Ideal S8x64x4096 .f32) (h : Fin 8) (x : Fin 4096) :
    hSum o w (ix2 x h) = ∑ d : Fin 64, o (ix3 x h d) * w (ix3 h d x) := by
  pointwise [hSum]
theorem hPack_a (a d : FVec Ideal S4096x8 .f32) (x : Fin 4096) (n : ℕ) (hn : n < 8) : hPack a d (ix2 x ⟨n, by omega⟩) = a (ix2 x ⟨n, hn⟩) := by
  pointwise [hPack]
  rw [dif_pos hn]
theorem hPack_d (a d : FVec Ideal S4096x8 .f32) (x : Fin 4096) (n : ℕ) (hn : n < 8) : hPack a d (ix2 x ⟨8 + n, by omega⟩) = d (ix2 x ⟨n, hn⟩) := by
  pointwise [hPack]
  rw [dif_pos hn]
end Cert.Proof.Mla
end
-- ==== Proof.Mla.Real.lean ====
module

public import proofs.«01_k».proof.Proof.Mla.Entry

/-! The latent attention's gradient over the reals, and a pair of heads' block when its operands are real. -/

@[expose] public section
set_option maxRecDepth 16384
noncomputable section
namespace Cert.Proof.Mla
open Idealize.ShloMosaic Idealize.ShloMosaic.TcCoe Idealize.SL.Sem
open Cert.Proof.Fox (coe_sum ln2 fold_real)

/-- Real arguments: the plain and the turned parts of the queries and the keys, the values and the cotangents, by
    position, head and lane; all heads have the same turned key. -/
structure Reals where
  q : ℕ → ℕ → ℕ → ℝ
  qr : ℕ → ℕ → ℕ → ℝ
  k : ℕ → ℕ → ℕ → ℝ
  kr : ℕ → ℕ → ℝ
  v : ℕ → ℕ → ℕ → ℝ
  o : ℕ → ℕ → ℕ → ℝ

namespace Reals
variable (R : Reals)

/-- The score. -/
def dot (h x y : ℕ) : ℝ := (∑ d : Fin 64, R.q x h d * R.k y h d) + ∑ e : Fin 32, R.kr y e * R.qr x h e
def z (h x y : ℕ) : ℝ := R.dot h x y * scale
/-- The row's sum of exponentials, and the weight: a query sees its own chunk's keys and those before. -/
def ex (h x : ℕ) (μ : ℝ) (y : ℕ) : ℝ := if y / 64 ≤ x / 64 then Real.exp (R.z h x y - μ) else 0
def l (h x : ℕ) (μ : ℝ) : ℝ := ∑ j ∈ Finset.range 4096, R.ex h x μ j
def p (h x y : ℕ) : ℝ := if y / 64 ≤ x / 64 then Real.exp (R.z h x y) / R.l h x 0 else 0
/-- The weight's cotangent, the row's sum, the score's cotangent. -/
def dp (h x y : ℕ) : ℝ := ∑ d : Fin 64, R.o x h d * R.v y h d
def e (h x : ℕ) : ℝ := ∑ j ∈ Finset.range 4096, R.dp h x j * R.p h x j
def ds (h x y : ℕ) : ℝ := R.p h x y * (R.dp h x y - R.e h x)
/-- The five gradients. -/
def gq (x h d : ℕ) : ℝ := (∑ j ∈ Finset.range 4096, R.ds h x j * R.k j h d) * scale
def gqr (x h e : ℕ) : ℝ := (∑ j ∈ Finset.range 4096, R.ds h x j * R.kr j e) * scale
def gk (x h d : ℕ) : ℝ := (∑ j ∈ Finset.range 4096, R.q j h d * R.ds h j x) * scale
def gkrh (x h e : ℕ) : ℝ := (∑ j ∈ Finset.range 4096, R.qr j h e * R.ds h j x) * scale
def gkr (x e : ℕ) : ℝ := ∑ h : Fin 8, R.gkrh x h e
def gv (x h d : ℕ) : ℝ := ∑ j ∈ Finset.range 4096, R.o j h d * R.p h j x

theorem l_pos (h : ℕ) {x : ℕ} (hx : x < 4096) (μ : ℝ) : 0 < R.l h x μ := by
  refine Finset.sum_pos' (fun j _ => ?_) ⟨x, Finset.mem_range.2 hx, ?_⟩ <;> unfold ex
  · split_ifs
    · positivity
    · exact le_refl _
  · rw [if_pos (le_refl _)]
    positivity

theorem l_shift (h x : ℕ) (μ : ℝ) : R.l h x μ = R.l h x 0 * Real.exp (-μ) := by
  unfold l ex
  rw [Finset.sum_mul]
  refine Finset.sum_congr rfl fun j _ => ?_
  rw [ite_mul, zero_mul, ← Real.exp_add]
  congr 2
  ring

/-- The weight from scores less any number. -/
theorem ex_div (h x y : ℕ) (μ : ℝ) : R.ex h x μ y / R.l h x μ = R.p h x y := by
  unfold ex p
  split_ifs with hy
  · rw [l_shift, sub_eq_add_neg, Real.exp_add, mul_div_mul_right _ _ (Real.exp_ne_zero _)]
  · rw [zero_div]

/-- The row's sum is the cotangent's product with the output. -/
theorem e_out (h x : ℕ) : R.e h x = ∑ d : Fin 64, R.o x h d * ∑ j ∈ Finset.range 4096, R.v j h d * R.p h x j := by
  unfold e dp
  simp only [Finset.sum_mul, Finset.mul_sum]
  rw [Finset.sum_comm]
  refine Finset.sum_congr rfl fun d _ => Finset.sum_congr rfl fun j _ => ?_
  ring

/-- The base-two power of a score times `1 / log 2`, less the row's logarithm, is the weight. -/
theorem p_pow (h : ℕ) {x y : ℕ} (hy : y / 64 ≤ x / 64) (hx : x < 4096) (μ : ℝ) :
    Real.rpow 2 (R.dot h x y * (scale * (Real.log 2)⁻¹) + -((μ + Real.log (R.l h x μ)) * (Real.log 2)⁻¹)) = R.p h x y := by
  have h2 : Real.log 2 ≠ 0 := Real.log_ne_zero_of_pos_of_ne_one (by norm_num) (by norm_num)
  show (2 : ℝ) ^ (_ : ℝ) = _
  rw [Real.rpow_def_of_pos (by norm_num : (0 : ℝ) < 2), ← R.ex_div h x y μ, ex, if_pos hy,
    show Real.log 2 * (R.dot h x y * (scale * (Real.log 2)⁻¹) + -((μ + Real.log (R.l h x μ)) * (Real.log 2)⁻¹))
      = (R.z h x y - μ) - Real.log (R.l h x μ) by unfold z; field_simp; ring,
    Real.exp_sub, Real.exp_log (R.l_pos h hx μ)]

/-- The score's cotangent in the quotient's form. -/
theorem ds_quot (h : ℕ) (x y : Fin 4096) (μ : ℝ) :
    (R.dp h x y / R.l h x μ - ∑ j : Fin 4096, R.dp h x j * (1 / (R.l h x μ * R.l h x μ)) * R.ex h x μ j) * R.ex h x μ y = R.ds h x y := by
  have hl := (R.l_pos h x.isLt μ).ne'
  have e : ∑ j : Fin 4096, R.dp h x j * (1 / (R.l h x μ * R.l h x μ)) * R.ex h x μ j = R.e h x / R.l h x μ := by
    rw [Reals.e, ← Fin.sum_univ_eq_sum_range (fun j => R.dp h x j * R.p h x j) 4096, Finset.sum_div]
    refine Finset.sum_congr rfl fun j _ => ?_
    rw [← R.ex_div h x j μ]
    field_simp
  rw [e, Reals.ds, ← R.ex_div h x y μ]
  field_simp

/-! A row's softmax over the extended reals. -/
theorem l_fin (h x : ℕ) (μ : ℝ) : (∑ y : Fin 4096, (R.ex h x μ y : EReal)) = (R.l h x μ : EReal) := by
  rw [← coe_sum, Fin.sum_univ_eq_sum_range (fun y => R.ex h x μ y) 4096, l]
theorem soft (h : ℕ) (x : Fin 4096) (f : Fin 4096 → EReal) (hf : ∀ y, f y = if y.val / 64 ≤ x.val / 64 then (R.z h x y : EReal) else ⊥) :
    ∃ μ : ℝ, Finset.univ.fold max ⊥ f = (μ : EReal) ∧ (∀ y, Ideal.exp (f y - (μ : EReal)) = (R.ex h x μ y : EReal)) := by
  obtain ⟨r, hr⟩ := fold_real f (fun y => by
    rw [hf]
    split_ifs
    · exact Or.inr ⟨_, rfl⟩
    · exact Or.inl rfl) x (by rw [hf, if_pos (le_refl _)]; exact EReal.coe_ne_bot _)
  refine ⟨r, hr, fun y => ?_⟩
  rw [hf, ex]
  split_ifs
  · rw [← EReal.coe_sub, Ideal.exp_coe]
  · rw [EReal.bot_sub, Ideal.exp_bot, EReal.coe_zero]
theorem weight (h : ℕ) (x y : Fin 4096) (μ : ℝ) : Ideal.div (R.ex h x μ y : EReal) (R.l h x μ : EReal) = (R.p h x y : EReal) := by
  rw [Ideal.div_coe (R.l_pos h x.isLt μ).ne', ← EReal.coe_mul, mul_one_div, R.ex_div]

/-! A pair's lanes: head `h`'s own half is the plain part, the other half begins with the turned part. -/
def turned (f : ℕ → ℝ) (l : ℕ) : ℝ := if l % 64 < 32 then f (l % 64) else 0
def Q (t h x l : ℕ) : ℝ := if l / 64 = h then R.q x (2 * t + h) (l % 64) else turned (R.qr x (2 * t + h)) l
def K (t h x l : ℕ) : ℝ := if l / 64 = h then R.k x (2 * t + h) (l % 64) else turned (R.kr x) l

theorem half_sum (f : ℕ → ℝ) : (∑ d : Fin 64, if (d : ℕ) < 32 then f d else 0) = ∑ e : Fin 32, f e := by
  rw [Fin.sum_univ_tiles 2 32 rfl (fun d : Fin 64 => if (d : ℕ) < 32 then f d else 0), Fin.sum_univ_two]
  simp [Finset.sum_const_zero]
theorem pair_sum (t x y : ℕ) {h : ℕ} (hh : h < 2) : ∑ l : Fin 128, R.Q t h x l * R.K t h y l = R.dot (2 * t + h) x y := by
  have e : ∀ (a : Fin 2) (d : Fin 64), (a.val * 64 + d.val) / 64 = a.val := fun a d => by omega
  have e' : ∀ (a : Fin 2) (d : Fin 64), (a.val * 64 + d.val) % 64 = d.val := fun a d => by omega
  have r : (∑ d : Fin 64, (if (d : ℕ) < 32 then R.qr x (2 * t + h) d else 0) * (if (d : ℕ) < 32 then R.kr y d else 0)) = ∑ e : Fin 32, R.kr y e * R.qr x (2 * t + h) e := by
    rw [← half_sum fun e => R.kr y e * R.qr x (2 * t + h) e]
    refine Finset.sum_congr rfl fun d _ => ?_
    split_ifs
    · ring
    · ring
  rw [Fin.sum_univ_tiles 2 64 rfl (fun l : Fin 128 => R.Q t h x l * R.K t h y l), Fin.sum_univ_two]
  simp only [Q, K, turned, e, e']
  rw [dot, ← r]
  interval_cases h
  · simp
  · simp [add_comm]
end Reals

/-- Of a pair's two numbers the head's own, at the head's lanes and at the other's. -/
theorem hd_own {h d : ℕ} (hh : h < 2) (hd : d < 64) (f : ℕ → EReal) : Ins.hd 0 (64 * h + d) (f 0) (f 1) = f h := by
  unfold Ins.hd
  interval_cases h
  · rw [if_pos (by omega)]
  · rw [if_neg (by omega)]
theorem hd_other {h d : ℕ} (hh : h < 2) (hd : d < 64) (f : ℕ → EReal) : Ins.hd 0 (64 * (1 - h) + d) (f 1) (f 0) = f h := by
  unfold Ins.hd
  interval_cases h
  · rw [if_neg (by omega)]
  · rw [if_pos (by omega)]

/-- A pair's operands, when they are real: the pair's heads of the arguments. -/
structure IsReal (M : Ins) (R : Reals) (t : ℕ) (μ : ℕ → ℕ → ℝ) : Prop where
  q : ∀ x l, x < 4096 → l < 128 → M.q x l = ((R.q x (2 * t + l / 64) (l % 64) * (scale * (Real.log 2)⁻¹) : ℝ) : EReal)
  qr : ∀ x l, x < 4096 → l < 128 → M.qr x l = ((Reals.turned (R.qr x (2 * t + (1 - l / 64))) l * (scale * (Real.log 2)⁻¹) : ℝ) : EReal)
  k : ∀ x l, x < 4096 → l < 128 → M.k x l = (R.k x (2 * t + l / 64) (l % 64) : EReal)
  kr : ∀ x l, x < 4096 → l < 128 → M.kr x l = (Reals.turned (R.kr x) l : EReal)
  V : ∀ x l, x < 4096 → l < 128 → M.V x l = (R.v x (2 * t + l / 64) (l % 64) : EReal)
  O : ∀ x l, x < 4096 → l < 128 → M.O x l = (R.o x (2 * t + l / 64) (l % 64) : EReal)
  A : ∀ h x, h < 2 → x < 4096 → M.A h x = ((-((μ (2 * t + h) x + Real.log (R.l (2 * t + h) x (μ (2 * t + h) x))) * (Real.log 2)⁻¹) : ℝ) : EReal)
  D : ∀ h x, h < 2 → x < 4096 → M.D h x = (R.e (2 * t + h) x : EReal)

namespace IsReal
variable {M : Ins} {R : Reals} {t : ℕ} {μ : ℕ → ℕ → ℝ} (I : IsReal M R t μ)
include I

theorem Q {h x l : ℕ} (hh : h < 2) (hx : x < 4096) (hl : l < 128) : M.Q h x l = ((R.Q t h x l * (scale * (Real.log 2)⁻¹) : ℝ) : EReal) := by
  rw [Ins.Q, Ins.hd, Reals.Q, I.q x l hx hl, I.qr x l hx hl]
  by_cases e : l / 64 = h
  · rw [if_pos e, if_pos e, e]
  · rw [if_neg e, if_neg e, show 1 - l / 64 = h by omega]
theorem K {h x l : ℕ} (hx : x < 4096) (hl : l < 128) : M.K h x l = (R.K t h x l : EReal) := by
  rw [Ins.K, Ins.hd, Reals.K, I.k x l hx hl, I.kr x l hx hl]
  by_cases e : l / 64 = h
  · rw [if_pos e, if_pos e, e]
  · rw [if_neg e, if_neg e]

theorem pr {h x y : ℕ} (hh : h < 2) (hx : x < 4096) (hy : y < 4096) : M.pr h x y = (R.p (2 * t + h) x y : EReal) := by
  by_cases hk : y / 64 ≤ x / 64
  · rw [M.pr_le hk, Ins.sc, I.A h x hh hx]
    have e : (∑ l : Fin 128, M.Q h x l * M.K h y l) = ((R.dot (2 * t + h) x y * (scale * (Real.log 2)⁻¹) : ℝ) : EReal) := by
      rw [← R.pair_sum t x y hh, Finset.sum_mul, coe_sum]
      refine Finset.sum_congr rfl fun l _ => ?_
      rw [I.Q hh hx l.isLt, I.K hy l.isLt, ← EReal.coe_mul]
      congr 1
      ring
    rw [e, ← EReal.coe_add, Ideal.exp2_coe, R.p_pow _ hk hx]
  · rw [M.pr_gt (by omega), Reals.p, if_neg hk, EReal.coe_zero]

theorem ds {h x y : ℕ} (hh : h < 2) (hx : x < 4096) (hy : y < 4096) : M.ds h x y = (R.ds (2 * t + h) x y : EReal) := by
  have e : (∑ l : Fin 128, Ins.hd h l (M.O x l) 0 * M.V y l) = (R.dp (2 * t + h) x y : EReal) := by
    rw [Finset.sum_congr rfl (fun (l : Fin 128) _ => show Ins.hd h l (M.O x l) 0 * M.V y l
      = (((if (l : ℕ) / 64 = h then R.o x (2 * t + h) ((l : ℕ) % 64) * R.v y (2 * t + h) ((l : ℕ) % 64) else 0 : ℝ)) : EReal) by
        rw [I.O x l hx l.isLt, I.V y l hy l.isLt, Ins.hd]
        by_cases e : (l : ℕ) / 64 = h
        · rw [if_pos e, if_pos e, e, EReal.coe_mul]
        · rw [if_neg e, if_neg e, zero_mul, EReal.coe_zero]), ← coe_sum,
      Cert.Proof.Fox.head_sum hh (fun l => R.o x (2 * t + h) (l % 64) * R.v y (2 * t + h) (l % 64))]
    simp only [Reals.dp, show ∀ d : Fin 64, (64 * h + (d : ℕ)) % 64 = d from fun d => by omega]
  rw [Ins.ds, I.pr hh hx hy, Ins.dw, e, I.D h x hh hx, ← EReal.coe_sub, ← EReal.coe_mul, Reals.ds]

theorem dqA {h x l : ℕ} (hh : h < 2) (hx : x < 4096) (hl : l < 128) : M.dqA h x l = ((∑ j ∈ Finset.range 4096, R.ds (2 * t + h) x j * R.K t h j l : ℝ) : EReal) := by
  rw [Ins.dqA, coe_sum]
  refine Finset.sum_congr rfl fun j hj => ?_
  rw [Finset.mem_range] at hj
  rw [I.ds hh hx hj, I.K hj hl, ← EReal.coe_mul]
theorem dkt {h x l : ℕ} (hh : h < 2) (hx : x < 4096) (hl : l < 128) :
    M.dkt (fun _ _ => 4096) h l x * ln2 = (((∑ j ∈ Finset.range 4096, R.Q t h j l * R.ds (2 * t + h) j x) * scale : ℝ) : EReal) := by
  have h2 : Real.log 2 ≠ 0 := Real.log_ne_zero_of_pos_of_ne_one (by norm_num) (by norm_num)
  have e : M.dkt (fun _ _ => 4096) h l x = ((∑ j ∈ Finset.range 4096, R.Q t h j l * (scale * (Real.log 2)⁻¹) * R.ds (2 * t + h) j x : ℝ) : EReal) := by
    rw [Ins.dkt, coe_sum]
    refine Finset.sum_congr rfl fun j hj => ?_
    rw [Finset.mem_range] at hj
    rw [I.Q hh hj hl, I.ds hh hj hx, ← EReal.coe_mul]
  rw [e, show ln2 = ((Real.log 2 : ℝ) : EReal) from rfl, ← EReal.coe_mul, Finset.sum_mul, Finset.sum_mul]
  congr 1
  refine Finset.sum_congr rfl fun j _ => ?_
  field_simp

omit I in
theorem qscale_eq : qscale = (scale : EReal) := bits_scale

theorem gq {h x d : ℕ} (hh : h < 2) (hx : x < 4096) (hd : d < 64) :
    Ins.hd 0 (64 * h + d) (M.dqA 0 x (64 * h + d)) (M.dqA 1 x (64 * h + d)) * qscale = (R.gq x (2 * t + h) d : EReal) := by
  rw [hd_own hh hd fun i => M.dqA i x (64 * h + d), I.dqA hh hx (by omega), qscale_eq, ← EReal.coe_mul, Reals.gq]
  simp only [Reals.K, show (64 * h + d) / 64 = h by omega, show (64 * h + d) % 64 = d by omega, if_true]
theorem gqr {h x e : ℕ} (hh : h < 2) (hx : x < 4096) (he : e < 32) :
    Ins.hd 0 (64 * (1 - h) + e) (M.dqA 1 x (64 * (1 - h) + e)) (M.dqA 0 x (64 * (1 - h) + e)) * qscale = (R.gqr x (2 * t + h) e : EReal) := by
  rw [hd_other hh (by omega) fun i => M.dqA i x (64 * (1 - h) + e), I.dqA hh hx (by omega), qscale_eq, ← EReal.coe_mul, Reals.gqr]
  simp only [Reals.K, Reals.turned, if_neg (show ¬ (64 * (1 - h) + e) / 64 = h by omega), show (64 * (1 - h) + e) % 64 = e by omega, if_pos he]
theorem gk {h x d : ℕ} (hh : h < 2) (hx : x < 4096) (hd : d < 64) :
    Ins.hd 0 (64 * h + d) (M.dkt (fun _ _ => 4096) 0 (64 * h + d) x) (M.dkt (fun _ _ => 4096) 1 (64 * h + d) x) * ln2 = (R.gk x (2 * t + h) d : EReal) := by
  rw [hd_own hh hd fun i => M.dkt (fun _ _ => 4096) i (64 * h + d) x, I.dkt hh hx (by omega), Reals.gk]
  simp only [Reals.Q, show (64 * h + d) / 64 = h by omega, show (64 * h + d) % 64 = d by omega, if_true]
theorem gkr {h x e : ℕ} (hh : h < 2) (hx : x < 4096) (he : e < 32) :
    Ins.hd 0 (64 * (1 - h) + e) (M.dkt (fun _ _ => 4096) 1 (64 * (1 - h) + e) x) (M.dkt (fun _ _ => 4096) 0 (64 * (1 - h) + e) x) * ln2 = (R.gkrh x (2 * t + h) e : EReal) := by
  rw [hd_other hh (by omega) fun i => M.dkt (fun _ _ => 4096) i (64 * (1 - h) + e) x, I.dkt hh hx (by omega), Reals.gkrh]
  simp only [Reals.Q, Reals.turned, if_neg (show ¬ (64 * (1 - h) + e) / 64 = h by omega), show (64 * (1 - h) + e) % 64 = e by omega, if_pos he]
theorem gv {h x d : ℕ} (hh : h < 2) (hx : x < 4096) (hd : d < 64) : M.dvt (fun _ _ => 4096) (64 * h + d) x = (R.gv x (2 * t + h) d : EReal) := by
  rw [Ins.dvt, Reals.gv, coe_sum, show (64 * h + d) / 64 = h by omega]
  refine Finset.sum_congr rfl fun j hj => ?_
  rw [Finset.mem_range] at hj
  rw [I.O j _ hj (by omega), I.pr hh hj hx, ← EReal.coe_mul, show (64 * h + d) / 64 = h by omega, show (64 * h + d) % 64 = d by omega]
end IsReal
end Cert.Proof.Mla
end
-- ==== Proof.Mla.Operands.lean ====
module

public import proofs.«01_k».proof.Proof.Mla.Real

/-! The attention's scores, weights and row sums from real arguments. -/

@[expose] public section
set_option maxRecDepth 16384
noncomputable section
namespace Cert.Proof.Mla
open Idealize.ShloMosaic Idealize.ShloMosaic.TcCoe Idealize.SL.Sem
open Cert.MlaIdeal Cert.MlaIdeal.Gen
open Cert.Proof.Fox (coe_sum Finite real_at ofNat_val)

/-- The arguments as reals. -/
def realsOf (q : FVec Ideal S4096x8x64 .f32) (r : FVec Ideal S4096x8x32 .f32) (k : FVec Ideal S4096x8x64 .f32) (kr : FVec Ideal S4096x32 .f32) (v o : FVec Ideal S4096x8x64 .f32) : Reals where
  q x h d := (q (ix3 (Fin.ofNat 4096 x) (Fin.ofNat 8 h) (Fin.ofNat 64 d))).toReal
  qr x h d := (r (ix3 (Fin.ofNat 4096 x) (Fin.ofNat 8 h) (Fin.ofNat 32 d))).toReal
  k x h d := (k (ix3 (Fin.ofNat 4096 x) (Fin.ofNat 8 h) (Fin.ofNat 64 d))).toReal
  kr x d := (kr (ix2 (Fin.ofNat 4096 x) (Fin.ofNat 32 d))).toReal
  v x h d := (v (ix3 (Fin.ofNat 4096 x) (Fin.ofNat 8 h) (Fin.ofNat 64 d))).toReal
  o x h d := (o (ix3 (Fin.ofNat 4096 x) (Fin.ofNat 8 h) (Fin.ofNat 64 d))).toReal

theorem real_at3 {a b c : ℕ} [NeZero a] [NeZero b] [NeZero c] {φ : FTy} {v : FVec Ideal ⟨3, ![a, b, c]⟩ φ} (hv : Finite v) (x : Fin a) (y : Fin b) (z : Fin c) :
    v (ix3 x y z) = (((v (ix3 (Fin.ofNat a x) (Fin.ofNat b y) (Fin.ofNat c z)) : EReal).toReal : ℝ) : EReal) := by
  obtain ⟨r, hr⟩ := hv (ix3 x y z)
  rw [ofNat_val, ofNat_val, ofNat_val, hr, EReal.toReal_coe]

section
variable {q : FVec Ideal S4096x8x64 .f32} {r : FVec Ideal S4096x8x32 .f32} {k : FVec Ideal S4096x8x64 .f32} {kr : FVec Ideal S4096x32 .f32} {v o : FVec Ideal S4096x8x64 .f32}
  (hq : Finite q) (hr : Finite r) (hk : Finite k) (hkr : Finite kr) (hv : Finite v) (ho : Finite o)

include hq hr hk hkr in
theorem score_real (h : Fin 8) (x y : Fin 4096) : ((∑ d : Fin 64, q (ix3 x h d) * k (ix3 y h d)) + ∑ e : Fin 32, kr (ix2 y e) * r (ix3 x h e)) * (scale : EReal)
    = ((realsOf q r k kr v o).z h x y : EReal) := by
  simp only [fun d : Fin 64 => real_at3 hq x h d, fun d : Fin 64 => real_at3 hk y h d, fun e : Fin 32 => real_at hkr y e, fun e : Fin 32 => real_at3 hr x h e, ← EReal.coe_mul]
  rw [← coe_sum, ← coe_sum, ← EReal.coe_add, ← EReal.coe_mul]
  rfl

include hq hr hk hkr in
theorem stages : ∃ μ : ℕ → ℕ → ℝ, ∀ (h : Fin 8) (x : Fin 4096), hM (hS (hDot q r k kr) hChunk) (ix2 h x) = (μ h x : EReal)
    ∧ (∀ y : Fin 4096, hE (hS (hDot q r k kr) hChunk) (ix3 h x y) = ((realsOf q r k kr v o).ex h x (μ h x) y : EReal))
    ∧ hL (hS (hDot q r k kr) hChunk) (ix2 h x) = ((realsOf q r k kr v o).l h x (μ h x) : EReal) := by
  have S : ∀ (h : Fin 8) (x y : Fin 4096), hS (hDot q r k kr) hChunk (ix3 h x y) = if y.val / 64 ≤ x.val / 64 then ((realsOf q r k kr v o).z h x y : EReal) else ⊥ :=
    fun h x y => by rw [hS_at, hDot_at, score_real hq hr hk hkr]
  generalize hS (hDot q r k kr) hChunk = s at S ⊢
  have H : ∀ (h : Fin 8) (x : Fin 4096), ∃ μ : ℝ, hM s (ix2 h x) = (μ : EReal) ∧ (∀ y : Fin 4096, hE s (ix3 h x y) = ((realsOf q r k kr v o).ex h x μ y : EReal)) := by
    intro h x
    obtain ⟨μ, h1, h2⟩ := (realsOf q r k kr v o).soft h x (fun y => s (ix3 h x y)) (S h x)
    refine ⟨μ, (hM_at _ h x).trans h1, fun y => ?_⟩
    rw [hE_at, hM_at, h1]
    exact h2 y
  choose μ h1 h2 using H
  refine ⟨fun h x => μ (Fin.ofNat 8 h) (Fin.ofNat 4096 x), fun h x => ?_⟩
  simp only [ofNat_val]
  refine ⟨h1 h x, h2 h x, ?_⟩
  rw [hL_at, Finset.sum_congr rfl fun y _ => h2 h x y, Reals.l_fin]

include hv ho in
theorem rowsum {p : FVec Ideal S8x4096x4096 .f32} (hp : ∀ (h : Fin 8) (x y : Fin 4096), p (ix3 h x y) = ((realsOf q r k kr v o).p h x y : EReal)) (h : Fin 8) (x : Fin 4096) :
    hSum o (hO v p) (ix2 x h) = ((realsOf q r k kr v o).e h x : EReal) := by
  rw [hSum_at, Reals.e_out, coe_sum]
  refine Finset.sum_congr rfl fun d _ => ?_
  rw [hO_at, real_at3 ho x h d, EReal.coe_mul, ← Fin.sum_univ_eq_sum_range (fun j => (realsOf q r k kr v o).v j h d * (realsOf q r k kr v o).p h x j) 4096, coe_sum]
  refine congrArg₂ (· * ·) rfl (Finset.sum_congr rfl fun y _ => ?_)
  rw [hp, real_at3 hv y h d, ← EReal.coe_mul]
  rfl
end
end Cert.Proof.Mla
end
-- ==== Proof.Mla.Arrays.lean ====
module

public import proofs.«01_k».proof.Proof.Mla.Value

/-! What a pair of heads reads, out of the arrays; and the results, out of what the pairs leave. -/

@[expose] public section
set_option maxRecDepth 16384
noncomputable section
namespace Cert.Proof.Mla
open Idealize.ShloMosaic Idealize.ShloMosaic.TcCoe Idealize.SL.Sem
open Cert.MlaIdeal Cert.MlaIdeal.Gen
open Cert.Proof.Fox (ln2)

/-- The blocks' places. -/
theorem idx : ∀ t : Fin cfg0.N, (win0_0.index t = ![0, t.val] ∧ win0_1.index t = ![0, t.val] ∧ win0_2.index t = ![0, t.val]
    ∧ win0_3.index t = ![0, t.val] ∧ win0_4.index t = ![0, 0] ∧ win0_5.index t = ![0, t.val] ∧ win0_6.index t = ![0, 0]) ∧ win0_7.index t = ![0, t.val] ∧ win0_8.index t = ![0, t.val]
    ∧ win0_9.index t = ![0, t.val] ∧ win0_10.index t = ![0, t.val] ∧ win0_11.index t = ![t.val, 0, 0] :=
  (by decide +kernel : ∀ t : Fin grid0.N, _)

variable (m : (ℓ : Loc nD τ sig) → Buf (Elt Ideal) ℓ) (c : Dev nD)

theorem blk_0 (t : Fin cfg0.N) (x : Fin 4096) (y : Fin 128) : (iblk m c 0 t : FVec Ideal S4096x128 .bf16) (ix2 x y)
    = (V m c main_v27 : FVec Ideal S4096x512 .bf16) (ix2 x ⟨128 * t.val + y.val, by have := t.isLt; have := N4; omega⟩) := by
  blk_ext [iblk, idx t]
theorem blk_1 (t : Fin cfg0.N) (x : Fin 4096) (y : Fin 128) : (iblk m c 1 t : FVec Ideal S4096x128 .bf16) (ix2 x y)
    = (V m c main_v33 : FVec Ideal S4096x512 .bf16) (ix2 x ⟨128 * t.val + y.val, by have := t.isLt; have := N4; omega⟩) := by
  blk_ext [iblk, idx t]
theorem blk_2 (t : Fin cfg0.N) (x : Fin 4096) (y : Fin 128) : (iblk m c 2 t : FVec Ideal S4096x128 .bf16) (ix2 x y)
    = (V m c main_v35 : FVec Ideal S4096x512 .bf16) (ix2 x ⟨128 * t.val + y.val, by have := t.isLt; have := N4; omega⟩) := by
  blk_ext [iblk, idx t]
theorem blk_3 (t : Fin cfg0.N) (x : Fin 4096) (y : Fin 128) : (iblk m c 3 t : FVec Ideal S4096x128 .bf16) (ix2 x y)
    = (V m c main_v77 : FVec Ideal S4096x512 .bf16) (ix2 x ⟨128 * t.val + y.val, by have := t.isLt; have := N4; omega⟩) := by
  blk_ext [iblk, idx t]
theorem blk_4 (t : Fin cfg0.N) (x : Fin 4096) (y : Fin 128) : (iblk m c 4 t : FVec Ideal S4096x128 .f32) (ix2 x y)
    = (V m c main_v75 : FVec Ideal S4096x128 .f32) (ix2 x y) := by
  blk_ext [iblk, idx t]
theorem blk_5 (t : Fin cfg0.N) (x : Fin 4096) (y : Fin 128) : (iblk m c 5 t : FVec Ideal S4096x128 .bf16) (ix2 x y)
    = (V m c main_v31 : FVec Ideal S4096x512 .bf16) (ix2 x ⟨128 * t.val + y.val, by have := t.isLt; have := N4; omega⟩) := by
  blk_ext [iblk, idx t]
theorem blk_6 (t : Fin cfg0.N) (x : Fin 4096) (y : Fin 128) : (iblk m c 6 t : FVec Ideal S4096x128 .bf16) (ix2 x y)
    = (V m c main_v39 : FVec Ideal S4096x128 .bf16) (ix2 x y) := by
  blk_ext [iblk, idx t]

/-- The pair of heads a number names. -/
def pairAt (n : ℕ) : Fin cfg0.N := ⟨n % 4, by have := N4; omega⟩
theorem pairAt_eq (t : Fin cfg0.N) {n : ℕ} (h : n = t.val) : pairAt n = t := by
  have := t.isLt
  have := N4
  exact Fin.ext (by show n % 4 = t.val; omega)
theorem lane_128 (t : Fin cfg0.N) {y : ℕ} (hy : y < 128) : pairAt ((t.val * 128 + y) / 128) = t ∧ (t.val * 128 + y) % 128 = y :=
  ⟨pairAt_eq t (by omega), by omega⟩

/-- The results at a pair, a row and a lane, -/
def dqAt (t : Fin cfg0.N) (x l : ℕ) : EReal := Ins.hd 0 l ((ins m c t).dqA 0 x l) ((ins m c t).dqA 1 x l) * qscale
def dkAt (t : Fin cfg0.N) (x l : ℕ) : EReal := Ins.hd 0 l ((ins m c t).dkt (fun _ _ => 4096) 0 l x) ((ins m c t).dkt (fun _ _ => 4096) 1 l x) * ln2
def dvAt (t : Fin cfg0.N) (x l : ℕ) : EReal := (ins m c t).dvt (fun _ _ => 4096) l x
def dqrAt (t : Fin cfg0.N) (x l : ℕ) : EReal := Ins.hd 0 l ((ins m c t).dqA 1 x l) ((ins m c t).dqA 0 x l) * qscale
def dkrAt (t : Fin cfg0.N) (x l : ℕ) : EReal := Ins.hd 0 l ((ins m c t).dkt (fun _ _ => 4096) 1 l x) ((ins m c t).dkt (fun _ _ => 4096) 0 l x) * ln2
/-- and their arrays. -/
def byCol (f : Fin cfg0.N → ℕ → ℕ → EReal) (p : S4096x512.Idx) : EReal := f (pairAt ((p 1).val / 128)) (p 0) ((p 1).val % 128)
def krArr (p : S4x4096x128.Idx) : EReal := dkrAt m c (pairAt (p 0)) (p 1) (p 2)

theorem arr_7 : ((vals m 0 c).arrAt 7 (cfgs 0).N : S4096x512.Idx → EReal) = byCol (dqAt m c) := by
  refine Pipeline.Dat.arrAt_eq_of_covers (dat := vals m 0 c) 7 (byCol (dqAt m c)) (hcov := by decide +kernel) ?_
  intro t _ y
  have h := lane_128 t (y := (y 1).val) (y 1).isLt
  rw [vafter_7]
  blk_simp [qOut, byCol, dqAt, idx t]
  rw [h.1, h.2]
theorem arr_8 : ((vals m 0 c).arrAt 8 (cfgs 0).N : S4096x512.Idx → EReal) = byCol (dkAt m c) := by
  refine Pipeline.Dat.arrAt_eq_of_covers (dat := vals m 0 c) 8 (byCol (dkAt m c)) (hcov := by decide +kernel) ?_
  intro t _ y
  have h := lane_128 t (y := (y 1).val) (y 1).isLt
  rw [vafter_8]
  blk_simp [kOut, byCol, dkAt, idx t]
  rw [h.1, h.2]
theorem arr_9 : ((vals m 0 c).arrAt 9 (cfgs 0).N : S4096x512.Idx → EReal) = byCol (dvAt m c) := by
  refine Pipeline.Dat.arrAt_eq_of_covers (dat := vals m 0 c) 9 (byCol (dvAt m c)) (hcov := by decide +kernel) ?_
  intro t _ y
  have h := lane_128 t (y := (y 1).val) (y 1).isLt
  rw [vafter_9]
  blk_simp [vOut, byCol, dvAt, idx t]
  rw [h.1, h.2]
theorem arr_10 : ((vals m 0 c).arrAt 10 (cfgs 0).N : S4096x512.Idx → EReal) = byCol (dqrAt m c) := by
  refine Pipeline.Dat.arrAt_eq_of_covers (dat := vals m 0 c) 10 (byCol (dqrAt m c)) (hcov := by decide +kernel) ?_
  intro t _ y
  have h := lane_128 t (y := (y 1).val) (y 1).isLt
  rw [vafter_10]
  blk_simp [qrOut, byCol, dqrAt, idx t]
  rw [h.1, h.2]
theorem arr_11 : ((vals m 0 c).arrAt 11 (cfgs 0).N : S4x4096x128.Idx → EReal) = krArr m c := by
  refine Pipeline.Dat.arrAt_eq_of_covers (dat := vals m 0 c) 11 (krArr m c) (hcov := by decide +kernel) ?_
  intro t _ y
  have h0 : (y 0).val < 1 := (y 0).isLt
  rw [vafter_11]
  blk_simp [krOut, krArr, dkrAt, idx t]
  rw [pairAt_eq t (by omega)]

theorem left_at (w : Fin cfg0.W) :
    Pipeline.withArrays spec0 c (V0 m c) (fun w => (vals m 0 c).arrAt w (cfgs 0).N) (Proc.devRef .tc (Pipeline.arrRef spec0 w)) = (vals m 0 c).arrAt w (cfgs 0).N :=
  Pipeline.withArrays_arr spec0 (by decide +kernel) c (V0 m c) _ w

/-! The lines after the call. -/
def tPart (b : FVec Ideal S4096x512 .f32) : FVec Ideal S4096x4x2x32 .f32 :=
  extractStridedSlice S4096x4x2x32 ![0, 0, 0, 0] (shapeCast S4096x4x2x64 b shapeCasts_S4096x512_S4096x4x2x64) slices_S4096x4x2x64_S4096x4x2x32_0_0_0_0
def tTurn (b : FVec Ideal S4096x512 .f32) : FVec Ideal S4096x4x2x32 .f32 := Host.reverse [2] (tPart b)
def tHeads (a b : FVec Ideal S4096x512 .f32) : FVec Ideal S4096x8x96 .f32 :=
  shapeCast S4096x8x96 (shapeCast S4096x768 (concatenate S4096x4x2x96 3 [⟨S4096x4x2x64, shapeCast S4096x4x2x64 a shapeCasts_S4096x512_S4096x4x2x64⟩,
    ⟨S4096x4x2x32, tTurn b⟩]
    concatenates_S4096x4x2x64_S4096x4x2x32_S4096x4x2x96_d3) shapeCasts_S4096x4x2x96_S4096x768) shapeCasts_S4096x768_S4096x8x96
def tCols (a b : FVec Ideal S4096x512 .f32) : FVec Ideal S4096x1024 .f32 := concatenate S4096x1024 1 [⟨S4096x512, a⟩, ⟨S4096x512, b⟩] concatenates_S4096x512_S4096x512_S4096x1024_d1
def tLeft (u : FVec Ideal S4096x1024 .f32) : FVec Ideal S4096x512 .f32 := extractStridedSlice S4096x512 ![0, 0] u slices_S4096x1024_S4096x512_0_0
def tRight (u : FVec Ideal S4096x1024 .f32) : FVec Ideal S4096x512 .f32 := extractStridedSlice S4096x512 ![0, 512] u slices_S4096x1024_S4096x512_0_512
def tSlabs (u : FVec Ideal S4x4096x128 .f32) : FVec Ideal S4096x128 .f32 :=
  addf (addf (addf (shapeCast S4096x128 (extractStridedSlice S1x4096x128 ![0, 0, 0] u slices_S4x4096x128_S1x4096x128_0_0_0) shapeCasts_S1x4096x128_S4096x128)
    (shapeCast S4096x128 (extractStridedSlice S1x4096x128 ![1, 0, 0] u slices_S4x4096x128_S1x4096x128_1_0_0) shapeCasts_S1x4096x128_S4096x128))
    (shapeCast S4096x128 (extractStridedSlice S1x4096x128 ![2, 0, 0] u slices_S4x4096x128_S1x4096x128_2_0_0) shapeCasts_S1x4096x128_S4096x128))
    (shapeCast S4096x128 (extractStridedSlice S1x4096x128 ![3, 0, 0] u slices_S4x4096x128_S1x4096x128_3_0_0) shapeCasts_S1x4096x128_S4096x128)
def tRoll (x : FVec Ideal S4096x128 .f32) : FVec Ideal S4096x128 .f32 :=
  concatenate S4096x128 1 [⟨S4096x64, extractStridedSlice S4096x64 ![0, 64] x slices_S4096x128_S4096x64_0_64⟩, ⟨S4096x64, extractStridedSlice S4096x64 ![0, 0] x slices_S4096x128_S4096x64_0_0⟩]
    concatenates_S4096x64_S4096x64_S4096x128_d1

theorem tLeft_at (a b : FVec Ideal S4096x512 .f32) (x : Fin 4096) (n : Fin 512) : tLeft (tCols a b) (ix2 x n) = a (ix2 x n) := by
  pointwise [tLeft, tCols]
theorem tRight_at (a b : FVec Ideal S4096x512 .f32) (x : Fin 4096) (n : Fin 512) : tRight (tCols a b) (ix2 x n) = b (ix2 x n) := by
  pointwise [tRight, tCols]
theorem tPart_at (b : FVec Ideal S4096x512 .f32) (x : Fin 4096) (t : Fin 4) (h : Fin 2) (e : Fin 32) :
    tPart b (ix4 x t h e) = b (ix2 x ⟨128 * t.val + 64 * h.val + e.val, by omega⟩) := by
  pointwise [tPart]
  exact congrArg (fun n => b (ix2 x n)) (Fin.ext (by dsimp only; omega))
theorem tTurn_at (b : FVec Ideal S4096x512 .f32) (x : Fin 4096) (t : Fin 4) (h : Fin 2) (e : Fin 32) :
    tTurn b (ix4 x t h e) = b (ix2 x ⟨128 * t.val + 64 * (1 - h.val) + e.val, by omega⟩) := by
  have hi : (fun a : Fin 4 => if a ∈ ([2] : List (Fin 4)) then ((ix4 x t h e : S4096x4x2x32.Idx) a).rev else (ix4 x t h e : S4096x4x2x32.Idx) a) = ix4 x t h.rev e := by
    funext a
    fin_cases a <;> rfl
  refine (congrArg (tPart b) hi).trans ((tPart_at b x t h.rev e).trans ?_)
  exact congrArg (fun n => b (ix2 x n)) (Fin.ext (by simp only [Fin.val_rev]; omega))
theorem tHeads_plain (a b : FVec Ideal S4096x512 .f32) (x : Fin 4096) (h : Fin 8) (d : Fin 96) (hd : d.val < 64) :
    tHeads a b (ix3 x h d) = a (ix2 x ⟨64 * h.val + d.val, by omega⟩) := by
  pointwise [tHeads]
  rw [dif_pos (by omega)]
  exact congrArg (fun n => a (ix2 x n)) (Fin.ext (by dsimp only; omega))
theorem tHeads_turned (a b : FVec Ideal S4096x512 .f32) (x : Fin 4096) (h : Fin 8) (d : Fin 96) (hd : 64 ≤ d.val) :
    tHeads a b (ix3 x h d) = b (ix2 x ⟨128 * (h.val / 2) + 64 * (1 - h.val % 2) + (d.val - 64), by omega⟩) := by
  pointwise [tHeads]
  rw [dif_neg (by omega)]
  rw [tTurn_at]
theorem tSlabs_at (u : FVec Ideal S4x4096x128 .f32) (x : Fin 4096) (l : Fin 128) :
    tSlabs u (ix2 x l) = u (ix3 0 x l) + u (ix3 1 x l) + u (ix3 2 x l) + u (ix3 3 x l) := by
  pointwise [tSlabs]
theorem tRoll_at (u : FVec Ideal S4096x128 .f32) (x : Fin 4096) (l : Fin 128) (hl : l.val < 64) : tRoll u (ix2 x l) = u (ix2 x ⟨64 + l.val, by omega⟩) := by
  pointwise [tRoll]
  rw [dif_pos hl]

theorem slice_plain (u : FVec Ideal S4096x8x96 .f32) (x : Fin 4096) (h : Fin 8) (d : Fin 64) :
    (extractStridedSlice S4096x8x64 ![0, 0, 0] u slices_S4096x8x96_S4096x8x64_0_0_0 : FVec Ideal S4096x8x64 .f32) (ix3 x h d) = u (ix3 x h ⟨d.val, by omega⟩) := by pointwise
theorem slice_turned (u : FVec Ideal S4096x8x96 .f32) (x : Fin 4096) (h : Fin 8) (e : Fin 32) :
    (extractStridedSlice S4096x8x32 ![0, 0, 64] u slices_S4096x8x96_S4096x8x32_0_0_64 : FVec Ideal S4096x8x32 .f32) (ix3 x h e) = u (ix3 x h ⟨64 + e.val, by omega⟩) := by pointwise

section
variable (W : Valuation τ sig (Elt Ideal))
theorem after_100 : StableHlo.after hostOps1 W main_v100 = tHeads (tLeft (tCols (extf .f32 (W main_v78_0 : FVec Ideal S4096x512 .bf16) bitsLt_bf16_f32) (W main_v78_3)))
    (tRight (tCols (extf .f32 (W main_v78_0 : FVec Ideal S4096x512 .bf16) bitsLt_bf16_f32) (W main_v78_3))) := by
  after_results
  rfl
theorem after_89 : StableHlo.after hostOps1 W main_v89 = tSlabs (W main_v78_4) := by
  after_results
  rfl
theorem after_103 (u : FVec Ideal S4096x8x96 .f32) (h : W main_v100 = u) :
    StableHlo.after hostOps1_2 (StableHlo.after hostOps1_1 W) main_v103 = extractStridedSlice S4096x8x64 ![0, 0, 0] u slices_S4096x8x96_S4096x8x64_0_0_0 := by
  after_results
  rw [h]
theorem after_104 (u : FVec Ideal S4096x8x96 .f32) (h : W main_v100 = u) :
    StableHlo.after hostOps1_2 (StableHlo.after hostOps1_1 W) main_v104 = extractStridedSlice S4096x8x32 ![0, 0, 64] u slices_S4096x8x96_S4096x8x32_0_0_64 := by
  after_results
  rw [h]
theorem after_107 (u : FVec Ideal S4096x128 .f32) (h : W main_v89 = u) :
    StableHlo.after hostOps1_2 (StableHlo.after hostOps1_1 W) main_v107 = extractStridedSlice S4096x32 ![0, 0] (addf u (tRoll u)) slices_S4096x128_S4096x32_0_0 := by
  after_results
  rw [h]
  rfl
theorem after_106 : StableHlo.after hostOps1_2 (StableHlo.after hostOps1_1 (StableHlo.after hostOps1 W)) main_v106
    = (shapeCast S4096x8x64 (extf .f32 (W main_v78_1 : FVec Ideal S4096x512 .bf16) bitsLt_bf16_f32) shapeCasts_S4096x512_S4096x8x64 : FVec Ideal S4096x8x64 .f32) := by
  after_results
  rfl
theorem after_109 : StableHlo.after hostOps1_2 (StableHlo.after hostOps1_1 (StableHlo.after hostOps1 W)) main_v109
    = (shapeCast S4096x8x64 (extf .f32 (W main_v78_2 : FVec Ideal S4096x512 .bf16) bitsLt_bf16_f32) shapeCasts_S4096x512_S4096x8x64 : FVec Ideal S4096x8x64 .f32) := by
  after_results
  rfl
end

/-- The arrays after the call. -/
def Wt : Valuation τ sig (Elt Ideal) := Pipeline.withArrays spec0 c (V0 m c) (fun w => (vals m 0 c).arrAt w (cfgs 0).N)
theorem tail_at (b : Ref sig .tc) : Pipeline.afterTail₀ cfgs (vals m) 0 (V0 m) [hostOps1, hostOps1_1, hostOps1_2] c b
    = StableHlo.after hostOps1_2 (StableHlo.after hostOps1_1 (StableHlo.after hostOps1 (Wt m c))) (Proc.devRef .tc b) := by
  unfold Pipeline.afterTail₀
  simp only [List.flatten_cons, List.flatten_nil, List.append_nil, StableHlo.after_append]
  rfl
theorem left_7 : (Wt m c main_v78_0 : S4096x512.Idx → EReal) = byCol (dqAt m c) := (left_at m c 7).trans (arr_7 m c)
theorem left_8 : (Wt m c main_v78_1 : S4096x512.Idx → EReal) = byCol (dkAt m c) := (left_at m c 8).trans (arr_8 m c)
theorem left_9 : (Wt m c main_v78_2 : S4096x512.Idx → EReal) = byCol (dvAt m c) := (left_at m c 9).trans (arr_9 m c)
theorem left_10 : (Wt m c main_v78_3 : S4096x512.Idx → EReal) = byCol (dqrAt m c) := (left_at m c 10).trans (arr_10 m c)
theorem left_11 : (Wt m c main_v78_4 : S4x4096x128.Idx → EReal) = krArr m c := (left_at m c 11).trans (arr_11 m c)

theorem byCol_at (f : Fin cfg0.N → ℕ → ℕ → EReal) (x : Fin 4096) (n : Fin 512) : byCol f (ix2 x n) = f (pairAt (n.val / 128)) x (n.val % 128) := rfl

theorem tail_103 (x : Fin 4096) (h : Fin 8) (d : Fin 64) : (Pipeline.afterTail₀ cfgs (vals m) 0 (V0 m) [hostOps1, hostOps1_1, hostOps1_2] c main_v103 : FVec Ideal S4096x8x64 .f32) (ix3 x h d)
    = dqAt m c (pairAt (h.val / 2)) x (64 * (h.val % 2) + d.val) := by
  rw [tail_at, after_103 _ _ (after_100 _)]
  refine (slice_plain _ x h d).trans ?_
  rw [tHeads_plain _ _ _ _ _ d.isLt, tLeft_at]
  refine (congrFun (left_7 m c) _).trans ?_
  rw [byCol_at]
  congr 2 <;> dsimp only <;> omega
theorem tail_104 (x : Fin 4096) (h : Fin 8) (e : Fin 32) : (Pipeline.afterTail₀ cfgs (vals m) 0 (V0 m) [hostOps1, hostOps1_1, hostOps1_2] c main_v104 : FVec Ideal S4096x8x32 .f32) (ix3 x h e)
    = dqrAt m c (pairAt (h.val / 2)) x (64 * (1 - h.val % 2) + e.val) := by
  rw [tail_at, after_104 _ _ (after_100 _)]
  refine (slice_turned _ x h e).trans ?_
  rw [tHeads_turned _ _ _ _ _ (by dsimp only; omega), tRight_at]
  refine (congrFun (left_10 m c) _).trans ?_
  rw [byCol_at]
  congr 2 <;> dsimp only <;> omega
theorem tail_106 (x : Fin 4096) (h : Fin 8) (d : Fin 64) : (Pipeline.afterTail₀ cfgs (vals m) 0 (V0 m) [hostOps1, hostOps1_1, hostOps1_2] c main_v106 : FVec Ideal S4096x8x64 .f32) (ix3 x h d)
    = dkAt m c (pairAt (h.val / 2)) x (64 * (h.val % 2) + d.val) := by
  rw [tail_at, after_106]
  refine (show _ = (Wt m c main_v78_1 : FVec Ideal S4096x512 .bf16) (ix2 x ⟨h.val * 64 + d.val, by omega⟩) by pointwise).trans ?_
  refine (congrFun (left_8 m c) _).trans ?_
  rw [byCol_at]
  congr 2 <;> dsimp only <;> omega
theorem tail_109 (x : Fin 4096) (h : Fin 8) (d : Fin 64) : (Pipeline.afterTail₀ cfgs (vals m) 0 (V0 m) [hostOps1, hostOps1_1, hostOps1_2] c main_v109 : FVec Ideal S4096x8x64 .f32) (ix3 x h d)
    = dvAt m c (pairAt (h.val / 2)) x (64 * (h.val % 2) + d.val) := by
  rw [tail_at, after_109]
  refine (show _ = (Wt m c main_v78_2 : FVec Ideal S4096x512 .bf16) (ix2 x ⟨h.val * 64 + d.val, by omega⟩) by pointwise).trans ?_
  refine (congrFun (left_9 m c) _).trans ?_
  rw [byCol_at]
  congr 2 <;> dsimp only <;> omega
theorem tail_107 (x : Fin 4096) (e : Fin 32) : (Pipeline.afterTail₀ cfgs (vals m) 0 (V0 m) [hostOps1, hostOps1_1, hostOps1_2] c main_v107 : FVec Ideal S4096x32 .f32) (ix2 x e)
    = (dkrAt m c (pairAt 0) x e + dkrAt m c (pairAt 1) x e + dkrAt m c (pairAt 2) x e + dkrAt m c (pairAt 3) x e)
      + (dkrAt m c (pairAt 0) x (64 + e) + dkrAt m c (pairAt 1) x (64 + e) + dkrAt m c (pairAt 2) x (64 + e) + dkrAt m c (pairAt 3) x (64 + e)) := by
  rw [tail_at, after_107 _ _ (after_89 _)]
  have h := fun i => congrFun (left_11 m c) i
  generalize Wt m c main_v78_4 = u at h ⊢
  refine (show _ = tSlabs u (ix2 x ⟨e.val, by omega⟩) + tRoll (tSlabs u) (ix2 x ⟨e.val, by omega⟩) by generalize tSlabs u = s; generalize tRoll s = r; pointwise).trans ?_
  rw [tRoll_at _ _ _ (by dsimp only; omega), tSlabs_at, tSlabs_at]
  simp only [h]
  rfl
end Cert.Proof.Mla
end
-- ==== Proof.Mla.Inputs.lean ====
module

public import proofs.«01_k».proof.Proof.Mla.Operands
public import proofs.«01_k».proof.Proof.Mla.Arrays

/-! The call's results from real arguments. -/

@[expose] public section
set_option maxRecDepth 16384
noncomputable section
namespace Cert.Proof.Mla
open Idealize.ShloMosaic Idealize.ShloMosaic.TcCoe Idealize.SL.Sem
open Cert.MlaIdeal Cert.MlaIdeal.Gen
open Cert.Proof.Fox (coe_sum Finite real_at ofNat_val fin_nat)

variable (m : (ℓ : Loc nD τ sig) → Buf (Elt Ideal) ℓ) (c : Dev nD)

/-- The arguments are real. -/
structure Args : Prop where
  q : Finite (s := S4096x8x64) (φ := .f32) (m (c.tc.loc main_arg0))
  r : Finite (s := S4096x8x32) (φ := .f32) (m (c.tc.loc main_arg1))
  k : Finite (s := S4096x8x64) (φ := .f32) (m (c.tc.loc main_arg2))
  kr : Finite (s := S4096x32) (φ := .f32) (m (c.tc.loc main_arg3))
  v : Finite (s := S4096x8x64) (φ := .f32) (m (c.tc.loc main_arg4))
  o : Finite (s := S4096x8x64) (φ := .f32) (m (c.tc.loc main_arg5))

def R : Reals := realsOf (m (c.tc.loc main_arg0)) (m (c.tc.loc main_arg1)) (m (c.tc.loc main_arg2)) (m (c.tc.loc main_arg3)) (m (c.tc.loc main_arg4)) (m (c.tc.loc main_arg5))

variable {m c}
section
variable (A : Args m c) (t : Fin cfg0.N)
include A

theorem in_q (x : Fin 4096) (l : Fin 128) : (iblk m c 0 t : FVec Ideal S4096x128 .bf16) (ix2 x l)
    = (((R m c).q x (2 * t + l / 64) (l % 64) * (scale * (Real.log 2)⁻¹) : ℝ) : EReal) := by
  have ht := t.isLt
  have hN := N4
  rw [blk_0, entry_q, hQ_at, hPlain_at, hHeads_plain _ _ _ _ _ _ (by dsimp only; omega), real_at3 A.q]
  refine Eq.trans (congrArg (fun z : EReal => z * ((scale * (Real.log 2)⁻¹ : ℝ) : EReal)) ?_) (EReal.coe_mul _ _).symm
  show ((R m c).q x (2 * ((128 * t.val + l.val) / 128) + (128 * t.val + l.val) / 64 % 2) ((128 * t.val + l.val) % 64) : EReal) = _
  rw [show 2 * ((128 * t.val + l.val) / 128) + (128 * t.val + l.val) / 64 % 2 = 2 * t.val + l.val / 64 by omega, show (128 * t.val + l.val) % 64 = l.val % 64 by omega]
theorem in_qr (x : Fin 4096) (l : Fin 128) : (iblk m c 5 t : FVec Ideal S4096x128 .bf16) (ix2 x l)
    = ((Reals.turned ((R m c).qr x (2 * t + (1 - l / 64))) l * (scale * (Real.log 2)⁻¹) : ℝ) : EReal) := by
  have ht := t.isLt
  have hN := N4
  rw [blk_5, entry_qr, hQr_at]
  refine Eq.trans (congrArg (fun z : EReal => z * ((scale * (Real.log 2)⁻¹ : ℝ) : EReal)) ?_) (EReal.coe_mul _ _).symm
  rw [Reals.turned]
  by_cases h : l.val % 64 < 32
  · rw [if_pos h]
    by_cases h64 : l.val < 64
    · rw [hTurned_second _ _ _ _ (by dsimp only; omega), hHeads_turned _ _ _ _ _ _ (by dsimp only; omega), real_at3 A.r]
      show ((R m c).qr x (2 * ((128 * t.val + l.val) / 128) + 1) (64 + (128 * t.val + l.val) % 128 - 64) : EReal) = _
      rw [show 2 * ((128 * t.val + l.val) / 128) + 1 = 2 * t.val + (1 - l.val / 64) by omega, show 64 + (128 * t.val + l.val) % 128 - 64 = l.val % 64 by omega]
    · rw [hTurned_first _ _ _ _ (by dsimp only; omega) (by dsimp only; omega), hHeads_turned _ _ _ _ _ _ (by dsimp only; omega), real_at3 A.r]
      show ((R m c).qr x (2 * ((128 * t.val + l.val) / 128) + 0) ((128 * t.val + l.val) % 128 - 64) : EReal) = _
      rw [show 2 * ((128 * t.val + l.val) / 128) + 0 = 2 * t.val + (1 - l.val / 64) by omega, show (128 * t.val + l.val) % 128 - 64 = l.val % 64 by omega]
  · rw [if_neg h, hTurned_zero _ _ _ _ (by dsimp only; omega), EReal.coe_zero]
theorem in_k (x : Fin 4096) (l : Fin 128) : (iblk m c 1 t : FVec Ideal S4096x128 .bf16) (ix2 x l) = ((R m c).k x (2 * t + l / 64) (l % 64) : EReal) := by
  have ht := t.isLt
  have hN := N4
  rw [blk_1, entry_k, hK_at, real_at3 A.k]
  show ((R m c).k x ((128 * t.val + l.val) / 64) ((128 * t.val + l.val) % 64) : EReal) = _
  rw [show (128 * t.val + l.val) / 64 = 2 * t.val + l.val / 64 by omega, show (128 * t.val + l.val) % 64 = l.val % 64 by omega]
theorem in_v (x : Fin 4096) (l : Fin 128) : (iblk m c 2 t : FVec Ideal S4096x128 .bf16) (ix2 x l) = ((R m c).v x (2 * t + l / 64) (l % 64) : EReal) := by
  have ht := t.isLt
  have hN := N4
  rw [blk_2, entry_v, hV_at, real_at3 A.v]
  show ((R m c).v x ((128 * t.val + l.val) / 64) ((128 * t.val + l.val) % 64) : EReal) = _
  rw [show (128 * t.val + l.val) / 64 = 2 * t.val + l.val / 64 by omega, show (128 * t.val + l.val) % 64 = l.val % 64 by omega]
omit A in
theorem flat_at (o : FVec Ideal S4096x8x64 .f32) (x : Fin 4096) (n : Fin 512) :
    (truncf .bf16 (shapeCast S4096x512 o shapeCasts_S4096x8x64_S4096x512) bitsLt_bf16_f32 : FVec Ideal S4096x512 .bf16) (ix2 x n)
      = o (ix3 x ⟨n.val / 64, by omega⟩ ⟨n.val % 64, by omega⟩) := by
  pointwise
theorem in_o (x : Fin 4096) (l : Fin 128) : (iblk m c 3 t : FVec Ideal S4096x128 .bf16) (ix2 x l) = ((R m c).o x (2 * t + l / 64) (l % 64) : EReal) := by
  have ht := t.isLt
  have hN := N4
  rw [blk_3, entry_do, flat_at, real_at3 A.o]
  show ((R m c).o x ((128 * t.val + l.val) / 64) ((128 * t.val + l.val) % 64) : EReal) = _
  rw [show (128 * t.val + l.val) / 64 = 2 * t.val + l.val / 64 by omega, show (128 * t.val + l.val) % 64 = l.val % 64 by omega]
theorem in_kr (x : Fin 4096) (l : Fin 128) : (iblk m c 6 t : FVec Ideal S4096x128 .bf16) (ix2 x l) = (Reals.turned ((R m c).kr x) l : EReal) := by
  rw [blk_6, entry_kr, Reals.turned]
  by_cases h : l.val % 64 < 32
  · rw [if_pos h, hKr_in _ _ _ h, real_at A.kr]
    rfl
  · rw [if_neg h, hKr_out _ _ _ (by omega), EReal.coe_zero]

omit A in
theorem packed_at (x : Fin 4096) (n : Fin 128) : packed m c t x n = (V m c main_v75 : FVec Ideal S4096x128 .f32) (ix2 x n) :=
  (blk_4 m c t _ _).trans (by rw [ofNat_val, ofNat_val])

theorem in_pack : ∃ μ : ℕ → ℕ → ℝ, ∀ t : Fin cfg0.N, ∀ x : Fin 4096,
    (∀ n < 8, packed m c t x n = ((-((μ n x + Real.log ((R m c).l n x (μ n x))) * (Real.log 2)⁻¹) : ℝ) : EReal))
    ∧ (∀ n < 8, packed m c t x (8 + n) = ((R m c).e n x : EReal)) := by
  obtain ⟨μ, H⟩ := stages (v := m (c.tc.loc main_arg4)) (o := m (c.tc.loc main_arg5)) A.q A.r A.k A.kr
  refine ⟨μ, fun t x => ⟨fun n hn => ?_, fun n hn => ?_⟩⟩
  · refine (packed_at t x ⟨n, by omega⟩).trans ?_
    rw [entry_pack, hPack_a _ _ _ _ hn, hA, hOff_at]
    obtain ⟨h1, -, h3⟩ := H ⟨n, hn⟩ x
    rw [h1, h3, Ideal.log_coe, if_neg (not_le.2 (Reals.l_pos _ _ x.isLt _)), ← EReal.coe_add, ← EReal.coe_mul, ← EReal.coe_neg]
    rfl
  · refine (packed_at t x ⟨8 + n, by omega⟩).trans ?_
    rw [entry_pack, hPack_d _ _ _ _ hn, hD]
    refine rowsum A.v A.o (fun h x y => ?_) ⟨n, hn⟩ x
    obtain ⟨-, h2, h3⟩ := H h x
    rw [hP_at, h2, h3]
    exact Reals.weight _ _ _ _ _

theorem ins_q (x l : ℕ) : (ins m c t).q x l = (((R m c).q (Fin.ofNat 4096 x).val (2 * t + (Fin.ofNat 128 l).val / 64) ((Fin.ofNat 128 l).val % 64) * (scale * (Real.log 2)⁻¹) : ℝ) : EReal) := in_q A t (Fin.ofNat 4096 x) (Fin.ofNat 128 l)
theorem ins_qr (x l : ℕ) : (ins m c t).qr x l = ((Reals.turned ((R m c).qr (Fin.ofNat 4096 x).val (2 * t + (1 - (Fin.ofNat 128 l).val / 64))) (Fin.ofNat 128 l).val * (scale * (Real.log 2)⁻¹) : ℝ) : EReal) := in_qr A t (Fin.ofNat 4096 x) (Fin.ofNat 128 l)
theorem ins_k (x l : ℕ) : (ins m c t).k x l = ((R m c).k (Fin.ofNat 4096 x).val (2 * t + (Fin.ofNat 128 l).val / 64) ((Fin.ofNat 128 l).val % 64) : EReal) := in_k A t (Fin.ofNat 4096 x) (Fin.ofNat 128 l)
theorem ins_kr (x l : ℕ) : (ins m c t).kr x l = (Reals.turned ((R m c).kr (Fin.ofNat 4096 x).val) (Fin.ofNat 128 l).val : EReal) := in_kr A t (Fin.ofNat 4096 x) (Fin.ofNat 128 l)
theorem ins_V (x l : ℕ) : (ins m c t).V x l = ((R m c).v (Fin.ofNat 4096 x).val (2 * t + (Fin.ofNat 128 l).val / 64) ((Fin.ofNat 128 l).val % 64) : EReal) := in_v A t (Fin.ofNat 4096 x) (Fin.ofNat 128 l)
theorem ins_O (x l : ℕ) : (ins m c t).O x l = ((R m c).o (Fin.ofNat 4096 x).val (2 * t + (Fin.ofNat 128 l).val / 64) ((Fin.ofNat 128 l).val % 64) : EReal) := in_o A t (Fin.ofNat 4096 x) (Fin.ofNat 128 l)
omit A in
theorem ins_A (h x : ℕ) : (ins m c t).A h x = packed m c t x (2 * t + h) := rfl
omit A in
theorem ins_D (h x : ℕ) : (ins m c t).D h x = packed m c t x (8 + (2 * t + h)) := by
  rw [← Nat.add_assoc]
  rfl

theorem isReal : ∃ μ : ℕ → ℕ → ℝ, ∀ t : Fin cfg0.N, IsReal (ins m c t) (R m c) t μ := by
  obtain ⟨μ, H⟩ : ∃ μ : ℕ → ℕ → ℝ, ∀ t : Fin cfg0.N, ∀ x < 4096,
      (∀ n < 8, packed m c t x n = ((-((μ n x + Real.log ((R m c).l n x (μ n x))) * (Real.log 2)⁻¹) : ℝ) : EReal)) ∧ (∀ n < 8, packed m c t x (8 + n) = ((R m c).e n x : EReal)) := by
    obtain ⟨μ, H⟩ := in_pack A
    exact ⟨μ, fun t x hx => H t ⟨x, hx⟩⟩
  refine ⟨μ, fun t => ?_⟩
  have h8 : ∀ h < 2, 2 * t.val + h < 8 := by
    have ht := t.isLt
    have hN := N4
    omega
  constructor
  · intro x l hx hl; rw [ins_q A, fin_nat hx, fin_nat hl]
  · intro x l hx hl; rw [ins_qr A, fin_nat hx, fin_nat hl]
  · intro x l hx hl; rw [ins_k A, fin_nat hx, fin_nat hl]
  · intro x l hx hl; rw [ins_kr A, fin_nat hx, fin_nat hl]
  · intro x l hx hl; rw [ins_V A, fin_nat hx, fin_nat hl]
  · intro x l hx hl; rw [ins_O A, fin_nat hx, fin_nat hl]
  · intro h x hh hx
    rw [ins_A, (H t x hx).1 (2 * t.val + h) (h8 h hh)]
  · intro h x hh hx
    rw [ins_D, (H t x hx).2 (2 * t.val + h) (h8 h hh)]

/-- The pair and the head's place in it. -/
theorem pair_head (n : ℕ) (hn : n < 8) : 2 * (pairAt (n / 2)).val + n % 2 = n := by
  show 2 * (n / 2 % 4) + n % 2 = _
  omega

theorem dq_at (x : Fin 4096) (h : Fin 8) (d : Fin 64) : dqAt m c (pairAt (h.val / 2)) x (64 * (h.val % 2) + d) = ((R m c).gq x h d : EReal) := by
  obtain ⟨μ, I⟩ := isReal A
  exact ((I (pairAt (h.val / 2))).gq (Nat.mod_lt _ (by norm_num)) x.isLt d.isLt).trans (by rw [pair_head A h h.isLt])
theorem dqr_at (x : Fin 4096) (h : Fin 8) (e : Fin 32) : dqrAt m c (pairAt (h.val / 2)) x (64 * (1 - h.val % 2) + e) = ((R m c).gqr x h e : EReal) := by
  obtain ⟨μ, I⟩ := isReal A
  exact ((I (pairAt (h.val / 2))).gqr (Nat.mod_lt _ (by norm_num)) x.isLt e.isLt).trans (by rw [pair_head A h h.isLt])
theorem dk_at (x : Fin 4096) (h : Fin 8) (d : Fin 64) : dkAt m c (pairAt (h.val / 2)) x (64 * (h.val % 2) + d) = ((R m c).gk x h d : EReal) := by
  obtain ⟨μ, I⟩ := isReal A
  exact ((I (pairAt (h.val / 2))).gk (Nat.mod_lt _ (by norm_num)) x.isLt d.isLt).trans (by rw [pair_head A h h.isLt])
theorem dv_at (x : Fin 4096) (h : Fin 8) (d : Fin 64) : dvAt m c (pairAt (h.val / 2)) x (64 * (h.val % 2) + d) = ((R m c).gv x h d : EReal) := by
  obtain ⟨μ, I⟩ := isReal A
  exact ((I (pairAt (h.val / 2))).gv (Nat.mod_lt _ (by norm_num)) x.isLt d.isLt).trans (by rw [pair_head A h h.isLt])
/-- A head's part of the turned keys' gradient, -/
theorem dkr_one (x : Fin 4096) (n : ℕ) (e : Fin 32) : dkrAt m c (pairAt n) x e = ((R m c).gkrh x (2 * (n % 4) + 1) e : EReal) := by
  obtain ⟨μ, I⟩ := isReal A
  have h := (I (pairAt n)).gkr (h := 1) (by norm_num) x.isLt e.isLt
  rw [show 64 * (1 - 1) + e.val = e.val by omega] at h
  exact h
theorem dkr_zero (x : Fin 4096) (n : ℕ) (e : Fin 32) : dkrAt m c (pairAt n) x (64 + e) = ((R m c).gkrh x (2 * (n % 4)) e : EReal) := by
  obtain ⟨μ, I⟩ := isReal A
  exact (I (pairAt n)).gkr (h := 0) (by norm_num) x.isLt e.isLt
/-- and the eight together. -/
theorem dkr_at (x : Fin 4096) (e : Fin 32) :
    (dkrAt m c (pairAt 0) x e + dkrAt m c (pairAt 1) x e + dkrAt m c (pairAt 2) x e + dkrAt m c (pairAt 3) x e)
      + (dkrAt m c (pairAt 0) x (64 + e) + dkrAt m c (pairAt 1) x (64 + e) + dkrAt m c (pairAt 2) x (64 + e) + dkrAt m c (pairAt 3) x (64 + e))
    = ((R m c).gkr x e : EReal) := by
  simp only [dkr_one A, dkr_zero A, ← EReal.coe_add, Reals.gkr, Fin.sum_univ_eight]
  congr 1
  simp only [Nat.zero_mod, Nat.mul_zero, Nat.zero_add]
  norm_num
  ring
end
end Cert.Proof.Mla
end
-- ==== Proof.Mla.Ref.lean ====
module

public import proofs.«01_k».proof.Proof.Mla.Operands
public import proofs.«01_k».proof.Proof.Gen.MlaRefIdeal.Read

/-! What the reference of the latent attention's backward computes. -/

@[expose] public section
set_option maxRecDepth 16384
noncomputable section
namespace Cert.Proof.Mla
open Idealize.ShloMosaic Idealize.ShloMosaic.TcCoe Idealize.SL.Sem
open Cert.MlaRefIdeal Cert.MlaRefIdeal.Gen Cert.MlaRefIdeal.Read
open Cert.Proof.Fox (bits_bot)

section
variable (q : FVec Ideal S4096x8x64 .f32) (r : FVec Ideal S4096x8x32 .f32) (k : FVec Ideal S4096x8x64 .f32) (kr : FVec Ideal S4096x32 .f32) (v o : FVec Ideal S4096x8x64 .f32)

theorem r5 (h : Fin 8) (x y : Fin 4096) : val_main_v5 (F := Ideal) q r k kr (ix3 h x y)
    = (∑ d : Fin 64, q (ix3 x h d) * k (ix3 y h d)) + ∑ e : Fin 32, kr (ix2 y e) * r (ix3 x h e) := by
  pointwise [val_main_v5, val_main_v4, val_main_v3, val_main_v2]
theorem r12 (h : Fin 8) (x y : Fin 4096) : val_main_v12 (F := Ideal) q r k kr (ix3 h x y) = val_main_v5 (F := Ideal) q r k kr (ix3 h x y) * (scale : EReal) := by
  rw [val_main_v12_apply, val_main_v11_apply, show ∀ i, val_main_cst (F := Ideal) i = (scale : EReal) from fun _ => bits_scale]
  rfl
theorem r1 : ∀ x : Fin 4096, val_main_v1 (F := Ideal) (ix1 x) = BitVec.ofNat 32 (x.val / 64) := by
  decide +kernel
theorem r10 (x y : Fin 4096) : val_main_v10 (F := Ideal) (ix2 x y) = if y.val / 64 ≤ x.val / 64 then 1#1 else 0#1 := by
  have h := r1
  unfold val_main_v10 val_main_v9 val_main_v8 val_main_v7 val_main_v6
  generalize val_main_v1 (F := Ideal) = u at h ⊢
  pointwise
  simp only [h]
  simp (disch := word_cmp_side) only [hlo_ix]
  by_cases e : y.val / 64 ≤ x.val / 64
  · rw [if_pos e, decide_eq_true e]; rfl
  · rw [if_neg e, decide_eq_false e]; rfl
theorem r13_1 (h : Fin 8) (x y : Fin 4096) : val_main_v13_1 (F := Ideal) (ix3 h x y) = if y.val / 64 ≤ x.val / 64 then 1#1 else 0#1 := by
  rw [← r10]
  unfold val_main_v13_1
  generalize val_main_v10 (F := Ideal) = u
  pointwise
theorem r13 (h : Fin 8) (x y : Fin 4096) : val_main_v13_0 (F := Ideal) q r k kr (ix3 h x y) = if y.val / 64 ≤ x.val / 64 then val_main_v12 (F := Ideal) q r k kr (ix3 h x y) else ⊥ := by
  rw [val_main_v13_0_apply, r13_1]
  generalize val_main_v12 (F := Ideal) q r k kr (ix3 h x y) = s
  rw [val_main_call1_v2_apply, show ∀ i, val_main_call1_v0 (F := Ideal) i = ⊥ from fun _ => bits_bot]
  by_cases e : y.val / 64 ≤ x.val / 64
  · rw [if_pos e, if_pos e]; rfl
  · rw [if_neg e, if_neg e]; rfl
theorem r21 (h : Fin 8) (x : Fin 4096) : val_main_v21 (F := Ideal) q r k kr (ix2 h x) = Finset.univ.fold max ⊥ fun y : Fin 4096 => val_main_v13_0 (F := Ideal) q r k kr (ix3 h x y) := by
  have e : val_main_v14 (F := Ideal) q r k kr (ix2 h x) = Finset.univ.fold max ⊥ fun y : Fin 4096 => val_main_v13_0 (F := Ideal) q r k kr (ix3 h x y) := by
    unfold val_main_v14
    generalize val_main_v13_0 (F := Ideal) q r k kr = s
    pointwise [val_main_cst_1]
    rw [bits_bot]
  rw [← e, val_main_v21_apply, val_main_v20_apply, show ∀ i, val_main_cst_3 (F := Ideal) i = ⊥ from fun _ => bits_bot]
  exact max_bot_left _
theorem r34 (h : Fin 8) (x y : Fin 4096) : val_main_v34 (F := Ideal) q r k kr (ix3 h x y) = Ideal.exp (val_main_v13_0 (F := Ideal) q r k kr (ix3 h x y) - val_main_v21 (F := Ideal) q r k kr (ix2 h x)) := by
  unfold val_main_v34 val_main_v33 val_main_v32 val_main_v31
  generalize val_main_v13_0 (F := Ideal) q r k kr = s
  generalize val_main_v21 (F := Ideal) q r k kr = μ
  pointwise
theorem r35 (h : Fin 8) (x : Fin 4096) : val_main_v35 (F := Ideal) q r k kr (ix2 h x) = ∑ y : Fin 4096, val_main_v34 (F := Ideal) q r k kr (ix3 h x y) := by
  unfold val_main_v35
  generalize val_main_v34 (F := Ideal) q r k kr = s
  pointwise [val_main_cst_9]
theorem r38 (h : Fin 8) (x y : Fin 4096) : val_main_v38 (F := Ideal) q r k kr (ix3 h x y) = Ideal.div (val_main_v34 (F := Ideal) q r k kr (ix3 h x y)) (val_main_v35 (F := Ideal) q r k kr (ix2 h x)) := by
  unfold val_main_v38 val_main_v37 val_main_v36
  generalize val_main_v34 (F := Ideal) q r k kr = s
  generalize val_main_v35 (F := Ideal) q r k kr = l
  pointwise
theorem r45 (h : Fin 8) (x y : Fin 4096) : val_main_v45 (F := Ideal) v o (ix3 h x y) = ∑ d : Fin 64, o (ix3 x h d) * v (ix3 y h d) := by
  pointwise [val_main_v45, val_main_v44]
theorem r47 (x : Fin 4096) (h : Fin 8) (d : Fin 64) : val_main_v47 (F := Ideal) q r k kr o (ix3 x h d)
    = ∑ j : Fin 4096, o (ix3 j h d) * val_main_v38 (F := Ideal) q r k kr (ix3 h j x) := by
  unfold val_main_v47 val_main_v46
  generalize val_main_v38 (F := Ideal) q r k kr = p
  pointwise [val_main_v44]
theorem r51 (h : Fin 8) (x : Fin 4096) : val_main_v51 (F := Ideal) q r k kr v o (ix2 h x)
    = ∑ y : Fin 4096, val_main_v45 (F := Ideal) v o (ix3 h x y) * Ideal.div 1 (val_main_v35 (F := Ideal) q r k kr (ix2 h x) * val_main_v35 (F := Ideal) q r k kr (ix2 h x)) * val_main_v34 (F := Ideal) q r k kr (ix3 h x y) := by
  unfold val_main_v51 val_main_v50 val_main_v49 val_main_v48 val_main_v41 val_main_v40 val_main_v39 val_main_v36
  generalize val_main_v45 (F := Ideal) v o = d
  generalize val_main_v34 (F := Ideal) q r k kr = s
  generalize val_main_v35 (F := Ideal) q r k kr = l
  pointwise [val_main_cst_10, val_main_cst_11]
theorem r59 (h : Fin 8) (x y : Fin 4096) : val_main_v59 (F := Ideal) q r k kr v o (ix3 h x y)
    = (Ideal.div (val_main_v45 (F := Ideal) v o (ix3 h x y)) (val_main_v35 (F := Ideal) q r k kr (ix2 h x)) + -val_main_v51 (F := Ideal) q r k kr v o (ix2 h x)) * val_main_v34 (F := Ideal) q r k kr (ix3 h x y) := by
  unfold val_main_v59 val_main_v58 val_main_v57 val_main_v56 val_main_v55 val_main_v54 val_main_v53 val_main_v52 val_main_v36
  generalize val_main_v45 (F := Ideal) v o = d
  generalize val_main_v51 (F := Ideal) q r k kr v o = e
  generalize val_main_v34 (F := Ideal) q r k kr = s
  generalize val_main_v35 (F := Ideal) q r k kr = l
  pointwise [val_main_cst_12]
  simp only [Finset.univ_unique, Finset.sum_singleton]
theorem r60 (h : Fin 8) (x y : Fin 4096) : val_main_v60 (F := Ideal) q r k kr v o (ix3 h x y) = if y.val / 64 ≤ x.val / 64 then val_main_v59 (F := Ideal) q r k kr v o (ix3 h x y) else 0 := by
  rw [val_main_v60_apply, r13_1]
  generalize val_main_v59 (F := Ideal) q r k kr v o (ix3 h x y) = s
  rw [val_main_call2_v0_apply, show ∀ i, val_main_call2_cst (F := Ideal) i = 0 from fun _ => Ideal.ofBits_zero_f32]
  by_cases e : y.val / 64 ≤ x.val / 64
  · rw [if_pos e, if_pos e]; rfl
  · rw [if_neg e, if_neg e]; rfl
theorem r62 (h : Fin 8) (x y : Fin 4096) : val_main_v62 (F := Ideal) q r k kr v o (ix3 h x y) = val_main_v60 (F := Ideal) q r k kr v o (ix3 h x y) * (scale : EReal) := by
  rw [val_main_v62_apply, val_main_v61_apply, show ∀ i, val_main_cst_13 (F := Ideal) i = (scale : EReal) from fun _ => bits_scale]
  rfl
theorem r64 (x : Fin 4096) (h : Fin 8) (e : Fin 32) : val_main_v64 (F := Ideal) q r k kr v o (ix3 x h e)
    = ∑ j : Fin 4096, val_main_v62 (F := Ideal) q r k kr v o (ix3 h x j) * kr (ix2 j e) := by
  unfold val_main_v64 val_main_v63
  generalize val_main_v62 (F := Ideal) q r k kr v o = s
  pointwise
theorem r65 (x : Fin 4096) (e : Fin 32) : val_main_v65 (F := Ideal) q r k kr v o (ix2 x e)
    = ∑ j : Fin 4096, ∑ h : Fin 8, val_main_v62 (F := Ideal) q r k kr v o (ix3 h j x) * r (ix3 j h e) := by
  unfold val_main_v65 val_main_v63
  generalize val_main_v62 (F := Ideal) q r k kr v o = s
  pointwise
theorem r67 (x : Fin 4096) (h : Fin 8) (d : Fin 64) : val_main_v67 (F := Ideal) q r k kr v o (ix3 x h d)
    = ∑ j : Fin 4096, val_main_v62 (F := Ideal) q r k kr v o (ix3 h j x) * q (ix3 j h d) := by
  unfold val_main_v67 val_main_v66
  generalize val_main_v62 (F := Ideal) q r k kr v o = s
  pointwise
theorem r69 (x : Fin 4096) (h : Fin 8) (d : Fin 64) : val_main_v69 (F := Ideal) q r k kr v o (ix3 x h d)
    = ∑ j : Fin 4096, val_main_v62 (F := Ideal) q r k kr v o (ix3 h x j) * k (ix3 j h d) := by
  unfold val_main_v69 val_main_v68
  generalize val_main_v62 (F := Ideal) q r k kr v o = s
  pointwise
end
end Cert.Proof.Mla
end
-- ==== Proof.Mla.RefReal.lean ====
module

public import proofs.«01_k».proof.Proof.Mla.Ref

/-! The reference's results as the real gradients. -/

@[expose] public section
set_option maxRecDepth 16384
noncomputable section
namespace Cert.Proof.Mla
open Idealize.ShloMosaic Idealize.ShloMosaic.TcCoe Idealize.SL.Sem
open Cert.MlaRefIdeal Cert.MlaRefIdeal.Gen Cert.MlaRefIdeal.Read
open Cert.Proof.Fox (coe_sum Finite real_at ofNat_val)

section
variable {q : FVec Ideal S4096x8x64 .f32} {r : FVec Ideal S4096x8x32 .f32} {k : FVec Ideal S4096x8x64 .f32} {kr : FVec Ideal S4096x32 .f32} {v o : FVec Ideal S4096x8x64 .f32}
  (hq : Finite q) (hr : Finite r) (hk : Finite k) (hkr : Finite kr) (hv : Finite v) (ho : Finite o)

include hq hr hk hkr in
theorem rstages : ∃ μ : ℕ → ℕ → ℝ, ∀ (h : Fin 8) (x : Fin 4096),
    (∀ y : Fin 4096, val_main_v34 (F := Ideal) q r k kr (ix3 h x y) = ((realsOf q r k kr v o).ex h x (μ h x) y : EReal))
    ∧ val_main_v35 (F := Ideal) q r k kr (ix2 h x) = ((realsOf q r k kr v o).l h x (μ h x) : EReal) := by
  have H : ∀ (h : Fin 8) (x : Fin 4096), ∃ μ : ℝ, ∀ y : Fin 4096, val_main_v34 (F := Ideal) q r k kr (ix3 h x y) = ((realsOf q r k kr v o).ex h x μ y : EReal) := by
    intro h x
    obtain ⟨μ, h1, h2⟩ := (realsOf q r k kr v o).soft h x (fun y => val_main_v13_0 (F := Ideal) q r k kr (ix3 h x y)) (fun y => by rw [r13, r12, r5, score_real hq hr hk hkr])
    refine ⟨μ, fun y => ?_⟩
    rw [r34, r21, h1]
    exact h2 y
  choose μ h1 using H
  refine ⟨fun h x => μ (Fin.ofNat 8 h) (Fin.ofNat 4096 x), fun h x => ?_⟩
  simp only [ofNat_val]
  refine ⟨h1 h x, ?_⟩
  rw [r35, Finset.sum_congr rfl fun y _ => h1 h x y]
  exact Reals.l_fin _ _ _ _

include hv ho in
theorem rdp (h : Fin 8) (x y : Fin 4096) : val_main_v45 (F := Ideal) v o (ix3 h x y) = ((realsOf q r k kr v o).dp h x y : EReal) := by
  rw [r45]
  simp only [fun d : Fin 64 => real_at3 ho x h d, fun d : Fin 64 => real_at3 hv y h d, ← EReal.coe_mul]
  rw [← coe_sum]
  rfl

include hq hr hk hkr in
theorem rp (h : Fin 8) (x y : Fin 4096) : val_main_v38 (F := Ideal) q r k kr (ix3 h x y) = ((realsOf q r k kr v o).p h x y : EReal) := by
  obtain ⟨μ, H⟩ := rstages (v := v) (o := o) hq hr hk hkr
  rw [r38, (H h x).1, (H h x).2]
  exact Reals.weight _ _ _ _ _

include hq hr hk hkr hv ho in
theorem rds (h : Fin 8) (x y : Fin 4096) : val_main_v62 (F := Ideal) q r k kr v o (ix3 h x y) = (((realsOf q r k kr v o).ds h x y * scale : ℝ) : EReal) := by
  obtain ⟨μ, H⟩ := rstages (v := v) (o := o) hq hr hk hkr
  have hl := ((realsOf q r k kr v o).l_pos h x.isLt (μ h x)).ne'
  have e : val_main_v59 (F := Ideal) q r k kr v o (ix3 h x y) = ((realsOf q r k kr v o).ds h x y : EReal) := by
    rw [r59, r51, (H h x).2]
    simp only [(H h x).1, rdp (q := q) (r := r) (k := k) (kr := kr) hv ho]
    rw [← EReal.coe_mul, Ideal.div_coe hl, Ideal.div_coe (mul_ne_zero hl hl), one_mul]
    simp only [← EReal.coe_mul]
    rw [← coe_sum, ← EReal.coe_neg, ← EReal.coe_add, ← EReal.coe_mul, mul_one_div, ← sub_eq_add_neg, Reals.ds_quot]
  rw [r62, r60, e, EReal.coe_mul]
  refine congrArg (fun z : EReal => z * _) ?_
  split_ifs with hy
  · rfl
  · rw [Reals.ds, Reals.p, if_neg hy, zero_mul, EReal.coe_zero]

include hq hr hk hkr hv ho

theorem ref_qr (x : Fin 4096) (h : Fin 8) (e : Fin 32) : val_main_v64 (F := Ideal) q r k kr v o (ix3 x h e) = ((realsOf q r k kr v o).gqr x h e : EReal) := by
  rw [r64, Reals.gqr, Finset.sum_mul, ← Fin.sum_univ_eq_sum_range (fun j => (realsOf q r k kr v o).ds h x j * (realsOf q r k kr v o).kr j e * scale) 4096, coe_sum]
  refine Finset.sum_congr rfl fun j _ => ?_
  rw [rds hq hr hk hkr hv ho, real_at hkr, ← EReal.coe_mul]
  exact congrArg _ (mul_right_comm _ _ _)
theorem ref_q (x : Fin 4096) (h : Fin 8) (d : Fin 64) : val_main_v69 (F := Ideal) q r k kr v o (ix3 x h d) = ((realsOf q r k kr v o).gq x h d : EReal) := by
  rw [r69, Reals.gq, Finset.sum_mul, ← Fin.sum_univ_eq_sum_range (fun j => (realsOf q r k kr v o).ds h x j * (realsOf q r k kr v o).k j h d * scale) 4096, coe_sum]
  refine Finset.sum_congr rfl fun j _ => ?_
  rw [rds hq hr hk hkr hv ho, real_at3 hk, ← EReal.coe_mul]
  exact congrArg _ (mul_right_comm _ _ _)
theorem ref_k (x : Fin 4096) (h : Fin 8) (d : Fin 64) : val_main_v67 (F := Ideal) q r k kr v o (ix3 x h d) = ((realsOf q r k kr v o).gk x h d : EReal) := by
  rw [r67, Reals.gk, Finset.sum_mul, ← Fin.sum_univ_eq_sum_range (fun j => (realsOf q r k kr v o).q j h d * (realsOf q r k kr v o).ds h j x * scale) 4096, coe_sum]
  refine Finset.sum_congr rfl fun j _ => ?_
  rw [rds hq hr hk hkr hv ho, real_at3 hq, ← EReal.coe_mul]
  exact congrArg _ (mul_rotate _ _ _).symm
theorem ref_kr (x : Fin 4096) (e : Fin 32) : val_main_v65 (F := Ideal) q r k kr v o (ix2 x e) = ((realsOf q r k kr v o).gkr x e : EReal) := by
  rw [r65, Finset.sum_comm, Reals.gkr, coe_sum]
  refine Finset.sum_congr rfl fun h _ => ?_
  rw [Reals.gkrh, Finset.sum_mul, ← Fin.sum_univ_eq_sum_range (fun j => (realsOf q r k kr v o).qr j h e * (realsOf q r k kr v o).ds h j x * scale) 4096, coe_sum]
  refine Finset.sum_congr rfl fun j _ => ?_
  rw [rds hq hr hk hkr hv ho, real_at3 hr, ← EReal.coe_mul]
  exact congrArg _ (mul_rotate _ _ _).symm
theorem ref_v (x : Fin 4096) (h : Fin 8) (d : Fin 64) : val_main_v47 (F := Ideal) q r k kr o (ix3 x h d) = ((realsOf q r k kr v o).gv x h d : EReal) := by
  rw [r47, Reals.gv, ← Fin.sum_univ_eq_sum_range (fun j => (realsOf q r k kr v o).o j h d * (realsOf q r k kr v o).p h j x) 4096, coe_sum]
  refine Finset.sum_congr rfl fun j _ => ?_
  rw [rp (v := v) (o := o) hq hr hk hkr, real_at3 ho, ← EReal.coe_mul]
  rfl
end
end Cert.Proof.Mla
end
-- ==== Proof.Mla.Claim.lean ====
module

public import proofs.«01_k».proof.Proof.Fox.Claim
public import proofs.«01_k».proof.Proof.Mla.Frames
public import proofs.«01_k».proof.Proof.Mla.Inputs
public import proofs.«01_k».proof.Proof.Mla.RefReal
public import proofs.«01_k».proof.Proof.Gen.MlaRefIdeal.Run

/-! The latent attention's backward: the kernel's five gradients are the reference's. -/

@[expose] public section
set_option maxRecDepth 16384
noncomputable section
namespace Cert.Proof.Mla
open Idealize.ShloMosaic Idealize.ShloMosaic.TcCoe Idealize.SL.Sem
open Cert.Proof.Fox (real_of_word)

/-- The precondition's side conditions. -/
theorem preFacts : Cert.Pre_finite_mla.Facts := ⟨by decide, by decide, by decide⟩

/-- The precondition's predicate holding everywhere: the arguments are real. -/
theorem args_of_pre (m : (ℓ : Loc Cert.MlaIdeal.nD Cert.MlaIdeal.τ Cert.MlaIdeal.sig) → Buf (Elt Ideal) ℓ)
    (h : Cert.Pre_MlaIdeal_finite_mla (hPre_finite_mla := preFacts) m) (c : Dev Cert.MlaIdeal.nD) : Args m c := by
  obtain ⟨h0, h1, h2, h3, h4, h5⟩ := h c
  exact ⟨fun i => real_of_word (congrFun h0 i), fun i => real_of_word (congrFun h1 i), fun i => real_of_word (congrFun h2 i), fun i => real_of_word (congrFun h3 i),
    fun i => real_of_word (congrFun h4 i), fun i => real_of_word (congrFun h5 i)⟩

section kernel
open Cert.MlaIdeal Cert.MlaIdeal.Gen
variable {m : (ℓ : Loc nD τ sig) → Buf (Elt Ideal) ℓ} {c : Dev nD} (A : Args m c)
include A

theorem out103 : Pipeline.afterTail₀ cfgs (vals m) 0 (V0 m) [hostOps1, hostOps1_1, hostOps1_2] c main_v103
    = Cert.MlaRefIdeal.Read.val_main_v69 (F := Ideal) (m (c.tc.loc main_arg0)) (m (c.tc.loc main_arg1)) (m (c.tc.loc main_arg2)) (m (c.tc.loc main_arg3)) (m (c.tc.loc main_arg4)) (m (c.tc.loc main_arg5)) := by
  funext p
  idx_vars p
  exact (tail_103 m c p0 p1 p2).trans ((dq_at A p0 p1 p2).trans (ref_q A.q A.r A.k A.kr A.v A.o p0 p1 p2).symm)
theorem out104 : Pipeline.afterTail₀ cfgs (vals m) 0 (V0 m) [hostOps1, hostOps1_1, hostOps1_2] c main_v104
    = Cert.MlaRefIdeal.Read.val_main_v64 (F := Ideal) (m (c.tc.loc main_arg0)) (m (c.tc.loc main_arg1)) (m (c.tc.loc main_arg2)) (m (c.tc.loc main_arg3)) (m (c.tc.loc main_arg4)) (m (c.tc.loc main_arg5)) := by
  funext p
  idx_vars p
  exact (tail_104 m c p0 p1 p2).trans ((dqr_at A p0 p1 p2).trans (ref_qr A.q A.r A.k A.kr A.v A.o p0 p1 p2).symm)
theorem out106 : Pipeline.afterTail₀ cfgs (vals m) 0 (V0 m) [hostOps1, hostOps1_1, hostOps1_2] c main_v106
    = Cert.MlaRefIdeal.Read.val_main_v67 (F := Ideal) (m (c.tc.loc main_arg0)) (m (c.tc.loc main_arg1)) (m (c.tc.loc main_arg2)) (m (c.tc.loc main_arg3)) (m (c.tc.loc main_arg4)) (m (c.tc.loc main_arg5)) := by
  funext p
  idx_vars p
  exact (tail_106 m c p0 p1 p2).trans ((dk_at A p0 p1 p2).trans (ref_k A.q A.r A.k A.kr A.v A.o p0 p1 p2).symm)
theorem out107 : Pipeline.afterTail₀ cfgs (vals m) 0 (V0 m) [hostOps1, hostOps1_1, hostOps1_2] c main_v107
    = Cert.MlaRefIdeal.Read.val_main_v65 (F := Ideal) (m (c.tc.loc main_arg0)) (m (c.tc.loc main_arg1)) (m (c.tc.loc main_arg2)) (m (c.tc.loc main_arg3)) (m (c.tc.loc main_arg4)) (m (c.tc.loc main_arg5)) := by
  funext p
  idx_vars p
  exact (tail_107 m c p0 p1).trans ((dkr_at A p0 p1).trans (ref_kr A.q A.r A.k A.kr A.v A.o p0 p1).symm)
theorem out109 : Pipeline.afterTail₀ cfgs (vals m) 0 (V0 m) [hostOps1, hostOps1_1, hostOps1_2] c main_v109
    = Cert.MlaRefIdeal.Read.val_main_v47 (F := Ideal) (m (c.tc.loc main_arg0)) (m (c.tc.loc main_arg1)) (m (c.tc.loc main_arg2)) (m (c.tc.loc main_arg3)) (m (c.tc.loc main_arg5)) := by
  funext p
  idx_vars p
  exact (tail_109 m c p0 p1 p2).trans ((dv_at A p0 p1 p2).trans (ref_v A.q A.r A.k A.kr A.v A.o p0 p1 p2).symm)
end kernel

theorem alg : Cert.algebraic_MlaIdeal_MlaRefIdeal_pre_finite_mla (hMlaIdeal := Cert.MlaIdeal.Gen.facts) (hMlaRefIdeal := Cert.MlaRefIdeal.Gen.facts) (hPre_finite_mla := preFacts) := by
  intro m g m' g' hpre hagree
  have A := args_of_pre m hpre
  refine ⟨fun c => Cert.MlaRefIdeal.Read.val_main_v69 (F := Ideal) (m (c.tc.loc Cert.MlaIdeal.main_arg0)) (m (c.tc.loc Cert.MlaIdeal.main_arg1)) (m (c.tc.loc Cert.MlaIdeal.main_arg2)) (m (c.tc.loc Cert.MlaIdeal.main_arg3)) (m (c.tc.loc Cert.MlaIdeal.main_arg4)) (m (c.tc.loc Cert.MlaIdeal.main_arg5)),
    fun c => Cert.MlaRefIdeal.Read.val_main_v64 (F := Ideal) (m (c.tc.loc Cert.MlaIdeal.main_arg0)) (m (c.tc.loc Cert.MlaIdeal.main_arg1)) (m (c.tc.loc Cert.MlaIdeal.main_arg2)) (m (c.tc.loc Cert.MlaIdeal.main_arg3)) (m (c.tc.loc Cert.MlaIdeal.main_arg4)) (m (c.tc.loc Cert.MlaIdeal.main_arg5)),
    fun c => Cert.MlaRefIdeal.Read.val_main_v67 (F := Ideal) (m (c.tc.loc Cert.MlaIdeal.main_arg0)) (m (c.tc.loc Cert.MlaIdeal.main_arg1)) (m (c.tc.loc Cert.MlaIdeal.main_arg2)) (m (c.tc.loc Cert.MlaIdeal.main_arg3)) (m (c.tc.loc Cert.MlaIdeal.main_arg4)) (m (c.tc.loc Cert.MlaIdeal.main_arg5)),
    fun c => Cert.MlaRefIdeal.Read.val_main_v65 (F := Ideal) (m (c.tc.loc Cert.MlaIdeal.main_arg0)) (m (c.tc.loc Cert.MlaIdeal.main_arg1)) (m (c.tc.loc Cert.MlaIdeal.main_arg2)) (m (c.tc.loc Cert.MlaIdeal.main_arg3)) (m (c.tc.loc Cert.MlaIdeal.main_arg4)) (m (c.tc.loc Cert.MlaIdeal.main_arg5)),
    fun c => Cert.MlaRefIdeal.Read.val_main_v47 (F := Ideal) (m (c.tc.loc Cert.MlaIdeal.main_arg0)) (m (c.tc.loc Cert.MlaIdeal.main_arg1)) (m (c.tc.loc Cert.MlaIdeal.main_arg2)) (m (c.tc.loc Cert.MlaIdeal.main_arg3)) (m (c.tc.loc Cert.MlaIdeal.main_arg5)), ?_, ?_⟩
  · have run := vrun m g
    refine (θ_run _ _ _).mono (fun r h c => ?_) (θ_run_and (Cert.MlaIdeal.Gen.frame_of m g (vals m) (vA_eq m) run) run)
    exact ⟨((h.2 c).2 Cert.MlaIdeal.main_v103 (Pipeline.mem_restRefs_of Cert.MlaIdeal.main_v103 (by decide) (by decide))).trans (out103 (A c)),
      ((h.2 c).2 Cert.MlaIdeal.main_v104 (Pipeline.mem_restRefs_of Cert.MlaIdeal.main_v104 (by decide) (by decide))).trans (out104 (A c)),
      ((h.2 c).2 Cert.MlaIdeal.main_v106 (Pipeline.mem_restRefs_of Cert.MlaIdeal.main_v106 (by decide) (by decide))).trans (out106 (A c)),
      ((h.2 c).2 Cert.MlaIdeal.main_v107 (Pipeline.mem_restRefs_of Cert.MlaIdeal.main_v107 (by decide) (by decide))).trans (out107 (A c)),
      ((h.2 c).2 Cert.MlaIdeal.main_v109 (Pipeline.mem_restRefs_of Cert.MlaIdeal.main_v109 (by decide) (by decide))).trans (out109 (A c)), h.1 c⟩
  · refine (θ_run _ _ _).mono (fun r h c => ?_) (Cert.MlaRefIdeal.Value.run m' g')
    obtain ⟨h0, h1, h2, h3, h4, hargs⟩ := h c
    obtain ⟨a0, a1, a2, a3, a4, a5⟩ := hagree c
    refine ⟨h0.trans ?_, h1.trans ?_, h2.trans ?_, h3.trans ?_, h4.trans ?_, hargs⟩
    · rw [Cert.MlaRefIdeal.Read.val_main_v69_eq, a0, a1, a2, a3, a4, a5]
    · rw [Cert.MlaRefIdeal.Read.val_main_v64_eq, a0, a1, a2, a3, a4, a5]
    · rw [Cert.MlaRefIdeal.Read.val_main_v67_eq, a0, a1, a2, a3, a4, a5]
    · rw [Cert.MlaRefIdeal.Read.val_main_v65_eq, a0, a1, a2, a3, a4, a5]
    · rw [Cert.MlaRefIdeal.Read.val_main_v47_eq, a0, a1, a2, a3, a5]
end Cert.Proof.Mla
end
-- ==== Proof.Loss.Norm.lean ====
module

public import proofs.«01_k».proof.Proof.Fox.Weights

/-! A row's root mean square over the reals, and the loss of a row with its gradient. -/

@[expose] public section
set_option maxRecDepth 16384
noncomputable section
namespace Cert.Proof.Loss
open Idealize.ShloMosaic Idealize.ShloMosaic.TcCoe Idealize.SL.Sem

/-- The small number under the root. -/
def eps : ℝ := 8796093 / 2 ^ 43
theorem bits_eps : Ideal.ofBits FTy.f32 0x358637BD#32 = (eps : EReal) := by
  simp [Ideal.ofBits, Ideal.ieee, eps]
  norm_num
  rw [← EReal.coe_mul]
  norm_num
theorem bits_1024 : Ideal.ofBits FTy.f32 0x44800000#32 = ((1024 : ℝ) : EReal) := by
  simp [Ideal.ofBits, Ideal.ieee]
  norm_num
  rw [← EReal.coe_mul]
  norm_num
theorem bits_half : Ideal.ofBits FTy.f32 0x3F000000#32 = ((1 / 2 : ℝ) : EReal) := by
  simp [Ideal.ofBits, Ideal.ieee]
  norm_num
  rw [← EReal.coe_mul]
  norm_num
theorem bits_neg_half : Ideal.ofBits FTy.f32 0xBF000000#32 = ((-(1 / 2) : ℝ) : EReal) := by
  simp [Ideal.ofBits, Ideal.ieee]
  norm_num
  rw [← EReal.coe_mul]
  norm_num
theorem bits_inv_1024 : Ideal.ofBits FTy.f32 0x3A800000#32 = ((1 / 1024 : ℝ) : EReal) := by
  simp [Ideal.ofBits, Ideal.ieee]
  norm_num
  rw [← EReal.coe_mul]
  norm_num
theorem div_1024 (x : ℝ) : Ideal.div (x : EReal) ((1024 : ℝ) : EReal) = ((x * (1 / 1024) : ℝ) : EReal) := by
  rw [Ideal.div_coe (by norm_num), ← EReal.coe_mul]

section
variable {n : ℕ} (x g t : Fin n → ℝ)

/-- The row's mean square with the small number, and the root's inverse. -/
def ms : ℝ := (∑ k, x k * x k) * (1 / 1024) + eps
def inv : ℝ := (Real.sqrt (ms x))⁻¹
theorem ms_pos : 0 < ms x := by
  have h : 0 ≤ ∑ k, x k * x k := Finset.sum_nonneg fun k _ => mul_self_nonneg _
  have e : 0 < eps := by unfold eps; norm_num
  unfold ms
  linarith
theorem rsqrt_ms : Ideal.rsqrt (ms x : EReal) = (inv x : EReal) := by
  have h := ms_pos x
  rw [Ideal.rsqrt_coe, if_neg (not_lt.2 h.le), if_neg h.ne', inv]
/-- The root's inverse over the mean square is its cube. -/
theorem inv_cube : inv x * (1 / ms x) = inv x * inv x * inv x := by
  have h : inv x * inv x = 1 / ms x := by
    rw [inv, ← mul_inv, Real.mul_self_sqrt (ms_pos x).le, one_div]
  rw [mul_assoc, h]

/-- The row's error, its share of the loss, the row's gradient. -/
def diff (j : Fin n) : ℝ := x j * inv x * g j - t j
def part : ℝ := (∑ j, diff x g t j * diff x g t j) * (1 / 1024)
def dout (j : Fin n) : ℝ := diff x g t j * (1 / 1024)
def dxh (j : Fin n) : ℝ := dout x g t j * g j
def dx (j : Fin n) : ℝ := inv x * (dxh x g t j - x j * inv x * ((∑ k, dxh x g t k * (x k * inv x)) * (1 / 1024)))
end
end Cert.Proof.Loss
end
-- ==== Proof.Loss.Block.lean ====
module

public import proofs.«01_k».proof.Defs
public import proofs.«01_k».proof.Proof.Gen.LossIdeal.Frame
public import Idealize.ShloMosaic.Lib.Claim
public import Idealize.ShloMosaic.Lib.Pipeline.ValueKit
public import Idealize.ShloMosaic.Lib.Pointwise
public import proofs.«01_k».proof.Proof.Loss.Norm

/-! What one block of rows of the loss computes, from real rows. -/

@[expose] public section
set_option maxRecDepth 16384
noncomputable section
namespace Cert.Proof.Loss
open Idealize.ShloMosaic Idealize.ShloMosaic.TcCoe Idealize.SL.Sem
open Cert.LossIdeal Cert.LossIdeal.Gen
open Cert.Proof.Fox (coe_sum)

/-- A block's operands are real. -/
structure IsReal (x0 : FVec Ideal S256x1024 .f32) (x1 : FVec Ideal S1x1024 .f32) (x2 : FVec Ideal S256x1024 .f32)
    (X : Fin 256 → Fin 1024 → ℝ) (G : Fin 1024 → ℝ) (T : Fin 256 → Fin 1024 → ℝ) : Prop where
  x : ∀ i j, x0 (ix2 i j) = (X i j : EReal)
  g : ∀ j, x1 (ix2 0 j) = (G j : EReal)
  t : ∀ i j, x2 (ix2 i j) = (T i j : EReal)

namespace IsReal
variable {x0 : FVec Ideal S256x1024 .f32} {x1 : FVec Ideal S1x1024 .f32} {x2 : FVec Ideal S256x1024 .f32}
  {X : Fin 256 → Fin 1024 → ℝ} {G : Fin 1024 → ℝ} {T : Fin 256 → Fin 1024 → ℝ} (I : IsReal x0 x1 x2 X G T)
include I

theorem pay6 (i : Fin 256) : k0_pay6 (F := Ideal) x0 (ix2 i 0) = (inv (X i) : EReal) := by
  pointwise [k0_pay6]
  simp only [I.x, ← EReal.coe_mul, ← coe_sum]
  rw [bits_1024, bits_eps, div_1024, ← EReal.coe_add]
  exact rsqrt_ms (X i)
theorem pay7 (i : Fin 256) (j : Fin 1024) : k0_pay7 (F := Ideal) x0 (ix2 i j) = ((X i j * inv (X i) : ℝ) : EReal) := by
  have h := I.pay6 i
  unfold k0_pay7
  generalize k0_pay6 (F := Ideal) x0 = v at h ⊢
  pointwise
  rw [h, I.x, ← EReal.coe_mul]
theorem pay8 (i : Fin 256) (j : Fin 1024) : k0_pay8 (F := Ideal) x0 x1 x2 (ix2 i j) = (diff (X i) G (T i) j : EReal) := by
  have h := I.pay7 i j
  unfold k0_pay8
  generalize k0_pay7 (F := Ideal) x0 = v at h ⊢
  pointwise
  rw [h, I.g, I.t, ← EReal.coe_mul, ← EReal.coe_sub]
  rfl
theorem pay9 : k0_pay9 (F := Ideal) x0 x1 x2 = ((1 / 2 * ∑ i, part (X i) G (T i) : ℝ) : EReal) := by
  have h := I.pay8
  unfold k0_pay9
  generalize k0_pay8 (F := Ideal) x0 x1 x2 = v at h ⊢
  pointwise
  simp only [h, ← EReal.coe_mul, ← coe_sum, bits_1024, div_1024]
  rw [bits_half, ← EReal.coe_mul]
  simp only [Finset.univ_unique, Finset.sum_singleton]
  rfl
theorem pay10 (i : Fin 256) (j : Fin 1024) : k0_pay10 (F := Ideal) x0 x1 x2 (ix2 i j) = (dout (X i) G (T i) j : EReal) := by
  have h := I.pay8 i j
  unfold k0_pay10
  generalize k0_pay8 (F := Ideal) x0 x1 x2 = v at h ⊢
  pointwise
  rw [h, bits_inv_1024, ← EReal.coe_mul]
  rfl
theorem pay11 (i : Fin 256) (j : Fin 1024) : k0_pay11 (F := Ideal) x0 x1 x2 x1 (ix2 i j)
    = ((dxh (X i) G (T i) j - X i j * inv (X i) * ((∑ k, dxh (X i) G (T i) k * (X i k * inv (X i))) * (1 / 1024)) : ℝ) : EReal) := by
  have h := I.pay10
  have h' := I.pay7
  unfold k0_pay11
  generalize k0_pay10 (F := Ideal) x0 x1 x2 = v at h ⊢
  generalize k0_pay7 (F := Ideal) x0 = w at h' ⊢
  pointwise
  simp only [h, h', I.g, ← EReal.coe_mul, ← coe_sum, bits_1024, div_1024, ← EReal.coe_sub]
  rfl
theorem pay1 (i : Fin 256) (j : Fin 1024) : k0_pay1 (F := Ideal) (k0_pay6 (F := Ideal) x0) (k0_pay11 (F := Ideal) x0 x1 x2 x1) (ix2 i j) = (dx (X i) G (T i) j : EReal) := by
  have h := I.pay6 i
  have h' := I.pay11 i j
  generalize k0_pay11 (F := Ideal) x0 x1 x2 x1 = v at h' ⊢
  generalize k0_pay6 (F := Ideal) x0 = w at h ⊢
  pointwise [k0_pay1]
  rw [h, h', ← EReal.coe_mul]
  rfl
theorem pay5 (v : FVec Ideal S1x1024 .f32) (j : Fin 1024) : k0_pay5 (F := Ideal) (k0_pay7 (F := Ideal) x0) (k0_pay10 (F := Ideal) x0 x1 x2) v (ix2 0 j)
    = v (ix2 0 j) + ((∑ i, dout (X i) G (T i) j * (X i j * inv (X i)) : ℝ) : EReal) := by
  have h := I.pay7
  have h' := I.pay10
  generalize k0_pay10 (F := Ideal) x0 x1 x2 = u at h' ⊢
  generalize k0_pay7 (F := Ideal) x0 = w at h ⊢
  pointwise [k0_pay5]
  simp only [h, h', ← EReal.coe_mul, ← coe_sum]
theorem pay4 (v : FVec Ideal S1x128 .f32) : k0_pay4 (F := Ideal) (k0_pay9 (F := Ideal) x0 x1 x2) v (ix2 0 0)
    = v (ix2 0 0) + ((1 / 2 * ∑ i, part (X i) G (T i) : ℝ) : EReal) := by
  rw [I.pay9]
  pointwise [k0_pay4]
end IsReal
end Cert.Proof.Loss
end
-- ==== Proof.Loss.Step.lean ====
module

public import proofs.«01_k».proof.Proof.Loss.Block

/-! What the loss's buffers hold after each block: the first block starts the two sums at zero, each later
    block adds to them. -/

@[expose] public section
set_option maxRecDepth 16384
noncomputable section
namespace Cert.Proof.Loss
open Idealize.ShloMosaic Idealize.ShloMosaic.TcCoe Idealize.SL.Sem
open Cert.LossIdeal Cert.LossIdeal.Gen
open Cert.Proof.Fox (coe_sum)

theorem zeros : (![0, 0] : Fin 2 → Nat) = fun _ => 0 := funext fun a => by fin_cases a <;> rfl

section
variable (c : Dev nD) (i : grid0.Coords) (a1 : Memref sig .tc .vmem S256x1024 .f32) (h1 : a1.IsWhole) (a2 : Memref sig .tc .vmem S1x1024 .f32) (h2 : a2.IsWhole)
  (a3 : Memref sig .tc .vmem S256x1024 .f32) (h3 : a3.IsWhole) (a4 : Memref sig .tc .vmem S1x128 .f32) (h4 : a4.IsWhole) (a5 : Memref sig .tc .vmem S256x1024 .f32) (h5 : a5.IsWhole)
  (a6 : Memref sig .tc .vmem S1x1024 .f32) (h6 : a6.IsWhole) (x0 : FVec Ideal S256x1024 .f32) (x1 : FVec Ideal S1x1024 .f32) (x2 : FVec Ideal S256x1024 .f32)
  (v3 : FVec Ideal S1x128 .f32) (v5 : FVec Ideal S1x1024 .f32)

theorem first_3 (hc : cond0_0 i) : out0_A_3 (F := Ideal) c i a1 h1 a2 h2 a3 h3 a4 h4 a5 h5 a6 h6 hc x0 x1 x2 = k0_pay4 (F := Ideal) (k0_pay9 x0 x1 x2) (k0_pay2 (F := Ideal)) := by
  unfold out0_A_3
  rw [View.read_writes_eq_canon _ _ _ (cover0_A_3 (F := Ideal) c i a1 h1 a2 h2 a3 h3 a4 h4 a5 h5 a6 h6 hc x0 x1 x2)]
  unfold kernelRun0_A
  dsimp only
  sl_unfold_words
  rw [View.canon_cons_unit_zero (S := S1x128) zeros, View.readCov_unit_zero (S := S1x128) _ zeros]
  simp only [View.readAt_eq_ld, h1.read_unread, h2.read_unread, h3.read_unread, View.ld_unit_zero (S := S256x1024) zeros, View.ld_unit_zero (S := S1x1024) zeros]
theorem first_4 (hc : cond0_0 i) : out0_A_4 (F := Ideal) c i a1 h1 a2 h2 a3 h3 a4 h4 a5 h5 a6 h6 hc x0 x1 x2 = k0_pay1 (F := Ideal) (k0_pay6 x0) (k0_pay11 x0 x1 x2 x1) := by
  unfold out0_A_4
  rw [View.read_writes_eq_canon _ _ _ (cover0_A_4 (F := Ideal) c i a1 h1 a2 h2 a3 h3 a4 h4 a5 h5 a6 h6 hc x0 x1 x2)]
  unfold kernelRun0_A
  dsimp only
  sl_unfold_words
  rw [View.canon_unit_zero zeros]
  simp only [View.readAt_eq_ld, h1.read_unread, h2.read_unread, h3.read_unread, View.ld_unit_zero (S := S256x1024) zeros, View.ld_unit_zero (S := S1x1024) zeros]
theorem first_5 (hc : cond0_0 i) : out0_A_5 (F := Ideal) c i a1 h1 a2 h2 a3 h3 a4 h4 a5 h5 a6 h6 hc x0 x1 x2 = k0_pay5 (F := Ideal) (k0_pay7 x0) (k0_pay10 x0 x1 x2) (k0_pay3 (F := Ideal)) := by
  unfold out0_A_5
  rw [View.read_writes_eq_canon _ _ _ (cover0_A_5 (F := Ideal) c i a1 h1 a2 h2 a3 h3 a4 h4 a5 h5 a6 h6 hc x0 x1 x2)]
  unfold kernelRun0_A
  dsimp only
  sl_unfold_words
  rw [View.canon_cons_unit_zero (S := S1x1024) zeros, View.readCov_unit_zero (S := S1x1024) _ zeros]
  simp only [View.readAt_eq_ld, h1.read_unread, h2.read_unread, h3.read_unread, View.ld_unit_zero (S := S256x1024) zeros, View.ld_unit_zero (S := S1x1024) zeros]
theorem later_3 (hc : ¬cond0_0 i) : out0_B_3 (F := Ideal) c i a1 h1 a2 h2 a3 h3 a4 h4 a5 h5 a6 h6 hc x0 x1 x2 v3 v5 = k0_pay4 (F := Ideal) (k0_pay9 x0 x1 x2) v3 := by
  unfold out0_B_3
  rw [View.read_writes_eq_canon _ _ _ (cover0_B_3 (F := Ideal) c i a1 h1 a2 h2 a3 h3 a4 h4 a5 h5 a6 h6 hc x0 x1 x2 v3 v5)]
  unfold kernelRun0_B
  dsimp only
  sl_unfold_words
  rw [View.canon_unit_zero zeros]
  simp only [View.readAt_eq_ld, h1.read_unread, h2.read_unread, h3.read_unread, h4.read_unread, View.ld_unit_zero (S := S256x1024) zeros, View.ld_unit_zero (S := S1x1024) zeros, View.ld_unit_zero (S := S1x128) zeros]
theorem later_4 (hc : ¬cond0_0 i) : out0_B_4 (F := Ideal) c i a1 h1 a2 h2 a3 h3 a4 h4 a5 h5 a6 h6 hc x0 x1 x2 v3 v5 = k0_pay1 (F := Ideal) (k0_pay6 x0) (k0_pay11 x0 x1 x2 x1) := by
  unfold out0_B_4
  rw [View.read_writes_eq_canon _ _ _ (cover0_B_4 (F := Ideal) c i a1 h1 a2 h2 a3 h3 a4 h4 a5 h5 a6 h6 hc x0 x1 x2 v3 v5)]
  unfold kernelRun0_B
  dsimp only
  sl_unfold_words
  rw [View.canon_unit_zero zeros]
  simp only [View.readAt_eq_ld, h1.read_unread, h2.read_unread, h3.read_unread, View.ld_unit_zero (S := S256x1024) zeros, View.ld_unit_zero (S := S1x1024) zeros]
theorem later_5 (hc : ¬cond0_0 i) : out0_B_5 (F := Ideal) c i a1 h1 a2 h2 a3 h3 a4 h4 a5 h5 a6 h6 hc x0 x1 x2 v3 v5 = k0_pay5 (F := Ideal) (k0_pay7 x0) (k0_pay10 x0 x1 x2) v5 := by
  unfold out0_B_5
  rw [View.read_writes_eq_canon _ _ _ (cover0_B_5 (F := Ideal) c i a1 h1 a2 h2 a3 h3 a4 h4 a5 h5 a6 h6 hc x0 x1 x2 v3 v5)]
  unfold kernelRun0_B
  dsimp only
  sl_unfold_words
  rw [View.canon_unit_zero zeros]
  simp only [View.readAt_eq_ld, h1.read_unread, h2.read_unread, h3.read_unread, h6.read_unread, View.ld_unit_zero (S := S256x1024) zeros, View.ld_unit_zero (S := S1x1024) zeros]
end

theorem pay2_at : k0_pay2 (F := Ideal) (ix2 0 0) = 0 := by
  pointwise [k0_pay2]
theorem pay3_at (j : Fin 1024) : k0_pay3 (F := Ideal) (ix2 0 j) = 0 := by
  pointwise [k0_pay3]

variable (m : (ℓ : Loc nD τ sig) → Buf (Elt Ideal) ℓ) (c : Dev nD)

/-- Real arrays behind the blocks. -/
structure Rows (X : ℕ → Fin 1024 → ℝ) (G : Fin 1024 → ℝ) (T : ℕ → Fin 1024 → ℝ) : Prop where
  blk : ∀ t : Fin cfg0.N, IsReal (iblk m c 0 t) (iblk m c 1 t) (iblk m c 2 t) (fun i => X (256 * t + i)) G (fun i => T (256 * t + i))

namespace Rows
variable {m c} {X : ℕ → Fin 1024 → ℝ} {G : Fin 1024 → ℝ} {T : ℕ → Fin 1024 → ℝ} (W : Rows m c X G T)
include W

theorem rows (t : Fin cfg0.N) (i : Fin 256) (j : Fin 1024) : (outsAt0 m c t.val t.isLt).2.1 (ix2 i j) = (dx (X (256 * t + i)) G (T (256 * t + i)) j : EReal) := by
  by_cases h : t.val % 16 = 0
  · rw [outsAt0_A m c t h]
    dsimp only
    rw [first_4]
    exact (W.blk t).pay1 i j
  · rw [outsAt0_B m c t h]
    dsimp only
    rw [later_4]
    exact (W.blk t).pay1 i j

/-- The two sums after block `n`: over the rows of the blocks so far. -/
theorem sums (n : ℕ) (hn : n < cfg0.N) : (outsAt0 m c n hn).1 (ix2 0 0) = ((∑ s ∈ Finset.range (n + 1), 1 / 2 * ∑ i : Fin 256, part (X (256 * s + i)) G (T (256 * s + i)) : ℝ) : EReal)
    ∧ ∀ j, (outsAt0 m c n hn).2.2 (ix2 0 j)
      = ((∑ s ∈ Finset.range (n + 1), ∑ i : Fin 256, dout (X (256 * s + i)) G (T (256 * s + i)) j * (X (256 * s + i) j * inv (X (256 * s + i))) : ℝ) : EReal) := by
  induction n with
  | zero =>
    rw [outsAt0_A m c ⟨0, hn⟩ rfl]
    dsimp only
    rw [first_3, first_5, (W.blk ⟨0, hn⟩).pay4, pay2_at, zero_add]
    refine ⟨by simp, fun j => ?_⟩
    rw [(W.blk ⟨0, hn⟩).pay5, pay3_at, zero_add]
    simp
  | succ n ih =>
    have hN : cfg0.N = 16 := N_0
    obtain ⟨e1, e2⟩ := ih (by omega)
    rw [outsAt0_B m c ⟨n + 1, hn⟩ (by dsimp only; omega)]
    dsimp only
    rw [later_3, later_5, (W.blk ⟨n + 1, hn⟩).pay4]
    refine ⟨?_, fun j => ?_⟩
    · rw [Finset.sum_range_succ _ (n + 1), EReal.coe_add]
      exact congrArg (· + _) e1
    · rw [(W.blk ⟨n + 1, hn⟩).pay5, Finset.sum_range_succ _ (n + 1), EReal.coe_add]
      exact congrArg (· + _) (e2 j)
end Rows
end Cert.Proof.Loss
end
-- ==== Proof.Loss.Arrays.lean ====
module

public import proofs.«01_k».proof.Proof.Loss.Step
public import proofs.«01_k».proof.Proof.Fox.Operands

/-! The loss's three results, read off the arrays of the region. -/

@[expose] public section
set_option maxRecDepth 16384
noncomputable section
namespace Cert.Proof.Loss
open Idealize.ShloMosaic Idealize.ShloMosaic.TcCoe Idealize.SL.Sem
open Cert.LossIdeal Cert.LossIdeal.Gen

variable (m : (ℓ : Loc nD τ sig) → Buf (Elt Ideal) ℓ)

theorem tail_v3 (c : Dev nD) : Pipeline.afterTail₀ cfgs (dats m) 0 (V0 m) [hostOps1] c main_v3
    = (shapeCast S_ (extractStridedSlice S1x1 ![0, 0] ((dats m 0 c).arrAt 3 (cfgs 0).N : FVec Ideal S1x128 .f32) slices_S1x128_S1x1_0_0) shapeCasts_S1x1_S_ : FVec Ideal S_ .f32) := by
  have h := Pipeline.withArrays_arr (Val := Elt Ideal) spec0 launch0.win.arr_inj c (V0 m c) (fun w => (dats m 0 c).arrAt w (cfgs 0).N) 3
  unfold Pipeline.afterTail₀
  rw [List.flatten_cons, List.flatten_nil, List.append_nil]
  generalize Pipeline.withArrays _ c (V0 m c) _ = W at h ⊢
  after_results
  exact congrArg (fun z : FVec Ideal S1x128 .f32 => shapeCast S_ (extractStridedSlice S1x1 ![0, 0] z slices_S1x128_S1x1_0_0) shapeCasts_S1x1_S_) h
theorem tail_v4 (c : Dev nD) : Pipeline.afterTail₀ cfgs (dats m) 0 (V0 m) [hostOps1] c main_v4
    = (shapeCast S1024 ((dats m 0 c).arrAt 5 (cfgs 0).N : FVec Ideal S1x1024 .f32) shapeCasts_S1x1024_S1024 : FVec Ideal S1024 .f32) := by
  have h := Pipeline.withArrays_arr (Val := Elt Ideal) spec0 launch0.win.arr_inj c (V0 m c) (fun w => (dats m 0 c).arrAt w (cfgs 0).N) 5
  unfold Pipeline.afterTail₀
  rw [List.flatten_cons, List.flatten_nil, List.append_nil]
  generalize Pipeline.withArrays _ c (V0 m c) _ = W at h ⊢
  after_results
  exact congrArg (fun z : FVec Ideal S1x1024 .f32 => shapeCast S1024 z shapeCasts_S1x1024_S1024) h
theorem tail_v1_1 (c : Dev nD) : Pipeline.afterTail₀ cfgs (dats m) 0 (V0 m) [hostOps1] c main_v1_1 = ((dats m 0 c).arrAt 4 (cfgs 0).N : FVec Ideal S4096x1024 .f32) := by
  have h := Pipeline.withArrays_arr (Val := Elt Ideal) spec0 launch0.win.arr_inj c (V0 m c) (fun w => (dats m 0 c).arrAt w (cfgs 0).N) 4
  unfold Pipeline.afterTail₀
  rw [List.flatten_cons, List.flatten_nil, List.append_nil]
  generalize Pipeline.withArrays _ c (V0 m c) _ = W at h ⊢
  after_results
  exact h

theorem entry_x (c : Dev nD) : V m c main_arg0 = m (c.tc.loc main_arg0) := by
  entry_read
  rw [List.flatten_cons, List.flatten_nil, List.append_nil]
  after_results
theorem entry_t (c : Dev nD) : V m c main_arg2 = m (c.tc.loc main_arg2) := by
  entry_read
  rw [List.flatten_cons, List.flatten_nil, List.append_nil]
  after_results
theorem entry_g (c : Dev nD) : V m c main_v0 = (broadcastInDim S1x1024 ![1] bcast_S1024_S1x1024_1 (m (c.tc.loc main_arg1) : FVec Ideal S1024 .f32) : FVec Ideal S1x1024 .f32) := by
  entry_read
  rw [List.flatten_cons, List.flatten_nil, List.append_nil]
  after_results

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)
theorem points : cfg0.N = 16 := N_0

theorem blk_0 (c : Dev nD) (t : Fin cfg0.N) (i : Fin 256) (j : Fin 1024) : (iblk m c 0 t : FVec Ideal S256x1024 .f32) (ix2 i j)
    = (V m c main_arg0 : FVec Ideal S4096x1024 .f32) (ix2 ⟨256 * t.val + i.val, by have := t.isLt; have := points; omega⟩ j) := by
  blk_ext! [iblk, idx t]
theorem blk_1 (c : Dev nD) (t : Fin cfg0.N) : (iblk m c 1 t : FVec Ideal S1x1024 .f32) = V m c main_v0 := by
  blk_ext! [iblk, idx t]
theorem blk_2 (c : Dev nD) (t : Fin cfg0.N) (i : Fin 256) (j : Fin 1024) : (iblk m c 2 t : FVec Ideal S256x1024 .f32) (ix2 i j)
    = (V m c main_arg2 : FVec Ideal S4096x1024 .f32) (ix2 ⟨256 * t.val + i.val, by have := t.isLt; have := points; omega⟩ j) := by
  blk_ext! [iblk, idx t]

/-- The last point. -/
def last : Fin cfg0.N := ⟨15, by rw [points]; decide⟩

theorem arr_3 (c : Dev nD) : ((dats m 0 c).arrAt 3 (cfgs 0).N : FVec Ideal S1x128 .f32) = (outsAt0 m c 15 last.isLt).1 := by
  refine Pipeline.Dat.arrAt_eq_of_covers (dat := dats m 0 c) 3 ((outsAt0 m c 15 last.isLt).1 : FVec Ideal S1x128 .f32) (hcov := by decide +kernel) ?_
  intro t ht y
  have h := (flush0_3 t).mp ht
  have hN := points
  have hl := t.isLt
  obtain rfl : t = last := Fin.ext (by show t.val = 15; omega)
  rw [after0_3]
  blk_ext! [idx last]
theorem arr_5 (c : Dev nD) : ((dats m 0 c).arrAt 5 (cfgs 0).N : FVec Ideal S1x1024 .f32) = (outsAt0 m c 15 last.isLt).2.2 := by
  refine Pipeline.Dat.arrAt_eq_of_covers (dat := dats m 0 c) 5 ((outsAt0 m c 15 last.isLt).2.2 : FVec Ideal S1x1024 .f32) (hcov := by decide +kernel) ?_
  intro t ht y
  have h := (flush0_5 t).mp ht
  have hN := points
  have hl := t.isLt
  obtain rfl : t = last := Fin.ext (by show t.val = 15; omega)
  rw [after0_5]
  blk_ext! [idx last]

/-- The rows' gradient. -/
def rowsOf (X : ℕ → Fin 1024 → ℝ) (G : Fin 1024 → ℝ) (T : ℕ → Fin 1024 → ℝ) (p : S4096x1024.Idx) : EReal := (dx (X (p 0)) G (T (p 0)) (Fin.ofNat 1024 (p 1).val) : EReal)
theorem arr_4 {c : Dev nD} {X : ℕ → Fin 1024 → ℝ} {G : Fin 1024 → ℝ} {T : ℕ → Fin 1024 → ℝ} (W : Rows m c X G T) :
    ((dats m 0 c).arrAt 4 (cfgs 0).N : S4096x1024.Idx → EReal) = rowsOf X G T := by
  refine Pipeline.Dat.arrAt_eq_of_covers (dat := dats m 0 c) 4 (rowsOf X G T) (hcov := by decide +kernel) ?_
  intro t _ y
  have k := W.rows t
  rw [after0_4]
  generalize (outsAt0 m c t.val t.isLt).2.1 = u at k ⊢
  idx_vars y
  blk_simp [rowsOf, idx t]
  rw [k, Nat.mul_comm 256, Cert.Proof.Fox.ofNat_val]
end Cert.Proof.Loss
end
-- ==== Proof.Loss.Ref.lean ====
module

public import proofs.«01_k».proof.Defs
public import proofs.«01_k».proof.Proof.Gen.LossRefIdeal.Read
public import Idealize.ShloMosaic.Lib.Claim
public import Idealize.ShloMosaic.Lib.Pointwise
public import proofs.«01_k».proof.Proof.Loss.Norm

/-! What the loss's reference computes from real arguments. -/

@[expose] public section
set_option maxRecDepth 16384
noncomputable section
namespace Cert.Proof.Loss
open Idealize.ShloMosaic Idealize.ShloMosaic.TcCoe Idealize.SL.Sem
open Cert.LossRefIdeal Cert.LossRefIdeal.Read
open Cert.Proof.Fox (coe_sum)

/-- The reference's arguments are real. -/
structure RefReal (x0 : FVec Ideal S4096x1024 .f32) (x1 : FVec Ideal S1024 .f32) (x2 : FVec Ideal S4096x1024 .f32)
    (X : ℕ → Fin 1024 → ℝ) (G : Fin 1024 → ℝ) (T : ℕ → Fin 1024 → ℝ) : Prop where
  x : ∀ (i : Fin 4096) j, x0 (ix2 i j) = (X i j : EReal)
  g : ∀ j, x1 (ix1 j) = (G j : EReal)
  t : ∀ (i : Fin 4096) j, x2 (ix2 i j) = (T i j : EReal)

namespace RefReal
variable {x0 : FVec Ideal S4096x1024 .f32} {x1 : FVec Ideal S1024 .f32} {x2 : FVec Ideal S4096x1024 .f32}
  {X : ℕ → Fin 1024 → ℝ} {G : Fin 1024 → ℝ} {T : ℕ → Fin 1024 → ℝ} (I : RefReal x0 x1 x2 X G T)
include I

theorem v6 (i : Fin 4096) : val_main_v6 (F := Ideal) x0 (ix2 i 0) = (ms (X i) : EReal) := by
  pointwise [val_main_v6, val_main_v5, val_main_cst_1, val_main_v4, val_main_v3, val_main_cst_0, val_main_v2, val_main_v1, val_main_v0, val_main_cst]
  simp only [I.x, ← EReal.coe_mul, ← coe_sum]
  rw [bits_1024, bits_eps, div_1024, ← EReal.coe_add]
  rfl
theorem v7 (i : Fin 4096) : val_main_v7 (F := Ideal) x0 (ix2 i 0) = (inv (X i) : EReal) :=
  (congrArg Ideal.rsqrt (I.v6 i)).trans (rsqrt_ms (X i))
theorem v10 (i : Fin 4096) : val_main_v10 (F := Ideal) x0 (ix2 i 0) = ((-(1 / 2) * (inv (X i) * (1 / ms (X i))) : ℝ) : EReal) := by
  have h := I.v6 i
  have h' := I.v7 i
  unfold val_main_v10 val_main_v8
  generalize val_main_v6 (F := Ideal) x0 = v at h ⊢
  generalize val_main_v7 (F := Ideal) x0 = w at h' ⊢
  pointwise [val_main_v9, val_main_cst_2]
  rw [h, h', Ideal.div_coe (ms_pos _).ne', bits_neg_half, ← EReal.coe_mul, ← EReal.coe_mul]
theorem v12 (i : Fin 4096) (j : Fin 1024) : val_main_v12 (F := Ideal) x0 (ix2 i j) = ((X i j * inv (X i) : ℝ) : EReal) := by
  have h' := I.v7 i
  unfold val_main_v12 val_main_v11
  generalize val_main_v7 (F := Ideal) x0 = w at h' ⊢
  pointwise
  rw [h', I.x, ← EReal.coe_mul]
theorem v16 (i : Fin 4096) (j : Fin 1024) : val_main_v16 (F := Ideal) x0 x1 x2 (ix2 i j) = (diff (X i) G (T i) j : EReal) := by
  have h := I.v12 i j
  unfold val_main_v16 val_main_v15
  generalize val_main_v12 (F := Ideal) x0 = w at h ⊢
  pointwise [val_main_v14, val_main_v13]
  rw [h, I.g, I.t, ← EReal.coe_mul, ← EReal.coe_sub]
  rfl
theorem v20 (i : Fin 4096) : val_main_v20 (F := Ideal) x0 x1 x2 (ix1 i) = (part (X i) G (T i) : EReal) := by
  have h := I.v16
  unfold val_main_v20 val_main_v18 val_main_v17
  generalize val_main_v16 (F := Ideal) x0 x1 x2 = w at h ⊢
  pointwise [val_main_v19, val_main_cst_4, val_main_cst_3]
  simp only [h, ← EReal.coe_mul, ← coe_sum, bits_1024, div_1024]
  rfl
/-- The loss. -/
theorem v22 (i : S_.Idx) : val_main_v22 (F := Ideal) x0 x1 x2 i = ((1 / 2 * ∑ i : Fin 4096, part (X i) G (T i) : ℝ) : EReal) := by
  have h := I.v20
  unfold val_main_v22 val_main_v21
  generalize val_main_v20 (F := Ideal) x0 x1 x2 = w at h ⊢
  pointwise [val_main_cst_5, val_main_cst_6]
  simp only [h, ← coe_sum]
  rw [bits_half, ← EReal.coe_mul]
omit I in
theorem v27 (i : Fin 4096) (j : Fin 1024) : val_main_v27 (F := Ideal) (ix2 i j) = ((1 / 2048 : ℝ) : EReal) := by
  pointwise [val_main_v27, val_main_v26, val_main_v25, val_main_v24, val_main_v23, val_main_cst_7, val_main_cst_8, val_main_cst_9]
  rw [bits_half, bits_1024, div_1024]
  norm_num
theorem v30 (i : Fin 4096) (j : Fin 1024) : val_main_v30 (F := Ideal) x0 x1 x2 (ix2 i j) = (dout (X i) G (T i) j : EReal) := by
  rw [val_main_v30_apply, val_main_v29_apply, val_main_v28_apply, I.v16, v27]
  show (_ * _ + _ * _ : EReal) = _
  rw [← EReal.coe_mul, ← EReal.coe_mul, ← EReal.coe_add, dout]
  congr 1
  ring
/-- The scale's gradient. -/
theorem v36 (j : Fin 1024) : val_main_v36 (F := Ideal) x0 x1 x2 (ix1 j) = ((∑ i : Fin 4096, dout (X i) G (T i) j * (X i j * inv (X i)) : ℝ) : EReal) := by
  have h := I.v30
  have h' := I.v12
  unfold val_main_v36 val_main_v33 val_main_v32 val_main_v31
  generalize val_main_v30 (F := Ideal) x0 x1 x2 = w at h ⊢
  generalize val_main_v12 (F := Ideal) x0 = v at h' ⊢
  pointwise [val_main_cst_10, val_main_cst_11]
  simp only [h, h', ← EReal.coe_mul, ← coe_sum, Fin.sum_univ_one]
  congr 1
  exact Finset.sum_congr rfl fun i _ => mul_comm _ _
theorem v35 (i : Fin 4096) (j : Fin 1024) : val_main_v35 (F := Ideal) x0 x1 x2 (ix2 i j) = (dxh (X i) G (T i) j : EReal) := by
  have h := I.v30
  unfold val_main_v35
  generalize val_main_v30 (F := Ideal) x0 x1 x2 = w at h ⊢
  pointwise [val_main_v34, val_main_v13]
  rw [h, I.g, ← EReal.coe_mul]
  rfl
theorem v46 (i : Fin 4096) (j : Fin 1024) : val_main_v46 (F := Ideal) x0 x1 x2 (ix2 i j)
    = (((∑ k, X i k * dxh (X i) G (T i) k) * (-(1 / 2) * (inv (X i) * (1 / ms (X i)))) * (1 / 1024) : ℝ) : EReal) := by
  have h := I.v35
  have h' := I.v10 i
  unfold val_main_v46 val_main_v45 val_main_v44 val_main_v42 val_main_v39 val_main_v38 val_main_v37
  generalize val_main_v35 (F := Ideal) x0 x1 x2 = w at h ⊢
  generalize val_main_v10 (F := Ideal) x0 = v at h' ⊢
  pointwise [val_main_v43, val_main_cst_12, val_main_cst_13, val_main_cst_14]
  simp only [h, h', I.x, ← EReal.coe_mul, ← coe_sum, Fin.sum_univ_one, bits_1024, div_1024]
/-- The rows' gradient. -/
theorem v50 (i : Fin 4096) (j : Fin 1024) : val_main_v50 (F := Ideal) x0 x1 x2 (ix2 i j) = (dx (X i) G (T i) j : EReal) := by
  have h' : val_main_v40 (F := Ideal) x0 (ix2 i j) = (inv (X i) : EReal) := by
    have h := I.v7 i
    unfold val_main_v40
    generalize val_main_v7 (F := Ideal) x0 = w at h ⊢
    pointwise
    exact h
  rw [val_main_v50_apply, val_main_v49_apply, val_main_v48_apply, val_main_v47_apply, val_main_v41_apply, I.v46, I.v35, I.x, h']
  show (_ * _ + _ * _ + _ * _ : EReal) = _
  rw [← EReal.coe_mul, ← EReal.coe_mul, ← EReal.coe_mul, ← EReal.coe_add, ← EReal.coe_add, dx, inv_cube]
  congr 1
  rw [show (∑ k, dxh (X i) G (T i) k * (X i k * inv (X i))) = (∑ k, X i k * dxh (X i) G (T i) k) * inv (X i) by
    rw [Finset.sum_mul]
    exact Finset.sum_congr rfl fun k _ => by ring]
  ring
end RefReal
end Cert.Proof.Loss
end
-- ==== Proof.Loss.Claim.lean ====
module

public import proofs.«01_k».proof.Proof.Loss.Arrays
public import proofs.«01_k».proof.Proof.Loss.Ref
public import proofs.«01_k».proof.Proof.Fox.Claim
public import proofs.«01_k».proof.Proof.Gen.LossRefIdeal.Run

/-! The loss and its gradients: the kernel's three results are the reference's. -/

@[expose] public section
set_option maxRecDepth 16384
noncomputable section
namespace Cert.Proof.Loss
open Idealize.ShloMosaic Idealize.ShloMosaic.TcCoe Idealize.SL.Sem
open Cert.Proof.Fox (real_of_word Finite real_at ofNat_val)

/-- The precondition's side conditions. -/
theorem preFacts : Cert.Pre_finite_loss.Facts := ⟨by decide, by decide⟩

/-- Rows of real numbers behind the arguments. -/
def mat (x : FVec Ideal ⟨2, ![4096, 1024]⟩ .f32) (i : ℕ) (j : Fin 1024) : ℝ := (x (ix2 (Fin.ofNat 4096 i) (Fin.ofNat 1024 j)) : EReal).toReal
def vec (x : FVec Ideal ⟨1, ![1024]⟩ .f32) (j : Fin 1024) : ℝ := (x (ix1 j) : EReal).toReal

section kernel
open Cert.LossIdeal Cert.LossIdeal.Gen
variable (m : (ℓ : Loc nD τ sig) → Buf (Elt Ideal) ℓ) (c : Dev nD)

/-- The arguments are real. -/
structure Args : Prop where
  x : Finite (s := S4096x1024) (φ := .f32) (m (c.tc.loc main_arg0))
  g : Finite (s := S1024) (φ := .f32) (m (c.tc.loc main_arg1))
  t : Finite (s := S4096x1024) (φ := .f32) (m (c.tc.loc main_arg2))

theorem args_of_pre (h : Cert.Pre_LossIdeal_finite_loss (hPre_finite_loss := preFacts) m) : Args m c := by
  obtain ⟨h0, h1, h2⟩ := h c
  exact ⟨fun i => real_of_word (congrFun h0 i), fun i => real_of_word (congrFun h1 i), fun i => real_of_word (congrFun h2 i)⟩

variable {m c} (A : Args m c)
include A

theorem ref : RefReal (m (c.tc.loc main_arg0)) (m (c.tc.loc main_arg1)) (m (c.tc.loc main_arg2)) (mat (m (c.tc.loc main_arg0))) (vec (m (c.tc.loc main_arg1))) (mat (m (c.tc.loc main_arg2))) where
  x i j := real_at A.x i j
  g j := by
    obtain ⟨r, hr⟩ := A.g (ix1 j)
    rw [vec]
    exact hr.trans (by rw [hr, EReal.toReal_coe])
  t i j := real_at A.t i j

theorem rows : Rows m c (mat (m (c.tc.loc main_arg0))) (vec (m (c.tc.loc main_arg1))) (mat (m (c.tc.loc main_arg2))) where
  blk t := {
    x := fun i j => by rw [blk_0, entry_x]; exact (ref A).x _ j
    g := fun j => by
      rw [blk_1, entry_g]
      refine Eq.trans ?_ ((ref A).g j)
      generalize (m (c.tc.loc main_arg1) : FVec Ideal S1024 .f32) = v
      pointwise
    t := fun i j => by rw [blk_2, entry_t]; exact (ref A).t _ j }

omit A in
theorem row_at (u : FVec Ideal S1x1024 .f32) (j : Fin 1024) : (shapeCast S1024 u shapeCasts_S1x1024_S1024 : FVec Ideal S1024 .f32) (ix1 j) = u (ix2 0 j) := by
  pointwise
omit A in
theorem first_at (u : FVec Ideal S1x128 .f32) (p : S_.Idx) : (shapeCast S_ (extractStridedSlice S1x1 ![0, 0] u slices_S1x128_S1x1_0_0) shapeCasts_S1x1_S_ : FVec Ideal S_ .f32) p = u (ix2 0 0) := by
  pointwise
omit A in
/-- A sum over the rows, block by block. -/
theorem blocks (f : ℕ → ℝ) : ∑ s ∈ Finset.range 16, ∑ i : Fin 256, f (256 * s + i) = ∑ i : Fin 4096, f i := by
  rw [Fin.sum_univ_tiles 16 256 rfl (fun i : Fin 4096 => f i), Finset.sum_range]
  simp only [Nat.mul_comm 256]

theorem out3 : Pipeline.afterTail₀ cfgs (dats m) 0 (V0 m) [hostOps1] c main_v3
    = Cert.LossRefIdeal.Read.val_main_v22 (F := Ideal) (m (c.tc.loc main_arg0)) (m (c.tc.loc main_arg1)) (m (c.tc.loc main_arg2)) := by
  funext p
  refine Eq.trans ?_ ((ref A).v22 p).symm
  rw [tail_v3, arr_3]
  refine (first_at _ p).trans (((rows A).sums 15 last.isLt).1.trans ?_)
  rw [← blocks fun i => part (mat (m (c.tc.loc main_arg0)) i) (vec (m (c.tc.loc main_arg1))) (mat (m (c.tc.loc main_arg2)) i), Finset.mul_sum]
theorem out4 : Pipeline.afterTail₀ cfgs (dats m) 0 (V0 m) [hostOps1] c main_v4
    = Cert.LossRefIdeal.Read.val_main_v36 (F := Ideal) (m (c.tc.loc main_arg0)) (m (c.tc.loc main_arg1)) (m (c.tc.loc main_arg2)) := by
  funext p
  idx_vars p
  refine Eq.trans ?_ ((ref A).v36 p0).symm
  rw [tail_v4, arr_5]
  refine (row_at _ p0).trans ((((rows A).sums 15 last.isLt).2 p0).trans ?_)
  rw [← blocks fun i => dout (mat (m (c.tc.loc main_arg0)) i) (vec (m (c.tc.loc main_arg1))) (mat (m (c.tc.loc main_arg2)) i) p0
    * (mat (m (c.tc.loc main_arg0)) i p0 * inv (mat (m (c.tc.loc main_arg0)) i))]
theorem out1 : Pipeline.afterTail₀ cfgs (dats m) 0 (V0 m) [hostOps1] c main_v1_1
    = Cert.LossRefIdeal.Read.val_main_v50 (F := Ideal) (m (c.tc.loc main_arg0)) (m (c.tc.loc main_arg1)) (m (c.tc.loc main_arg2)) := by
  funext p
  idx_vars p
  refine Eq.trans ?_ ((ref A).v50 p0 p1).symm
  rw [tail_v1_1, arr_4 m (rows A)]
  show (dx _ _ _ (Fin.ofNat 1024 p1.val) : EReal) = _
  rw [ofNat_val]
  rfl
end kernel

/-- The reference's frame: its run at the arguments; it declares no semaphore. -/
theorem frame_ref : Cert.quiescent_LossRefIdeal := fun m ρ _ =>
  (θ_run _ _ _).mono (fun r h => ⟨fun c => (h c).2.2.2, Idealize.ShloMosaic.sem_eq_zero_of_no_sems (by decide) r.2⟩) (Cert.LossRefIdeal.Value.run (F := Ideal) m ρ)

theorem alg : Cert.algebraic_LossIdeal_LossRefIdeal_pre_finite_loss (hLossIdeal := Cert.LossIdeal.Gen.facts) (hLossRefIdeal := Cert.LossRefIdeal.Gen.facts) (hPre_finite_loss := preFacts) := by
  intro m g m' g' hpre hagree
  have A := fun c => args_of_pre m c hpre
  refine ⟨fun c => Cert.LossRefIdeal.Read.val_main_v22 (F := Ideal) (m (c.tc.loc Cert.LossIdeal.main_arg0)) (m (c.tc.loc Cert.LossIdeal.main_arg1)) (m (c.tc.loc Cert.LossIdeal.main_arg2)),
    fun c => Cert.LossRefIdeal.Read.val_main_v50 (F := Ideal) (m (c.tc.loc Cert.LossIdeal.main_arg0)) (m (c.tc.loc Cert.LossIdeal.main_arg1)) (m (c.tc.loc Cert.LossIdeal.main_arg2)),
    fun c => Cert.LossRefIdeal.Read.val_main_v36 (F := Ideal) (m (c.tc.loc Cert.LossIdeal.main_arg0)) (m (c.tc.loc Cert.LossIdeal.main_arg1)) (m (c.tc.loc Cert.LossIdeal.main_arg2)), ?_, ?_⟩
  · refine (θ_run _ _ _).mono (fun r h c => ?_) (θ_run_and (Cert.LossIdeal.Gen.unchanged m g) (Cert.LossIdeal.Gen.run_main m g))
    exact ⟨((h.2 c).2 Cert.LossIdeal.main_v3 (Pipeline.mem_restRefs_of Cert.LossIdeal.main_v3 (by decide) (by decide))).trans (out3 (A c)),
      ((h.2 c).1 4).trans ((tail_v1_1 m c).symm.trans (out1 (A c))),
      ((h.2 c).2 Cert.LossIdeal.main_v4 (Pipeline.mem_restRefs_of Cert.LossIdeal.main_v4 (by decide) (by decide))).trans (out4 (A c)), h.1 c⟩
  · refine (θ_run _ _ _).mono (fun r h c => ?_) (Cert.LossRefIdeal.Value.run m' g')
    obtain ⟨h0, h1, h2, hargs⟩ := h c
    obtain ⟨a0, a1, a2⟩ := hagree c
    refine ⟨h0.trans ?_, h1.trans ?_, h2.trans ?_, hargs⟩
    · rw [Cert.LossRefIdeal.Read.val_main_v22_eq, a0, a1, a2]
    · rw [Cert.LossRefIdeal.Read.val_main_v50_eq, a0, a1, a2]
    · rw [Cert.LossRefIdeal.Read.val_main_v36_eq, a0, a1, a2]
end Cert.Proof.Loss
end
-- ==== Proof.Gate.Block.lean ====
module

public import proofs.«01_k».proof.Defs
public import proofs.«01_k».proof.Proof.Gen.GateIdeal.Frame
public import Idealize.ShloMosaic.Lib.Claim
public import Idealize.ShloMosaic.Lib.Pipeline.ValueKit
public import Idealize.ShloMosaic.Lib.Pointwise

/-! What one block of rows of the gate's gradient computes. -/

@[expose] public section
set_option maxRecDepth 16384
noncomputable section
namespace Cert.Proof.Gate
open Idealize.ShloMosaic Idealize.ShloMosaic.TcCoe Idealize.SL.Sem
open Cert.GateIdeal Cert.GateIdeal.Gen

/-- The logistic, -/
def lg (a : EReal) : EReal := Ideal.div 1 (1 + Ideal.exp (-a))
/-- the gradient of a head's output, -/
def dov (d a : EReal) : EReal := d * (a * lg a)
/-- the gate's -/
def dgt (d o a : EReal) : EReal := d * o * (lg a * (1 + a * (1 - lg a)))

variable (x0 : FVec Ideal S512x1024 .f32) (x3 : FVec Ideal S1x1024 .f32) (x4 : FVec Ideal S1024x1024 .bf16) (g : FVec Ideal S512x512 .f32) (o : FVec Ideal S512x512 .f32)

/-- and the gradient of the gated heads. -/
def du (i : Fin 512) (a : Fin 1024) : EReal := ∑ k : Fin 1024, x0 (ix2 i k) * x3 (ix2 0 k) * x4 (ix2 a k)

theorem pay11_at (i : Fin 512) (k : Fin 1024) : k0_pay11 (F := Ideal) x0 x3 (ix2 i k) = x0 (ix2 i k) * x3 (ix2 0 k) := by
  pointwise [k0_pay11]
theorem pay13_at (i : Fin 512) (a : Fin 1024) : k0_pay13 (F := Ideal) (k0_pay11 (F := Ideal) x0 x3) x4 (ix2 i a) = du x0 x3 x4 i a := by
  have h := pay11_at x0 x3
  generalize k0_pay11 (F := Ideal) x0 x3 = w at h ⊢
  pointwise [k0_pay13]
  simp only [h]
  rfl
theorem pay15_at (i j : Fin 512) : k0_pay15 (F := Ideal) (k0_pay11 (F := Ideal) x0 x3) x4 (ix2 i j) = du x0 x3 x4 i ⟨j, by omega⟩ := by
  have h := pay13_at x0 x3 x4
  unfold k0_pay15
  generalize k0_pay13 (F := Ideal) (k0_pay11 (F := Ideal) x0 x3) x4 = w at h ⊢
  pointwise
  exact h _ _
theorem pay17_at (i j : Fin 512) : k0_pay17 (F := Ideal) (k0_pay11 (F := Ideal) x0 x3) x4 (ix2 i j) = du x0 x3 x4 i ⟨512 + j, by omega⟩ := by
  have h := pay13_at x0 x3 x4
  unfold k0_pay17
  generalize k0_pay13 (F := Ideal) (k0_pay11 (F := Ideal) x0 x3) x4 = w at h ⊢
  pointwise
  exact h _ _
theorem pay16_at (i j : Fin 512) : k0_pay16 (F := Ideal) g (ix2 i j) = g (ix2 i j) := by
  pointwise [k0_pay16]
theorem pay18_at (i j : Fin 512) : k0_pay18 (F := Ideal) g (ix2 i j) = g (ix2 i j) := by
  pointwise [k0_pay18]
theorem pay3_at (i j : Fin 512) : k0_pay3 (F := Ideal) g (ix2 i j) = lg (g (ix2 i j)) := by
  pointwise [k0_pay3]
  rfl
theorem pay19_at (i j : Fin 512) : k0_pay19 (F := Ideal) g (ix2 i j) = lg (g (ix2 i j)) := by
  have h := pay16_at g
  unfold k0_pay19
  generalize k0_pay16 (F := Ideal) g = w at h ⊢
  pointwise
  rw [h]
  rfl
theorem pay20_at (i j : Fin 512) : k0_pay20 (F := Ideal) (k0_pay11 (F := Ideal) x0 x3) x4 g (ix2 i j) = dov (du x0 x3 x4 i ⟨j, by omega⟩) (g (ix2 i j)) := by
  have h := pay15_at x0 x3 x4 i j
  have h1 := pay16_at g i j
  have h2 := pay19_at g i j
  unfold k0_pay20
  generalize k0_pay15 (F := Ideal) (k0_pay11 (F := Ideal) x0 x3) x4 = w at h ⊢
  generalize k0_pay16 (F := Ideal) g = w1 at h1 ⊢
  generalize k0_pay19 (F := Ideal) g = w2 at h2 ⊢
  pointwise
  rw [h, h1, h2]
  rfl
theorem pay21_at (i j : Fin 512) : k0_pay21 (F := Ideal) (k0_pay11 (F := Ideal) x0 x3) x4 g (ix2 i j) = dov (du x0 x3 x4 i ⟨j, by omega⟩) (g (ix2 i j)) := by
  have h := pay20_at x0 x3 x4 g i j
  unfold k0_pay21
  generalize k0_pay20 (F := Ideal) (k0_pay11 (F := Ideal) x0 x3) x4 g = w at h ⊢
  pointwise
  exact h
theorem pay4_at (u : FVec Ideal S512x512 .f32) (i j : Fin 512) : k0_pay4 (F := Ideal) u g (ix2 i j) = dov (u (ix2 i j)) (g (ix2 i j)) := by
  have h := pay3_at g i j
  unfold k0_pay4
  generalize k0_pay3 (F := Ideal) g = w at h ⊢
  pointwise
  rw [h]
  rfl
theorem pay5_at (u : FVec Ideal S512x512 .f32) (i j : Fin 512) : k0_pay5 (F := Ideal) u g (ix2 i j) = dov (u (ix2 i j)) (g (ix2 i j)) := by
  have h := pay4_at g u i j
  unfold k0_pay5
  generalize k0_pay4 (F := Ideal) u g = w at h ⊢
  pointwise
  exact h
theorem pay6_at (u : FVec Ideal S512x512 .f32) (i j : Fin 512) : k0_pay6 (F := Ideal) u g o (ix2 i j) = dgt (u (ix2 i j)) (o (ix2 i j)) (g (ix2 i j)) := by
  have h := pay3_at g i j
  unfold k0_pay6
  generalize k0_pay3 (F := Ideal) g = w at h ⊢
  pointwise
  rw [h]
  rfl
theorem pay1_at (u s : FVec Ideal S512x512 .f32) (i j : Fin 512) (hs : s (ix2 i j) = lg (g (ix2 i j))) : k0_pay1 (F := Ideal) u g s o (ix2 i j) = dgt (u (ix2 i j)) (o (ix2 i j)) (g (ix2 i j)) := by
  pointwise [k0_pay1]
  rw [hs]
  rfl
/-- The matrix that names each column's head. -/
theorem head_at (n : Fin 512) (l : Fin 128) : k0_pay14 (F := Ideal) (ix2 n l) = if n.val / 64 = l.val then 1 else 0 := by
  have q : ∀ n : Fin 512, Scalar.select
      (IntOp.andi
        (IntOp.cmpi .ne (IntOp.subi (BitVec.setWidth 32 (IntOp.cmpi .sgt (BitVec.ofNat 32 n.val) 0#32)) (BitVec.setWidth 32 (IntOp.cmpi .slt (BitVec.ofNat 32 n.val) 0#32)))
          (Scalar.subi (Scalar.extui (Scalar.cmpi .sgt 64#32 0#32)) (Scalar.extui (Scalar.cmpi .slt 64#32 0#32))))
        (IntOp.cmpi .ne (IntOp.remsi .vector (BitVec.ofNat 32 n.val) 64#32) 0#32))
      (IntOp.subi (IntOp.divsi .vector (BitVec.ofNat 32 n.val) 64#32) 1#32)
      (IntOp.divsi .vector (BitVec.ofNat 32 n.val) 64#32) = BitVec.ofNat 32 (n.val / 64) := by decide +kernel
  have w : ∀ (a : Fin 8) (l : Fin 128), BitVec.setWidth 32 (IntOp.cmpi .eq (BitVec.ofNat 32 a.val) (BitVec.ofNat 32 l.val)) = if a.val = l.val then 1#32 else 0#32 := by decide +kernel
  pointwise [k0_pay14]
  rw [q n, w ⟨n.val / 64, by omega⟩ l]
  by_cases e : n.val / 64 = l.val
  · rw [if_pos e, if_pos e]
    simp [FloatOps.sitofp]
  · rw [if_neg e, if_neg e]
    simp [FloatOps.sitofp]
/-- A sum over one head's columns. -/
theorem head_cols (f : Fin 512 → EReal) (l : ℕ) (hl : l < 8) : (∑ n : Fin 512, f n * if n.val / 64 = l then 1 else 0) = ∑ e : Fin 64, f ⟨64 * l + e, by omega⟩ := by
  have t := Fin.sum_univ_tiles 8 64 rfl (fun n : Fin 512 => f n * if n.val / 64 = l then (1 : EReal) else 0)
  rw [t, Finset.sum_eq_single ⟨l, hl⟩]
  · refine Finset.sum_congr rfl fun e _ => ?_
    rw [if_pos (by show (l * 64 + e.val) / 64 = l; omega), mul_one]
    exact congrArg f (Fin.ext (by show l * 64 + e.val = 64 * l + e.val; omega))
  · intro a _ ha
    refine Finset.sum_eq_zero fun e _ => ?_
    rw [if_neg (by show ¬(a.val * 64 + e.val) / 64 = l; intro h; exact ha (Fin.ext (by show a.val = l; omega))), mul_zero]
  · intro h
    exact absurd (Finset.mem_univ _) h
/-- A head's sum as the kernel takes it: over all columns, those of other heads weighted by zero. -/
def headSum (f : Fin 512 → EReal) (l : ℕ) : EReal := ∑ n : Fin 512, f n * if n.val / 64 = l then 1 else 0
theorem pay7_at (u : FVec Ideal S512x512 .f32) (i : Fin 512) (l : Fin 128) : k0_pay7 (F := Ideal) (k0_pay14 (F := Ideal)) u g o (ix2 i l)
    = headSum (fun n => dov (u (ix2 i n)) (g (ix2 i n)) * o (ix2 i n)) l := by
  have h := head_at
  have h' := pay4_at g u
  unfold k0_pay7
  generalize k0_pay14 (F := Ideal) = w at h ⊢
  generalize k0_pay4 (F := Ideal) u g = v at h' ⊢
  pointwise
  simp only [h, h']
  rfl
theorem pay2_at (v : FVec Ideal S512x512 .f32) (i : Fin 512) (l : Fin 128) : k0_pay2 (F := Ideal) (k0_pay14 (F := Ideal)) o v (ix2 i l)
    = headSum (fun n => v (ix2 i n) * o (ix2 i n)) l := by
  have h := head_at
  unfold k0_pay2
  generalize k0_pay14 (F := Ideal) = w at h ⊢
  pointwise
  simp only [h]
  rfl
theorem ld_left (x : FVec Ideal S512x1024 .f32) (i j : Fin 512) : (View.ld (Val := Elt Ideal) (S := S512x1024) (e' := .f32) x (Rect.unit ![0, 0] ![512, 512] inb_S512x1024_S512x512_0_0) : Vec Ideal S512x512 .f32) (ix2 i j) = x (ix2 i ⟨j, by omega⟩) := by
  refine View.ld_unit_apply_of _ _ _ _ _ _ fun a => ?_
  fin_cases a <;> simp [ix2]
theorem ld_right (x : FVec Ideal S512x1024 .f32) (i j : Fin 512) : (View.ld (Val := Elt Ideal) (S := S512x1024) (e' := .f32) x (Rect.unit ![0, 512] ![512, 512] inb_S512x1024_S512x512_0_512) : Vec Ideal S512x512 .f32) (ix2 i j) = x (ix2 i ⟨512 + j, by omega⟩) := by
  refine View.ld_unit_apply_of _ _ _ _ _ _ fun a => ?_
  fin_cases a <;> simp [ix2]
theorem pay10_at (x1 : FVec Ideal S512x1024 .bf16) (v : FVec Ideal S1x1024 .f32) (k : Fin 1024) : k0_pay10 (F := Ideal) x0 v x1 (ix2 0 k) = v (ix2 0 k) + ∑ i : Fin 512, x0 (ix2 i k) * x1 (ix2 i k) := by
  pointwise [k0_pay10]
theorem pay12_at (x2 : FVec Ideal S512x1024 .bf16) (v : FVec Ideal S1024x1024 .f32) (a k : Fin 1024) : k0_pay12 (F := Ideal) x0 x3 v x2 (ix2 a k)
    = v (ix2 a k) + ∑ i : Fin 512, x2 (ix2 i a) * (x0 (ix2 i k) * x3 (ix2 0 k)) := by
  have h := pay11_at x0 x3
  unfold k0_pay12
  generalize k0_pay11 (F := Ideal) x0 x3 = w at h ⊢
  pointwise
  simp only [h]
end Cert.Proof.Gate
end
-- ==== Proof.Gate.Step.lean ====
module

public import proofs.«01_k».proof.Proof.Gate.Block
public import Idealize.ShloMosaic.Lib.Pipeline.ReadBack

/-! What the gate's buffers hold after each block of rows. -/

@[expose] public section
set_option maxRecDepth 16384
noncomputable section
namespace Cert.Proof.Gate
open Idealize.ShloMosaic Idealize.ShloMosaic.TcCoe Idealize.SL.Sem
open Cert.GateIdeal Cert.GateIdeal.Gen

theorem zeros : (![0, 0] : Fin 2 → Nat) = fun _ => 0 := funext fun a => by fin_cases a <;> rfl

variable (m : (ℓ : Loc nD τ sig) → Buf (Elt Ideal) ℓ) (c : Dev nD)

/-- The columns of a block of gates: the first half's, the second half's. -/
def left (x : FVec Ideal S512x1024 .f32) : FVec Ideal S512x512 .f32 := View.ld (Val := Elt Ideal) (S := S512x1024) (e' := .f32) x (Rect.unit ![0, 0] ![512, 512] inb_S512x1024_S512x512_0_0)
def right (x : FVec Ideal S512x1024 .f32) : FVec Ideal S512x512 .f32 := View.ld (Val := Elt Ideal) (S := S512x1024) (e' := .f32) x (Rect.unit ![0, 512] ![512, 512] inb_S512x1024_S512x512_0_512)
/-- What a block leaves in the buffers of its rows. -/
def o8 (t : Fin cfg0.N) : FVec Ideal S512x512 .bf16 := k0_pay21 (F := Ideal) (k0_pay11 (iblk m c 0 t) (iblk m c 3 t)) (iblk m c 4 t) (left (iblk m c 7 t))
def o9 (t : Fin cfg0.N) : FVec Ideal S512x512 .bf16 := k0_pay5 (F := Ideal) (k0_pay17 (k0_pay11 (iblk m c 0 t) (iblk m c 3 t)) (iblk m c 4 t)) (k0_pay18 (right (iblk m c 7 t)))
def o10 (t : Fin cfg0.N) : FVec Ideal S512x512 .bf16 := k0_pay1 (F := Ideal) (k0_pay15 (k0_pay11 (iblk m c 0 t) (iblk m c 3 t)) (iblk m c 4 t))
  (k0_pay16 (left (iblk m c 7 t))) (k0_pay19 (left (iblk m c 7 t))) (iblk m c 5 t)
def o11 (t : Fin cfg0.N) : FVec Ideal S512x512 .bf16 := k0_pay6 (F := Ideal) (k0_pay17 (k0_pay11 (iblk m c 0 t) (iblk m c 3 t)) (iblk m c 4 t))
  (k0_pay18 (right (iblk m c 7 t))) (iblk m c 6 t)
def o12 (t : Fin cfg0.N) : FVec Ideal S512x128 .f32 := k0_pay2 (F := Ideal) k0_pay14 (iblk m c 5 t)
  (k0_pay20 (k0_pay11 (iblk m c 0 t) (iblk m c 3 t)) (iblk m c 4 t) (left (iblk m c 7 t)))
def o13 (t : Fin cfg0.N) : FVec Ideal S512x128 .f32 := k0_pay7 (F := Ideal) k0_pay14 (k0_pay17 (k0_pay11 (iblk m c 0 t) (iblk m c 3 t)) (iblk m c 4 t))
  (k0_pay18 (right (iblk m c 7 t))) (iblk m c 6 t)

/-- The first block starts the sums at zero, -/
theorem first (t : Fin cfg0.N) (h0 : t.val % 8 = 0) (h1 : ¬t.val % 8 = 7) : ∃ w, outsAt0 m c t.val t.isLt = (o8 m c t, o9 m c t, o10 m c t, o11 m c t, o12 m c t, o13 m c t,
    k0_pay10 (F := Ideal) (iblk m c 0 t) (k0_pay8 (F := Ideal)) (iblk m c 1 t), w,
    k0_pay12 (F := Ideal) (iblk m c 0 t) (iblk m c 3 t) (k0_pay9 (F := Ideal)) (iblk m c 2 t)) := by
  rw [outsAt0_A m c t h0 h1]
  unfold out0_A_8 out0_A_9 out0_A_10 out0_A_11 out0_A_12 out0_A_13 out0_A_14 sout0_A_0 o8 o9 o10 o11 o12 o13
  refine ⟨_, congrArg₂ Prod.mk ((View.read_writes_eq_canon _ _ _ fun y => cover0_A_8 (F := Ideal) ..).trans ?_)
    (congrArg₂ Prod.mk ((View.read_writes_eq_canon _ _ _ fun y => cover0_A_9 (F := Ideal) ..).trans ?_)
    (congrArg₂ Prod.mk ((View.read_writes_eq_canon _ _ _ fun y => cover0_A_10 (F := Ideal) ..).trans ?_)
    (congrArg₂ Prod.mk ((View.read_writes_eq_canon _ _ _ fun y => cover0_A_11 (F := Ideal) ..).trans ?_)
    (congrArg₂ Prod.mk ((View.read_writes_eq_canon _ _ _ fun y => cover0_A_12 (F := Ideal) ..).trans ?_)
    (congrArg₂ Prod.mk ((View.read_writes_eq_canon _ _ _ fun y => cover0_A_13 (F := Ideal) ..).trans ?_)
    (congrArg₂ Prod.mk ((View.read_writes_eq_canon _ _ _ fun y => cover0_A_14 (F := Ideal) ..).trans ?_)
    (congrArg₂ Prod.mk rfl ((View.read_writes_eq_canon _ _ _ fun y => scover0_A_0 (F := Ideal) ..).trans ?_))))))))⟩
  all_goals (try (unfold kernelRun0_A))
  all_goals (try dsimp only)
  all_goals (try sl_unfold_words)
  all_goals (try (first
      | rw [View.canon_unit_zero zeros]
      | rw [View.canon_cons_unit_zero (S := S1x1024) zeros, View.readCov_unit_zero (S := S1x1024) _ zeros]
      | rw [View.canon_cons_unit_zero (S := S1024x1024) zeros, View.readCov_unit_zero (S := S1024x1024) _ zeros]))
  all_goals (try rw [View.readCov_unit_zero (S := S1024x1024) _ zeros])
  all_goals simp only [View.readAt_eq_ld, Memref.IsWhole.read_unread, read_unread_whole, View.ld_unit_zero (S := S512x1024) zeros, View.ld_unit_zero (S := S1x1024) zeros,
      View.ld_unit_zero (S := S512x512) zeros, View.ld_unit_zero (S := S1024x1024) zeros]
  all_goals (try rfl)
/-- each later one adds to them, -/
theorem later (t : Fin cfg0.N) (h0 : ¬t.val % 8 = 0) (h1 : ¬t.val % 8 = 7) : ∃ w, outsAt0 m c t.val t.isLt = (o8 m c t, o9 m c t, o10 m c t, o11 m c t, o12 m c t, o13 m c t,
    k0_pay10 (F := Ideal) (iblk m c 0 t) ((outsAt0 m c (t.val - 1) (Nat.lt_of_le_of_lt (Nat.sub_le _ _) t.isLt)).2.2.2.2.2.2.1) (iblk m c 1 t), w,
    k0_pay12 (F := Ideal) (iblk m c 0 t) (iblk m c 3 t) ((outsAt0 m c (t.val - 1) (Nat.lt_of_le_of_lt (Nat.sub_le _ _) t.isLt)).2.2.2.2.2.2.2.2) (iblk m c 2 t)) := by
  rw [outsAt0_B m c t h0 h1]
  unfold out0_B_8 out0_B_9 out0_B_10 out0_B_11 out0_B_12 out0_B_13 out0_B_14 sout0_B_0 o8 o9 o10 o11 o12 o13
  refine ⟨_, congrArg₂ Prod.mk ((View.read_writes_eq_canon _ _ _ fun y => cover0_B_8 (F := Ideal) ..).trans ?_)
    (congrArg₂ Prod.mk ((View.read_writes_eq_canon _ _ _ fun y => cover0_B_9 (F := Ideal) ..).trans ?_)
    (congrArg₂ Prod.mk ((View.read_writes_eq_canon _ _ _ fun y => cover0_B_10 (F := Ideal) ..).trans ?_)
    (congrArg₂ Prod.mk ((View.read_writes_eq_canon _ _ _ fun y => cover0_B_11 (F := Ideal) ..).trans ?_)
    (congrArg₂ Prod.mk ((View.read_writes_eq_canon _ _ _ fun y => cover0_B_12 (F := Ideal) ..).trans ?_)
    (congrArg₂ Prod.mk ((View.read_writes_eq_canon _ _ _ fun y => cover0_B_13 (F := Ideal) ..).trans ?_)
    (congrArg₂ Prod.mk ((View.read_writes_eq_canon _ _ _ fun y => cover0_B_14 (F := Ideal) ..).trans ?_)
    (congrArg₂ Prod.mk rfl ((View.read_writes_eq_canon _ _ _ fun y => scover0_B_0 (F := Ideal) ..).trans ?_))))))))⟩
  all_goals (try (unfold kernelRun0_B))
  all_goals (try dsimp only)
  all_goals (try sl_unfold_words)
  all_goals (try (first
      | rw [View.canon_unit_zero zeros]
      | rw [View.canon_cons_unit_zero (S := S1x1024) zeros, View.readCov_unit_zero (S := S1x1024) _ zeros]
      | rw [View.canon_cons_unit_zero (S := S1024x1024) zeros, View.readCov_unit_zero (S := S1024x1024) _ zeros]))
  all_goals (try rw [View.readCov_unit_zero (S := S1024x1024) _ zeros])
  all_goals simp only [View.readAt_eq_ld, Memref.IsWhole.read_unread, read_unread_whole, View.ld_unit_zero (S := S512x1024) zeros, View.ld_unit_zero (S := S1x1024) zeros,
      View.ld_unit_zero (S := S512x512) zeros, View.ld_unit_zero (S := S1024x1024) zeros]
  all_goals (try rfl)
/-- and the last writes the second out. -/
theorem final (t : Fin cfg0.N) (h0 : ¬t.val % 8 = 0) (h1 : t.val % 8 = 7) : outsAt0 m c t.val t.isLt = (o8 m c t, o9 m c t, o10 m c t, o11 m c t, o12 m c t, o13 m c t,
    k0_pay10 (F := Ideal) (iblk m c 0 t) ((outsAt0 m c (t.val - 1) (Nat.lt_of_le_of_lt (Nat.sub_le _ _) t.isLt)).2.2.2.2.2.2.1) (iblk m c 1 t), k0_pay12 (F := Ideal) (iblk m c 0 t) (iblk m c 3 t) ((outsAt0 m c (t.val - 1) (Nat.lt_of_le_of_lt (Nat.sub_le _ _) t.isLt)).2.2.2.2.2.2.2.2) (iblk m c 2 t),
    k0_pay12 (F := Ideal) (iblk m c 0 t) (iblk m c 3 t) ((outsAt0 m c (t.val - 1) (Nat.lt_of_le_of_lt (Nat.sub_le _ _) t.isLt)).2.2.2.2.2.2.2.2) (iblk m c 2 t)) := by
  rw [outsAt0_C m c t h0 h1]
  unfold out0_C_8 out0_C_9 out0_C_10 out0_C_11 out0_C_12 out0_C_13 out0_C_14 out0_C_15 sout0_C_0 o8 o9 o10 o11 o12 o13
  refine congrArg₂ Prod.mk ((View.read_writes_eq_canon _ _ _ fun y => cover0_C_8 (F := Ideal) ..).trans ?_)
    (congrArg₂ Prod.mk ((View.read_writes_eq_canon _ _ _ fun y => cover0_C_9 (F := Ideal) ..).trans ?_)
    (congrArg₂ Prod.mk ((View.read_writes_eq_canon _ _ _ fun y => cover0_C_10 (F := Ideal) ..).trans ?_)
    (congrArg₂ Prod.mk ((View.read_writes_eq_canon _ _ _ fun y => cover0_C_11 (F := Ideal) ..).trans ?_)
    (congrArg₂ Prod.mk ((View.read_writes_eq_canon _ _ _ fun y => cover0_C_12 (F := Ideal) ..).trans ?_)
    (congrArg₂ Prod.mk ((View.read_writes_eq_canon _ _ _ fun y => cover0_C_13 (F := Ideal) ..).trans ?_)
    (congrArg₂ Prod.mk ((View.read_writes_eq_canon _ _ _ fun y => cover0_C_14 (F := Ideal) ..).trans ?_)
    (congrArg₂ Prod.mk ((View.read_writes_eq_canon _ _ _ fun y => cover0_C_15 (F := Ideal) ..).trans ?_) ((View.read_writes_eq_canon _ _ _ fun y => scover0_C_0 (F := Ideal) ..).trans ?_))))))))
  all_goals (try (unfold kernelRun0_C))
  all_goals (try dsimp only)
  all_goals (try sl_unfold_words)
  all_goals (try (first
      | rw [View.canon_unit_zero zeros]
      | rw [View.canon_cons_unit_zero (S := S1x1024) zeros, View.readCov_unit_zero (S := S1x1024) _ zeros]
      | rw [View.canon_cons_unit_zero (S := S1024x1024) zeros, View.readCov_unit_zero (S := S1024x1024) _ zeros]))
  all_goals (try rw [View.readCov_unit_zero (S := S1024x1024) _ zeros])
  all_goals simp only [View.readAt_eq_ld, Memref.IsWhole.read_unread, read_unread_whole, View.ld_unit_zero (S := S512x1024) zeros, View.ld_unit_zero (S := S1x1024) zeros,
      View.ld_unit_zero (S := S512x512) zeros, View.ld_unit_zero (S := S1024x1024) zeros]
  all_goals (try rfl)
end Cert.Proof.Gate
end
-- ==== Proof.Gate.Sums.lean ====
module

public import proofs.«01_k».proof.Proof.Gate.Step

/-! What the gate's blocks add up to. -/

@[expose] public section
set_option maxRecDepth 16384
noncomputable section
namespace Cert.Proof.Gate
open Idealize.ShloMosaic Idealize.ShloMosaic.TcCoe Idealize.SL.Sem
open Cert.GateIdeal Cert.GateIdeal.Gen

variable (m : (ℓ : Loc nD τ sig) → Buf (Elt Ideal) ℓ) (c : Dev nD)

theorem points : cfg0.N = 8 := N_0
/-- The last point. -/
def last : Fin cfg0.N := ⟨7, by rw [points]; decide⟩

/-- The blocks that the sums read. -/
abbrev bX (t : Fin cfg0.N) : FVec Ideal S512x1024 .f32 := iblk m c 0 t
abbrev bY (t : Fin cfg0.N) : FVec Ideal S512x1024 .bf16 := iblk m c 1 t
abbrev bU (t : Fin cfg0.N) : FVec Ideal S512x1024 .bf16 := iblk m c 2 t
abbrev bG (t : Fin cfg0.N) : FVec Ideal S1x1024 .f32 := iblk m c 3 t

theorem zero8 (k : Fin 1024) : k0_pay8 (F := Ideal) (ix2 0 k) = 0 := by
  pointwise [k0_pay8]
theorem zero9 (a k : Fin 1024) : k0_pay9 (F := Ideal) (ix2 a k) = 0 := by
  pointwise [k0_pay9]

theorem rows (t : Fin cfg0.N) : (outsAt0 m c t.val t.isLt).1 = o8 m c t ∧ (outsAt0 m c t.val t.isLt).2.1 = o9 m c t ∧ (outsAt0 m c t.val t.isLt).2.2.1 = o10 m c t
    ∧ (outsAt0 m c t.val t.isLt).2.2.2.1 = o11 m c t ∧ (outsAt0 m c t.val t.isLt).2.2.2.2.1 = o12 m c t ∧ (outsAt0 m c t.val t.isLt).2.2.2.2.2.1 = o13 m c t := by
  by_cases h0 : t.val % 8 = 0
  · obtain ⟨w, h⟩ := first m c t h0 (by omega)
    rw [h]
    exact ⟨rfl, rfl, rfl, rfl, rfl, rfl⟩
  · by_cases h1 : t.val % 8 = 7
    · rw [final m c t h0 h1]
      exact ⟨rfl, rfl, rfl, rfl, rfl, rfl⟩
    · obtain ⟨w, h⟩ := later m c t h0 h1
      rw [h]
      exact ⟨rfl, rfl, rfl, rfl, rfl, rfl⟩

/-- The accumulated buffers at a later point, from those of the point before. -/
theorem step (n : ℕ) (hn : n + 1 < cfg0.N) :
    (outsAt0 m c (n + 1) hn).2.2.2.2.2.2.1 = k0_pay10 (F := Ideal) (iblk m c 0 ⟨n + 1, hn⟩) (outsAt0 m c n (by omega)).2.2.2.2.2.2.1 (iblk m c 1 ⟨n + 1, hn⟩)
    ∧ (outsAt0 m c (n + 1) hn).2.2.2.2.2.2.2.2 = k0_pay12 (F := Ideal) (iblk m c 0 ⟨n + 1, hn⟩) (iblk m c 3 ⟨n + 1, hn⟩) (outsAt0 m c n (by omega)).2.2.2.2.2.2.2.2 (iblk m c 2 ⟨n + 1, hn⟩) := by
  have hN := points
  have h0 : ¬(⟨n + 1, hn⟩ : Fin cfg0.N).val % 8 = 0 := by dsimp only; omega
  by_cases h1 : (⟨n + 1, hn⟩ : Fin cfg0.N).val % 8 = 7
  · have h := final m c ⟨n + 1, hn⟩ h0 h1
    dsimp only at h
    rw [h]
    exact ⟨rfl, rfl⟩
  · obtain ⟨w, h⟩ := later m c ⟨n + 1, hn⟩ h0 h1
    dsimp only at h
    rw [h]
    exact ⟨rfl, rfl⟩

/-- The sums over the blocks so far. -/
theorem sums (f : ℕ → Fin 1024 → EReal) (g : ℕ → Fin 1024 → Fin 1024 → EReal)
    (hf : ∀ (t : Fin cfg0.N) (i : Fin 512) (k : Fin 1024), bX m c t (ix2 i k) * bY m c t (ix2 i k) = f (512 * t + i) k)
    (hg : ∀ (t : Fin cfg0.N) (i : Fin 512) (a k : Fin 1024), bU m c t (ix2 i a) * (bX m c t (ix2 i k) * bG m c t (ix2 0 k)) = g (512 * t + i) a k) (n : ℕ) (hn : n < cfg0.N) :
    (∀ k : Fin 1024, ((outsAt0 m c n hn).2.2.2.2.2.2.1 : FVec Ideal S1x1024 .f32) (ix2 0 k) = ∑ s ∈ Finset.range (n + 1), ∑ i : Fin 512, f (512 * s + i) k)
    ∧ ∀ a k : Fin 1024, ((outsAt0 m c n hn).2.2.2.2.2.2.2.2 : FVec Ideal S1024x1024 .f32) (ix2 a k) = ∑ s ∈ Finset.range (n + 1), ∑ i : Fin 512, g (512 * s + i) a k := by
  induction n with
  | zero =>
    obtain ⟨w, h⟩ := first m c ⟨0, hn⟩ (by dsimp only) (by dsimp only; omega)
    dsimp only at h
    rw [h]
    refine ⟨fun k => (pay10_at _ _ _ k).trans ?_, fun a k => (pay12_at _ _ _ _ a k).trans ?_⟩
    · rw [zero8, zero_add, Finset.sum_range_one]
      exact Finset.sum_congr rfl fun i _ => hf ⟨0, hn⟩ i k
    · rw [zero9, zero_add, Finset.sum_range_one]
      exact Finset.sum_congr rfl fun i _ => hg ⟨0, hn⟩ i a k
  | succ n ih =>
    obtain ⟨e1, e2⟩ := ih (by omega)
    obtain ⟨s1, s2⟩ := step m c n hn
    rw [s1, s2]
    refine ⟨fun k => (pay10_at _ _ _ k).trans ?_, fun a k => (pay12_at _ _ _ _ a k).trans ?_⟩
    · rw [e1, Finset.sum_range_succ _ (n + 1)]
      exact congrArg (_ + ·) (Finset.sum_congr rfl fun i _ => hf ⟨n + 1, hn⟩ i k)
    · rw [e2, Finset.sum_range_succ _ (n + 1)]
      exact congrArg (_ + ·) (Finset.sum_congr rfl fun i _ => hg ⟨n + 1, hn⟩ i a k)
/-- The last point writes the second sum out. -/
theorem written : (outsAt0 m c 7 last.isLt).2.2.2.2.2.2.2.1 = (outsAt0 m c 7 last.isLt).2.2.2.2.2.2.2.2 := by
  have h := final m c last (by decide) (by decide)
  have e : last.val = 7 := rfl
  rw [show outsAt0 m c 7 last.isLt = outsAt0 m c last.val last.isLt from rfl, h]
end Cert.Proof.Gate
end
-- ==== Proof.Gate.Ref.lean ====
module

public import proofs.«01_k».proof.Proof.Gate.Block
public import proofs.«01_k».proof.Proof.Gen.GateRefIdeal.Read

/-! What the reference of the gate's gradient computes, at an index. -/

@[expose] public section
set_option maxRecDepth 16384
noncomputable section
namespace Cert.Proof.Gate
open Idealize.ShloMosaic Idealize.ShloMosaic.TcCoe Idealize.SL.Sem
open Cert.GateRefIdeal Cert.GateRefIdeal.Read

variable (x0 x1 x2 x3 : FVec Ideal S4096x512 .f32) (x4 : FVec Ideal S1024 .f32) (x5 : FVec Ideal S1024x1024 .f32) (x6 : FVec Ideal S4096x1024 .f32)

/-- The gradient of the gated heads. -/
def dU (r : Fin 4096) (a : Fin 1024) : EReal := ∑ k : Fin 1024, x6 (ix2 r k) * x4 (ix1 k) * x5 (ix2 a k)

theorem sig0 (r : Fin 4096) (j : Fin 512) : val_main_v0_2 (F := Ideal) x2 (ix2 r j) = lg (x2 (ix2 r j)) := by
  pointwise [val_main_v0_2, val_main_call0_v4, val_main_call0_v3, val_main_call0_v2, val_main_call0_v1, val_main_call0_v0, val_main_call0_cst, val_main_call0_cst_0]
  rfl
theorem sig1 (r : Fin 4096) (j : Fin 512) : val_main_v2_2 (F := Ideal) x3 (ix2 r j) = lg (x3 (ix2 r j)) := by
  pointwise [val_main_v2_2, val_main_call1_v4, val_main_call1_v3, val_main_call1_v2, val_main_call1_v1, val_main_call1_v0, val_main_call1_cst, val_main_call1_cst_0]
  rfl
theorem v10_at (r : Fin 4096) (k : Fin 1024) : val_main_v10 (F := Ideal) x4 x6 (ix2 r k) = x6 (ix2 r k) * x4 (ix1 k) := by
  pointwise [val_main_v10, val_main_v9, val_main_v6]
  rw [mul_comm]
theorem v17_at (r : Fin 4096) (a : Fin 1024) : val_main_v17 (F := Ideal) x4 x5 x6 (ix2 r a) = dU x4 x5 x6 r a := by
  have h := v10_at x4 x6
  unfold val_main_v17
  generalize val_main_v10 (F := Ideal) x4 x6 = w at h ⊢
  pointwise
  simp only [h]
  rfl
theorem v18_at (r : Fin 4096) (j : Fin 512) : val_main_v18 (F := Ideal) x4 x5 x6 (ix2 r j) = dU x4 x5 x6 r ⟨j, by omega⟩ := by
  have h := v17_at x4 x5 x6
  unfold val_main_v18
  generalize val_main_v17 (F := Ideal) x4 x5 x6 = w at h ⊢
  pointwise
  exact h _ _
theorem v19_at (r : Fin 4096) (j : Fin 512) : val_main_v19 (F := Ideal) x4 x5 x6 (ix2 r j) = dU x4 x5 x6 r ⟨512 + j, by omega⟩ := by
  have h := v17_at x4 x5 x6
  unfold val_main_v19
  generalize val_main_v17 (F := Ideal) x4 x5 x6 = w at h ⊢
  pointwise
  exact h _ _
theorem v24_at (r : Fin 4096) (j : Fin 512) : val_main_v24 (F := Ideal) x2 x4 x5 x6 (ix2 r j) = dov (dU x4 x5 x6 r ⟨j, by omega⟩) (x2 (ix2 r j)) := by
  have h := v18_at x4 x5 x6 r j
  have h' := sig0 x2 r j
  unfold val_main_v24 val_main_v0_0
  generalize val_main_v18 (F := Ideal) x4 x5 x6 = w at h ⊢
  generalize val_main_v0_2 (F := Ideal) x2 = u at h' ⊢
  pointwise
  rw [h, h']
  rfl
theorem v21_at (r : Fin 4096) (j : Fin 512) : val_main_v21 (F := Ideal) x3 x4 x5 x6 (ix2 r j) = dov (dU x4 x5 x6 r ⟨512 + j, by omega⟩) (x3 (ix2 r j)) := by
  have h := v19_at x4 x5 x6 r j
  have h' := sig1 x3 r j
  unfold val_main_v21 val_main_v2_0
  generalize val_main_v19 (F := Ideal) x4 x5 x6 = w at h ⊢
  generalize val_main_v2_2 (F := Ideal) x3 = u at h' ⊢
  pointwise
  rw [h, h']
  rfl
/-- The logistic of a real number is real. -/
theorem lg_coe (a : ℝ) : lg (a : EReal) = ((1 / (1 + Real.exp (-a)) : ℝ) : EReal) := by
  have h : (1 + Real.exp (-a) : ℝ) ≠ 0 := by positivity
  unfold lg
  rw [← EReal.coe_neg, Ideal.exp_coe, ← EReal.coe_one, ← EReal.coe_add, Ideal.div_coe h, ← EReal.coe_mul, one_mul]
/-- The gate's gradient, both ways of writing it. -/
theorem gate_eq (d o a : ℝ) : (o : EReal) * d * lg a + (a : EReal) * (o * d) * (lg a * (1 - lg a)) = dgt d o a := by
  unfold dgt
  rw [lg_coe]
  generalize (1 / (1 + Real.exp (-a)) : ℝ) = s
  simp only [← EReal.coe_one, ← EReal.coe_mul, ← EReal.coe_sub, ← EReal.coe_add]
  congr 1
  ring
theorem v25_at (r : Fin 4096) (j : Fin 512) {o d a : ℝ} (ho : x0 (ix2 r j) = (o : EReal)) (hd : dU x4 x5 x6 r ⟨j, by omega⟩ = (d : EReal)) (ha : x2 (ix2 r j) = (a : EReal)) :
    val_main_v25 (F := Ideal) x0 x2 x4 x5 x6 (ix2 r j) = dgt (dU x4 x5 x6 r ⟨j, by omega⟩) (x0 (ix2 r j)) (x2 (ix2 r j)) := by
  have h := v18_at x4 x5 x6 r j
  have h' := sig0 x2 r j
  unfold val_main_v25 val_main_call3_v1 val_main_call3_v2 val_main_call3_v0 val_main_v23 val_main_v0_1 val_main_call0_v7
  generalize val_main_v18 (F := Ideal) x4 x5 x6 = w at h ⊢
  generalize val_main_v0_2 (F := Ideal) x2 = u at h' ⊢
  pointwise [val_main_call0_v6, val_main_call0_cst_1]
  rw [h, h', ho, hd, ha]
  exact gate_eq d o a
theorem v22_at (r : Fin 4096) (j : Fin 512) {o d a : ℝ} (ho : x1 (ix2 r j) = (o : EReal)) (hd : dU x4 x5 x6 r ⟨512 + j, by omega⟩ = (d : EReal)) (ha : x3 (ix2 r j) = (a : EReal)) :
    val_main_v22 (F := Ideal) x1 x3 x4 x5 x6 (ix2 r j) = dgt (dU x4 x5 x6 r ⟨512 + j, by omega⟩) (x1 (ix2 r j)) (x3 (ix2 r j)) := by
  have h := v19_at x4 x5 x6 r j
  have h' := sig1 x3 r j
  unfold val_main_v22 val_main_call2_v1 val_main_call2_v2 val_main_call2_v0 val_main_v20 val_main_v2_1 val_main_call1_v7
  generalize val_main_v19 (F := Ideal) x4 x5 x6 = w at h ⊢
  generalize val_main_v2_2 (F := Ideal) x3 = u at h' ⊢
  pointwise [val_main_call1_v6, val_main_call1_cst_1]
  rw [h, h', ho, hd, ha]
  exact gate_eq d o a
theorem v28_at (r : Fin 4096) (l : Fin 8) : val_main_v28 (F := Ideal) x0 x2 x4 x5 x6 (ix2 r l)
    = ∑ e : Fin 64, dov (dU x4 x5 x6 r ⟨64 * l + e, by omega⟩) (x2 (ix2 r ⟨64 * l + e, by omega⟩)) * x0 (ix2 r ⟨64 * l + e, by omega⟩) := by
  have h := v24_at x2 x4 x5 x6
  unfold val_main_v28 val_main_v27 val_main_v26
  generalize val_main_v24 (F := Ideal) x2 x4 x5 x6 = w at h ⊢
  pointwise [val_main_cst_1]
  refine Finset.sum_congr rfl fun e _ => ?_
  simp only [h, Nat.mul_comm]
theorem v31_at (r : Fin 4096) (l : Fin 8) : val_main_v31 (F := Ideal) x1 x3 x4 x5 x6 (ix2 r l)
    = ∑ e : Fin 64, dov (dU x4 x5 x6 r ⟨512 + (64 * l + e), by omega⟩) (x3 (ix2 r ⟨64 * l + e, by omega⟩)) * x1 (ix2 r ⟨64 * l + e, by omega⟩) := by
  have h := v21_at x3 x4 x5 x6
  unfold val_main_v31 val_main_v30 val_main_v29
  generalize val_main_v21 (F := Ideal) x3 x4 x5 x6 = w at h ⊢
  pointwise [val_main_cst_2]
  refine Finset.sum_congr rfl fun e _ => ?_
  simp only [h, Nat.mul_comm]
theorem v14_at (k : Fin 1024) : val_main_v14 (F := Ideal) x0 x1 x2 x3 x5 x6 (ix1 k) = ∑ r : Fin 4096, x6 (ix2 r k) * val_main_v5 (F := Ideal) x0 x1 x2 x3 x5 (ix2 r k) := by
  unfold val_main_v14 val_main_v13 val_main_v12 val_main_v11
  generalize val_main_v5 (F := Ideal) x0 x1 x2 x3 x5 = w
  pointwise [val_main_cst, val_main_cst_0]
  simp only [Fin.sum_univ_one]
theorem v16_at (a k : Fin 1024) : val_main_v16 (F := Ideal) x0 x1 x2 x3 x4 x6 (ix2 a k) = ∑ r : Fin 4096, val_main_v4 (F := Ideal) x0 x1 x2 x3 (ix2 r a) * (x6 (ix2 r k) * x4 (ix1 k)) := by
  have h := v10_at x4 x6
  unfold val_main_v16 val_main_v15
  generalize val_main_v10 (F := Ideal) x4 x6 = w at h ⊢
  generalize val_main_v4 (F := Ideal) x0 x1 x2 x3 = u
  pointwise
  exact Finset.sum_congr rfl fun r _ => by rw [h, mul_comm]
end Cert.Proof.Gate
end
-- ==== Proof.Gate.Arrays.lean ====
module

public import proofs.«01_k».proof.Proof.Gate.Sums
public import proofs.«01_k».proof.Proof.Gate.Ref
public import proofs.«01_k».proof.Proof.Fox.Operands

/-! The gate's eight results, read off the arrays of the region. -/

@[expose] public section
set_option maxRecDepth 16384
noncomputable section
namespace Cert.Proof.Gate
open Idealize.ShloMosaic Idealize.ShloMosaic.TcCoe Idealize.SL.Sem
open Cert.GateIdeal Cert.GateIdeal.Gen

variable (m : (ℓ : Loc nD τ sig) → Buf (Elt Ideal) ℓ) (c : Dev nD)

/-- The arguments. -/
abbrev A0 : FVec Ideal S4096x512 .f32 := m (c.tc.loc main_arg0)
abbrev A1 : FVec Ideal S4096x512 .f32 := m (c.tc.loc main_arg1)
abbrev A2 : FVec Ideal S4096x512 .f32 := m (c.tc.loc main_arg2)
abbrev A3 : FVec Ideal S4096x512 .f32 := m (c.tc.loc main_arg3)
abbrev A4 : FVec Ideal S1024 .f32 := m (c.tc.loc main_arg4)
abbrev A5 : FVec Ideal S1024x1024 .f32 := m (c.tc.loc main_arg5)
abbrev A6 : FVec Ideal S4096x1024 .f32 := m (c.tc.loc main_arg6)
theorem tail_v12 : Pipeline.afterTail₀ cfgs (dats m) 0 (V0 m) [hostOps1] c main_v12
    = (extf .f32 ((dats m 0 c).arrAt 8 (cfgs 0).N : FVec Ideal S4096x512 .bf16) bitsLt_bf16_f32 : FVec Ideal S4096x512 .f32) := by
  have h := Pipeline.withArrays_arr (Val := Elt Ideal) spec0 launch0.win.arr_inj c (V0 m c) (fun w => (dats m 0 c).arrAt w (cfgs 0).N) 8
  unfold Pipeline.afterTail₀
  rw [List.flatten_cons, List.flatten_nil, List.append_nil]
  generalize Pipeline.withArrays _ c (V0 m c) _ = W at h ⊢
  after_results
  exact congrArg (fun z : FVec Ideal S4096x512 .bf16 => extf .f32 z bitsLt_bf16_f32) h
theorem tail_v13 : Pipeline.afterTail₀ cfgs (dats m) 0 (V0 m) [hostOps1] c main_v13
    = (extf .f32 ((dats m 0 c).arrAt 9 (cfgs 0).N : FVec Ideal S4096x512 .bf16) bitsLt_bf16_f32 : FVec Ideal S4096x512 .f32) := by
  have h := Pipeline.withArrays_arr (Val := Elt Ideal) spec0 launch0.win.arr_inj c (V0 m c) (fun w => (dats m 0 c).arrAt w (cfgs 0).N) 9
  unfold Pipeline.afterTail₀
  rw [List.flatten_cons, List.flatten_nil, List.append_nil]
  generalize Pipeline.withArrays _ c (V0 m c) _ = W at h ⊢
  after_results
  exact congrArg (fun z : FVec Ideal S4096x512 .bf16 => extf .f32 z bitsLt_bf16_f32) h
theorem tail_v14 : Pipeline.afterTail₀ cfgs (dats m) 0 (V0 m) [hostOps1] c main_v14
    = (extf .f32 ((dats m 0 c).arrAt 10 (cfgs 0).N : FVec Ideal S4096x512 .bf16) bitsLt_bf16_f32 : FVec Ideal S4096x512 .f32) := by
  have h := Pipeline.withArrays_arr (Val := Elt Ideal) spec0 launch0.win.arr_inj c (V0 m c) (fun w => (dats m 0 c).arrAt w (cfgs 0).N) 10
  unfold Pipeline.afterTail₀
  rw [List.flatten_cons, List.flatten_nil, List.append_nil]
  generalize Pipeline.withArrays _ c (V0 m c) _ = W at h ⊢
  after_results
  exact congrArg (fun z : FVec Ideal S4096x512 .bf16 => extf .f32 z bitsLt_bf16_f32) h
theorem tail_v15 : Pipeline.afterTail₀ cfgs (dats m) 0 (V0 m) [hostOps1] c main_v15
    = (extf .f32 ((dats m 0 c).arrAt 11 (cfgs 0).N : FVec Ideal S4096x512 .bf16) bitsLt_bf16_f32 : FVec Ideal S4096x512 .f32) := by
  have h := Pipeline.withArrays_arr (Val := Elt Ideal) spec0 launch0.win.arr_inj c (V0 m c) (fun w => (dats m 0 c).arrAt w (cfgs 0).N) 11
  unfold Pipeline.afterTail₀
  rw [List.flatten_cons, List.flatten_nil, List.append_nil]
  generalize Pipeline.withArrays _ c (V0 m c) _ = W at h ⊢
  after_results
  exact congrArg (fun z : FVec Ideal S4096x512 .bf16 => extf .f32 z bitsLt_bf16_f32) h
theorem tail_v16 : Pipeline.afterTail₀ cfgs (dats m) 0 (V0 m) [hostOps1] c main_v16
    = (shapeCast S1024 ((dats m 0 c).arrAt 14 (cfgs 0).N : FVec Ideal S1x1024 .f32) shapeCasts_S1x1024_S1024 : FVec Ideal S1024 .f32) := by
  have h := Pipeline.withArrays_arr (Val := Elt Ideal) spec0 launch0.win.arr_inj c (V0 m c) (fun w => (dats m 0 c).arrAt w (cfgs 0).N) 14
  unfold Pipeline.afterTail₀
  rw [List.flatten_cons, List.flatten_nil, List.append_nil]
  generalize Pipeline.withArrays _ c (V0 m c) _ = W at h ⊢
  after_results
  exact congrArg (fun z : FVec Ideal S1x1024 .f32 => shapeCast S1024 z shapeCasts_S1x1024_S1024) h
theorem tail_v17 : Pipeline.afterTail₀ cfgs (dats m) 0 (V0 m) [hostOps1] c main_v17
    = (extractStridedSlice S4096x8 ![0, 0] ((dats m 0 c).arrAt 12 (cfgs 0).N : FVec Ideal S4096x128 .f32) slices_S4096x128_S4096x8_0_0 : FVec Ideal S4096x8 .f32) := by
  have h := Pipeline.withArrays_arr (Val := Elt Ideal) spec0 launch0.win.arr_inj c (V0 m c) (fun w => (dats m 0 c).arrAt w (cfgs 0).N) 12
  unfold Pipeline.afterTail₀
  rw [List.flatten_cons, List.flatten_nil, List.append_nil]
  generalize Pipeline.withArrays _ c (V0 m c) _ = W at h ⊢
  after_results
  exact congrArg (fun z : FVec Ideal S4096x128 .f32 => extractStridedSlice S4096x8 ![0, 0] z slices_S4096x128_S4096x8_0_0) h
theorem tail_v18 : Pipeline.afterTail₀ cfgs (dats m) 0 (V0 m) [hostOps1] c main_v18
    = (extractStridedSlice S4096x8 ![0, 0] ((dats m 0 c).arrAt 13 (cfgs 0).N : FVec Ideal S4096x128 .f32) slices_S4096x128_S4096x8_0_0 : FVec Ideal S4096x8 .f32) := by
  have h := Pipeline.withArrays_arr (Val := Elt Ideal) spec0 launch0.win.arr_inj c (V0 m c) (fun w => (dats m 0 c).arrAt w (cfgs 0).N) 13
  unfold Pipeline.afterTail₀
  rw [List.flatten_cons, List.flatten_nil, List.append_nil]
  generalize Pipeline.withArrays _ c (V0 m c) _ = W at h ⊢
  after_results
  exact congrArg (fun z : FVec Ideal S4096x128 .f32 => extractStridedSlice S4096x8 ![0, 0] z slices_S4096x128_S4096x8_0_0) h
theorem entry_0 : V m c main_arg0 = A0 m c := by
  entry_read
  simp only [List.flatten_cons, List.flatten_nil, List.append_nil, List.cons_append, List.nil_append]
  after_results
theorem entry_1 : V m c main_arg1 = A1 m c := by
  entry_read
  simp only [List.flatten_cons, List.flatten_nil, List.append_nil, List.cons_append, List.nil_append]
  after_results
theorem entry_6 : V m c main_arg6 = A6 m c := by
  entry_read
  simp only [List.flatten_cons, List.flatten_nil, List.append_nil, List.cons_append, List.nil_append]
  after_results
theorem entry_g : V m c main_v8 = (broadcastInDim S1x1024 ![1] bcast_S1024_S1x1024_1 (A4 m c) : FVec Ideal S1x1024 .f32) := by
  entry_read
  simp only [List.flatten_cons, List.flatten_nil, List.append_nil, List.cons_append, List.nil_append]
  after_results
theorem entry_w : V m c main_v9 = (truncf .bf16 (A5 m c) bitsLt_bf16_f32 : FVec Ideal S1024x1024 .bf16) := by
  entry_read
  simp only [List.flatten_cons, List.flatten_nil, List.append_nil, List.cons_append, List.nil_append]
  after_results
theorem entry_c : V m c main_v10 = (concatenate S4096x1024 1 [⟨S4096x512, A2 m c⟩, ⟨S4096x512, A3 m c⟩] concatenates_S4096x512_S4096x512_S4096x1024_d1 : FVec Ideal S4096x1024 .f32) := by
  entry_read
  simp only [List.flatten_cons, List.flatten_nil, List.append_nil, List.cons_append, List.nil_append]
  after_results
theorem entry_u : V m c main_v5 = (truncf .bf16 (Cert.GateRefIdeal.Read.val_main_v4 (F := Ideal) (A0 m c) (A1 m c) (A2 m c) (A3 m c)) bitsLt_bf16_f32 : FVec Ideal S4096x1024 .bf16) := by
  entry_read
  simp only [List.flatten_cons, List.flatten_nil, List.append_nil, List.cons_append, List.nil_append]
  after_results
  rfl
theorem entry_y : V m c main_v7 = (truncf .bf16 (Cert.GateRefIdeal.Read.val_main_v5 (F := Ideal) (A0 m c) (A1 m c) (A2 m c) (A3 m c) (A5 m c)) bitsLt_bf16_f32 : FVec Ideal S4096x1024 .bf16) := by
  entry_read
  simp only [List.flatten_cons, List.flatten_nil, List.append_nil, List.cons_append, List.nil_append]
  after_results
  rfl

theorem idx : ∀ t : Fin cfg0.N, win0_0.index t = ![t.val, 0] ∧ win0_1.index t = ![t.val, 0] ∧ win0_2.index t = ![t.val, 0] ∧ win0_3.index t = ![0, 0] ∧ win0_4.index t = ![0, 0]
    ∧ win0_5.index t = ![t.val, 0] ∧ win0_6.index t = ![t.val, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0] ∧ win0_14.index t = ![0, 0]
    ∧ win0_15.index t = ![0, 0] :=
  (by decide +kernel : ∀ t : Fin grid0.N, _)

/-- A row of a block, as a row of the whole. -/
def row (t : Fin cfg0.N) (i : Fin 512) : Fin 4096 := ⟨512 * t.val + i.val, by have := t.isLt; have := points; omega⟩

theorem blk_0 (t : Fin cfg0.N) (i : Fin 512) (j : Fin 1024) : (iblk m c 0 t : FVec Ideal S512x1024 .f32) (ix2 i j) = (V m c main_arg6 : FVec Ideal S4096x1024 .f32) (ix2 (row t i) j) := by
  blk_ext! [iblk, idx t, row]
theorem blk_1 (t : Fin cfg0.N) (i : Fin 512) (j : Fin 1024) : (iblk m c 1 t : FVec Ideal S512x1024 .bf16) (ix2 i j) = (V m c main_v7 : FVec Ideal S4096x1024 .bf16) (ix2 (row t i) j) := by
  blk_ext! [iblk, idx t, row]
theorem blk_2 (t : Fin cfg0.N) (i : Fin 512) (j : Fin 1024) : (iblk m c 2 t : FVec Ideal S512x1024 .bf16) (ix2 i j) = (V m c main_v5 : FVec Ideal S4096x1024 .bf16) (ix2 (row t i) j) := by
  blk_ext! [iblk, idx t, row]
theorem blk_5 (t : Fin cfg0.N) (i : Fin 512) (j : Fin 512) : (iblk m c 5 t : FVec Ideal S512x512 .f32) (ix2 i j) = (V m c main_arg0 : FVec Ideal S4096x512 .f32) (ix2 (row t i) j) := by
  blk_ext! [iblk, idx t, row]
theorem blk_6 (t : Fin cfg0.N) (i : Fin 512) (j : Fin 512) : (iblk m c 6 t : FVec Ideal S512x512 .f32) (ix2 i j) = (V m c main_arg1 : FVec Ideal S4096x512 .f32) (ix2 (row t i) j) := by
  blk_ext! [iblk, idx t, row]
theorem blk_7 (t : Fin cfg0.N) (i : Fin 512) (j : Fin 1024) : (iblk m c 7 t : FVec Ideal S512x1024 .f32) (ix2 i j) = (V m c main_v10 : FVec Ideal S4096x1024 .f32) (ix2 (row t i) j) := by
  blk_ext! [iblk, idx t, row]
theorem blk_3 (t : Fin cfg0.N) : (iblk m c 3 t : FVec Ideal S1x1024 .f32) = V m c main_v8 := by
  blk_ext! [iblk, idx t]
theorem blk_4 (t : Fin cfg0.N) : (iblk m c 4 t : FVec Ideal S1024x1024 .bf16) = V m c main_v9 := by
  blk_ext! [iblk, idx t]

theorem arr_14 : ((dats m 0 c).arrAt 14 (cfgs 0).N : FVec Ideal S1x1024 .f32) = (outsAt0 m c 7 last.isLt).2.2.2.2.2.2.1 := by
  refine Pipeline.Dat.arrAt_eq_of_covers (dat := dats m 0 c) 14 ((outsAt0 m c 7 last.isLt).2.2.2.2.2.2.1 : FVec Ideal S1x1024 .f32) (hcov := by decide +kernel) ?_
  intro t ht y
  have h := (flush0_14 t).mp ht
  have hN := points
  have hl := t.isLt
  obtain rfl : t = last := Fin.ext (by show t.val = 7; omega)
  rw [after0_14]
  blk_ext! [idx last]
theorem arr_15 : ((dats m 0 c).arrAt 15 (cfgs 0).N : FVec Ideal S1024x1024 .f32) = (outsAt0 m c 7 last.isLt).2.2.2.2.2.2.2.1 := by
  refine Pipeline.Dat.arrAt_eq_of_covers (dat := dats m 0 c) 15 ((outsAt0 m c 7 last.isLt).2.2.2.2.2.2.2.1 : FVec Ideal S1024x1024 .f32) (hcov := by decide +kernel) ?_
  intro t ht y
  have h := (flush0_15 t).mp ht
  have hN := points
  have hl := t.isLt
  obtain rfl : t = last := Fin.ext (by show t.val = 7; omega)
  rw [after0_15]
  blk_ext! [idx last]

/-- An array of rows with its index taken apart. -/
def ofRows {φ : FTy} (n : ℕ) [NeZero n] (f : FVec Ideal ⟨2, ![4096, n]⟩ φ) (p : (⟨2, ![4096, n]⟩ : Shape).Idx) : EReal := f (ix2 (Fin.ofNat 4096 (p 0).val) (Fin.ofNat n (p 1).val))
theorem row_ofNat (t : Fin cfg0.N) (i : Fin 512) : Fin.ofNat 4096 (t.val * 512 + i.val) = row t i := by
  have := t.isLt
  have := points
  exact Fin.ext (by show (t.val * 512 + i.val) % 4096 = 512 * t.val + i.val; omega)

theorem arr_8 (f : FVec Ideal S4096x512 .bf16) (h : ∀ (t : Fin cfg0.N) (i : Fin 512) (j : Fin 512), o8 m c t (ix2 i j) = f (ix2 (row t i) j)) :
    ((dats m 0 c).arrAt 8 (cfgs 0).N : S4096x512.Idx → EReal) = ofRows 512 f := by
  refine Pipeline.Dat.arrAt_eq_of_covers (dat := dats m 0 c) 8 (ofRows 512 f) (hcov := by decide +kernel) ?_
  intro t _ y
  have k := h t
  rw [after0_8, (rows m c t).1]
  generalize o8 m c t = u at k ⊢
  idx_vars y
  blk_simp [ofRows, idx t]
  rw [k, row_ofNat, Cert.Proof.Fox.ofNat_val]
theorem arr_9 (f : FVec Ideal S4096x512 .bf16) (h : ∀ (t : Fin cfg0.N) (i : Fin 512) (j : Fin 512), o9 m c t (ix2 i j) = f (ix2 (row t i) j)) :
    ((dats m 0 c).arrAt 9 (cfgs 0).N : S4096x512.Idx → EReal) = ofRows 512 f := by
  refine Pipeline.Dat.arrAt_eq_of_covers (dat := dats m 0 c) 9 (ofRows 512 f) (hcov := by decide +kernel) ?_
  intro t _ y
  have k := h t
  rw [after0_9, (rows m c t).2.1]
  generalize o9 m c t = u at k ⊢
  idx_vars y
  blk_simp [ofRows, idx t]
  rw [k, row_ofNat, Cert.Proof.Fox.ofNat_val]
theorem arr_10 (f : FVec Ideal S4096x512 .bf16) (h : ∀ (t : Fin cfg0.N) (i : Fin 512) (j : Fin 512), o10 m c t (ix2 i j) = f (ix2 (row t i) j)) :
    ((dats m 0 c).arrAt 10 (cfgs 0).N : S4096x512.Idx → EReal) = ofRows 512 f := by
  refine Pipeline.Dat.arrAt_eq_of_covers (dat := dats m 0 c) 10 (ofRows 512 f) (hcov := by decide +kernel) ?_
  intro t _ y
  have k := h t
  rw [after0_10, (rows m c t).2.2.1]
  generalize o10 m c t = u at k ⊢
  idx_vars y
  blk_simp [ofRows, idx t]
  rw [k, row_ofNat, Cert.Proof.Fox.ofNat_val]
theorem arr_11 (f : FVec Ideal S4096x512 .bf16) (h : ∀ (t : Fin cfg0.N) (i : Fin 512) (j : Fin 512), o11 m c t (ix2 i j) = f (ix2 (row t i) j)) :
    ((dats m 0 c).arrAt 11 (cfgs 0).N : S4096x512.Idx → EReal) = ofRows 512 f := by
  refine Pipeline.Dat.arrAt_eq_of_covers (dat := dats m 0 c) 11 (ofRows 512 f) (hcov := by decide +kernel) ?_
  intro t _ y
  have k := h t
  rw [after0_11, (rows m c t).2.2.2.1]
  generalize o11 m c t = u at k ⊢
  idx_vars y
  blk_simp [ofRows, idx t]
  rw [k, row_ofNat, Cert.Proof.Fox.ofNat_val]
theorem arr_12 (f : FVec Ideal S4096x128 .f32) (h : ∀ (t : Fin cfg0.N) (i : Fin 512) (j : Fin 128), o12 m c t (ix2 i j) = f (ix2 (row t i) j)) :
    ((dats m 0 c).arrAt 12 (cfgs 0).N : S4096x128.Idx → EReal) = ofRows 128 f := by
  refine Pipeline.Dat.arrAt_eq_of_covers (dat := dats m 0 c) 12 (ofRows 128 f) (hcov := by decide +kernel) ?_
  intro t _ y
  have k := h t
  rw [after0_12, (rows m c t).2.2.2.2.1]
  generalize o12 m c t = u at k ⊢
  idx_vars y
  blk_simp [ofRows, idx t]
  rw [k, row_ofNat, Cert.Proof.Fox.ofNat_val]
theorem arr_13 (f : FVec Ideal S4096x128 .f32) (h : ∀ (t : Fin cfg0.N) (i : Fin 512) (j : Fin 128), o13 m c t (ix2 i j) = f (ix2 (row t i) j)) :
    ((dats m 0 c).arrAt 13 (cfgs 0).N : S4096x128.Idx → EReal) = ofRows 128 f := by
  refine Pipeline.Dat.arrAt_eq_of_covers (dat := dats m 0 c) 13 (ofRows 128 f) (hcov := by decide +kernel) ?_
  intro t _ y
  have k := h t
  rw [after0_13, (rows m c t).2.2.2.2.2]
  generalize o13 m c t = u at k ⊢
  idx_vars y
  blk_simp [ofRows, idx t]
  rw [k, row_ofNat, Cert.Proof.Fox.ofNat_val]
end Cert.Proof.Gate
end
-- ==== Proof.Gate.Claim.lean ====
module

public import proofs.«01_k».proof.Proof.Gate.Arrays
public import proofs.«01_k».proof.Proof.Fox.Claim
public import proofs.«01_k».proof.Proof.Gen.GateRefIdeal.Run

/-! The gate's gradient: the kernel's eight results are the reference's. -/

@[expose] public section
set_option maxRecDepth 16384
noncomputable section
namespace Cert.Proof.Gate
open Idealize.ShloMosaic Idealize.ShloMosaic.TcCoe Idealize.SL.Sem
open Cert.Proof.Fox (real_of_word Finite ofNat_val IsR)

/-- The precondition's side conditions. -/
theorem preFacts : Cert.Pre_finite_gate.Facts := ⟨by decide, by decide, by decide, by decide⟩

section kernel
open Cert.GateIdeal Cert.GateIdeal.Gen
variable (m : (ℓ : Loc nD τ sig) → Buf (Elt Ideal) ℓ) (c : Dev nD)

/-- The arguments are real. -/
structure Args : Prop where
  a0 : Finite (s := S4096x512) (φ := .f32) (m (c.tc.loc main_arg0))
  a1 : Finite (s := S4096x512) (φ := .f32) (m (c.tc.loc main_arg1))
  a2 : Finite (s := S4096x512) (φ := .f32) (m (c.tc.loc main_arg2))
  a3 : Finite (s := S4096x512) (φ := .f32) (m (c.tc.loc main_arg3))
  a4 : Finite (s := S1024) (φ := .f32) (m (c.tc.loc main_arg4))
  a5 : Finite (s := S1024x1024) (φ := .f32) (m (c.tc.loc main_arg5))
  a6 : Finite (s := S4096x1024) (φ := .f32) (m (c.tc.loc main_arg6))

theorem args_of_pre (h : Cert.Pre_GateIdeal_finite_gate (hPre_finite_gate := preFacts) m) : Args m c := by
  obtain ⟨h0, h1, h2, h3, h4, h5, h6⟩ := h c
  exact ⟨fun i => real_of_word (congrFun h0 i), fun i => real_of_word (congrFun h1 i), fun i => real_of_word (congrFun h2 i), fun i => real_of_word (congrFun h3 i),
    fun i => real_of_word (congrFun h4 i), fun i => real_of_word (congrFun h5 i), fun i => real_of_word (congrFun h6 i)⟩

/-- What the blocks hold. -/
theorem x_at (t : Fin cfg0.N) (i : Fin 512) (k : Fin 1024) : bX m c t (ix2 i k) = A6 m c (ix2 (row t i) k) := by
  rw [bX, blk_0, entry_6]
theorem gate_row (v : FVec Ideal S1024 .f32) (k : Fin 1024) : (broadcastInDim S1x1024 ![1] bcast_S1024_S1x1024_1 v : FVec Ideal S1x1024 .f32) (ix2 0 k) = v (ix1 k) := by
  pointwise
theorem g_at (t : Fin cfg0.N) (k : Fin 1024) : bG m c t (ix2 0 k) = A4 m c (ix1 k) := by
  rw [bG, blk_3, entry_g]
  exact gate_row _ k
theorem w_at (t : Fin cfg0.N) (a k : Fin 1024) : (iblk m c 4 t : FVec Ideal S1024x1024 .bf16) (ix2 a k) = A5 m c (ix2 a k) := by
  rw [blk_4, entry_w]
  rfl
theorem y_at (t : Fin cfg0.N) (i : Fin 512) (k : Fin 1024) : bY m c t (ix2 i k) = Cert.GateRefIdeal.Read.val_main_v5 (F := Ideal) (A0 m c) (A1 m c) (A2 m c) (A3 m c) (A5 m c) (ix2 (row t i) k) := by
  rw [bY, blk_1, entry_y]
  rfl
theorem u_at (t : Fin cfg0.N) (i : Fin 512) (k : Fin 1024) : bU m c t (ix2 i k) = Cert.GateRefIdeal.Read.val_main_v4 (F := Ideal) (A0 m c) (A1 m c) (A2 m c) (A3 m c) (ix2 (row t i) k) := by
  rw [bU, blk_2, entry_u]
  rfl
theorem of_at (t : Fin cfg0.N) (i j : Fin 512) : (iblk m c 5 t : FVec Ideal S512x512 .f32) (ix2 i j) = A0 m c (ix2 (row t i) j) := by
  rw [blk_5, entry_0]
theorem om_at (t : Fin cfg0.N) (i j : Fin 512) : (iblk m c 6 t : FVec Ideal S512x512 .f32) (ix2 i j) = A1 m c (ix2 (row t i) j) := by
  rw [blk_6, entry_1]
theorem halves (a b : FVec Ideal S4096x512 .f32) (r : Fin 4096) (j : Fin 512) :
    (concatenate S4096x1024 1 [⟨S4096x512, a⟩, ⟨S4096x512, b⟩] concatenates_S4096x512_S4096x512_S4096x1024_d1 : FVec Ideal S4096x1024 .f32) (ix2 r ⟨j, by omega⟩) = a (ix2 r j)
    ∧ (concatenate S4096x1024 1 [⟨S4096x512, a⟩, ⟨S4096x512, b⟩] concatenates_S4096x512_S4096x512_S4096x1024_d1 : FVec Ideal S4096x1024 .f32) (ix2 r ⟨512 + j, by omega⟩) = b (ix2 r j) := by
  constructor
  · pointwise
  · pointwise
theorem left_at (t : Fin cfg0.N) (i j : Fin 512) : left (iblk m c 7 t) (ix2 i j) = A2 m c (ix2 (row t i) j) := by
  rw [left, ld_left, blk_7, entry_c]
  exact (halves _ _ _ _).1
theorem right_at (t : Fin cfg0.N) (i j : Fin 512) : right (iblk m c 7 t) (ix2 i j) = A3 m c (ix2 (row t i) j) := by
  rw [right, ld_right, blk_7, entry_c]
  exact (halves _ _ _ _).2
theorem du_at (t : Fin cfg0.N) (i : Fin 512) (a : Fin 1024) : du (bX m c t) (bG m c t) (iblk m c 4 t) i a = dU (A4 m c) (A5 m c) (A6 m c) (row t i) a := by
  refine Finset.sum_congr rfl fun k _ => ?_
  rw [x_at, g_at, w_at]

/-- The rows that a block leaves. -/
theorem o8_at (t : Fin cfg0.N) (i j : Fin 512) : o8 m c t (ix2 i j) = dov (dU (A4 m c) (A5 m c) (A6 m c) (row t i) ⟨j, by omega⟩) (A2 m c (ix2 (row t i) j)) := by
  refine (pay21_at (bX m c t) (bG m c t) _ _ i j).trans ?_
  rw [du_at, left_at]
theorem o9_at (t : Fin cfg0.N) (i j : Fin 512) : o9 m c t (ix2 i j) = dov (dU (A4 m c) (A5 m c) (A6 m c) (row t i) ⟨512 + j, by omega⟩) (A3 m c (ix2 (row t i) j)) := by
  refine (pay5_at _ _ i j).trans ?_
  rw [pay18_at, right_at]
  exact congrArg (dov · _) ((pay17_at (bX m c t) (bG m c t) _ i j).trans (du_at m c t i _))
theorem o10_at (t : Fin cfg0.N) (i j : Fin 512) : o10 m c t (ix2 i j)
    = dgt (dU (A4 m c) (A5 m c) (A6 m c) (row t i) ⟨j, by omega⟩) (A0 m c (ix2 (row t i) j)) (A2 m c (ix2 (row t i) j)) := by
  refine (pay1_at _ _ _ _ i j ((pay19_at _ i j).trans (congrArg lg (pay16_at _ i j).symm))).trans ?_
  rw [pay16_at, left_at, of_at]
  exact congrArg (dgt · _ _) ((pay15_at (bX m c t) (bG m c t) _ i j).trans (du_at m c t i _))
theorem o11_at (t : Fin cfg0.N) (i j : Fin 512) : o11 m c t (ix2 i j)
    = dgt (dU (A4 m c) (A5 m c) (A6 m c) (row t i) ⟨512 + j, by omega⟩) (A1 m c (ix2 (row t i) j)) (A3 m c (ix2 (row t i) j)) := by
  refine (pay6_at _ _ _ i j).trans ?_
  rw [pay18_at, right_at, om_at]
  exact congrArg (dgt · _ _) ((pay17_at (bX m c t) (bG m c t) _ i j).trans (du_at m c t i _))
/-- The heads' sums, on the padded columns. -/
def d12 : FVec Ideal S4096x128 .f32 := fun p => headSum (fun n => dov (dU (A4 m c) (A5 m c) (A6 m c) (p 0) ⟨n, by omega⟩) (A2 m c (ix2 (p 0) n)) * A0 m c (ix2 (p 0) n)) (p 1).val
def d13 : FVec Ideal S4096x128 .f32 := fun p => headSum (fun n => dov (dU (A4 m c) (A5 m c) (A6 m c) (p 0) ⟨512 + n, by omega⟩) (A3 m c (ix2 (p 0) n)) * A1 m c (ix2 (p 0) n)) (p 1).val
theorem o12_at (t : Fin cfg0.N) (i : Fin 512) (l : Fin 128) : o12 m c t (ix2 i l) = d12 m c (ix2 (row t i) l) := by
  refine (pay2_at _ _ i l).trans ?_
  refine congrArg (headSum · l.val) (funext fun n => ?_)
  rw [of_at, pay20_at]
  exact congrArg (· * _) (by rw [left_at]; exact congrArg (dov · _) (du_at m c t i _))
theorem o13_at (t : Fin cfg0.N) (i : Fin 512) (l : Fin 128) : o13 m c t (ix2 i l) = d13 m c (ix2 (row t i) l) := by
  refine (pay7_at _ _ _ i l).trans ?_
  refine congrArg (headSum · l.val) (funext fun n => ?_)
  rw [om_at, pay17_at, pay18_at, right_at]
  exact congrArg (· * _) (congrArg (dov · _) (du_at m c t i _))

/-- A sum over the rows, block by block. -/
theorem blocks (f : ℕ → EReal) : ∑ s ∈ Finset.range 8, ∑ i : Fin 512, f (512 * s + i) = ∑ i : Fin 4096, f i := by
  rw [Fin.sum_univ_tiles 8 512 rfl (fun i : Fin 4096 => f i), Finset.sum_range]
  simp only [Nat.mul_comm 512]
theorem row_of (t : Fin cfg0.N) (i : Fin 512) : Fin.ofNat 4096 (512 * t.val + i.val) = row t i := by
  rw [Nat.mul_comm, row_ofNat]
theorem totals_of (U Y : FVec Ideal S4096x1024 .f32) (hu : ∀ (t : Fin cfg0.N) (i : Fin 512) (k : Fin 1024), bU m c t (ix2 i k) = U (ix2 (row t i) k))
    (hy : ∀ (t : Fin cfg0.N) (i : Fin 512) (k : Fin 1024), bY m c t (ix2 i k) = Y (ix2 (row t i) k)) :
    (∀ k : Fin 1024, ((outsAt0 m c 7 last.isLt).2.2.2.2.2.2.1 : FVec Ideal S1x1024 .f32) (ix2 0 k) = ∑ r : Fin 4096, A6 m c (ix2 r k) * Y (ix2 r k))
    ∧ ∀ a k : Fin 1024, ((outsAt0 m c 7 last.isLt).2.2.2.2.2.2.2.2 : FVec Ideal S1024x1024 .f32) (ix2 a k) = ∑ r : Fin 4096, U (ix2 r a) * (A6 m c (ix2 r k) * A4 m c (ix1 k)) := by
  have hx := x_at m c
  have hg := g_at m c
  generalize A6 m c = X at hx ⊢
  generalize A4 m c = G at hg ⊢
  have h := sums m c (fun r k => X (ix2 (Fin.ofNat 4096 r) k) * Y (ix2 (Fin.ofNat 4096 r) k)) (fun r a k => U (ix2 (Fin.ofNat 4096 r) a) * (X (ix2 (Fin.ofNat 4096 r) k) * G (ix1 k)))
    (fun t i k => by rw [hx, hy, row_of]) (fun t i a k => by rw [hx, hg, hu, row_of]) 7 last.isLt
  refine ⟨fun k => ((h.1 k).trans (blocks fun r => X (ix2 (Fin.ofNat 4096 r) k) * Y (ix2 (Fin.ofNat 4096 r) k))).trans ?_,
    fun a k => ((h.2 a k).trans (blocks fun r => U (ix2 (Fin.ofNat 4096 r) a) * (X (ix2 (Fin.ofNat 4096 r) k) * G (ix1 k)))).trans ?_⟩
  · exact Finset.sum_congr rfl fun r _ => by rw [ofNat_val]
  · exact Finset.sum_congr rfl fun r _ => by rw [ofNat_val]
theorem totals : (∀ k : Fin 1024, ((outsAt0 m c 7 last.isLt).2.2.2.2.2.2.1 : FVec Ideal S1x1024 .f32) (ix2 0 k)
      = Cert.GateRefIdeal.Read.val_main_v14 (F := Ideal) (A0 m c) (A1 m c) (A2 m c) (A3 m c) (A5 m c) (A6 m c) (ix1 k))
    ∧ ∀ a k : Fin 1024, ((outsAt0 m c 7 last.isLt).2.2.2.2.2.2.2.2 : FVec Ideal S1024x1024 .f32) (ix2 a k)
      = Cert.GateRefIdeal.Read.val_main_v16 (F := Ideal) (A0 m c) (A1 m c) (A2 m c) (A3 m c) (A4 m c) (A6 m c) (ix2 a k) :=
  have h := totals_of m c _ _ (u_at m c) (y_at m c)
  ⟨fun k => (h.1 k).trans (v14_at _ _ _ _ _ _ k).symm, fun a k => (h.2 a k).trans (v16_at _ _ _ _ _ _ a k).symm⟩

theorem ext_at (u : FVec Ideal S4096x512 .bf16) (f : FVec Ideal S4096x512 .f32) (h : (u : S4096x512.Idx → EReal) = ofRows (φ := .f32) 512 f) : (extf .f32 u bitsLt_bf16_f32 : FVec Ideal S4096x512 .f32) = f := by
  funext p
  refine (congrFun h p).trans ?_
  idx_vars p
  show f (ix2 (Fin.ofNat 4096 p0.val) (Fin.ofNat 512 p1.val)) = _
  rw [ofNat_val, ofNat_val]
theorem heads_at (u : FVec Ideal S4096x128 .f32) (d : FVec Ideal S4096x128 .f32) (h : (u : S4096x128.Idx → EReal) = ofRows (φ := .f32) 128 d) (r : Fin 4096) (l : Fin 8) :
    (extractStridedSlice S4096x8 ![0, 0] u slices_S4096x128_S4096x8_0_0 : FVec Ideal S4096x8 .f32) (ix2 r l) = d (ix2 r ⟨l, by omega⟩) := by
  have e : (extractStridedSlice S4096x8 ![0, 0] u slices_S4096x128_S4096x8_0_0 : FVec Ideal S4096x8 .f32) (ix2 r l) = u (ix2 r ⟨l, by omega⟩) := by
    pointwise
  refine e.trans ((congrFun h _).trans ?_)
  show d (ix2 (Fin.ofNat 4096 r.val) (Fin.ofNat 128 l.val)) = _
  rw [ofNat_val]
  exact congrArg (fun q => d (ix2 r q)) (Fin.ext (Nat.mod_eq_of_lt (by omega)))
theorem row_at (u : FVec Ideal S1x1024 .f32) (j : Fin 1024) : (shapeCast S1024 u shapeCasts_S1x1024_S1024 : FVec Ideal S1024 .f32) (ix1 j) = u (ix2 0 j) := by
  pointwise

theorem out12 : Pipeline.afterTail₀ cfgs (dats m) 0 (V0 m) [hostOps1] c main_v12 = Cert.GateRefIdeal.Read.val_main_v24 (F := Ideal) (A2 m c) (A4 m c) (A5 m c) (A6 m c) := by
  rw [tail_v12]
  exact ext_at _ _ (arr_8 m c (Cert.GateRefIdeal.Read.val_main_v24 (F := Ideal) (A2 m c) (A4 m c) (A5 m c) (A6 m c)) fun t i j => (o8_at m c t i j).trans (v24_at _ _ _ _ _ j).symm)
theorem out13 : Pipeline.afterTail₀ cfgs (dats m) 0 (V0 m) [hostOps1] c main_v13 = Cert.GateRefIdeal.Read.val_main_v21 (F := Ideal) (A3 m c) (A4 m c) (A5 m c) (A6 m c) := by
  rw [tail_v13]
  exact ext_at _ _ (arr_9 m c (Cert.GateRefIdeal.Read.val_main_v21 (F := Ideal) (A3 m c) (A4 m c) (A5 m c) (A6 m c)) fun t i j => (o9_at m c t i j).trans (v21_at _ _ _ _ _ j).symm)
theorem out16 : Pipeline.afterTail₀ cfgs (dats m) 0 (V0 m) [hostOps1] c main_v16
    = Cert.GateRefIdeal.Read.val_main_v14 (F := Ideal) (A0 m c) (A1 m c) (A2 m c) (A3 m c) (A5 m c) (A6 m c) := by
  rw [tail_v16, arr_14]
  funext p
  idx_vars p
  exact (row_at _ p0).trans ((totals m c).1 p0)
theorem out15w : ((dats m 0 c).arrAt 15 (cfgs 0).N : FVec Ideal S1024x1024 .f32)
    = Cert.GateRefIdeal.Read.val_main_v16 (F := Ideal) (A0 m c) (A1 m c) (A2 m c) (A3 m c) (A4 m c) (A6 m c) := by
  rw [arr_15, written]
  funext p
  idx_vars p
  exact (totals m c).2 p0 p1
theorem out17 : Pipeline.afterTail₀ cfgs (dats m) 0 (V0 m) [hostOps1] c main_v17
    = Cert.GateRefIdeal.Read.val_main_v28 (F := Ideal) (A0 m c) (A2 m c) (A4 m c) (A5 m c) (A6 m c) := by
  rw [tail_v17]
  funext p
  idx_vars p
  refine (heads_at _ _ (arr_12 m c (d12 m c) fun t i l => o12_at m c t i l) p0 p1).trans ?_
  refine Eq.trans ?_ (v28_at (A0 m c) (A2 m c) (A4 m c) (A5 m c) (A6 m c) p0 p1).symm
  exact head_cols (fun n => dov (dU (A4 m c) (A5 m c) (A6 m c) p0 ⟨n, by omega⟩) (A2 m c (ix2 p0 n)) * A0 m c (ix2 p0 n)) _ p1.isLt
theorem out18 : Pipeline.afterTail₀ cfgs (dats m) 0 (V0 m) [hostOps1] c main_v18
    = Cert.GateRefIdeal.Read.val_main_v31 (F := Ideal) (A1 m c) (A3 m c) (A4 m c) (A5 m c) (A6 m c) := by
  rw [tail_v18]
  funext p
  idx_vars p
  refine (heads_at _ _ (arr_13 m c (d13 m c) fun t i l => o13_at m c t i l) p0 p1).trans ?_
  refine Eq.trans ?_ (v31_at (A1 m c) (A3 m c) (A4 m c) (A5 m c) (A6 m c) p0 p1).symm
  exact head_cols (fun n => dov (dU (A4 m c) (A5 m c) (A6 m c) p0 ⟨512 + n, by omega⟩) (A3 m c (ix2 p0 n)) * A1 m c (ix2 p0 n)) _ p1.isLt

variable {m c} (A : Args m c)
include A
theorem dU_real (r : Fin 4096) (a : Fin 1024) : IsR (dU (A4 m c) (A5 m c) (A6 m c) r a) :=
  IsR.sum _ fun k => IsR.mul (IsR.mul (A.a6 _) (A.a4 _)) (A.a5 _)
theorem out14 : Pipeline.afterTail₀ cfgs (dats m) 0 (V0 m) [hostOps1] c main_v14 = Cert.GateRefIdeal.Read.val_main_v25 (F := Ideal) (A0 m c) (A2 m c) (A4 m c) (A5 m c) (A6 m c) := by
  rw [tail_v14]
  refine ext_at _ _ (arr_10 m c (Cert.GateRefIdeal.Read.val_main_v25 (F := Ideal) (A0 m c) (A2 m c) (A4 m c) (A5 m c) (A6 m c)) fun t i j => (o10_at m c t i j).trans ?_)
  obtain ⟨o, ho⟩ := A.a0 (ix2 (row t i) j)
  obtain ⟨d, hd⟩ := dU_real A (row t i) ⟨j, by omega⟩
  obtain ⟨a, ha⟩ := A.a2 (ix2 (row t i) j)
  exact (v25_at _ _ _ _ _ _ j ho hd ha).symm
theorem out15 : Pipeline.afterTail₀ cfgs (dats m) 0 (V0 m) [hostOps1] c main_v15 = Cert.GateRefIdeal.Read.val_main_v22 (F := Ideal) (A1 m c) (A3 m c) (A4 m c) (A5 m c) (A6 m c) := by
  rw [tail_v15]
  refine ext_at _ _ (arr_11 m c (Cert.GateRefIdeal.Read.val_main_v22 (F := Ideal) (A1 m c) (A3 m c) (A4 m c) (A5 m c) (A6 m c)) fun t i j => (o11_at m c t i j).trans ?_)
  obtain ⟨o, ho⟩ := A.a1 (ix2 (row t i) j)
  obtain ⟨d, hd⟩ := dU_real A (row t i) ⟨512 + j, by omega⟩
  obtain ⟨a, ha⟩ := A.a3 (ix2 (row t i) j)
  exact (v22_at _ _ _ _ _ _ j ho hd ha).symm
end kernel

/-- The reference's frame: its run at the arguments; it declares no semaphore. -/
theorem frame_ref : Cert.quiescent_GateRefIdeal := fun m ρ _ =>
  (θ_run _ _ _).mono (fun r h => ⟨fun c => (h c).2.2.2.2.2.2.2.2, Idealize.ShloMosaic.sem_eq_zero_of_no_sems (by decide) r.2⟩) (Cert.GateRefIdeal.Value.run (F := Ideal) m ρ)

theorem alg : Cert.algebraic_GateIdeal_GateRefIdeal_pre_finite_gate (hGateIdeal := Cert.GateIdeal.Gen.facts) (hGateRefIdeal := Cert.GateRefIdeal.Gen.facts) (hPre_finite_gate := preFacts) := by
  intro m g m' g' hpre hagree
  have A := fun c => args_of_pre m c hpre
  refine ⟨fun c => Cert.GateRefIdeal.Read.val_main_v24 (F := Ideal) (A2 m c) (A4 m c) (A5 m c) (A6 m c), fun c => Cert.GateRefIdeal.Read.val_main_v21 (F := Ideal) (A3 m c) (A4 m c) (A5 m c) (A6 m c),
    fun c => Cert.GateRefIdeal.Read.val_main_v25 (F := Ideal) (A0 m c) (A2 m c) (A4 m c) (A5 m c) (A6 m c), fun c => Cert.GateRefIdeal.Read.val_main_v22 (F := Ideal) (A1 m c) (A3 m c) (A4 m c) (A5 m c) (A6 m c),
    fun c => Cert.GateRefIdeal.Read.val_main_v14 (F := Ideal) (A0 m c) (A1 m c) (A2 m c) (A3 m c) (A5 m c) (A6 m c),
    fun c => Cert.GateRefIdeal.Read.val_main_v16 (F := Ideal) (A0 m c) (A1 m c) (A2 m c) (A3 m c) (A4 m c) (A6 m c),
    fun c => Cert.GateRefIdeal.Read.val_main_v28 (F := Ideal) (A0 m c) (A2 m c) (A4 m c) (A5 m c) (A6 m c), fun c => Cert.GateRefIdeal.Read.val_main_v31 (F := Ideal) (A1 m c) (A3 m c) (A4 m c) (A5 m c) (A6 m c), ?_, ?_⟩
  · refine (θ_run _ _ _).mono (fun r h c => ?_) (θ_run_and (Cert.GateIdeal.Gen.unchanged m g) (Cert.GateIdeal.Gen.run_main m g))
    exact ⟨((h.2 c).2 Cert.GateIdeal.main_v12 (Pipeline.mem_restRefs_of Cert.GateIdeal.main_v12 (by decide) (by decide))).trans (out12 m c),
      ((h.2 c).2 Cert.GateIdeal.main_v13 (Pipeline.mem_restRefs_of Cert.GateIdeal.main_v13 (by decide) (by decide))).trans (out13 m c),
      ((h.2 c).2 Cert.GateIdeal.main_v14 (Pipeline.mem_restRefs_of Cert.GateIdeal.main_v14 (by decide) (by decide))).trans (out14 (A c)),
      ((h.2 c).2 Cert.GateIdeal.main_v15 (Pipeline.mem_restRefs_of Cert.GateIdeal.main_v15 (by decide) (by decide))).trans (out15 (A c)),
      ((h.2 c).2 Cert.GateIdeal.main_v16 (Pipeline.mem_restRefs_of Cert.GateIdeal.main_v16 (by decide) (by decide))).trans (out16 m c),
      ((h.2 c).1 15).trans (out15w m c),
      ((h.2 c).2 Cert.GateIdeal.main_v17 (Pipeline.mem_restRefs_of Cert.GateIdeal.main_v17 (by decide) (by decide))).trans (out17 m c),
      ((h.2 c).2 Cert.GateIdeal.main_v18 (Pipeline.mem_restRefs_of Cert.GateIdeal.main_v18 (by decide) (by decide))).trans (out18 m c), h.1 c⟩
  · refine (θ_run _ _ _).mono (fun r h c => ?_) (Cert.GateRefIdeal.Value.run m' g')
    obtain ⟨h0, h1, h2, h3, h4, h5, h6, h7, hargs⟩ := h c
    obtain ⟨a0, a1, a2, a3, a4, a5, a6⟩ := hagree c
    refine ⟨h0.trans ?_, h1.trans ?_, h2.trans ?_, h3.trans ?_, h4.trans ?_, h5.trans ?_, h6.trans ?_, h7.trans ?_, hargs⟩
    · rw [Cert.GateRefIdeal.Read.val_main_v24_eq, a2, a4, a5, a6]
    · rw [Cert.GateRefIdeal.Read.val_main_v21_eq, a3, a4, a5, a6]
    · rw [Cert.GateRefIdeal.Read.val_main_v25_eq, a0, a2, a4, a5, a6]
    · rw [Cert.GateRefIdeal.Read.val_main_v22_eq, a1, a3, a4, a5, a6]
    · rw [Cert.GateRefIdeal.Read.val_main_v14_eq, a0, a1, a2, a3, a5, a6]
    · rw [Cert.GateRefIdeal.Read.val_main_v16_eq, a0, a1, a2, a3, a4, a6]
    · rw [Cert.GateRefIdeal.Read.val_main_v28_eq, a0, a2, a4, a5, a6]
    · rw [Cert.GateRefIdeal.Read.val_main_v31_eq, a1, a3, a4, a5, a6]
end Cert.Proof.Gate
end
-- ==== Proof.In.Step.lean ====
module

public import proofs.«01_k».proof.Defs
public import proofs.«01_k».proof.Proof.Gen.InIdeal.Frame
public import Idealize.ShloMosaic.Lib.Claim
public import Idealize.ShloMosaic.Lib.Pipeline.ValueKit
public import Idealize.ShloMosaic.Lib.Pipeline.ReadBack
public import Idealize.ShloMosaic.Lib.Pointwise

/-! What the input's gradient leaves in the rows of each block. -/

@[expose] public section
set_option maxRecDepth 16384
noncomputable section
namespace Cert.Proof.In
open Idealize.ShloMosaic Idealize.ShloMosaic.TcCoe Idealize.SL.Sem
open Cert.InIdeal Cert.InIdeal.Gen

theorem zeros : (![0, 0] : Fin 2 → Nat) = fun _ => 0 := funext fun a => by fin_cases a <;> rfl

variable (m : (ℓ : Loc nD τ sig) → Buf (Elt Ideal) ℓ) (c : Dev nD)

/-- Six groups of the weight's columns. -/
def w0 (w : FVec Ideal S1024x3072 .bf16) : FVec Ideal S1024x512 .bf16 := View.ld (Val := Elt Ideal) (S := S1024x3072) (e' := .bf16) w (Rect.unit ![0, 0] ![1024, 512] inb_S1024x3072_S1024x512_0_0)
def w1 (w : FVec Ideal S1024x3072 .bf16) : FVec Ideal S1024x512 .bf16 := View.ld (Val := Elt Ideal) (S := S1024x3072) (e' := .bf16) w (Rect.unit ![0, 512] ![1024, 512] inb_S1024x3072_S1024x512_0_512)
def w2 (w : FVec Ideal S1024x3072 .bf16) : FVec Ideal S1024x512 .bf16 := View.ld (Val := Elt Ideal) (S := S1024x3072) (e' := .bf16) w (Rect.unit ![0, 1024] ![1024, 512] inb_S1024x3072_S1024x512_0_1024)
def w3 (w : FVec Ideal S1024x3072 .bf16) : FVec Ideal S1024x512 .bf16 := View.ld (Val := Elt Ideal) (S := S1024x3072) (e' := .bf16) w (Rect.unit ![0, 1536] ![1024, 512] inb_S1024x3072_S1024x512_0_1536)
def w4 (w : FVec Ideal S1024x3072 .bf16) : FVec Ideal S1024x512 .bf16 := View.ld (Val := Elt Ideal) (S := S1024x3072) (e' := .bf16) w (Rect.unit ![0, 2048] ![1024, 512] inb_S1024x3072_S1024x512_0_2048)
def w5 (w : FVec Ideal S1024x3072 .bf16) : FVec Ideal S1024x512 .bf16 := View.ld (Val := Elt Ideal) (S := S1024x3072) (e' := .bf16) w (Rect.unit ![0, 2560] ![1024, 512] inb_S1024x3072_S1024x512_0_2560)
/-- The modulation's second row, its scale. -/
def scale (x : FVec Ideal S3x1024 .f32) : FVec Ideal S1x1024 .f32 := View.ld (Val := Elt Ideal) (S := S3x1024) (e' := .f32) x (Rect.unit ![1, 0] ![1, 1024] inb_S3x1024_S1x1024_1_0)
/-- The product that reaches the norm, -/
def dz (t : Fin cfg0.N) : FVec Ideal S512x1024 .f32 := k0_pay14 (F := Ideal) (k0_pay11 (k0_pay7 (iblk m c 0 t) (w0 (iblk m c 6 t)) (iblk m c 1 t) (w1 (iblk m c 6 t)))
  (iblk m c 2 t) (w2 (iblk m c 6 t)) (iblk m c 3 t) (w3 (iblk m c 6 t))) (iblk m c 4 t) (w4 (iblk m c 6 t)) (iblk m c 5 t) (w5 (iblk m c 6 t))
/-- and what a block leaves in the buffer of its rows, -/
def rows (t : Fin cfg0.N) : FVec Ideal S512x1024 .f32 := k0_pay2 (F := Ideal) (k0_pay16 (iblk m c 8 t)) (k0_pay17 (iblk m c 8 t)) (k0_pay18 (dz m c t) (scale (iblk m c 10 t)))
  (iblk m c 9 t) (iblk m c 11 t)
/-- at the first block, at a later one and at the last. -/
theorem first (t : Fin cfg0.N) (h0 : t.val % 8 = 0) (h1 : ¬t.val % 8 = 7) : (outsAt0 m c t.val t.isLt).1 = rows m c t := by
  refine (congrArg Prod.fst (outsAt0_A m c t h0 h1)).trans ?_
  dsimp only
  unfold out0_A_12
  refine (View.read_writes_eq_canon _ _ _ fun y => cover0_A_12 (F := Ideal) ..).trans ?_
  unfold kernelRun0_A
  dsimp only
  sl_unfold_words
  rw [View.canon_unit_zero zeros]
  simp only [View.readAt_eq_ld, Memref.IsWhole.read_unread, read_unread_whole, View.ld_unit_zero (S := S512x1024) zeros, View.ld_unit_zero (S := S1x1024) zeros,
      View.ld_unit_zero (S := S512x512) zeros]
  rfl
theorem later (t : Fin cfg0.N) (h0 : ¬t.val % 8 = 0) (h1 : ¬t.val % 8 = 7) : (outsAt0 m c t.val t.isLt).1 = rows m c t := by
  refine (congrArg Prod.fst (outsAt0_B m c t h0 h1)).trans ?_
  dsimp only
  unfold out0_B_12
  refine (View.read_writes_eq_canon _ _ _ fun y => cover0_B_12 (F := Ideal) ..).trans ?_
  unfold kernelRun0_B
  dsimp only
  sl_unfold_words
  rw [View.canon_unit_zero zeros]
  simp only [View.readAt_eq_ld, Memref.IsWhole.read_unread, read_unread_whole, View.ld_unit_zero (S := S512x1024) zeros, View.ld_unit_zero (S := S1x1024) zeros,
      View.ld_unit_zero (S := S512x512) zeros]
  rfl
theorem final (t : Fin cfg0.N) (h0 : ¬t.val % 8 = 0) (h1 : t.val % 8 = 7) : (outsAt0 m c t.val t.isLt).1 = rows m c t := by
  refine (congrArg Prod.fst (outsAt0_C m c t h0 h1)).trans ?_
  dsimp only
  unfold out0_C_12
  refine (View.read_writes_eq_canon _ _ _ fun y => cover0_C_12 (F := Ideal) ..).trans ?_
  unfold kernelRun0_C
  dsimp only
  sl_unfold_words
  rw [View.canon_unit_zero zeros]
  simp only [View.readAt_eq_ld, Memref.IsWhole.read_unread, read_unread_whole, View.ld_unit_zero (S := S512x1024) zeros, View.ld_unit_zero (S := S1x1024) zeros,
      View.ld_unit_zero (S := S512x512) zeros]
  rfl
theorem rows_eq (t : Fin cfg0.N) : (outsAt0 m c t.val t.isLt).1 = rows m c t := by
  by_cases h0 : t.val % 8 = 0
  · exact first m c t h0 (by omega)
  · by_cases h1 : t.val % 8 = 7
    · exact final m c t h0 h1
    · exact later m c t h0 h1

/-- An entry of each. -/
theorem w0_at (w : FVec Ideal S1024x3072 .bf16) (a : Fin 1024) (k : Fin 512) : w0 w (ix2 a k) = w (ix2 a ⟨k, by omega⟩) := by
  unfold w0
  refine View.ld_unit_apply_of (Val := Elt Ideal) _ _ _ _ _ _ fun a => ?_
  fin_cases a <;> simp [ix2]
theorem w1_at (w : FVec Ideal S1024x3072 .bf16) (a : Fin 1024) (k : Fin 512) : w1 w (ix2 a k) = w (ix2 a ⟨512 + k, by omega⟩) := by
  unfold w1
  refine View.ld_unit_apply_of (Val := Elt Ideal) _ _ _ _ _ _ fun a => ?_
  fin_cases a <;> simp [ix2]
theorem w2_at (w : FVec Ideal S1024x3072 .bf16) (a : Fin 1024) (k : Fin 512) : w2 w (ix2 a k) = w (ix2 a ⟨1024 + k, by omega⟩) := by
  unfold w2
  refine View.ld_unit_apply_of (Val := Elt Ideal) _ _ _ _ _ _ fun a => ?_
  fin_cases a <;> simp [ix2]
theorem w3_at (w : FVec Ideal S1024x3072 .bf16) (a : Fin 1024) (k : Fin 512) : w3 w (ix2 a k) = w (ix2 a ⟨1536 + k, by omega⟩) := by
  unfold w3
  refine View.ld_unit_apply_of (Val := Elt Ideal) _ _ _ _ _ _ fun a => ?_
  fin_cases a <;> simp [ix2]
theorem w4_at (w : FVec Ideal S1024x3072 .bf16) (a : Fin 1024) (k : Fin 512) : w4 w (ix2 a k) = w (ix2 a ⟨2048 + k, by omega⟩) := by
  unfold w4
  refine View.ld_unit_apply_of (Val := Elt Ideal) _ _ _ _ _ _ fun a => ?_
  fin_cases a <;> simp [ix2]
theorem w5_at (w : FVec Ideal S1024x3072 .bf16) (a : Fin 1024) (k : Fin 512) : w5 w (ix2 a k) = w (ix2 a ⟨2560 + k, by omega⟩) := by
  unfold w5
  refine View.ld_unit_apply_of (Val := Elt Ideal) _ _ _ _ _ _ fun a => ?_
  fin_cases a <;> simp [ix2]
theorem scale_at (x : FVec Ideal S3x1024 .f32) (k : Fin 1024) : scale x (ix2 0 k) = x (ix2 1 k) := by
  unfold scale
  refine View.ld_unit_apply_of (Val := Elt Ideal) _ _ _ _ _ _ fun a => ?_
  fin_cases a <;> simp [ix2]
end Cert.Proof.In
end
-- ==== Proof.In.Ref.lean ====
module

public import proofs.«01_k».proof.Defs
public import proofs.«01_k».proof.Proof.Gen.InRefIdeal.Read
public import Idealize.ShloMosaic.Lib.Claim
public import Idealize.ShloMosaic.Lib.Pointwise
public import proofs.«01_k».proof.Proof.Loss.Norm

/-! What the input's reference computes from real arguments. -/

@[expose] public section
set_option maxRecDepth 16384
noncomputable section
namespace Cert.Proof.In
open Idealize.ShloMosaic Idealize.ShloMosaic.TcCoe Idealize.SL.Sem
open Cert.InRefIdeal Cert.InRefIdeal.Read
open Cert.Proof.Fox (coe_sum)
open Cert.Proof.Loss (ms inv ms_pos rsqrt_ms inv_cube bits_1024 bits_eps bits_neg_half div_1024)

/-- The gradient of a normed row, from that of the norm. -/
def dnorm {n : ℕ} (x d : Fin n → ℝ) (j : Fin n) : ℝ := inv x * (d j - x j * inv x * ((∑ k, d k * (x k * inv x)) * (1 / 1024)))

/-- The reference's arguments are real, and so is the product that reaches the norm. -/
structure RefReal (x0 : FVec Ideal S4096x1024 .f32) (x1 : FVec Ideal S1024 .f32) (x2 : FVec Ideal S3072 .f32) (x3 : FVec Ideal S1024x2984 .f32)
    (x4 : FVec Ideal S4096x2984 .f32) (x5 : FVec Ideal S4096x1024 .f32)
    (X : Fin 4096 → Fin 1024 → ℝ) (G M : Fin 1024 → ℝ) (P R : Fin 4096 → Fin 1024 → ℝ) : Prop where
  x : ∀ (i : Fin 4096) j, x0 (ix2 i j) = (X i j : EReal)
  g : ∀ j, x1 (ix1 j) = (G j : EReal)
  s : ∀ j : Fin 1024, x2 (ix1 ⟨1024 + j.val, by omega⟩) = (M j : EReal)
  p : ∀ (i : Fin 4096) j, val_main_v28 (F := Ideal) x3 x4 (ix2 i j) = (P i j : EReal)
  r : ∀ (i : Fin 4096) j, x5 (ix2 i j) = (R i j : EReal)

/-- The product of the two, column by column. -/
theorem v28_at (x3 : FVec Ideal S1024x2984 .f32) (x4 : FVec Ideal S4096x2984 .f32) (i : Fin 4096) (j : Fin 1024) :
    val_main_v28 (F := Ideal) x3 x4 (ix2 i j) = ∑ k : Fin 2984, x4 (ix2 i k) * x3 (ix2 j k) := by
  pointwise [val_main_v28]

namespace RefReal
variable {x0 : FVec Ideal S4096x1024 .f32} {x1 : FVec Ideal S1024 .f32} {x2 : FVec Ideal S3072 .f32} {x3 : FVec Ideal S1024x2984 .f32}
    {x4 : FVec Ideal S4096x2984 .f32} {x5 : FVec Ideal S4096x1024 .f32}
    {X : Fin 4096 → Fin 1024 → ℝ} {G M : Fin 1024 → ℝ} {P R : Fin 4096 → Fin 1024 → ℝ} (I : RefReal x0 x1 x2 x3 x4 x5 X G M P R)
include I

/-- The gradient that reaches the norm's root. -/
def dh (G M : Fin 1024 → ℝ) (P : Fin 4096 → Fin 1024 → ℝ) (i : Fin 4096) (j : Fin 1024) : ℝ := P i j * (1 + M j) * G j

theorem v9 (i : Fin 4096) : val_main_v9 (F := Ideal) x0 (ix2 i 0) = (ms (X i) : EReal) := by
  pointwise [val_main_v9, val_main_v8, val_main_cst_1, val_main_v7, val_main_v6, val_main_cst_0, val_main_v5, val_main_v4, val_main_v3, val_main_cst]
  simp only [I.x, ← EReal.coe_mul, ← coe_sum]
  rw [bits_1024, bits_eps, div_1024, ← EReal.coe_add]
  rfl
theorem v10 (i : Fin 4096) : val_main_v10 (F := Ideal) x0 (ix2 i 0) = (inv (X i) : EReal) :=
  (congrArg Ideal.rsqrt (I.v9 i)).trans (rsqrt_ms (X i))
theorem v13 (i : Fin 4096) : val_main_v13 (F := Ideal) x0 (ix2 i 0) = ((-(1 / 2) * (inv (X i) * (1 / ms (X i))) : ℝ) : EReal) := by
  have h := I.v9 i
  have h' := I.v10 i
  unfold val_main_v13 val_main_v11
  generalize val_main_v9 (F := Ideal) x0 = v at h ⊢
  generalize val_main_v10 (F := Ideal) x0 = w at h' ⊢
  pointwise [val_main_v12, val_main_cst_2]
  rw [h, h', Ideal.div_coe (ms_pos _).ne', bits_neg_half, ← EReal.coe_mul, ← EReal.coe_mul]
theorem v21 (j : Fin 1024) : val_main_v21 (F := Ideal) x2 (ix2 0 j) = ((1 + M j : ℝ) : EReal) := by
  have h : val_main_v1 (F := Ideal) x2 (ix1 j) = (M j : EReal) := by
    pointwise [val_main_v1]
    exact I.s j
  unfold val_main_v21 val_main_v19
  generalize val_main_v1 (F := Ideal) x2 = v at h ⊢
  pointwise [val_main_v20, val_main_cst_3]
  rw [h, EReal.coe_add]
  rfl
theorem v32 (i : Fin 4096) (j : Fin 1024) : val_main_v32 (F := Ideal) x1 x2 x3 x4 (ix2 i j) = (dh G M P i j : EReal) := by
  have h := I.p i j
  have h' := I.v21 j
  unfold val_main_v32 val_main_v30 val_main_v29
  generalize val_main_v28 (F := Ideal) x3 x4 = v at h ⊢
  generalize val_main_v21 (F := Ideal) x2 = w at h' ⊢
  pointwise [val_main_v31, val_main_v16]
  rw [h, h', I.g, ← EReal.coe_mul, ← EReal.coe_mul]
  rfl
theorem v42 (i : Fin 4096) (j : Fin 1024) : val_main_v42 (F := Ideal) x0 x1 x2 x3 x4 (ix2 i j)
    = (((∑ k, X i k * dh G M P i k) * (-(1 / 2) * (inv (X i) * (1 / ms (X i)))) * (1 / 1024) : ℝ) : EReal) := by
  have h := I.v32
  have h' := I.v13 i
  unfold val_main_v42 val_main_v41 val_main_v40 val_main_v38 val_main_v35 val_main_v34 val_main_v33
  generalize val_main_v32 (F := Ideal) x1 x2 x3 x4 = w at h ⊢
  generalize val_main_v13 (F := Ideal) x0 = v at h' ⊢
  pointwise [val_main_v39, val_main_cst_4, val_main_cst_5, val_main_cst_6]
  simp only [h, h', I.x, ← EReal.coe_mul, ← coe_sum, Fin.sum_univ_one, bits_1024, div_1024]
/-- The rows' gradient. -/
theorem v47 (i : Fin 4096) (j : Fin 1024) : val_main_v47 (F := Ideal) x0 x1 x2 x3 x4 x5 (ix2 i j) = ((R i j + dnorm (X i) (dh G M P i) j : ℝ) : EReal) := by
  have h' : val_main_v36 (F := Ideal) x0 (ix2 i j) = (inv (X i) : EReal) := by
    have h := I.v10 i
    unfold val_main_v36
    generalize val_main_v10 (F := Ideal) x0 = w at h ⊢
    pointwise
    exact h
  rw [val_main_v47_apply, val_main_v46_apply, val_main_v45_apply, val_main_v44_apply, val_main_v43_apply, val_main_v37_apply, I.v42, I.v32, I.x, h', I.r]
  show (_ + (_ * _ + _ * _ + _ * _) : EReal) = _
  rw [← EReal.coe_mul, ← EReal.coe_mul, ← EReal.coe_mul, ← EReal.coe_add, ← EReal.coe_add, ← EReal.coe_add, dnorm, inv_cube]
  congr 1
  rw [show (∑ k, dh G M P i k * (X i k * inv (X i))) = (∑ k, X i k * dh G M P i k) * inv (X i) by
    rw [Finset.sum_mul]
    exact Finset.sum_congr rfl fun k _ => by ring]
  ring
end RefReal
end Cert.Proof.In
end
-- ==== Proof.In.Block.lean ====
module

public import proofs.«01_k».proof.Defs
public import proofs.«01_k».proof.Proof.Gen.InIdeal.Skeleton
public import proofs.«01_k».proof.Proof.In.Ref

/-! What one block of rows of the input's gradient computes. -/

@[expose] public section
set_option maxRecDepth 16384
noncomputable section
namespace Cert.Proof.In
open Idealize.ShloMosaic Idealize.ShloMosaic.TcCoe Idealize.SL.Sem
open Cert.InIdeal Cert.InIdeal.Gen
open Cert.Proof.Fox (coe_sum)
open Cert.Proof.Loss (ms inv ms_pos rsqrt_ms bits_1024 bits_eps div_1024)

/-- One of the six products. -/
def prod (z : FVec Ideal S512x512 .bf16) (w : FVec Ideal S1024x512 .bf16) (i : Fin 512) (a : Fin 1024) : EReal := ∑ k : Fin 512, z (ix2 i k) * w (ix2 a k)

section products
variable (v : FVec Ideal S512x1024 .f32) (z z' : FVec Ideal S512x512 .bf16) (w w' : FVec Ideal S1024x512 .bf16)
theorem pay7_at (i : Fin 512) (a : Fin 1024) : k0_pay7 (F := Ideal) z w z' w' (ix2 i a) = prod z w i a + prod z' w' i a := by
  pointwise [k0_pay7]
  rfl
theorem pay11_at (i : Fin 512) (a : Fin 1024) : k0_pay11 (F := Ideal) v z w z' w' (ix2 i a) = v (ix2 i a) + prod z w i a + prod z' w' i a := by
  pointwise [k0_pay11]
  rfl
theorem pay14_at (i : Fin 512) (a : Fin 1024) : k0_pay14 (F := Ideal) v z w z' w' (ix2 i a) = v (ix2 i a) + prod z w i a + prod z' w' i a := by
  pointwise [k0_pay14]
  rfl
end products

variable (x d : FVec Ideal S512x1024 .f32) (s g : FVec Ideal S1x1024 .f32) (r : FVec Ideal S512x1024 .f32) {X P R : Fin 512 → Fin 1024 → ℝ} {M G : Fin 1024 → ℝ}
  (hx : ∀ i j, x (ix2 i j) = (X i j : EReal)) (hd : ∀ i j, d (ix2 i j) = (P i j : EReal)) (hs : ∀ j, s (ix2 0 j) = (M j : EReal)) (hg : ∀ j, g (ix2 0 j) = (G j : EReal))
  (hr : ∀ i j, r (ix2 i j) = (R i j : EReal))

section
include hx
theorem pay16_at (i : Fin 512) : k0_pay16 (F := Ideal) x (ix2 i 0) = (inv (X i) : EReal) := by
  pointwise [k0_pay16]
  simp only [hx, ← EReal.coe_mul, ← coe_sum]
  rw [bits_1024, bits_eps, div_1024, ← EReal.coe_add]
  exact rsqrt_ms (X i)
theorem pay17_at (i : Fin 512) (j : Fin 1024) : k0_pay17 (F := Ideal) x (ix2 i j) = ((X i j * inv (X i) : ℝ) : EReal) := by
  have h := pay16_at x hx i
  unfold k0_pay17
  generalize k0_pay16 (F := Ideal) x = w at h ⊢
  pointwise
  rw [h, hx, ← EReal.coe_mul]
end
section
include hd hs
theorem pay18_at (i : Fin 512) (j : Fin 1024) : k0_pay18 (F := Ideal) d s (ix2 i j) = ((P i j * (1 + M j) : ℝ) : EReal) := by
  pointwise [k0_pay18]
  rw [hd, hs, EReal.coe_mul, EReal.coe_add]
  rfl
end
include hx hd hs hg hr
/-- The rows' gradient. -/
theorem pay2_at (i : Fin 512) (j : Fin 1024) : k0_pay2 (F := Ideal) (k0_pay16 (F := Ideal) x) (k0_pay17 (F := Ideal) x) (k0_pay18 (F := Ideal) d s) g r (ix2 i j)
    = ((R i j + dnorm (X i) (fun k => P i k * (1 + M k) * G k) j : ℝ) : EReal) := by
  have h1 := pay16_at x hx
  have h2 := pay17_at x hx
  have h3 := pay18_at d s hd hs
  generalize k0_pay16 (F := Ideal) x = u1 at h1 ⊢
  generalize k0_pay17 (F := Ideal) x = u2 at h2 ⊢
  generalize k0_pay18 (F := Ideal) d s = u3 at h3 ⊢
  pointwise [k0_pay2]
  simp only [h1, h2, h3, hg, hr, bits_1024, ← EReal.coe_mul, ← coe_sum, div_1024, ← EReal.coe_sub, ← EReal.coe_add]
  rfl
end Cert.Proof.In
end
-- ==== Proof.In.Cols.lean ====
module

public import proofs.«01_k».proof.Defs
public import proofs.«01_k».proof.Proof.Gen.InIdeal
public import Idealize.ShloMosaic.Lib.Claim
public import Idealize.ShloMosaic.Lib.Pointwise

/-! The order of the input product's columns. -/

@[expose] public section
set_option maxRecDepth 16384
noncomputable section
namespace Cert.Proof.In
open Idealize.ShloMosaic Idealize.ShloMosaic.TcCoe Idealize.SL.Sem
open Cert.InIdeal Cert.InIdeal.Gen

/-- The columns of `K`, in their groups, are those of `H`, and the padding is zero. -/
structure Perm (K H : ℕ → EReal) : Prop where
  c0 : ∀ k < 1536, K k = H k
  c1 : ∀ k < 512, K (1536 + k) = H (1544 + k)
  c2 : ∀ k < 512, K (2048 + k) = H (2472 + k)
  c3 : ∀ k < 256, K (2560 + k) = H (2056 + k)
  c4 : ∀ k < 128, K (2816 + k) = H (2312 + k)
  c5 : ∀ k < 32, K (2944 + k) = H (2440 + k)
  c6 : ∀ k < 8, K (2976 + k) = H (1536 + k)
  c7 : ∀ k < 88, K (2984 + k) = 0

theorem range_congr {n : ℕ} {f g : ℕ → EReal} (h : ∀ k < n, f k = g k) : ∑ k ∈ Finset.range n, f k = ∑ k ∈ Finset.range n, g k :=
  Finset.sum_congr rfl fun k hk => h k (Finset.mem_range.1 hk)
/-- So they add up to the same. -/
theorem Perm.total {K H : ℕ → EReal} (p : Perm K H) : ∑ j ∈ Finset.range 3072, K j = ∑ j ∈ Finset.range 2984, H j := by
  rw [show 3072 = 2984 + 88 from rfl, Finset.sum_range_add, show 2984 = 2976 + 8 from rfl, Finset.sum_range_add, show 2976 = 2944 + 32 from rfl, Finset.sum_range_add,
    show 2944 = 2816 + 128 from rfl, Finset.sum_range_add, show 2816 = 2560 + 256 from rfl, Finset.sum_range_add, show 2560 = 2048 + 512 from rfl, Finset.sum_range_add,
    show 2048 = 1536 + 512 from rfl, Finset.sum_range_add]
  rw [range_congr p.c0, range_congr p.c1, range_congr p.c2, range_congr p.c3, range_congr p.c4, range_congr p.c5, range_congr p.c6, range_congr p.c7, Finset.sum_const_zero]
  have e : ∑ j ∈ Finset.range 2984, H j = ∑ k ∈ Finset.range 1536, H k + ∑ k ∈ Finset.range 8, H (1536 + k) + ∑ k ∈ Finset.range 512, H (1544 + k)
      + ∑ k ∈ Finset.range 256, H (2056 + k) + ∑ k ∈ Finset.range 128, H (2312 + k) + ∑ k ∈ Finset.range 32, H (2440 + k) + ∑ k ∈ Finset.range 512, H (2472 + k) := by
    rw [← Finset.sum_range_add H 1536 8, ← Finset.sum_range_add H 1544 512, ← Finset.sum_range_add H 2056 256, ← Finset.sum_range_add H 2312 128,
      ← Finset.sum_range_add H 2440 32, ← Finset.sum_range_add H 2472 512]
  rw [e]
  abel
/-- Six groups of 512 columns. -/
theorem six (K : ℕ → EReal) : ∑ j ∈ Finset.range 3072, K j = ∑ k : Fin 512, K k + ∑ k : Fin 512, K (512 + k) + ∑ k : Fin 512, K (1024 + k) + ∑ k : Fin 512, K (1536 + k)
    + ∑ k : Fin 512, K (2048 + k) + ∑ k : Fin 512, K (2560 + k) := by
  rw [show 3072 = 2560 + 512 from rfl, Finset.sum_range_add, show 2560 = 2048 + 512 from rfl, Finset.sum_range_add, show 2048 = 1536 + 512 from rfl, Finset.sum_range_add,
    show 1536 = 1024 + 512 from rfl, Finset.sum_range_add, show 1024 = 512 + 512 from rfl, Finset.sum_range_add]
  simp only [Finset.sum_range]

/-- The gradient's columns in the kernel's order, with the padding, -/
def zp (z : FVec Ideal S4096x2984 .f32) : FVec Ideal S4096x3072 .f32 :=
  concatenate S4096x3072 1 [⟨S4096x1536, (extractStridedSlice S4096x1536 ![0, 0] z slices_S4096x2984_S4096x1536_0_0 : FVec Ideal S4096x1536 .f32)⟩,
    ⟨S4096x512, (extractStridedSlice S4096x512 ![0, 1544] z slices_S4096x2984_S4096x512_0_1544 : FVec Ideal S4096x512 .f32)⟩,
    ⟨S4096x512, (extractStridedSlice S4096x512 ![0, 2472] z slices_S4096x2984_S4096x512_0_2472 : FVec Ideal S4096x512 .f32)⟩,
    ⟨S4096x256, (extractStridedSlice S4096x256 ![0, 2056] z slices_S4096x2984_S4096x256_0_2056 : FVec Ideal S4096x256 .f32)⟩,
    ⟨S4096x128, (extractStridedSlice S4096x128 ![0, 2312] z slices_S4096x2984_S4096x128_0_2312 : FVec Ideal S4096x128 .f32)⟩,
    ⟨S4096x32, (extractStridedSlice S4096x32 ![0, 2440] z slices_S4096x2984_S4096x32_0_2440 : FVec Ideal S4096x32 .f32)⟩,
    ⟨S4096x8, (extractStridedSlice S4096x8 ![0, 1536] z slices_S4096x2984_S4096x8_0_1536 : FVec Ideal S4096x8 .f32)⟩,
    ⟨S4096x88, (broadcastInDim S4096x88 ![] bcast_S_S4096x88 (constant S_ .f32 0x00000000#32 : FVec Ideal S_ .f32) : FVec Ideal S4096x88 .f32)⟩]
    concatenates_S4096x1536_S4096x512_S4096x512_S4096x256_S4096x128_S4096x32_S4096x8_S4096x88_S4096x3072_d1
section
variable (z : FVec Ideal S4096x2984 .f32) (r : Fin 4096)
theorem zp0 (k : Fin 1536) : zp z (ix2 r ⟨k, by omega⟩) = z (ix2 r ⟨k, by omega⟩) := by
  pointwise [zp]
  all_goals (repeat rw [dif_neg (by omega)])
  all_goals (try rw [dif_pos (by omega)])
  all_goals (try exact congrArg (fun q => z (ix2 r q)) (Fin.ext (by dsimp only; omega)))
theorem zp1 (k : Fin 512) : zp z (ix2 r ⟨1536 + k, by omega⟩) = z (ix2 r ⟨1544 + k, by omega⟩) := by
  pointwise [zp]
  all_goals (repeat rw [dif_neg (by omega)])
  all_goals (try rw [dif_pos (by omega)])
  all_goals (try exact congrArg (fun q => z (ix2 r q)) (Fin.ext (by dsimp only; omega)))
theorem zp2 (k : Fin 512) : zp z (ix2 r ⟨2048 + k, by omega⟩) = z (ix2 r ⟨2472 + k, by omega⟩) := by
  pointwise [zp]
  all_goals (repeat rw [dif_neg (by omega)])
  all_goals (try rw [dif_pos (by omega)])
  all_goals (try exact congrArg (fun q => z (ix2 r q)) (Fin.ext (by dsimp only; omega)))
theorem zp3 (k : Fin 256) : zp z (ix2 r ⟨2560 + k, by omega⟩) = z (ix2 r ⟨2056 + k, by omega⟩) := by
  pointwise [zp]
  all_goals (repeat rw [dif_neg (by omega)])
  all_goals (try rw [dif_pos (by omega)])
  all_goals (try exact congrArg (fun q => z (ix2 r q)) (Fin.ext (by dsimp only; omega)))
theorem zp4 (k : Fin 128) : zp z (ix2 r ⟨2816 + k, by omega⟩) = z (ix2 r ⟨2312 + k, by omega⟩) := by
  pointwise [zp]
  all_goals (repeat rw [dif_neg (by omega)])
  all_goals (try rw [dif_pos (by omega)])
  all_goals (try exact congrArg (fun q => z (ix2 r q)) (Fin.ext (by dsimp only; omega)))
theorem zp5 (k : Fin 32) : zp z (ix2 r ⟨2944 + k, by omega⟩) = z (ix2 r ⟨2440 + k, by omega⟩) := by
  pointwise [zp]
  all_goals (repeat rw [dif_neg (by omega)])
  all_goals (try rw [dif_pos (by omega)])
  all_goals (try exact congrArg (fun q => z (ix2 r q)) (Fin.ext (by dsimp only; omega)))
theorem zp6 (k : Fin 8) : zp z (ix2 r ⟨2976 + k, by omega⟩) = z (ix2 r ⟨1536 + k, by omega⟩) := by
  pointwise [zp]
  all_goals (repeat rw [dif_neg (by omega)])
  all_goals (try rw [dif_pos (by omega)])
  all_goals (try exact congrArg (fun q => z (ix2 r q)) (Fin.ext (by dsimp only; omega)))
theorem zp7 (k : Fin 88) : zp z (ix2 r ⟨2984 + k, by omega⟩) = 0 := by
  pointwise [zp]
  all_goals (repeat rw [dif_neg (by omega)])
  all_goals (try rw [dif_pos (by omega)])
  all_goals (try exact congrArg (fun q => z (ix2 r q)) (Fin.ext (by dsimp only; omega)))
end
/-- and the weight's. -/
def wp (w : FVec Ideal S1024x2984 .f32) : FVec Ideal S1024x3072 .f32 :=
  concatenate S1024x3072 1 [⟨S1024x1536, (extractStridedSlice S1024x1536 ![0, 0] w slices_S1024x2984_S1024x1536_0_0 : FVec Ideal S1024x1536 .f32)⟩,
    ⟨S1024x512, (extractStridedSlice S1024x512 ![0, 1544] w slices_S1024x2984_S1024x512_0_1544 : FVec Ideal S1024x512 .f32)⟩,
    ⟨S1024x512, (extractStridedSlice S1024x512 ![0, 2472] w slices_S1024x2984_S1024x512_0_2472 : FVec Ideal S1024x512 .f32)⟩,
    ⟨S1024x256, (extractStridedSlice S1024x256 ![0, 2056] w slices_S1024x2984_S1024x256_0_2056 : FVec Ideal S1024x256 .f32)⟩,
    ⟨S1024x128, (extractStridedSlice S1024x128 ![0, 2312] w slices_S1024x2984_S1024x128_0_2312 : FVec Ideal S1024x128 .f32)⟩,
    ⟨S1024x32, (extractStridedSlice S1024x32 ![0, 2440] w slices_S1024x2984_S1024x32_0_2440 : FVec Ideal S1024x32 .f32)⟩,
    ⟨S1024x8, (extractStridedSlice S1024x8 ![0, 1536] w slices_S1024x2984_S1024x8_0_1536 : FVec Ideal S1024x8 .f32)⟩,
    ⟨S1024x88, (broadcastInDim S1024x88 ![] bcast_S_S1024x88 (constant S_ .f32 0x00000000#32 : FVec Ideal S_ .f32) : FVec Ideal S1024x88 .f32)⟩]
    concatenates_S1024x1536_S1024x512_S1024x512_S1024x256_S1024x128_S1024x32_S1024x8_S1024x88_S1024x3072_d1
section
variable (w : FVec Ideal S1024x2984 .f32) (r : Fin 1024)
theorem wp0 (k : Fin 1536) : wp w (ix2 r ⟨k, by omega⟩) = w (ix2 r ⟨k, by omega⟩) := by
  pointwise [wp]
  all_goals (repeat rw [dif_neg (by omega)])
  all_goals (try rw [dif_pos (by omega)])
  all_goals (try exact congrArg (fun q => w (ix2 r q)) (Fin.ext (by dsimp only; omega)))
theorem wp1 (k : Fin 512) : wp w (ix2 r ⟨1536 + k, by omega⟩) = w (ix2 r ⟨1544 + k, by omega⟩) := by
  pointwise [wp]
  all_goals (repeat rw [dif_neg (by omega)])
  all_goals (try rw [dif_pos (by omega)])
  all_goals (try exact congrArg (fun q => w (ix2 r q)) (Fin.ext (by dsimp only; omega)))
theorem wp2 (k : Fin 512) : wp w (ix2 r ⟨2048 + k, by omega⟩) = w (ix2 r ⟨2472 + k, by omega⟩) := by
  pointwise [wp]
  all_goals (repeat rw [dif_neg (by omega)])
  all_goals (try rw [dif_pos (by omega)])
  all_goals (try exact congrArg (fun q => w (ix2 r q)) (Fin.ext (by dsimp only; omega)))
theorem wp3 (k : Fin 256) : wp w (ix2 r ⟨2560 + k, by omega⟩) = w (ix2 r ⟨2056 + k, by omega⟩) := by
  pointwise [wp]
  all_goals (repeat rw [dif_neg (by omega)])
  all_goals (try rw [dif_pos (by omega)])
  all_goals (try exact congrArg (fun q => w (ix2 r q)) (Fin.ext (by dsimp only; omega)))
theorem wp4 (k : Fin 128) : wp w (ix2 r ⟨2816 + k, by omega⟩) = w (ix2 r ⟨2312 + k, by omega⟩) := by
  pointwise [wp]
  all_goals (repeat rw [dif_neg (by omega)])
  all_goals (try rw [dif_pos (by omega)])
  all_goals (try exact congrArg (fun q => w (ix2 r q)) (Fin.ext (by dsimp only; omega)))
theorem wp5 (k : Fin 32) : wp w (ix2 r ⟨2944 + k, by omega⟩) = w (ix2 r ⟨2440 + k, by omega⟩) := by
  pointwise [wp]
  all_goals (repeat rw [dif_neg (by omega)])
  all_goals (try rw [dif_pos (by omega)])
  all_goals (try exact congrArg (fun q => w (ix2 r q)) (Fin.ext (by dsimp only; omega)))
theorem wp6 (k : Fin 8) : wp w (ix2 r ⟨2976 + k, by omega⟩) = w (ix2 r ⟨1536 + k, by omega⟩) := by
  pointwise [wp]
  all_goals (repeat rw [dif_neg (by omega)])
  all_goals (try rw [dif_pos (by omega)])
  all_goals (try exact congrArg (fun q => w (ix2 r q)) (Fin.ext (by dsimp only; omega)))
theorem wp7 (k : Fin 88) : wp w (ix2 r ⟨2984 + k, by omega⟩) = 0 := by
  pointwise [wp]
  all_goals (repeat rw [dif_neg (by omega)])
  all_goals (try rw [dif_pos (by omega)])
  all_goals (try exact congrArg (fun q => w (ix2 r q)) (Fin.ext (by dsimp only; omega)))
end
end Cert.Proof.In
end
-- ==== Proof.In.Host.lean ====
module

public import proofs.«01_k».proof.Proof.In.Cols
public import proofs.«01_k».proof.Proof.Gen.InIdeal.Frame

/-! What the host's lines hand the input's gradient. -/

@[expose] public section
set_option maxRecDepth 16384
noncomputable section
namespace Cert.Proof.In
open Idealize.ShloMosaic Idealize.ShloMosaic.TcCoe Idealize.SL.Sem
open Cert.InIdeal Cert.InIdeal.Gen

variable (m : (ℓ : Loc nD τ sig) → Buf (Elt Ideal) ℓ) (c : Dev nD)

/-- The arguments. -/
abbrev A0 : FVec Ideal S4096x1024 .f32 := m (c.tc.loc main_arg0)
abbrev A1 : FVec Ideal S1024 .f32 := m (c.tc.loc main_arg1)
abbrev A2 : FVec Ideal S3072 .f32 := m (c.tc.loc main_arg2)
abbrev A3 : FVec Ideal S1024x2984 .f32 := m (c.tc.loc main_arg3)
abbrev A4 : FVec Ideal S4096x2984 .f32 := m (c.tc.loc main_arg4)
abbrev A5 : FVec Ideal S4096x1024 .f32 := m (c.tc.loc main_arg5)
section
variable (W : Valuation τ sig (Elt Ideal))
theorem zpiece0 : StableHlo.after (List.take 40 (hostOps0 (F := Ideal))) W main_v28 = (extractStridedSlice S4096x1536 ![0, 0] (W main_arg4 : FVec Ideal S4096x2984 .f32) slices_S4096x2984_S4096x1536_0_0 : FVec Ideal S4096x1536 .f32) := by
  simp only [hostOps0, List.take]
  after_results
theorem zpiece1 : StableHlo.after (List.take 40 (hostOps0 (F := Ideal))) W main_v29 = (extractStridedSlice S4096x512 ![0, 1544] (W main_arg4 : FVec Ideal S4096x2984 .f32) slices_S4096x2984_S4096x512_0_1544 : FVec Ideal S4096x512 .f32) := by
  simp only [hostOps0, List.take]
  after_results
theorem zpiece2 : StableHlo.after (List.take 40 (hostOps0 (F := Ideal))) W main_v30 = (extractStridedSlice S4096x512 ![0, 2472] (W main_arg4 : FVec Ideal S4096x2984 .f32) slices_S4096x2984_S4096x512_0_2472 : FVec Ideal S4096x512 .f32) := by
  simp only [hostOps0, List.take]
  after_results
theorem zpiece3 : StableHlo.after (List.take 40 (hostOps0 (F := Ideal))) W main_v31 = (extractStridedSlice S4096x256 ![0, 2056] (W main_arg4 : FVec Ideal S4096x2984 .f32) slices_S4096x2984_S4096x256_0_2056 : FVec Ideal S4096x256 .f32) := by
  simp only [hostOps0, List.take]
  after_results
theorem zpiece4 : StableHlo.after (List.take 40 (hostOps0 (F := Ideal))) W main_v32 = (extractStridedSlice S4096x128 ![0, 2312] (W main_arg4 : FVec Ideal S4096x2984 .f32) slices_S4096x2984_S4096x128_0_2312 : FVec Ideal S4096x128 .f32) := by
  simp only [hostOps0, List.take]
  after_results
theorem zpiece5 : StableHlo.after (List.take 40 (hostOps0 (F := Ideal))) W main_v33 = (extractStridedSlice S4096x32 ![0, 2440] (W main_arg4 : FVec Ideal S4096x2984 .f32) slices_S4096x2984_S4096x32_0_2440 : FVec Ideal S4096x32 .f32) := by
  simp only [hostOps0, List.take]
  after_results
theorem zpiece6 : StableHlo.after (List.take 40 (hostOps0 (F := Ideal))) W main_v34 = (extractStridedSlice S4096x8 ![0, 1536] (W main_arg4 : FVec Ideal S4096x2984 .f32) slices_S4096x2984_S4096x8_0_1536 : FVec Ideal S4096x8 .f32) := by
  simp only [hostOps0, List.take]
  after_results
theorem zpiece7 : StableHlo.after (List.take 40 (hostOps0 (F := Ideal))) W main_v27 = (broadcastInDim S4096x88 ![] bcast_S_S4096x88 (constant S_ .f32 0x00000000#32 : FVec Ideal S_ .f32) : FVec Ideal S4096x88 .f32) := by
  simp only [hostOps0, List.take]
  after_results
theorem after_z0 : StableHlo.after (hostOps0 (F := Ideal)) W main_v37 = (extractStridedSlice S4096x512 ![0, 0] (truncf .bf16 (zp (W main_arg4)) bitsLt_bf16_f32 : FVec Ideal S4096x3072 .bf16) slices_S4096x3072_S4096x512_0_0 : FVec Ideal S4096x512 .bf16) := by
  have e := And.intro (zpiece0 W) (And.intro (zpiece1 W) (And.intro (zpiece2 W) (And.intro (zpiece3 W) (And.intro (zpiece4 W) (And.intro (zpiece5 W) (And.intro (zpiece6 W) (zpiece7 W)))))))
  rw [← List.take_append_drop 40 (hostOps0 (F := Ideal)), StableHlo.after_append]
  generalize StableHlo.after (List.take 40 (hostOps0 (F := Ideal))) W = U at e ⊢
  obtain ⟨e0, e1, e2, e3, e4, e5, e6, e7⟩ := e
  simp only [hostOps0, List.drop]
  after_results
  rw [zp, ← e0, ← e1, ← e2, ← e3, ← e4, ← e5, ← e6, ← e7]
  rfl
theorem after_z1 : StableHlo.after (hostOps0 (F := Ideal)) W main_v38 = (extractStridedSlice S4096x512 ![0, 512] (truncf .bf16 (zp (W main_arg4)) bitsLt_bf16_f32 : FVec Ideal S4096x3072 .bf16) slices_S4096x3072_S4096x512_0_512 : FVec Ideal S4096x512 .bf16) := by
  have e := And.intro (zpiece0 W) (And.intro (zpiece1 W) (And.intro (zpiece2 W) (And.intro (zpiece3 W) (And.intro (zpiece4 W) (And.intro (zpiece5 W) (And.intro (zpiece6 W) (zpiece7 W)))))))
  rw [← List.take_append_drop 40 (hostOps0 (F := Ideal)), StableHlo.after_append]
  generalize StableHlo.after (List.take 40 (hostOps0 (F := Ideal))) W = U at e ⊢
  obtain ⟨e0, e1, e2, e3, e4, e5, e6, e7⟩ := e
  simp only [hostOps0, List.drop]
  after_results
  rw [zp, ← e0, ← e1, ← e2, ← e3, ← e4, ← e5, ← e6, ← e7]
  rfl
theorem after_z2 : StableHlo.after (hostOps0 (F := Ideal)) W main_v39 = (extractStridedSlice S4096x512 ![0, 1024] (truncf .bf16 (zp (W main_arg4)) bitsLt_bf16_f32 : FVec Ideal S4096x3072 .bf16) slices_S4096x3072_S4096x512_0_1024 : FVec Ideal S4096x512 .bf16) := by
  have e := And.intro (zpiece0 W) (And.intro (zpiece1 W) (And.intro (zpiece2 W) (And.intro (zpiece3 W) (And.intro (zpiece4 W) (And.intro (zpiece5 W) (And.intro (zpiece6 W) (zpiece7 W)))))))
  rw [← List.take_append_drop 40 (hostOps0 (F := Ideal)), StableHlo.after_append]
  generalize StableHlo.after (List.take 40 (hostOps0 (F := Ideal))) W = U at e ⊢
  obtain ⟨e0, e1, e2, e3, e4, e5, e6, e7⟩ := e
  simp only [hostOps0, List.drop]
  after_results
  rw [zp, ← e0, ← e1, ← e2, ← e3, ← e4, ← e5, ← e6, ← e7]
  rfl
theorem after_z3 : StableHlo.after (hostOps0 (F := Ideal)) W main_v40 = (extractStridedSlice S4096x512 ![0, 1536] (truncf .bf16 (zp (W main_arg4)) bitsLt_bf16_f32 : FVec Ideal S4096x3072 .bf16) slices_S4096x3072_S4096x512_0_1536 : FVec Ideal S4096x512 .bf16) := by
  have e := And.intro (zpiece0 W) (And.intro (zpiece1 W) (And.intro (zpiece2 W) (And.intro (zpiece3 W) (And.intro (zpiece4 W) (And.intro (zpiece5 W) (And.intro (zpiece6 W) (zpiece7 W)))))))
  rw [← List.take_append_drop 40 (hostOps0 (F := Ideal)), StableHlo.after_append]
  generalize StableHlo.after (List.take 40 (hostOps0 (F := Ideal))) W = U at e ⊢
  obtain ⟨e0, e1, e2, e3, e4, e5, e6, e7⟩ := e
  simp only [hostOps0, List.drop]
  after_results
  rw [zp, ← e0, ← e1, ← e2, ← e3, ← e4, ← e5, ← e6, ← e7]
  rfl
theorem after_z4 : StableHlo.after (hostOps0 (F := Ideal)) W main_v41 = (extractStridedSlice S4096x512 ![0, 2048] (truncf .bf16 (zp (W main_arg4)) bitsLt_bf16_f32 : FVec Ideal S4096x3072 .bf16) slices_S4096x3072_S4096x512_0_2048 : FVec Ideal S4096x512 .bf16) := by
  have e := And.intro (zpiece0 W) (And.intro (zpiece1 W) (And.intro (zpiece2 W) (And.intro (zpiece3 W) (And.intro (zpiece4 W) (And.intro (zpiece5 W) (And.intro (zpiece6 W) (zpiece7 W)))))))
  rw [← List.take_append_drop 40 (hostOps0 (F := Ideal)), StableHlo.after_append]
  generalize StableHlo.after (List.take 40 (hostOps0 (F := Ideal))) W = U at e ⊢
  obtain ⟨e0, e1, e2, e3, e4, e5, e6, e7⟩ := e
  simp only [hostOps0, List.drop]
  after_results
  rw [zp, ← e0, ← e1, ← e2, ← e3, ← e4, ← e5, ← e6, ← e7]
  rfl
theorem after_z5 : StableHlo.after (hostOps0 (F := Ideal)) W main_v42 = (extractStridedSlice S4096x512 ![0, 2560] (truncf .bf16 (zp (W main_arg4)) bitsLt_bf16_f32 : FVec Ideal S4096x3072 .bf16) slices_S4096x3072_S4096x512_0_2560 : FVec Ideal S4096x512 .bf16) := by
  have e := And.intro (zpiece0 W) (And.intro (zpiece1 W) (And.intro (zpiece2 W) (And.intro (zpiece3 W) (And.intro (zpiece4 W) (And.intro (zpiece5 W) (And.intro (zpiece6 W) (zpiece7 W)))))))
  rw [← List.take_append_drop 40 (hostOps0 (F := Ideal)), StableHlo.after_append]
  generalize StableHlo.after (List.take 40 (hostOps0 (F := Ideal))) W = U at e ⊢
  obtain ⟨e0, e1, e2, e3, e4, e5, e6, e7⟩ := e
  simp only [hostOps0, List.drop]
  after_results
  rw [zp, ← e0, ← e1, ← e2, ← e3, ← e4, ← e5, ← e6, ← e7]
  rfl
theorem wpiece0 : StableHlo.after (List.take 57 (hostOps0 (F := Ideal))) W main_v44 = (extractStridedSlice S1024x1536 ![0, 0] (W main_arg3 : FVec Ideal S1024x2984 .f32) slices_S1024x2984_S1024x1536_0_0 : FVec Ideal S1024x1536 .f32) := by
  simp only [hostOps0, List.take]
  after_results
theorem wpiece1 : StableHlo.after (List.take 57 (hostOps0 (F := Ideal))) W main_v45 = (extractStridedSlice S1024x512 ![0, 1544] (W main_arg3 : FVec Ideal S1024x2984 .f32) slices_S1024x2984_S1024x512_0_1544 : FVec Ideal S1024x512 .f32) := by
  simp only [hostOps0, List.take]
  after_results
theorem wpiece2 : StableHlo.after (List.take 57 (hostOps0 (F := Ideal))) W main_v46 = (extractStridedSlice S1024x512 ![0, 2472] (W main_arg3 : FVec Ideal S1024x2984 .f32) slices_S1024x2984_S1024x512_0_2472 : FVec Ideal S1024x512 .f32) := by
  simp only [hostOps0, List.take]
  after_results
theorem wpiece3 : StableHlo.after (List.take 57 (hostOps0 (F := Ideal))) W main_v47 = (extractStridedSlice S1024x256 ![0, 2056] (W main_arg3 : FVec Ideal S1024x2984 .f32) slices_S1024x2984_S1024x256_0_2056 : FVec Ideal S1024x256 .f32) := by
  simp only [hostOps0, List.take]
  after_results
theorem wpiece4 : StableHlo.after (List.take 57 (hostOps0 (F := Ideal))) W main_v48 = (extractStridedSlice S1024x128 ![0, 2312] (W main_arg3 : FVec Ideal S1024x2984 .f32) slices_S1024x2984_S1024x128_0_2312 : FVec Ideal S1024x128 .f32) := by
  simp only [hostOps0, List.take]
  after_results
theorem wpiece5 : StableHlo.after (List.take 57 (hostOps0 (F := Ideal))) W main_v49 = (extractStridedSlice S1024x32 ![0, 2440] (W main_arg3 : FVec Ideal S1024x2984 .f32) slices_S1024x2984_S1024x32_0_2440 : FVec Ideal S1024x32 .f32) := by
  simp only [hostOps0, List.take]
  after_results
theorem wpiece6 : StableHlo.after (List.take 57 (hostOps0 (F := Ideal))) W main_v50 = (extractStridedSlice S1024x8 ![0, 1536] (W main_arg3 : FVec Ideal S1024x2984 .f32) slices_S1024x2984_S1024x8_0_1536 : FVec Ideal S1024x8 .f32) := by
  simp only [hostOps0, List.take]
  after_results
theorem wpiece7 : StableHlo.after (List.take 57 (hostOps0 (F := Ideal))) W main_v43 = (broadcastInDim S1024x88 ![] bcast_S_S1024x88 (constant S_ .f32 0x00000000#32 : FVec Ideal S_ .f32) : FVec Ideal S1024x88 .f32) := by
  simp only [hostOps0, List.take]
  after_results
theorem after_w : StableHlo.after (hostOps0 (F := Ideal)) W main_v52 = (truncf .bf16 (wp (W main_arg3)) bitsLt_bf16_f32 : FVec Ideal S1024x3072 .bf16) := by
  have e := And.intro (wpiece0 W) (And.intro (wpiece1 W) (And.intro (wpiece2 W) (And.intro (wpiece3 W) (And.intro (wpiece4 W) (And.intro (wpiece5 W) (And.intro (wpiece6 W) (wpiece7 W)))))))
  rw [← List.take_append_drop 57 (hostOps0 (F := Ideal)), StableHlo.after_append]
  generalize StableHlo.after (List.take 57 (hostOps0 (F := Ideal))) W = U at e ⊢
  obtain ⟨e0, e1, e2, e3, e4, e5, e6, e7⟩ := e
  simp only [hostOps0, List.drop]
  after_results
  rw [wp, ← e0, ← e1, ← e2, ← e3, ← e4, ← e5, ← e6, ← e7]
  rfl
end
theorem entry_at (b : Ref sig .tc) : V m c b = StableHlo.after (hostOps0 (F := Ideal)) (fun b => m (c, b)) b := by
  show StableHlo.after (List.flatten [hostOps0]) _ _ = _
  simp only [List.flatten_cons, List.flatten_nil, List.append_nil]
theorem entry_z0 : V m c main_v37 = (extractStridedSlice S4096x512 ![0, 0] (truncf .bf16 (zp (A4 m c)) bitsLt_bf16_f32 : FVec Ideal S4096x3072 .bf16) slices_S4096x3072_S4096x512_0_0 : FVec Ideal S4096x512 .bf16) :=
  (entry_at m c main_v37).trans (after_z0 _)
theorem entry_z1 : V m c main_v38 = (extractStridedSlice S4096x512 ![0, 512] (truncf .bf16 (zp (A4 m c)) bitsLt_bf16_f32 : FVec Ideal S4096x3072 .bf16) slices_S4096x3072_S4096x512_0_512 : FVec Ideal S4096x512 .bf16) :=
  (entry_at m c main_v38).trans (after_z1 _)
theorem entry_z2 : V m c main_v39 = (extractStridedSlice S4096x512 ![0, 1024] (truncf .bf16 (zp (A4 m c)) bitsLt_bf16_f32 : FVec Ideal S4096x3072 .bf16) slices_S4096x3072_S4096x512_0_1024 : FVec Ideal S4096x512 .bf16) :=
  (entry_at m c main_v39).trans (after_z2 _)
theorem entry_z3 : V m c main_v40 = (extractStridedSlice S4096x512 ![0, 1536] (truncf .bf16 (zp (A4 m c)) bitsLt_bf16_f32 : FVec Ideal S4096x3072 .bf16) slices_S4096x3072_S4096x512_0_1536 : FVec Ideal S4096x512 .bf16) :=
  (entry_at m c main_v40).trans (after_z3 _)
theorem entry_z4 : V m c main_v41 = (extractStridedSlice S4096x512 ![0, 2048] (truncf .bf16 (zp (A4 m c)) bitsLt_bf16_f32 : FVec Ideal S4096x3072 .bf16) slices_S4096x3072_S4096x512_0_2048 : FVec Ideal S4096x512 .bf16) :=
  (entry_at m c main_v41).trans (after_z4 _)
theorem entry_z5 : V m c main_v42 = (extractStridedSlice S4096x512 ![0, 2560] (truncf .bf16 (zp (A4 m c)) bitsLt_bf16_f32 : FVec Ideal S4096x3072 .bf16) slices_S4096x3072_S4096x512_0_2560 : FVec Ideal S4096x512 .bf16) :=
  (entry_at m c main_v42).trans (after_z5 _)
theorem entry_w : V m c main_v52 = (truncf .bf16 (wp (A3 m c)) bitsLt_bf16_f32 : FVec Ideal S1024x3072 .bf16) :=
  (entry_at m c main_v52).trans (after_w _)
theorem entry_x : V m c main_arg0 = A0 m c := by
  entry_read
  rfl
theorem entry_g : V m c main_v53 = (broadcastInDim S1x1024 ![1] bcast_S1024_S1x1024_1 (A1 m c) : FVec Ideal S1x1024 .f32) := by
  entry_read
  rfl
theorem entry_s : V m c main_v0 = (shapeCast S3x1024 (A2 m c) shapeCasts_S3072_S3x1024 : FVec Ideal S3x1024 .f32) := by
  entry_read
  rfl
theorem entry_d : V m c main_arg5 = A5 m c := by
  entry_read
  rfl

end Cert.Proof.In
end
-- ==== Proof.In.Arrays.lean ====
module

public import proofs.«01_k».proof.Proof.In.Step
public import proofs.«01_k».proof.Proof.In.Block
public import proofs.«01_k».proof.Proof.In.Host
public import proofs.«01_k».proof.Proof.Fox.Operands

/-! The blocks of the input's gradient, read off the arguments, and its rows. -/

@[expose] public section
set_option maxRecDepth 16384
noncomputable section
namespace Cert.Proof.In
open Idealize.ShloMosaic Idealize.ShloMosaic.TcCoe Idealize.SL.Sem
open Cert.InIdeal Cert.InIdeal.Gen
open Cert.Proof.Fox (ofNat_val)

variable (m : (ℓ : Loc nD τ sig) → Buf (Elt Ideal) ℓ) (c : Dev nD)

theorem points : cfg0.N = 8 := N_0
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![0, 0] ∧ win0_8.index t = ![t.val, 0] ∧ win0_9.index t = ![0, 0]
    ∧ win0_10.index t = ![0, 0] ∧ win0_11.index t = ![t.val, 0] ∧ win0_12.index t = ![t.val, 0] :=
  (by decide +kernel : ∀ t : Fin grid0.N, _)

/-- A row of a block, as a row of the whole. -/
def row (t : Fin cfg0.N) (i : Fin 512) : Fin 4096 := ⟨512 * t.val + i.val, by have := t.isLt; have := points; omega⟩

theorem slice0 (z : FVec Ideal S4096x3072 .bf16) (r : Fin 4096) (k : Fin 512) : (extractStridedSlice S4096x512 ![0, 0] z slices_S4096x3072_S4096x512_0_0 : FVec Ideal S4096x512 .bf16) (ix2 r k) = z (ix2 r ⟨k.val, by omega⟩) := by
  pointwise
theorem z0_at (t : Fin cfg0.N) (i k : Fin 512) : (iblk m c 0 t : FVec Ideal S512x512 .bf16) (ix2 i k) = zp (A4 m c) (ix2 (row t i) ⟨k.val, by omega⟩) := by
  have h : (iblk m c 0 t : FVec Ideal S512x512 .bf16) (ix2 i k) = (V m c main_v37 : FVec Ideal S4096x512 .bf16) (ix2 (row t i) k) := by
    blk_ext! [iblk, idx t, row]
  rw [h, entry_z0, slice0]
  rfl
theorem slice1 (z : FVec Ideal S4096x3072 .bf16) (r : Fin 4096) (k : Fin 512) : (extractStridedSlice S4096x512 ![0, 512] z slices_S4096x3072_S4096x512_0_512 : FVec Ideal S4096x512 .bf16) (ix2 r k) = z (ix2 r ⟨512 + k.val, by omega⟩) := by
  pointwise
theorem z1_at (t : Fin cfg0.N) (i k : Fin 512) : (iblk m c 1 t : FVec Ideal S512x512 .bf16) (ix2 i k) = zp (A4 m c) (ix2 (row t i) ⟨512 + k.val, by omega⟩) := by
  have h : (iblk m c 1 t : FVec Ideal S512x512 .bf16) (ix2 i k) = (V m c main_v38 : FVec Ideal S4096x512 .bf16) (ix2 (row t i) k) := by
    blk_ext! [iblk, idx t, row]
  rw [h, entry_z1, slice1]
  rfl
theorem slice2 (z : FVec Ideal S4096x3072 .bf16) (r : Fin 4096) (k : Fin 512) : (extractStridedSlice S4096x512 ![0, 1024] z slices_S4096x3072_S4096x512_0_1024 : FVec Ideal S4096x512 .bf16) (ix2 r k) = z (ix2 r ⟨1024 + k.val, by omega⟩) := by
  pointwise
theorem z2_at (t : Fin cfg0.N) (i k : Fin 512) : (iblk m c 2 t : FVec Ideal S512x512 .bf16) (ix2 i k) = zp (A4 m c) (ix2 (row t i) ⟨1024 + k.val, by omega⟩) := by
  have h : (iblk m c 2 t : FVec Ideal S512x512 .bf16) (ix2 i k) = (V m c main_v39 : FVec Ideal S4096x512 .bf16) (ix2 (row t i) k) := by
    blk_ext! [iblk, idx t, row]
  rw [h, entry_z2, slice2]
  rfl
theorem slice3 (z : FVec Ideal S4096x3072 .bf16) (r : Fin 4096) (k : Fin 512) : (extractStridedSlice S4096x512 ![0, 1536] z slices_S4096x3072_S4096x512_0_1536 : FVec Ideal S4096x512 .bf16) (ix2 r k) = z (ix2 r ⟨1536 + k.val, by omega⟩) := by
  pointwise
theorem z3_at (t : Fin cfg0.N) (i k : Fin 512) : (iblk m c 3 t : FVec Ideal S512x512 .bf16) (ix2 i k) = zp (A4 m c) (ix2 (row t i) ⟨1536 + k.val, by omega⟩) := by
  have h : (iblk m c 3 t : FVec Ideal S512x512 .bf16) (ix2 i k) = (V m c main_v40 : FVec Ideal S4096x512 .bf16) (ix2 (row t i) k) := by
    blk_ext! [iblk, idx t, row]
  rw [h, entry_z3, slice3]
  rfl
theorem slice4 (z : FVec Ideal S4096x3072 .bf16) (r : Fin 4096) (k : Fin 512) : (extractStridedSlice S4096x512 ![0, 2048] z slices_S4096x3072_S4096x512_0_2048 : FVec Ideal S4096x512 .bf16) (ix2 r k) = z (ix2 r ⟨2048 + k.val, by omega⟩) := by
  pointwise
theorem z4_at (t : Fin cfg0.N) (i k : Fin 512) : (iblk m c 4 t : FVec Ideal S512x512 .bf16) (ix2 i k) = zp (A4 m c) (ix2 (row t i) ⟨2048 + k.val, by omega⟩) := by
  have h : (iblk m c 4 t : FVec Ideal S512x512 .bf16) (ix2 i k) = (V m c main_v41 : FVec Ideal S4096x512 .bf16) (ix2 (row t i) k) := by
    blk_ext! [iblk, idx t, row]
  rw [h, entry_z4, slice4]
  rfl
theorem slice5 (z : FVec Ideal S4096x3072 .bf16) (r : Fin 4096) (k : Fin 512) : (extractStridedSlice S4096x512 ![0, 2560] z slices_S4096x3072_S4096x512_0_2560 : FVec Ideal S4096x512 .bf16) (ix2 r k) = z (ix2 r ⟨2560 + k.val, by omega⟩) := by
  pointwise
theorem z5_at (t : Fin cfg0.N) (i k : Fin 512) : (iblk m c 5 t : FVec Ideal S512x512 .bf16) (ix2 i k) = zp (A4 m c) (ix2 (row t i) ⟨2560 + k.val, by omega⟩) := by
  have h : (iblk m c 5 t : FVec Ideal S512x512 .bf16) (ix2 i k) = (V m c main_v42 : FVec Ideal S4096x512 .bf16) (ix2 (row t i) k) := by
    blk_ext! [iblk, idx t, row]
  rw [h, entry_z5, slice5]
  rfl
theorem blk_6 (t : Fin cfg0.N) : (iblk m c 6 t : FVec Ideal S1024x3072 .bf16) = (wp (A3 m c) : S1024x3072.Idx → EReal) := by
  have h : (iblk m c 6 t : FVec Ideal S1024x3072 .bf16) = V m c main_v52 := by
    blk_ext! [iblk, idx t]
  rw [h, entry_w]
  rfl
theorem x_at (t : Fin cfg0.N) (i : Fin 512) (j : Fin 1024) : (iblk m c 8 t : FVec Ideal S512x1024 .f32) (ix2 i j) = A0 m c (ix2 (row t i) j) := by
  have h : (iblk m c 8 t : FVec Ideal S512x1024 .f32) (ix2 i j) = (V m c main_arg0 : FVec Ideal S4096x1024 .f32) (ix2 (row t i) j) := by
    blk_ext! [iblk, idx t, row]
  rw [h, entry_x]
theorem d_at (t : Fin cfg0.N) (i : Fin 512) (j : Fin 1024) : (iblk m c 11 t : FVec Ideal S512x1024 .f32) (ix2 i j) = A5 m c (ix2 (row t i) j) := by
  have h : (iblk m c 11 t : FVec Ideal S512x1024 .f32) (ix2 i j) = (V m c main_arg5 : FVec Ideal S4096x1024 .f32) (ix2 (row t i) j) := by
    blk_ext! [iblk, idx t, row]
  rw [h, entry_d]
theorem cast_row (v : FVec Ideal S1024 .f32) (k : Fin 1024) : (broadcastInDim S1x1024 ![1] bcast_S1024_S1x1024_1 v : FVec Ideal S1x1024 .f32) (ix2 0 k) = v (ix1 k) := by
  pointwise
theorem g_at (t : Fin cfg0.N) (k : Fin 1024) : (iblk m c 9 t : FVec Ideal S1x1024 .f32) (ix2 0 k) = A1 m c (ix1 k) := by
  have h : (iblk m c 9 t : FVec Ideal S1x1024 .f32) = V m c main_v53 := by
    blk_ext! [iblk, idx t]
  rw [h, entry_g]
  exact cast_row _ k
theorem cast_mod (v : FVec Ideal S3072 .f32) (k : Fin 1024) : (shapeCast S3x1024 v shapeCasts_S3072_S3x1024 : FVec Ideal S3x1024 .f32) (ix2 1 k) = v (ix1 ⟨1024 + k.val, by omega⟩) := by
  pointwise
theorem s_at (t : Fin cfg0.N) (k : Fin 1024) : scale (iblk m c 10 t) (ix2 0 k) = A2 m c (ix1 ⟨1024 + k.val, by omega⟩) := by
  have h : (iblk m c 10 t : FVec Ideal S3x1024 .f32) = V m c main_v0 := by
    blk_ext! [iblk, idx t]
  rw [scale_at, h, entry_s]
  exact cast_mod _ k

/-- An array of rows with its index taken apart. -/
def ofRows (f : FVec Ideal S4096x1024 .f32) (p : S4096x1024.Idx) : EReal := f (ix2 (Fin.ofNat 4096 (p 0).val) (Fin.ofNat 1024 (p 1).val))
theorem row_ofNat (t : Fin cfg0.N) (i : Fin 512) : Fin.ofNat 4096 (t.val * 512 + i.val) = row t i := by
  have := t.isLt
  have := points
  exact Fin.ext (by show (t.val * 512 + i.val) % 4096 = 512 * t.val + i.val; omega)
theorem arr_12 (f : FVec Ideal S4096x1024 .f32) (h : ∀ (t : Fin cfg0.N) (i : Fin 512) (j : Fin 1024), rows m c t (ix2 i j) = f (ix2 (row t i) j)) :
    ((dats m 0 c).arrAt 12 (cfgs 0).N : FVec Ideal S4096x1024 .f32) = f := by
  refine Eq.trans (b := (ofRows f : S4096x1024.Idx → EReal)) ?_ (funext fun p => ?_)
  · refine Pipeline.Dat.arrAt_eq_of_covers (dat := dats m 0 c) 12 (ofRows f) (hcov := by decide +kernel) ?_
    intro t _ y
    have k := h t
    rw [after0_12, rows_eq m c t]
    generalize rows m c t = u at k ⊢
    idx_vars y
    blk_simp [ofRows, idx t]
    rw [k, row_ofNat, ofNat_val]
  · idx_vars p
    show f (ix2 (Fin.ofNat 4096 p0.val) (Fin.ofNat 1024 p1.val)) = _
    rw [ofNat_val, ofNat_val]
end Cert.Proof.In
end
-- ==== Proof.In.Claim.lean ====
module

public import proofs.«01_k».proof.Proof.In.Arrays
public import proofs.«01_k».proof.Proof.In.Ref
public import proofs.«01_k».proof.Proof.Fox.Claim
public import proofs.«01_k».proof.Proof.Gen.InRefIdeal.Run

/-! The input's gradient: the kernel's rows are the reference's. -/

@[expose] public section
set_option maxRecDepth 16384
noncomputable section
namespace Cert.Proof.In
open Idealize.ShloMosaic Idealize.ShloMosaic.TcCoe Idealize.SL.Sem
open Cert.Proof.Fox (real_of_word Finite ofNat_val IsR)

/-- The precondition's side conditions. -/
theorem preFacts : Cert.Pre_finite_in.Facts := ⟨by decide, by decide, by decide, by decide, by decide⟩

section kernel
open Cert.InIdeal Cert.InIdeal.Gen

/-- The padded columns' product, -/
def padded (z : FVec Ideal S4096x3072 .f32) (w : FVec Ideal S1024x3072 .f32) (r : Fin 4096) (a : Fin 1024) (j : ℕ) : EReal :=
  z (ix2 r (Fin.ofNat 3072 j)) * w (ix2 a (Fin.ofNat 3072 j))
/-- and the plain ones'. -/
def plain (z : FVec Ideal S4096x2984 .f32) (w : FVec Ideal S1024x2984 .f32) (r : Fin 4096) (a : Fin 1024) (j : ℕ) : EReal :=
  z (ix2 r (Fin.ofNat 2984 j)) * w (ix2 a (Fin.ofNat 2984 j))
theorem col {n : ℕ} [NeZero n] {j : ℕ} (h : j < n) : Fin.ofNat n j = ⟨j, h⟩ := Fin.ext (Nat.mod_eq_of_lt h)
theorem perm (z : FVec Ideal S4096x2984 .f32) (w : FVec Ideal S1024x2984 .f32) (r : Fin 4096) (a : Fin 1024) : Perm (padded (zp z) (wp w) r a) (plain z w r a) where
  c0 := fun k hk => by
    unfold padded plain
    rw [col (show k < 3072 by omega), col (show k < 2984 by omega)]
    exact congrArg₂ (· * ·) (zp0 z r ⟨k, hk⟩) (wp0 w a ⟨k, hk⟩)
  c1 := fun k hk => by
    unfold padded plain
    rw [col (show 1536 + k < 3072 by omega), col (show 1544 + k < 2984 by omega)]
    exact congrArg₂ (· * ·) (zp1 z r ⟨k, hk⟩) (wp1 w a ⟨k, hk⟩)
  c2 := fun k hk => by
    unfold padded plain
    rw [col (show 2048 + k < 3072 by omega), col (show 2472 + k < 2984 by omega)]
    exact congrArg₂ (· * ·) (zp2 z r ⟨k, hk⟩) (wp2 w a ⟨k, hk⟩)
  c3 := fun k hk => by
    unfold padded plain
    rw [col (show 2560 + k < 3072 by omega), col (show 2056 + k < 2984 by omega)]
    exact congrArg₂ (· * ·) (zp3 z r ⟨k, hk⟩) (wp3 w a ⟨k, hk⟩)
  c4 := fun k hk => by
    unfold padded plain
    rw [col (show 2816 + k < 3072 by omega), col (show 2312 + k < 2984 by omega)]
    exact congrArg₂ (· * ·) (zp4 z r ⟨k, hk⟩) (wp4 w a ⟨k, hk⟩)
  c5 := fun k hk => by
    unfold padded plain
    rw [col (show 2944 + k < 3072 by omega), col (show 2440 + k < 2984 by omega)]
    exact congrArg₂ (· * ·) (zp5 z r ⟨k, hk⟩) (wp5 w a ⟨k, hk⟩)
  c6 := fun k hk => by
    unfold padded plain
    rw [col (show 2976 + k < 3072 by omega), col (show 1536 + k < 2984 by omega)]
    exact congrArg₂ (· * ·) (zp6 z r ⟨k, hk⟩) (wp6 w a ⟨k, hk⟩)
  c7 := fun k hk => by
    unfold padded
    rw [col (show 2984 + k < 3072 by omega)]
    exact (congrArg₂ (· * ·) (zp7 z r ⟨k, hk⟩) (wp7 w a ⟨k, hk⟩)).trans (zero_mul _)
/-- So the six products are the reference's one. -/
theorem six_products (z : FVec Ideal S4096x2984 .f32) (w : FVec Ideal S1024x2984 .f32) (r : Fin 4096) (a : Fin 1024) :
    (∑ k : Fin 512, zp z (ix2 r ⟨k.val, by omega⟩) * wp w (ix2 a ⟨k.val, by omega⟩))
    + (∑ k : Fin 512, zp z (ix2 r ⟨512 + k.val, by omega⟩) * wp w (ix2 a ⟨512 + k.val, by omega⟩))
    + (∑ k : Fin 512, zp z (ix2 r ⟨1024 + k.val, by omega⟩) * wp w (ix2 a ⟨1024 + k.val, by omega⟩))
    + (∑ k : Fin 512, zp z (ix2 r ⟨1536 + k.val, by omega⟩) * wp w (ix2 a ⟨1536 + k.val, by omega⟩))
    + (∑ k : Fin 512, zp z (ix2 r ⟨2048 + k.val, by omega⟩) * wp w (ix2 a ⟨2048 + k.val, by omega⟩))
    + (∑ k : Fin 512, zp z (ix2 r ⟨2560 + k.val, by omega⟩) * wp w (ix2 a ⟨2560 + k.val, by omega⟩))
    = Cert.InRefIdeal.Read.val_main_v28 (F := Ideal) w z (ix2 r a) := by
  rw [v28_at]
  have h := (six (padded (zp z) (wp w) r a)).symm.trans ((perm z w r a).total.trans (Finset.sum_range (plain z w r a)))
  refine Eq.trans ?_ (h.trans ?_)
  · unfold padded
    simp only [fun k : Fin 512 => col (show k.val < 3072 by omega), fun k : Fin 512 => col (show 512 + k.val < 3072 by omega), fun k : Fin 512 => col (show 1024 + k.val < 3072 by omega), fun k : Fin 512 => col (show 1536 + k.val < 3072 by omega), fun k : Fin 512 => col (show 2048 + k.val < 3072 by omega), fun k : Fin 512 => col (show 2560 + k.val < 3072 by omega)]
  · exact Finset.sum_congr rfl fun k _ => by unfold plain; rw [col k.isLt]

variable (m : (ℓ : Loc nD τ sig) → Buf (Elt Ideal) ℓ) (c : Dev nD)

/-- The arguments are real. -/
structure Args : Prop where
  a0 : Finite (s := S4096x1024) (φ := .f32) (m (c.tc.loc main_arg0))
  a1 : Finite (s := S1024) (φ := .f32) (m (c.tc.loc main_arg1))
  a2 : Finite (s := S3072) (φ := .f32) (m (c.tc.loc main_arg2))
  a3 : Finite (s := S1024x2984) (φ := .f32) (m (c.tc.loc main_arg3))
  a4 : Finite (s := S4096x2984) (φ := .f32) (m (c.tc.loc main_arg4))
  a5 : Finite (s := S4096x1024) (φ := .f32) (m (c.tc.loc main_arg5))

theorem args_of_pre (h : Cert.Pre_InIdeal_finite_in (hPre_finite_in := preFacts) m) : Args m c := by
  obtain ⟨h0, h1, h2, h3, h4, h5⟩ := h c
  exact ⟨fun i => real_of_word (congrFun h0 i), fun i => real_of_word (congrFun h1 i), fun i => real_of_word (congrFun h2 i), fun i => real_of_word (congrFun h3 i),
    fun i => real_of_word (congrFun h4 i), fun i => real_of_word (congrFun h5 i)⟩

/-- The product that reaches the norm. -/
theorem dz_at (t : Fin cfg0.N) (i : Fin 512) (a : Fin 1024) : dz m c t (ix2 i a) = Cert.InRefIdeal.Read.val_main_v28 (F := Ideal) (A3 m c) (A4 m c) (ix2 (row t i) a) := by
  rw [dz, pay14_at, pay11_at, pay7_at, ← six_products]
  have hw := blk_6 m c t
  generalize (iblk m c 6 t : FVec Ideal S1024x3072 .bf16) = w at hw ⊢
  subst hw
  have p0 : prod (iblk m c 0 t) (w0 (wp (A3 m c))) i a = ∑ k : Fin 512, zp (A4 m c) (ix2 (row t i) ⟨k.val, by omega⟩) * wp (A3 m c) (ix2 a ⟨k.val, by omega⟩) := by
    unfold prod
    exact Finset.sum_congr rfl fun k _ => by rw [z0_at, w0_at]
  have p1 : prod (iblk m c 1 t) (w1 (wp (A3 m c))) i a = ∑ k : Fin 512, zp (A4 m c) (ix2 (row t i) ⟨512 + k.val, by omega⟩) * wp (A3 m c) (ix2 a ⟨512 + k.val, by omega⟩) := by
    unfold prod
    exact Finset.sum_congr rfl fun k _ => by rw [z1_at, w1_at]
  have p2 : prod (iblk m c 2 t) (w2 (wp (A3 m c))) i a = ∑ k : Fin 512, zp (A4 m c) (ix2 (row t i) ⟨1024 + k.val, by omega⟩) * wp (A3 m c) (ix2 a ⟨1024 + k.val, by omega⟩) := by
    unfold prod
    exact Finset.sum_congr rfl fun k _ => by rw [z2_at, w2_at]
  have p3 : prod (iblk m c 3 t) (w3 (wp (A3 m c))) i a = ∑ k : Fin 512, zp (A4 m c) (ix2 (row t i) ⟨1536 + k.val, by omega⟩) * wp (A3 m c) (ix2 a ⟨1536 + k.val, by omega⟩) := by
    unfold prod
    exact Finset.sum_congr rfl fun k _ => by rw [z3_at, w3_at]
  have p4 : prod (iblk m c 4 t) (w4 (wp (A3 m c))) i a = ∑ k : Fin 512, zp (A4 m c) (ix2 (row t i) ⟨2048 + k.val, by omega⟩) * wp (A3 m c) (ix2 a ⟨2048 + k.val, by omega⟩) := by
    unfold prod
    exact Finset.sum_congr rfl fun k _ => by rw [z4_at, w4_at]
  have p5 : prod (iblk m c 5 t) (w5 (wp (A3 m c))) i a = ∑ k : Fin 512, zp (A4 m c) (ix2 (row t i) ⟨2560 + k.val, by omega⟩) * wp (A3 m c) (ix2 a ⟨2560 + k.val, by omega⟩) := by
    unfold prod
    exact Finset.sum_congr rfl fun k _ => by rw [z5_at, w5_at]
  rw [p0, p1, p2, p3, p4, p5]

variable {m c} (A : Args m c)
include A
theorem v28_real (r : Fin 4096) (a : Fin 1024) : IsR (Cert.InRefIdeal.Read.val_main_v28 (F := Ideal) (A3 m c) (A4 m c) (ix2 r a)) := by
  rw [v28_at]
  exact IsR.sum _ fun k => IsR.mul (A.a4 _) (A.a3 _)
/-- The rows that a block leaves are the reference's. -/
theorem rows_at (t : Fin cfg0.N) (i : Fin 512) (j : Fin 1024) : rows m c t (ix2 i j)
    = Cert.InRefIdeal.Read.val_main_v47 (F := Ideal) (A0 m c) (A1 m c) (A2 m c) (A3 m c) (A4 m c) (A5 m c) (ix2 (row t i) j) := by
  choose X hX using fun (r : Fin 4096) (k : Fin 1024) => A.a0 (ix2 r k)
  choose G hG using fun (k : Fin 1024) => A.a1 (ix1 k)
  choose M hM using fun (k : Fin 1024) => A.a2 (ix1 ⟨1024 + k.val, by omega⟩)
  choose P hP using fun (r : Fin 4096) (k : Fin 1024) => v28_real A r k
  choose R hR using fun (r : Fin 4096) (k : Fin 1024) => A.a5 (ix2 r k)
  have I : RefReal (A0 m c) (A1 m c) (A2 m c) (A3 m c) (A4 m c) (A5 m c) X G M P R := ⟨hX, hG, hM, hP, hR⟩
  refine Eq.trans ?_ (I.v47 (row t i) j).symm
  exact pay2_at (X := fun i => X (row t i)) (P := fun i => P (row t i)) (R := fun i => R (row t i)) (M := M) (G := G) _ _ _ _ _ (fun i k => (x_at m c t i k).trans (hX _ _))
    (fun i k => (dz_at m c t i k).trans (hP _ _)) (fun k => (s_at m c t k).trans (hM k)) (fun k => (g_at m c t k).trans (hG k)) (fun i k => (d_at m c t i k).trans (hR _ _)) i j
theorem out : ((dats m 0 c).arrAt 12 (cfgs 0).N : FVec Ideal S4096x1024 .f32)
    = Cert.InRefIdeal.Read.val_main_v47 (F := Ideal) (A0 m c) (A1 m c) (A2 m c) (A3 m c) (A4 m c) (A5 m c) := arr_12 m c _ (rows_at A)
end kernel

/-- The reference's frame: its run at the arguments; it declares no semaphore. -/
theorem frame_ref : Cert.quiescent_InRefIdeal := fun m ρ _ =>
  (θ_run _ _ _).mono (fun r h => ⟨fun c => (h c).2, Idealize.ShloMosaic.sem_eq_zero_of_no_sems (by decide) r.2⟩) (Cert.InRefIdeal.Value.run (F := Ideal) m ρ)

theorem alg : Cert.algebraic_InIdeal_InRefIdeal_pre_finite_in (hInIdeal := Cert.InIdeal.Gen.facts) (hInRefIdeal := Cert.InRefIdeal.Gen.facts) (hPre_finite_in := preFacts) := by
  intro m g m' g' hpre hagree
  have A := fun c => args_of_pre m c hpre
  refine ⟨fun c => Cert.InRefIdeal.Read.val_main_v47 (F := Ideal) (A0 m c) (A1 m c) (A2 m c) (A3 m c) (A4 m c) (A5 m c), ?_, ?_⟩
  · refine (θ_run _ _ _).mono (fun r h c => ?_) (θ_run_and (Cert.InIdeal.Gen.unchanged m g) (Cert.InIdeal.Gen.run_main m g))
    exact ⟨((h.2 c).1 12).trans (out (A c)), h.1 c⟩
  · refine (θ_run _ _ _).mono (fun r h c => ?_) (Cert.InRefIdeal.Value.run m' g')
    obtain ⟨h0, hargs⟩ := h c
    obtain ⟨a0, a1, a2, a3, a4, a5⟩ := hagree c
    refine ⟨h0.trans ?_, hargs⟩
    rw [Cert.InRefIdeal.Read.val_main_v47_eq, a0, a1, a2, a3, a4, a5]
end Cert.Proof.In
end
-- ==== Proof.lean ====
module

public import proofs.«01_k».proof.Defs
public import proofs.«01_k».proof.Proof.Gen.CumBwd
public import proofs.«01_k».proof.Proof.Gen.CumBwd.Skeleton
public import proofs.«01_k».proof.Proof.Gen.CumBwd.Launch
public import proofs.«01_k».proof.Proof.Gen.CumBwd.Points
public import proofs.«01_k».proof.Proof.Gen.CumBwd.Frame
public import proofs.«01_k».proof.Proof.Gen.CumBwdIdeal
public import proofs.«01_k».proof.Proof.Gen.CumBwdIdeal.Skeleton
public import proofs.«01_k».proof.Proof.Gen.CumBwdIdeal.Launch
public import proofs.«01_k».proof.Proof.Gen.CumBwdIdeal.Points
public import proofs.«01_k».proof.Proof.Gen.CumBwdIdeal.Frame
public import proofs.«01_k».proof.Proof.Gen.CumBwdRefIdeal
public import proofs.«01_k».proof.Proof.Gen.CumBwdRefIdeal.Run
public import proofs.«01_k».proof.Proof.Gen.CumBwdRefIdeal.Read
public import proofs.«01_k».proof.Proof.Gen.Fox
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.FoxRefIdeal.Run
public import proofs.«01_k».proof.Proof.Gen.FoxRefIdeal.Read
public import proofs.«01_k».proof.Proof.Gen.Mla
public import proofs.«01_k».proof.Proof.Gen.Mla.Skeleton
public import proofs.«01_k».proof.Proof.Gen.Mla.Loops
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Loops
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.MlaRefIdeal.Run
public import proofs.«01_k».proof.Proof.Gen.MlaRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossRefIdeal.Run
public import proofs.«01_k».proof.Proof.Gen.LossRefIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateRefIdeal.Run
public import proofs.«01_k».proof.Proof.Gen.GateRefIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.InRefIdeal.Run
public import proofs.«01_k».proof.Proof.Gen.InRefIdeal.Read
public import proofs.«01_k».proof.Proof.Cum.Claim
public import proofs.«01_k».proof.Proof.Mla.Claim
public import proofs.«01_k».proof.Proof.Fox.Claim
public import proofs.«01_k».proof.Proof.Loss.Claim
public import proofs.«01_k».proof.Proof.Gate.Claim
public import proofs.«01_k».proof.Proof.In.Claim
public import Idealize.ShloMosaic.Adequacy
public import Idealize.ShloMosaic.Init

@[expose] public section

noncomputable section

namespace Cert.Proof

open Idealize.ShloMosaic Idealize.SL.Sem Cert.CumBwd

theorem claim : Cert.Claim := ⟨Cert.CumBwd.Gen.facts, Cert.CumBwdIdeal.Gen.facts, Cert.CumBwdRefIdeal.Gen.facts,
  Cert.Fox.Gen.facts, Cert.FoxIdeal.Gen.facts, Cert.FoxRefIdeal.Gen.facts,
  Cert.Mla.Gen.facts, Cert.MlaIdeal.Gen.facts, Cert.MlaRefIdeal.Gen.facts,
  Cert.Loss.Gen.facts, Cert.LossIdeal.Gen.facts, Cert.LossRefIdeal.Gen.facts,
  Cert.Gate.Gen.facts, Cert.GateIdeal.Gen.facts, Cert.GateRefIdeal.Gen.facts,
  Cert.In.Gen.facts, Cert.InIdeal.Gen.facts, Cert.InRefIdeal.Gen.facts, Fox.preFacts, Mla.preFacts, Loss.preFacts, Gate.preFacts, In.preFacts,
  fun m ρ _ => Cert.CumBwd.Gen.frame m ρ, fun m ρ _ => Cert.CumBwdIdeal.Gen.frame m ρ, Cum.frame_ref,
  Fox.frame_kernel, Fox.frame_ideal, fun m ρ _ => Fox.frame_ideal m ρ trivial, Fox.frame_ref, fun m ρ _ => Fox.frame_ref m ρ trivial,
  Mla.frame_kernel, Mla.frame_ideal, fun m ρ _ => Mla.frame_ideal m ρ trivial, Mla.frame_ref, fun m ρ _ => Mla.frame_ref m ρ trivial,
  fun m ρ _ => Cert.Loss.Gen.frame m ρ, fun m ρ _ => Cert.LossIdeal.Gen.frame m ρ, fun m ρ _ => Cert.LossIdeal.Gen.frame m ρ, Loss.frame_ref, fun m ρ _ => Loss.frame_ref m ρ trivial,
  fun m ρ _ => Cert.Gate.Gen.frame m ρ, fun m ρ _ => Cert.GateIdeal.Gen.frame m ρ, fun m ρ _ => Cert.GateIdeal.Gen.frame m ρ, Gate.frame_ref, fun m ρ _ => Gate.frame_ref m ρ trivial,
  fun m ρ _ => Cert.In.Gen.frame m ρ, fun m ρ _ => Cert.InIdeal.Gen.frame m ρ, fun m ρ _ => Cert.InIdeal.Gen.frame m ρ, In.frame_ref, fun m ρ _ => In.frame_ref m ρ trivial,
  trivial, Cum.alg, IdealRules.named_const.statement Cert.FoxIdeal.κ "ln2" .f32 0x3F317218#32 ((Real.log 2 : ℝ) : EReal) rfl, Fox.alg,
  IdealRules.named_const.statement Cert.MlaIdeal.κ "ln2" .f32 0x3F317218#32 ((Real.log 2 : ℝ) : EReal) rfl, Mla.alg,
  trivial, Loss.alg, trivial, Gate.alg, trivial, In.alg⟩

end Cert.Proof

end
